-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_MoeUp [hPre_up_experts : Cert.Pre_up_experts.Facts] (m : (ℓ : Loc Cert.MoeUp.nD Cert.MoeUp.τ Cert.MoeUp.sig) → Buf (Elt Bits) ℓ) : Prop :=
  ∀ c : Dev Cert.MoeUp.nD,
    (Cert.Pre_up_experts.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_up_experts : Cert.Pre_up_experts.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_up_experts.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_MoeUpReferenceIdeal (m : (ℓ : Loc Cert.MoeUpReferenceIdeal.nD Cert.MoeUpReferenceIdeal.τ Cert.MoeUpReferenceIdeal.sig) → Buf (Elt Ideal) ℓ) : Prop :=
  True

def Pre_MoeUpReferenceIdeal_up_experts [hPre_up_experts : Cert.Pre_up_experts.Facts] (m : (ℓ : Loc Cert.MoeUpReferenceIdeal.nD Cert.MoeUpReferenceIdeal.τ Cert.MoeUpReferenceIdeal.sig) → Buf (Elt Ideal) ℓ) : Prop :=
  ∀ c : Dev Cert.MoeUpReferenceIdeal.nD,
    (Cert.Pre_up_experts.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4))) = (fun _ => 1#1)

def Pre_MoeDown [hPre_down_experts : Cert.Pre_down_experts.Facts] (m : (ℓ : Loc Cert.MoeDown.nD Cert.MoeDown.τ Cert.MoeDown.sig) → Buf (Elt Bits) ℓ) : Prop :=
  ∀ c : Dev Cert.MoeDown.nD,
    (Cert.Pre_down_experts.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_down_experts : Cert.Pre_down_experts.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_down_experts.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownReferenceIdeal (m : (ℓ : Loc Cert.MoeDownReferenceIdeal.nD Cert.MoeDownReferenceIdeal.τ Cert.MoeDownReferenceIdeal.sig) → Buf (Elt Ideal) ℓ) : Prop :=
  True

def Pre_MoeDownReferenceIdeal_down_experts [hPre_down_experts : Cert.Pre_down_experts.Facts] (m : (ℓ : Loc Cert.MoeDownReferenceIdeal.nD Cert.MoeDownReferenceIdeal.τ Cert.MoeDownReferenceIdeal.sig) → Buf (Elt Ideal) ℓ) : Prop :=
  ∀ c : Dev Cert.MoeDownReferenceIdeal.nD,
    (Cert.Pre_down_experts.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3))) = (fun _ => 1#1)

def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleIdeal_finite_gate_sample [hPre_finite_gate_sample : Cert.Pre_finite_gate_sample.Facts] (m : (ℓ : Loc Cert.GlaSampleIdeal.nD Cert.GlaSampleIdeal.τ Cert.GlaSampleIdeal.sig) → Buf (Elt Ideal) ℓ) : Prop :=
  ∀ c : Dev Cert.GlaSampleIdeal.nD,
    (Cert.Pre_finite_gate_sample.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3)) (m ((c.tc : Thread Cert.GlaSampleIdeal.nD Cert.GlaSampleIdeal.τ).loc Cert.GlaSampleIdeal.main_arg4))) = (fun _ => 1#1)

def Pre_GlaSampleReferenceIdeal (m : (ℓ : Loc Cert.GlaSampleReferenceIdeal.nD Cert.GlaSampleReferenceIdeal.τ Cert.GlaSampleReferenceIdeal.sig) → Buf (Elt Ideal) ℓ) : Prop :=
  True

def Pre_GlaSampleReferenceIdeal_finite_gate_sample [hPre_finite_gate_sample : Cert.Pre_finite_gate_sample.Facts] (m : (ℓ : Loc Cert.GlaSampleReferenceIdeal.nD Cert.GlaSampleReferenceIdeal.τ Cert.GlaSampleReferenceIdeal.sig) → Buf (Elt Ideal) ℓ) : Prop :=
  ∀ c : Dev Cert.GlaSampleReferenceIdeal.nD,
    (Cert.Pre_finite_gate_sample.fn (F := Ideal) (m ((c.tc : Thread Cert.GlaSampleReferenceIdeal.nD Cert.GlaSampleReferenceIdeal.τ).loc Cert.GlaSampleReferenceIdeal.main_arg0)) (m ((c.tc : Thread Cert.GlaSampleReferenceIdeal.nD Cert.GlaSampleReferenceIdeal.τ).loc Cert.GlaSampleReferenceIdeal.main_arg1)) (m ((c.tc : Thread Cert.GlaSampleReferenceIdeal.nD Cert.GlaSampleReferenceIdeal.τ).loc Cert.GlaSampleReferenceIdeal.main_arg2)) (m ((c.tc : Thread Cert.GlaSampleReferenceIdeal.nD Cert.GlaSampleReferenceIdeal.τ).loc Cert.GlaSampleReferenceIdeal.main_arg3)) (m ((c.tc : Thread Cert.GlaSampleReferenceIdeal.nD Cert.GlaSampleReferenceIdeal.τ).loc Cert.GlaSampleReferenceIdeal.main_arg4))) = (fun _ => 1#1)

def Pre_Combine [hPre_combine_rows : Cert.Pre_combine_rows.Facts] (m : (ℓ : Loc Cert.Combine.nD Cert.Combine.τ Cert.Combine.sig) → Buf (Elt Bits) ℓ) : Prop :=
  ∀ c : Dev Cert.Combine.nD,
    (Cert.Pre_combine_rows.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3))) = (fun _ => 1#1)

def Pre_CombineIdeal [hPre_combine_rows : Cert.Pre_combine_rows.Facts] (m : (ℓ : Loc Cert.CombineIdeal.nD Cert.CombineIdeal.τ Cert.CombineIdeal.sig) → Buf (Elt Ideal) ℓ) : Prop :=
  ∀ c : Dev Cert.CombineIdeal.nD,
    (Cert.Pre_combine_rows.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_combine_rows [hPre_combine_rows : Cert.Pre_combine_rows.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_combine_rows.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def quiescent_MoeUp [hMoeUp : Cert.MoeUp.Facts] [hPre_up_experts : Cert.Pre_up_experts.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_up_experts : Cert.Pre_up_experts.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpReferenceIdeal [hMoeUpReferenceIdeal : Cert.MoeUpReferenceIdeal.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4))
      ∧ r.2.sem = fun _ => 0)

def quiescent_MoeUpReferenceIdeal_pre_up_experts [hMoeUpReferenceIdeal : Cert.MoeUpReferenceIdeal.Facts] [hPre_up_experts : Cert.Pre_up_experts.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal_up_experts m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4))
      ∧ r.2.sem = fun _ => 0)

def quiescent_MoeDown [hMoeDown : Cert.MoeDown.Facts] [hPre_down_experts : Cert.Pre_down_experts.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_down_experts : Cert.Pre_down_experts.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownReferenceIdeal [hMoeDownReferenceIdeal : Cert.MoeDownReferenceIdeal.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3))
      ∧ r.2.sem = fun _ => 0)

def quiescent_MoeDownReferenceIdeal_pre_down_experts [hMoeDownReferenceIdeal : Cert.MoeDownReferenceIdeal.Facts] [hPre_down_experts : Cert.Pre_down_experts.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal_down_experts m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3))
      ∧ r.2.sem = fun _ => 0)

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2)
      ∧ r.2.mem ((c.tc : Thread Cert.GlaSample.nD Cert.GlaSample.τ).loc Cert.GlaSample.main_arg3) = m ((c.tc : Thread Cert.GlaSample.nD Cert.GlaSample.τ).loc Cert.GlaSample.main_arg3)
      ∧ r.2.mem ((c.tc : Thread Cert.GlaSample.nD Cert.GlaSample.τ).loc Cert.GlaSample.main_arg4) = m ((c.tc : Thread Cert.GlaSample.nD Cert.GlaSample.τ).loc Cert.GlaSample.main_arg4))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ r.2.sem = fun _ => 0)

def quiescent_GlaSampleIdeal_pre_finite_gate_sample [hGlaSampleIdeal : Cert.GlaSampleIdeal.Facts] [hPre_finite_gate_sample : Cert.Pre_finite_gate_sample.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal_finite_gate_sample m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ r.2.sem = fun _ => 0)

def quiescent_GlaSampleReferenceIdeal [hGlaSampleReferenceIdeal : Cert.GlaSampleReferenceIdeal.Facts] : Prop :=
  ∀ (m : (ℓ : Loc Cert.GlaSampleReferenceIdeal.nD Cert.GlaSampleReferenceIdeal.τ Cert.GlaSampleReferenceIdeal.sig) → Buf (Elt Ideal) ℓ) (g : Dev Cert.GlaSampleReferenceIdeal.nD → PrngReg), Pre_GlaSampleReferenceIdeal m →
    θ_run (Cert.GlaSampleReferenceIdeal.defs (F := Ideal)) (onTc (τ := Cert.GlaSampleReferenceIdeal.τ) (Cert.GlaSampleReferenceIdeal.main (F := Ideal))) ⟨m, fun _ => 0, g⟩ (fun r => (∀ c : Dev Cert.GlaSampleReferenceIdeal.nD,
      r.2.mem ((c.tc : Thread Cert.GlaSampleReferenceIdeal.nD Cert.GlaSampleReferenceIdeal.τ).loc Cert.GlaSampleReferenceIdeal.main_arg0) = m ((c.tc : Thread Cert.GlaSampleReferenceIdeal.nD Cert.GlaSampleReferenceIdeal.τ).loc Cert.GlaSampleReferenceIdeal.main_arg0)
      ∧ r.2.mem ((c.tc : Thread Cert.GlaSampleReferenceIdeal.nD Cert.GlaSampleReferenceIdeal.τ).loc Cert.GlaSampleReferenceIdeal.main_arg1) = m ((c.tc : Thread Cert.GlaSampleReferenceIdeal.nD Cert.GlaSampleReferenceIdeal.τ).loc Cert.GlaSampleReferenceIdeal.main_arg1)
      ∧ r.2.mem ((c.tc : Thread Cert.GlaSampleReferenceIdeal.nD Cert.GlaSampleReferenceIdeal.τ).loc Cert.GlaSampleReferenceIdeal.main_arg2) = m ((c.tc : Thread Cert.GlaSampleReferenceIdeal.nD Cert.GlaSampleReferenceIdeal.τ).loc Cert.GlaSampleReferenceIdeal.main_arg2)
      ∧ r.2.mem ((c.tc : Thread Cert.GlaSampleReferenceIdeal.nD Cert.GlaSampleReferenceIdeal.τ).loc Cert.GlaSampleReferenceIdeal.main_arg3) = m ((c.tc : Thread Cert.GlaSampleReferenceIdeal.nD Cert.GlaSampleReferenceIdeal.τ).loc Cert.GlaSampleReferenceIdeal.main_arg3)
      ∧ r.2.mem ((c.tc : Thread Cert.GlaSampleReferenceIdeal.nD Cert.GlaSampleReferenceIdeal.τ).loc Cert.GlaSampleReferenceIdeal.main_arg4) = m ((c.tc : Thread Cert.GlaSampleReferenceIdeal.nD Cert.GlaSampleReferenceIdeal.τ).loc Cert.GlaSampleReferenceIdeal.main_arg4))
      ∧ r.2.sem = fun _ => 0)

def quiescent_GlaSampleReferenceIdeal_pre_finite_gate_sample [hGlaSampleReferenceIdeal : Cert.GlaSampleReferenceIdeal.Facts] [hPre_finite_gate_sample : Cert.Pre_finite_gate_sample.Facts] : Prop :=
  ∀ (m : (ℓ : Loc Cert.GlaSampleReferenceIdeal.nD Cert.GlaSampleReferenceIdeal.τ Cert.GlaSampleReferenceIdeal.sig) → Buf (Elt Ideal) ℓ) (g : Dev Cert.GlaSampleReferenceIdeal.nD → PrngReg), Pre_GlaSampleReferenceIdeal_finite_gate_sample m →
    θ_run (Cert.GlaSampleReferenceIdeal.defs (F := Ideal)) (onTc (τ := Cert.GlaSampleReferenceIdeal.τ) (Cert.GlaSampleReferenceIdeal.main (F := Ideal))) ⟨m, fun _ => 0, g⟩ (fun r => (∀ c : Dev Cert.GlaSampleReferenceIdeal.nD,
      r.2.mem ((c.tc : Thread Cert.GlaSampleReferenceIdeal.nD Cert.GlaSampleReferenceIdeal.τ).loc Cert.GlaSampleReferenceIdeal.main_arg0) = m ((c.tc : Thread Cert.GlaSampleReferenceIdeal.nD Cert.GlaSampleReferenceIdeal.τ).loc Cert.GlaSampleReferenceIdeal.main_arg0)
      ∧ r.2.mem ((c.tc : Thread Cert.GlaSampleReferenceIdeal.nD Cert.GlaSampleReferenceIdeal.τ).loc Cert.GlaSampleReferenceIdeal.main_arg1) = m ((c.tc : Thread Cert.GlaSampleReferenceIdeal.nD Cert.GlaSampleReferenceIdeal.τ).loc Cert.GlaSampleReferenceIdeal.main_arg1)
      ∧ r.2.mem ((c.tc : Thread Cert.GlaSampleReferenceIdeal.nD Cert.GlaSampleReferenceIdeal.τ).loc Cert.GlaSampleReferenceIdeal.main_arg2) = m ((c.tc : Thread Cert.GlaSampleReferenceIdeal.nD Cert.GlaSampleReferenceIdeal.τ).loc Cert.GlaSampleReferenceIdeal.main_arg2)
      ∧ r.2.mem ((c.tc : Thread Cert.GlaSampleReferenceIdeal.nD Cert.GlaSampleReferenceIdeal.τ).loc Cert.GlaSampleReferenceIdeal.main_arg3) = m ((c.tc : Thread Cert.GlaSampleReferenceIdeal.nD Cert.GlaSampleReferenceIdeal.τ).loc Cert.GlaSampleReferenceIdeal.main_arg3)
      ∧ r.2.mem ((c.tc : Thread Cert.GlaSampleReferenceIdeal.nD Cert.GlaSampleReferenceIdeal.τ).loc Cert.GlaSampleReferenceIdeal.main_arg4) = m ((c.tc : Thread Cert.GlaSampleReferenceIdeal.nD Cert.GlaSampleReferenceIdeal.τ).loc Cert.GlaSampleReferenceIdeal.main_arg4))
      ∧ r.2.sem = fun _ => 0)

def quiescent_Combine [hCombine : Cert.Combine.Facts] [hPre_combine_rows : Cert.Pre_combine_rows.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] [hPre_combine_rows : Cert.Pre_combine_rows.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_CombineReferenceIdeal_pre_combine_rows [hCombineReferenceIdeal : Cert.CombineReferenceIdeal.Facts] [hPre_combine_rows : Cert.Pre_combine_rows.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_combine_rows m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v43_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v16)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v15) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v19) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v1) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)
      ∧ m' ((c.tc : Thread Cert.SwigluReferenceIdeal.nD Cert.SwigluReferenceIdeal.τ).loc Cert.SwigluReferenceIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v1) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v4) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v1) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v61_0)) (v1 : (c : Dev Cert.PrepIdeal.nD) → Buf (Elt Ideal) ((c.tc : Thread Cert.PrepIdeal.nD Cert.PrepIdeal.τ).loc Cert.PrepIdeal.main_v61_1)) (v2 : (c : Dev Cert.PrepIdeal.nD) → Buf (Elt Ideal) ((c.tc : Thread Cert.PrepIdeal.nD Cert.PrepIdeal.τ).loc Cert.PrepIdeal.main_v61_2)) (v3 : (c : Dev Cert.PrepIdeal.nD) → Buf (Elt Ideal) ((c.tc : Thread Cert.PrepIdeal.nD Cert.PrepIdeal.τ).loc Cert.PrepIdeal.main_v61_3)) (v4 : (c : Dev Cert.PrepIdeal.nD) → Buf (Elt Ideal) ((c.tc : Thread Cert.PrepIdeal.nD Cert.PrepIdeal.τ).loc Cert.PrepIdeal.main_v61_4)) (v5 : (c : Dev Cert.PrepIdeal.nD) → Buf (Elt Ideal) ((c.tc : Thread Cert.PrepIdeal.nD Cert.PrepIdeal.τ).loc Cert.PrepIdeal.main_v61_5)) (v6 : (c : Dev Cert.PrepIdeal.nD) → Buf (Elt Ideal) ((c.tc : Thread Cert.PrepIdeal.nD Cert.PrepIdeal.τ).loc Cert.PrepIdeal.main_v61_6)) (v7 : (c : Dev Cert.PrepIdeal.nD) → Buf (Elt Ideal) ((c.tc : Thread Cert.PrepIdeal.nD Cert.PrepIdeal.τ).loc Cert.PrepIdeal.main_v61_7)) (v8 : (c : Dev Cert.PrepIdeal.nD) → Buf (Elt Ideal) ((c.tc : Thread Cert.PrepIdeal.nD Cert.PrepIdeal.τ).loc Cert.PrepIdeal.main_v61_8)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v61_0) = v0 c
          ∧ r.2.mem ((c.tc : Thread Cert.PrepIdeal.nD Cert.PrepIdeal.τ).loc Cert.PrepIdeal.main_v61_1) = v1 c
          ∧ r.2.mem ((c.tc : Thread Cert.PrepIdeal.nD Cert.PrepIdeal.τ).loc Cert.PrepIdeal.main_v61_2) = v2 c
          ∧ r.2.mem ((c.tc : Thread Cert.PrepIdeal.nD Cert.PrepIdeal.τ).loc Cert.PrepIdeal.main_v61_3) = v3 c
          ∧ r.2.mem ((c.tc : Thread Cert.PrepIdeal.nD Cert.PrepIdeal.τ).loc Cert.PrepIdeal.main_v61_4) = v4 c
          ∧ r.2.mem ((c.tc : Thread Cert.PrepIdeal.nD Cert.PrepIdeal.τ).loc Cert.PrepIdeal.main_v61_5) = v5 c
          ∧ r.2.mem ((c.tc : Thread Cert.PrepIdeal.nD Cert.PrepIdeal.τ).loc Cert.PrepIdeal.main_v61_6) = v6 c
          ∧ r.2.mem ((c.tc : Thread Cert.PrepIdeal.nD Cert.PrepIdeal.τ).loc Cert.PrepIdeal.main_v61_7) = v7 c
          ∧ r.2.mem ((c.tc : Thread Cert.PrepIdeal.nD Cert.PrepIdeal.τ).loc Cert.PrepIdeal.main_v61_8) = v8 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v180) = v0 c
          ∧ r.2.mem ((c.tc : Thread Cert.PrepReferenceIdeal.nD Cert.PrepReferenceIdeal.τ).loc Cert.PrepReferenceIdeal.main_v173) = v1 c
          ∧ r.2.mem ((c.tc : Thread Cert.PrepReferenceIdeal.nD Cert.PrepReferenceIdeal.τ).loc Cert.PrepReferenceIdeal.main_v181) = v2 c
          ∧ r.2.mem ((c.tc : Thread Cert.PrepReferenceIdeal.nD Cert.PrepReferenceIdeal.τ).loc Cert.PrepReferenceIdeal.main_v182) = v3 c
          ∧ r.2.mem ((c.tc : Thread Cert.PrepReferenceIdeal.nD Cert.PrepReferenceIdeal.τ).loc Cert.PrepReferenceIdeal.main_v184) = v4 c
          ∧ r.2.mem ((c.tc : Thread Cert.PrepReferenceIdeal.nD Cert.PrepReferenceIdeal.τ).loc Cert.PrepReferenceIdeal.main_v172) = v5 c
          ∧ r.2.mem ((c.tc : Thread Cert.PrepReferenceIdeal.nD Cert.PrepReferenceIdeal.τ).loc Cert.PrepReferenceIdeal.main_v185) = v6 c
          ∧ r.2.mem ((c.tc : Thread Cert.PrepReferenceIdeal.nD Cert.PrepReferenceIdeal.τ).loc Cert.PrepReferenceIdeal.main_v187) = v7 c
          ∧ r.2.mem ((c.tc : Thread Cert.PrepReferenceIdeal.nD Cert.PrepReferenceIdeal.τ).loc Cert.PrepReferenceIdeal.main_v189) = v8 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def preserves_MoeUp_MoeUpIdeal : Prop :=
  True

def algebraic_MoeUpIdeal_MoeUpReferenceIdeal [hMoeUpIdeal : Cert.MoeUpIdeal.Facts] [hMoeUpReferenceIdeal : Cert.MoeUpReferenceIdeal.Facts] [hPre_up_experts : Cert.Pre_up_experts.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpReferenceIdeal.nD Cert.MoeUpReferenceIdeal.τ Cert.MoeUpReferenceIdeal.sig) → Buf (Elt Ideal) ℓ) (g' : Dev Cert.MoeUpReferenceIdeal.nD → PrngReg), Pre_MoeUpIdeal m →
    (∀ c : Dev Cert.MoeUpIdeal.nD,
      m' ((c.tc : Thread Cert.MoeUpReferenceIdeal.nD Cert.MoeUpReferenceIdeal.τ).loc Cert.MoeUpReferenceIdeal.main_arg0) = m ((c.tc : Thread Cert.MoeUpIdeal.nD Cert.MoeUpIdeal.τ).loc Cert.MoeUpIdeal.main_arg0)
      ∧ m' ((c.tc : Thread Cert.MoeUpReferenceIdeal.nD Cert.MoeUpReferenceIdeal.τ).loc Cert.MoeUpReferenceIdeal.main_arg1) = m ((c.tc : Thread Cert.MoeUpIdeal.nD Cert.MoeUpIdeal.τ).loc Cert.MoeUpIdeal.main_arg1)
      ∧ m' ((c.tc : Thread Cert.MoeUpReferenceIdeal.nD Cert.MoeUpReferenceIdeal.τ).loc Cert.MoeUpReferenceIdeal.main_arg2) = m ((c.tc : Thread Cert.MoeUpIdeal.nD Cert.MoeUpIdeal.τ).loc Cert.MoeUpIdeal.main_arg2)
      ∧ m' ((c.tc : Thread Cert.MoeUpReferenceIdeal.nD Cert.MoeUpReferenceIdeal.τ).loc Cert.MoeUpReferenceIdeal.main_arg3) = m ((c.tc : Thread Cert.MoeUpIdeal.nD Cert.MoeUpIdeal.τ).loc Cert.MoeUpIdeal.main_arg3)
      ∧ m' ((c.tc : Thread Cert.MoeUpReferenceIdeal.nD Cert.MoeUpReferenceIdeal.τ).loc Cert.MoeUpReferenceIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpReferenceIdeal.defs (F := Ideal)) (onTc (τ := Cert.MoeUpReferenceIdeal.τ) (Cert.MoeUpReferenceIdeal.main (F := Ideal))) ⟨m', fun _ => 0, g'⟩ (fun r => ∀ c : Dev Cert.MoeUpReferenceIdeal.nD,
          r.2.mem ((c.tc : Thread Cert.MoeUpReferenceIdeal.nD Cert.MoeUpReferenceIdeal.τ).loc Cert.MoeUpReferenceIdeal.main_v148) = v0 c
          ∧ r.2.mem ((c.tc : Thread Cert.MoeUpReferenceIdeal.nD Cert.MoeUpReferenceIdeal.τ).loc Cert.MoeUpReferenceIdeal.main_arg0) = m' ((c.tc : Thread Cert.MoeUpReferenceIdeal.nD Cert.MoeUpReferenceIdeal.τ).loc Cert.MoeUpReferenceIdeal.main_arg0)
          ∧ r.2.mem ((c.tc : Thread Cert.MoeUpReferenceIdeal.nD Cert.MoeUpReferenceIdeal.τ).loc Cert.MoeUpReferenceIdeal.main_arg1) = m' ((c.tc : Thread Cert.MoeUpReferenceIdeal.nD Cert.MoeUpReferenceIdeal.τ).loc Cert.MoeUpReferenceIdeal.main_arg1)
          ∧ r.2.mem ((c.tc : Thread Cert.MoeUpReferenceIdeal.nD Cert.MoeUpReferenceIdeal.τ).loc Cert.MoeUpReferenceIdeal.main_arg2) = m' ((c.tc : Thread Cert.MoeUpReferenceIdeal.nD Cert.MoeUpReferenceIdeal.τ).loc Cert.MoeUpReferenceIdeal.main_arg2)
          ∧ r.2.mem ((c.tc : Thread Cert.MoeUpReferenceIdeal.nD Cert.MoeUpReferenceIdeal.τ).loc Cert.MoeUpReferenceIdeal.main_arg3) = m' ((c.tc : Thread Cert.MoeUpReferenceIdeal.nD Cert.MoeUpReferenceIdeal.τ).loc Cert.MoeUpReferenceIdeal.main_arg3)
          ∧ r.2.mem ((c.tc : Thread Cert.MoeUpReferenceIdeal.nD Cert.MoeUpReferenceIdeal.τ).loc Cert.MoeUpReferenceIdeal.main_arg4) = m' ((c.tc : Thread Cert.MoeUpReferenceIdeal.nD Cert.MoeUpReferenceIdeal.τ).loc Cert.MoeUpReferenceIdeal.main_arg4))

def preserves_MoeDown_MoeDownIdeal : Prop :=
  True

def algebraic_MoeDownIdeal_MoeDownReferenceIdeal [hMoeDownIdeal : Cert.MoeDownIdeal.Facts] [hMoeDownReferenceIdeal : Cert.MoeDownReferenceIdeal.Facts] [hPre_down_experts : Cert.Pre_down_experts.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownReferenceIdeal.nD Cert.MoeDownReferenceIdeal.τ Cert.MoeDownReferenceIdeal.sig) → Buf (Elt Ideal) ℓ) (g' : Dev Cert.MoeDownReferenceIdeal.nD → PrngReg), Pre_MoeDownIdeal m →
    (∀ c : Dev Cert.MoeDownIdeal.nD,
      m' ((c.tc : Thread Cert.MoeDownReferenceIdeal.nD Cert.MoeDownReferenceIdeal.τ).loc Cert.MoeDownReferenceIdeal.main_arg0) = m ((c.tc : Thread Cert.MoeDownIdeal.nD Cert.MoeDownIdeal.τ).loc Cert.MoeDownIdeal.main_arg0)
      ∧ m' ((c.tc : Thread Cert.MoeDownReferenceIdeal.nD Cert.MoeDownReferenceIdeal.τ).loc Cert.MoeDownReferenceIdeal.main_arg1) = m ((c.tc : Thread Cert.MoeDownIdeal.nD Cert.MoeDownIdeal.τ).loc Cert.MoeDownIdeal.main_arg1)
      ∧ m' ((c.tc : Thread Cert.MoeDownReferenceIdeal.nD Cert.MoeDownReferenceIdeal.τ).loc Cert.MoeDownReferenceIdeal.main_arg2) = m ((c.tc : Thread Cert.MoeDownIdeal.nD Cert.MoeDownIdeal.τ).loc Cert.MoeDownIdeal.main_arg2)
      ∧ m' ((c.tc : Thread Cert.MoeDownReferenceIdeal.nD Cert.MoeDownReferenceIdeal.τ).loc Cert.MoeDownReferenceIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v1)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v1) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownReferenceIdeal.defs (F := Ideal)) (onTc (τ := Cert.MoeDownReferenceIdeal.τ) (Cert.MoeDownReferenceIdeal.main (F := Ideal))) ⟨m', fun _ => 0, g'⟩ (fun r => ∀ c : Dev Cert.MoeDownReferenceIdeal.nD,
          r.2.mem ((c.tc : Thread Cert.MoeDownReferenceIdeal.nD Cert.MoeDownReferenceIdeal.τ).loc Cert.MoeDownReferenceIdeal.main_v100) = v0 c
          ∧ r.2.mem ((c.tc : Thread Cert.MoeDownReferenceIdeal.nD Cert.MoeDownReferenceIdeal.τ).loc Cert.MoeDownReferenceIdeal.main_arg0) = m' ((c.tc : Thread Cert.MoeDownReferenceIdeal.nD Cert.MoeDownReferenceIdeal.τ).loc Cert.MoeDownReferenceIdeal.main_arg0)
          ∧ r.2.mem ((c.tc : Thread Cert.MoeDownReferenceIdeal.nD Cert.MoeDownReferenceIdeal.τ).loc Cert.MoeDownReferenceIdeal.main_arg1) = m' ((c.tc : Thread Cert.MoeDownReferenceIdeal.nD Cert.MoeDownReferenceIdeal.τ).loc Cert.MoeDownReferenceIdeal.main_arg1)
          ∧ r.2.mem ((c.tc : Thread Cert.MoeDownReferenceIdeal.nD Cert.MoeDownReferenceIdeal.τ).loc Cert.MoeDownReferenceIdeal.main_arg2) = m' ((c.tc : Thread Cert.MoeDownReferenceIdeal.nD Cert.MoeDownReferenceIdeal.τ).loc Cert.MoeDownReferenceIdeal.main_arg2)
          ∧ r.2.mem ((c.tc : Thread Cert.MoeDownReferenceIdeal.nD Cert.MoeDownReferenceIdeal.τ).loc Cert.MoeDownReferenceIdeal.main_arg3) = m' ((c.tc : Thread Cert.MoeDownReferenceIdeal.nD Cert.MoeDownReferenceIdeal.τ).loc Cert.MoeDownReferenceIdeal.main_arg3))

def preserves_GlaSample_GlaSampleIdeal : Prop :=
  True

def algebraic_GlaSampleIdeal_GlaSampleReferenceIdeal_pre_finite_gate_sample [hGlaSampleIdeal : Cert.GlaSampleIdeal.Facts] [hGlaSampleReferenceIdeal : Cert.GlaSampleReferenceIdeal.Facts] [hPre_finite_gate_sample : Cert.Pre_finite_gate_sample.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleReferenceIdeal.nD Cert.GlaSampleReferenceIdeal.τ Cert.GlaSampleReferenceIdeal.sig) → Buf (Elt Ideal) ℓ) (g' : Dev Cert.GlaSampleReferenceIdeal.nD → PrngReg), Pre_GlaSampleIdeal_finite_gate_sample m →
    (∀ c : Dev Cert.GlaSampleIdeal.nD,
      m' ((c.tc : Thread Cert.GlaSampleReferenceIdeal.nD Cert.GlaSampleReferenceIdeal.τ).loc Cert.GlaSampleReferenceIdeal.main_arg0) = m ((c.tc : Thread Cert.GlaSampleIdeal.nD Cert.GlaSampleIdeal.τ).loc Cert.GlaSampleIdeal.main_arg0)
      ∧ m' ((c.tc : Thread Cert.GlaSampleReferenceIdeal.nD Cert.GlaSampleReferenceIdeal.τ).loc Cert.GlaSampleReferenceIdeal.main_arg1) = m ((c.tc : Thread Cert.GlaSampleIdeal.nD Cert.GlaSampleIdeal.τ).loc Cert.GlaSampleIdeal.main_arg1)
      ∧ m' ((c.tc : Thread Cert.GlaSampleReferenceIdeal.nD Cert.GlaSampleReferenceIdeal.τ).loc Cert.GlaSampleReferenceIdeal.main_arg2) = m ((c.tc : Thread Cert.GlaSampleIdeal.nD Cert.GlaSampleIdeal.τ).loc Cert.GlaSampleIdeal.main_arg2)
      ∧ m' ((c.tc : Thread Cert.GlaSampleReferenceIdeal.nD Cert.GlaSampleReferenceIdeal.τ).loc Cert.GlaSampleReferenceIdeal.main_arg3) = m ((c.tc : Thread Cert.GlaSampleIdeal.nD Cert.GlaSampleIdeal.τ).loc Cert.GlaSampleIdeal.main_arg3)
      ∧ m' ((c.tc : Thread Cert.GlaSampleReferenceIdeal.nD Cert.GlaSampleReferenceIdeal.τ).loc Cert.GlaSampleReferenceIdeal.main_arg4) = m ((c.tc : Thread Cert.GlaSampleIdeal.nD Cert.GlaSampleIdeal.τ).loc Cert.GlaSampleIdeal.main_arg4)) →
    ∃ (v0 : (c : Dev Cert.GlaSampleIdeal.nD) → Buf (Elt Ideal) ((c.tc : Thread Cert.GlaSampleIdeal.nD Cert.GlaSampleIdeal.τ).loc Cert.GlaSampleIdeal.main_v5_0)) (v1 : (c : Dev Cert.GlaSampleIdeal.nD) → Buf (Elt Ideal) ((c.tc : Thread Cert.GlaSampleIdeal.nD Cert.GlaSampleIdeal.τ).loc Cert.GlaSampleIdeal.main_v5_1)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v5_0) = v0 c
          ∧ r.2.mem ((c.tc : Thread Cert.GlaSampleIdeal.nD Cert.GlaSampleIdeal.τ).loc Cert.GlaSampleIdeal.main_v5_1) = v1 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
          ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
          ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ θ_run (Cert.GlaSampleReferenceIdeal.defs (F := Ideal)) (onTc (τ := Cert.GlaSampleReferenceIdeal.τ) (Cert.GlaSampleReferenceIdeal.main (F := Ideal))) ⟨m', fun _ => 0, g'⟩ (fun r => ∀ c : Dev Cert.GlaSampleReferenceIdeal.nD,
          r.2.mem ((c.tc : Thread Cert.GlaSampleReferenceIdeal.nD Cert.GlaSampleReferenceIdeal.τ).loc Cert.GlaSampleReferenceIdeal.main_v79) = v0 c
          ∧ r.2.mem ((c.tc : Thread Cert.GlaSampleReferenceIdeal.nD Cert.GlaSampleReferenceIdeal.τ).loc Cert.GlaSampleReferenceIdeal.main_v57) = v1 c
          ∧ r.2.mem ((c.tc : Thread Cert.GlaSampleReferenceIdeal.nD Cert.GlaSampleReferenceIdeal.τ).loc Cert.GlaSampleReferenceIdeal.main_arg0) = m' ((c.tc : Thread Cert.GlaSampleReferenceIdeal.nD Cert.GlaSampleReferenceIdeal.τ).loc Cert.GlaSampleReferenceIdeal.main_arg0)
          ∧ r.2.mem ((c.tc : Thread Cert.GlaSampleReferenceIdeal.nD Cert.GlaSampleReferenceIdeal.τ).loc Cert.GlaSampleReferenceIdeal.main_arg1) = m' ((c.tc : Thread Cert.GlaSampleReferenceIdeal.nD Cert.GlaSampleReferenceIdeal.τ).loc Cert.GlaSampleReferenceIdeal.main_arg1)
          ∧ r.2.mem ((c.tc : Thread Cert.GlaSampleReferenceIdeal.nD Cert.GlaSampleReferenceIdeal.τ).loc Cert.GlaSampleReferenceIdeal.main_arg2) = m' ((c.tc : Thread Cert.GlaSampleReferenceIdeal.nD Cert.GlaSampleReferenceIdeal.τ).loc Cert.GlaSampleReferenceIdeal.main_arg2)
          ∧ r.2.mem ((c.tc : Thread Cert.GlaSampleReferenceIdeal.nD Cert.GlaSampleReferenceIdeal.τ).loc Cert.GlaSampleReferenceIdeal.main_arg3) = m' ((c.tc : Thread Cert.GlaSampleReferenceIdeal.nD Cert.GlaSampleReferenceIdeal.τ).loc Cert.GlaSampleReferenceIdeal.main_arg3)
          ∧ r.2.mem ((c.tc : Thread Cert.GlaSampleReferenceIdeal.nD Cert.GlaSampleReferenceIdeal.τ).loc Cert.GlaSampleReferenceIdeal.main_arg4) = m' ((c.tc : Thread Cert.GlaSampleReferenceIdeal.nD Cert.GlaSampleReferenceIdeal.τ).loc Cert.GlaSampleReferenceIdeal.main_arg4))

def preserves_Combine_CombineIdeal : Prop :=
  True

def algebraic_CombineIdeal_CombineReferenceIdeal [hCombineIdeal : Cert.CombineIdeal.Facts] [hCombineReferenceIdeal : Cert.CombineReferenceIdeal.Facts] [hPre_combine_rows : Cert.Pre_combine_rows.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v19) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hSwiglu : Cert.Swiglu.Facts) (hSwigluIdeal : Cert.SwigluIdeal.Facts) (hSwigluReferenceIdeal : Cert.SwigluReferenceIdeal.Facts) (hFfnDown : Cert.FfnDown.Facts) (hFfnDownIdeal : Cert.FfnDownIdeal.Facts) (hFfnDownReferenceIdeal : Cert.FfnDownReferenceIdeal.Facts) (hPrep : Cert.Prep.Facts) (hPrepIdeal : Cert.PrepIdeal.Facts) (hPrepReferenceIdeal : Cert.PrepReferenceIdeal.Facts) (hMoeUp : Cert.MoeUp.Facts) (hMoeUpIdeal : Cert.MoeUpIdeal.Facts) (hMoeUpReferenceIdeal : Cert.MoeUpReferenceIdeal.Facts) (hMoeDown : Cert.MoeDown.Facts) (hMoeDownIdeal : Cert.MoeDownIdeal.Facts) (hMoeDownReferenceIdeal : Cert.MoeDownReferenceIdeal.Facts) (hGlaSample : Cert.GlaSample.Facts) (hGlaSampleIdeal : Cert.GlaSampleIdeal.Facts) (hGlaSampleReferenceIdeal : Cert.GlaSampleReferenceIdeal.Facts) (hCombine : Cert.Combine.Facts) (hCombineIdeal : Cert.CombineIdeal.Facts) (hCombineReferenceIdeal : Cert.CombineReferenceIdeal.Facts) (hPre_finite_gate : Cert.Pre_finite_gate.Facts) (hPre_up_experts : Cert.Pre_up_experts.Facts) (hPre_down_experts : Cert.Pre_down_experts.Facts) (hPre_finite_gate_sample : Cert.Pre_finite_gate_sample.Facts) (hPre_combine_rows : Cert.Pre_combine_rows.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ quiescent_Norm (hNorm := hNorm)
    ∧ quiescent_NormIdeal (hNormIdeal := hNormIdeal)
    ∧ quiescent_NormReferenceIdeal (hNormReferenceIdeal := hNormReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_MoeUp (hMoeUp := hMoeUp) (hPre_up_experts := hPre_up_experts)
    ∧ quiescent_MoeUpIdeal (hMoeUpIdeal := hMoeUpIdeal) (hPre_up_experts := hPre_up_experts)
    ∧ quiescent_MoeUpReferenceIdeal (hMoeUpReferenceIdeal := hMoeUpReferenceIdeal)
    ∧ quiescent_MoeUpReferenceIdeal_pre_up_experts (hMoeUpReferenceIdeal := hMoeUpReferenceIdeal) (hPre_up_experts := hPre_up_experts)
    ∧ quiescent_MoeDown (hMoeDown := hMoeDown) (hPre_down_experts := hPre_down_experts)
    ∧ quiescent_MoeDownIdeal (hMoeDownIdeal := hMoeDownIdeal) (hPre_down_experts := hPre_down_experts)
    ∧ quiescent_MoeDownReferenceIdeal (hMoeDownReferenceIdeal := hMoeDownReferenceIdeal)
    ∧ quiescent_MoeDownReferenceIdeal_pre_down_experts (hMoeDownReferenceIdeal := hMoeDownReferenceIdeal) (hPre_down_experts := hPre_down_experts)
    ∧ quiescent_GlaSample (hGlaSample := hGlaSample)
    ∧ quiescent_GlaSampleIdeal (hGlaSampleIdeal := hGlaSampleIdeal)
    ∧ quiescent_GlaSampleIdeal_pre_finite_gate_sample (hGlaSampleIdeal := hGlaSampleIdeal) (hPre_finite_gate_sample := hPre_finite_gate_sample)
    ∧ quiescent_GlaSampleReferenceIdeal (hGlaSampleReferenceIdeal := hGlaSampleReferenceIdeal)
    ∧ quiescent_GlaSampleReferenceIdeal_pre_finite_gate_sample (hGlaSampleReferenceIdeal := hGlaSampleReferenceIdeal) (hPre_finite_gate_sample := hPre_finite_gate_sample)
    ∧ quiescent_Combine (hCombine := hCombine) (hPre_combine_rows := hPre_combine_rows)
    ∧ quiescent_CombineIdeal (hCombineIdeal := hCombineIdeal) (hPre_combine_rows := hPre_combine_rows)
    ∧ quiescent_CombineReferenceIdeal (hCombineReferenceIdeal := hCombineReferenceIdeal)
    ∧ quiescent_CombineReferenceIdeal_pre_combine_rows (hCombineReferenceIdeal := hCombineReferenceIdeal) (hPre_combine_rows := hPre_combine_rows)
    ∧ preserves_Kernel_KernelIdeal
    ∧ algebraic_KernelIdeal_ReferenceIdeal_pre_finite_gate (hKernelIdeal := hKernelIdeal) (hReferenceIdeal := hReferenceIdeal) (hPre_finite_gate := hPre_finite_gate)
    ∧ preserves_Norm_NormIdeal
    ∧ algebraic_NormIdeal_NormReferenceIdeal (hNormIdeal := hNormIdeal) (hNormReferenceIdeal := hNormReferenceIdeal)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Prep_PrepIdeal
    ∧ algebraic_PrepIdeal_PrepReferenceIdeal (hPrepIdeal := hPrepIdeal) (hPrepReferenceIdeal := hPrepReferenceIdeal)
    ∧ preserves_MoeUp_MoeUpIdeal
    ∧ algebraic_MoeUpIdeal_MoeUpReferenceIdeal (hMoeUpIdeal := hMoeUpIdeal) (hMoeUpReferenceIdeal := hMoeUpReferenceIdeal) (hPre_up_experts := hPre_up_experts)
    ∧ preserves_MoeDown_MoeDownIdeal
    ∧ algebraic_MoeDownIdeal_MoeDownReferenceIdeal (hMoeDownIdeal := hMoeDownIdeal) (hMoeDownReferenceIdeal := hMoeDownReferenceIdeal) (hPre_down_experts := hPre_down_experts)
    ∧ preserves_GlaSample_GlaSampleIdeal
    ∧ algebraic_GlaSampleIdeal_GlaSampleReferenceIdeal_pre_finite_gate_sample (hGlaSampleIdeal := hGlaSampleIdeal) (hGlaSampleReferenceIdeal := hGlaSampleReferenceIdeal) (hPre_finite_gate_sample := hPre_finite_gate_sample)
    ∧ preserves_Combine_CombineIdeal
    ∧ algebraic_CombineIdeal_CombineReferenceIdeal (hCombineIdeal := hCombineIdeal) (hCombineReferenceIdeal := hCombineReferenceIdeal) (hPre_combine_rows := hPre_combine_rows)
-- ==== Pre_combine_rows.lean ====
abbrev S37888x2048 : Shape := ⟨2, ![37888, 2048]⟩
abbrev S33792 : Shape := ⟨1, ![33792]⟩
abbrev S16896x128 : Shape := ⟨2, ![16896, 128]⟩
abbrev S16896x2048 : Shape := ⟨2, ![16896, 2048]⟩
abbrev S_ : Shape := ⟨0, ![]⟩

class Facts : Prop where
  bcast_S_S33792 : S_.BroadcastsInDim S33792 (![] : Fin 0 → Fin S33792.rank)

variable [Facts]

def fn {F : FTy → Type} [FloatOps F] (main_arg0 : FVec F S37888x2048 .f32) (main_arg1 : IVec S33792 32) (main_arg2 : FVec F S16896x128 .f32) (main_arg3 : FVec F S16896x2048 .f32) : IVec S33792 1 :=
  let main_c : IVec S_ 32 := constantI S_ 32 0#32
  let main_v0 : IVec S33792 32 := broadcastInDim S33792 ![] bcast_S_S33792 main_c
  let main_v1 : IVec S33792 1 := cmpi .sge main_arg1 main_v0
  let main_c_0 : IVec S_ 32 := constantI S_ 32 37888#32
  let main_v2 : IVec S33792 32 := broadcastInDim S33792 ![] bcast_S_S33792 main_c_0
  let main_v3 : IVec S33792 1 := cmpi .slt main_arg1 main_v2
  let main_v4 : IVec S33792 1 := andi main_v1 main_v3
  main_v4
-- ==== Pre_down_experts.lean ====
abbrev S74 : Shape := ⟨1, ![74]⟩
abbrev S1 : Shape := ⟨1, ![1]⟩
abbrev S37888x5632 : Shape := ⟨2, ![37888, 5632]⟩
abbrev S8x5632x2048 : Shape := ⟨3, ![8, 5632, 2048]⟩
abbrev S_ : Shape := ⟨0, ![]⟩

class Facts : Prop where
  bcast_S_S74 : S_.BroadcastsInDim S74 (![] : Fin 0 → Fin S74.rank)

variable [Facts]

def fn {F : FTy → Type} [FloatOps F] (main_arg0 : IVec S74 32) (main_arg1 : IVec S1 32) (main_arg2 : FVec F S37888x5632 .f32) (main_arg3 : FVec F S8x5632x2048 .f32) : IVec S74 1 :=
  let main_c : IVec S_ 32 := constantI S_ 32 0#32
  let main_v0 : IVec S74 32 := broadcastInDim S74 ![] bcast_S_S74 main_c
  let main_v1 : IVec S74 1 := cmpi .sge main_arg0 main_v0
  let main_c_0 : IVec S_ 32 := constantI S_ 32 8#32
  let main_v2 : IVec S74 32 := broadcastInDim S74 ![] bcast_S_S74 main_c_0
  let main_v3 : IVec S74 1 := cmpi .slt main_arg0 main_v2
  let main_v4 : IVec S74 1 := andi main_v1 main_v3
  main_v4
-- ==== Pre_finite_gate.lean ====
abbrev S16896x9728 : Shape := ⟨2, ![16896, 9728]⟩
abbrev S16x512 : Shape := ⟨2, ![16, 512]⟩
abbrev S512 : Shape := ⟨1, ![512]⟩
abbrev S256 : Shape := ⟨1, ![256]⟩
abbrev S16384x16 : Shape := ⟨2, ![16384, 16]⟩
abbrev S_ : Shape := ⟨0, ![]⟩

class Facts : Prop where
  slices_S16896x9728_S16384x16_0_9280 : S16896x9728.Slices ![0, 9280] S16384x16
  bcast_S_S16384x16 : S_.BroadcastsInDim S16384x16 (![] : Fin 0 → Fin S16384x16.rank)
  reducesTo_S16384x16_S_d0_1 : S16384x16.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16896x9728 .f32) (main_arg1 : FVec F S16x512 .f32) (main_arg2 : FVec F S512 .f32) (main_arg3 : FVec F S256 .f32) : IVec S_ 1 :=
  let main_v0 : FVec F S16384x16 .f32 := (extractStridedSlice S16384x16 ![0, 9280] · slices_S16896x9728_S16384x16_0_9280) main_arg0
  let main_v1 : FVec F S16384x16 .f32 := Host.absf main_v0
  let main_cst : FVec F S_ .f32 := constant S_ .f32 0x7F800000#32
  let main_v2 : FVec F S16384x16 .f32 := broadcastInDim S16384x16 ![] bcast_S_S16384x16 main_cst
  let main_v3 : IVec S16384x16 1 := cmpf .olt main_v1 main_v2
  let main_c : IVec S_ 1 := constantI S_ 1 1#1
  let main_v4 : IVec S_ 1 := (fun x v => Host.reduce IntOp.andi x v reducesTo_S16384x16_S_d0_1 h_S_) main_v3 main_c
  let main_v5 : FVec F S16x512 .f32 := Host.absf main_arg1
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  main_v9
-- ==== Pre_finite_gate_sample.lean ====
abbrev S16896x9728 : Shape := ⟨2, ![16896, 9728]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S512x16 : Shape := ⟨2, ![512, 16]⟩
abbrev S_ : Shape := ⟨0, ![]⟩

class Facts : Prop where
  slices_S16896x9728_S512x16_16384_9280 : S16896x9728.Slices ![16384, 9280] S512x16
  bcast_S_S512x16 : S_.BroadcastsInDim S512x16 (![] : Fin 0 → Fin S512x16.rank)
  reducesTo_S512x16_S_d0_1 : S512x16.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16896x9728 .f32) (main_arg1 : FVec F S16x512 .f32) (main_arg2 : FVec F S512 .f32) (main_arg3 : FVec F S256 .f32) (main_arg4 : FVec F S32x4x128x256 .f32) : IVec S_ 1 :=
  let main_v0 : FVec F S512x16 .f32 := (extractStridedSlice S512x16 ![16384, 9280] · slices_S16896x9728_S512x16_16384_9280) main_arg0
  let main_v1 : FVec F S512x16 .f32 := Host.absf main_v0
  let main_cst : FVec F S_ .f32 := constant S_ .f32 0x7F800000#32
  let main_v2 : FVec F S512x16 .f32 := broadcastInDim S512x16 ![] bcast_S_S512x16 main_cst
  let main_v3 : IVec S512x16 1 := cmpf .olt main_v1 main_v2
  let main_c : IVec S_ 1 := constantI S_ 1 1#1
  let main_v4 : IVec S_ 1 := (fun x v => Host.reduce IntOp.andi x v reducesTo_S512x16_S_d0_1 h_S_) main_v3 main_c
  let main_v5 : FVec F S16x512 .f32 := Host.absf main_arg1
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  main_v9
-- ==== Pre_up_experts.lean ====
abbrev S74 : Shape := ⟨1, ![74]⟩
abbrev S1 : Shape := ⟨1, ![1]⟩
abbrev S37888x1024 : Shape := ⟨2, ![37888, 1024]⟩
abbrev S8x2048x5632 : Shape := ⟨3, ![8, 2048, 5632]⟩
abbrev S_ : Shape := ⟨0, ![]⟩

class Facts : Prop where
  bcast_S_S74 : S_.BroadcastsInDim S74 (![] : Fin 0 → Fin S74.rank)

variable [Facts]

def fn {F : FTy → Type} [FloatOps F] (main_arg0 : IVec S74 32) (main_arg1 : IVec S1 32) (main_arg2 : IVec S37888x1024 32) (main_arg3 : FVec F S8x2048x5632 .f32) (main_arg4 : FVec F S8x2048x5632 .f32) : IVec S74 1 :=
  let main_c : IVec S_ 32 := constantI S_ 32 0#32
  let main_v0 : IVec S74 32 := broadcastInDim S74 ![] bcast_S_S74 main_c
  let main_v1 : IVec S74 1 := cmpi .sge main_arg0 main_v0
  let main_c_0 : IVec S_ 32 := constantI S_ 32 8#32
  let main_v2 : IVec S74 32 := broadcastInDim S74 ![] bcast_S_S74 main_c_0
  let main_v3 : IVec S74 1 := cmpi .slt main_arg0 main_v2
  let main_v4 : IVec S74 1 := andi main_v1 main_v3
  main_v4
-- ==== Kernel.lean ====
abbrev S16896x9728 : Shape := ⟨2, ![16896, 9728]⟩
abbrev S16x512 : Shape := ⟨2, ![16, 512]⟩
abbrev S512 : Shape := ⟨1, ![512]⟩
abbrev S256 : Shape := ⟨1, ![256]⟩
abbrev S_ : Shape := ⟨0, ![]⟩
abbrev S2x4x128x256 : Shape := ⟨4, ![2, 4, 128, 256]⟩
abbrev S16x4x128 : Shape := ⟨3, ![16, 4, 128]⟩
abbrev S4x16x128 : Shape := ⟨3, ![4, 16, 128]⟩
abbrev S4x128x128 : Shape := ⟨3, ![4, 128, 128]⟩
abbrev S1x512 : Shape := ⟨2, ![1, 512]⟩
abbrev S1x256 : Shape := ⟨2, ![1, 256]⟩
abbrev S16384x1024 : Shape := ⟨2, ![16384, 1024]⟩
abbrev S256x512 : Shape := ⟨2, ![256, 512]⟩
abbrev S256x1024 : Shape := ⟨2, ![256, 1024]⟩
abbrev S256x128 : Shape := ⟨2, ![256, 128]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S1x256x128 : Shape := ⟨3, ![1, 256, 128]⟩
abbrev S64x64 : Shape := ⟨2, ![64, 64]⟩
abbrev S1x128x128 : Shape := ⟨3, ![1, 128, 128]⟩
abbrev S128x128 : Shape := ⟨2, ![128, 128]⟩
abbrev S1x128 : Shape := ⟨2, ![1, 128]⟩
abbrev S64x128 : Shape := ⟨2, ![64, 128]⟩
abbrev S64x256 : Shape := ⟨2, ![64, 256]⟩
abbrev S64 : Shape := ⟨1, ![64]⟩
abbrev S64x1 : Shape := ⟨2, ![64, 1]⟩

abbrev nBuf : Space → Nat
  | .hbm => 15
  | .vmem => 20
  | .smem => 0
  | _ => 0

abbrev bufTy : (tb : Table) → Fin (tcTables nBuf tb) → BufTy
  | .hbm, ⟨0, _⟩ => ⟨S16896x9728, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S_, .f32⟩
  | .hbm, ⟨5, _⟩ => ⟨S2x4x128x256, .f32⟩
  | .hbm, ⟨6, _⟩ => ⟨S16x4x128, .f32⟩
  | .hbm, ⟨7, _⟩ => ⟨S4x16x128, .f32⟩
  | .hbm, ⟨8, _⟩ => ⟨S_, .i32⟩
  | .hbm, ⟨9, _⟩ => ⟨S_, .f32⟩
  | .hbm, ⟨10, _⟩ => ⟨S4x128x128, .f32⟩
  | .hbm, ⟨11, _⟩ => ⟨S1x512, .f32⟩
  | .hbm, ⟨12, _⟩ => ⟨S1x256, .f32⟩
  | .hbm, ⟨13, _⟩ => ⟨S16384x1024, .bf16⟩
  | .hbm, ⟨14, _⟩ => ⟨S2x4x128x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S4x128x128, .f32⟩
  | .local _ .vmem, ⟨11, _⟩ => ⟨S1x512, .f32⟩
  | .local _ .vmem, ⟨12, _⟩ => ⟨S1x256, .f32⟩
  | .local _ .vmem, ⟨13, _⟩ => ⟨S1x4x128x256, .f32⟩
  | .local _ .vmem, ⟨14, _⟩ => ⟨S1x4x128x256, .f32⟩
  | .local _ .vmem, ⟨15, _⟩ => ⟨S256x1024, .bf16⟩
  | .local _ .vmem, ⟨16, _⟩ => ⟨S256x1024, .bf16⟩
  | .local _ .vmem, ⟨17, _⟩ => ⟨S1x4x128x256, .f32⟩
  | .local _ .vmem, ⟨18, _⟩ => ⟨S1x4x128x256, .f32⟩
  | .local _ .vmem, ⟨19, _⟩ => ⟨S4x256x128, .f32⟩
  | _, _ => ⟨S16896x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v1484 : BitVec 1 := Scalar.cmpi .eq arg1 c31_i32
  let v1485 : BitVec 32 := Scalar.extui v1484
  let c0_i32_557 : BitVec 32 := 0#32
  let v1486 : BitVec 1 := Scalar.cmpi .ne v1485 c0_i32_557
  v1486

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c72_i32 : BitVec 32 := 72#32
  let c0_i32_0 : BitVec 32 := 0#32
  ![v2.toNat, c72_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16896x9728 : Shape := ⟨2, ![16896, 9728]⟩
abbrev S16x512 : Shape := ⟨2, ![16, 512]⟩
abbrev S512 : Shape := ⟨1, ![512]⟩
abbrev S256 : Shape := ⟨1, ![256]⟩
abbrev S16384x512 : Shape := ⟨2, ![16384, 512]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩
abbrev S_ : Shape := ⟨0, ![]⟩
abbrev S16384x1024 : Shape := ⟨2, ![16384, 1024]⟩
abbrev S2x8192x1024 : Shape := ⟨3, ![2, 8192, 1024]⟩
abbrev S2x8192x4x256 : Shape := ⟨4, ![2, 8192, 4, 256]⟩
abbrev S2x4x8192x256 : Shape := ⟨4, ![2, 4, 8192, 256]⟩
abbrev S16384x16 : Shape := ⟨2, ![16384, 16]⟩
abbrev S2x8192x16 : Shape := ⟨3, ![2, 8192, 16]⟩
abbrev S1x1x512 : Shape := ⟨3, ![1, 1, 512]⟩
abbrev S2x4x128x256 : Shape := ⟨4, ![2, 4, 128, 256]⟩
abbrev S2x4x128x64x128 : Shape := ⟨5, ![2, 4, 128, 64, 128]⟩
abbrev S128x2x4x64x128 : Shape := ⟨5, ![128, 2, 4, 64, 128]⟩
abbrev S2x4x128x64x256 : Shape := ⟨5, ![2, 4, 128, 64, 256]⟩
abbrev S128x2x4x64x256 : Shape := ⟨5, ![128, 2, 4, 64, 256]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S64x64 : Shape := ⟨2, ![64, 64]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩

abbrev nBuf : Space → Nat
  | .hbm => 169
  | .vmem => 0
  | .smem => 0
  | _ => 0

abbrev hbmTy0_0 (i : Nat) : BufTy := match i % 128 with
  | 0 => ⟨S16896x9728, .f32⟩
  | 1 => ⟨S16x512, .f32⟩
  | 2 => ⟨S512, .f32⟩
  | 3 => ⟨S256, .f32⟩
  | 4 => ⟨S16384x512, .f32⟩
  | 5 => ⟨S2x8192x512, .f32⟩
  | 6 => ⟨S2x8192x4x128, .f32⟩
  | 7 => ⟨S2x4x8192x128, .f32⟩
  | 8 => ⟨S_, .f32⟩
  | 9 => ⟨S2x4x8192x128, .f32⟩
  | 10 => ⟨S2x4x8192x128, .f32⟩
  | 11 => ⟨S16384x512, .f32⟩
  | 12 => ⟨S2x8192x512, .f32⟩
  | 13 => ⟨S2x8192x4x128, .f32⟩
  | 14 => ⟨S2x4x8192x128, .f32⟩
  | 15 => ⟨S16384x1024, .f32⟩
  | 16 => ⟨S2x8192x1024, .f32⟩
  | 17 => ⟨S2x8192x4x256, .f32⟩
  | 18 => ⟨S2x4x8192x256, .f32⟩
  | 19 => ⟨S16384x16, .f32⟩
  | 20 => ⟨S2x8192x16, .f32⟩
  | 21 => ⟨S2x8192x512, .f32⟩
  | 22 => ⟨S1x1x512, .f32⟩
  | 23 => ⟨S2x8192x512, .f32⟩
  | 24 => ⟨S2x8192x512, .f32⟩
  | 25 => ⟨S2x8192x512, .f32⟩
  | 26 => ⟨S_, .f32⟩
  | 27 => ⟨S2x8192x512, .f32⟩
  | 28 => ⟨S2x8192x512, .f32⟩
  | 29 => ⟨S2x8192x512, .f32⟩
  | 30 => ⟨S2x8192x512, .f32⟩
  | 31 => ⟨S2x8192x512, .f32⟩
  | 32 => ⟨S2x8192x512, .f32⟩
  | 33 => ⟨S2x8192x512, .f32⟩
  | 34 => ⟨S2x8192x512, .f32⟩
  | 35 => ⟨S_, .f32⟩
  | 36 => ⟨S2x8192x512, .f32⟩
  | 37 => ⟨S2x8192x512, .f32⟩
  | 38 => ⟨S2x8192x4x128, .f32⟩
  | 39 => ⟨S2x4x8192x128, .f32⟩
  | 40 => ⟨S_, .f32⟩
  | 41 => ⟨S2x4x128x256, .f32⟩
  | 42 => ⟨S2x4x128x64x128, .f32⟩
  | 43 => ⟨S128x2x4x64x128, .f32⟩
  | 44 => ⟨S2x4x128x64x128, .f32⟩
  | 45 => ⟨S128x2x4x64x128, .f32⟩
  | 46 => ⟨S2x4x128x64x256, .f32⟩
  | 47 => ⟨S128x2x4x64x256, .f32⟩
  | 48 => ⟨S2x4x128x64x128, .f32⟩
  | 49 => ⟨S128x2x4x64x128, .f32⟩
  | 50 => ⟨S_, .f32⟩
  | 51 => ⟨S128x2x4x64x256, .f32⟩
  | 52 => ⟨S_, .i32⟩
  | 53 => ⟨S128x2x4x64x128, .f32⟩
  | 54 => ⟨S128x2x4x64x128, .f32⟩
  | 55 => ⟨S128x2x4x64x256, .f32⟩
  | 56 => ⟨S128x2x4x64x128, .f32⟩
  | 57 => ⟨S_, .i32⟩
  | 58 => ⟨S2x4x128x256, .f32⟩
  | 59 => ⟨S128x2x4x64x256, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S1x2x4x64x128, .f32⟩
  | 67 => ⟨S2x4x64x128, .f32⟩
  | 68 => ⟨S_, .i32⟩
  | 69 => ⟨S_, .i32⟩
  | 70 => ⟨S_, .i32⟩
  | 71 => ⟨S_, .i32⟩
  | 72 => ⟨S1x2x4x64x128, .f32⟩
  | 73 => ⟨S2x4x64x128, .f32⟩
  | 74 => ⟨S_, .i32⟩
  | 75 => ⟨S_, .i32⟩
  | 76 => ⟨S_, .i32⟩
  | 77 => ⟨S_, .i32⟩
  | 78 => ⟨S1x2x4x64x256, .f32⟩
  | 79 => ⟨S2x4x64x256, .f32⟩
  | 80 => ⟨S_, .i32⟩
  | 81 => ⟨S_, .i32⟩
  | 82 => ⟨S_, .i32⟩
  | 83 => ⟨S_, .i32⟩
  | 84 => ⟨S1x2x4x64x128, .f32⟩
  | 85 => ⟨S2x4x64x128, .f32⟩
  | 86 => ⟨S_, .f32⟩
  | 87 => ⟨S_, .f32⟩
  | 88 => ⟨S2x4x64x128, .f32⟩
  | 89 => ⟨S2x4x64x128, .f32⟩
  | 90 => ⟨S2x4x64x128, .f32⟩
  | 91 => ⟨S2x4x64x128, .f32⟩
  | 92 => ⟨S2x4x64x128, .f32⟩
  | 93 => ⟨S2x4x64x128, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S2x4x64x64, .f32⟩
  | 106 => ⟨S_, .f32⟩
  | 107 => ⟨S_, .f32⟩
  | 108 => ⟨S2x4x64x64, .i1⟩
  | 109 => ⟨S2x4x64x64, .f32⟩
  | 110 => ⟨S2x4x64x64, .f32⟩
  | 111 => ⟨S2x4x64x256, .f32⟩
  | 112 => ⟨S2x4x64x256, .f32⟩
  | 113 => ⟨S2x4x64x256, .f32⟩
  | 114 => ⟨S2x4x1x128, .f32⟩
  | 115 => ⟨S2x4x128, .f32⟩
  | 116 => ⟨S2x4x128, .f32⟩
  | 117 => ⟨S2x4x128x1, .f32⟩
  | 118 => ⟨S2x4x128x256, .f32⟩
  | 119 => ⟨S2x4x128x256, .f32⟩
  | 120 => ⟨S2x4x64x128, .f32⟩
  | 121 => ⟨S2x4x64x128, .f32⟩
  | 122 => ⟨S2x4x64x128, .f32⟩
  | 123 => ⟨S2x4x64x128, .f32⟩
  | 124 => ⟨S2x4x128x256, .f32⟩
  | 125 => ⟨S2x4x128x256, .f32⟩
  | 126 => ⟨S1x2x4x64x256, .f32⟩
  | 127 => ⟨S_, .i32⟩
  | _ => ⟨S16896x9728, .f32⟩

abbrev hbmTy0_1 (i : Nat) : BufTy := match i % 128 with
  | 0 => ⟨S_, .i32⟩
  | 1 => ⟨S_, .i32⟩
  | 2 => ⟨S_, .i32⟩
  | 3 => ⟨S128x2x4x64x256, .f32⟩
  | 4 => ⟨S_, .i32⟩
  | 5 => ⟨S_, .i32⟩
  | 6 => ⟨S2x4x128x64x256, .f32⟩
  | 7 => ⟨S2x4x8192x256, .f32⟩
  | 8 => ⟨S2x8192x4x256, .f32⟩
  | 9 => ⟨S2x8192x4x256, .f32⟩
  | 10 => ⟨S_, .f32⟩
  | 11 => ⟨S2x8192x4, .f32⟩
  | 12 => ⟨S2x8192x4x1, .f32⟩
  | 13 => ⟨S_, .f32⟩
  | 14 => ⟨S2x8192x4x1, .f32⟩
  | 15 => ⟨S2x8192x4x1, .f32⟩
  | 16 => ⟨S_, .f32⟩
  | 17 => ⟨S2x8192x4x1, .f32⟩
  | 18 => ⟨S2x8192x4x1, .f32⟩
  | 19 => ⟨S2x8192x4x1, .f32⟩
  | 20 => ⟨S2x8192x4x256, .f32⟩
  | 21 => ⟨S2x8192x4x256, .f32⟩
  | 22 => ⟨S1x1x1x256, .f32⟩
  | 23 => ⟨S2x8192x4x256, .f32⟩
  | 24 => ⟨S2x8192x4x256, .f32⟩
  | 25 => ⟨S16384x1024, .f32⟩
  | 26 => ⟨S2x8192x1024, .f32⟩
  | 27 => ⟨S2x8192x4x256, .f32⟩
  | 28 => ⟨S2x8192x4x256, .f32⟩
  | 29 => ⟨S2x8192x4x256, .f32⟩
  | 30 => ⟨S_, .f32⟩
  | 31 => ⟨S2x8192x4x256, .f32⟩
  | 32 => ⟨S2x8192x4x256, .f32⟩
  | 33 => ⟨S_, .f32⟩
  | 34 => ⟨S2x8192x4x256, .f32⟩
  | 35 => ⟨S2x8192x4x256, .f32⟩
  | 36 => ⟨S2x8192x4x256, .f32⟩
  | 37 => ⟨S2x8192x4x256, .f32⟩
  | 38 => ⟨S2x8192x1024, .f32⟩
  | 39 => ⟨S16384x1024, .f32⟩
  | 40 => ⟨S16384x1024, .bf16⟩
  | _ => ⟨S16896x9728, .f32⟩

abbrev hbmTy (i : Nat) : BufTy := match i / 128 with
  | 0 => hbmTy0_0 i
  | 1 => hbmTy0_1 i
  | _ => ⟨S16896x9728, .f32⟩

abbrev bufTy : (tb : Table) → Fin (tcTables nBuf tb) → BufTy
  | .hbm, ⟨i, _⟩ => hbmTy i
  | _, _ => ⟨S16896x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_c : Ref sig .tc := ⟨.hbm, 52, rfl⟩
abbrev main_v43_0 : Ref sig .tc := ⟨.hbm, 53, rfl⟩
abbrev main_v43_1 : Ref sig .tc := ⟨.hbm, 54, rfl⟩
abbrev main_v43_2 : Ref sig .tc := ⟨.hbm, 55, rfl⟩
abbrev main_v43_3 : Ref sig .tc := ⟨.hbm, 56, rfl⟩
abbrev main_v43_4 : Ref sig .tc := ⟨.hbm, 57, rfl⟩
abbrev main_v43_5 : Ref sig .tc := ⟨.hbm, 58, rfl⟩
abbrev main_v43_6 : Ref sig .tc := ⟨.hbm, 59, rfl⟩
abbrev main_while0c_c_13 : Ref sig .tc := ⟨.hbm, 60, rfl⟩
abbrev main_while0c_v68 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_c_1 : Ref sig .tc := ⟨.hbm, 64, rfl⟩
abbrev main_while0b_call0_c_2 : Ref sig .tc := ⟨.hbm, 65, rfl⟩
abbrev main_while0b_call0_v0 : Ref sig .tc := ⟨.hbm, 66, rfl⟩
abbrev main_while0b_v68 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_c_2 : Ref sig .tc := ⟨.hbm, 71, rfl⟩
abbrev main_while0b_call1_v0 : Ref sig .tc := ⟨.hbm, 72, rfl⟩
abbrev main_while0b_v69 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v0 : Ref sig .tc := ⟨.hbm, 78, rfl⟩
abbrev main_while0b_v70 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v0 : Ref sig .tc := ⟨.hbm, 84, rfl⟩
abbrev main_while0b_v71 : Ref sig .tc := ⟨.hbm, 85, rfl⟩
abbrev main_while0b_call4_call0_cst : Ref sig .tc := ⟨.hbm, 86, rfl⟩
abbrev main_while0b_call4_call0_v0 : Ref sig .tc := ⟨.hbm, 87, rfl⟩
abbrev main_while0b_v72 : Ref sig .tc := ⟨.hbm, 88, rfl⟩
abbrev main_while0b_v73 : Ref sig .tc := ⟨.hbm, 89, rfl⟩
abbrev main_while0b_v74 : Ref sig .tc := ⟨.hbm, 90, rfl⟩
abbrev main_while0b_v75 : Ref sig .tc := ⟨.hbm, 91, rfl⟩
abbrev main_while0b_v76 : Ref sig .tc := ⟨.hbm, 92, rfl⟩
abbrev main_while0b_v77 : Ref sig .tc := ⟨.hbm, 93, rfl⟩
abbrev main_while0b_c_13 : Ref sig .tc := ⟨.hbm, 94, rfl⟩
abbrev main_while0b_v78 : Ref sig .tc := ⟨.hbm, 95, rfl⟩
abbrev main_while0b_call5_v0 : Ref sig .tc := ⟨.hbm, 96, rfl⟩
abbrev main_while0b_call5_c : Ref sig .tc := ⟨.hbm, 97, rfl⟩
abbrev main_while0b_call5_v1 : Ref sig .tc := ⟨.hbm, 98, rfl⟩
abbrev main_while0b_call5_v2 : Ref sig .tc := ⟨.hbm, 99, rfl⟩
abbrev main_while0b_call5_v3 : Ref sig .tc := ⟨.hbm, 100, rfl⟩
abbrev main_while0b_call5_v4 : Ref sig .tc := ⟨.hbm, 101, rfl⟩
abbrev main_while0b_call5_c_0 : Ref sig .tc := ⟨.hbm, 102, rfl⟩
abbrev main_while0b_call5_v5 : Ref sig .tc := ⟨.hbm, 103, rfl⟩
abbrev main_while0b_v79 : Ref sig .tc := ⟨.hbm, 104, rfl⟩
abbrev main_while0b_v80 : Ref sig .tc := ⟨.hbm, 105, rfl⟩
abbrev main_while0b_cst_14 : Ref sig .tc := ⟨.hbm, 106, rfl⟩
abbrev main_while0b_call6_v0 : Ref sig .tc := ⟨.hbm, 107, rfl⟩
abbrev main_while0b_call6_v1 : Ref sig .tc := ⟨.hbm, 108, rfl⟩
abbrev main_while0b_call6_v2 : Ref sig .tc := ⟨.hbm, 109, rfl⟩
abbrev main_while0b_v81 : Ref sig .tc := ⟨.hbm, 110, rfl⟩
abbrev main_while0b_v82 : Ref sig .tc := ⟨.hbm, 111, rfl⟩
abbrev main_while0b_v83 : Ref sig .tc := ⟨.hbm, 112, rfl⟩
abbrev main_while0b_v84 : Ref sig .tc := ⟨.hbm, 113, rfl⟩
abbrev main_while0b_v85 : Ref sig .tc := ⟨.hbm, 114, rfl⟩
abbrev main_while0b_v86 : Ref sig .tc := ⟨.hbm, 115, rfl⟩
abbrev main_while0b_v87 : Ref sig .tc := ⟨.hbm, 116, rfl⟩
abbrev main_while0b_v88 : Ref sig .tc := ⟨.hbm, 117, rfl⟩
abbrev main_while0b_v89 : Ref sig .tc := ⟨.hbm, 118, rfl⟩
abbrev main_while0b_v90 : Ref sig .tc := ⟨.hbm, 119, rfl⟩
abbrev main_while0b_v91 : Ref sig .tc := ⟨.hbm, 120, rfl⟩
abbrev main_while0b_v92 : Ref sig .tc := ⟨.hbm, 121, rfl⟩
abbrev main_while0b_v93 : Ref sig .tc := ⟨.hbm, 122, rfl⟩
abbrev main_while0b_v94 : Ref sig .tc := ⟨.hbm, 123, rfl⟩
abbrev main_while0b_v95 : Ref sig .tc := ⟨.hbm, 124, rfl⟩
abbrev main_while0b_v96 : Ref sig .tc := ⟨.hbm, 125, rfl⟩
abbrev main_while0b_call7_v0 : Ref sig .tc := ⟨.hbm, 126, rfl⟩
abbrev main_while0b_call7_c : Ref sig .tc := ⟨.hbm, 127, rfl⟩
abbrev main_while0b_call7_c_0 : Ref sig .tc := ⟨.hbm, 128, rfl⟩
abbrev main_while0b_call7_c_1 : Ref sig .tc := ⟨.hbm, 129, rfl⟩
abbrev main_while0b_call7_c_2 : Ref sig .tc := ⟨.hbm, 130, rfl⟩
abbrev main_while0b_v97 : Ref sig .tc := ⟨.hbm, 131, rfl⟩
abbrev main_while0b_c_15 : Ref sig .tc := ⟨.hbm, 132, rfl⟩
abbrev main_while0b_v98 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_cst_4 : Ref sig .tc := ⟨.hbm, 138, rfl⟩
abbrev main_v48 : Ref sig .tc := ⟨.hbm, 139, rfl⟩
abbrev main_v49 : Ref sig .tc := ⟨.hbm, 140, rfl⟩
abbrev main_cst_5 : Ref sig .tc := ⟨.hbm, 141, rfl⟩
abbrev main_v50 : Ref sig .tc := ⟨.hbm, 142, rfl⟩
abbrev main_v51 : Ref sig .tc := ⟨.hbm, 143, rfl⟩
abbrev main_cst_6 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_call8_v0 : Ref sig .tc := ⟨.hbm, 156, rfl⟩
abbrev main_call8_v1 : Ref sig .tc := ⟨.hbm, 157, rfl⟩
abbrev main_call8_cst : Ref sig .tc := ⟨.hbm, 158, rfl⟩
abbrev main_call8_v2 : Ref sig .tc := ⟨.hbm, 159, rfl⟩
abbrev main_call8_v3 : Ref sig .tc := ⟨.hbm, 160, rfl⟩
abbrev main_call8_cst_0 : Ref sig .tc := ⟨.hbm, 161, rfl⟩
abbrev main_call8_v4 : Ref sig .tc := ⟨.hbm, 162, rfl⟩
abbrev main_call8_v5 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩

abbrev nD : Nat := 1
abbrev τ : Topo := Topo.v7x

variable {F : FTy → Type} [FloatOps F]

abbrev main_while0_count : Scf.Loop 32 := ⟨0#32, 128#32, 1#32⟩
-- ==== Norm.lean ====
abbrev S16896x2048 : Shape := ⟨2, ![16896, 2048]⟩
abbrev S2048 : Shape := ⟨1, ![2048]⟩
abbrev S1x2048 : Shape := ⟨2, ![1, 2048]⟩
abbrev S768x2048 : Shape := ⟨2, ![768, 2048]⟩
abbrev S768 : Shape := ⟨1, ![768]⟩
abbrev S768x1 : Shape := ⟨2, ![768, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S1x2048, .f32⟩
  | .hbm, ⟨3, _⟩ => ⟨S16896x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S768x2048, .bf16⟩
  | .local _ .vmem, ⟨4, _⟩ => ⟨S768x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16896x2048 : Shape := ⟨2, ![16896, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S16896x2048, .f32⟩
  | .hbm, ⟨3, _⟩ => ⟨S_, .f32⟩
  | .hbm, ⟨4, _⟩ => ⟨S16896, .f32⟩
  | .hbm, ⟨5, _⟩ => ⟨S16896x1, .f32⟩
  | .hbm, ⟨6, _⟩ => ⟨S_, .f32⟩
  | .hbm, ⟨7, _⟩ => ⟨S16896x1, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S16896x1, .f32⟩
  | .hbm, ⟨13, _⟩ => ⟨S16896x2048, .f32⟩
  | .hbm, ⟨14, _⟩ => ⟨S16896x2048, .f32⟩
  | .hbm, ⟨15, _⟩ => ⟨S1x2048, .f32⟩
  | .hbm, ⟨16, _⟩ => ⟨S16896x2048, .f32⟩
  | .hbm, ⟨17, _⟩ => ⟨S16896x2048, .f32⟩
  | .hbm, ⟨18, _⟩ => ⟨S16896x2048, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InProj.lean ====
abbrev S16896x2048 : Shape := ⟨2, ![16896, 2048]⟩
abbrev S2048x9304 : Shape := ⟨2, ![2048, 9304]⟩
abbrev S2048x512 : Shape := ⟨2, ![2048, 512]⟩
abbrev S2048x1024 : Shape := ⟨2, ![2048, 1024]⟩
abbrev S2048x256 : Shape := ⟨2, ![2048, 256]⟩
abbrev S2048x2048 : Shape := ⟨2, ![2048, 2048]⟩
abbrev S2048x64 : Shape := ⟨2, ![2048, 64]⟩
abbrev S2048x16 : Shape := ⟨2, ![2048, 16]⟩
abbrev S2048x8 : Shape := ⟨2, ![2048, 8]⟩
abbrev S_ : Shape := ⟨0, ![]⟩
abbrev S2048x424 : Shape := ⟨2, ![2048, 424]⟩
abbrev S2048x9728 : Shape := ⟨2, ![2048, 9728]⟩
abbrev S16896x9728 : Shape := ⟨2, ![16896, 9728]⟩
abbrev S1536x2048 : Shape := ⟨2, ![1536, 2048]⟩
abbrev S1536x512 : Shape := ⟨2, ![1536, 512]⟩

abbrev nBuf : Space → Nat
  | .hbm => 20
  | .vmem => 6
  | .smem => 0
  | _ => 0

abbrev bufTy : (tb : Table) → Fin (tcTables nBuf tb) → BufTy
  | .hbm, ⟨0, _⟩ => ⟨S16896x2048, .f32⟩
  | .hbm, ⟨1, _⟩ => ⟨S2048x9304, .f32⟩
  | .hbm, ⟨2, _⟩ => ⟨S16896x2048, .bf16⟩
  | .hbm, ⟨3, _⟩ => ⟨S2048x512, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x512, .f32⟩
  | .hbm, ⟨11, _⟩ => ⟨S2048x2048, .f32⟩
  | .hbm, ⟨12, _⟩ => ⟨S2048x2048, .f32⟩
  | .hbm, ⟨13, _⟩ => ⟨S2048x64, .f32⟩
  | .hbm, ⟨14, _⟩ => ⟨S2048x16, .f32⟩
  | .hbm, ⟨15, _⟩ => ⟨S2048x8, .f32⟩
  | .hbm, ⟨16, _⟩ => ⟨S_, .f32⟩
  | .hbm, ⟨17, _⟩ => ⟨S2048x424, .f32⟩
  | .hbm, ⟨18, _⟩ => ⟨S2048x9728, .f32⟩
  | .hbm, ⟨19, _⟩ => ⟨S16896x9728, .f32⟩
  | .local _ .vmem, ⟨0, _⟩ => ⟨S1536x2048, .bf16⟩
  | .local _ .vmem, ⟨1, _⟩ => ⟨S1536x2048, .bf16⟩
  | .local _ .vmem, ⟨2, _⟩ => ⟨S2048x512, .f32⟩
  | .local _ .vmem, ⟨3, _⟩ => ⟨S2048x512, .f32⟩
  | .local _ .vmem, ⟨4, _⟩ => ⟨S1536x512, .f32⟩
  | .local _ .vmem, ⟨5, _⟩ => ⟨S1536x512, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S16896x2048 : Shape := ⟨2, ![16896, 2048]⟩
abbrev S2048x9304 : Shape := ⟨2, ![2048, 9304]⟩
abbrev S16896x9304 : Shape := ⟨2, ![16896, 9304]⟩
abbrev S16896x512 : Shape := ⟨2, ![16896, 512]⟩
abbrev S16896x1024 : Shape := ⟨2, ![16896, 1024]⟩
abbrev S16896x256 : Shape := ⟨2, ![16896, 256]⟩
abbrev S16896x64 : Shape := ⟨2, ![16896, 64]⟩
abbrev S16896x16 : Shape := ⟨2, ![16896, 16]⟩
abbrev S16896x8 : Shape := ⟨2, ![16896, 8]⟩
abbrev S_ : Shape := ⟨0, ![]⟩
abbrev S16896x9728 : Shape := ⟨2, ![16896, 9728]⟩

abbrev nBuf : Space → Nat
  | .hbm => 20
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048x9304, .f32⟩
  | .hbm, ⟨2, _⟩ => ⟨S16896x9304, .f32⟩
  | .hbm, ⟨3, _⟩ => ⟨S16896x512, .f32⟩
  | .hbm, ⟨4, _⟩ => ⟨S16896x512, .f32⟩
  | .hbm, ⟨5, _⟩ => ⟨S16896x1024, .f32⟩
  | .hbm, ⟨6, _⟩ => ⟨S16896x1024, .f32⟩
  | .hbm, ⟨7, _⟩ => ⟨S16896x1024, .f32⟩
  | .hbm, ⟨8, _⟩ => ⟨S16896x256, .f32⟩
  | .hbm, ⟨9, _⟩ => ⟨S16896x256, .f32⟩
  | .hbm, ⟨10, _⟩ => ⟨S16896x512, .f32⟩
  | .hbm, ⟨11, _⟩ => ⟨S16896x2048, .f32⟩
  | .hbm, ⟨12, _⟩ => ⟨S16896x2048, .f32⟩
  | .hbm, ⟨13, _⟩ => ⟨S16896x64, .f32⟩
  | .hbm, ⟨14, _⟩ => ⟨S16896x16, .f32⟩
  | .hbm, ⟨15, _⟩ => ⟨S16896x8, .f32⟩
  | .hbm, ⟨16, _⟩ => ⟨S16896x9304, .f32⟩
  | .hbm, ⟨17, _⟩ => ⟨S_, .i32⟩
  | .hbm, ⟨18, _⟩ => ⟨S_, .f32⟩
  | .hbm, ⟨19, _⟩ => ⟨S16896x9728, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Merge.lean ====
abbrev S16896x1024 : Shape := ⟨2, ![16896, 1024]⟩
abbrev S1024x2048 : Shape := ⟨2, ![1024, 2048]⟩
abbrev S16896x9728 : Shape := ⟨2, ![16896, 9728]⟩
abbrev S16896x2048 : Shape := ⟨2, ![16896, 2048]⟩
abbrev S1536x1024 : Shape := ⟨2, ![1536, 1024]⟩
abbrev S1024x512 : Shape := ⟨2, ![1024, 512]⟩
abbrev S1536x512 : Shape := ⟨2, ![1536, 512]⟩

abbrev nBuf : Space → Nat
  | .hbm => 8
  | .vmem => 14
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S1024x2048, .f32⟩
  | .hbm, ⟨3, _⟩ => ⟨S1024x2048, .f32⟩
  | .hbm, ⟨4, _⟩ => ⟨S16896x9728, .f32⟩
  | .hbm, ⟨5, _⟩ => ⟨S16896x1024, .bf16⟩
  | .hbm, ⟨6, _⟩ => ⟨S16896x1024, .bf16⟩
  | .hbm, ⟨7, _⟩ => ⟨S16896x2048, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1536x512, .f32⟩
  | .local _ .vmem, ⟨9, _⟩ => ⟨S1536x512, .f32⟩
  | .local _ .vmem, ⟨10, _⟩ => ⟨S1536x512, .f32⟩
  | .local _ .vmem, ⟨11, _⟩ => ⟨S1536x512, .f32⟩
  | .local _ .vmem, ⟨12, _⟩ => ⟨S1536x512, .bf16⟩
  | .local _ .vmem, ⟨13, _⟩ => ⟨S1536x512, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16896x1024 : Shape := ⟨2, ![16896, 1024]⟩
abbrev S1024x2048 : Shape := ⟨2, ![1024, 2048]⟩
abbrev S16896x9728 : Shape := ⟨2, ![16896, 9728]⟩
abbrev S16896x2048 : Shape := ⟨2, ![16896, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S1024x2048, .f32⟩
  | .hbm, ⟨3, _⟩ => ⟨S1024x2048, .f32⟩
  | .hbm, ⟨4, _⟩ => ⟨S16896x9728, .f32⟩
  | .hbm, ⟨5, _⟩ => ⟨S16896x2048, .f32⟩
  | .hbm, ⟨6, _⟩ => ⟨S16896x2048, .f32⟩
  | .hbm, ⟨7, _⟩ => ⟨S16896x2048, .f32⟩
  | .hbm, ⟨8, _⟩ => ⟨S16896x2048, .f32⟩
  | .hbm, ⟨9, _⟩ => ⟨S_, .f32⟩
  | .hbm, ⟨10, _⟩ => ⟨S16896x2048, .f32⟩
  | .hbm, ⟨11, _⟩ => ⟨S16896x2048, .f32⟩
  | .hbm, ⟨12, _⟩ => ⟨S_, .f32⟩
  | .hbm, ⟨13, _⟩ => ⟨S16896x2048, .f32⟩
  | .hbm, ⟨14, _⟩ => ⟨S16896x2048, .f32⟩
  | .hbm, ⟨15, _⟩ => ⟨S16896x2048, .f32⟩
  | .hbm, ⟨16, _⟩ => ⟨S16896x2048, .f32⟩
  | .hbm, ⟨17, _⟩ => ⟨S16896x2048, .f32⟩
  | .hbm, ⟨18, _⟩ => ⟨S16896x2048, .f32⟩
  | .hbm, ⟨19, _⟩ => ⟨S_, .f32⟩
  | .hbm, ⟨20, _⟩ => ⟨S16896x2048, .f32⟩
  | .hbm, ⟨21, _⟩ => ⟨S16896x2048, .f32⟩
  | .hbm, ⟨22, _⟩ => ⟨S_, .f32⟩
  | .hbm, ⟨23, _⟩ => ⟨S16896x2048, .f32⟩
  | .hbm, ⟨24, _⟩ => ⟨S16896x2048, .f32⟩
  | .hbm, ⟨25, _⟩ => ⟨S16896x2048, .f32⟩
  | .hbm, ⟨26, _⟩ => ⟨S16896x2048, .f32⟩
  | .hbm, ⟨27, _⟩ => ⟨S16896x2048, .f32⟩
  | .hbm, ⟨28, _⟩ => ⟨S16896x2048, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== OutProj.lean ====
abbrev S16896x2048 : Shape := ⟨2, ![16896, 2048]⟩
abbrev S2048x2048 : Shape := ⟨2, ![2048, 2048]⟩
abbrev S1536x2048 : Shape := ⟨2, ![1536, 2048]⟩
abbrev S2048x512 : Shape := ⟨2, ![2048, 512]⟩
abbrev S1536x512 : Shape := ⟨2, ![1536, 512]⟩

abbrev nBuf : Space → Nat
  | .hbm => 5
  | .vmem => 8
  | .smem => 0
  | _ => 0

abbrev bufTy : (tb : Table) → Fin (tcTables nBuf tb) → BufTy
  | .hbm, ⟨0, _⟩ => ⟨S16896x2048, .f32⟩
  | .hbm, ⟨1, _⟩ => ⟨S2048x2048, .f32⟩
  | .hbm, ⟨2, _⟩ => ⟨S16896x2048, .f32⟩
  | .hbm, ⟨3, _⟩ => ⟨S16896x2048, .bf16⟩
  | .hbm, ⟨4, _⟩ => ⟨S16896x2048, .f32⟩
  | .local _ .vmem, ⟨0, _⟩ => ⟨S1536x2048, .bf16⟩
  | .local _ .vmem, ⟨1, _⟩ => ⟨S1536x2048, .bf16⟩
  | .local _ .vmem, ⟨2, _⟩ => ⟨S2048x512, .f32⟩
  | .local _ .vmem, ⟨3, _⟩ => ⟨S2048x512, .f32⟩
  | .local _ .vmem, ⟨4, _⟩ => ⟨S1536x512, .f32⟩
  | .local _ .vmem, ⟨5, _⟩ => ⟨S1536x512, .f32⟩
  | .local _ .vmem, ⟨6, _⟩ => ⟨S1536x512, .f32⟩
  | .local _ .vmem, ⟨7, _⟩ => ⟨S1536x512, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S16896x2048 : Shape := ⟨2, ![16896, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048x2048, .f32⟩
  | .hbm, ⟨2, _⟩ => ⟨S16896x2048, .f32⟩
  | .hbm, ⟨3, _⟩ => ⟨S16896x2048, .f32⟩
  | .hbm, ⟨4, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Swiglu.lean ====
abbrev S16896x2048 : Shape := ⟨2, ![16896, 2048]⟩
abbrev S2048x5632 : Shape := ⟨2, ![2048, 5632]⟩
abbrev S16896x5632 : Shape := ⟨2, ![16896, 5632]⟩
abbrev S1536x2048 : Shape := ⟨2, ![1536, 2048]⟩
abbrev S2048x256 : Shape := ⟨2, ![2048, 256]⟩
abbrev S1536x256 : Shape := ⟨2, ![1536, 256]⟩

abbrev nBuf : Space → Nat
  | .hbm => 5
  | .vmem => 8
  | .smem => 0
  | _ => 0

abbrev bufTy : (tb : Table) → Fin (tcTables nBuf tb) → BufTy
  | .hbm, ⟨0, _⟩ => ⟨S16896x2048, .f32⟩
  | .hbm, ⟨1, _⟩ => ⟨S2048x5632, .f32⟩
  | .hbm, ⟨2, _⟩ => ⟨S2048x5632, .f32⟩
  | .hbm, ⟨3, _⟩ => ⟨S16896x2048, .bf16⟩
  | .hbm, ⟨4, _⟩ => ⟨S16896x5632, .bf16⟩
  | .local _ .vmem, ⟨0, _⟩ => ⟨S1536x2048, .bf16⟩
  | .local _ .vmem, ⟨1, _⟩ => ⟨S1536x2048, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1536x256, .bf16⟩
  | .local _ .vmem, ⟨7, _⟩ => ⟨S1536x256, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluReferenceIdeal.lean ====
abbrev S16896x2048 : Shape := ⟨2, ![16896, 2048]⟩
abbrev S2048x5632 : Shape := ⟨2, ![2048, 5632]⟩
abbrev S16896x5632 : Shape := ⟨2, ![16896, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048x5632, .f32⟩
  | .hbm, ⟨2, _⟩ => ⟨S2048x5632, .f32⟩
  | .hbm, ⟨3, _⟩ => ⟨S16896x5632, .f32⟩
  | .hbm, ⟨4, _⟩ => ⟨S16896x5632, .f32⟩
  | .hbm, ⟨5, _⟩ => ⟨S16896x5632, .f32⟩
  | .hbm, ⟨6, _⟩ => ⟨S_, .f32⟩
  | .hbm, ⟨7, _⟩ => ⟨S16896x5632, .f32⟩
  | .hbm, ⟨8, _⟩ => ⟨S16896x5632, .f32⟩
  | .hbm, ⟨9, _⟩ => ⟨S_, .f32⟩
  | .hbm, ⟨10, _⟩ => ⟨S16896x5632, .f32⟩
  | .hbm, ⟨11, _⟩ => ⟨S16896x5632, .f32⟩
  | .hbm, ⟨12, _⟩ => ⟨S16896x5632, .f32⟩
  | .hbm, ⟨13, _⟩ => ⟨S16896x5632, .f32⟩
  | .hbm, ⟨14, _⟩ => ⟨S16896x5632, .f32⟩
  | .hbm, ⟨15, _⟩ => ⟨S16896x5632, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== FfnDown.lean ====
abbrev S16896x5632 : Shape := ⟨2, ![16896, 5632]⟩
abbrev S5632x2048 : Shape := ⟨2, ![5632, 2048]⟩
abbrev S16896x2048 : Shape := ⟨2, ![16896, 2048]⟩
abbrev S768x5632 : Shape := ⟨2, ![768, 5632]⟩
abbrev S5632x512 : Shape := ⟨2, ![5632, 512]⟩
abbrev S768x512 : Shape := ⟨2, ![768, 512]⟩

abbrev nBuf : Space → Nat
  | .hbm => 5
  | .vmem => 8
  | .smem => 0
  | _ => 0

abbrev bufTy : (tb : Table) → Fin (tcTables nBuf tb) → BufTy
  | .hbm, ⟨0, _⟩ => ⟨S16896x5632, .f32⟩
  | .hbm, ⟨1, _⟩ => ⟨S5632x2048, .f32⟩
  | .hbm, ⟨2, _⟩ => ⟨S16896x2048, .f32⟩
  | .hbm, ⟨3, _⟩ => ⟨S16896x5632, .bf16⟩
  | .hbm, ⟨4, _⟩ => ⟨S16896x2048, .f32⟩
  | .local _ .vmem, ⟨0, _⟩ => ⟨S768x5632, .bf16⟩
  | .local _ .vmem, ⟨1, _⟩ => ⟨S768x5632, .bf16⟩
  | .local _ .vmem, ⟨2, _⟩ => ⟨S5632x512, .f32⟩
  | .local _ .vmem, ⟨3, _⟩ => ⟨S5632x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | _, _ => ⟨S16896x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownReferenceIdeal.lean ====
abbrev S16896x5632 : Shape := ⟨2, ![16896, 5632]⟩
abbrev S5632x2048 : Shape := ⟨2, ![5632, 2048]⟩
abbrev S16896x2048 : Shape := ⟨2, ![16896, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16896x5632, .f32⟩
  | .hbm, ⟨1, _⟩ => ⟨S5632x2048, .f32⟩
  | .hbm, ⟨2, _⟩ => ⟨S16896x2048, .f32⟩
  | .hbm, ⟨3, _⟩ => ⟨S16896x2048, .f32⟩
  | .hbm, ⟨4, _⟩ => ⟨S16896x2048, .f32⟩
  | _, _ => ⟨S16896x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Prep.lean ====
abbrev S16896x9728 : Shape := ⟨2, ![16896, 9728]⟩
abbrev S128 : Shape := ⟨1, ![128]⟩
abbrev S64 : Shape := ⟨1, ![64]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S16 : Shape := ⟨1, ![16]⟩
abbrev S_ : Shape := ⟨0, ![]⟩
abbrev S1x16 : Shape := ⟨2, ![1, 16]⟩
abbrev S32x16 : Shape := ⟨2, ![32, 16]⟩
abbrev S512 : Shape := ⟨1, ![512]⟩
abbrev S16896 : Shape := ⟨1, ![16896]⟩
abbrev S16896x1 : Shape := ⟨2, ![16896, 1]⟩
abbrev S1x64 : Shape := ⟨2, ![1, 64]⟩
abbrev S16896x64 : Shape := ⟨2, ![16896, 64]⟩
abbrev S16896x128 : Shape := ⟨2, ![16896, 128]⟩
abbrev S1x16896x1x128 : Shape := ⟨4, ![1, 16896, 1, 128]⟩
abbrev S32 : Shape := ⟨1, ![32]⟩
abbrev S1x32 : Shape := ⟨2, ![1, 32]⟩
abbrev S16896x32 : Shape := ⟨2, ![16896, 32]⟩
abbrev S1x16896x1x64 : Shape := ⟨4, ![1, 16896, 1, 64]⟩
abbrev S1x16896x2x64 : Shape := ⟨4, ![1, 16896, 2, 64]⟩
abbrev S1x128 : Shape := ⟨2, ![1, 128]⟩
abbrev S16896x1024 : Shape := ⟨2, ![16896, 1024]⟩
abbrev S16896x256 : Shape := ⟨2, ![16896, 256]⟩
abbrev S16896x512 : Shape := ⟨2, ![16896, 512]⟩
abbrev S256x16896 : Shape := ⟨2, ![256, 16896]⟩
abbrev S64x16896 : Shape := ⟨2, ![64, 16896]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512x64 : Shape := ⟨2, ![512, 64]⟩
abbrev S256x512 : Shape := ⟨2, ![256, 512]⟩
abbrev S64x512 : Shape := ⟨2, ![64, 512]⟩
abbrev S512x1 : Shape := ⟨2, ![512, 1]⟩
abbrev S128x512 : Shape := ⟨2, ![128, 512]⟩

abbrev nBuf : Space → Nat
  | .hbm => 81
  | .vmem => 39
  | .smem => 0
  | _ => 0

abbrev bufTy : (tb : Table) → Fin (tcTables nBuf tb) → BufTy
  | .hbm, ⟨0, _⟩ => ⟨S16896x9728, .f32⟩
  | .hbm, ⟨1, _⟩ => ⟨S128, .f32⟩
  | .hbm, ⟨2, _⟩ => ⟨S128, .f32⟩
  | .hbm, ⟨3, _⟩ => ⟨S64, .f32⟩
  | .hbm, ⟨4, _⟩ => ⟨S8192, .i32⟩
  | .hbm, ⟨5, _⟩ => ⟨S1x8192, .i32⟩
  | .hbm, ⟨6, _⟩ => ⟨S2x8192, .i32⟩
  | .hbm, ⟨7, _⟩ => ⟨S16384, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S1x16, .i32⟩
  | .hbm, ⟨13, _⟩ => ⟨S32x16, .i32⟩
  | .hbm, ⟨14, _⟩ => ⟨S512, .i32⟩
  | .hbm, ⟨15, _⟩ => ⟨S16896, .i32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S16896, .f32⟩
  | .hbm, ⟨25, _⟩ => ⟨S16896x1, .f32⟩
  | .hbm, ⟨26, _⟩ => ⟨S1x64, .f32⟩
  | .hbm, ⟨27, _⟩ => ⟨S16896x64, .f32⟩
  | .hbm, ⟨28, _⟩ => ⟨S16896x64, .f32⟩
  | .hbm, ⟨29, _⟩ => ⟨S16896x64, .f32⟩
  | .hbm, ⟨30, _⟩ => ⟨S16896x64, .f32⟩
  | .hbm, ⟨31, _⟩ => ⟨S16896x64, .f32⟩
  | .hbm, ⟨32, _⟩ => ⟨S16896x128, .f32⟩
  | .hbm, ⟨33, _⟩ => ⟨S1x16896x1x128, .f32⟩
  | .hbm, ⟨34, _⟩ => ⟨S1x16896x1x128, .f32⟩
  | .hbm, ⟨35, _⟩ => ⟨S16896x128, .f32⟩
  | .hbm, ⟨36, _⟩ => ⟨S16896x64, .f32⟩
  | .hbm, ⟨37, _⟩ => ⟨S16896x128, .f32⟩
  | .hbm, ⟨38, _⟩ => ⟨S1x16896x1x128, .f32⟩
  | .hbm, ⟨39, _⟩ => ⟨S1x16896x1x128, .f32⟩
  | .hbm, ⟨40, _⟩ => ⟨S16896x128, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S16896, .f32⟩
  | .hbm, ⟨50, _⟩ => ⟨S16896x1, .f32⟩
  | .hbm, ⟨51, _⟩ => ⟨S1x32, .f32⟩
  | .hbm, ⟨52, _⟩ => ⟨S16896x32, .f32⟩
  | .hbm, ⟨53, _⟩ => ⟨S16896x32, .f32⟩
  | .hbm, ⟨54, _⟩ => ⟨S16896x32, .f32⟩
  | .hbm, ⟨55, _⟩ => ⟨S16896x32, .f32⟩
  | .hbm, ⟨56, _⟩ => ⟨S16896x32, .f32⟩
  | .hbm, ⟨57, _⟩ => ⟨S16896x64, .f32⟩
  | .hbm, ⟨58, _⟩ => ⟨S1x16896x1x64, .f32⟩
  | .hbm, ⟨59, _⟩ => ⟨S1x16896x2x64, .f32⟩
  | .hbm, ⟨60, _⟩ => ⟨S16896x128, .f32⟩
  | .hbm, ⟨61, _⟩ => ⟨S16896x32, .f32⟩
  | .hbm, ⟨62, _⟩ => ⟨S16896x64, .f32⟩
  | .hbm, ⟨63, _⟩ => ⟨S1x16896x1x64, .f32⟩
  | .hbm, ⟨64, _⟩ => ⟨S1x16896x2x64, .f32⟩
  | .hbm, ⟨65, _⟩ => ⟨S16896x128, .f32⟩
  | .hbm, ⟨66, _⟩ => ⟨S_, .i32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S16896x1024, .bf16⟩
  | .hbm, ⟨73, _⟩ => ⟨S16896x256, .f32⟩
  | .hbm, ⟨74, _⟩ => ⟨S16896x256, .bf16⟩
  | .hbm, ⟨75, _⟩ => ⟨S16896x512, .bf16⟩
  | .hbm, ⟨76, _⟩ => ⟨S16896x512, .bf16⟩
  | .hbm, ⟨77, _⟩ => ⟨S16896x64, .f32⟩
  | .hbm, ⟨78, _⟩ => ⟨S16896x64, .bf16⟩
  | .hbm, ⟨79, _⟩ => ⟨S256x16896, .bf16⟩
  | .hbm, ⟨80, _⟩ => ⟨S64x16896, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S512x1024, .bf16⟩
  | .local _ .vmem, ⟨22, _⟩ => ⟨S512x1024, .bf16⟩
  | .local _ .vmem, ⟨23, _⟩ => ⟨S512x256, .f32⟩
  | .local _ .vmem, ⟨24, _⟩ => ⟨S512x256, .f32⟩
  | .local _ .vmem, ⟨25, _⟩ => ⟨S512x256, .bf16⟩
  | .local _ .vmem, ⟨26, _⟩ => ⟨S512x256, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x64, .f32⟩
  | .local _ .vmem, ⟨32, _⟩ => ⟨S512x64, .f32⟩
  | .local _ .vmem, ⟨33, _⟩ => ⟨S512x64, .bf16⟩
  | .local _ .vmem, ⟨34, _⟩ => ⟨S512x64, .bf16⟩
  | .local _ .vmem, ⟨35, _⟩ => ⟨S256x512, .bf16⟩
  | .local _ .vmem, ⟨36, _⟩ => ⟨S256x512, .bf16⟩
  | .local _ .vmem, ⟨37, _⟩ => ⟨S64x512, .bf16⟩
  | .local _ .vmem, ⟨38, _⟩ => ⟨S64x512, .bf16⟩
  | _, _ => ⟨S16896x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_c_3 : Ref sig .tc := ⟨.hbm, 66, rfl⟩
abbrev main_call0_v0 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61_0 : Ref sig .tc := ⟨.hbm, 72, rfl⟩
abbrev main_v61_1 : Ref sig .tc := ⟨.hbm, 73, rfl⟩
abbrev main_v61_2 : Ref sig .tc := ⟨.hbm, 74, rfl⟩
abbrev main_v61_3 : Ref sig .tc := ⟨.hbm, 75, rfl⟩
abbrev main_v61_4 : Ref sig .tc := ⟨.hbm, 76, rfl⟩
abbrev main_v61_5 : Ref sig .tc := ⟨.hbm, 77, rfl⟩
abbrev main_v61_6 : Ref sig .tc := ⟨.hbm, 78, rfl⟩
abbrev main_v61_7 : Ref sig .tc := ⟨.hbm, 79, rfl⟩
abbrev main_v61_8 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c72_i32 : BitVec 32 := 72#32
  let c0_i32 : BitVec 32 := 0#32
  ![arg0.toNat, c72_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== PrepReferenceIdeal.lean ====
abbrev S16896x9728 : Shape := ⟨2, ![16896, 9728]⟩
abbrev S128 : Shape := ⟨1, ![128]⟩
abbrev S64 : Shape := ⟨1, ![64]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S16 : Shape := ⟨1, ![16]⟩
abbrev S_ : Shape := ⟨0, ![]⟩
abbrev S1x16 : Shape := ⟨2, ![1, 16]⟩
abbrev S32x16 : Shape := ⟨2, ![32, 16]⟩
abbrev S512 : Shape := ⟨1, ![512]⟩
abbrev S16896 : Shape := ⟨1, ![16896]⟩
abbrev S16896x1024 : Shape := ⟨2, ![16896, 1024]⟩
abbrev S16896x8x128 : Shape := ⟨3, ![16896, 8, 128]⟩
abbrev S16896x8 : Shape := ⟨2, ![16896, 8]⟩
abbrev S16896x8x1 : Shape := ⟨3, ![16896, 8, 1]⟩
abbrev S1x1x128 : Shape := ⟨3, ![1, 1, 128]⟩
abbrev S16896x1 : Shape := ⟨2, ![16896, 1]⟩
abbrev S1x64 : Shape := ⟨2, ![1, 64]⟩
abbrev S16896x64 : Shape := ⟨2, ![16896, 64]⟩
abbrev S16896x1x64 : Shape := ⟨3, ![16896, 1, 64]⟩
abbrev S16896x8x64 : Shape := ⟨3, ![16896, 8, 64]⟩
abbrev S16896x256 : Shape := ⟨2, ![16896, 256]⟩
abbrev S16896x2x128 : Shape := ⟨3, ![16896, 2, 128]⟩
abbrev S16896x2 : Shape := ⟨2, ![16896, 2]⟩
abbrev S16896x2x1 : Shape := ⟨3, ![16896, 2, 1]⟩
abbrev S16896x2x64 : Shape := ⟨3, ![16896, 2, 64]⟩
abbrev S16896x512 : Shape := ⟨2, ![16896, 512]⟩
abbrev S32 : Shape := ⟨1, ![32]⟩
abbrev S1x32 : Shape := ⟨2, ![1, 32]⟩
abbrev S16896x32 : Shape := ⟨2, ![16896, 32]⟩
abbrev S16896x1x32 : Shape := ⟨3, ![16896, 1, 32]⟩
abbrev S16896x8x32 : Shape := ⟨3, ![16896, 8, 32]⟩
abbrev S16896x2x256 : Shape := ⟨3, ![16896, 2, 256]⟩
abbrev S256x16896 : Shape := ⟨2, ![256, 16896]⟩
abbrev S64x16896 : Shape := ⟨2, ![64, 16896]⟩

abbrev nBuf : Space → Nat
  | .hbm => 214
  | .vmem => 0
  | .smem => 0
  | _ => 0

abbrev hbmTy0_0 (i : Nat) : BufTy := match i % 128 with
  | 0 => ⟨S16896x9728, .f32⟩
  | 1 => ⟨S128, .f32⟩
  | 2 => ⟨S128, .f32⟩
  | 3 => ⟨S64, .f32⟩
  | 4 => ⟨S8192, .i32⟩
  | 5 => ⟨S1x8192, .i32⟩
  | 6 => ⟨S2x8192, .i32⟩
  | 7 => ⟨S16384, .i32⟩
  | 8 => ⟨S16, .i32⟩
  | 9 => ⟨S_, .i32⟩
  | 10 => ⟨S16, .i32⟩
  | 11 => ⟨S16, .i32⟩
  | 12 => ⟨S1x16, .i32⟩
  | 13 => ⟨S32x16, .i32⟩
  | 14 => ⟨S512, .i32⟩
  | 15 => ⟨S16896, .i32⟩
  | 16 => ⟨S16896x1024, .f32⟩
  | 17 => ⟨S16896x8x128, .f32⟩
  | 18 => ⟨S16896x8x128, .f32⟩
  | 19 => ⟨S_, .f32⟩
  | 20 => ⟨S16896x8, .f32⟩
  | 21 => ⟨S16896x8x1, .f32⟩
  | 22 => ⟨S_, .f32⟩
  | 23 => ⟨S16896x8x1, .f32⟩
  | 24 => ⟨S16896x8x1, .f32⟩
  | 25 => ⟨S_, .f32⟩
  | 26 => ⟨S16896x8x1, .f32⟩
  | 27 => ⟨S16896x8x1, .f32⟩
  | 28 => ⟨S16896x8x1, .f32⟩
  | 29 => ⟨S16896x8x128, .f32⟩
  | 30 => ⟨S16896x8x128, .f32⟩
  | 31 => ⟨S1x1x128, .f32⟩
  | 32 => ⟨S16896x8x128, .f32⟩
  | 33 => ⟨S16896x8x128, .f32⟩
  | 34 => ⟨S64, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S16896, .f32⟩
  | 43 => ⟨S16896x1, .f32⟩
  | 44 => ⟨S1x64, .f32⟩
  | 45 => ⟨S16896x64, .f32⟩
  | 46 => ⟨S16896x64, .f32⟩
  | 47 => ⟨S16896x64, .f32⟩
  | 48 => ⟨S16896x64, .f32⟩
  | 49 => ⟨S16896x1x64, .f32⟩
  | 50 => ⟨S16896x64, .f32⟩
  | 51 => ⟨S16896x1x64, .f32⟩
  | 52 => ⟨S16896x8x64, .f32⟩
  | 53 => ⟨S16896x8x64, .f32⟩
  | 54 => ⟨S16896x8x64, .f32⟩
  | 55 => ⟨S16896x8x64, .f32⟩
  | 56 => ⟨S16896x8x64, .f32⟩
  | 57 => ⟨S16896x8x64, .f32⟩
  | 58 => ⟨S16896x8x64, .f32⟩
  | 59 => ⟨S16896x8x64, .f32⟩
  | 60 => ⟨S16896x8x64, .f32⟩
  | 61 => ⟨S16896x8x64, .f32⟩
  | 62 => ⟨S16896x8x64, .f32⟩
  | 63 => ⟨S16896x8x64, .f32⟩
  | 64 => ⟨S16896x8x128, .f32⟩
  | 65 => ⟨S16896x256, .f32⟩
  | 66 => ⟨S16896x2x128, .f32⟩
  | 67 => ⟨S16896x2x128, .f32⟩
  | 68 => ⟨S_, .f32⟩
  | 69 => ⟨S16896x2, .f32⟩
  | 70 => ⟨S16896x2x1, .f32⟩
  | 71 => ⟨S_, .f32⟩
  | 72 => ⟨S16896x2x1, .f32⟩
  | 73 => ⟨S16896x2x1, .f32⟩
  | 74 => ⟨S_, .f32⟩
  | 75 => ⟨S16896x2x1, .f32⟩
  | 76 => ⟨S16896x2x1, .f32⟩
  | 77 => ⟨S16896x2x1, .f32⟩
  | 78 => ⟨S16896x2x128, .f32⟩
  | 79 => ⟨S16896x2x128, .f32⟩
  | 80 => ⟨S1x1x128, .f32⟩
  | 81 => ⟨S16896x2x128, .f32⟩
  | 82 => ⟨S16896x2x128, .f32⟩
  | 83 => ⟨S64, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S16896, .f32⟩
  | 92 => ⟨S16896x1, .f32⟩
  | 93 => ⟨S1x64, .f32⟩
  | 94 => ⟨S16896x64, .f32⟩
  | 95 => ⟨S16896x64, .f32⟩
  | 96 => ⟨S16896x64, .f32⟩
  | 97 => ⟨S16896x64, .f32⟩
  | 98 => ⟨S16896x1x64, .f32⟩
  | 99 => ⟨S16896x64, .f32⟩
  | 100 => ⟨S16896x1x64, .f32⟩
  | 101 => ⟨S16896x2x64, .f32⟩
  | 102 => ⟨S16896x2x64, .f32⟩
  | 103 => ⟨S16896x2x64, .f32⟩
  | 104 => ⟨S16896x2x64, .f32⟩
  | 105 => ⟨S16896x2x64, .f32⟩
  | 106 => ⟨S16896x2x64, .f32⟩
  | 107 => ⟨S16896x2x64, .f32⟩
  | 108 => ⟨S16896x2x64, .f32⟩
  | 109 => ⟨S16896x2x64, .f32⟩
  | 110 => ⟨S16896x2x64, .f32⟩
  | 111 => ⟨S16896x2x64, .f32⟩
  | 112 => ⟨S16896x2x64, .f32⟩
  | 113 => ⟨S16896x2x128, .f32⟩
  | 114 => ⟨S16896x256, .f32⟩
  | 115 => ⟨S16896x2x128, .f32⟩
  | 116 => ⟨S16896x512, .f32⟩
  | 117 => ⟨S16896x8x64, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S16896, .f32⟩
  | 127 => ⟨S16896x1, .f32⟩
  | _ => ⟨S16896x9728, .f32⟩

abbrev hbmTy0_1 (i : Nat) : BufTy := match i % 128 with
  | 0 => ⟨S1x32, .f32⟩
  | 1 => ⟨S16896x32, .f32⟩
  | 2 => ⟨S16896x32, .f32⟩
  | 3 => ⟨S16896x32, .f32⟩
  | 4 => ⟨S16896x32, .f32⟩
  | 5 => ⟨S16896x1x32, .f32⟩
  | 6 => ⟨S16896x32, .f32⟩
  | 7 => ⟨S16896x1x32, .f32⟩
  | 8 => ⟨S16896x8x32, .f32⟩
  | 9 => ⟨S16896x8x32, .f32⟩
  | 10 => ⟨S16896x8x32, .f32⟩
  | 11 => ⟨S16896x8x32, .f32⟩
  | 12 => ⟨S16896x8x32, .f32⟩
  | 13 => ⟨S16896x8x32, .f32⟩
  | 14 => ⟨S16896x8x32, .f32⟩
  | 15 => ⟨S16896x8x32, .f32⟩
  | 16 => ⟨S16896x8x32, .f32⟩
  | 17 => ⟨S16896x8x32, .f32⟩
  | 18 => ⟨S16896x8x32, .f32⟩
  | 19 => ⟨S16896x8x32, .f32⟩
  | 20 => ⟨S16896x8x64, .f32⟩
  | 21 => ⟨S16896x64, .f32⟩
  | 22 => ⟨S16896x64, .f32⟩
  | 23 => ⟨S_, .f32⟩
  | 24 => ⟨S16896, .f32⟩
  | 25 => ⟨S16896x1, .f32⟩
  | 26 => ⟨S_, .f32⟩
  | 27 => ⟨S16896x1, .f32⟩
  | 28 => ⟨S16896x1, .f32⟩
  | 29 => ⟨S_, .f32⟩
  | 30 => ⟨S16896x1, .f32⟩
  | 31 => ⟨S16896x1, .f32⟩
  | 32 => ⟨S16896x1, .f32⟩
  | 33 => ⟨S16896x64, .f32⟩
  | 34 => ⟨S16896x64, .f32⟩
  | 35 => ⟨S1x64, .f32⟩
  | 36 => ⟨S16896x64, .f32⟩
  | 37 => ⟨S16896x64, .f32⟩
  | 38 => ⟨S16896x1x64, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S16896, .f32⟩
  | 48 => ⟨S16896x1, .f32⟩
  | 49 => ⟨S1x32, .f32⟩
  | 50 => ⟨S16896x32, .f32⟩
  | 51 => ⟨S16896x32, .f32⟩
  | 52 => ⟨S16896x32, .f32⟩
  | 53 => ⟨S16896x32, .f32⟩
  | 54 => ⟨S16896x1x32, .f32⟩
  | 55 => ⟨S16896x32, .f32⟩
  | 56 => ⟨S16896x1x32, .f32⟩
  | 57 => ⟨S16896x1x32, .f32⟩
  | 58 => ⟨S16896x1x32, .f32⟩
  | 59 => ⟨S16896x1x32, .f32⟩
  | 60 => ⟨S16896x1x32, .f32⟩
  | 61 => ⟨S16896x1x32, .f32⟩
  | 62 => ⟨S16896x1x32, .f32⟩
  | 63 => ⟨S16896x1x32, .f32⟩
  | 64 => ⟨S16896x1x32, .f32⟩
  | 65 => ⟨S16896x1x64, .f32⟩
  | 66 => ⟨S16896x64, .f32⟩
  | 67 => ⟨S16896x256, .f32⟩
  | 68 => ⟨S_, .f32⟩
  | 69 => ⟨S16896x2x128, .f32⟩
  | 70 => ⟨S16896x2x256, .f32⟩
  | 71 => ⟨S16896x512, .f32⟩
  | 72 => ⟨S_, .f32⟩
  | 73 => ⟨S16896x8x128, .f32⟩
  | 74 => ⟨S16896x8x128, .f32⟩
  | 75 => ⟨S16896x1024, .f32⟩
  | 76 => ⟨S16896x1024, .bf16⟩
  | 77 => ⟨S16896x256, .bf16⟩
  | 78 => ⟨S16896x512, .bf16⟩
  | 79 => ⟨S16896x512, .f32⟩
  | 80 => ⟨S16896x512, .bf16⟩
  | 81 => ⟨S16896x64, .bf16⟩
  | 82 => ⟨S256x16896, .f32⟩
  | 83 => ⟨S256x16896, .bf16⟩
  | 84 => ⟨S64x16896, .f32⟩
  | 85 => ⟨S64x16896, .bf16⟩
  | _ => ⟨S16896x9728, .f32⟩

abbrev hbmTy (i : Nat) : BufTy := match i / 128 with
  | 0 => hbmTy0_0 i
  | 1 => hbmTy0_1 i
  | _ => ⟨S16896x9728, .f32⟩

abbrev bufTy : (tb : Table) → Fin (tcTables nBuf tb) → BufTy
  | .hbm, ⟨i, _⟩ => hbmTy i
  | _, _ => ⟨S16896x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_9 : Ref sig .tc := ⟨.hbm, 120, rfl⟩
abbrev main_v105 : Ref sig .tc := ⟨.hbm, 121, rfl⟩
abbrev main_v106 : Ref sig .tc := ⟨.hbm, 122, rfl⟩
abbrev main_cst_10 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_cst_11 : Ref sig .tc := ⟨.hbm, 151, rfl⟩
abbrev main_v134 : Ref sig .tc := ⟨.hbm, 152, rfl⟩
abbrev main_v135 : Ref sig .tc := ⟨.hbm, 153, rfl⟩
abbrev main_cst_12 : Ref sig .tc := ⟨.hbm, 154, rfl⟩
abbrev main_v136 : Ref sig .tc := ⟨.hbm, 155, rfl⟩
abbrev main_v137 : Ref sig .tc := ⟨.hbm, 156, rfl⟩
abbrev main_cst_13 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_cst_14 : Ref sig .tc := ⟨.hbm, 169, rfl⟩
abbrev main_v149 : Ref sig .tc := ⟨.hbm, 170, rfl⟩
abbrev main_v150 : Ref sig .tc := ⟨.hbm, 171, rfl⟩
abbrev main_cst_15 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_cst_16 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_cst_17 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩

abbrev nD : Nat := 1
abbrev τ : Topo := Topo.v7x

variable {F : FTy → Type} [FloatOps F]
-- ==== MoeUp.lean ====
abbrev S74 : Shape := ⟨1, ![74]⟩
abbrev S1 : Shape := ⟨1, ![1]⟩
abbrev S37888x1024 : Shape := ⟨2, ![37888, 1024]⟩
abbrev S8x2048x5632 : Shape := ⟨3, ![8, 2048, 5632]⟩
abbrev S37888x5632 : Shape := ⟨2, ![37888, 5632]⟩
abbrev S512x1024 : Shape := ⟨2, ![512, 1024]⟩
abbrev S1x2048x512 : Shape := ⟨3, ![1, 2048, 512]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 4
  | .vmem => 8
  | .smem => 2
  | _ => 0

abbrev bufTy : (tb : Table) → Fin (tcTables nBuf tb) → BufTy
  | .hbm, ⟨0, _⟩ => ⟨S37888x1024, .i32⟩
  | .hbm, ⟨1, _⟩ => ⟨S8x2048x5632, .f32⟩
  | .hbm, ⟨2, _⟩ => ⟨S8x2048x5632, .f32⟩
  | .hbm, ⟨3, _⟩ => ⟨S37888x5632, .bf16⟩
  | .local _ .vmem, ⟨0, _⟩ => ⟨S512x1024, .i32⟩
  | .local _ .vmem, ⟨1, _⟩ => ⟨S512x1024, .i32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x512, .bf16⟩
  | .local _ .vmem, ⟨7, _⟩ => ⟨S512x512, .bf16⟩
  | .local _ .smem, ⟨0, _⟩ => ⟨S74, .i32⟩
  | .local _ .smem, ⟨1, _⟩ => ⟨S1, .i32⟩
  | _, _ => ⟨S37888x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 74], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpReferenceIdeal.lean ====
abbrev S74 : Shape := ⟨1, ![74]⟩
abbrev S1 : Shape := ⟨1, ![1]⟩
abbrev S37888x1024 : Shape := ⟨2, ![37888, 1024]⟩
abbrev S8x2048x5632 : Shape := ⟨3, ![8, 2048, 5632]⟩
abbrev S_ : Shape := ⟨0, ![]⟩
abbrev S37888x2048 : Shape := ⟨2, ![37888, 2048]⟩
abbrev S37888x5632 : Shape := ⟨2, ![37888, 5632]⟩
abbrev S1x2048x5632 : Shape := ⟨3, ![1, 2048, 5632]⟩
abbrev S2048x5632 : Shape := ⟨2, ![2048, 5632]⟩
abbrev S74x1 : Shape := ⟨2, ![74, 1]⟩
abbrev S74x512 : Shape := ⟨2, ![74, 512]⟩
abbrev S37888 : Shape := ⟨1, ![37888]⟩
abbrev S37888x1 : Shape := ⟨2, ![37888, 1]⟩

abbrev nBuf : Space → Nat
  | .hbm => 261
  | .vmem => 0
  | .smem => 0
  | _ => 0

abbrev hbmTy0_0 (i : Nat) : BufTy := match i % 128 with
  | 0 => ⟨S74, .i32⟩
  | 1 => ⟨S1, .i32⟩
  | 2 => ⟨S37888x1024, .i32⟩
  | 3 => ⟨S8x2048x5632, .f32⟩
  | 4 => ⟨S8x2048x5632, .f32⟩
  | 5 => ⟨S74, .i32⟩
  | 6 => ⟨S_, .i32⟩
  | 7 => ⟨S74, .i32⟩
  | 8 => ⟨S74, .i1⟩
  | 9 => ⟨S_, .i32⟩
  | 10 => ⟨S37888x1024, .i32⟩
  | 11 => ⟨S37888x1024, .i32⟩
  | 12 => ⟨S37888x1024, .f32⟩
  | 13 => ⟨S_, .i32⟩
  | 14 => ⟨S37888x1024, .i32⟩
  | 15 => ⟨S37888x1024, .i32⟩
  | 16 => ⟨S37888x1024, .f32⟩
  | 17 => ⟨S37888x2048, .f32⟩
  | 18 => ⟨S_, .f32⟩
  | 19 => ⟨S37888x5632, .f32⟩
  | 20 => ⟨S1x2048x5632, .f32⟩
  | 21 => ⟨S2048x5632, .f32⟩
  | 22 => ⟨S37888x5632, .f32⟩
  | 23 => ⟨S37888x5632, .f32⟩
  | 24 => ⟨S37888x5632, .f32⟩
  | 25 => ⟨S_, .f32⟩
  | 26 => ⟨S37888x5632, .f32⟩
  | 27 => ⟨S37888x5632, .f32⟩
  | 28 => ⟨S_, .f32⟩
  | 29 => ⟨S37888x5632, .f32⟩
  | 30 => ⟨S37888x5632, .f32⟩
  | 31 => ⟨S37888x5632, .f32⟩
  | 32 => ⟨S1x2048x5632, .f32⟩
  | 33 => ⟨S2048x5632, .f32⟩
  | 34 => ⟨S37888x5632, .f32⟩
  | 35 => ⟨S37888x5632, .f32⟩
  | 36 => ⟨S_, .i32⟩
  | 37 => ⟨S74, .i32⟩
  | 38 => ⟨S74, .i1⟩
  | 39 => ⟨S74, .i1⟩
  | 40 => ⟨S74x1, .i1⟩
  | 41 => ⟨S74x512, .i1⟩
  | 42 => ⟨S37888, .i1⟩
  | 43 => ⟨S37888x1, .i1⟩
  | 44 => ⟨S_, .f32⟩
  | 45 => ⟨S_, .f32⟩
  | 46 => ⟨S37888x5632, .i1⟩
  | 47 => ⟨S37888x5632, .f32⟩
  | 48 => ⟨S37888x5632, .f32⟩
  | 49 => ⟨S37888x5632, .f32⟩
  | 50 => ⟨S1x2048x5632, .f32⟩
  | 51 => ⟨S2048x5632, .f32⟩
  | 52 => ⟨S37888x5632, .f32⟩
  | 53 => ⟨S37888x5632, .f32⟩
  | 54 => ⟨S37888x5632, .f32⟩
  | 55 => ⟨S_, .f32⟩
  | 56 => ⟨S37888x5632, .f32⟩
  | 57 => ⟨S37888x5632, .f32⟩
  | 58 => ⟨S_, .f32⟩
  | 59 => ⟨S37888x5632, .f32⟩
  | 60 => ⟨S37888x5632, .f32⟩
  | 61 => ⟨S37888x5632, .f32⟩
  | 62 => ⟨S1x2048x5632, .f32⟩
  | 63 => ⟨S2048x5632, .f32⟩
  | 64 => ⟨S37888x5632, .f32⟩
  | 65 => ⟨S37888x5632, .f32⟩
  | 66 => ⟨S_, .i32⟩
  | 67 => ⟨S74, .i32⟩
  | 68 => ⟨S74, .i1⟩
  | 69 => ⟨S74, .i1⟩
  | 70 => ⟨S74x1, .i1⟩
  | 71 => ⟨S74x512, .i1⟩
  | 72 => ⟨S37888, .i1⟩
  | 73 => ⟨S37888x1, .i1⟩
  | 74 => ⟨S_, .f32⟩
  | 75 => ⟨S_, .f32⟩
  | 76 => ⟨S37888x5632, .i1⟩
  | 77 => ⟨S37888x5632, .f32⟩
  | 78 => ⟨S37888x5632, .f32⟩
  | 79 => ⟨S37888x5632, .f32⟩
  | 80 => ⟨S1x2048x5632, .f32⟩
  | 81 => ⟨S2048x5632, .f32⟩
  | 82 => ⟨S37888x5632, .f32⟩
  | 83 => ⟨S37888x5632, .f32⟩
  | 84 => ⟨S37888x5632, .f32⟩
  | 85 => ⟨S_, .f32⟩
  | 86 => ⟨S37888x5632, .f32⟩
  | 87 => ⟨S37888x5632, .f32⟩
  | 88 => ⟨S_, .f32⟩
  | 89 => ⟨S37888x5632, .f32⟩
  | 90 => ⟨S37888x5632, .f32⟩
  | 91 => ⟨S37888x5632, .f32⟩
  | 92 => ⟨S1x2048x5632, .f32⟩
  | 93 => ⟨S2048x5632, .f32⟩
  | 94 => ⟨S37888x5632, .f32⟩
  | 95 => ⟨S37888x5632, .f32⟩
  | 96 => ⟨S_, .i32⟩
  | 97 => ⟨S74, .i32⟩
  | 98 => ⟨S74, .i1⟩
  | 99 => ⟨S74, .i1⟩
  | 100 => ⟨S74x1, .i1⟩
  | 101 => ⟨S74x512, .i1⟩
  | 102 => ⟨S37888, .i1⟩
  | 103 => ⟨S37888x1, .i1⟩
  | 104 => ⟨S_, .f32⟩
  | 105 => ⟨S_, .f32⟩
  | 106 => ⟨S37888x5632, .i1⟩
  | 107 => ⟨S37888x5632, .f32⟩
  | 108 => ⟨S37888x5632, .f32⟩
  | 109 => ⟨S37888x5632, .f32⟩
  | 110 => ⟨S1x2048x5632, .f32⟩
  | 111 => ⟨S2048x5632, .f32⟩
  | 112 => ⟨S37888x5632, .f32⟩
  | 113 => ⟨S37888x5632, .f32⟩
  | 114 => ⟨S37888x5632, .f32⟩
  | 115 => ⟨S_, .f32⟩
  | 116 => ⟨S37888x5632, .f32⟩
  | 117 => ⟨S37888x5632, .f32⟩
  | 118 => ⟨S_, .f32⟩
  | 119 => ⟨S37888x5632, .f32⟩
  | 120 => ⟨S37888x5632, .f32⟩
  | 121 => ⟨S37888x5632, .f32⟩
  | 122 => ⟨S1x2048x5632, .f32⟩
  | 123 => ⟨S2048x5632, .f32⟩
  | 124 => ⟨S37888x5632, .f32⟩
  | 125 => ⟨S37888x5632, .f32⟩
  | 126 => ⟨S_, .i32⟩
  | 127 => ⟨S74, .i32⟩
  | _ => ⟨S74, .i32⟩

abbrev hbmTy0_1 (i : Nat) : BufTy := match i % 128 with
  | 0 => ⟨S74, .i1⟩
  | 1 => ⟨S74, .i1⟩
  | 2 => ⟨S74x1, .i1⟩
  | 3 => ⟨S74x512, .i1⟩
  | 4 => ⟨S37888, .i1⟩
  | 5 => ⟨S37888x1, .i1⟩
  | 6 => ⟨S_, .f32⟩
  | 7 => ⟨S_, .f32⟩
  | 8 => ⟨S37888x5632, .i1⟩
  | 9 => ⟨S37888x5632, .f32⟩
  | 10 => ⟨S37888x5632, .f32⟩
  | 11 => ⟨S37888x5632, .f32⟩
  | 12 => ⟨S1x2048x5632, .f32⟩
  | 13 => ⟨S2048x5632, .f32⟩
  | 14 => ⟨S37888x5632, .f32⟩
  | 15 => ⟨S37888x5632, .f32⟩
  | 16 => ⟨S37888x5632, .f32⟩
  | 17 => ⟨S_, .f32⟩
  | 18 => ⟨S37888x5632, .f32⟩
  | 19 => ⟨S37888x5632, .f32⟩
  | 20 => ⟨S_, .f32⟩
  | 21 => ⟨S37888x5632, .f32⟩
  | 22 => ⟨S37888x5632, .f32⟩
  | 23 => ⟨S37888x5632, .f32⟩
  | 24 => ⟨S1x2048x5632, .f32⟩
  | 25 => ⟨S2048x5632, .f32⟩
  | 26 => ⟨S37888x5632, .f32⟩
  | 27 => ⟨S37888x5632, .f32⟩
  | 28 => ⟨S_, .i32⟩
  | 29 => ⟨S74, .i32⟩
  | 30 => ⟨S74, .i1⟩
  | 31 => ⟨S74, .i1⟩
  | 32 => ⟨S74x1, .i1⟩
  | 33 => ⟨S74x512, .i1⟩
  | 34 => ⟨S37888, .i1⟩
  | 35 => ⟨S37888x1, .i1⟩
  | 36 => ⟨S_, .f32⟩
  | 37 => ⟨S_, .f32⟩
  | 38 => ⟨S37888x5632, .i1⟩
  | 39 => ⟨S37888x5632, .f32⟩
  | 40 => ⟨S37888x5632, .f32⟩
  | 41 => ⟨S37888x5632, .f32⟩
  | 42 => ⟨S1x2048x5632, .f32⟩
  | 43 => ⟨S2048x5632, .f32⟩
  | 44 => ⟨S37888x5632, .f32⟩
  | 45 => ⟨S37888x5632, .f32⟩
  | 46 => ⟨S37888x5632, .f32⟩
  | 47 => ⟨S_, .f32⟩
  | 48 => ⟨S37888x5632, .f32⟩
  | 49 => ⟨S37888x5632, .f32⟩
  | 50 => ⟨S_, .f32⟩
  | 51 => ⟨S37888x5632, .f32⟩
  | 52 => ⟨S37888x5632, .f32⟩
  | 53 => ⟨S37888x5632, .f32⟩
  | 54 => ⟨S1x2048x5632, .f32⟩
  | 55 => ⟨S2048x5632, .f32⟩
  | 56 => ⟨S37888x5632, .f32⟩
  | 57 => ⟨S37888x5632, .f32⟩
  | 58 => ⟨S_, .i32⟩
  | 59 => ⟨S74, .i32⟩
  | 60 => ⟨S74, .i1⟩
  | 61 => ⟨S74, .i1⟩
  | 62 => ⟨S74x1, .i1⟩
  | 63 => ⟨S74x512, .i1⟩
  | 64 => ⟨S37888, .i1⟩
  | 65 => ⟨S37888x1, .i1⟩
  | 66 => ⟨S_, .f32⟩
  | 67 => ⟨S_, .f32⟩
  | 68 => ⟨S37888x5632, .i1⟩
  | 69 => ⟨S37888x5632, .f32⟩
  | 70 => ⟨S37888x5632, .f32⟩
  | 71 => ⟨S37888x5632, .f32⟩
  | 72 => ⟨S1x2048x5632, .f32⟩
  | 73 => ⟨S2048x5632, .f32⟩
  | 74 => ⟨S37888x5632, .f32⟩
  | 75 => ⟨S37888x5632, .f32⟩
  | 76 => ⟨S37888x5632, .f32⟩
  | 77 => ⟨S_, .f32⟩
  | 78 => ⟨S37888x5632, .f32⟩
  | 79 => ⟨S37888x5632, .f32⟩
  | 80 => ⟨S_, .f32⟩
  | 81 => ⟨S37888x5632, .f32⟩
  | 82 => ⟨S37888x5632, .f32⟩
  | 83 => ⟨S37888x5632, .f32⟩
  | 84 => ⟨S1x2048x5632, .f32⟩
  | 85 => ⟨S2048x5632, .f32⟩
  | 86 => ⟨S37888x5632, .f32⟩
  | 87 => ⟨S37888x5632, .f32⟩
  | 88 => ⟨S_, .i32⟩
  | 89 => ⟨S74, .i32⟩
  | 90 => ⟨S74, .i1⟩
  | 91 => ⟨S74, .i1⟩
  | 92 => ⟨S74x1, .i1⟩
  | 93 => ⟨S74x512, .i1⟩
  | 94 => ⟨S37888, .i1⟩
  | 95 => ⟨S37888x1, .i1⟩
  | 96 => ⟨S_, .f32⟩
  | 97 => ⟨S_, .f32⟩
  | 98 => ⟨S37888x5632, .i1⟩
  | 99 => ⟨S37888x5632, .f32⟩
  | 100 => ⟨S37888x5632, .f32⟩
  | 101 => ⟨S37888x5632, .f32⟩
  | 102 => ⟨S1x2048x5632, .f32⟩
  | 103 => ⟨S2048x5632, .f32⟩
  | 104 => ⟨S37888x5632, .f32⟩
  | 105 => ⟨S37888x5632, .f32⟩
  | 106 => ⟨S37888x5632, .f32⟩
  | 107 => ⟨S_, .f32⟩
  | 108 => ⟨S37888x5632, .f32⟩
  | 109 => ⟨S37888x5632, .f32⟩
  | 110 => ⟨S_, .f32⟩
  | 111 => ⟨S37888x5632, .f32⟩
  | 112 => ⟨S37888x5632, .f32⟩
  | 113 => ⟨S37888x5632, .f32⟩
  | 114 => ⟨S1x2048x5632, .f32⟩
  | 115 => ⟨S2048x5632, .f32⟩
  | 116 => ⟨S37888x5632, .f32⟩
  | 117 => ⟨S37888x5632, .f32⟩
  | 118 => ⟨S_, .i32⟩
  | 119 => ⟨S74, .i32⟩
  | 120 => ⟨S74, .i1⟩
  | 121 => ⟨S74, .i1⟩
  | 122 => ⟨S74x1, .i1⟩
  | 123 => ⟨S74x512, .i1⟩
  | 124 => ⟨S37888, .i1⟩
  | 125 => ⟨S37888x1, .i1⟩
  | 126 => ⟨S_, .f32⟩
  | 127 => ⟨S_, .f32⟩
  | _ => ⟨S74, .i32⟩

abbrev hbmTy0_2 (i : Nat) : BufTy := match i % 128 with
  | 0 => ⟨S37888x5632, .i1⟩
  | 1 => ⟨S37888x5632, .f32⟩
  | 2 => ⟨S37888x5632, .f32⟩
  | 3 => ⟨S37888x5632, .f32⟩
  | 4 => ⟨S37888x5632, .bf16⟩
  | _ => ⟨S74, .i32⟩

abbrev hbmTy (i : Nat) : BufTy := match i / 128 with
  | 0 => hbmTy0_0 i
  | 1 => hbmTy0_1 i
  | 2 => hbmTy0_2 i
  | _ => ⟨S74, .i32⟩

abbrev bufTy : (tb : Table) → Fin (tcTables nBuf tb) → BufTy
  | .hbm, ⟨i, _⟩ => hbmTy i
  | _, _ => ⟨S74, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_3 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_4 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call4_v0 : Ref sig .tc := ⟨.hbm, 83, rfl⟩
abbrev main_call4_v1 : Ref sig .tc := ⟨.hbm, 84, rfl⟩
abbrev main_call4_cst : Ref sig .tc := ⟨.hbm, 85, rfl⟩
abbrev main_call4_v2 : Ref sig .tc := ⟨.hbm, 86, rfl⟩
abbrev main_call4_v3 : Ref sig .tc := ⟨.hbm, 87, rfl⟩
abbrev main_call4_cst_0 : Ref sig .tc := ⟨.hbm, 88, rfl⟩
abbrev main_call4_v4 : Ref sig .tc := ⟨.hbm, 89, rfl⟩
abbrev main_call4_v5 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_5 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_6 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_call6_v0 : Ref sig .tc := ⟨.hbm, 113, rfl⟩
abbrev main_call6_v1 : Ref sig .tc := ⟨.hbm, 114, rfl⟩
abbrev main_call6_cst : Ref sig .tc := ⟨.hbm, 115, rfl⟩
abbrev main_call6_v2 : Ref sig .tc := ⟨.hbm, 116, rfl⟩
abbrev main_call6_v3 : Ref sig .tc := ⟨.hbm, 117, rfl⟩
abbrev main_call6_cst_0 : Ref sig .tc := ⟨.hbm, 118, rfl⟩
abbrev main_call6_v4 : Ref sig .tc := ⟨.hbm, 119, rfl⟩
abbrev main_call6_v5 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_c_7 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_8 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_call8_v0 : Ref sig .tc := ⟨.hbm, 143, rfl⟩
abbrev main_call8_v1 : Ref sig .tc := ⟨.hbm, 144, rfl⟩
abbrev main_call8_cst : Ref sig .tc := ⟨.hbm, 145, rfl⟩
abbrev main_call8_v2 : Ref sig .tc := ⟨.hbm, 146, rfl⟩
abbrev main_call8_v3 : Ref sig .tc := ⟨.hbm, 147, rfl⟩
abbrev main_call8_cst_0 : Ref sig .tc := ⟨.hbm, 148, rfl⟩
abbrev main_call8_v4 : Ref sig .tc := ⟨.hbm, 149, rfl⟩
abbrev main_call8_v5 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_c_9 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_cst_10 : Ref sig .tc := ⟨.hbm, 164, rfl⟩
abbrev main_call9_v0 : Ref sig .tc := ⟨.hbm, 165, rfl⟩
abbrev main_call9_v1 : Ref sig .tc := ⟨.hbm, 166, rfl⟩
abbrev main_call9_v2 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_call10_v0 : Ref sig .tc := ⟨.hbm, 173, rfl⟩
abbrev main_call10_v1 : Ref sig .tc := ⟨.hbm, 174, rfl⟩
abbrev main_call10_cst : Ref sig .tc := ⟨.hbm, 175, rfl⟩
abbrev main_call10_v2 : Ref sig .tc := ⟨.hbm, 176, rfl⟩
abbrev main_call10_v3 : Ref sig .tc := ⟨.hbm, 177, rfl⟩
abbrev main_call10_cst_0 : Ref sig .tc := ⟨.hbm, 178, rfl⟩
abbrev main_call10_v4 : Ref sig .tc := ⟨.hbm, 179, rfl⟩
abbrev main_call10_v5 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_c_11 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_12 : Ref sig .tc := ⟨.hbm, 194, rfl⟩
abbrev main_call11_v0 : Ref sig .tc := ⟨.hbm, 195, rfl⟩
abbrev main_call11_v1 : Ref sig .tc := ⟨.hbm, 196, rfl⟩
abbrev main_call11_v2 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_call12_v0 : Ref sig .tc := ⟨.hbm, 203, rfl⟩
abbrev main_call12_v1 : Ref sig .tc := ⟨.hbm, 204, rfl⟩
abbrev main_call12_cst : Ref sig .tc := ⟨.hbm, 205, rfl⟩
abbrev main_call12_v2 : Ref sig .tc := ⟨.hbm, 206, rfl⟩
abbrev main_call12_v3 : Ref sig .tc := ⟨.hbm, 207, rfl⟩
abbrev main_call12_cst_0 : Ref sig .tc := ⟨.hbm, 208, rfl⟩
abbrev main_call12_v4 : Ref sig .tc := ⟨.hbm, 209, rfl⟩
abbrev main_call12_v5 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_c_13 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_cst_14 : Ref sig .tc := ⟨.hbm, 224, rfl⟩
abbrev main_call13_v0 : Ref sig .tc := ⟨.hbm, 225, rfl⟩
abbrev main_call13_v1 : Ref sig .tc := ⟨.hbm, 226, rfl⟩
abbrev main_call13_v2 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_call14_v0 : Ref sig .tc := ⟨.hbm, 233, rfl⟩
abbrev main_call14_v1 : Ref sig .tc := ⟨.hbm, 234, rfl⟩
abbrev main_call14_cst : Ref sig .tc := ⟨.hbm, 235, rfl⟩
abbrev main_call14_v2 : Ref sig .tc := ⟨.hbm, 236, rfl⟩
abbrev main_call14_v3 : Ref sig .tc := ⟨.hbm, 237, rfl⟩
abbrev main_call14_cst_0 : Ref sig .tc := ⟨.hbm, 238, rfl⟩
abbrev main_call14_v4 : Ref sig .tc := ⟨.hbm, 239, rfl⟩
abbrev main_call14_v5 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_c_15 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_cst_16 : Ref sig .tc := ⟨.hbm, 254, rfl⟩
abbrev main_call15_v0 : Ref sig .tc := ⟨.hbm, 255, rfl⟩
abbrev main_call15_v1 : Ref sig .tc := ⟨.hbm, 256, rfl⟩
abbrev main_call15_v2 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩

abbrev nD : Nat := 1
abbrev τ : Topo := Topo.v7x

variable {F : FTy → Type} [FloatOps F]
-- ==== MoeDown.lean ====
abbrev S74 : Shape := ⟨1, ![74]⟩
abbrev S1 : Shape := ⟨1, ![1]⟩
abbrev S37888x5632 : Shape := ⟨2, ![37888, 5632]⟩
abbrev S8x5632x2048 : Shape := ⟨3, ![8, 5632, 2048]⟩
abbrev S37888x2048 : Shape := ⟨2, ![37888, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 6
  | .smem => 2
  | _ => 0

abbrev bufTy : (tb : Table) → Fin (tcTables nBuf tb) → BufTy
  | .hbm, ⟨0, _⟩ => ⟨S37888x5632, .f32⟩
  | .hbm, ⟨1, _⟩ => ⟨S8x5632x2048, .f32⟩
  | .hbm, ⟨2, _⟩ => ⟨S37888x5632, .bf16⟩
  | .hbm, ⟨3, _⟩ => ⟨S37888x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .smem, ⟨0, _⟩ => ⟨S74, .i32⟩
  | .local _ .smem, ⟨1, _⟩ => ⟨S1, .i32⟩
  | _, _ => ⟨S37888x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_v1 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 74], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownReferenceIdeal.lean ====
abbrev S74 : Shape := ⟨1, ![74]⟩
abbrev S1 : Shape := ⟨1, ![1]⟩
abbrev S37888x5632 : Shape := ⟨2, ![37888, 5632]⟩
abbrev S8x5632x2048 : Shape := ⟨3, ![8, 5632, 2048]⟩
abbrev S_ : Shape := ⟨0, ![]⟩
abbrev S37888x2048 : Shape := ⟨2, ![37888, 2048]⟩
abbrev S74x1 : Shape := ⟨2, ![74, 1]⟩
abbrev S74x512 : Shape := ⟨2, ![74, 512]⟩
abbrev S37888 : Shape := ⟨1, ![37888]⟩
abbrev S37888x1 : Shape := ⟨2, ![37888, 1]⟩
abbrev S1x5632x2048 : Shape := ⟨3, ![1, 5632, 2048]⟩
abbrev S5632x2048 : Shape := ⟨2, ![5632, 2048]⟩

abbrev nBuf : Space → Nat
  | .hbm => 146
  | .vmem => 0
  | .smem => 0
  | _ => 0

abbrev hbmTy0_0 (i : Nat) : BufTy := match i % 128 with
  | 0 => ⟨S74, .i32⟩
  | 1 => ⟨S1, .i32⟩
  | 2 => ⟨S37888x5632, .f32⟩
  | 3 => ⟨S8x5632x2048, .f32⟩
  | 4 => ⟨S74, .i32⟩
  | 5 => ⟨S_, .i32⟩
  | 6 => ⟨S74, .i32⟩
  | 7 => ⟨S74, .i1⟩
  | 8 => ⟨S_, .f32⟩
  | 9 => ⟨S37888x2048, .f32⟩
  | 10 => ⟨S_, .i32⟩
  | 11 => ⟨S74, .i32⟩
  | 12 => ⟨S74, .i1⟩
  | 13 => ⟨S74, .i1⟩
  | 14 => ⟨S74x1, .i1⟩
  | 15 => ⟨S74x512, .i1⟩
  | 16 => ⟨S37888, .i1⟩
  | 17 => ⟨S37888x1, .i1⟩
  | 18 => ⟨S1x5632x2048, .f32⟩
  | 19 => ⟨S5632x2048, .f32⟩
  | 20 => ⟨S37888x2048, .f32⟩
  | 21 => ⟨S_, .f32⟩
  | 22 => ⟨S_, .f32⟩
  | 23 => ⟨S37888x2048, .i1⟩
  | 24 => ⟨S37888x2048, .f32⟩
  | 25 => ⟨S37888x2048, .f32⟩
  | 26 => ⟨S37888x2048, .f32⟩
  | 27 => ⟨S_, .i32⟩
  | 28 => ⟨S74, .i32⟩
  | 29 => ⟨S74, .i1⟩
  | 30 => ⟨S74, .i1⟩
  | 31 => ⟨S74x1, .i1⟩
  | 32 => ⟨S74x512, .i1⟩
  | 33 => ⟨S37888, .i1⟩
  | 34 => ⟨S37888x1, .i1⟩
  | 35 => ⟨S1x5632x2048, .f32⟩
  | 36 => ⟨S5632x2048, .f32⟩
  | 37 => ⟨S37888x2048, .f32⟩
  | 38 => ⟨S_, .f32⟩
  | 39 => ⟨S_, .f32⟩
  | 40 => ⟨S37888x2048, .i1⟩
  | 41 => ⟨S37888x2048, .f32⟩
  | 42 => ⟨S37888x2048, .f32⟩
  | 43 => ⟨S37888x2048, .f32⟩
  | 44 => ⟨S_, .i32⟩
  | 45 => ⟨S74, .i32⟩
  | 46 => ⟨S74, .i1⟩
  | 47 => ⟨S74, .i1⟩
  | 48 => ⟨S74x1, .i1⟩
  | 49 => ⟨S74x512, .i1⟩
  | 50 => ⟨S37888, .i1⟩
  | 51 => ⟨S37888x1, .i1⟩
  | 52 => ⟨S1x5632x2048, .f32⟩
  | 53 => ⟨S5632x2048, .f32⟩
  | 54 => ⟨S37888x2048, .f32⟩
  | 55 => ⟨S_, .f32⟩
  | 56 => ⟨S_, .f32⟩
  | 57 => ⟨S37888x2048, .i1⟩
  | 58 => ⟨S37888x2048, .f32⟩
  | 59 => ⟨S37888x2048, .f32⟩
  | 60 => ⟨S37888x2048, .f32⟩
  | 61 => ⟨S_, .i32⟩
  | 62 => ⟨S74, .i32⟩
  | 63 => ⟨S74, .i1⟩
  | 64 => ⟨S74, .i1⟩
  | 65 => ⟨S74x1, .i1⟩
  | 66 => ⟨S74x512, .i1⟩
  | 67 => ⟨S37888, .i1⟩
  | 68 => ⟨S37888x1, .i1⟩
  | 69 => ⟨S1x5632x2048, .f32⟩
  | 70 => ⟨S5632x2048, .f32⟩
  | 71 => ⟨S37888x2048, .f32⟩
  | 72 => ⟨S_, .f32⟩
  | 73 => ⟨S_, .f32⟩
  | 74 => ⟨S37888x2048, .i1⟩
  | 75 => ⟨S37888x2048, .f32⟩
  | 76 => ⟨S37888x2048, .f32⟩
  | 77 => ⟨S37888x2048, .f32⟩
  | 78 => ⟨S_, .i32⟩
  | 79 => ⟨S74, .i32⟩
  | 80 => ⟨S74, .i1⟩
  | 81 => ⟨S74, .i1⟩
  | 82 => ⟨S74x1, .i1⟩
  | 83 => ⟨S74x512, .i1⟩
  | 84 => ⟨S37888, .i1⟩
  | 85 => ⟨S37888x1, .i1⟩
  | 86 => ⟨S1x5632x2048, .f32⟩
  | 87 => ⟨S5632x2048, .f32⟩
  | 88 => ⟨S37888x2048, .f32⟩
  | 89 => ⟨S_, .f32⟩
  | 90 => ⟨S_, .f32⟩
  | 91 => ⟨S37888x2048, .i1⟩
  | 92 => ⟨S37888x2048, .f32⟩
  | 93 => ⟨S37888x2048, .f32⟩
  | 94 => ⟨S37888x2048, .f32⟩
  | 95 => ⟨S_, .i32⟩
  | 96 => ⟨S74, .i32⟩
  | 97 => ⟨S74, .i1⟩
  | 98 => ⟨S74, .i1⟩
  | 99 => ⟨S74x1, .i1⟩
  | 100 => ⟨S74x512, .i1⟩
  | 101 => ⟨S37888, .i1⟩
  | 102 => ⟨S37888x1, .i1⟩
  | 103 => ⟨S1x5632x2048, .f32⟩
  | 104 => ⟨S5632x2048, .f32⟩
  | 105 => ⟨S37888x2048, .f32⟩
  | 106 => ⟨S_, .f32⟩
  | 107 => ⟨S_, .f32⟩
  | 108 => ⟨S37888x2048, .i1⟩
  | 109 => ⟨S37888x2048, .f32⟩
  | 110 => ⟨S37888x2048, .f32⟩
  | 111 => ⟨S37888x2048, .f32⟩
  | 112 => ⟨S_, .i32⟩
  | 113 => ⟨S74, .i32⟩
  | 114 => ⟨S74, .i1⟩
  | 115 => ⟨S74, .i1⟩
  | 116 => ⟨S74x1, .i1⟩
  | 117 => ⟨S74x512, .i1⟩
  | 118 => ⟨S37888, .i1⟩
  | 119 => ⟨S37888x1, .i1⟩
  | 120 => ⟨S1x5632x2048, .f32⟩
  | 121 => ⟨S5632x2048, .f32⟩
  | 122 => ⟨S37888x2048, .f32⟩
  | 123 => ⟨S_, .f32⟩
  | 124 => ⟨S_, .f32⟩
  | 125 => ⟨S37888x2048, .i1⟩
  | 126 => ⟨S37888x2048, .f32⟩
  | 127 => ⟨S37888x2048, .f32⟩
  | _ => ⟨S74, .i32⟩

abbrev hbmTy0_1 (i : Nat) : BufTy := match i % 128 with
  | 0 => ⟨S37888x2048, .f32⟩
  | 1 => ⟨S_, .i32⟩
  | 2 => ⟨S74, .i32⟩
  | 3 => ⟨S74, .i1⟩
  | 4 => ⟨S74, .i1⟩
  | 5 => ⟨S74x1, .i1⟩
  | 6 => ⟨S74x512, .i1⟩
  | 7 => ⟨S37888, .i1⟩
  | 8 => ⟨S37888x1, .i1⟩
  | 9 => ⟨S1x5632x2048, .f32⟩
  | 10 => ⟨S5632x2048, .f32⟩
  | 11 => ⟨S37888x2048, .f32⟩
  | 12 => ⟨S_, .f32⟩
  | 13 => ⟨S_, .f32⟩
  | 14 => ⟨S37888x2048, .i1⟩
  | 15 => ⟨S37888x2048, .f32⟩
  | 16 => ⟨S37888x2048, .f32⟩
  | 17 => ⟨S37888x2048, .f32⟩
  | _ => ⟨S74, .i32⟩

abbrev hbmTy (i : Nat) : BufTy := match i / 128 with
  | 0 => hbmTy0_0 i
  | 1 => hbmTy0_1 i
  | _ => ⟨S74, .i32⟩

abbrev bufTy : (tb : Table) → Fin (tcTables nBuf tb) → BufTy
  | .hbm, ⟨i, _⟩ => hbmTy i
  | _, _ => ⟨S74, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v51 : Ref sig .tc := ⟨.hbm, 76, rfl⟩
abbrev main_v52 : Ref sig .tc := ⟨.hbm, 77, rfl⟩
abbrev main_c_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v63 : Ref sig .tc := ⟨.hbm, 93, rfl⟩
abbrev main_v64 : Ref sig .tc := ⟨.hbm, 94, rfl⟩
abbrev main_c_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v75 : Ref sig .tc := ⟨.hbm, 110, rfl⟩
abbrev main_v76 : Ref sig .tc := ⟨.hbm, 111, rfl⟩
abbrev main_c_11 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_12 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_v87 : Ref sig .tc := ⟨.hbm, 127, rfl⟩
abbrev main_v88 : Ref sig .tc := ⟨.hbm, 128, rfl⟩
abbrev main_c_13 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_14 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v99 : Ref sig .tc := ⟨.hbm, 144, rfl⟩
abbrev main_v100 : Ref sig .tc := ⟨.hbm, 145, rfl⟩

abbrev nD : Nat := 1
abbrev τ : Topo := Topo.v7x

variable {F : FTy → Type} [FloatOps F]
-- ==== GlaSample.lean ====
abbrev S16896x9728 : Shape := ⟨2, ![16896, 9728]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S16x4x128 : Shape := ⟨3, ![16, 4, 128]⟩
abbrev S4x16x128 : Shape := ⟨3, ![4, 16, 128]⟩
abbrev S_ : Shape := ⟨0, ![]⟩
abbrev S4x128x128 : Shape := ⟨3, ![4, 128, 128]⟩
abbrev S1x512 : Shape := ⟨2, ![1, 512]⟩
abbrev S1x256 : Shape := ⟨2, ![1, 256]⟩
abbrev S512x1024 : Shape := ⟨2, ![512, 1024]⟩
abbrev S16x1024 : Shape := ⟨2, ![16, 1024]⟩
abbrev S16x128 : Shape := ⟨2, ![16, 128]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S16x16 : Shape := ⟨2, ![16, 16]⟩
abbrev S1x128x128 : Shape := ⟨3, ![1, 128, 128]⟩
abbrev S128x128 : Shape := ⟨2, ![128, 128]⟩
abbrev S1x128 : Shape := ⟨2, ![1, 128]⟩
abbrev S16x256 : Shape := ⟨2, ![16, 256]⟩
abbrev S16 : Shape := ⟨1, ![16]⟩
abbrev S16x1 : Shape := ⟨2, ![16, 1]⟩

abbrev nBuf : Space → Nat
  | .hbm => 14
  | .vmem => 20
  | .smem => 0
  | _ => 0

abbrev bufTy : (tb : Table) → Fin (tcTables nBuf tb) → BufTy
  | .hbm, ⟨0, _⟩ => ⟨S16896x9728, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S32x4x128x256, .f32⟩
  | .hbm, ⟨5, _⟩ => ⟨S16x4x128, .f32⟩
  | .hbm, ⟨6, _⟩ => ⟨S4x16x128, .f32⟩
  | .hbm, ⟨7, _⟩ => ⟨S_, .i32⟩
  | .hbm, ⟨8, _⟩ => ⟨S_, .f32⟩
  | .hbm, ⟨9, _⟩ => ⟨S4x128x128, .f32⟩
  | .hbm, ⟨10, _⟩ => ⟨S1x512, .f32⟩
  | .hbm, ⟨11, _⟩ => ⟨S1x256, .f32⟩
  | .hbm, ⟨12, _⟩ => ⟨S512x1024, .bf16⟩
  | .hbm, ⟨13, _⟩ => ⟨S32x4x128x256, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x128, .f32⟩
  | .local _ .vmem, ⟨9, _⟩ => ⟨S16x128, .f32⟩
  | .local _ .vmem, ⟨10, _⟩ => ⟨S4x128x128, .f32⟩
  | .local _ .vmem, ⟨11, _⟩ => ⟨S1x512, .f32⟩
  | .local _ .vmem, ⟨12, _⟩ => ⟨S1x256, .f32⟩
  | .local _ .vmem, ⟨13, _⟩ => ⟨S1x4x128x256, .f32⟩
  | .local _ .vmem, ⟨14, _⟩ => ⟨S1x4x128x256, .f32⟩
  | .local _ .vmem, ⟨15, _⟩ => ⟨S16x1024, .bf16⟩
  | .local _ .vmem, ⟨16, _⟩ => ⟨S16x1024, .bf16⟩
  | .local _ .vmem, ⟨17, _⟩ => ⟨S1x4x128x256, .f32⟩
  | .local _ .vmem, ⟨18, _⟩ => ⟨S1x4x128x256, .f32⟩
  | .local _ .vmem, ⟨19, _⟩ => ⟨S4x256x128, .f32⟩
  | _, _ => ⟨S16896x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_169 : BitVec 32 := 0#32
  let v428 : BitVec 1 := Scalar.cmpi .eq arg1 c0_i32_169
  let v429 : BitVec 32 := Scalar.extui v428
  let c0_i32_170 : BitVec 32 := 0#32
  let v430 : BitVec 1 := Scalar.cmpi .ne v429 c0_i32_170
  v430

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c72_i32 : BitVec 32 := 72#32
  let c0_i32 : BitVec 32 := 0#32
  ![v2.toNat, c72_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlaSampleReferenceIdeal.lean ====
abbrev S16896x9728 : Shape := ⟨2, ![16896, 9728]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S512x512 : Shape := ⟨2, ![512, 512]⟩
abbrev S32x16x512 : Shape := ⟨3, ![32, 16, 512]⟩
abbrev S32x16x4x128 : Shape := ⟨4, ![32, 16, 4, 128]⟩
abbrev S32x4x16x128 : Shape := ⟨4, ![32, 4, 16, 128]⟩
abbrev S_ : Shape := ⟨0, ![]⟩
abbrev S512x1024 : Shape := ⟨2, ![512, 1024]⟩
abbrev S32x16x1024 : Shape := ⟨3, ![32, 16, 1024]⟩
abbrev S32x16x4x256 : Shape := ⟨4, ![32, 16, 4, 256]⟩
abbrev S32x4x16x256 : Shape := ⟨4, ![32, 4, 16, 256]⟩
abbrev S512x16 : Shape := ⟨2, ![512, 16]⟩
abbrev S32x16x16 : Shape := ⟨3, ![32, 16, 16]⟩
abbrev S1x1x512 : Shape := ⟨3, ![1, 1, 512]⟩
abbrev S16x16 : Shape := ⟨2, ![16, 16]⟩
abbrev S32x4x16x16 : Shape := ⟨4, ![32, 4, 16, 16]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x16x4 : Shape := ⟨3, ![32, 16, 4]⟩
abbrev S32x16x4x1 : Shape := ⟨4, ![32, 16, 4, 1]⟩
abbrev S1x1x1x256 : Shape := ⟨4, ![1, 1, 1, 256]⟩

abbrev nBuf : Space → Nat
  | .hbm => 114
  | .vmem => 0
  | .smem => 0
  | _ => 0

abbrev bufTy : (tb : Table) → Fin (tcTables nBuf tb) → BufTy
  | .hbm, ⟨0, _⟩ => ⟨S16896x9728, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S32x4x128x256, .f32⟩
  | .hbm, ⟨5, _⟩ => ⟨S512x512, .f32⟩
  | .hbm, ⟨6, _⟩ => ⟨S32x16x512, .f32⟩
  | .hbm, ⟨7, _⟩ => ⟨S32x16x4x128, .f32⟩
  | .hbm, ⟨8, _⟩ => ⟨S32x4x16x128, .f32⟩
  | .hbm, ⟨9, _⟩ => ⟨S_, .f32⟩
  | .hbm, ⟨10, _⟩ => ⟨S32x4x16x128, .f32⟩
  | .hbm, ⟨11, _⟩ => ⟨S32x4x16x128, .f32⟩
  | .hbm, ⟨12, _⟩ => ⟨S512x512, .f32⟩
  | .hbm, ⟨13, _⟩ => ⟨S32x16x512, .f32⟩
  | .hbm, ⟨14, _⟩ => ⟨S32x16x4x128, .f32⟩
  | .hbm, ⟨15, _⟩ => ⟨S32x4x16x128, .f32⟩
  | .hbm, ⟨16, _⟩ => ⟨S512x1024, .f32⟩
  | .hbm, ⟨17, _⟩ => ⟨S32x16x1024, .f32⟩
  | .hbm, ⟨18, _⟩ => ⟨S32x16x4x256, .f32⟩
  | .hbm, ⟨19, _⟩ => ⟨S32x4x16x256, .f32⟩
  | .hbm, ⟨20, _⟩ => ⟨S512x16, .f32⟩
  | .hbm, ⟨21, _⟩ => ⟨S32x16x16, .f32⟩
  | .hbm, ⟨22, _⟩ => ⟨S32x16x512, .f32⟩
  | .hbm, ⟨23, _⟩ => ⟨S1x1x512, .f32⟩
  | .hbm, ⟨24, _⟩ => ⟨S32x16x512, .f32⟩
  | .hbm, ⟨25, _⟩ => ⟨S32x16x512, .f32⟩
  | .hbm, ⟨26, _⟩ => ⟨S32x16x512, .f32⟩
  | .hbm, ⟨27, _⟩ => ⟨S_, .f32⟩
  | .hbm, ⟨28, _⟩ => ⟨S32x16x512, .f32⟩
  | .hbm, ⟨29, _⟩ => ⟨S32x16x512, .f32⟩
  | .hbm, ⟨30, _⟩ => ⟨S32x16x512, .f32⟩
  | .hbm, ⟨31, _⟩ => ⟨S32x16x512, .f32⟩
  | .hbm, ⟨32, _⟩ => ⟨S32x16x512, .f32⟩
  | .hbm, ⟨33, _⟩ => ⟨S32x16x512, .f32⟩
  | .hbm, ⟨34, _⟩ => ⟨S32x16x512, .f32⟩
  | .hbm, ⟨35, _⟩ => ⟨S32x16x512, .f32⟩
  | .hbm, ⟨36, _⟩ => ⟨S_, .f32⟩
  | .hbm, ⟨37, _⟩ => ⟨S32x16x512, .f32⟩
  | .hbm, ⟨38, _⟩ => ⟨S32x16x512, .f32⟩
  | .hbm, ⟨39, _⟩ => ⟨S32x16x4x128, .f32⟩
  | .hbm, ⟨40, _⟩ => ⟨S32x4x16x128, .f32⟩
  | .hbm, ⟨41, _⟩ => ⟨S_, .f32⟩
  | .hbm, ⟨42, _⟩ => ⟨S_, .f32⟩
  | .hbm, ⟨43, _⟩ => ⟨S32x4x16x128, .f32⟩
  | .hbm, ⟨44, _⟩ => ⟨S32x4x16x128, .f32⟩
  | .hbm, ⟨45, _⟩ => ⟨S32x4x16x128, .f32⟩
  | .hbm, ⟨46, _⟩ => ⟨S32x4x16x128, .f32⟩
  | .hbm, ⟨47, _⟩ => ⟨S32x4x16x128, .f32⟩
  | .hbm, ⟨48, _⟩ => ⟨S32x4x16x128, .f32⟩
  | .hbm, ⟨49, _⟩ => ⟨S_, .i1⟩
  | .hbm, ⟨50, _⟩ => ⟨S16x16, .i1⟩
  | .hbm, ⟨51, _⟩ => ⟨S16x16, .i32⟩
  | .hbm, ⟨52, _⟩ => ⟨S_, .i32⟩
  | .hbm, ⟨53, _⟩ => ⟨S16x16, .i32⟩
  | .hbm, ⟨54, _⟩ => ⟨S16x16, .i32⟩
  | .hbm, ⟨55, _⟩ => ⟨S16x16, .i32⟩
  | .hbm, ⟨56, _⟩ => ⟨S16x16, .i1⟩
  | .hbm, ⟨57, _⟩ => ⟨S_, .i1⟩
  | .hbm, ⟨58, _⟩ => ⟨S16x16, .i1⟩
  | .hbm, ⟨59, _⟩ => ⟨S16x16, .i1⟩
  | .hbm, ⟨60, _⟩ => ⟨S32x4x16x16, .f32⟩
  | .hbm, ⟨61, _⟩ => ⟨S_, .f32⟩
  | .hbm, ⟨62, _⟩ => ⟨S_, .f32⟩
  | .hbm, ⟨63, _⟩ => ⟨S32x4x16x16, .i1⟩
  | .hbm, ⟨64, _⟩ => ⟨S32x4x16x16, .f32⟩
  | .hbm, ⟨65, _⟩ => ⟨S32x4x16x16, .f32⟩
  | .hbm, ⟨66, _⟩ => ⟨S32x4x16x256, .f32⟩
  | .hbm, ⟨67, _⟩ => ⟨S32x4x16x256, .f32⟩
  | .hbm, ⟨68, _⟩ => ⟨S32x4x16x256, .f32⟩
  | .hbm, ⟨69, _⟩ => ⟨S32x4x1x128, .f32⟩
  | .hbm, ⟨70, _⟩ => ⟨S32x4x128, .f32⟩
  | .hbm, ⟨71, _⟩ => ⟨S32x4x128, .f32⟩
  | .hbm, ⟨72, _⟩ => ⟨S32x4x128x1, .f32⟩
  | .hbm, ⟨73, _⟩ => ⟨S32x4x128x256, .f32⟩
  | .hbm, ⟨74, _⟩ => ⟨S32x4x128x256, .f32⟩
  | .hbm, ⟨75, _⟩ => ⟨S32x4x16x128, .f32⟩
  | .hbm, ⟨76, _⟩ => ⟨S32x4x16x128, .f32⟩
  | .hbm, ⟨77, _⟩ => ⟨S32x4x16x128, .f32⟩
  | .hbm, ⟨78, _⟩ => ⟨S32x4x16x128, .f32⟩
  | .hbm, ⟨79, _⟩ => ⟨S32x4x128x256, .f32⟩
  | .hbm, ⟨80, _⟩ => ⟨S32x4x128x256, .f32⟩
  | .hbm, ⟨81, _⟩ => ⟨S32x16x4x256, .f32⟩
  | .hbm, ⟨82, _⟩ => ⟨S32x16x4x256, .f32⟩
  | .hbm, ⟨83, _⟩ => ⟨S_, .f32⟩
  | .hbm, ⟨84, _⟩ => ⟨S32x16x4, .f32⟩
  | .hbm, ⟨85, _⟩ => ⟨S32x16x4x1, .f32⟩
  | .hbm, ⟨86, _⟩ => ⟨S_, .f32⟩
  | .hbm, ⟨87, _⟩ => ⟨S32x16x4x1, .f32⟩
  | .hbm, ⟨88, _⟩ => ⟨S32x16x4x1, .f32⟩
  | .hbm, ⟨89, _⟩ => ⟨S_, .f32⟩
  | .hbm, ⟨90, _⟩ => ⟨S32x16x4x1, .f32⟩
  | .hbm, ⟨91, _⟩ => ⟨S32x16x4x1, .f32⟩
  | .hbm, ⟨92, _⟩ => ⟨S32x16x4x1, .f32⟩
  | .hbm, ⟨93, _⟩ => ⟨S32x16x4x256, .f32⟩
  | .hbm, ⟨94, _⟩ => ⟨S32x16x4x256, .f32⟩
  | .hbm, ⟨95, _⟩ => ⟨S1x1x1x256, .f32⟩
  | .hbm, ⟨96, _⟩ => ⟨S32x16x4x256, .f32⟩
  | .hbm, ⟨97, _⟩ => ⟨S32x16x4x256, .f32⟩
  | .hbm, ⟨98, _⟩ => ⟨S512x1024, .f32⟩
  | .hbm, ⟨99, _⟩ => ⟨S32x16x1024, .f32⟩
  | .hbm, ⟨100, _⟩ => ⟨S32x16x4x256, .f32⟩
  | .hbm, ⟨101, _⟩ => ⟨S32x16x4x256, .f32⟩
  | .hbm, ⟨102, _⟩ => ⟨S32x16x4x256, .f32⟩
  | .hbm, ⟨103, _⟩ => ⟨S_, .f32⟩
  | .hbm, ⟨104, _⟩ => ⟨S32x16x4x256, .f32⟩
  | .hbm, ⟨105, _⟩ => ⟨S32x16x4x256, .f32⟩
  | .hbm, ⟨106, _⟩ => ⟨S_, .f32⟩
  | .hbm, ⟨107, _⟩ => ⟨S32x16x4x256, .f32⟩
  | .hbm, ⟨108, _⟩ => ⟨S32x16x4x256, .f32⟩
  | .hbm, ⟨109, _⟩ => ⟨S32x16x4x256, .f32⟩
  | .hbm, ⟨110, _⟩ => ⟨S32x16x4x256, .f32⟩
  | .hbm, ⟨111, _⟩ => ⟨S32x16x1024, .f32⟩
  | .hbm, ⟨112, _⟩ => ⟨S512x1024, .f32⟩
  | .hbm, ⟨113, _⟩ => ⟨S512x1024, .bf16⟩
  | _, _ => ⟨S16896x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_call0_cst : Ref sig .tc := ⟨.hbm, 41, rfl⟩
abbrev main_call0_call0_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c : Ref sig .tc := ⟨.hbm, 49, rfl⟩
abbrev main_v39 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_0 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_3 : Ref sig .tc := ⟨.hbm, 83, rfl⟩
abbrev main_v60 : Ref sig .tc := ⟨.hbm, 84, rfl⟩
abbrev main_v61 : Ref sig .tc := ⟨.hbm, 85, rfl⟩
abbrev main_cst_4 : Ref sig .tc := ⟨.hbm, 86, rfl⟩
abbrev main_v62 : Ref sig .tc := ⟨.hbm, 87, rfl⟩
abbrev main_v63 : Ref sig .tc := ⟨.hbm, 88, rfl⟩
abbrev main_cst_5 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call3_v0 : Ref sig .tc := ⟨.hbm, 101, rfl⟩
abbrev main_call3_v1 : Ref sig .tc := ⟨.hbm, 102, rfl⟩
abbrev main_call3_cst : Ref sig .tc := ⟨.hbm, 103, rfl⟩
abbrev main_call3_v2 : Ref sig .tc := ⟨.hbm, 104, rfl⟩
abbrev main_call3_v3 : Ref sig .tc := ⟨.hbm, 105, rfl⟩
abbrev main_call3_cst_0 : Ref sig .tc := ⟨.hbm, 106, rfl⟩
abbrev main_call3_v4 : Ref sig .tc := ⟨.hbm, 107, rfl⟩
abbrev main_call3_v5 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]
-- ==== Combine.lean ====
abbrev S37888x2048 : Shape := ⟨2, ![37888, 2048]⟩
abbrev S33792 : Shape := ⟨1, ![33792]⟩
abbrev S16896x128 : Shape := ⟨2, ![16896, 128]⟩
abbrev S16896x2048 : Shape := ⟨2, ![16896, 2048]⟩
abbrev S66x1x512 : Shape := ⟨3, ![66, 1, 512]⟩
abbrev S1x1x512 : Shape := ⟨3, ![1, 1, 512]⟩
abbrev S256x2048 : Shape := ⟨2, ![256, 2048]⟩
abbrev S256x128 : Shape := ⟨2, ![256, 128]⟩
abbrev S2x256x2048 : Shape := ⟨3, ![2, 256, 2048]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x1x2048 : Shape := ⟨3, ![1, 1, 2048]⟩
abbrev S1x2048 : Shape := ⟨2, ![1, 2048]⟩
abbrev S256x1 : Shape := ⟨2, ![256, 1]⟩
abbrev S1x256x2048 : Shape := ⟨3, ![1, 256, 2048]⟩

abbrev nBuf : Space → Nat
  | .hbm => 6
  | .vmem => 7
  | .smem => 2
  | _ => 0

abbrev bufTy : (tb : Table) → Fin (tcTables nBuf tb) → BufTy
  | .hbm, ⟨0, _⟩ => ⟨S37888x2048, .f32⟩
  | .hbm, ⟨1, _⟩ => ⟨S33792, .i32⟩
  | .hbm, ⟨2, _⟩ => ⟨S16896x128, .f32⟩
  | .hbm, ⟨3, _⟩ => ⟨S16896x2048, .f32⟩
  | .hbm, ⟨4, _⟩ => ⟨S66x1x512, .i32⟩
  | .hbm, ⟨5, _⟩ => ⟨S16896x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x2048, .f32⟩
  | .local _ .vmem, ⟨5, _⟩ => ⟨S256x2048, .f32⟩
  | .local _ .vmem, ⟨6, _⟩ => ⟨S2x256x2048, .f32⟩
  | .local _ .smem, ⟨0, _⟩ => ⟨S1x1x512, .i32⟩
  | .local _ .smem, ⟨1, _⟩ => ⟨S1x1x512, .i32⟩
  | _, _ => ⟨S37888x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![66], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_16 : Index := 0#32
  let c0_17 : Index := 0#32
  let c2_i32 : BitVec 32 := 2#32
  let c0_i32 : BitVec 32 := 0#32
  let c1_i32 : BitVec 32 := 1#32
  let arg8 : BitVec 32 := Scf.iv c0_i32 c1_i32 k0_t1
  let v17 : BitVec 32 := Scalar.muli c2_i32 arg8
  let c0_i32_15 : BitVec 32 := 0#32
  let v18 : BitVec 32 := Scalar.addi v17 c0_i32_15
  let v19 : Index := Scalar.indexCast v18
  ![0, 0, v19.toNat]
def k0_off2 (k0_t1 : Fin k0_t1_loop.trips) : Fin 3 → Nat :=
  let c0_i32_18 : BitVec 32 := 0#32
  let c0_i32 : BitVec 32 := 0#32
  let c1_i32 : BitVec 32 := 1#32
  let arg8 : BitVec 32 := Scf.iv c0_i32 c1_i32 k0_t1
  let c0_i32_20 : BitVec 32 := 0#32
  ![0, arg8.toNat, 0]
def k0_off3 (v20 : BitVec 32) : Fin 2 → Nat :=
  let c0_i32_21 : BitVec 32 := 0#32
  ![v20.toNat, 0]

def k0_chk1 (v20 : BitVec 32) : Prop :=
  (∀ a, (k0_off3 v20) a + S1x2048.size a ≤ S37888x2048.size a)
theorem k0_off3_inb : ∀ (v20 : BitVec 32) (k0_hw1 : k0_chk1 v20), ∀ a, (k0_off3 v20) a + S1x2048.size a ≤ S37888x2048.size a := fun v20 k0_hw1 => k0_hw1

def k0_off4 (k0_t1 : Fin k0_t1_loop.trips) : Fin 3 → Nat :=
  let c0_24 : Index := 0#32
  let c0_25 : Index := 0#32
  let c2_i32_22 : BitVec 32 := 2#32
  let c0_i32 : BitVec 32 := 0#32
  let c1_i32 : BitVec 32 := 1#32
  let arg8 : BitVec 32 := Scf.iv c0_i32 c1_i32 k0_t1
  let v26 : BitVec 32 := Scalar.muli c2_i32_22 arg8
  let c1_i32_23 : BitVec 32 := 1#32
  let v27 : BitVec 32 := Scalar.addi v26 c1_i32_23
  let v28 : Index := Scalar.indexCast v27
  ![0, 0, v28.toNat]
def k0_off5 (k0_t1 : Fin k0_t1_loop.trips) : Fin 3 → Nat :=
  let c1_i32_26 : BitVec 32 := 1#32
  let c0_i32 : BitVec 32 := 0#32
  let c1_i32 : BitVec 32 := 1#32
  let arg8 : BitVec 32 := Scf.iv c0_i32 c1_i32 k0_t1
  let c0_i32_28 : BitVec 32 := 0#32
  ![1, arg8.toNat, 0]
def k0_off6 (v29 : BitVec 32) : Fin 2 → Nat :=
  let c0_i32_29 : BitVec 32 := 0#32
  ![v29.toNat, 0]

def k0_chk2 (v29 : BitVec 32) : Prop :=
  (∀ a, (k0_off6 v29) a + S1x2048.size a ≤ S37888x2048.size a)
theorem k0_off6_inb : ∀ (v29 : BitVec 32) (k0_hw2 : k0_chk2 v29), ∀ a, (k0_off6 v29) a + S1x2048.size a ≤ S37888x2048.size a := fun v29 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 3 → Nat :=
  let c0_16 : Index := 0#32
  let c0_17 : Index := 0#32
  let c2_i32 : BitVec 32 := 2#32
  let c0_i32_1 : BitVec 32 := 0#32
  let c1_i32_3 : BitVec 32 := 1#32
  let arg8 : BitVec 32 := Scf.iv c0_i32_1 c1_i32_3 k0_t2
  let v17 : BitVec 32 := Scalar.muli c2_i32 arg8
  let c0_i32_15 : BitVec 32 := 0#32
  let v18 : BitVec 32 := Scalar.addi v17 c0_i32_15
  let v19 : Index := Scalar.indexCast v18
  ![0, 0, v19.toNat]
def k0_off8 (k0_t2 : Fin k0_t2_loop.trips) : Fin 3 → Nat :=
  let c0_i32_18 : BitVec 32 := 0#32
  let c0_i32_1 : BitVec 32 := 0#32
  let c1_i32_3 : BitVec 32 := 1#32
  let arg8 : BitVec 32 := Scf.iv c0_i32_1 c1_i32_3 k0_t2
  let c0_i32_20 : BitVec 32 := 0#32
  ![0, arg8.toNat, 0]
def k0_off9 (v20 : BitVec 32) : Fin 2 → Nat :=
  let c0_i32_21 : BitVec 32 := 0#32
  ![v20.toNat, 0]

def k0_chk3 (v20 : BitVec 32) : Prop :=
  (∀ a, (k0_off9 v20) a + S1x2048.size a ≤ S37888x2048.size a)
theorem k0_off9_inb : ∀ (v20 : BitVec 32) (k0_hw3 : k0_chk3 v20), ∀ a, (k0_off9 v20) a + S1x2048.size a ≤ S37888x2048.size a := fun v20 k0_hw3 => k0_hw3

def k0_off10 (k0_t2 : Fin k0_t2_loop.trips) : Fin 3 → Nat :=
  let c0_24 : Index := 0#32
  let c0_25 : Index := 0#32
  let c2_i32_22 : BitVec 32 := 2#32
  let c0_i32_1 : BitVec 32 := 0#32
  let c1_i32_3 : BitVec 32 := 1#32
  let arg8 : BitVec 32 := Scf.iv c0_i32_1 c1_i32_3 k0_t2
  let v26 : BitVec 32 := Scalar.muli c2_i32_22 arg8
  let c1_i32_23 : BitVec 32 := 1#32
  let v27 : BitVec 32 := Scalar.addi v26 c1_i32_23
  let v28 : Index := Scalar.indexCast v27
  ![0, 0, v28.toNat]
def k0_off11 (k0_t2 : Fin k0_t2_loop.trips) : Fin 3 → Nat :=
  let c1_i32_26 : BitVec 32 := 1#32
  let c0_i32_1 : BitVec 32 := 0#32
  let c1_i32_3 : BitVec 32 := 1#32
  let arg8 : BitVec 32 := Scf.iv c0_i32_1 c1_i32_3 k0_t2
  let c0_i32_28 : BitVec 32 := 0#32
  ![1, arg8.toNat, 0]
def k0_off12 (v29 : BitVec 32) : Fin 2 → Nat :=
  let c0_i32_29 : BitVec 32 := 0#32
  ![v29.toNat, 0]

def k0_chk4 (v29 : BitVec 32) : Prop :=
  (∀ a, (k0_off12 v29) a + S1x2048.size a ≤ S37888x2048.size a)
theorem k0_off12_inb : ∀ (v29 : BitVec 32) (k0_hw4 : k0_chk4 v29), ∀ a, (k0_off12 v29) a + S1x2048.size a ≤ S37888x2048.size a := fun v29 k0_hw4 => k0_hw4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineReferenceIdeal.lean ====
abbrev S37888x2048 : Shape := ⟨2, ![37888, 2048]⟩
abbrev S33792 : Shape := ⟨1, ![33792]⟩
abbrev S16896x128 : Shape := ⟨2, ![16896, 128]⟩
abbrev S16896x2048 : Shape := ⟨2, ![16896, 2048]⟩
abbrev S_ : Shape := ⟨0, ![]⟩
abbrev S33792x1 : Shape := ⟨2, ![33792, 1]⟩
abbrev S33792x2048 : Shape := ⟨2, ![33792, 2048]⟩
abbrev S16896x2x2048 : Shape := ⟨3, ![16896, 2, 2048]⟩
abbrev S16896x1 : Shape := ⟨2, ![16896, 1]⟩
abbrev S16896x1x2048 : Shape := ⟨3, ![16896, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S37888x2048, .f32⟩
  | .hbm, ⟨1, _⟩ => ⟨S33792, .i32⟩
  | .hbm, ⟨2, _⟩ => ⟨S16896x128, .f32⟩
  | .hbm, ⟨3, _⟩ => ⟨S16896x2048, .f32⟩
  | .hbm, ⟨4, _⟩ => ⟨S_, .i32⟩
  | .hbm, ⟨5, _⟩ => ⟨S33792, .i32⟩
  | .hbm, ⟨6, _⟩ => ⟨S33792, .i1⟩
  | .hbm, ⟨7, _⟩ => ⟨S_, .i32⟩
  | .hbm, ⟨8, _⟩ => ⟨S33792, .i32⟩
  | .hbm, ⟨9, _⟩ => ⟨S33792, .i32⟩
  | .hbm, ⟨10, _⟩ => ⟨S33792, .i32⟩
  | .hbm, ⟨11, _⟩ => ⟨S33792x1, .i32⟩
  | .hbm, ⟨12, _⟩ => ⟨S33792x2048, .f32⟩
  | .hbm, ⟨13, _⟩ => ⟨S16896x2x2048, .f32⟩
  | .hbm, ⟨14, _⟩ => ⟨S16896x1, .f32⟩
  | .hbm, ⟨15, _⟩ => ⟨S16896x1x2048, .f32⟩
  | .hbm, ⟨16, _⟩ => ⟨S16896x2048, .f32⟩
  | .hbm, ⟨17, _⟩ => ⟨S16896x2048, .f32⟩
  | .hbm, ⟨18, _⟩ => ⟨S16896x2048, .f32⟩
  | .hbm, ⟨19, _⟩ => ⟨S16896x1, .f32⟩
  | .hbm, ⟨20, _⟩ => ⟨S16896x1x2048, .f32⟩
  | .hbm, ⟨21, _⟩ => ⟨S16896x2048, .f32⟩
  | .hbm, ⟨22, _⟩ => ⟨S16896x2048, .f32⟩
  | .hbm, ⟨23, _⟩ => ⟨S16896x2048, .f32⟩
  | .hbm, ⟨24, _⟩ => ⟨S16896x2048, .f32⟩
  | .hbm, ⟨25, _⟩ => ⟨S16896x2048, .f32⟩
  | _, _ => ⟨S37888x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Spec.lean ====
/- Gated linear attention over the extended reals: the functions of one chunk and the recursion of the state over the
   chunks, and the laws by which the kernel's arithmetic is the reference's. -/
module

public import Idealize.ShloMosaic.Lib.Pointwise

@[expose] public section

noncomputable section

namespace Gla

open Idealize.ShloMosaic
open Finset

/-- The running sum over a chunk's tokens. -/
def cumS (g : Fin 64 → Fin 128 → EReal) (i : Fin 64) (d : Fin 128) : EReal := ∑ j : Fin 64, if j ≤ i then g j d else 0

/-- A chunk's output before normalisation: attention over the chunk's own tokens and over the state. -/
def outS (q k b : Fin 64 → Fin 128 → EReal) (v : Fin 64 → Fin 256 → EReal) (S : Fin 128 → Fin 256 → EReal)
    (i : Fin 64) (e : Fin 256) : EReal :=
  (∑ x : Fin 64, if x ≤ i then (∑ y : Fin 128, q i y * Ideal.exp (b i y) * (k x y * Ideal.exp (-b x y))) * v x e else 0)
    + ∑ y : Fin 128, q i y * Ideal.exp (b i y) * S y e

/-- The state after a chunk. -/
def nextS (k b : Fin 64 → Fin 128 → EReal) (v : Fin 64 → Fin 256 → EReal) (S : Fin 128 → Fin 256 → EReal)
    (d : Fin 128) (e : Fin 256) : EReal :=
  Ideal.exp (b 63 d) * S d e + ∑ x : Fin 64, k x d * Ideal.exp (b 63 d - b x d) * v x e

/-- The output normalised over the head's values, scaled and gated. -/
def normS (r : EReal) (o : Fin 256 → EReal) (gout : EReal) (e : Fin 256) : EReal :=
  r * Ideal.logistic r *
    (o e * Ideal.rsqrt (Ideal.div (∑ x : Fin 256, o x * o x) (Ideal.ofBits .f32 0x43800000#32) + Ideal.ofBits .f32 0x358637BD#32)
      * gout)

/-- The log gate, the logarithm of the logit's sigmoid over sixteen. -/
def gateS (z : EReal) : EReal :=
  Ideal.div (-(max (-z) 0 + Ideal.log1p (Ideal.exp (-max z (-z))))) (Ideal.ofBits .f32 0x41800000#32)

/-- The state before chunk `n`. -/
def stateS (k g : ℕ → Fin 64 → Fin 128 → EReal) (v : ℕ → Fin 64 → Fin 256 → EReal) (S : Fin 128 → Fin 256 → EReal) :
    ℕ → Fin 128 → Fin 256 → EReal
  | 0 => S
  | n + 1 => nextS (k n) (cumS (g n)) (v n) (stateS k g v S n)

/-! ## Laws -/

theorem ofBits_16 : Ideal.ofBits .f32 0x41800000#32 = ((16 : ℝ) : EReal) := by
  simp [Ideal.ofBits, Ideal.ieee]
  rw [← EReal.coe_mul]
  norm_num

theorem ofBits_inv16 : Ideal.ofBits .f32 0x3D800000#32 = ((1 / 16 : ℝ) : EReal) := by
  simp [Ideal.ofBits, Ideal.ieee]
  rw [← EReal.coe_mul]
  norm_num

theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min

/-- `log (1 + 0) = 0`. -/
theorem log1p_zero : Ideal.log1p 0 = 0 := by
  show Ideal.log (1 + 0) = 0
  rw [add_zero]
  show (if (1 : ℝ) ≤ 0 then (⊥ : EReal) else ((Real.log 1 : ℝ) : EReal)) = 0
  simp

/-- Subtracting and multiplying by a sixteenth, as the kernel writes the log gate, is the reference's division. -/
theorem gate_eq (z : EReal) :
    (min z 0 - Ideal.log1p (Ideal.exp (0 - max z (-z)))) * Ideal.ofBits .f32 0x3D800000#32 = gateS z := by
  rw [gateS, ofBits_16, ofBits_inv16, zero_sub]
  have h : Ideal.div (-(max (-z) 0 + Ideal.log1p (Ideal.exp (-max z (-z))))) ((16 : ℝ) : EReal)
      = (-(max (-z) 0 + Ideal.log1p (Ideal.exp (-max z (-z))))) * ((1 / 16 : ℝ) : EReal) := by
    rw [Ideal.div, if_neg (by norm_num), ← EReal.coe_inv]
    norm_num
  rw [h]
  congr 1
  induction z with
  | bot => simp [log1p_zero]
  | top => simp [log1p_zero]
  | coe z =>
    have e1 : max (z : EReal) (-(z : EReal)) = ((max z (-z) : ℝ) : EReal) := by
      rw [← EReal.coe_neg, coe_max']
    rw [e1, ← EReal.coe_neg, ← EReal.coe_neg]
    have hl : Ideal.log1p (Ideal.exp ((-max z (-z) : ℝ) : EReal)) = ((Real.log (1 + Real.exp (-max z (-z))) : ℝ) : EReal) := by
      have hp : ¬ (1 + Real.exp (-max z (-z)) ≤ 0) := by have := Real.exp_pos (-max z (-z)); linarith
      show Ideal.log (1 + ((Real.exp (-max z (-z)) : ℝ) : EReal)) = _
      rw [← EReal.coe_one, ← EReal.coe_add]
      show (if _ then _ else _) = _
      rw [if_neg hp]
    rw [hl, ← EReal.coe_zero, ← coe_max', ← coe_min', ← EReal.coe_sub, ← EReal.coe_add, ← EReal.coe_neg]
    congr 1
    rcases le_total z 0 with h | h
    · rw [min_eq_left h, max_eq_left (show (0 : ℝ) ≤ -z by linarith)]; ring
    · rw [min_eq_right h, max_eq_right (show -z ≤ (0 : ℝ) by linarith)]; ring

/-- The log gate is at most zero, so never `+∞`. -/
theorem gateS_ne_top (z : EReal) : gateS z ≠ ⊤ := by
  rw [← gate_eq, ofBits_inv16]
  induction z with
  | bot => simp [log1p_zero]; norm_num [EReal.bot_mul_coe_of_pos]
  | top => simp [log1p_zero]
  | coe z =>
    have hl : ∃ r : ℝ, Ideal.log1p (Ideal.exp (0 - max (z : EReal) (-(z : EReal)))) = (r : EReal) := by
      rw [zero_sub, ← EReal.coe_neg, ← coe_max', ← EReal.coe_neg]
      refine ⟨Real.log (1 + Real.exp (-max z (-z))), ?_⟩
      have hp : ¬ (1 + Real.exp (-max z (-z)) ≤ 0) := by have := Real.exp_pos (-max z (-z)); linarith
      show Ideal.log (1 + ((Real.exp (-max z (-z)) : ℝ) : EReal)) = _
      rw [← EReal.coe_one, ← EReal.coe_add]
      show (if _ then _ else _) = _
      rw [if_neg hp]
    obtain ⟨r, hr⟩ := hl
    rw [hr, ← EReal.coe_zero, ← coe_min', ← EReal.coe_sub, ← EReal.coe_mul]
    exact EReal.coe_ne_top _

theorem sum_bot {ι : Type*} (s : Finset ι) (f : ι → EReal) (i : ι) (hi : i ∈ s) (h : f i = ⊥) : ∑ j ∈ s, f j = ⊥ := by
  classical
  rw [← Finset.add_sum_erase s f hi, h, EReal.bot_add]

/-- The running sum of values below `+∞`, summed in three parts as the kernel splits them, is the running sum. -/
theorem cum_eq (g : Fin 64 → EReal) (hg : ∀ j, g j ≠ ⊤) (i : Fin 64) :
    (∑ x : Fin 64, if x ≤ i then g x else 0) + (∑ x : Fin 64, if x ≤ i then g x - g x else 0)
        + (∑ x : Fin 64, if x ≤ i then g x - g x - (g x - g x) else 0)
      = ∑ x : Fin 64, if x ≤ i then g x else 0 := by
  by_cases h : ∃ x, x ≤ i ∧ g x = ⊥
  · obtain ⟨x, hx, hb⟩ := h
    rw [sum_bot univ (fun x => if x ≤ i then g x else 0) x (mem_univ x) (by simp [hx, hb]), EReal.bot_add, EReal.bot_add]
  · have h' : ∀ x, x ≤ i → g x - g x = 0 := fun x hx => EReal.sub_self (hg x) (fun hb => h ⟨x, hx, hb⟩)
    have e1 : (∑ x : Fin 64, if x ≤ i then g x - g x else 0) = 0 :=
      Finset.sum_eq_zero fun x _ => by split_ifs with hx <;> simp [h' x, *]
    have e2 : (∑ x : Fin 64, if x ≤ i then g x - g x - (g x - g x) else 0) = 0 :=
      Finset.sum_eq_zero fun x _ => by split_ifs with hx <;> simp [h' x, *]
    rw [e1, e2, add_zero, add_zero]

/-- A finite value splits into itself and nothing. -/
theorem sub_self_of_abs_lt {x : EReal} (h : max x (-x) < ⊤) : x - x = 0 := by
  refine EReal.sub_self (fun e => ?_) (fun e => ?_) <;> subst e <;> simp at h

/-- The kernel's six products of the split factors, over lanes where the weight is zero or both factors are finite, are
    the one product. -/
theorem split_dot {n : ℕ} (s w : Fin n → EReal) (hw : ∀ x, w x - w x = 0) (hs : ∀ x, w x = 0 ∨ s x - s x = 0) (b : EReal) :
    ∑ x, s x * w x + (∑ x, s x * (w x - w x) + ∑ x, (s x - s x) * w x)
        + (∑ x, s x * (w x - w x - (w x - w x)) + ∑ x, (s x - s x) * (w x - w x)
          + ∑ x, (s x - s x - (s x - s x)) * w x) + b
      = ∑ x, s x * w x + b := by
  have e0 : ∀ x, s x * (w x - w x) = 0 := fun x => by rw [hw, mul_zero]
  have e1 : ∀ x, (s x - s x) * w x = 0 := fun x => by rcases hs x with h | h <;> simp [h]
  have e2 : ∀ x, s x * (w x - w x - (w x - w x)) = 0 := fun x => by simp [hw]
  have e3 : ∀ x, (s x - s x) * (w x - w x) = 0 := fun x => by rw [hw, mul_zero]
  have e4 : ∀ x, (s x - s x - (s x - s x)) * w x = 0 := fun x => by rcases hs x with h | h <;> simp [h]
  simp only [e0, e1, e2, e3, e4, Finset.sum_const_zero, add_zero]

/-- Comparing token numbers as 32-bit words compares them. -/
theorem select_le {α : Type} (i x : Fin 64) (a b : α) :
    Scalar.select (IntOp.cmpi CmpIPredicate.sge (BitVec.ofNat 32 i.val) (BitVec.ofNat 32 x.val)) a b = if x ≤ i then a else b := by
  have hi := i.isLt; have hx := x.isLt
  have h : IntOp.cmpi CmpIPredicate.sge (BitVec.ofNat 32 i.val) (BitVec.ofNat 32 x.val) = BitVec.ofBool (decide (x ≤ i)) := by
    revert i x; decide
  rw [h]
  by_cases hc : x ≤ i <;> simp [hc, Scalar.select]

/-! ## The layer's arrays

`A0` is the packed projection: a row per token, the prompt's two sequences of 8192 tokens first; queries, keys, values and
the output gate in columns 0, 512, 1024 and 2048 on, the low-rank gate activations in columns 9280 on. `A1`, `A2` are the
gate's second weights and bias, `A3` the output norm's weights. -/

section Arrays

variable (A0 : (⟨2, ![16896, 9728]⟩ : Shape).Idx → EReal) (A1 : (⟨2, ![16, 512]⟩ : Shape).Idx → EReal)
  (A2 : (⟨1, ![512]⟩ : Shape).Idx → EReal) (A3 : (⟨1, ![256]⟩ : Shape).Idx → EReal)

/-- The row of token `i` of chunk `n` of sequence `b`. -/
def row (b : Fin 2) (n : ℕ) (i : Fin 64) : Fin 16896 := ⟨b.val * 8192 + (n % 128 * 64 + i.val), by omega⟩

/-- The scale of the queries. -/
def scaleQ : EReal := Ideal.ofBits .f32 0x3DB504F3#32

def qS (b : Fin 2) (h : Fin 4) (n : ℕ) (i : Fin 64) (d : Fin 128) : EReal :=
  A0 (ix2 (row b n i) ⟨h.val * 128 + d.val, by omega⟩) * scaleQ
def kS (b : Fin 2) (h : Fin 4) (n : ℕ) (i : Fin 64) (d : Fin 128) : EReal :=
  A0 (ix2 (row b n i) ⟨512 + (h.val * 128 + d.val), by omega⟩)
def vS (b : Fin 2) (h : Fin 4) (n : ℕ) (i : Fin 64) (e : Fin 256) : EReal :=
  A0 (ix2 (row b n i) ⟨1024 + (h.val * 256 + e.val), by omega⟩)
def rS (b : Fin 2) (h : Fin 4) (n : ℕ) (i : Fin 64) (e : Fin 256) : EReal :=
  A0 (ix2 (row b n i) ⟨2048 + (h.val * 256 + e.val), by omega⟩)
/-- The gate's logits. -/
def zS (b : Fin 2) (h : Fin 4) (n : ℕ) (i : Fin 64) (d : Fin 128) : EReal :=
  (∑ x : Fin 16, A0 (ix2 (row b n i) ⟨9280 + x.val, by omega⟩) * A1 (ix2 x ⟨h.val * 128 + d.val, by omega⟩))
    + A2 (ix1 ⟨h.val * 128 + d.val, by omega⟩)
def gS (b : Fin 2) (h : Fin 4) (n : ℕ) (i : Fin 64) (d : Fin 128) : EReal := gateS (zS A0 A1 A2 b h n i d)

/-- The state of head `h` of sequence `b` before chunk `n`, from zero. -/
def SS (b : Fin 2) (h : Fin 4) (n : ℕ) : Fin 128 → Fin 256 → EReal :=
  stateS (kS A0 b h) (gS A0 A1 A2 b h) (vS A0 b h) (fun _ _ => 0) n

/-- The attention of chunk `n` before normalisation. -/
def oS (b : Fin 2) (h : Fin 4) (n : ℕ) (i : Fin 64) (e : Fin 256) : EReal :=
  outS (qS A0 b h n) (kS A0 b h n) (cumS (gS A0 A1 A2 b h n)) (vS A0 b h n) (SS A0 A1 A2 b h n) i e

/-- The branch's output. -/
def yS (b : Fin 2) (h : Fin 4) (n : ℕ) (i : Fin 64) (e : Fin 256) : EReal :=
  normS (rS A0 b h n i e) (oS A0 A1 A2 b h n i) (A3 (ix1 e)) e

/-- The low-rank activations of the prompt's tokens and the gate's weights are finite. -/
def FiniteGate : Prop :=
  (∀ (b : Fin 2) (n : ℕ) (i : Fin 64) (x : Fin 16),
      A0 (ix2 (row b n i) ⟨9280 + x.val, by omega⟩) - A0 (ix2 (row b n i) ⟨9280 + x.val, by omega⟩) = 0)
    ∧ ∀ (x : Fin 16) (d : Fin 512), A1 (ix2 x d) - A1 (ix2 x d) = 0

end Arrays

/-- A sum over 128 lanes of which only 64 to 79 count is a sum over sixteen. -/
theorem sum_lanes (f : Fin 128 → EReal) (hf : ∀ l : Fin 128, ¬ (64 ≤ l.val ∧ l.val < 80) → f l = 0) :
    ∑ l : Fin 128, f l = ∑ x : Fin 16, f ⟨64 + x.val, by omega⟩ := by
  symm
  refine Finset.sum_of_injOn (fun x : Fin 16 => (⟨64 + x.val, by omega⟩ : Fin 128)) ?_ (by simp) ?_ (by simp)
  · intro x _ y _ h
    have := congrArg Fin.val h
    exact Fin.ext (by simpa using this)
  · intro l _ hl
    refine hf l fun h => hl ⟨⟨l.val - 64, by omega⟩, by simp, Fin.ext (by show 64 + (l.val - 64) = l.val; omega)⟩

end Gla

end
-- ==== Proof.Finite.lean ====
/- The precondition, read back: the gate's inputs are finite. -/
module

public import proofs.«01_k».proof.Defs
public import proofs.«01_k».proof.Proof.Spec
public import Idealize.ShloMosaic.Lib.ReduceAll
public import Idealize.ShloMosaic.Lib.Pointwise

@[expose] public section

noncomputable section

namespace Gla

open Idealize.ShloMosaic Cert.Pre_finite_gate

/-- The shape relations of the precondition's operations. -/
instance preFacts : Cert.Pre_finite_gate.Facts where
  slices_S16896x9728_S16384x16_0_9280 := by decide
  bcast_S_S16384x16 := by decide
  reducesTo_S16384x16_S_d0_1 := by decide
  h_S_ := by decide
  bcast_S_S16x512 := by decide
  reducesTo_S16x512_S_d0_1 := by decide

instance : Subsingleton S_.Idx := ⟨fun a b => funext fun i => i.elim0⟩

theorem and_one (a b : BitVec 1) (h : IntOp.andi a b = 1#1) : a = 1#1 ∧ b = 1#1 := by
  revert a b; decide

theorem finite_of_olt (x : EReal) (h : BitVec.ofBool (decide (max x (-x) < Ideal.ofBits .f32 0x7F800000#32)) = 1#1) : x - x = 0 := by
  have e : Ideal.ofBits .f32 0x7F800000#32 = (⊤ : EReal) := by
    simp [Ideal.ofBits, Ideal.ieee]
  rw [e] at h
  refine sub_self_of_abs_lt ?_
  by_contra hx
  rw [decide_eq_false hx] at h
  exact absurd h (by decide)

theorem finite_of_pre (A0 : S16896x9728.Idx → EReal) (A1 : S16x512.Idx → EReal) (A2 : S512.Idx → EReal) (A3 : S256.Idx → EReal)
    (h : fn (F := Ideal) A0 A1 A2 A3 (Shape.Idx.first (by decide)) = 1#1) : FiniteGate A0 A1 := by
  unfold fn at h
  dsimp only at h
  obtain ⟨h0, h1⟩ := and_one _ _ h
  constructor
  · intro b n i x
    have hb := b.isLt
    have q := Host.reduce_andi_all _ _ _ _ _ h0 (ix2 ⟨b.val * 8192 + (n % 128 * 64 + i.val), by omega⟩ x)
    refine finite_of_olt _ ?_
    rw [← q]
    pointwise
    rfl
  · intro x d
    have q := Host.reduce_andi_all _ _ _ _ _ h1 (ix2 x d)
    refine finite_of_olt _ ?_
    rw [← q]
    pointwise
    rfl

end Gla

end
-- ==== Proof.Chunk.lean ====
/- What the gated linear attention kernel computes for one chunk of 64 tokens and one head, as functions of the values
   it loads, and for one grid point of four chunks and four heads, as functions of the point's blocks. The functions are
   stated over any float operations, with the kernel's own operations in the kernel's own order. -/
module

public import proofs.«01_k».proof.Proof.Gen.KernelIdeal
public import Idealize.ShloMosaic.Lib.Pipeline.FrameBody

@[expose] public section

noncomputable section

namespace Gla

open Idealize.ShloMosaic Cert.KernelIdeal Cert.KernelIdeal.Gen

variable {F : FTy → Type} [FloatOps F]

/-- Row `i` may read column `j` when `j ≤ i`. -/
def causal : IVec S64x64 1 := cmpi .sge (iota .tc S64x64 32 [0] iota_S64x64_d0_w32) (iota .tc S64x64 32 [1] iota_S64x64_d1_w32)

/-- The lower triangle of ones. -/
def tril : FVec F S64x64 .bf16 :=
  truncf .bf16 (select causal (broadcast S64x64 (Scalar.ofBits .f32 0x3F800000#32 : F .f32))
    (broadcast S64x64 (Scalar.ofBits .f32 0x00000000#32 : F .f32))) bitsLt_bf16_f32

/-- The three parts an f32 value is split into: its bf16 part, … -/
def hi {s : Shape} (x : FVec F s .f32) : FVec F s .bf16 := truncf .bf16 x bitsLt_bf16_f32
/-- … what that leaves, … -/
def rem {s : Shape} (x : FVec F s .f32) : FVec F s .f32 := subf x (extf .f32 (hi x) bitsLt_bf16_f32)
/-- … the bf16 part of the remainder, … -/
def mid {s : Shape} (x : FVec F s .f32) : FVec F s .bf16 := hi (rem x)
/-- … and the bf16 part of what that leaves. -/
def lo {s : Shape} (x : FVec F s .f32) : FVec F s .bf16 := hi (subf (rem x) (extf .f32 (mid x) bitsLt_bf16_f32))

/-- One of the six products of the gate. -/
def gmm (a : FVec F S64x128 .bf16) (b : FVec F S128x128 .bf16) : FVec F S64x128 .f32 :=
  matmul dot_S64x128_S128x128_S64x128_1_0_0_1_n_n none a b (constant S64x128 .f32 0x00000000#32)

/-- The gate's logits: the product of the low-rank activations with the gate's weights, both split in three, plus the bias. -/
def gateZ (sm : FVec F S64x128 .f32) (w : FVec F S1x128x128 .f32) (bg : FVec F S1x128 .f32) : FVec F S64x128 .f32 :=
  have w' : FVec F S128x128 .f32 := shapeCast S128x128 w shapeCasts_S1x128x128_S128x128
  addf (addf (addf (gmm (hi sm) (hi w')) (addf (gmm (hi sm) (mid w')) (gmm (mid sm) (hi w'))))
      (addf (addf (gmm (hi sm) (lo w')) (gmm (mid sm) (mid w'))) (gmm (lo sm) (hi w'))))
    (broadcastTo S64x128 (shapeCast S1x128 bg shapeCasts_S1x128_S1x128) broadcasts_S1x128_S64x128)

/-- The log gate: the logarithm of the logits' sigmoid over sixteen. -/
def logGate (z : FVec F S64x128 .f32) : FVec F S64x128 .f32 :=
  mulf (subf (minimumf z (broadcast S64x128 (Scalar.ofBits .f32 0x00000000#32 : F .f32)))
      (log1p (exp (subf (broadcast S64x128 (Scalar.ofBits .f32 0x00000000#32 : F .f32)) (absf z)))))
    (broadcast S64x128 (Scalar.ofBits .f32 0x3D800000#32 : F .f32))

/-- A product with the triangle of ones. -/
def tmm (g : FVec F S64x128 .bf16) : FVec F S64x128 .f32 :=
  matmul dot_S64x64_S64x128_S64x128_1_0_0_1_n_n none tril g (constant S64x128 .f32 0x00000000#32)

/-- The running sum of the log gates over the chunk's tokens. -/
def cumGate (g : FVec F S64x128 .f32) : FVec F S64x128 .f32 := addf (addf (tmm (hi g)) (tmm (mid g))) (tmm (lo g))

/-- The running sum at the chunk's last token. -/
def lastGate (b : FVec F S64x128 .f32) : FVec F S1x128 .f32 := extractStridedSlice S1x128 ![63, 0] b slices_S64x128_o63_0_S1x128

/-- The queries, scaled and decayed. -/
def qe (q b : FVec F S64x128 .f32) : FVec F S64x128 .bf16 :=
  hi (mulf (mulf q (broadcast S64x128 (Scalar.ofBits .f32 0x3DB504F3#32 : F .f32))) (exp b))

/-- The keys over the decay up to their token. -/
def ke (k b : FVec F S64x128 .f32) : FVec F S64x128 .bf16 :=
  hi (mulf k (exp (subf (broadcast S64x128 (Scalar.ofBits .f32 0x00000000#32 : F .f32)) b)))

/-- The keys decayed to the chunk's end. -/
def kd (k b : FVec F S64x128 .f32) : FVec F S64x128 .bf16 :=
  hi (mulf k (exp (subf (broadcastTo S64x128 (lastGate b) broadcasts_S1x128_S64x128) b)))

/-- The chunk's attention over itself and over the state. -/
def outc (q k b : FVec F S64x128 .f32) (v : FVec F S64x256 .f32) (st : FVec F S256x128 .f32) : FVec F S64x256 .f32 :=
  addf
    (matmul dot_S64x64_S64x256_S64x256_1_0_0_1_n_n none
      (hi (select causal (matmul dot_S64x128_S64x128_S64x64_1_1_0_0_n_n none (qe q b) (ke k b) (constant S64x64 .f32 0x00000000#32))
        (broadcast S64x64 (Scalar.ofBits .f32 0x00000000#32 : F .f32))))
      (hi v) (constant S64x256 .f32 0x00000000#32))
    (matmul dot_S64x128_S256x128_S64x256_1_1_0_0_n_n none (qe q b) (hi st) (constant S64x256 .f32 0x00000000#32))

/-- The state after the chunk, values along the rows and keys along the columns. -/
def stNext (k b : FVec F S64x128 .f32) (v : FVec F S64x256 .f32) (st : FVec F S256x128 .f32) : FVec F S256x128 .f32 :=
  addf (mulf (broadcastTo S256x128 (exp (lastGate b)) broadcasts_S1x128_S256x128) st)
    (matmul dot_S64x256_S64x128_S256x128_0_0_1_1_n_n none (hi v) (kd k b) (constant S256x128 .f32 0x00000000#32))

/-- The attention normalised, scaled and gated. -/
def normOut (r o : FVec F S64x256 .f32) (gout : FVec F S1x256 .f32) : FVec F S64x256 .bf16 :=
  hi (mulf (mulf r (logistic r))
    (mulf (mulf o (broadcastTo S64x256 (rsqrt (addf (divf (shapeCast S64x1
          (multiReduction .add [1] S64 (mulf o o) 0x00000000#32 reduces_S64x256_S64 (.inl rfl) rfl) shapeCasts_S64_S64x1)
        (broadcast S64x1 (Scalar.ofBits .f32 0x43800000#32 : F .f32)))
        (broadcast S64x1 (Scalar.ofBits .f32 0x358637BD#32 : F .f32)))) broadcasts_S64x1_S64x256))
      (broadcastTo S64x256 (shapeCast S1x256 gout shapeCasts_S1x256_S1x256) broadcasts_S1x256_S64x256)))

/-! ## A grid point -/

/-- The blocks a grid point reads: queries, keys, values, the output gate, the low-rank activations, the gate's weights
    and bias, and the output norm's weights. -/
structure Blocks (F : FTy → Type) [FloatOps F] where
  q : FVec F S256x512 .f32
  k : FVec F S256x512 .f32
  v : FVec F S256x1024 .f32
  r : FVec F S256x1024 .f32
  sm : FVec F S256x128 .f32
  w : FVec F S4x128x128 .f32
  bg : FVec F S1x512 .f32
  gout : FVec F S1x256 .f32

theorem inb2 {R C W : Nat} (c h : Fin 4) (hR : R = 256) (hC : C = W * 4) :
    ∀ a, (![64 * c.val, W * h.val] : Fin 2 → Nat) a + (![64, W] : Fin 2 → Nat) a ≤ (![R, C] : Fin 2 → Nat) a := by
  subst hR hC
  have hc := c.isLt
  have hm : W * h.val + W ≤ W * 4 := (Nat.mul_succ W h.val).symm ▸ Nat.mul_le_mul_left W h.isLt
  intro a
  fin_cases a
  · show 64 * c.val + 64 ≤ 256; omega
  · exact hm

/-- Chunk `c`, head `h` of a block of queries or keys. -/
abbrev rectK (c h : Fin 4) : Rect S256x512 := Rect.unit ![64 * c.val, 128 * h.val] S64x128.size (inb2 c h rfl rfl)
/-- Chunk `c`, head `h` of a block of values, of the output gate or of the output. -/
abbrev rectV (c h : Fin 4) : Rect S256x1024 := Rect.unit ![64 * c.val, 256 * h.val] S64x256.size (inb2 c h rfl rfl)
/-- Chunk `c` of the low-rank activations. -/
abbrev rectSm (c : Fin 4) : Rect S256x128 := Rect.unit ![64 * c.val, 0] S64x128.size (by intro a; fin_cases a <;> simp <;> omega)
/-- Head `h` of the gate's weights. -/
abbrev rectW (h : Fin 4) : Rect S4x128x128 := Rect.unit ![h.val, 0, 0] S1x128x128.size (by intro a; fin_cases a <;> simp <;> omega)
/-- Head `h` of the gate's bias. -/
abbrev rectBg (h : Fin 4) : Rect S1x512 := Rect.unit ![0, 128 * h.val] S1x128.size (by intro a; fin_cases a <;> simp <;> omega)
/-- Head `h` of the carried state. -/
abbrev rectSt (h : Fin 4) : Rect S4x256x128 := Rect.unit ![h.val, 0, 0] S1x256x128.size (by intro a; fin_cases a <;> simp <;> omega)
/-- Head `h` of a state array. -/
abbrev rectS (h : Fin 4) : Rect S1x4x128x256 := Rect.unit ![0, h.val, 0, 0] S1x1x128x256.size (by intro a; fin_cases a <;> simp <;> omega)

/-! The loads of a chunk and a head. -/

def ldK (x : FVec F S256x512 .f32) (c h : Fin 4) : FVec F S64x128 .f32 := View.ld (Val := Elt F) (e' := .f32) x (rectK c h)
def ldV (x : FVec F S256x1024 .f32) (c h : Fin 4) : FVec F S64x256 .f32 := View.ld (Val := Elt F) (e' := .f32) x (rectV c h)
def ldSm (x : FVec F S256x128 .f32) (c : Fin 4) : FVec F S64x128 .f32 := View.ld (Val := Elt F) (e' := .f32) x (rectSm c)
def ldW (x : FVec F S4x128x128 .f32) (h : Fin 4) : FVec F S1x128x128 .f32 := View.ld (Val := Elt F) (e' := .f32) x (rectW h)
def ldBg (x : FVec F S1x512 .f32) (h : Fin 4) : FVec F S1x128 .f32 := View.ld (Val := Elt F) (e' := .f32) x (rectBg h)
def ldSt (x : FVec F S4x256x128 .f32) (h : Fin 4) : FVec F S1x256x128 .f32 := View.ld (Val := Elt F) (e' := .f32) x (rectSt h)
def ldS (x : FVec F S1x4x128x256 .f32) (h : Fin 4) : FVec F S1x1x128x256 .f32 := View.ld (Val := Elt F) (e' := .f32) x (rectS h)
def ldGout (x : FVec F S1x256 .f32) : FVec F S1x256 .f32 :=
  View.ld (Val := Elt F) (e' := .f32) x (Rect.unit ![0, 0] S1x256.size (by intro a; fin_cases a <;> simp))

/-- The running sum of the log gates of chunk `c`, head `h`. -/
def bAt (B : Blocks F) (c h : Fin 4) : FVec F S64x128 .f32 :=
  cumGate (logGate (gateZ (ldSm B.sm c) (ldW B.w h) (ldBg B.bg h)))

/-- The state of head `h` before chunk `n`, from the state the point starts with. -/
def stAt (B : Blocks F) (xs : FVec F S4x256x128 .f32) (h : Fin 4) : ℕ → FVec F S256x128 .f32
  | 0 => shapeCast S256x128 (ldSt xs h) shapeCasts_S1x256x128_S256x128
  | n + 1 => stNext (ldK B.k (Fin.ofNat 4 n) h) (bAt B (Fin.ofNat 4 n) h) (ldV B.v (Fin.ofNat 4 n) h) (stAt B xs h n)

/-- The output of chunk `c`, head `h`. -/
def outAt (B : Blocks F) (xs : FVec F S4x256x128 .f32) (c h : Fin 4) : FVec F S64x256 .bf16 :=
  normOut (ldV B.r c h)
    (outc (ldK B.q c h) (ldK B.k c h) (bAt B c h) (ldV B.v c h) (stAt B xs h c.val))
    (ldGout B.gout)

/-- The output block a grid point stores, chunk by chunk and head by head, last first. -/
def outPieces (B : Blocks F) (xs : FVec F S4x256x128 .f32) : List (View.Piece (Elt F) S256x1024 .bf16) :=
  [⟨rectV 3 3, outAt B xs 3 3⟩, ⟨rectV 3 2, outAt B xs 3 2⟩, ⟨rectV 3 1, outAt B xs 3 1⟩, ⟨rectV 3 0, outAt B xs 3 0⟩,
   ⟨rectV 2 3, outAt B xs 2 3⟩, ⟨rectV 2 2, outAt B xs 2 2⟩, ⟨rectV 2 1, outAt B xs 2 1⟩, ⟨rectV 2 0, outAt B xs 2 0⟩,
   ⟨rectV 1 3, outAt B xs 1 3⟩, ⟨rectV 1 2, outAt B xs 1 2⟩, ⟨rectV 1 1, outAt B xs 1 1⟩, ⟨rectV 1 0, outAt B xs 1 0⟩,
   ⟨rectV 0 3, outAt B xs 0 3⟩, ⟨rectV 0 2, outAt B xs 0 2⟩, ⟨rectV 0 1, outAt B xs 0 1⟩, ⟨rectV 0 0, outAt B xs 0 0⟩]

/-- The state of head `h` a grid point stores. -/
def stOut (B : Blocks F) (xs : FVec F S4x256x128 .f32) (h : Fin 4) : FVec F S1x256x128 .f32 :=
  shapeCast S1x256x128 (stAt B xs h 4) shapeCasts_S256x128_S1x256x128

/-- The states a grid point stores, last first. -/
def stPieces (B : Blocks F) (xs : FVec F S4x256x128 .f32) : List (View.Piece (Elt F) S4x256x128 .f32) :=
  [⟨rectSt 3, stOut B xs 3⟩, ⟨rectSt 2, stOut B xs 2⟩, ⟨rectSt 1, stOut B xs 1⟩, ⟨rectSt 0, stOut B xs 0⟩]

/-- Head `h` of a start state, transposed. -/
def resetAt (x8 : FVec F S1x4x128x256 .f32) (h : Fin 4) : FVec F S1x256x128 .f32 :=
  shapeCast S1x256x128 (transpose S256x128 [1, 0] (shapeCast S128x256 (ldS x8 h) shapeCasts_S1x1x128x256_S128x256)
    transposes_S128x256_p1_0_S256x128) shapeCasts_S256x128_S1x256x128

/-- The start states the first point of a sequence stores, last first. -/
def resetPieces (x8 : FVec F S1x4x128x256 .f32) : List (View.Piece (Elt F) S4x256x128 .f32) :=
  [⟨rectSt 3, resetAt x8 3⟩, ⟨rectSt 2, resetAt x8 2⟩, ⟨rectSt 1, resetAt x8 1⟩, ⟨rectSt 0, resetAt x8 0⟩]

/-- Head `h` of a carried state, transposed back. -/
def finalAt (xs : FVec F S4x256x128 .f32) (h : Fin 4) : FVec F S1x1x128x256 .f32 :=
  shapeCast S1x1x128x256 (transpose S128x256 [1, 0] (shapeCast S256x128 (ldSt xs h) shapeCasts_S1x256x128_S256x128)
    transposes_S256x128_p1_0_S128x256) shapeCasts_S128x256_S1x1x128x256

/-- The states the last point of a sequence hands out, last first. -/
def finalPieces (xs : FVec F S4x256x128 .f32) : List (View.Piece (Elt F) S1x4x128x256 .f32) :=
  [⟨rectS 3, finalAt xs 3⟩, ⟨rectS 2, finalAt xs 2⟩, ⟨rectS 1, finalAt xs 1⟩, ⟨rectS 0, finalAt xs 0⟩]

end Gla

end
-- ==== Proof.Body.lean ====
/- The pieces each case of the grid point's run stores are the chunk functions of Chunk.lean, over the blocks as the
   point reads them. -/
module

public import proofs.«01_k».proof.Proof.Gen.KernelIdeal.Value
public import proofs.«01_k».proof.Proof.Chunk

@[expose] public section

set_option maxRecDepth 16384

noncomputable section

namespace Gla

open Idealize.ShloMosaic Idealize.ShloMosaic.TcCoe Idealize.ShloMosaic.Tactic Cert.KernelIdeal Cert.KernelIdeal.Gen

variable {F : FTy → Type} [FloatOps F]

/-- The blocks as read off the memrefs the point's windows are staged in. -/
def readBlocks (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) : Blocks F where
  q := arg2.view.read (Elt F) (harg2.unread x0)
  k := arg3.view.read (Elt F) (harg3.unread x1)
  v := arg4.view.read (Elt F) (harg4.unread x2)
  r := arg5.view.read (Elt F) (harg5.unread x3)
  sm := arg6.view.read (Elt F) (harg6.unread x4)
  w := arg7.view.read (Elt F) (harg7.unread x5)
  bg := arg8.view.read (Elt F) (harg8.unread x6)
  gout := arg9.view.read (Elt F) (harg9.unread x7)

theorem runB_out (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : ¬cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 = outPieces (readBlocks arg2 harg2 arg3 harg3 arg4 harg4 arg5 harg5 arg6 harg6 arg7 harg7 arg8 harg8 arg9 harg9 x0 x1 x2 x3 x4 x5 x6 x7) (arg13.view.read (Elt F) (harg13.unread xs0)) := by
  sl_kernel_rfl

theorem runB_st (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : ¬cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 = stPieces (readBlocks arg2 harg2 arg3 harg3 arg4 harg4 arg5 harg5 arg6 harg6 arg7 harg7 arg8 harg8 arg9 harg9 x0 x1 x2 x3 x4 x5 x6 x7) (arg13.view.read (Elt F) (harg13.unread xs0)) := by
  sl_kernel_rfl

theorem runC_out (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 = outPieces (readBlocks arg2 harg2 arg3 harg3 arg4 harg4 arg5 harg5 arg6 harg6 arg7 harg7 arg8 harg8 arg9 harg9 x0 x1 x2 x3 x4 x5 x6 x7) (arg13.view.read (Elt F) (harg13.unread xs0)) := by
  sl_kernel_rfl

theorem runC_st (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 = stPieces (readBlocks arg2 harg2 arg3 harg3 arg4 harg4 arg5 harg5 arg6 harg6 arg7 harg7 arg8 harg8 arg9 harg9 x0 x1 x2 x3 x4 x5 x6 x7) (arg13.view.read (Elt F) (harg13.unread xs0)) := by
  sl_kernel_rfl

theorem runC_fin (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 = finalPieces (arg13.view.read (Elt F) (arg13.view.writes (Elt F) arg13.view.junk (stPieces (readBlocks arg2 harg2 arg3 harg3 arg4 harg4 arg5 harg5 arg6 harg6 arg7 harg7 arg8 harg8 arg9 harg9 x0 x1 x2 x3 x4 x5 x6 x7) (arg13.view.read (Elt F) (harg13.unread xs0))))) := by
  sl_kernel_rfl

theorem runA_out (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond0_0 i) (hc1 : ¬cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 = outPieces (readBlocks arg2 harg2 arg3 harg3 arg4 harg4 arg5 harg5 arg6 harg6 arg7 harg7 arg8 harg8 arg9 harg9 x0 x1 x2 x3 x4 x5 x6 x7) (arg13.view.read (Elt F) (arg13.view.writes (Elt F) arg13.view.junk (resetPieces (arg10.view.read (Elt F) (harg10.unread x8))))) := by
  sl_kernel_rfl

theorem runA_st (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond0_0 i) (hc1 : ¬cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 = stPieces (readBlocks arg2 harg2 arg3 harg3 arg4 harg4 arg5 harg5 arg6 harg6 arg7 harg7 arg8 harg8 arg9 harg9 x0 x1 x2 x3 x4 x5 x6 x7) (arg13.view.read (Elt F) (arg13.view.writes (Elt F) arg13.view.junk (resetPieces (arg10.view.read (Elt F) (harg10.unread x8))))) ++ (resetPieces (arg10.view.read (Elt F) (harg10.unread x8))) := by
  sl_kernel_rfl

end Gla

end
-- ==== Proof.Point.lean ====
/- What a grid point leaves in the output block, in the carried state and, at a sequence's last point, in the state
   handed out, over the blocks the point reads and the state the point before left. -/
module

public import proofs.«01_k».proof.Proof.Body
public import Idealize.ShloMosaic.Lib.Pipeline.ValueKit
public import Idealize.ShloMosaic.Lib.Pipeline.ReadBack

@[expose] public section

set_option maxRecDepth 16384

noncomputable section

namespace Gla

open Idealize.ShloMosaic Idealize.ShloMosaic.TcCoe Cert.KernelIdeal Cert.KernelIdeal.Gen

variable {F : FTy → Type} [FloatOps F]
/-- The output block of a sequence's first point. -/
theorem outA (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond0_0 i) (hc1 : ¬cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = View.canon (Val := Elt F) (outPieces (⟨x0, x1, x2, x3, x4, x5, x6, x7⟩ : Blocks F) (View.canon (Val := Elt F) (resetPieces x8))) := by
  unfold out0_A_9
  rw [View.read_writes_junk_eq_canon, runA_out]
  simp only [readBlocks, Memref.IsWhole.read_unread, View.read_writes_junk_eq_canon]

/-- The state a sequence's first point leaves. -/
theorem stA (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond0_0 i) (hc1 : ¬cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = View.canon (Val := Elt F) (stPieces (⟨x0, x1, x2, x3, x4, x5, x6, x7⟩ : Blocks F) (View.canon (Val := Elt F) (resetPieces x8)) ++ resetPieces x8) := by
  unfold sout0_A_0
  rw [View.read_writes_junk_eq_canon, runA_st]
  simp only [readBlocks, Memref.IsWhole.read_unread, View.read_writes_junk_eq_canon]

/-- The output block of a point inside a sequence. -/
theorem outB (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : ¬cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = View.canon (Val := Elt F) (outPieces (⟨x0, x1, x2, x3, x4, x5, x6, x7⟩ : Blocks F) xs0) := by
  unfold out0_B_9
  rw [View.read_writes_junk_eq_canon, runB_out]
  simp only [readBlocks, Memref.IsWhole.read_unread, View.read_writes_junk_eq_canon]

/-- The state of a point inside a sequence. -/
theorem stB (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : ¬cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = View.canon (Val := Elt F) (stPieces (⟨x0, x1, x2, x3, x4, x5, x6, x7⟩ : Blocks F) xs0) := by
  unfold sout0_B_0
  rw [View.read_writes_junk_eq_canon, runB_st]
  simp only [readBlocks, Memref.IsWhole.read_unread, View.read_writes_junk_eq_canon]

/-- The output block of a sequence's last point. -/
theorem outC (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = View.canon (Val := Elt F) (outPieces (⟨x0, x1, x2, x3, x4, x5, x6, x7⟩ : Blocks F) xs0) := by
  unfold out0_C_9
  rw [View.read_writes_junk_eq_canon, runC_out]
  simp only [readBlocks, Memref.IsWhole.read_unread, View.read_writes_junk_eq_canon]

/-- The state of a sequence's last point. -/
theorem stC (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = View.canon (Val := Elt F) (stPieces (⟨x0, x1, x2, x3, x4, x5, x6, x7⟩ : Blocks F) xs0) := by
  unfold sout0_C_0
  rw [View.read_writes_junk_eq_canon, runC_st]
  simp only [readBlocks, Memref.IsWhole.read_unread, View.read_writes_junk_eq_canon]

/-- The state a sequence's last point hands out. -/
theorem finC (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S256x1024 .bf16) (harg11 : arg11.IsWhole) (arg12 : Memref sig .tc .vmem S1x4x128x256 .f32) (harg12 : arg12.IsWhole) (arg13 : Memref sig .tc .vmem S4x256x128 .f32) (harg13 : arg13.IsWhole) (hc0 : ¬cond0_0 i) (hc1 : cond0_1 i)
    (x0 : Vec F S256x512 .f32) (x1 : Vec F S256x512 .f32) (x2 : Vec F S256x1024 .f32) (x3 : Vec F S256x1024 .f32) (x4 : Vec F S256x128 .f32) (x5 : Vec F S4x128x128 .f32) (x6 : Vec F S1x512 .f32) (x7 : Vec F S1x256 .f32) (x8 : Vec F S1x4x128x256 .f32) (xs0 : Vec F S4x256x128 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = View.canon (Val := Elt F) (finalPieces (View.canon (Val := Elt F) (stPieces (⟨x0, x1, x2, x3, x4, x5, x6, x7⟩ : Blocks F) xs0))) := by
  unfold out0_C_10
  rw [View.read_writes_junk_eq_canon, runC_fin]
  simp only [readBlocks, Memref.IsWhole.read_unread, View.read_writes_junk_eq_canon]

variable (m : (ℓ : Loc nD τ sig) → Buf (Elt F) ℓ)

/-- The blocks point `t` reads. -/
def blocks (c : Dev nD) (t : Fin cfg0.N) : Blocks F where
  q := iblk m c 0 t
  k := iblk m c 1 t
  v := X0_2 m c t
  r := X0_3 m c t
  sm := iblk m c 4 t
  w := iblk m c 5 t
  bg := iblk m c 6 t
  gout := iblk m c 7 t

/-- The state a sequence's first point starts from: the start state, transposed. -/
def fresh (c : Dev nD) (t : Fin cfg0.N) : FVec F S4x256x128 .f32 := View.canon (Val := Elt F) (resetPieces (iblk m c 8 t))

/-- The state the point before `t` left. -/
def carried (c : Dev nD) (t : Fin cfg0.N) : FVec F S4x256x128 .f32 :=
  (outsAt0 m c (t.val - 1) (Nat.lt_of_le_of_lt (Nat.sub_le _ _) t.isLt)).2.2

/-- A sequence's first point: the output block … -/
theorem first_out (c : Dev nD) (t : Fin cfg0.N) (h0 : t.val % 32 = 0) :
    (outsAt0 m c t.val t.isLt).1 = View.canon (Val := Elt F) (outPieces (blocks m c t) (fresh m c t)) := by
  have h1 : ¬ t.val % 32 = 31 := by omega
  rw [outsAt0_A m c t h0 h1]
  dsimp only
  rw [outA]
  rfl

/-- … and the state. -/
theorem first_st (c : Dev nD) (t : Fin cfg0.N) (h0 : t.val % 32 = 0) :
    (outsAt0 m c t.val t.isLt).2.2 =
      View.canon (Val := Elt F) (stPieces (blocks m c t) (fresh m c t) ++ resetPieces (iblk m c 8 t)) := by
  have h1 : ¬ t.val % 32 = 31 := by omega
  rw [outsAt0_A m c t h0 h1]
  dsimp only
  rw [stA]
  rfl

/-- A point inside a sequence. -/
theorem out_B (c : Dev nD) (t : Fin cfg0.N) (h0 : ¬ t.val % 32 = 0) (h1 : ¬ t.val % 32 = 31) :
    (outsAt0 m c t.val t.isLt).1 = View.canon (Val := Elt F) (outPieces (blocks m c t) (carried m c t)) := by
  rw [outsAt0_B m c t h0 h1]
  dsimp only
  rw [outB]
  rfl

/-- A point inside a sequence. -/
theorem st_B (c : Dev nD) (t : Fin cfg0.N) (h0 : ¬ t.val % 32 = 0) (h1 : ¬ t.val % 32 = 31) :
    (outsAt0 m c t.val t.isLt).2.2 = View.canon (Val := Elt F) (stPieces (blocks m c t) (carried m c t)) := by
  rw [outsAt0_B m c t h0 h1]
  dsimp only
  rw [stB]
  rfl

/-- A sequence's last point. -/
theorem out_C (c : Dev nD) (t : Fin cfg0.N) (h0 : ¬ t.val % 32 = 0) (h1 : t.val % 32 = 31) :
    (outsAt0 m c t.val t.isLt).1 = View.canon (Val := Elt F) (outPieces (blocks m c t) (carried m c t)) := by
  rw [outsAt0_C m c t h0 h1]
  dsimp only
  rw [outC]
  rfl

/-- A sequence's last point. -/
theorem st_C (c : Dev nD) (t : Fin cfg0.N) (h0 : ¬ t.val % 32 = 0) (h1 : t.val % 32 = 31) :
    (outsAt0 m c t.val t.isLt).2.2 = View.canon (Val := Elt F) (stPieces (blocks m c t) (carried m c t)) := by
  rw [outsAt0_C m c t h0 h1]
  dsimp only
  rw [stC]
  rfl

/-- Any point but a sequence's first: the output block, over the state the point before left … -/
theorem next_out (c : Dev nD) (t : Fin cfg0.N) (h0 : ¬ t.val % 32 = 0) :
    (outsAt0 m c t.val t.isLt).1 = View.canon (Val := Elt F) (outPieces (blocks m c t) (carried m c t)) := by
  by_cases h1 : t.val % 32 = 31
  · exact out_C m c t h0 h1
  · exact out_B m c t h0 h1

/-- … and the state. -/
theorem next_st (c : Dev nD) (t : Fin cfg0.N) (h0 : ¬ t.val % 32 = 0) :
    (outsAt0 m c t.val t.isLt).2.2 = View.canon (Val := Elt F) (stPieces (blocks m c t) (carried m c t)) := by
  by_cases h1 : t.val % 32 = 31
  · exact st_C m c t h0 h1
  · exact st_B m c t h0 h1

/-- A sequence's last point also hands the state out. -/
theorem last_fin (c : Dev nD) (t : Fin cfg0.N) (h1 : t.val % 32 = 31) :
    (outsAt0 m c t.val t.isLt).2.1 =
      View.canon (Val := Elt F) (finalPieces (View.canon (Val := Elt F) (stPieces (blocks m c t) (carried m c t)))) := by
  have h0 : ¬ t.val % 32 = 0 := by omega
  rw [outsAt0_C m c t h0 h1]
  dsimp only
  rw [finC]
  rfl

end Gla

end
-- ==== Proof.Inputs.lean ====
/- The blocks a grid point reads, in terms of the kernel's arguments: the rows of its tokens, the columns of each part of
   the projection, and the gate's weights padded to the low-rank activations' lanes. -/
module

public import proofs.«01_k».proof.Proof.Point
public import Idealize.ShloMosaic.Lib.Pointwise

@[expose] public section

noncomputable section

namespace Gla

open Idealize.ShloMosaic Idealize.ShloMosaic.TcCoe Cert.KernelIdeal Cert.KernelIdeal.Gen

variable {F : FTy → Type} [FloatOps F]
variable (m : (ℓ : Loc nD τ sig) → Buf (Elt F) ℓ)

/-- The block every window names at a point. -/
theorem idx : ∀ t : Fin cfg0.N, win0_0.index t = ![t.val, 0] ∧ win0_1.index t = ![t.val, 1] ∧ win0_2.index t = ![t.val, 1]
    ∧ win0_3.index t = ![t.val, 2] ∧ win0_4.index t = ![t.val, 72] ∧ win0_5.index t = ![0, 0, 0] ∧ win0_6.index t = ![0, 0]
    ∧ win0_7.index t = ![0, 0] ∧ win0_8.index t = ![t.val / 32, 0, 0, 0] :=
  (by decide +kernel : ∀ t : Fin grid0.N, _)

theorem q_at (c : Dev nD) (t : Fin cfg0.N) (i : Fin 256) (l : Fin 512) (hr : 256 * t.val + i.val < 16896) :
    (blocks m c t).q (ix2 i l) = m ((c : Thread nD τ).loc main_arg0) (ix2 ⟨256 * t.val + i.val, hr⟩ ⟨l.val, by omega⟩) := by
  show iblk m c 0 t _ = _
  blk_ext [iblk, V, idx t]

theorem k_at (c : Dev nD) (t : Fin cfg0.N) (i : Fin 256) (l : Fin 512) (hr : 256 * t.val + i.val < 16896) :
    (blocks m c t).k (ix2 i l) = m ((c : Thread nD τ).loc main_arg0) (ix2 ⟨256 * t.val + i.val, hr⟩ ⟨512 + l.val, by omega⟩) := by
  show iblk m c 1 t _ = _
  blk_ext [iblk, V, idx t]

theorem sm_at (c : Dev nD) (t : Fin cfg0.N) (i : Fin 256) (l : Fin 128) (hr : 256 * t.val + i.val < 16896) :
    (blocks m c t).sm (ix2 i l) = m ((c : Thread nD τ).loc main_arg0) (ix2 ⟨256 * t.val + i.val, hr⟩ ⟨9216 + l.val, by omega⟩) := by
  show iblk m c 4 t _ = _
  blk_ext [iblk, V, idx t]

theorem v_at (c : Dev nD) (t : Fin cfg0.N) (i : Fin 256) (l : Fin 1024) (hr : 256 * t.val + i.val < 16896) :
    (blocks m c t).v (ix2 i l) = m ((c : Thread nD τ).loc main_arg0) (ix2 ⟨256 * t.val + i.val, hr⟩ ⟨1024 + l.val, by omega⟩) := by
  show X0_2 m c t _ = _
  unfold X0_2 Pipeline.Window.fill
  rw [dif_pos (moved0_2 t _)]
  blk_ext [iblk, V, idx t]

theorem r_at (c : Dev nD) (t : Fin cfg0.N) (i : Fin 256) (l : Fin 1024) (hr : 256 * t.val + i.val < 16896) :
    (blocks m c t).r (ix2 i l) = m ((c : Thread nD τ).loc main_arg0) (ix2 ⟨256 * t.val + i.val, hr⟩ ⟨2048 + l.val, by omega⟩) := by
  show X0_3 m c t _ = _
  unfold X0_3 Pipeline.Window.fill
  rw [dif_pos (moved0_3 t _)]
  blk_ext [iblk, V, idx t]

/-! ## The arrays the host prepares -/

/-- The output norm's weights as a row. -/
theorem V_v5 (c : Dev nD) : V m c main_v5 = (shapeCast S1x256 (m ((c : Thread nD τ).loc main_arg3)) shapeCasts_S256_S1x256 : FVec F S1x256 .f32) := by
  show StableHlo.after _ _ _ = _
  unfold hostOps0 hostOps0_1 hostOps0_2
  simp only [List.flatten_cons, List.flatten_nil, List.append_nil, List.cons_append, List.nil_append]
  after_results
  rfl

/-- The gate's bias as a row. -/
theorem V_v4 (c : Dev nD) : V m c main_v4 = (shapeCast S1x512 (m ((c : Thread nD τ).loc main_arg2)) shapeCasts_S512_S1x512 : FVec F S1x512 .f32) := by
  show StableHlo.after _ _ _ = _
  unfold hostOps0 hostOps0_1 hostOps0_2
  simp only [List.flatten_cons, List.flatten_nil, List.append_nil, List.cons_append, List.nil_append]
  after_results
  rfl

/-- The gate's weights, a head at a time, padded with zero rows before and after. -/
theorem V_v3 (c : Dev nD) : V m c main_v3 = (pad S4x128x128 ![0, 64, 0] ![0, 48, 0] ![0, 0, 0]
      (transpose S4x16x128 [1, 0, 2] (shapeCast S16x4x128 (m ((c : Thread nD τ).loc main_arg1)) shapeCasts_S16x512_S16x4x128
        : FVec F S16x4x128 .f32) transposes_S16x4x128_S4x16x128_1_0_2)
      (sitofp .f32 (constantI S_ 32 0#32) : FVec F S_ .f32) pads_S4x16x128_S4x128x128_000_64480_000 h_S_ : FVec F S4x128x128 .f32) := by
  show StableHlo.after _ _ _ = _
  unfold hostOps0 hostOps0_1 hostOps0_2
  simp only [List.flatten_cons, List.flatten_nil, List.append_nil, List.cons_append, List.nil_append]
  after_results
  rfl

/-- The start state. -/
theorem V_v0 (c : Dev nD) : V m c main_v0 = (broadcastInDim S2x4x128x256 ![] bcast_S_S2x4x128x256 (constant S_ .f32 0x00000000#32) : FVec F S2x4x128x256 .f32) := by
  show StableHlo.after _ _ _ = _
  unfold hostOps0 hostOps0_1 hostOps0_2
  simp only [List.flatten_cons, List.flatten_nil, List.append_nil, List.cons_append, List.nil_append]
  after_results

theorem gout_at (c : Dev nD) (t : Fin cfg0.N) (l : Fin 256) :
    (blocks m c t).gout (ix2 0 l) = m ((c : Thread nD τ).loc main_arg3) (ix1 l) := by
  have e : ((cfg0.win 7).blk t).view.emb (ix2 0 l) = ix2 0 l := by blk_ext [idx t]
  show V m c main_v5 (((cfg0.win 7).blk t).view.emb (ix2 0 l)) = _
  rw [V_v5, e]
  pointwise

theorem bg_at (c : Dev nD) (t : Fin cfg0.N) (l : Fin 512) :
    (blocks m c t).bg (ix2 0 l) = m ((c : Thread nD τ).loc main_arg2) (ix1 l) := by
  have e : ((cfg0.win 6).blk t).view.emb (ix2 0 l) = ix2 0 l := by blk_ext [idx t]
  show V m c main_v4 (((cfg0.win 6).blk t).view.emb (ix2 0 l)) = _
  rw [V_v4, e]
  pointwise

theorem s0_at (c : Dev nD) (t : Fin cfg0.N) (h : Fin 4) (d : Fin 128) (e : Fin 256) :
    iblk m c 8 t (ix4 0 h d e) = (Scalar.ofBits .f32 0x00000000#32 : F .f32) := by
  show V m c main_v0 (((cfg0.win 8).blk t).view.emb (ix4 0 h d e)) = _
  rw [V_v0]
  pointwise

/-- The gate's weights: zero but in the sixteen lanes the low-rank activations fill. -/
theorem w_at (m : (ℓ : Loc nD τ sig) → Buf (Elt Ideal) ℓ) (c : Dev nD) (t : Fin cfg0.N) (h : Fin 4) (l d : Fin 128) :
    (blocks m c t).w (ix3 h l d) = if hl : 64 ≤ l.val ∧ l.val < 80 then
      m ((c : Thread nD τ).loc main_arg1) (ix2 ⟨l.val - 64, by omega⟩ ⟨128 * h.val + d.val, by omega⟩) else (0 : EReal) := by
  have e : ((cfg0.win 5).blk t).view.emb (ix3 h l d) = ix3 h l d := by blk_ext [idx t]
  show V m c main_v3 (((cfg0.win 5).blk t).view.emb (ix3 h l d)) = _
  rw [V_v3, e]
  pointwise
  by_cases hl : 64 ≤ l.val ∧ l.val < 80
  · rw [dif_pos ⟨hl.1, by omega⟩, dif_pos hl]
    exact congrArg (fun q => m ((c : Thread nD τ).loc main_arg1) (ix2 _ q)) (Fin.ext (by show h.val * 128 + d.val = 128 * h.val + d.val; omega))
  · rw [dif_neg (by omega), dif_neg hl]
    show (((0#32 : BitVec 32).toInt : ℝ) : EReal) = 0
    simp

end Gla

end
-- ==== Proof.Tiles.lean ====
/- The blocks and states a grid point's stores leave, at an index. -/
module

public import proofs.«01_k».proof.Proof.Chunk
public import Idealize.ShloMosaic.Lib.Pipeline.ValueKit
public import Idealize.ShloMosaic.Lib.Pipeline.ReadBack
public import Idealize.ShloMosaic.Lib.Pointwise

@[expose] public section

noncomputable section

namespace Gla

open Idealize.ShloMosaic Cert.KernelIdeal Cert.KernelIdeal.Gen

variable {F : FTy → Type} [FloatOps F]

theorem outAt_congr (B : Blocks F) (xs : FVec F S4x256x128 .f32) {c c' h h' : Fin 4} {x : S64x256.Idx} {i : Fin 64} {e : Fin 256}
    (hc : c.val = c'.val) (hh : h.val = h'.val) (h0 : (x 0).val = i.val) (h1 : (x 1).val = e.val) :
    outAt B xs c h x = outAt B xs c' h' (ix2 i e) := by
  obtain rfl := Fin.ext hc
  obtain rfl := Fin.ext hh
  congr 1
  funext a
  fin_cases a
  · exact Fin.ext h0
  · exact Fin.ext h1

/-- The output block at token `64 c + i` and column `256 h + e`. -/
theorem outPieces_at (B : Blocks F) (xs : FVec F S4x256x128 .f32) (c h : Fin 4) (i : Fin 64) (e : Fin 256) (y : S256x1024.Idx)
    (y0 : (y 0).val = 64 * c.val + i.val) (y1 : (y 1).val = 256 * h.val + e.val) :
    View.canon (Val := Elt F) (outPieces B xs) y = outAt B xs c h (ix2 i e) := by
  have hc := c.isLt; have hh := h.isLt; have hi := i.isLt; have he := e.isLt
  unfold outPieces
  canon_tiles x hx
  all_goals
    refine outAt_congr B xs ?_ ?_ ?_ ?_ <;> simp only [Fin.isValue, Fin.val_zero, Fin.val_one, Fin.val_two, show ((3 : Fin 4).val) = 3 from rfl] <;> omega

theorem exists_ix3 {a b c : ℕ} (x : (⟨3, ![a, b, c]⟩ : Shape).Idx) : ∃ (i : Fin a) (j : Fin b) (k : Fin c), x = ix3 i j k :=
  ⟨x 0, x 1, x 2, by funext t; fin_cases t <;> rfl⟩

theorem exists_ix4 {a b c d : ℕ} (x : (⟨4, ![a, b, c, d]⟩ : Shape).Idx) :
    ∃ (i : Fin a) (j : Fin b) (k : Fin c) (l : Fin d), x = ix4 i j k l :=
  ⟨x 0, x 1, x 2, x 3, by funext t; fin_cases t <;> rfl⟩

theorem rectSt_emb (h : Fin 4) (a : Fin 1) (e : Fin 256) (d : Fin 128) : (rectSt h).emb (ix3 a e d) = ix3 h e d := by
  obtain rfl : a = 0 := Subsingleton.elim _ _
  funext t
  refine Fin.ext ?_
  rw [Rect.emb_apply]
  fin_cases t
  · show h.val + 1 * 0 = h.val; omega
  · show 0 + 1 * e.val = e.val; omega
  · show 0 + 1 * d.val = d.val; omega

theorem rectS_emb (h : Fin 4) (a a' : Fin 1) (d : Fin 128) (e : Fin 256) : (rectS h).emb (ix4 a a' d e) = ix4 0 h d e := by
  obtain rfl : a = 0 := Subsingleton.elim _ _
  obtain rfl : a' = 0 := Subsingleton.elim _ _
  funext t
  refine Fin.ext ?_
  rw [Rect.emb_apply]
  fin_cases t
  · rfl
  · show h.val + 1 * 0 = h.val; omega
  · show 0 + 1 * d.val = d.val; omega
  · show 0 + 1 * e.val = e.val; omega

/-- The states a point leaves, as one array. -/
def states (B : Blocks F) (xs : FVec F S4x256x128 .f32) : FVec F S4x256x128 .f32 := fun y => stAt B xs (y 0) 4 (ix2 (y 1) (y 2))

theorem stOut_emb (B : Blocks F) (xs : FVec F S4x256x128 .f32) (h : Fin 4) (x : S1x256x128.Idx) :
    stOut B xs h x = states B xs ((rectSt h).emb x) := by
  obtain ⟨a, e, d, rfl⟩ := exists_ix3 x
  rw [rectSt_emb]
  pointwise [stOut]
  rfl

/-- The state at head `h`, whatever was stored before. -/
theorem stPieces_at (B : Blocks F) (xs : FVec F S4x256x128 .f32) (L : List (View.Piece (Elt F) S4x256x128 .f32)) (h : Fin 4)
    (e : Fin 256) (d : Fin 128) :
    View.canon (Val := Elt F) (stPieces B xs ++ L) (ix3 h e d) = stAt B xs h 4 (ix2 e d) :=
  View.canon_append_of_piecesOf (Val := Elt F) (e := .f32) (states B xs) L (stPieces B xs)
    ⟨stOut_emb B xs 3, stOut_emb B xs 2, stOut_emb B xs 1, stOut_emb B xs 0, trivial⟩ (ix3 h e d)
    (View.cover_of_tiled_head _ _ _ (by rfl) _)

/-- The start state, transposed. -/
theorem resetPieces_at (x8 : FVec F S1x4x128x256 .f32) (h : Fin 4) (e : Fin 256) (d : Fin 128) :
    View.canon (Val := Elt F) (resetPieces x8) (ix3 h e d) = x8 (ix4 0 h d e) := by
  have key : ∀ (h : Fin 4) (x : S1x256x128.Idx),
      resetAt x8 h x = (fun y : S4x256x128.Idx => x8 (ix4 0 (y 0) (y 2) (y 1))) ((rectSt h).emb x) := fun h x => by
    obtain ⟨a, e, d, rfl⟩ := exists_ix3 x
    rw [rectSt_emb]
    pointwise [resetAt]
    show x8 ((rectS h).emb (ix4 0 0 d e)) = _
    rw [rectS_emb]
  exact (congrArg (fun L => View.canon (Val := Elt F) L (ix3 h e d)) (List.append_nil _).symm).trans
    (View.canon_append_of_piecesOf (Val := Elt F) (e := .f32) (fun y : S4x256x128.Idx => x8 (ix4 0 (y 0) (y 2) (y 1))) [] (resetPieces x8)
      ⟨key 3, key 2, key 1, key 0, trivial⟩ (ix3 h e d) (View.cover_of_tiled_head _ _ _ (by rfl) _))

/-- The state handed out, transposed back. -/
theorem finalPieces_at (xs : FVec F S4x256x128 .f32) (h : Fin 4) (d : Fin 128) (e : Fin 256) :
    View.canon (Val := Elt F) (finalPieces xs) (ix4 0 h d e) = xs (ix3 h e d) := by
  have key : ∀ (h : Fin 4) (x : S1x1x128x256.Idx),
      finalAt xs h x = (fun y : S1x4x128x256.Idx => xs (ix3 (y 1) (y 3) (y 2))) ((rectS h).emb x) := fun h x => by
    obtain ⟨a, a', d, e, rfl⟩ := exists_ix4 x
    rw [rectS_emb]
    pointwise [finalAt]
    show xs ((rectSt h).emb (ix3 0 e d)) = _
    rw [rectSt_emb]
  exact (congrArg (fun L => View.canon (Val := Elt F) L (ix4 0 h d e)) (List.append_nil _).symm).trans
    (View.canon_append_of_piecesOf (Val := Elt F) (e := .f32) (fun y : S1x4x128x256.Idx => xs (ix3 (y 1) (y 3) (y 2))) [] (finalPieces xs)
      ⟨key 3, key 2, key 1, key 0, trivial⟩ (ix4 0 h d e) (View.cover_of_tiled_head _ _ _ (by rfl) _))

/-! ## The loads of a chunk and a head, at an index -/

theorem emb2 {R C n k : ℕ} (off : Fin 2 → ℕ) (inb : ∀ a, off a + (![n, k] : Fin 2 → ℕ) a ≤ (![R, C] : Fin 2 → ℕ) a)
    (i : Fin n) (j : Fin k) (hr : off 0 + i.val < R) (hc : off 1 + j.val < C) :
    (Rect.unit (s := ⟨2, ![R, C]⟩) off ![n, k] inb).emb (ix2 i j) = ix2 ⟨off 0 + i.val, hr⟩ ⟨off 1 + j.val, hc⟩ := by
  funext t
  refine Fin.ext ?_
  rw [Rect.emb_apply]
  fin_cases t
  · show off 0 + 1 * i.val = off 0 + i.val; omega
  · show off 1 + 1 * j.val = off 1 + j.val; omega

theorem ldK_at (x : FVec F S256x512 .f32) (c h : Fin 4) (i : Fin 64) (d : Fin 128) :
    ldK x c h (ix2 i d) = x (ix2 ⟨64 * c.val + i.val, by omega⟩ ⟨128 * h.val + d.val, by omega⟩) :=
  congrArg x (emb2 _ _ i d (by show 64 * c.val + i.val < 256; omega) (by show 128 * h.val + d.val < 512; omega))

theorem ldV_at (x : FVec F S256x1024 .f32) (c h : Fin 4) (i : Fin 64) (e : Fin 256) :
    ldV x c h (ix2 i e) = x (ix2 ⟨64 * c.val + i.val, by omega⟩ ⟨256 * h.val + e.val, by omega⟩) :=
  congrArg x (emb2 _ _ i e (by show 64 * c.val + i.val < 256; omega) (by show 256 * h.val + e.val < 1024; omega))

theorem ldSm_at (x : FVec F S256x128 .f32) (c : Fin 4) (i : Fin 64) (l : Fin 128) :
    ldSm x c (ix2 i l) = x (ix2 ⟨64 * c.val + i.val, by omega⟩ l) :=
  congrArg x ((emb2 _ _ i l (by show 64 * c.val + i.val < 256; omega) (by show 0 + l.val < 128; omega)).trans
    (congrArg (ix2 _) (Fin.ext (Nat.zero_add _))))

theorem ldW_at (x : FVec F S4x128x128 .f32) (h : Fin 4) (l d : Fin 128) : ldW x h (ix3 0 l d) = x (ix3 h l d) := by
  refine congrArg x (show (rectW h).emb (ix3 0 l d) = ix3 h l d from ?_)
  funext t
  refine Fin.ext ?_
  rw [Rect.emb_apply]
  fin_cases t
  · show h.val + 1 * 0 = h.val; omega
  · show 0 + 1 * l.val = l.val; omega
  · show 0 + 1 * d.val = d.val; omega

theorem ldBg_at (x : FVec F S1x512 .f32) (h : Fin 4) (d : Fin 128) :
    ldBg x h (ix2 0 d) = x (ix2 0 ⟨128 * h.val + d.val, by omega⟩) :=
  congrArg x (emb2 _ _ 0 d (by show 0 + 0 < 1; omega) (by show 128 * h.val + d.val < 512; omega))

theorem ldGout_at (x : FVec F S1x256 .f32) (e : Fin 256) : ldGout x (ix2 0 e) = x (ix2 0 e) :=
  congrArg x ((emb2 _ _ 0 e (by show 0 + 0 < 1; omega) (by show 0 + e.val < 256; omega)).trans
    (congrArg (ix2 _) (Fin.ext (Nat.zero_add _))))

/-- The state before a point's first chunk. -/
theorem stAt_zero (B : Blocks F) (xs : FVec F S4x256x128 .f32) (h : Fin 4) (e : Fin 256) (d : Fin 128) :
    stAt B xs h 0 (ix2 e d) = xs (ix3 h e d) := by
  show (shapeCast S256x128 (ldSt xs h) shapeCasts_S1x256x128_S256x128 : FVec F S256x128 .f32) (ix2 e d) = _
  pointwise
  show xs ((rectSt h).emb (ix3 0 e d)) = _
  rw [rectSt_emb]

end Gla

end
-- ==== Proof.ChunkValue.lean ====
/- The chunk functions of the kernel, over the extended reals and at an index, are the functions of Spec.lean. -/
module

public import proofs.«01_k».proof.Proof.Chunk
public import proofs.«01_k».proof.Proof.Spec

@[expose] public section

noncomputable section

namespace Gla

open Idealize.ShloMosaic Cert.KernelIdeal Cert.KernelIdeal.Gen

theorem outc_value (q k b : FVec Ideal S64x128 .f32) (v : FVec Ideal S64x256 .f32) (st : FVec Ideal S256x128 .f32)
    (i : Fin 64) (e : Fin 256) :
    outc q k b v st (ix2 i e)
      = outS (fun i d => q (ix2 i d) * scaleQ) (fun i d => k (ix2 i d)) (fun i d => b (ix2 i d)) (fun i e => v (ix2 i e))
          (fun d e => st (ix2 e d)) i e := by
  pointwise [outc, qe, ke, hi, causal]
  simp only [select_le, outS, zero_sub, scaleQ]

theorem stNext_value (k b : FVec Ideal S64x128 .f32) (v : FVec Ideal S64x256 .f32) (st : FVec Ideal S256x128 .f32)
    (d : Fin 128) (e : Fin 256) :
    stNext k b v st (ix2 e d)
      = nextS (fun i d => k (ix2 i d)) (fun i d => b (ix2 i d)) (fun i e => v (ix2 i e)) (fun d e => st (ix2 e d)) d e := by
  pointwise [stNext, kd, hi, lastGate]
  simp only [nextS]
  congr 1
  exact Finset.sum_congr rfl fun x _ => mul_comm _ _

theorem cumGate_value (g : FVec Ideal S64x128 .f32) (hg : ∀ j d, g (ix2 j d) ≠ ⊤) (i : Fin 64) (d : Fin 128) :
    cumGate g (ix2 i d) = cumS (fun i d => g (ix2 i d)) i d := by
  pointwise [cumGate, tmm, mid, lo, rem, hi, tril, causal]
  simp only [select_le]
  exact cum_eq (fun j => g (ix2 j d)) (fun j => hg j d) i

theorem logGate_value (z : FVec Ideal S64x128 .f32) (i : Fin 64) (d : Fin 128) :
    logGate z (ix2 i d) = gateS (z (ix2 i d)) := by
  rw [← gate_eq]
  pointwise [logGate]
  rfl

theorem normOut_value (r o : FVec Ideal S64x256 .f32) (gout : FVec Ideal S1x256 .f32) (i : Fin 64) (e : Fin 256) :
    normOut r o gout (ix2 i e) = normS (r (ix2 i e)) (fun e => o (ix2 i e)) (gout (ix2 0 e)) e := by
  pointwise [normOut, hi]
  rfl

theorem gateZ_value (sm : FVec Ideal S64x128 .f32) (w : FVec Ideal S1x128x128 .f32) (bg : FVec Ideal S1x128 .f32)
    (i : Fin 64) (d : Fin 128) (hw : ∀ x : Fin 128, w (ix3 0 x d) - w (ix3 0 x d) = 0)
    (hs : ∀ x : Fin 128, w (ix3 0 x d) = 0 ∨ sm (ix2 i x) - sm (ix2 i x) = 0) :
    gateZ sm w bg (ix2 i d) = ∑ x : Fin 128, sm (ix2 i x) * w (ix3 0 x d) + bg (ix2 0 d) := by
  pointwise [gateZ, gmm, hi, mid, lo, rem]
  exact split_dot (fun x => sm (ix2 i x)) (fun x => w (ix3 0 x d)) hw hs _

end Gla

end
-- ==== Proof.PointValue.lean ====
/- What the kernel's grid points compute, over the extended reals: point `32 b + s` carries sequence `b` through chunks
   `4 s` to `4 s + 3`. -/
module

public import proofs.«01_k».proof.Proof.Inputs
public import proofs.«01_k».proof.Proof.Tiles
public import proofs.«01_k».proof.Proof.ChunkValue

@[expose] public section

noncomputable section

namespace Gla

open Idealize.ShloMosaic Idealize.ShloMosaic.TcCoe Cert.KernelIdeal Cert.KernelIdeal.Gen

variable (m : (ℓ : Loc nD τ sig) → Buf (Elt Ideal) ℓ)

/-- The kernel's arguments. -/
abbrev K0 (c : Dev nD) : S16896x9728.Idx → EReal := m ((c : Thread nD τ).loc main_arg0)
abbrev K1 (c : Dev nD) : S16x512.Idx → EReal := m ((c : Thread nD τ).loc main_arg1)
abbrev K2 (c : Dev nD) : S512.Idx → EReal := m ((c : Thread nD τ).loc main_arg2)
abbrev K3 (c : Dev nD) : S256.Idx → EReal := m ((c : Thread nD τ).loc main_arg3)

theorem at_ix2 {R C : ℕ} (A : (⟨2, ![R, C]⟩ : Shape).Idx → EReal) {r r' : Fin R} {l l' : Fin C} (hr : r.val = r'.val)
    (hl : l.val = l'.val) : A (ix2 r l) = A (ix2 r' l') := by
  obtain rfl := Fin.ext hr
  obtain rfl := Fin.ext hl
  rfl

section Point

variable (c : Dev nD) (t : Fin cfg0.N) (b : Fin 2) (s : ℕ) (hs : s < 32) (ht : t.val = 32 * b.val + s)
include hs ht

theorem ldq_value (j h : Fin 4) (i : Fin 64) (d : Fin 128) :
    ldK (blocks m c t).q j h (ix2 i d) * scaleQ = qS (K0 m c) b h (4 * s + j.val) i d := by
  rw [ldK_at, q_at m c t _ _ (by show 256 * t.val + (64 * j.val + i.val) < 16896; omega), qS]
  congr 1
  exact at_ix2 _ (by show 256 * t.val + (64 * j.val + i.val) = b.val * 8192 + ((4 * s + j.val) % 128 * 64 + i.val); omega)
    (by show 128 * h.val + d.val = h.val * 128 + d.val; omega)

theorem ldk_value (j h : Fin 4) (i : Fin 64) (d : Fin 128) :
    ldK (blocks m c t).k j h (ix2 i d) = kS (K0 m c) b h (4 * s + j.val) i d := by
  rw [ldK_at, k_at m c t _ _ (by show 256 * t.val + (64 * j.val + i.val) < 16896; omega), kS]
  exact at_ix2 _ (by show 256 * t.val + (64 * j.val + i.val) = b.val * 8192 + ((4 * s + j.val) % 128 * 64 + i.val); omega)
    (by show 512 + (128 * h.val + d.val) = 512 + (h.val * 128 + d.val); omega)

theorem ldv_value (j h : Fin 4) (i : Fin 64) (e : Fin 256) :
    ldV (blocks m c t).v j h (ix2 i e) = vS (K0 m c) b h (4 * s + j.val) i e := by
  rw [ldV_at, v_at m c t _ _ (by show 256 * t.val + (64 * j.val + i.val) < 16896; omega), vS]
  exact at_ix2 _ (by show 256 * t.val + (64 * j.val + i.val) = b.val * 8192 + ((4 * s + j.val) % 128 * 64 + i.val); omega)
    (by show 1024 + (256 * h.val + e.val) = 1024 + (h.val * 256 + e.val); omega)

theorem ldr_value (j h : Fin 4) (i : Fin 64) (e : Fin 256) :
    ldV (blocks m c t).r j h (ix2 i e) = rS (K0 m c) b h (4 * s + j.val) i e := by
  rw [ldV_at, r_at m c t _ _ (by show 256 * t.val + (64 * j.val + i.val) < 16896; omega), rS]
  exact at_ix2 _ (by show 256 * t.val + (64 * j.val + i.val) = b.val * 8192 + ((4 * s + j.val) % 128 * 64 + i.val); omega)
    (by show 2048 + (256 * h.val + e.val) = 2048 + (h.val * 256 + e.val); omega)

theorem ldsm_value (j : Fin 4) (i : Fin 64) (x : Fin 16) :
    ldSm (blocks m c t).sm j (ix2 i ⟨64 + x.val, by omega⟩)
      = K0 m c (ix2 (row b (4 * s + j.val) i) ⟨9280 + x.val, by omega⟩) := by
  rw [ldSm_at, sm_at m c t _ _ (by show 256 * t.val + (64 * j.val + i.val) < 16896; omega)]
  exact at_ix2 _ (by show 256 * t.val + (64 * j.val + i.val) = b.val * 8192 + ((4 * s + j.val) % 128 * 64 + i.val); omega)
    (by show 9216 + (64 + x.val) = 9280 + x.val; omega)

/-- The gate's logits of a chunk. -/
theorem gate_value (hfin : FiniteGate (K0 m c) (K1 m c)) (j h : Fin 4) (i : Fin 64) (d : Fin 128) :
    gateZ (ldSm (blocks m c t).sm j) (ldW (blocks m c t).w h) (ldBg (blocks m c t).bg h) (ix2 i d)
      = zS (K0 m c) (K1 m c) (K2 m c) b h (4 * s + j.val) i d := by
  have hz : ∀ l : Fin 128, ¬ (64 ≤ l.val ∧ l.val < 80) → ldW (blocks m c t).w h (ix3 0 l d) = (0 : EReal) := fun l hl => by
    rw [ldW_at, w_at, dif_neg hl]
  have hn : ∀ x : Fin 16, ldW (blocks m c t).w h (ix3 0 ⟨64 + x.val, by omega⟩ d)
      = K1 m c (ix2 x ⟨h.val * 128 + d.val, by omega⟩) := fun x => by
    rw [ldW_at, w_at, dif_pos ⟨by show 64 ≤ 64 + x.val; omega, by show 64 + x.val < 80; omega⟩]
    exact at_ix2 _ (by show 64 + x.val - 64 = x.val; omega) (by show 128 * h.val + d.val = h.val * 128 + d.val; omega)
  have hlane : ∀ l : Fin 128, 64 ≤ l.val ∧ l.val < 80 → ∃ x : Fin 16, l = ⟨64 + x.val, by omega⟩ := fun l hl =>
    ⟨⟨l.val - 64, by omega⟩, Fin.ext (by show l.val = 64 + (l.val - 64); omega)⟩
  rw [gateZ_value]
  · rw [sum_lanes _ fun l hl => by rw [hz l hl, mul_zero], zS, ldBg_at, bg_at]
    congr 1
    · exact Finset.sum_congr rfl fun x _ => by rw [hn, ldsm_value m c t b s hs ht]
    · exact congrArg (fun q => K2 m c (ix1 q)) (Fin.ext (by show 128 * h.val + d.val = h.val * 128 + d.val; omega))
  · intro l
    by_cases hl : 64 ≤ l.val ∧ l.val < 80
    · obtain ⟨x, rfl⟩ := hlane l hl
      rw [hn]
      exact hfin.2 _ _
    · rw [hz l hl]; simp
  · intro l
    by_cases hl : 64 ≤ l.val ∧ l.val < 80
    · obtain ⟨x, rfl⟩ := hlane l hl
      rw [ldsm_value m c t b s hs ht]
      exact .inr (hfin.1 _ _ _ _)
    · exact .inl (hz l hl)

/-- The running sum of a chunk's log gates. -/
theorem bAt_value (hfin : FiniteGate (K0 m c) (K1 m c)) (j h : Fin 4) (i : Fin 64) (d : Fin 128) :
    bAt (blocks m c t) j h (ix2 i d) = cumS (gS (K0 m c) (K1 m c) (K2 m c) b h (4 * s + j.val)) i d := by
  have e : ∀ i d, logGate (gateZ (ldSm (blocks m c t).sm j) (ldW (blocks m c t).w h) (ldBg (blocks m c t).bg h)) (ix2 i d)
      = gS (K0 m c) (K1 m c) (K2 m c) b h (4 * s + j.val) i d := fun i d => by
    rw [logGate_value, gate_value m c t b s hs ht hfin, gS]
  rw [bAt, cumGate_value _ (fun i d => by rw [e]; exact gateS_ne_top _)]
  simp only [e]

/-- The state inside a point. -/
theorem stAt_value (hfin : FiniteGate (K0 m c) (K1 m c)) (xs : FVec Ideal S4x256x128 .f32) (h : Fin 4)
    (hx : ∀ e d, xs (ix3 h e d) = SS (K0 m c) (K1 m c) (K2 m c) b h (4 * s) d e) :
    ∀ j : ℕ, j ≤ 4 → ∀ e d, stAt (blocks m c t) xs h j (ix2 e d) = SS (K0 m c) (K1 m c) (K2 m c) b h (4 * s + j) d e
  | 0, _, e, d => by rw [stAt_zero, hx, Nat.add_zero]
  | j + 1, hj, e, d => by
    have ej : (Fin.ofNat 4 j).val = j := Nat.mod_eq_of_lt hj
    refine (stNext_value _ _ _ _ d e).trans ?_
    show _ = nextS (kS (K0 m c) b h (4 * s + j)) (cumS (gS (K0 m c) (K1 m c) (K2 m c) b h (4 * s + j)))
      (vS (K0 m c) b h (4 * s + j)) (SS (K0 m c) (K1 m c) (K2 m c) b h (4 * s + j)) d e
    simp only [ldk_value m c t b s hs ht, ldv_value m c t b s hs ht, bAt_value m c t b s hs ht hfin, ej,
      stAt_value hfin xs h hx j (Nat.le_of_succ_le hj)]

/-- The output of a point's chunk. -/
theorem outAt_value (hfin : FiniteGate (K0 m c) (K1 m c)) (xs : FVec Ideal S4x256x128 .f32) (j h : Fin 4)
    (hx : ∀ e d, xs (ix3 h e d) = SS (K0 m c) (K1 m c) (K2 m c) b h (4 * s) d e) (i : Fin 64) (e : Fin 256) :
    outAt (blocks m c t) xs j h (ix2 i e) = yS (K0 m c) (K1 m c) (K2 m c) (K3 m c) b h (4 * s + j.val) i e := by
  rw [outAt, normOut_value, yS, ldr_value m c t b s hs ht, ldGout_at, gout_at]
  congr 1
  funext e
  rw [outc_value, oS]
  simp only [ldq_value m c t b s hs ht, ldk_value m c t b s hs ht, ldv_value m c t b s hs ht, bAt_value m c t b s hs ht hfin,
    stAt_value m c t b s hs ht hfin xs h hx j.val j.isLt.le]

end Point

/-- The state after point `32 b + s`: the state before chunk `4 s + 4`. -/
theorem state_value (c : Dev nD) (hfin : FiniteGate (K0 m c) (K1 m c)) (b : Fin 2) (h : Fin 4) :
    ∀ (s : ℕ) (hs : s < 32) (t : Fin cfg0.N) (_ : t.val = 32 * b.val + s) (e : Fin 256) (d : Fin 128),
      (outsAt0 m c t.val t.isLt).2.2 (ix3 h e d) = SS (K0 m c) (K1 m c) (K2 m c) b h (4 * s + 4) d e
  | 0, hs, t, ht, e, d => by
    rw [first_st m c t (by omega), stPieces_at]
    refine stAt_value m c t b 0 hs ht hfin _ h (fun e d => ?_) 4 le_rfl e d
    rw [fresh, resetPieces_at, s0_at]
    show Ideal.ofBits .f32 0x00000000#32 = 0
    simp
  | s + 1, hs, t, ht, e, d => by
    rw [next_st m c t (by omega), ← List.append_nil (stPieces _ _), stPieces_at]
    refine stAt_value m c t b (s + 1) hs ht hfin _ h (fun e d => ?_) 4 le_rfl e d
    exact state_value c hfin b h s (by omega) ⟨t.val - 1, Nat.lt_of_le_of_lt (Nat.sub_le _ _) t.isLt⟩
      (by show t.val - 1 = _; omega) e d

/-- The output block of point `32 b + s`. -/
theorem out_value (c : Dev nD) (hfin : FiniteGate (K0 m c) (K1 m c)) (b : Fin 2) (s : ℕ) (hs : s < 32) (t : Fin cfg0.N)
    (ht : t.val = 32 * b.val + s) (j h : Fin 4) (i : Fin 64) (e : Fin 256) (y : S256x1024.Idx)
    (y0 : (y 0).val = 64 * j.val + i.val) (y1 : (y 1).val = 256 * h.val + e.val) :
    (outsAt0 m c t.val t.isLt).1 y = yS (K0 m c) (K1 m c) (K2 m c) (K3 m c) b h (4 * s + j.val) i e := by
  by_cases h0 : t.val % 32 = 0
  · obtain rfl : s = 0 := by omega
    rw [first_out m c t h0, outPieces_at _ _ j h i e y y0 y1]
    refine outAt_value m c t b 0 hs ht hfin _ j h (fun e d => ?_) i e
    rw [fresh, resetPieces_at, s0_at]
    show Ideal.ofBits .f32 0x00000000#32 = 0
    simp
  · rw [next_out m c t h0, outPieces_at _ _ j h i e y y0 y1]
    obtain ⟨s', rfl⟩ : ∃ s', s = s' + 1 := ⟨s - 1, by omega⟩
    refine outAt_value m c t b (s' + 1) hs ht hfin _ j h (fun e d => ?_) i e
    exact state_value m c hfin b h s' (by omega) ⟨t.val - 1, Nat.lt_of_le_of_lt (Nat.sub_le _ _) t.isLt⟩
      (by show t.val - 1 = _; omega) e d

/-- The state handed out after a sequence's last point. -/
theorem fin_value (c : Dev nD) (hfin : FiniteGate (K0 m c) (K1 m c)) (b : Fin 2) (t : Fin cfg0.N)
    (ht : t.val = 32 * b.val + 31) (h : Fin 4) (d : Fin 128) (e : Fin 256) :
    (outsAt0 m c t.val t.isLt).2.1 (ix4 0 h d e) = SS (K0 m c) (K1 m c) (K2 m c) b h 128 d e := by
  rw [last_fin m c t (by omega), finalPieces_at, ← next_st m c t (by omega)]
  exact state_value m c hfin b h 31 (by omega) t ht e d

end Gla

end
-- ==== Proof.KernelValue.lean ====
/- The kernel's two result arrays, over the extended reals and at an index. -/
module

public import proofs.«01_k».proof.Proof.PointValue

@[expose] public section

noncomputable section

namespace Gla

open Idealize.ShloMosaic Idealize.ShloMosaic.TcCoe Cert.KernelIdeal Cert.KernelIdeal.Gen Cert.KernelIdeal.Value

variable (m : (ℓ : Loc nD τ sig) → Buf (Elt Ideal) ℓ)

/-- The first result: the branch's output, a row per token and the heads side by side. -/
theorem G9_at (c : Dev nD) (hfin : FiniteGate (K0 m c) (K1 m c)) (b : Fin 2) (n : Fin 128) (i : Fin 64) (h : Fin 4) (e : Fin 256)
    (y : S16384x1024.Idx) (y0 : (y 0).val = b.val * 8192 + (n.val * 64 + i.val)) (y1 : (y 1).val = h.val * 256 + e.val) :
    G9 m c y = yS (K0 m c) (K1 m c) (K2 m c) (K3 m c) b h n.val i e := by
  have hp : pt9Of y = 32 * b.val + n.val / 4 := by
    have l1 : (y 1).val < 1024 := by omega
    show 1 * ((y 0).val / 256 - 0) + 1 * ((y 1).val / 1024 - 0) = _
    omega
  have hN : pt9Of y < cfg0.N := by rw [hp, show cfg0.N = 64 from N_0]; omega
  unfold G9
  rw [dif_pos hN, ← outsAt0_sweep m c (pt9Of y) hN]
  have key := out_value m c hfin b (n.val / 4) (by omega) ⟨pt9Of y, hN⟩ hp ⟨n.val % 4, by omega⟩ h i e (loc9Of y)
    (by show (y 0).val % 256 = 64 * (n.val % 4) + i.val; omega) (by show (y 1).val % 1024 = 256 * h.val + e.val; omega)
  rw [show 4 * (n.val / 4) + (⟨n.val % 4, by omega⟩ : Fin 4).val = n.val from Nat.div_add_mod n.val 4] at key
  exact key

/-- The second result: the states after the last chunk. -/
theorem G10_at (c : Dev nD) (hfin : FiniteGate (K0 m c) (K1 m c)) (b : Fin 2) (h : Fin 4) (d : Fin 128) (e : Fin 256) :
    G10 m c (ix4 b h d e) = SS (K0 m c) (K1 m c) (K2 m c) b h 128 d e := by
  have hp : pt10Of (ix4 b h d e) = 32 * b.val + 31 := by
    unfold pt10Of run10Of
    blk_simp
    omega
  have hN : pt10Of (ix4 b h d e) < cfg0.N := by rw [hp, show cfg0.N = 64 from N_0]; omega
  unfold G10
  rw [dif_pos hN, ← outsAt0_sweep m c (pt10Of _) hN]
  have hl : loc10Of (ix4 b h d e) = ix4 0 h d e := by
    unfold loc10Of
    blk_ext
  rw [hl]
  exact fin_value m c hfin b ⟨_, hN⟩ hp h d e

end Gla

end
-- ==== Proof.RefStep.lean ====
/- One trip of the reference's loop over the chunks, over the extended reals and at an index. -/
module

public import proofs.«01_k».proof.Proof.Gen.ReferenceIdeal.Step
public import proofs.«01_k».proof.Proof.Spec
public import Idealize.ShloMosaic.Lib.DynamicIndex

@[expose] public section

noncomputable section

namespace Gla

open Idealize.ShloMosaic Cert.ReferenceIdeal Cert.ReferenceIdeal.Gen Cert.ReferenceIdeal.Step

/-- A loop index as a 32-bit word, read back. -/
theorem toInt_ofNat (j : ℕ) (hj : j < 128) : (BitVec.ofNat 32 j).toInt = (j : Int) := by
  rw [BitVec.toInt_eq_toNat_of_lt (by rw [BitVec.toNat_ofNat]; omega), BitVec.toNat_ofNat]
  omega

/-- Slicing block `j` off a stack of 128. -/
theorem dslice_at {α : Type} {w : ℕ} (x : (⟨5, ![128, 2, 4, 64, w]⟩ : Shape).Idx → α) (start : Fin 5 → Int)
    (hS : (⟨5, ![128, 2, 4, 64, w]⟩ : Shape).Slices (fun _ => 0) ⟨5, ![1, 2, 4, 64, w]⟩) (j : ℕ) (hj : j < 128)
    (hs : ∀ a, start a = ((![j, 0, 0, 0, 0] : Fin 5 → ℕ) a : Int))
    (b : Fin 2) (h : Fin 4) (i : Fin 64) (d : Fin w) :
    Host.dynamicSlice ⟨5, ![1, 2, 4, 64, w]⟩ x start hS (ix5 0 b h i d) = x (ix5 ⟨j, hj⟩ b h i d) := by
  have hoff : (⟨5, ![128, 2, 4, 64, w]⟩ : Shape).Slices (![j, 0, 0, 0, 0] : Fin 5 → ℕ) ⟨5, ![1, 2, 4, 64, w]⟩ :=
    ⟨rfl, fun a => by
      fin_cases a
      · show j + 1 ≤ 128; omega
      · show 0 + 2 ≤ 2; omega
      · show 0 + 4 ≤ 4; omega
      · show 0 + 64 ≤ 64; omega
      · show 0 + w ≤ w; omega⟩
  rw [Host.dynamicSlice_eq_extractStridedSlice _ x start _ hS hoff hs]
  refine congrArg x ?_
  funext a
  refine Fin.ext ?_
  fin_cases a
  · show j + 0 = j; omega
  · show 0 + b.val = b.val; omega
  · show 0 + h.val = h.val; omega
  · show 0 + i.val = i.val; omega
  · show 0 + d.val = d.val; omega

theorem starts (j : ℕ) (hj : j < 128) (z : Fin 5 → IVec S_ 32) (h0 : z 0 = constantI S_ 32 (BitVec.ofNat 32 j))
    (hz : ∀ a, a ≠ 0 → z a = constantI S_ 32 0#32) (p : S_.Idx) :
    ∀ a, (z a p).toInt = ((![j, 0, 0, 0, 0] : Fin 5 → ℕ) a : Int) := by
  intro a
  by_cases ha : a = 0
  · subst ha; rw [h0]; exact toInt_ofNat j hj
  · rw [hz a ha]
    fin_cases a
    · exact absurd rfl ha
    all_goals rfl

variable (s : State Ideal)

theorem b5_at (j : ℕ) (hj : j < 128) (b : Fin 2) (h : Fin 4) (i : Fin 64) (d : Fin 128) :
    b5 j s (ix4 b h i d) = s.main_v43_0 (ix5 ⟨j, hj⟩ b h i d) := by
  unfold b5
  have e : ∀ x : FVec Ideal S1x2x4x64x128 .f32, shapeCast S2x4x64x128 x shapeCasts_S1x2x4x64x128_S2x4x64x128 (ix4 b h i d) = x (ix5 0 b h i d) := fun x => by pointwise
  rw [e]
  exact dslice_at s.main_v43_0 _ _ j hj (starts j hj _ rfl (by intro a ha; fin_cases a <;> first | exact absurd rfl ha | rfl) _) b h i d

theorem b11_at (j : ℕ) (hj : j < 128) (b : Fin 2) (h : Fin 4) (i : Fin 64) (d : Fin 128) :
    b11 j s (ix4 b h i d) = s.main_v43_1 (ix5 ⟨j, hj⟩ b h i d) := by
  unfold b11
  have e : ∀ x : FVec Ideal S1x2x4x64x128 .f32, shapeCast S2x4x64x128 x shapeCasts_S1x2x4x64x128_S2x4x64x128 (ix4 b h i d) = x (ix5 0 b h i d) := fun x => by pointwise
  rw [e]
  exact dslice_at s.main_v43_1 _ _ j hj (starts j hj _ rfl (by intro a ha; fin_cases a <;> first | exact absurd rfl ha | rfl) _) b h i d

theorem b17_at (j : ℕ) (hj : j < 128) (b : Fin 2) (h : Fin 4) (i : Fin 64) (d : Fin 256) :
    b17 j s (ix4 b h i d) = s.main_v43_2 (ix5 ⟨j, hj⟩ b h i d) := by
  unfold b17
  have e : ∀ x : FVec Ideal S1x2x4x64x256 .f32, shapeCast S2x4x64x256 x shapeCasts_S1x2x4x64x256_S2x4x64x256 (ix4 b h i d) = x (ix5 0 b h i d) := fun x => by pointwise
  rw [e]
  exact dslice_at s.main_v43_2 _ _ j hj (starts j hj _ rfl (by intro a ha; fin_cases a <;> first | exact absurd rfl ha | rfl) _) b h i d

theorem b23_at (j : ℕ) (hj : j < 128) (b : Fin 2) (h : Fin 4) (i : Fin 64) (d : Fin 128) :
    b23 j s (ix4 b h i d) = s.main_v43_3 (ix5 ⟨j, hj⟩ b h i d) := by
  unfold b23
  have e : ∀ x : FVec Ideal S1x2x4x64x128 .f32, shapeCast S2x4x64x128 x shapeCasts_S1x2x4x64x128_S2x4x64x128 (ix4 b h i d) = x (ix5 0 b h i d) := fun x => by pointwise
  rw [e]
  exact dslice_at s.main_v43_3 _ _ j hj (starts j hj _ rfl (by intro a ha; fin_cases a <;> first | exact absurd rfl ha | rfl) _) b h i d

/-- The number a window reads at place `w`: the array's own, or zero in the padding in front. -/
def padded (x : S2x4x64x128.Idx → EReal) (j : S2x4x64x128.Idx) (w : (⟨4, ![1, 1, 64, 1]⟩ : Shape).Idx) : EReal :=
  let p : Fin 4 → ℕ := fun a => (j a).val * (![1, 1, 1, 1] : Fin 4 → ℕ) a + (w a).val
  if hin : ∀ a : Fin 4, (![0, 0, 63, 0] : Fin 4 → ℕ) a ≤ p a ∧ p a - (![0, 0, 63, 0] : Fin 4 → ℕ) a < S2x4x64x128.size a
    then x (fun a => ⟨p a - (![0, 0, 63, 0] : Fin 4 → ℕ) a, (hin a).2⟩) else 0

theorem padded_inside (x : S2x4x64x128.Idx → EReal) (b : Fin 2) (h : Fin 4) (i : Fin 64) (d : Fin 128) (c : Fin 64)
    (y : Fin 64) (hy : y.val + 63 = i.val + c.val) :
    padded x (ix4 b h i d) (ix4 0 0 c 0) = x (ix4 b h y d) := by
  unfold padded
  refine (dif_pos fun a => ?_).trans (congrArg x ?_)
  · fin_cases a
    · show 0 ≤ b.val * 1 + 0 ∧ b.val * 1 + 0 - 0 < 2; omega
    · show 0 ≤ h.val * 1 + 0 ∧ h.val * 1 + 0 - 0 < 4; omega
    · show 63 ≤ i.val * 1 + c.val ∧ i.val * 1 + c.val - 63 < 64; omega
    · show 0 ≤ d.val * 1 + 0 ∧ d.val * 1 + 0 - 0 < 128; omega
  · funext a
    refine Fin.ext ?_
    fin_cases a
    · show b.val * 1 + 0 - 0 = b.val; omega
    · show h.val * 1 + 0 - 0 = h.val; omega
    · show i.val * 1 + c.val - 63 = y.val; omega
    · show d.val * 1 + 0 - 0 = d.val; omega

theorem padded_outside (x : S2x4x64x128.Idx → EReal) (b : Fin 2) (h : Fin 4) (i : Fin 64) (d : Fin 128) (c : Fin 64)
    (hc : i.val + c.val < 63) : padded x (ix4 b h i d) (ix4 0 0 c 0) = 0 := by
  unfold padded
  refine dif_neg fun hin => ?_
  have h2 : 63 ≤ i.val * 1 + c.val := (hin 2).1
  omega

theorem window_eq (x : S2x4x64x128.Idx → EReal) (j : S2x4x64x128.Idx)
    (hw : S2x4x64x128.ReduceWindows ![1, 1, 64, 1] ![1, 1, 1, 1] ![0, 0, 63, 0] ![0, 0, 0, 0] S2x4x64x128) :
    Ideal.hostReduceWindowAdd ![1, 1, 64, 1] ![1, 1, 1, 1] ![0, 0, 63, 0] ![0, 0, 0, 0] hw x 0 j
      = (List.finRange (⟨4, ![1, 1, 64, 1]⟩ : Shape).numel).foldl
          (fun r n => r + padded x j ((⟨4, ![1, 1, 64, 1]⟩ : Shape).rowMajor.symm n)) 0 := by
  unfold Ideal.hostReduceWindowAdd Host.reduceWindow
  dsimp only
  refine congrArg (fun F => List.foldl F (0 : EReal) (List.finRange (⟨4, ![1, 1, 64, 1]⟩ : Shape).numel)) ?_
  funext r n
  unfold padded
  dsimp only
  exact congrArg (r + ·) (dite_congr rfl (fun _ => rfl) fun _ => rfl)

/-- The window sum over the tokens, padded with 63 zeros in front, is the running sum. -/
theorem window_sum (x : S2x4x64x128.Idx → EReal) (b : Fin 2) (h : Fin 4) (i : Fin 64) (d : Fin 128)
    (hw : S2x4x64x128.ReduceWindows ![1, 1, 64, 1] ![1, 1, 1, 1] ![0, 0, 63, 0] ![0, 0, 0, 0] S2x4x64x128) :
    Ideal.hostReduceWindowAdd ![1, 1, 64, 1] ![1, 1, 1, 1] ![0, 0, 63, 0] ![0, 0, 0, 0] hw x 0 (ix4 b h i d)
      = cumS (fun i d => x (ix4 b h i d)) i d := by
  rw [window_eq, ← sum_idx_eq_foldl, sum_idx4]
  simp only [Fin.sum_univ_one]
  unfold cumS
  refine Fintype.sum_equiv (Equiv.addRight (i + 1)) _ _ fun c => ?_
  have hv : ((Equiv.addRight (i + 1)) c).val = (c.val + (i.val + 1)) % 64 := by
    show (c + (i + 1)).val = _
    rw [Fin.val_add, Fin.val_add]
    show (c.val + (i.val + 1) % 64) % 64 = _
    omega
  generalize (Equiv.addRight (i + 1)) c = y at hv
  by_cases hc : 63 ≤ i.val + c.val
  · rw [if_pos (by rw [Fin.le_def, hv]; omega)]
    exact padded_inside x b h i d c y (by omega)
  · rw [if_neg (by rw [Fin.le_def, hv]; omega)]
    exact padded_outside x b h i d c (by omega)

/-- The running sum of the log gates. -/
theorem b26_at (j : ℕ) (b : Fin 2) (h : Fin 4) (i : Fin 64) (d : Fin 128) :
    b26 j s (ix4 b h i d) = cumS (fun i d => b23 j s (ix4 b h i d)) i d := by
  have e : b25 (F := Ideal) j s (Shape.Idx.first h_S_) = (0 : EReal) := by
    pointwise [b25, b24]
  show Ideal.hostReduceWindowAdd ![1, 1, 64, 1] ![1, 1, 1, 1] ![0, 0, 63, 0] ![0, 0, 0, 0]
    reduceWindows_S2x4x64x128_S2x4x64x128_w1s1p0_0_w1s1p0_0_w64s1p63_0_w1s1p0_0 (b23 j s) (b25 j s (Shape.Idx.first h_S_)) _ = _
  rw [e]
  exact window_sum _ b h i d _

theorem causal_select (i x : Fin 64) (a b : EReal) :
    Scalar.select (Scalar.select (IntOp.cmpi CmpIPredicate.sge (IntOp.addi (BitVec.ofNat 32 i.val) 0#32) (BitVec.ofNat 32 x.val)) 1#1 0#1) a b
      = if x ≤ i then a else b := by
  have e : Scalar.select (IntOp.cmpi CmpIPredicate.sge (IntOp.addi (BitVec.ofNat 32 i.val) 0#32) (BitVec.ofNat 32 x.val)) (1#1) (0#1)
      = IntOp.cmpi CmpIPredicate.sge (BitVec.ofNat 32 i.val) (BitVec.ofNat 32 x.val) := by
    revert i x; decide
  rw [e, select_le]

/-- A trip's output. -/
theorem b51_at (j : ℕ) (b : Fin 2) (h : Fin 4) (i : Fin 64) (e : Fin 256) :
    b51 j s (ix4 b h i e)
      = outS (fun i d => b5 j s (ix4 b h i d)) (fun i d => b11 j s (ix4 b h i d)) (fun i d => b26 j s (ix4 b h i d))
          (fun i e => b17 j s (ix4 b h i e)) (fun d e => s.main_v43_5 (ix4 b h d e)) i e := by
  pointwise [b51, b49, b50, b48, b46, b42, b39, b37, b33, b32, b34, b35, b36, b38, b40, b41, b43, b44, b45, b47, b28, b27, b31, b30, b29]
  simp only [causal_select, outS]

/-- A trip's state. -/
theorem b63_at (j : ℕ) (b : Fin 2) (h : Fin 4) (d : Fin 128) (e : Fin 256) :
    b63 j s (ix4 b h d e)
      = nextS (fun i d => b11 j s (ix4 b h i d)) (fun i d => b26 j s (ix4 b h i d)) (fun i e => b17 j s (ix4 b h i e))
          (fun d e => s.main_v43_5 (ix4 b h d e)) d e := by
  pointwise [b63, b57, b62, b56, b55, b54, b53, b52, b61, b60, b59, b58]
  rfl

/-- Trip `j` writes its output as block `j` and leaves the others. -/
theorem b69_at (j : ℕ) (hj : j < 128) (n : Fin 128) (b : Fin 2) (h : Fin 4) (i : Fin 64) (e : Fin 256) :
    b69 j s (ix5 n b h i e) = if n.val = j then b51 j s (ix4 b h i e) else s.main_v43_6 (ix5 n b h i e) := by
  have hst := starts j hj ![constantI S_ 32 (BitVec.ofNat 32 j), b65 j s, b66 j s, b67 j s, b68 j s] rfl
    (by intro a ha; fin_cases a <;> first | exact absurd rfl ha | rfl) (Shape.Idx.first h_S_)
  have hc : ∀ a, Host.clampedStart S128x2x4x64x256 S1x2x4x64x256 rfl
      (fun a => ((![constantI S_ 32 (BitVec.ofNat 32 j), b65 j s, b66 j s, b67 j s, b68 j s] : Fin 5 → IVec S_ 32) a (Shape.Idx.first h_S_)).toInt) a
        = (![j, 0, 0, 0, 0] : Fin 5 → ℕ) a := fun a =>
    Host.clampedStart_of_le _ _ a _ (hst a) (by
      fin_cases a
      · show j + 1 ≤ 128; omega
      · show 0 + 2 ≤ 2; omega
      · show 0 + 4 ≤ 4; omega
      · show 0 + 64 ≤ 64; omega
      · show 0 + 256 ≤ 256; omega)
  unfold b69
  refine (Host.dynamicUpdateSlice_apply _ _ _ _ _).trans ?_
  by_cases hn : n.val = j
  · rw [if_pos hn]
    refine (dif_pos fun a => ?_).trans ?_
    · refine (And.intro ((hc a).trans_le ?_) (lt_of_lt_of_eq ?_ (congrArg (· + _) (hc a).symm)))
      · fin_cases a
        · show j ≤ n.val; omega
        all_goals exact Nat.zero_le _
      · fin_cases a
        · show n.val < j + 1; omega
        · show b.val < 0 + 2; omega
        · show h.val < 0 + 4; omega
        · show i.val < 0 + 64; omega
        · show e.val < 0 + 256; omega
    · have e1 : ∀ z : S1x2x4x64x256.Idx, z = ix5 0 b h i e → b64 j s z = b51 j s (ix4 b h i e) := by
        rintro z rfl
        pointwise [b64]
      refine e1 _ ?_
      funext a
      refine Fin.ext ?_
      refine (congrArg (fun q => (ix5 n b h i e a).val - q) (hc a)).trans ?_
      fin_cases a
      · show n.val - j = 0; omega
      · show b.val - 0 = b.val; omega
      · show h.val - 0 = h.val; omega
      · show i.val - 0 = i.val; omega
      · show e.val - 0 = e.val; omega
  · rw [if_neg hn]
    refine dif_neg fun hin => hn ?_
    have h1 := (hin 0).1
    have h2 := (hin 0).2
    have h1' : j ≤ n.val := (hc 0).symm.trans_le h1
    have h2' : n.val < j + 1 := lt_of_lt_of_eq h2 (congrArg (· + 1) (hc 0))
    omega

end Gla

end
-- ==== Proof.RefValue.lean ====
/- The reference's results, over the extended reals and at an index: an induction over its loop. -/
module

public import proofs.«01_k».proof.Proof.RefStep

@[expose] public section

noncomputable section

namespace Gla

open Idealize.ShloMosaic Cert.ReferenceIdeal Cert.ReferenceIdeal.Gen Cert.ReferenceIdeal.Step

variable (A0 : (⟨2, ![16896, 9728]⟩ : Shape).Idx → EReal) (A1 : (⟨2, ![16, 512]⟩ : Shape).Idx → EReal)
  (A2 : (⟨1, ![512]⟩ : Shape).Idx → EReal) (A3 : (⟨1, ![256]⟩ : Shape).Idx → EReal)

theorem row_eq (b : Fin 2) (n : Fin 128) (i : Fin 64) (p : b.val * 8192 + (n.val * 64 + i.val) < 16896) :
    (⟨b.val * 8192 + (n.val * 64 + i.val), p⟩ : Fin 16896) = row b n.val i :=
  Fin.ext (by show _ = b.val * 8192 + (n.val % 128 * 64 + i.val); rw [Nat.mod_eq_of_lt n.isLt])

theorem queries (n : Fin 128) (b : Fin 2) (h : Fin 4) (i : Fin 64) (d : Fin 128) :
    A_main_v35 (F := Ideal) A0 A1 A2 (ix5 n b h i d) = qS A0 b h n.val i d := by
  pointwise [A_main_v35, A_main_v34, A_main_v5, A_main_v3, A_main_v2, A_main_v1, A_main_v0, K_main_v4, K_main_cst]
  rw [row_eq]
  rfl

theorem keys (n : Fin 128) (b : Fin 2) (h : Fin 4) (i : Fin 64) (d : Fin 128) :
    A_main_v37 (F := Ideal) A0 A1 A2 (ix5 n b h i d) = kS A0 b h n.val i d := by
  pointwise [A_main_v37, A_main_v36, A_main_v9, A_main_v8, A_main_v7, A_main_v6]
  rw [row_eq]
  rfl

theorem values (n : Fin 128) (b : Fin 2) (h : Fin 4) (i : Fin 64) (e : Fin 256) :
    A_main_v39 (F := Ideal) A0 A1 A2 (ix5 n b h i e) = vS A0 b h n.val i e := by
  pointwise [A_main_v39, A_main_v38, A_main_v13, A_main_v12, A_main_v11, A_main_v10]
  rw [row_eq]
  rfl

theorem gates (n : Fin 128) (b : Fin 2) (h : Fin 4) (i : Fin 64) (d : Fin 128) :
    A_main_v41 (F := Ideal) A0 A1 A2 (ix5 n b h i d) = gS A0 A1 A2 b h n.val i d := by
  pointwise [A_main_v41, A_main_v40, A_main_v32, A_main_v31, A_main_v30, A_main_v28, A_main_v27, A_main_v22, A_main_v26, A_main_v25, A_main_v24, A_main_v23, A_main_v20, A_main_v19, A_main_v16, A_main_v18, A_main_v17, A_main_v15, A_main_v14, K_main_v29, K_main_v21, K_main_cst_0, K_main_cst_1]
  simp only [row_eq]
  rfl

/-- The stacks of chunks the loop reads, which it never writes. -/
structure Reads (s : State Ideal) : Prop where
  q : ∀ n b h i d, s.main_v43_0 (ix5 n b h i d) = qS A0 b h n.val i d
  k : ∀ n b h i d, s.main_v43_1 (ix5 n b h i d) = kS A0 b h n.val i d
  v : ∀ n b h i e, s.main_v43_2 (ix5 n b h i e) = vS A0 b h n.val i e
  g : ∀ n b h i d, s.main_v43_3 (ix5 n b h i d) = gS A0 A1 A2 b h n.val i d

variable {A0 A1 A2}

theorem Reads.step {s : State Ideal} (r : Reads A0 A1 A2 s) (j : ℕ) : Reads A0 A1 A2 (step j s) :=
  ⟨r.q, r.k, r.v, r.g⟩

/-- Trip `n` computes chunk `n`'s output and state. -/
theorem trip_state {s : State Ideal} (r : Reads A0 A1 A2 s) (n : ℕ) (hn : n < 128) (b : Fin 2) (h : Fin 4)
    (hS : ∀ d e, s.main_v43_5 (ix4 b h d e) = SS A0 A1 A2 b h n d e) (d : Fin 128) (e : Fin 256) :
    (step n s).main_v43_5 (ix4 b h d e) = SS A0 A1 A2 b h (n + 1) d e := by
  rw [step_main_v43_5, b63_at]
  simp only [b26_at, b11_at s n hn, b17_at s n hn, b23_at s n hn, r.k, r.v, r.g, hS]
  rfl

theorem trip_out {s : State Ideal} (r : Reads A0 A1 A2 s) (n : ℕ) (hn : n < 128) (b : Fin 2) (h : Fin 4)
    (hS : ∀ d e, s.main_v43_5 (ix4 b h d e) = SS A0 A1 A2 b h n d e) (i : Fin 64) (e : Fin 256) :
    b51 n s (ix4 b h i e) = oS A0 A1 A2 b h n i e := by
  rw [b51_at]
  simp only [b26_at, b5_at s n hn, b11_at s n hn, b17_at s n hn, b23_at s n hn, r.q, r.k, r.v, r.g, hS]
  rfl

/-- The loop's invariant. -/
theorem loop_value (it : ℕ → State Ideal) (h0 : it 0 = init A0 A1 A2) (hs : ∀ n, it (n + 1) = step n (it n)) :
    ∀ n, n ≤ 128 → Reads A0 A1 A2 (it n) ∧ (∀ b h d e, (it n).main_v43_5 (ix4 b h d e) = SS A0 A1 A2 b h n d e)
      ∧ ∀ j : Fin 128, j.val < n → ∀ b h i e, (it n).main_v43_6 (ix5 j b h i e) = oS A0 A1 A2 b h j.val i e := by
  intro n
  induction n with
  | zero =>
    intro _
    rw [h0]
    refine ⟨⟨queries A0 A1 A2, keys A0 A1 A2, values A0 A1 A2, gates A0 A1 A2⟩, fun b h d e => ?_, fun j hj => absurd hj (Nat.not_lt_zero _)⟩
    show K_main_v33 (F := Ideal) (ix4 b h d e) = 0
    pointwise [K_main_v33, K_main_cst_2]
  | succ n ih =>
    intro hn
    obtain ⟨r, hS, hO⟩ := ih (by omega)
    rw [hs]
    refine ⟨r.step n, fun b h d e => trip_state r n (by omega) b h (hS b h) d e, fun j hj b h i e => ?_⟩
    rw [step_main_v43_6, b69_at _ n (by omega)]
    by_cases hjn : j.val = n
    · rw [if_pos hjn, trip_out r n (by omega) b h (hS b h) i e, hjn]
    · rw [if_neg hjn]
      exact hO j (by omega) b h i e

/-- The branch's output from the loop's last state. -/
theorem result_value (s : State Ideal) (b : Fin 2) (n : Fin 128) (i : Fin 64) (h : Fin 4) (e : Fin 256)
    (hO : ∀ e', s.main_v43_6 (ix5 n b h i e') = oS A0 A1 A2 b h n.val i e')
    (r : Fin 16384) (l : Fin 1024) (hr : r.val = b.val * 8192 + (n.val * 64 + i.val)) (hl : l.val = h.val * 256 + e.val) :
    R_main_v67 s A0 A3 (ix2 r l) = yS A0 A1 A2 A3 b h n.val i e := by
  have e1 : (⟨r.val % 8192 / 64, by omega⟩ : Fin 128) = n := Fin.ext (by show r.val % 8192 / 64 = n.val; omega)
  have e2 : (⟨r.val / 8192, by omega⟩ : Fin 2) = b := Fin.ext (by show r.val / 8192 = b.val; omega)
  have e3 : (⟨l.val / 256, by omega⟩ : Fin 4) = h := Fin.ext (by show l.val / 256 = h.val; omega)
  have e4 : (⟨r.val % 8192 % 64, by omega⟩ : Fin 64) = i := Fin.ext (by show r.val % 8192 % 64 = i.val; omega)
  have e5 : (⟨l.val % 256, by omega⟩ : Fin 256) = e := Fin.ext (by show l.val % 256 = e.val; omega)
  have e6 : (⟨r.val, by omega⟩ : Fin 16896) = row b n.val i := Fin.ext (by
    show r.val = b.val * 8192 + (n.val % 128 * 64 + i.val); omega)
  have e7 : (⟨2048 + l.val, by omega⟩ : Fin 9728) = ⟨2048 + (h.val * 256 + e.val), by omega⟩ := Fin.ext (by
    show 2048 + l.val = 2048 + (h.val * 256 + e.val); omega)
  pointwise [R_main_v67]
  simp only [e1, e2, e3, e4, e5, e6, e7, hO]
  rfl

end Gla

end
-- ==== Proof.Ref.lean ====
/- The reference's run, stated over the state its loop carries. A valuation holds a state when each carried buffer, each
   constant of the loop and the trip's number are that state's; every value of one trip then is the step's, one lemma
   each, so a trip keeps holding with the step applied. What stands before the loop holds the first state, and the run's
   results are fields of the step iterated from it. -/
module

public import proofs.«01_k».proof.Proof.Gen.ReferenceIdeal.Run
public import proofs.«01_k».proof.Proof.Gen.ReferenceIdeal.Step

@[expose] public section

noncomputable section

namespace Cert.ReferenceIdeal.Iterate

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v43_5) = s.main_v43_5
  f_6 : V0 (Proc.devRef .tc main_v43_6) = s.main_v43_6
  f_0 : V0 (Proc.devRef .tc main_v43_0) = s.main_v43_0
  f_1 : V0 (Proc.devRef .tc main_v43_1) = s.main_v43_1
  f_2 : V0 (Proc.devRef .tc main_v43_2) = s.main_v43_2
  f_3 : V0 (Proc.devRef .tc main_v43_3) = s.main_v43_3
  n_4 : V0 (Proc.devRef .tc main_v43_4) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x4x64x128 (V0 (Proc.devRef .tc main_v43_0)) (fun k => (((![V0 (Proc.devRef .tc main_v43_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x128_S1x2x4x64x128 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_4]
  try rfl
set_option maxRecDepth 8192 in
theorem al_5 (h : Holds V0 s j) : (shapeCast S2x4x64x128 (Host.dynamicSlice S1x2x4x64x128 (V0 (Proc.devRef .tc main_v43_0)) (fun k => (((![V0 (Proc.devRef .tc main_v43_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x128_S1x2x4x64x128) shapeCasts_S1x2x4x64x128_S2x4x64x128 : (Proc.devRef .tc main_while0b_v68 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x4x64x128 (V0 (Proc.devRef .tc main_v43_1)) (fun k => (((![V0 (Proc.devRef .tc main_v43_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x128_S1x2x4x64x128 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_4]
  try rfl
set_option maxRecDepth 8192 in
theorem al_11 (h : Holds V0 s j) : (res_main_while0b_v69 V0 : (Proc.devRef .tc main_while0b_v69 : DevRef τ sig).ty.Contents (Elt F)) = Cert.ReferenceIdeal.Step.b11 j s := by
  unfold res_main_while0b_v69 Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x4x64x256 (V0 (Proc.devRef .tc main_v43_2)) (fun k => (((![V0 (Proc.devRef .tc main_v43_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x256_S1x2x4x64x256 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_4]
  try rfl
set_option maxRecDepth 8192 in
theorem al_17 (h : Holds V0 s j) : (res_main_while0b_v70 V0 : (Proc.devRef .tc main_while0b_v70 : DevRef τ sig).ty.Contents (Elt F)) = Cert.ReferenceIdeal.Step.b17 j s := by
  unfold res_main_while0b_v70 Cert.ReferenceIdeal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x2x4x64x128 (V0 (Proc.devRef .tc main_v43_3)) (fun k => (((![V0 (Proc.devRef .tc main_v43_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x128_S1x2x4x64x128 : (Proc.devRef .tc main_while0b_call3_v0 : DevRef τ sig).ty.Contents (Elt F)) = Cert.ReferenceIdeal.Step.b22 j s := by
  unfold Cert.ReferenceIdeal.Step.b22
  rw [← al_18 h, ← al_19 h, ← al_20 h, ← al_21 h, h.f_3, h.n_4]
  try rfl
set_option maxRecDepth 8192 in
theorem al_23 (h : Holds V0 s j) : (shapeCast S2x4x64x128 (Host.dynamicSlice S1x2x4x64x128 (V0 (Proc.devRef .tc main_v43_3)) (fun k => (((![V0 (Proc.devRef .tc main_v43_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x4x64x128_S1x2x4x64x128) shapeCasts_S1x2x4x64x128_S2x4x64x128 : (Proc.devRef .tc main_while0b_v71 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x00000000#32 : (Proc.devRef .tc main_while0b_call4_call0_cst : DevRef τ sig).ty.Contents (Elt F)) = Cert.ReferenceIdeal.Step.b24 j s := by
  unfold Cert.ReferenceIdeal.Step.b24
  rfl
set_option maxRecDepth 8192 in
theorem al_25 (h : Holds V0 s j) : (broadcastInDim S_ ![] bcast_S_S_ (constant S_ .f32 0x00000000#32) : (Proc.devRef .tc main_while0b_call4_call0_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v72 V0 : (Proc.devRef .tc main_while0b_v72 : DevRef τ sig).ty.Contents (Elt F)) = Cert.ReferenceIdeal.Step.b26 j s := by
  unfold res_main_while0b_v72 Cert.ReferenceIdeal.Step.b26
  rw [← al_23 h, ← al_25 h]
  try rfl
set_option maxRecDepth 8192 in
theorem al_27 (h : Holds V0 s j) : (Host.exp (res_main_while0b_v72 V0) : (Proc.devRef .tc main_while0b_v73 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (res_main_while0b_v74 V0 : (Proc.devRef .tc main_while0b_v74 : DevRef τ sig).ty.Contents (Elt F)) = Cert.ReferenceIdeal.Step.b28 j s := by
  unfold res_main_while0b_v74 Cert.ReferenceIdeal.Step.b28
  rw [← al_5 h, ← al_27 h]
  try rfl
set_option maxRecDepth 8192 in
theorem al_29 (h : Holds V0 s j) : (Host.negf (res_main_while0b_v72 V0) : (Proc.devRef .tc main_while0b_v75 : DevRef τ sig).ty.Contents (Elt F)) = Cert.ReferenceIdeal.Step.b29 j s := by
  unfold Cert.ReferenceIdeal.Step.b29
  rw [← al_26 h]
  try rfl
set_option maxRecDepth 8192 in
theorem al_30 (h : Holds V0 s j) : (Host.exp (Host.negf (res_main_while0b_v72 V0)) : (Proc.devRef .tc main_while0b_v76 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (mulf (res_main_while0b_v69 V0) (Host.exp (Host.negf (res_main_while0b_v72 V0))) : (Proc.devRef .tc main_while0b_v77 : DevRef τ sig).ty.Contents (Elt F)) = Cert.ReferenceIdeal.Step.b31 j s := by
  unfold Cert.ReferenceIdeal.Step.b31
  rw [← al_11 h, ← al_30 h]
  try rfl
set_option maxRecDepth 8192 in
theorem al_32 (h : Holds V0 s j) : (constantI S_ 1 1#1 : (Proc.devRef .tc main_while0b_c_13 : DevRef τ sig).ty.Contents (Elt F)) = Cert.ReferenceIdeal.Step.b32 j s := by
  unfold Cert.ReferenceIdeal.Step.b32
  rfl
set_option maxRecDepth 8192 in
theorem al_33 (h : Holds V0 s j) : (broadcastInDim S64x64 ![] bcast_S_S64x64 (constantI S_ 1 1#1) : (Proc.devRef .tc main_while0b_v78 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (iotaInDim S64x64 32 0 : (Proc.devRef .tc main_while0b_call5_v0 : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call5_c : DevRef τ sig).ty.Contents (Elt F)) = Cert.ReferenceIdeal.Step.b35 j s := by
  unfold Cert.ReferenceIdeal.Step.b35
  rfl
set_option maxRecDepth 8192 in
theorem al_36 (h : Holds V0 s j) : (broadcastInDim S64x64 ![] bcast_S_S64x64 (constantI S_ 32 0#32) : (Proc.devRef .tc main_while0b_call5_v1 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (addi (iotaInDim S64x64 32 0) (broadcastInDim S64x64 ![] bcast_S_S64x64 (constantI S_ 32 0#32)) : (Proc.devRef .tc main_while0b_call5_v2 : DevRef τ sig).ty.Contents (Elt F)) = Cert.ReferenceIdeal.Step.b37 j s := by
  unfold Cert.ReferenceIdeal.Step.b37
  rw [← al_34 h, ← al_36 h]
  try rfl
set_option maxRecDepth 8192 in
theorem al_38 (h : Holds V0 s j) : (iotaInDim S64x64 32 1 : (Proc.devRef .tc main_while0b_call5_v3 : DevRef τ sig).ty.Contents (Elt F)) = Cert.ReferenceIdeal.Step.b38 j s := by
  unfold Cert.ReferenceIdeal.Step.b38
  rfl
set_option maxRecDepth 8192 in
theorem al_39 (h : Holds V0 s j) : (cmpi .sge (addi (iotaInDim S64x64 32 0) (broadcastInDim S64x64 ![] bcast_S_S64x64 (constantI S_ 32 0#32))) (iotaInDim S64x64 32 1) : (Proc.devRef .tc main_while0b_call5_v4 : DevRef τ sig).ty.Contents (Elt F)) = Cert.ReferenceIdeal.Step.b39 j s := by
  unfold Cert.ReferenceIdeal.Step.b39
  rw [← al_37 h, ← al_38 h]
  try rfl
set_option maxRecDepth 8192 in
theorem al_40 (h : Holds V0 s j) : (constantI S_ 1 0#1 : (Proc.devRef .tc main_while0b_call5_c_0 : DevRef τ sig).ty.Contents (Elt F)) = Cert.ReferenceIdeal.Step.b40 j s := by
  unfold Cert.ReferenceIdeal.Step.b40
  rfl
set_option maxRecDepth 8192 in
theorem al_41 (h : Holds V0 s j) : (broadcastInDim S64x64 ![] bcast_S_S64x64 (constantI S_ 1 0#1) : (Proc.devRef .tc main_while0b_call5_v5 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v79 : DevRef τ sig).ty.Contents (Elt F)) = Cert.ReferenceIdeal.Step.b42 j s := by
  unfold Cert.ReferenceIdeal.Step.b42
  rw [← al_39 h, ← al_33 h, ← al_41 h]
  try rfl
set_option maxRecDepth 8192 in
theorem al_43 (h : Holds V0 s j) : (Host.dotGeneral dot_S2x4x64x128_S2x4x64x128_S2x4x64x64_3_3_2_2_01_01 none (res_main_while0b_v74 V0) (mulf (res_main_while0b_v69 V0) (Host.exp (Host.negf (res_main_while0b_v72 V0)))) : (Proc.devRef .tc main_while0b_v80 : DevRef τ sig).ty.Contents (Elt F)) = Cert.ReferenceIdeal.Step.b43 j s := by
  unfold Cert.ReferenceIdeal.Step.b43
  rw [← al_28 h, ← al_31 h]
  try rfl
set_option maxRecDepth 8192 in
theorem al_44 (h : Holds V0 s j) : (constant S_ .f32 0x00000000#32 : (Proc.devRef .tc main_while0b_cst_14 : DevRef τ sig).ty.Contents (Elt F)) = Cert.ReferenceIdeal.Step.b44 j s := by
  unfold Cert.ReferenceIdeal.Step.b44
  rfl
set_option maxRecDepth 8192 in
theorem al_45 (h : Holds V0 s j) : (id (constant S_ .f32 0x00000000#32) : (Proc.devRef .tc main_while0b_call6_v0 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call6_v1 : DevRef τ sig).ty.Contents (Elt F)) = Cert.ReferenceIdeal.Step.b46 j s := by
  unfold Cert.ReferenceIdeal.Step.b46
  rw [← al_42 h]
  try rfl
set_option maxRecDepth 8192 in
theorem al_47 (h : Holds V0 s j) : (broadcastInDim S2x4x64x64 ![] bcast_S_S2x4x64x64 (id (constant S_ .f32 0x00000000#32)) : (Proc.devRef .tc main_while0b_call6_v2 : DevRef τ sig).ty.Contents (Elt F)) = Cert.ReferenceIdeal.Step.b47 j s := by
  unfold Cert.ReferenceIdeal.Step.b47
  rw [← al_45 h]
  try rfl
set_option maxRecDepth 8192 in
theorem al_48 (h : Holds V0 s j) : (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v74 V0) (mulf (res_main_while0b_v69 V0) (Host.exp (Host.negf (res_main_while0b_v72 V0))))) (broadcastInDim S2x4x64x64 ![] bcast_S_S2x4x64x64 (id (constant S_ .f32 0x00000000#32))) : (Proc.devRef .tc main_while0b_v81 : DevRef τ sig).ty.Contents (Elt F)) = Cert.ReferenceIdeal.Step.b48 j s := by
  unfold Cert.ReferenceIdeal.Step.b48
  rw [← al_46 h, ← al_43 h, ← al_47 h]
  try rfl
set_option maxRecDepth 8192 in
theorem al_49 (h : Holds V0 s j) : (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v74 V0) (mulf (res_main_while0b_v69 V0) (Host.exp (Host.negf (res_main_while0b_v72 V0))))) (broadcastInDim S2x4x64x64 ![] bcast_S_S2x4x64x64 (id (constant S_ .f32 0x00000000#32)))) (res_main_while0b_v70 V0) : (Proc.devRef .tc main_while0b_v82 : DevRef τ sig).ty.Contents (Elt F)) = Cert.ReferenceIdeal.Step.b49 j s := by
  unfold Cert.ReferenceIdeal.Step.b49
  rw [← al_48 h, ← al_17 h]
  try rfl
set_option maxRecDepth 8192 in
theorem al_50 (h : Holds V0 s j) : (Host.dotGeneral dot_S2x4x64x128_S2x4x128x256_S2x4x64x256_3_2_2_3_01_01 none (res_main_while0b_v74 V0) (V0 (Proc.devRef .tc main_v43_5)) : (Proc.devRef .tc main_while0b_v83 : DevRef τ sig).ty.Contents (Elt F)) = Cert.ReferenceIdeal.Step.b50 j s := by
  unfold Cert.ReferenceIdeal.Step.b50
  rw [← al_28 h, h.f_5]
  try rfl
set_option maxRecDepth 8192 in
theorem al_51 (h : Holds V0 s j) : (addf (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v74 V0) (mulf (res_main_while0b_v69 V0) (Host.exp (Host.negf (res_main_while0b_v72 V0))))) (broadcastInDim S2x4x64x64 ![] bcast_S_S2x4x64x64 (id (constant S_ .f32 0x00000000#32)))) (res_main_while0b_v70 V0)) (Host.dotGeneral dot_S2x4x64x128_S2x4x128x256_S2x4x64x256_3_2_2_3_01_01 none (res_main_while0b_v74 V0) (V0 (Proc.devRef .tc main_v43_5))) : (Proc.devRef .tc main_while0b_v84 : DevRef τ sig).ty.Contents (Elt F)) = Cert.ReferenceIdeal.Step.b51 j s := by
  unfold Cert.ReferenceIdeal.Step.b51
  rw [← al_49 h, ← al_50 h]
  try rfl
set_option maxRecDepth 8192 in
theorem al_52 (h : Holds V0 s j) : (res_main_while0b_v85 V0 : (Proc.devRef .tc main_while0b_v85 : DevRef τ sig).ty.Contents (Elt F)) = Cert.ReferenceIdeal.Step.b52 j s := by
  unfold res_main_while0b_v85 Cert.ReferenceIdeal.Step.b52
  rw [← al_26 h]
  try rfl
set_option maxRecDepth 8192 in
theorem al_53 (h : Holds V0 s j) : (shapeCast S2x4x128 (res_main_while0b_v85 V0) shapeCasts_S2x4x1x128_S2x4x128 : (Proc.devRef .tc main_while0b_v86 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (Host.exp (shapeCast S2x4x128 (res_main_while0b_v85 V0) shapeCasts_S2x4x1x128_S2x4x128) : (Proc.devRef .tc main_while0b_v87 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (broadcastInDim S2x4x128x1 ![0, 1, 2] bcast_S2x4x128_S2x4x128x1_0_1_2 (Host.exp (shapeCast S2x4x128 (res_main_while0b_v85 V0) shapeCasts_S2x4x1x128_S2x4x128)) : (Proc.devRef .tc main_while0b_v88 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (broadcastInDim S2x4x128x256 ![0, 1, 2, 3] bcast_S2x4x128x1_S2x4x128x256_0_1_2_3 (broadcastInDim S2x4x128x1 ![0, 1, 2] bcast_S2x4x128_S2x4x128x1_0_1_2 (Host.exp (shapeCast S2x4x128 (res_main_while0b_v85 V0) shapeCasts_S2x4x1x128_S2x4x128))) : (Proc.devRef .tc main_while0b_v89 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (mulf (broadcastInDim S2x4x128x256 ![0, 1, 2, 3] bcast_S2x4x128x1_S2x4x128x256_0_1_2_3 (broadcastInDim S2x4x128x1 ![0, 1, 2] bcast_S2x4x128_S2x4x128x1_0_1_2 (Host.exp (shapeCast S2x4x128 (res_main_while0b_v85 V0) shapeCasts_S2x4x1x128_S2x4x128)))) (V0 (Proc.devRef .tc main_v43_5)) : (Proc.devRef .tc main_while0b_v90 : DevRef τ sig).ty.Contents (Elt F)) = Cert.ReferenceIdeal.Step.b57 j s := by
  unfold Cert.ReferenceIdeal.Step.b57
  rw [← al_56 h, h.f_5]
  try rfl
set_option maxRecDepth 8192 in
theorem al_58 (h : Holds V0 s j) : (broadcastInDim S2x4x64x128 ![0, 1, 2, 3] bcast_S2x4x1x128_S2x4x64x128_0_1_2_3 (res_main_while0b_v85 V0) : (Proc.devRef .tc main_while0b_v91 : DevRef τ sig).ty.Contents (Elt F)) = Cert.ReferenceIdeal.Step.b58 j s := by
  unfold Cert.ReferenceIdeal.Step.b58
  rw [← al_52 h]
  try rfl
set_option maxRecDepth 8192 in
theorem al_59 (h : Holds V0 s j) : (subf (broadcastInDim S2x4x64x128 ![0, 1, 2, 3] bcast_S2x4x1x128_S2x4x64x128_0_1_2_3 (res_main_while0b_v85 V0)) (res_main_while0b_v72 V0) : (Proc.devRef .tc main_while0b_v92 : DevRef τ sig).ty.Contents (Elt F)) = Cert.ReferenceIdeal.Step.b59 j s := by
  unfold Cert.ReferenceIdeal.Step.b59
  rw [← al_58 h, ← al_26 h]
  try rfl
set_option maxRecDepth 8192 in
theorem al_60 (h : Holds V0 s j) : (Host.exp (subf (broadcastInDim S2x4x64x128 ![0, 1, 2, 3] bcast_S2x4x1x128_S2x4x64x128_0_1_2_3 (res_main_while0b_v85 V0)) (res_main_while0b_v72 V0)) : (Proc.devRef .tc main_while0b_v93 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (mulf (res_main_while0b_v69 V0) (Host.exp (subf (broadcastInDim S2x4x64x128 ![0, 1, 2, 3] bcast_S2x4x1x128_S2x4x64x128_0_1_2_3 (res_main_while0b_v85 V0)) (res_main_while0b_v72 V0))) : (Proc.devRef .tc main_while0b_v94 : DevRef τ sig).ty.Contents (Elt F)) = Cert.ReferenceIdeal.Step.b61 j s := by
  unfold Cert.ReferenceIdeal.Step.b61
  rw [← al_11 h, ← al_60 h]
  try rfl
set_option maxRecDepth 8192 in
theorem al_62 (h : Holds V0 s j) : (Host.dotGeneral dot_S2x4x64x128_S2x4x64x256_S2x4x128x256_2_2_3_3_01_01 none (mulf (res_main_while0b_v69 V0) (Host.exp (subf (broadcastInDim S2x4x64x128 ![0, 1, 2, 3] bcast_S2x4x1x128_S2x4x64x128_0_1_2_3 (res_main_while0b_v85 V0)) (res_main_while0b_v72 V0)))) (res_main_while0b_v70 V0) : (Proc.devRef .tc main_while0b_v95 : DevRef τ sig).ty.Contents (Elt F)) = Cert.ReferenceIdeal.Step.b62 j s := by
  unfold Cert.ReferenceIdeal.Step.b62
  rw [← al_61 h, ← al_17 h]
  try rfl
set_option maxRecDepth 8192 in
theorem al_63 (h : Holds V0 s j) : (addf (mulf (broadcastInDim S2x4x128x256 ![0, 1, 2, 3] bcast_S2x4x128x1_S2x4x128x256_0_1_2_3 (broadcastInDim S2x4x128x1 ![0, 1, 2] bcast_S2x4x128_S2x4x128x1_0_1_2 (Host.exp (shapeCast S2x4x128 (res_main_while0b_v85 V0) shapeCasts_S2x4x1x128_S2x4x128)))) (V0 (Proc.devRef .tc main_v43_5))) (Host.dotGeneral dot_S2x4x64x128_S2x4x64x256_S2x4x128x256_2_2_3_3_01_01 none (mulf (res_main_while0b_v69 V0) (Host.exp (subf (broadcastInDim S2x4x64x128 ![0, 1, 2, 3] bcast_S2x4x1x128_S2x4x64x128_0_1_2_3 (res_main_while0b_v85 V0)) (res_main_while0b_v72 V0)))) (res_main_while0b_v70 V0)) : (Proc.devRef .tc main_while0b_v96 : DevRef τ sig).ty.Contents (Elt F)) = Cert.ReferenceIdeal.Step.b63 j s := by
  unfold Cert.ReferenceIdeal.Step.b63
  rw [← al_57 h, ← al_62 h]
  try rfl
set_option maxRecDepth 8192 in
theorem al_64 (h : Holds V0 s j) : (broadcastInDim S1x2x4x64x256 ![1, 2, 3, 4] bcast_S2x4x64x256_S1x2x4x64x256_1_2_3_4 (addf (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v74 V0) (mulf (res_main_while0b_v69 V0) (Host.exp (Host.negf (res_main_while0b_v72 V0))))) (broadcastInDim S2x4x64x64 ![] bcast_S_S2x4x64x64 (id (constant S_ .f32 0x00000000#32)))) (res_main_while0b_v70 V0)) (Host.dotGeneral dot_S2x4x64x128_S2x4x128x256_S2x4x64x256_3_2_2_3_01_01 none (res_main_while0b_v74 V0) (V0 (Proc.devRef .tc main_v43_5)))) : (Proc.devRef .tc main_while0b_call7_v0 : DevRef τ sig).ty.Contents (Elt F)) = Cert.ReferenceIdeal.Step.b64 j s := by
  unfold Cert.ReferenceIdeal.Step.b64
  rw [← al_51 h]
  try rfl
set_option maxRecDepth 8192 in
theorem al_65 (h : Holds V0 s j) : (constantI S_ 32 0#32 : (Proc.devRef .tc main_while0b_call7_c : DevRef τ sig).ty.Contents (Elt F)) = Cert.ReferenceIdeal.Step.b65 j s := by
  unfold Cert.ReferenceIdeal.Step.b65
  rfl
set_option maxRecDepth 8192 in
theorem al_66 (h : Holds V0 s j) : (constantI S_ 32 0#32 : (Proc.devRef .tc main_while0b_call7_c_0 : DevRef τ sig).ty.Contents (Elt F)) = Cert.ReferenceIdeal.Step.b66 j s := by
  unfold Cert.ReferenceIdeal.Step.b66
  rfl
set_option maxRecDepth 8192 in
theorem al_67 (h : Holds V0 s j) : (constantI S_ 32 0#32 : (Proc.devRef .tc main_while0b_call7_c_1 : DevRef τ sig).ty.Contents (Elt F)) = Cert.ReferenceIdeal.Step.b67 j s := by
  unfold Cert.ReferenceIdeal.Step.b67
  rfl
set_option maxRecDepth 8192 in
theorem al_68 (h : Holds V0 s j) : (constantI S_ 32 0#32 : (Proc.devRef .tc main_while0b_call7_c_2 : DevRef τ sig).ty.Contents (Elt F)) = Cert.ReferenceIdeal.Step.b68 j s := by
  unfold Cert.ReferenceIdeal.Step.b68
  rfl
set_option maxRecDepth 8192 in
theorem al_69 (h : Holds V0 s j) : (Host.dynamicUpdateSlice (V0 (Proc.devRef .tc main_v43_6)) (broadcastInDim S1x2x4x64x256 ![1, 2, 3, 4] bcast_S2x4x64x256_S1x2x4x64x256_1_2_3_4 (addf (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v74 V0) (mulf (res_main_while0b_v69 V0) (Host.exp (Host.negf (res_main_while0b_v72 V0))))) (broadcastInDim S2x4x64x64 ![] bcast_S_S2x4x64x64 (id (constant S_ .f32 0x00000000#32)))) (res_main_while0b_v70 V0)) (Host.dotGeneral dot_S2x4x64x128_S2x4x128x256_S2x4x64x256_3_2_2_3_01_01 none (res_main_while0b_v74 V0) (V0 (Proc.devRef .tc main_v43_5))))) (fun k => (((![V0 (Proc.devRef .tc main_v43_4), constantI S_ 32 0#32, constantI S_ 32 0#32, constantI S_ 32 0#32, constantI S_ 32 0#32] : Fin 5 → (⟨S_, .i32⟩ : BufTy).Contents (Elt F))) k (Shape.Idx.first h_S_)).toInt) updateFits_S128x2x4x64x256_S1x2x4x64x256 : (Proc.devRef .tc main_while0b_v97 : DevRef τ sig).ty.Contents (Elt F)) = Cert.ReferenceIdeal.Step.b69 j s := by
  unfold Cert.ReferenceIdeal.Step.b69
  rw [← al_64 h, ← al_65 h, ← al_66 h, ← al_67 h, ← al_68 h, h.f_6, h.n_4]
  try rfl

/-! One trip's step of the carried values is `step`, field by field; a counter steps to the next number. -/

theorem step_5 (h : Holds V0 s j) : step_main_v43_5 V0 = (step j s).main_v43_5 := by
  unfold step_main_v43_5 Cert.ReferenceIdeal.Step.step
  show id (addf (mulf (broadcastInDim S2x4x128x256 ![0, 1, 2, 3] bcast_S2x4x128x1_S2x4x128x256_0_1_2_3 (broadcastInDim S2x4x128x1 ![0, 1, 2] bcast_S2x4x128_S2x4x128x1_0_1_2 (Host.exp (shapeCast S2x4x128 (res_main_while0b_v85 V0) shapeCasts_S2x4x1x128_S2x4x128)))) (V0 (Proc.devRef .tc main_v43_5))) (Host.dotGeneral dot_S2x4x64x128_S2x4x64x256_S2x4x128x256_2_2_3_3_01_01 none (mulf (res_main_while0b_v69 V0) (Host.exp (subf (broadcastInDim S2x4x64x128 ![0, 1, 2, 3] bcast_S2x4x1x128_S2x4x64x128_0_1_2_3 (res_main_while0b_v85 V0)) (res_main_while0b_v72 V0)))) (res_main_while0b_v70 V0))) = _
  rw [al_63 h]
  try rfl
theorem step_6 (h : Holds V0 s j) : step_main_v43_6 V0 = (step j s).main_v43_6 := by
  unfold step_main_v43_6 Cert.ReferenceIdeal.Step.step
  show id (Host.dynamicUpdateSlice (V0 (Proc.devRef .tc main_v43_6)) (broadcastInDim S1x2x4x64x256 ![1, 2, 3, 4] bcast_S2x4x64x256_S1x2x4x64x256_1_2_3_4 (addf (Host.dotGeneral dot_S2x4x64x64_S2x4x64x256_S2x4x64x256_3_2_2_3_01_01 none (select (broadcastInDim S2x4x64x64 ![2, 3] bcast_S64x64_S2x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S2x4x64x128_S2x4x64x128_S2x4x64x64_3_3_2_2_01_01 none (res_main_while0b_v74 V0) (mulf (res_main_while0b_v69 V0) (Host.exp (Host.negf (res_main_while0b_v72 V0))))) (broadcastInDim S2x4x64x64 ![] bcast_S_S2x4x64x64 (id (constant S_ .f32 0x00000000#32)))) (res_main_while0b_v70 V0)) (Host.dotGeneral dot_S2x4x64x128_S2x4x128x256_S2x4x64x256_3_2_2_3_01_01 none (res_main_while0b_v74 V0) (V0 (Proc.devRef .tc main_v43_5))))) (fun k => (((![V0 (Proc.devRef .tc main_v43_4), constantI S_ 32 0#32, constantI S_ 32 0#32, constantI S_ 32 0#32, constantI S_ 32 0#32] : Fin 5 → (⟨S_, .i32⟩ : BufTy).Contents (Elt F))) k (Shape.Idx.first h_S_)).toInt) updateFits_S128x2x4x64x256_S1x2x4x64x256) = _
  exact al_69 h
theorem step_4 (h : Holds V0 s j) : step_main_v43_4 V0 = constantI S_ 32 (BitVec.ofNat 32 (j + 1)) := by
  unfold step_main_v43_4
  rw [h.n_4]
  funext i
  show BitVec.ofNat 32 j + 1#32 = BitVec.ofNat 32 (j + 1)
  simp only [BitVec.ofNat_add]

set_option maxRecDepth 8192 in
theorem out_main_v67_holds (h : Holds V0 s j) {x_main_arg0 : (⟨S16896x9728, .f32⟩ : BufTy).Contents (Elt F)} (h_main_arg0 : V0 (Proc.devRef .tc main_arg0) = x_main_arg0) {x_main_arg3 : (⟨S256, .f32⟩ : BufTy).Contents (Elt F)} (h_main_arg3 : V0 (Proc.devRef .tc main_arg3) = x_main_arg3) : out_main_v67 V0 = Cert.ReferenceIdeal.Step.R_main_v67 s x_main_arg0 x_main_arg3 := by
  unfold out_main_v67 Cert.ReferenceIdeal.Step.R_main_v67
  rw [h.f_6, h_main_arg0, h_main_arg3]
  try rfl

/-- One trip keeps the valuation holding: `step` of the state, the same set-up values, the next number. -/
theorem holds_step (h : Holds V0 s j) : Holds (STEP V0) (step j s) (j + 1) where
  f_5 := (STEP_main_v43_5 V0).trans (step_5 h)
  f_6 := (STEP_main_v43_6 V0).trans (step_6 h)
  n_4 := (STEP_main_v43_4 V0).trans (step_4 h)
  f_0 := (STEP_main_v43_0 V0).trans h.f_0
  f_1 := (STEP_main_v43_1 V0).trans h.f_1
  f_2 := (STEP_main_v43_2 V0).trans h.f_2
  f_3 := (STEP_main_v43_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v67) = Cert.ReferenceIdeal.Step.R_main_v67 (it c 128) (m ((c.tc : Thread nD τ).loc main_arg0)) (m ((c.tc : Thread nD τ).loc main_arg3))
      ∧ r.2.mem ((c.tc : Thread nD τ).loc main_v43_5) = (it c 128).main_v43_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 128
    ⟨(h c).1.trans (out_main_v67_holds hk (iter_main_arg0 m c 128) (iter_main_arg3 m c 128)), (h c).2.1.trans hk.f_5, (h c).2.2.1, (h c).2.2.2.1, (h c).2.2.2.2.1, (h c).2.2.2.2.2⟩) (Value.run m ρ)

end Cert.ReferenceIdeal.Iterate

end
-- ==== Proof.Branch.lean ====
/- The gated linear attention branch: the kernel's results are the reference's, over the extended reals. -/
module

public import proofs.«01_k».proof.Proof.Finite
public import proofs.«01_k».proof.Proof.KernelValue
public import proofs.«01_k».proof.Proof.RefValue
public import proofs.«01_k».proof.Proof.Ref
public import Idealize.ShloMosaic.Adequacy
public import Idealize.ShloMosaic.Init

@[expose] public section

noncomputable section

namespace Gla

open Idealize.ShloMosaic Idealize.ShloMosaic.TcCoe Idealize.SL.Sem

/-- The reference runs and leaves its arguments unchanged; it has no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference's loop, trip by trip, from its arguments. -/
def trips (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.ReferenceIdeal.Iterate.initState m c
  | n + 1 => Cert.ReferenceIdeal.Step.step n (trips m c n)

/-- Every row of the first result is a token of a chunk of a sequence, and every column a channel of a head. -/
theorem split_row (r : Fin 16384) : ∃ (b : Fin 2) (n : Fin 128) (i : Fin 64), r.val = b.val * 8192 + (n.val * 64 + i.val) :=
  ⟨⟨r.val / 8192, by omega⟩, ⟨r.val % 8192 / 64, by omega⟩, ⟨r.val % 64, by omega⟩, by
    show r.val = r.val / 8192 * 8192 + (r.val % 8192 / 64 * 64 + r.val % 64); omega⟩
theorem split_col (l : Fin 1024) : ∃ (h : Fin 4) (e : Fin 256), l.val = h.val * 256 + e.val :=
  ⟨⟨l.val / 256, by omega⟩, ⟨l.val % 256, by omega⟩, by show l.val = l.val / 256 * 256 + l.val % 256; omega⟩

theorem branch : Cert.algebraic_KernelIdeal_ReferenceIdeal_pre_finite_gate := by
  intro m ρ m' ρ' hpre hargs
  refine ⟨fun c => Cert.KernelIdeal.Value.G9 m c, fun c => Cert.KernelIdeal.Value.G10 m c, Cert.KernelIdeal.Value.run m ρ, ?_⟩
  refine (θ_run Cert.ReferenceIdeal.defs _ _).mono (fun r h c => ?_)
    (Cert.ReferenceIdeal.Iterate.run_iter m' ρ' (trips m') (fun _ => rfl) fun _ _ => rfl)
  have hfin : FiniteGate (K0 m c) (K1 m c) := finite_of_pre _ _ _ _ (congrFun (hpre c) _)
  have h0 : trips m' c 0 = Cert.ReferenceIdeal.Step.init (K0 m c) (K1 m c) (K2 m c) := by
    show Cert.ReferenceIdeal.Step.init _ _ _ = _
    rw [(hargs c).1, (hargs c).2.1, (hargs c).2.2.1]
  obtain ⟨_, hS, hO⟩ := loop_value (trips m' c) h0 (fun _ => rfl) 128 le_rfl
  refine ⟨(h c).1.trans ?_, (h c).2.1.trans ?_, (h c).2.2⟩
  · rw [(hargs c).1, (hargs c).2.2.2]
    funext y
    obtain ⟨r', l, rfl⟩ : ∃ (r' : Fin 16384) (l : Fin 1024), y = ix2 r' l :=
      ⟨y 0, y 1, funext fun a => by fin_cases a <;> rfl⟩
    obtain ⟨b, n, i, hr⟩ := split_row r'
    obtain ⟨hd, e, hl⟩ := split_col l
    refine Eq.trans ?_ (G9_at m c hfin b n i hd e (ix2 r' l) hr hl).symm
    exact result_value (K3 m c) (trips m' c 128) b n i hd e (fun e' => hO n n.isLt b hd i e') r' l hr hl
  · funext y
    obtain ⟨b, hd, d, e, rfl⟩ := exists_ix4 y
    exact (hS b hd d e).trans (G10_at m c hfin b hd d e).symm

end Gla

end
-- ==== Proof.NormValue.lean ====
/- The root-mean-square normalization before the layer's projections: the kernel's result is the reference's, over the extended reals. -/
module

public import proofs.«01_k».proof.Defs
public import proofs.«01_k».proof.Proof.Gen.NormIdeal.Value
public import proofs.«01_k».proof.Proof.Gen.NormReferenceIdeal.Run
public import Idealize.ShloMosaic.Lib.Pointwise
public import Idealize.ShloMosaic.Lib.Pipeline.ValueKit
public import Idealize.ShloMosaic.Adequacy
public import Idealize.ShloMosaic.Init

@[expose] public section

noncomputable section

namespace Norm

open Idealize.ShloMosaic Idealize.ShloMosaic.TcCoe Idealize.SL.Sem Cert.NormIdeal Cert.NormIdeal.Gen Cert.NormIdeal.Value

/-- A row over the root of its mean square and a small constant, times the gains. -/
def value (x : S16896x2048.Idx → EReal) (g : S2048.Idx → EReal) : S16896x2048.Idx → EReal :=
  fun y => x y * Ideal.rsqrt (Ideal.div (∑ k : Fin 2048, x (ix2 ⟨(y 0).val, (y 0).isLt⟩ k) * x (ix2 ⟨(y 0).val, (y 0).isLt⟩ k)) (Ideal.ofBits .f32 0x45000000#32)
    + Ideal.ofBits .f32 0x358637BD#32) * g (ix1 ⟨(y 1).val, (y 1).isLt⟩)

variable (m : (ℓ : Loc nD τ sig) → Buf (Elt Ideal) ℓ)

/-- The block every window names at a point. -/
theorem idx : ∀ t : Fin cfg0.N, win0_0.index t = ![t.val, 0] ∧ win0_1.index t = ![0, 0] ∧ win0_2.index t = ![t.val, 0] :=
  (by decide +kernel : ∀ t : Fin grid0.N, _)

set_option maxRecDepth 16384 in
/-- The gains, as the host hands them over: one row. -/
theorem V_v0 (c : Dev nD) (l : Fin 2048) : V m c main_v0 (ix2 0 l) = m ((c : Thread nD τ).loc main_arg1) (ix1 l) := by
  have e : (V m c main_v0 : S1x2048.Idx → EReal) = shapeCast S1x2048 (m ((c : Thread nD τ).loc main_arg1) : S2048.Idx → EReal) shapeCasts_S2048_S1x2048 := by
    show StableHlo.after _ _ _ = _
    unfold hostOps0
    after_results
    rfl
  rw [e]
  pointwise

theorem x_at (c : Dev nD) (t : Fin cfg0.N) (i : Fin 768) (k : Fin 2048) (hr : 768 * t.val + i.val < 16896) :
    iblk m c 0 t (ix2 i k) = m ((c : Thread nD τ).loc main_arg0) (ix2 ⟨768 * t.val + i.val, hr⟩ k) := by
  blk_ext [iblk, V, idx t]

theorem g_at (c : Dev nD) (t : Fin cfg0.N) (l : Fin 2048) : iblk m c 1 t (ix2 0 l) = m ((c : Thread nD τ).loc main_arg1) (ix1 l) := by
  have e : ((cfg0.win 1).blk t).view.emb (ix2 0 l) = ix2 0 l := by blk_ext [idx t]
  show V m c main_v0 (((cfg0.win 1).blk t).view.emb (ix2 0 l)) = _
  rw [e, V_v0]

/-- What a point computes, at an element of its block. -/
theorem pay_at (x : FVec Ideal S768x2048 .f32) (g : FVec Ideal S1x2048 .f32) (i : Fin 768) (l : Fin 2048) :
    k0_pay1 (F := Ideal) x g (ix2 i l) = (x (ix2 i l) * Ideal.rsqrt (Ideal.div (∑ k : Fin 2048, x (ix2 i k) * x (ix2 i k)) (Ideal.ofBits .f32 0x45000000#32)
      + Ideal.ofBits .f32 0x358637BD#32) * g (ix2 0 l) : EReal) := by
  pointwise [k0_pay1]

theorem out_at (x : FVec Ideal S768x2048 .f32) (g : FVec Ideal S1x2048 .f32) (i : Fin 768) (l : Fin 2048) :
    out0_2 (F := Ideal) x g (ix2 i l) = (x (ix2 i l) * Ideal.rsqrt (Ideal.div (∑ k : Fin 2048, x (ix2 i k) * x (ix2 i k)) (Ideal.ofBits .f32 0x45000000#32)
      + Ideal.ofBits .f32 0x358637BD#32) * g (ix2 0 l) : EReal) := by
  unfold out0_2
  rw [View.canon_unit_zero (by funext a; fin_cases a <;> rfl), View.ld_unit_zero (by funext a; fin_cases a <;> rfl), View.ld_unit_zero (by funext a; fin_cases a <;> rfl), pay_at]

/-- The kernel's result array. -/
theorem result (c : Dev nD) : (dats m 0 c).arrAt 2 cfg0.N = value (m ((c : Thread nD τ).loc main_arg0)) (m ((c : Thread nD τ).loc main_arg1)) := by
  funext y
  obtain ⟨r, l, rfl⟩ : ∃ (r : Fin 16896) (l : Fin 2048), y = ix2 r l := ⟨y 0, y 1, funext fun a => by fin_cases a <;> rfl⟩
  have hN : cfg0.N = 22 := N_0
  obtain ⟨t, ht⟩ : ∃ t : Fin cfg0.N, t.val = r.val / 768 := ⟨⟨r.val / 768, by omega⟩, rfl⟩
  obtain ⟨i, hi⟩ : ∃ i : Fin 768, i.val = r.val % 768 := ⟨⟨r.val % 768, by omega⟩, rfl⟩
  have hr : 768 * t.val + i.val < 16896 := by omega
  have e1 : (⟨768 * t.val + i.val, hr⟩ : Fin 16896) = r := Fin.ext (by show 768 * t.val + i.val = r.val; omega)
  have key := congrFun (blocks2 m c t (flush0_2 t)) (ix2 i l)
  have e : ((cfg0.win 2).blk t).view.emb (ix2 i l) = ix2 r l := by
    rw [← e1]
    blk_ext [idx t]
  have left : ((cfg0.win 2).blk t).view.read (Elt Ideal) ((dats m 0 c).arrAt 2 cfg0.N) (ix2 i l) = (dats m 0 c).arrAt 2 cfg0.N (ix2 r l) :=
    congrArg ((dats m 0 c).arrAt 2 cfg0.N) e
  rw [← left, key, flushed2]
  refine (out_at (iblk m c 0 t) (iblk m c 1 t) i l).trans ?_
  have hx : ∀ k, iblk m c 0 t (ix2 i k) = m ((c : Thread nD τ).loc main_arg0) (ix2 r k) := fun k => by rw [x_at m c t i k hr, e1]
  simp only [hx, g_at]
  rfl

/-- The reference runs and leaves its arguments unchanged; it has no semaphore. -/
theorem reference_frame : Cert.quiescent_NormReferenceIdeal := fun m ρ _ =>
  (θ_run Cert.NormReferenceIdeal.defs _ _).mono
    (fun r h => ⟨fun c => (h c).2, Idealize.ShloMosaic.sem_eq_zero_of_no_sems (by decide) r.2⟩)
    (Cert.NormReferenceIdeal.Value.run (F := Ideal) m ρ)

theorem claim : Cert.algebraic_NormIdeal_NormReferenceIdeal := by
  intro m ρ m' ρ' _ hargs
  refine ⟨fun c => value (m ((c : Thread nD τ).loc main_arg0)) (m ((c : Thread nD τ).loc main_arg1)), ?_, ?_⟩
  · exact (θ_run defs _ _).mono (fun r h c => ⟨(h c).1.trans (result m c), (h c).2⟩) (run_blocks m ρ)
  · refine (θ_run Cert.NormReferenceIdeal.defs _ _).mono (fun r h c => ⟨(h c).1.trans ?_, (h c).2⟩)
      (Cert.NormReferenceIdeal.Value.run (F := Ideal) m' ρ')
    rw [(hargs c).1, (hargs c).2]
    funext y
    obtain ⟨r, l, rfl⟩ : ∃ (r : Fin 16896) (l : Fin 2048), y = ix2 r l := ⟨y 0, y 1, funext fun a => by fin_cases a <;> rfl⟩
    pointwise [value]

end Norm

end
-- ==== Proof.InProjValue.lean ====
/- The layer's input projection: the kernel's packed product is the reference's, over the extended reals. -/
module

public import proofs.«01_k».proof.Defs
public import proofs.«01_k».proof.Proof.Gen.InProjIdeal.Value
public import proofs.«01_k».proof.Proof.Gen.InProjReferenceIdeal.Run
public import Idealize.ShloMosaic.Lib.Pointwise
public import Idealize.ShloMosaic.Lib.Pipeline.ValueKit
public import Idealize.ShloMosaic.Adequacy
public import Idealize.ShloMosaic.Init

@[expose] public section

noncomputable section

namespace InProj

open Idealize.ShloMosaic Idealize.ShloMosaic.TcCoe Idealize.SL.Sem Cert.InProjIdeal Cert.InProjIdeal.Gen Cert.InProjIdeal.Value

/-- A function read along consecutive ranges of lengths `n`, each from its offset `o`; zero past the last of them. -/
def ladder (f : Nat → EReal) : List (Nat × Nat) → Nat → EReal
  | [], _ => 0
  | (n, o) :: L, c => if c < n then f (o + c) else ladder f L (c - n)

theorem ladder_step {P : Prop} [Decidable P] {a : P → EReal} {b : ¬P → EReal} (f : Nat → EReal) (n o : Nat) (L : List (Nat × Nat)) (c : Nat)
    (hP : P ↔ c < n) (h1 : ∀ h, a h = f (o + c)) (h2 : ∀ h, b h = ladder f L (c - n)) : dite P a b = ladder f ((n, o) :: L) c := by
  unfold ladder
  by_cases h : P
  · rw [dif_pos h, if_pos (hP.1 h), h1]
  · rw [dif_neg h, if_neg (fun q => h (hP.2 q)), h2]

/-- A sum of scaled ladders is the ladder of the sums. -/
theorem ladder_sum (x : Fin 2048 → EReal) (w : Fin 2048 → Nat → EReal) : ∀ (L : List (Nat × Nat)) (c : Nat),
    ∑ k : Fin 2048, x k * ladder (w k) L c = ladder (fun q => ∑ k : Fin 2048, x k * w k q) L c
  | [], c => by simp [ladder]
  | (n, o) :: L, c => by
    unfold ladder
    split_ifs
    · rfl
    · exact ladder_sum x w L (c - n)

/-- The ranges of the layer's columns, in the packed order. -/
def pieces : List (Nat × Nat) := [(512, 0), (512, 512), (1024, 1024), (1024, 2064), (1024, 3088), (256, 4112), (256, 4368), (512, 4624), (2048, 5208), (2048, 7256), (64, 5136), (16, 2048), (8, 5200)]

/-- A row read at a natural number, zero outside it. -/
def row (f : Fin 9304 → EReal) (q : Nat) : EReal := if h : q < 9304 then f ⟨q, h⟩ else 0

/-- A function of the layer's columns read in the packed order, zero past the last of them. -/
def packed (f : Fin 9304 → EReal) (l : Fin 9728) : EReal := ladder (row f) pieces l.val

theorem packed_sum (x : Fin 2048 → EReal) (w : Fin 2048 → Fin 9304 → EReal) (l : Fin 9728) :
    ∑ k : Fin 2048, x k * packed (w k) l = packed (fun q => ∑ k : Fin 2048, x k * w k q) l := by
  unfold packed
  rw [ladder_sum]
  congr 1
  funext q
  unfold row
  split_ifs <;> simp

/-- A row of the activations times a column of the weights. -/
def dot (x : S16896x2048.Idx → EReal) (w : S2048x9304.Idx → EReal) (r : Fin 16896) (q : Fin 9304) : EReal :=
  ∑ k : Fin 2048, x (ix2 r k) * w (ix2 k q)

/-- A row of the activations times a packed column of the weights. -/
def value (x : S16896x2048.Idx → EReal) (w : S2048x9304.Idx → EReal) : S16896x9728.Idx → EReal :=
  fun y => ∑ k : Fin 2048, x (ix2 ⟨(y 0).val, (y 0).isLt⟩ k) * packed (fun q => w (ix2 k q)) ⟨(y 1).val, (y 1).isLt⟩

variable (m : (ℓ : Loc nD τ sig) → Buf (Elt Ideal) ℓ)

/-- The block every window names at a point. -/
theorem idx : ∀ t : Fin cfg0.N, win0_0.index t = ![t.val / 19, 0] ∧ win0_1.index t = ![0, t.val % 19] ∧ win0_2.index t = ![t.val / 19, t.val % 19] :=
  (by decide +kernel : ∀ t : Fin grid0.N, _)

/-- Two points write two blocks, so a block of the final array is what its point wrote. -/
theorem blocks2 (c : Dev nD) (t : Fin cfg0.N) (hf : (cfg0.win 2).flush t = true) :
    ((cfg0.win 2).blk t).view.read (Elt Ideal) ((dats m 0 c).arrAt 2 cfg0.N) = (dats m 0 c).flushed 2 t :=
  (dats m 0 c).read_blk_arrAt_eq_flushed 2 (fun t t' _ _ hne => (cfg0.win 2).disjoint_blk fun h => hne (by
    have h1 : win0_2.index t = win0_2.index t' := h
    rw [(idx t).2.2, (idx t').2.2] at h1
    have a : t.val / 19 = t'.val / 19 := congrFun h1 0
    have b : t.val % 19 = t'.val % 19 := congrFun h1 1
    exact Fin.ext (by omega))) cfg0.N t t.isLt hf

/-- The activations, as the host hands them over. -/
theorem V_v0 (c : Dev nD) : V m c main_v0 = (m ((c : Thread nD τ).loc main_arg0) : S16896x2048.Idx → EReal) := by
  show StableHlo.after _ _ _ = _
  unfold hostOps0
  after_results
  rfl

/-- The packed weights at an element. -/
theorem packed_at (X : S2048x9304.Idx → EReal) (Z : S2048x424.Idx → EReal) (hZ : ∀ y, Z y = 0) (k : Fin 2048) (l : Fin 9728) :
    (concatenate S2048x9728 1 [⟨S2048x512, (extractStridedSlice S2048x512 ![0, 0] X slices_S2048x9304_S2048x512_0_0 : S2048x512.Idx → EReal)⟩, ⟨S2048x512, (extractStridedSlice S2048x512 ![0, 512] X slices_S2048x9304_S2048x512_0_512 : S2048x512.Idx → EReal)⟩, ⟨S2048x1024, (extractStridedSlice S2048x1024 ![0, 1024] X slices_S2048x9304_S2048x1024_0_1024 : S2048x1024.Idx → EReal)⟩, ⟨S2048x1024, (extractStridedSlice S2048x1024 ![0, 2064] X slices_S2048x9304_S2048x1024_0_2064 : S2048x1024.Idx → EReal)⟩, ⟨S2048x1024, (extractStridedSlice S2048x1024 ![0, 3088] X slices_S2048x9304_S2048x1024_0_3088 : S2048x1024.Idx → EReal)⟩, ⟨S2048x256, (extractStridedSlice S2048x256 ![0, 4112] X slices_S2048x9304_S2048x256_0_4112 : S2048x256.Idx → EReal)⟩, ⟨S2048x256, (extractStridedSlice S2048x256 ![0, 4368] X slices_S2048x9304_S2048x256_0_4368 : S2048x256.Idx → EReal)⟩, ⟨S2048x512, (extractStridedSlice S2048x512 ![0, 4624] X slices_S2048x9304_S2048x512_0_4624 : S2048x512.Idx → EReal)⟩, ⟨S2048x2048, (extractStridedSlice S2048x2048 ![0, 5208] X slices_S2048x9304_S2048x2048_0_5208 : S2048x2048.Idx → EReal)⟩, ⟨S2048x2048, (extractStridedSlice S2048x2048 ![0, 7256] X slices_S2048x9304_S2048x2048_0_7256 : S2048x2048.Idx → EReal)⟩, ⟨S2048x64, (extractStridedSlice S2048x64 ![0, 5136] X slices_S2048x9304_S2048x64_0_5136 : S2048x64.Idx → EReal)⟩, ⟨S2048x16, (extractStridedSlice S2048x16 ![0, 2048] X slices_S2048x9304_S2048x16_0_2048 : S2048x16.Idx → EReal)⟩, ⟨S2048x8, (extractStridedSlice S2048x8 ![0, 5200] X slices_S2048x9304_S2048x8_0_5200 : S2048x8.Idx → EReal)⟩, ⟨S2048x424, Z⟩] concatenates_S2048x512_S2048x512_S2048x1024_S2048x1024_S2048x1024_S2048x256_S2048x256_S2048x512_S2048x2048_S2048x2048_S2048x64_S2048x16_S2048x8_S2048x424_S2048x9728_d1) (ix2 k l) = packed (fun q => X (ix2 k q)) l := by
  refine (concatenate_apply _ _ _ _ _).trans ?_
  show concatenateAt _ _ _ _ _ l.val _ = ladder _ pieces l.val
  unfold pieces
  refine (concatenateAt_cons _ _ _ _ _ _ _ _).trans ?_
  refine ladder_step _ 512 0 [(512, 512), (1024, 1024), (1024, 2064), (1024, 3088), (256, 4112), (256, 4368), (512, 4624), (2048, 5208), (2048, 7256), (64, 5136), (16, 2048), (8, 5200)] (l.val) Iff.rfl (fun h => ?_) (fun h0 => ?_)
  · replace h : l.val < 512 := h
    rw [row, dif_pos (show 0 + (l.val) < 9304 by omega)]
    refine congrArg X (funext fun a => ?_)
    fin_cases a
    · exact Fin.ext (Nat.zero_add k.val)
    · rfl
  replace h0 : ¬ l.val < 512 := h0
  refine (concatenateAt_cons _ _ _ _ _ _ _ _).trans ?_
  refine ladder_step _ 512 512 [(1024, 1024), (1024, 2064), (1024, 3088), (256, 4112), (256, 4368), (512, 4624), (2048, 5208), (2048, 7256), (64, 5136), (16, 2048), (8, 5200)] (l.val - 512) Iff.rfl (fun h => ?_) (fun h1 => ?_)
  · replace h : l.val - 512 < 512 := h
    rw [row, dif_pos (show 512 + (l.val - 512) < 9304 by omega)]
    refine congrArg X (funext fun a => ?_)
    fin_cases a
    · exact Fin.ext (Nat.zero_add k.val)
    · rfl
  replace h1 : ¬ l.val - 512 < 512 := h1
  refine (concatenateAt_cons _ _ _ _ _ _ _ _).trans ?_
  refine ladder_step _ 1024 1024 [(1024, 2064), (1024, 3088), (256, 4112), (256, 4368), (512, 4624), (2048, 5208), (2048, 7256), (64, 5136), (16, 2048), (8, 5200)] (l.val - 512 - 512) Iff.rfl (fun h => ?_) (fun h2 => ?_)
  · replace h : l.val - 512 - 512 < 1024 := h
    rw [row, dif_pos (show 1024 + (l.val - 512 - 512) < 9304 by omega)]
    refine congrArg X (funext fun a => ?_)
    fin_cases a
    · exact Fin.ext (Nat.zero_add k.val)
    · rfl
  replace h2 : ¬ l.val - 512 - 512 < 1024 := h2
  refine (concatenateAt_cons _ _ _ _ _ _ _ _).trans ?_
  refine ladder_step _ 1024 2064 [(1024, 3088), (256, 4112), (256, 4368), (512, 4624), (2048, 5208), (2048, 7256), (64, 5136), (16, 2048), (8, 5200)] (l.val - 512 - 512 - 1024) Iff.rfl (fun h => ?_) (fun h3 => ?_)
  · replace h : l.val - 512 - 512 - 1024 < 1024 := h
    rw [row, dif_pos (show 2064 + (l.val - 512 - 512 - 1024) < 9304 by omega)]
    refine congrArg X (funext fun a => ?_)
    fin_cases a
    · exact Fin.ext (Nat.zero_add k.val)
    · rfl
  replace h3 : ¬ l.val - 512 - 512 - 1024 < 1024 := h3
  refine (concatenateAt_cons _ _ _ _ _ _ _ _).trans ?_
  refine ladder_step _ 1024 3088 [(256, 4112), (256, 4368), (512, 4624), (2048, 5208), (2048, 7256), (64, 5136), (16, 2048), (8, 5200)] (l.val - 512 - 512 - 1024 - 1024) Iff.rfl (fun h => ?_) (fun h4 => ?_)
  · replace h : l.val - 512 - 512 - 1024 - 1024 < 1024 := h
    rw [row, dif_pos (show 3088 + (l.val - 512 - 512 - 1024 - 1024) < 9304 by omega)]
    refine congrArg X (funext fun a => ?_)
    fin_cases a
    · exact Fin.ext (Nat.zero_add k.val)
    · rfl
  replace h4 : ¬ l.val - 512 - 512 - 1024 - 1024 < 1024 := h4
  refine (concatenateAt_cons _ _ _ _ _ _ _ _).trans ?_
  refine ladder_step _ 256 4112 [(256, 4368), (512, 4624), (2048, 5208), (2048, 7256), (64, 5136), (16, 2048), (8, 5200)] (l.val - 512 - 512 - 1024 - 1024 - 1024) Iff.rfl (fun h => ?_) (fun h5 => ?_)
  · replace h : l.val - 512 - 512 - 1024 - 1024 - 1024 < 256 := h
    rw [row, dif_pos (show 4112 + (l.val - 512 - 512 - 1024 - 1024 - 1024) < 9304 by omega)]
    refine congrArg X (funext fun a => ?_)
    fin_cases a
    · exact Fin.ext (Nat.zero_add k.val)
    · rfl
  replace h5 : ¬ l.val - 512 - 512 - 1024 - 1024 - 1024 < 256 := h5
  refine (concatenateAt_cons _ _ _ _ _ _ _ _).trans ?_
  refine ladder_step _ 256 4368 [(512, 4624), (2048, 5208), (2048, 7256), (64, 5136), (16, 2048), (8, 5200)] (l.val - 512 - 512 - 1024 - 1024 - 1024 - 256) Iff.rfl (fun h => ?_) (fun h6 => ?_)
  · replace h : l.val - 512 - 512 - 1024 - 1024 - 1024 - 256 < 256 := h
    rw [row, dif_pos (show 4368 + (l.val - 512 - 512 - 1024 - 1024 - 1024 - 256) < 9304 by omega)]
    refine congrArg X (funext fun a => ?_)
    fin_cases a
    · exact Fin.ext (Nat.zero_add k.val)
    · rfl
  replace h6 : ¬ l.val - 512 - 512 - 1024 - 1024 - 1024 - 256 < 256 := h6
  refine (concatenateAt_cons _ _ _ _ _ _ _ _).trans ?_
  refine ladder_step _ 512 4624 [(2048, 5208), (2048, 7256), (64, 5136), (16, 2048), (8, 5200)] (l.val - 512 - 512 - 1024 - 1024 - 1024 - 256 - 256) Iff.rfl (fun h => ?_) (fun h7 => ?_)
  · replace h : l.val - 512 - 512 - 1024 - 1024 - 1024 - 256 - 256 < 512 := h
    rw [row, dif_pos (show 4624 + (l.val - 512 - 512 - 1024 - 1024 - 1024 - 256 - 256) < 9304 by omega)]
    refine congrArg X (funext fun a => ?_)
    fin_cases a
    · exact Fin.ext (Nat.zero_add k.val)
    · rfl
  replace h7 : ¬ l.val - 512 - 512 - 1024 - 1024 - 1024 - 256 - 256 < 512 := h7
  refine (concatenateAt_cons _ _ _ _ _ _ _ _).trans ?_
  refine ladder_step _ 2048 5208 [(2048, 7256), (64, 5136), (16, 2048), (8, 5200)] (l.val - 512 - 512 - 1024 - 1024 - 1024 - 256 - 256 - 512) Iff.rfl (fun h => ?_) (fun h8 => ?_)
  · replace h : l.val - 512 - 512 - 1024 - 1024 - 1024 - 256 - 256 - 512 < 2048 := h
    rw [row, dif_pos (show 5208 + (l.val - 512 - 512 - 1024 - 1024 - 1024 - 256 - 256 - 512) < 9304 by omega)]
    refine congrArg X (funext fun a => ?_)
    fin_cases a
    · exact Fin.ext (Nat.zero_add k.val)
    · rfl
  replace h8 : ¬ l.val - 512 - 512 - 1024 - 1024 - 1024 - 256 - 256 - 512 < 2048 := h8
  refine (concatenateAt_cons _ _ _ _ _ _ _ _).trans ?_
  refine ladder_step _ 2048 7256 [(64, 5136), (16, 2048), (8, 5200)] (l.val - 512 - 512 - 1024 - 1024 - 1024 - 256 - 256 - 512 - 2048) Iff.rfl (fun h => ?_) (fun h9 => ?_)
  · replace h : l.val - 512 - 512 - 1024 - 1024 - 1024 - 256 - 256 - 512 - 2048 < 2048 := h
    rw [row, dif_pos (show 7256 + (l.val - 512 - 512 - 1024 - 1024 - 1024 - 256 - 256 - 512 - 2048) < 9304 by omega)]
    refine congrArg X (funext fun a => ?_)
    fin_cases a
    · exact Fin.ext (Nat.zero_add k.val)
    · rfl
  replace h9 : ¬ l.val - 512 - 512 - 1024 - 1024 - 1024 - 256 - 256 - 512 - 2048 < 2048 := h9
  refine (concatenateAt_cons _ _ _ _ _ _ _ _).trans ?_
  refine ladder_step _ 64 5136 [(16, 2048), (8, 5200)] (l.val - 512 - 512 - 1024 - 1024 - 1024 - 256 - 256 - 512 - 2048 - 2048) Iff.rfl (fun h => ?_) (fun h10 => ?_)
  · replace h : l.val - 512 - 512 - 1024 - 1024 - 1024 - 256 - 256 - 512 - 2048 - 2048 < 64 := h
    rw [row, dif_pos (show 5136 + (l.val - 512 - 512 - 1024 - 1024 - 1024 - 256 - 256 - 512 - 2048 - 2048) < 9304 by omega)]
    refine congrArg X (funext fun a => ?_)
    fin_cases a
    · exact Fin.ext (Nat.zero_add k.val)
    · rfl
  replace h10 : ¬ l.val - 512 - 512 - 1024 - 1024 - 1024 - 256 - 256 - 512 - 2048 - 2048 < 64 := h10
  refine (concatenateAt_cons _ _ _ _ _ _ _ _).trans ?_
  refine ladder_step _ 16 2048 [(8, 5200)] (l.val - 512 - 512 - 1024 - 1024 - 1024 - 256 - 256 - 512 - 2048 - 2048 - 64) Iff.rfl (fun h => ?_) (fun h11 => ?_)
  · replace h : l.val - 512 - 512 - 1024 - 1024 - 1024 - 256 - 256 - 512 - 2048 - 2048 - 64 < 16 := h
    rw [row, dif_pos (show 2048 + (l.val - 512 - 512 - 1024 - 1024 - 1024 - 256 - 256 - 512 - 2048 - 2048 - 64) < 9304 by omega)]
    refine congrArg X (funext fun a => ?_)
    fin_cases a
    · exact Fin.ext (Nat.zero_add k.val)
    · rfl
  replace h11 : ¬ l.val - 512 - 512 - 1024 - 1024 - 1024 - 256 - 256 - 512 - 2048 - 2048 - 64 < 16 := h11
  refine (concatenateAt_cons _ _ _ _ _ _ _ _).trans ?_
  refine ladder_step _ 8 5200 [] (l.val - 512 - 512 - 1024 - 1024 - 1024 - 256 - 256 - 512 - 2048 - 2048 - 64 - 16) Iff.rfl (fun h => ?_) (fun h12 => ?_)
  · replace h : l.val - 512 - 512 - 1024 - 1024 - 1024 - 256 - 256 - 512 - 2048 - 2048 - 64 - 16 < 8 := h
    rw [row, dif_pos (show 5200 + (l.val - 512 - 512 - 1024 - 1024 - 1024 - 256 - 256 - 512 - 2048 - 2048 - 64 - 16) < 9304 by omega)]
    refine congrArg X (funext fun a => ?_)
    fin_cases a
    · exact Fin.ext (Nat.zero_add k.val)
    · rfl
  replace h12 : ¬ l.val - 512 - 512 - 1024 - 1024 - 1024 - 256 - 256 - 512 - 2048 - 2048 - 64 - 16 < 8 := h12
  refine (concatenateAt_singleton _ _ _ _ _ _).trans ?_
  exact hZ _

/-- The weights, as the host packs them. -/
theorem V_v15 (c : Dev nD) (k : Fin 2048) (l : Fin 9728) : V m c main_v15 (ix2 k l) = packed (fun q => m ((c : Thread nD τ).loc main_arg1) (ix2 k q)) l := by
  have e : (V m c main_v15 : S2048x9728.Idx → EReal) = concatenate S2048x9728 1 [⟨S2048x512, (extractStridedSlice S2048x512 ![0, 0] (m ((c : Thread nD τ).loc main_arg1) : S2048x9304.Idx → EReal) slices_S2048x9304_S2048x512_0_0 : S2048x512.Idx → EReal)⟩, ⟨S2048x512, (extractStridedSlice S2048x512 ![0, 512] (m ((c : Thread nD τ).loc main_arg1) : S2048x9304.Idx → EReal) slices_S2048x9304_S2048x512_0_512 : S2048x512.Idx → EReal)⟩, ⟨S2048x1024, (extractStridedSlice S2048x1024 ![0, 1024] (m ((c : Thread nD τ).loc main_arg1) : S2048x9304.Idx → EReal) slices_S2048x9304_S2048x1024_0_1024 : S2048x1024.Idx → EReal)⟩, ⟨S2048x1024, (extractStridedSlice S2048x1024 ![0, 2064] (m ((c : Thread nD τ).loc main_arg1) : S2048x9304.Idx → EReal) slices_S2048x9304_S2048x1024_0_2064 : S2048x1024.Idx → EReal)⟩, ⟨S2048x1024, (extractStridedSlice S2048x1024 ![0, 3088] (m ((c : Thread nD τ).loc main_arg1) : S2048x9304.Idx → EReal) slices_S2048x9304_S2048x1024_0_3088 : S2048x1024.Idx → EReal)⟩, ⟨S2048x256, (extractStridedSlice S2048x256 ![0, 4112] (m ((c : Thread nD τ).loc main_arg1) : S2048x9304.Idx → EReal) slices_S2048x9304_S2048x256_0_4112 : S2048x256.Idx → EReal)⟩, ⟨S2048x256, (extractStridedSlice S2048x256 ![0, 4368] (m ((c : Thread nD τ).loc main_arg1) : S2048x9304.Idx → EReal) slices_S2048x9304_S2048x256_0_4368 : S2048x256.Idx → EReal)⟩, ⟨S2048x512, (extractStridedSlice S2048x512 ![0, 4624] (m ((c : Thread nD τ).loc main_arg1) : S2048x9304.Idx → EReal) slices_S2048x9304_S2048x512_0_4624 : S2048x512.Idx → EReal)⟩, ⟨S2048x2048, (extractStridedSlice S2048x2048 ![0, 5208] (m ((c : Thread nD τ).loc main_arg1) : S2048x9304.Idx → EReal) slices_S2048x9304_S2048x2048_0_5208 : S2048x2048.Idx → EReal)⟩, ⟨S2048x2048, (extractStridedSlice S2048x2048 ![0, 7256] (m ((c : Thread nD τ).loc main_arg1) : S2048x9304.Idx → EReal) slices_S2048x9304_S2048x2048_0_7256 : S2048x2048.Idx → EReal)⟩, ⟨S2048x64, (extractStridedSlice S2048x64 ![0, 5136] (m ((c : Thread nD τ).loc main_arg1) : S2048x9304.Idx → EReal) slices_S2048x9304_S2048x64_0_5136 : S2048x64.Idx → EReal)⟩, ⟨S2048x16, (extractStridedSlice S2048x16 ![0, 2048] (m ((c : Thread nD τ).loc main_arg1) : S2048x9304.Idx → EReal) slices_S2048x9304_S2048x16_0_2048 : S2048x16.Idx → EReal)⟩, ⟨S2048x8, (extractStridedSlice S2048x8 ![0, 5200] (m ((c : Thread nD τ).loc main_arg1) : S2048x9304.Idx → EReal) slices_S2048x9304_S2048x8_0_5200 : S2048x8.Idx → EReal)⟩, ⟨S2048x424, (broadcastInDim S2048x424 ![] bcast_S_S2048x424 (constant (F := Ideal) S_ .f32 0x00000000#32) : S2048x424.Idx → EReal)⟩] concatenates_S2048x512_S2048x512_S2048x1024_S2048x1024_S2048x1024_S2048x256_S2048x256_S2048x512_S2048x2048_S2048x2048_S2048x64_S2048x16_S2048x8_S2048x424_S2048x9728_d1 := by
    show StableHlo.after _ _ _ = _
    unfold hostOps0
    after_results
    rfl
  rw [e]
  refine packed_at _ _ (fun y => ?_) k l
  show Ideal.ofBits .f32 0x00000000#32 = 0
  simp [Ideal.ofBits, Ideal.ieee]

theorem x_at (c : Dev nD) (t : Fin cfg0.N) (i : Fin 1536) (k : Fin 2048) (hr : 1536 * (t.val / 19) + i.val < 16896) :
    iblk m c 0 t (ix2 i k) = m ((c : Thread nD τ).loc main_arg0) (ix2 ⟨1536 * (t.val / 19) + i.val, hr⟩ k) := by
  have e : ((cfg0.win 0).blk t).view.emb (ix2 i k) = ix2 ⟨1536 * (t.val / 19) + i.val, hr⟩ k := by blk_ext [idx t]
  show V m c main_v0 (((cfg0.win 0).blk t).view.emb (ix2 i k)) = _
  rw [V_v0, e]

theorem w_at (c : Dev nD) (t : Fin cfg0.N) (k : Fin 2048) (j : Fin 512) :
    iblk m c 1 t (ix2 k j) = packed (fun q => m ((c : Thread nD τ).loc main_arg1) (ix2 k q)) ⟨512 * (t.val % 19) + j.val, by omega⟩ := by
  have e : ((cfg0.win 1).blk t).view.emb (ix2 k j) = ix2 k ⟨512 * (t.val % 19) + j.val, by omega⟩ := by blk_ext [idx t]
  show V m c main_v15 (((cfg0.win 1).blk t).view.emb (ix2 k j)) = _
  rw [e, V_v15]

/-- What a point computes, at an element of its block. -/
theorem pay_at (x : FVec Ideal S1536x2048 .bf16) (w : FVec Ideal S2048x512 .f32) (i : Fin 1536) (j : Fin 512) :
    k0_pay1 (F := Ideal) x w (ix2 i j) = (∑ k : Fin 2048, x (ix2 i k) * w (ix2 k j) : EReal) := by
  pointwise [k0_pay1]

theorem out_at (x : FVec Ideal S1536x2048 .bf16) (w : FVec Ideal S2048x512 .f32) (i : Fin 1536) (j : Fin 512) :
    out0_2 (F := Ideal) x w (ix2 i j) = (∑ k : Fin 2048, x (ix2 i k) * w (ix2 k j) : EReal) := by
  unfold out0_2
  rw [View.canon_unit_zero (by funext a; fin_cases a <;> rfl), View.ld_unit_zero (by funext a; fin_cases a <;> rfl), View.ld_unit_zero (by funext a; fin_cases a <;> rfl), pay_at]

/-- The kernel's result array. -/
theorem result (c : Dev nD) : (dats m 0 c).arrAt 2 cfg0.N = value (m ((c : Thread nD τ).loc main_arg0)) (m ((c : Thread nD τ).loc main_arg1)) := by
  funext y
  obtain ⟨r, l, rfl⟩ : ∃ (r : Fin 16896) (l : Fin 9728), y = ix2 r l := ⟨y 0, y 1, funext fun a => by fin_cases a <;> rfl⟩
  have hN : cfg0.N = 209 := N_0
  obtain ⟨t, ht⟩ : ∃ t : Fin cfg0.N, t.val = 19 * (r.val / 1536) + l.val / 512 := ⟨⟨19 * (r.val / 1536) + l.val / 512, by omega⟩, rfl⟩
  obtain ⟨i, hi⟩ : ∃ i : Fin 1536, i.val = r.val % 1536 := ⟨⟨r.val % 1536, by omega⟩, rfl⟩
  obtain ⟨j, hj⟩ : ∃ j : Fin 512, j.val = l.val % 512 := ⟨⟨l.val % 512, by omega⟩, rfl⟩
  have hr : 1536 * (t.val / 19) + i.val < 16896 := by omega
  have e1 : (⟨1536 * (t.val / 19) + i.val, hr⟩ : Fin 16896) = r := Fin.ext (by show 1536 * (t.val / 19) + i.val = r.val; omega)
  have e2 : (⟨512 * (t.val % 19) + j.val, by omega⟩ : Fin 9728) = l := Fin.ext (by show 512 * (t.val % 19) + j.val = l.val; omega)
  have key := congrFun (blocks2 m c t (flush0_2 t)) (ix2 i j)
  have e : ((cfg0.win 2).blk t).view.emb (ix2 i j) = ix2 r l := by
    rw [← e1, ← e2]
    blk_ext [idx t]
  have left : ((cfg0.win 2).blk t).view.read (Elt Ideal) ((dats m 0 c).arrAt 2 cfg0.N) (ix2 i j) = (dats m 0 c).arrAt 2 cfg0.N (ix2 r l) :=
    congrArg ((dats m 0 c).arrAt 2 cfg0.N) e
  rw [← left, key, flushed2]
  refine (out_at (iblk m c 0 t) (iblk m c 1 t) i j).trans ?_
  have hx : ∀ k, iblk m c 0 t (ix2 i k) = m ((c : Thread nD τ).loc main_arg0) (ix2 r k) := fun k => by rw [x_at m c t i k hr, e1]
  have hw : ∀ k, iblk m c 1 t (ix2 k j) = packed (fun q => m ((c : Thread nD τ).loc main_arg1) (ix2 k q)) l := fun k => by rw [w_at, e2]
  simp only [hx, hw]
  rfl

/-- The reference runs and leaves its arguments unchanged; it has no semaphore. -/
theorem reference_frame : Cert.quiescent_InProjReferenceIdeal := fun m ρ _ =>
  (θ_run Cert.InProjReferenceIdeal.defs _ _).mono
    (fun r h => ⟨fun c => (h c).2, Idealize.ShloMosaic.sem_eq_zero_of_no_sems (by decide) r.2⟩)
    (Cert.InProjReferenceIdeal.Value.run (F := Ideal) m ρ)

theorem claim : Cert.algebraic_InProjIdeal_InProjReferenceIdeal := by
  intro m ρ m' ρ' _ hargs
  refine ⟨fun c => value (m ((c : Thread nD τ).loc main_arg0)) (m ((c : Thread nD τ).loc main_arg1)), ?_, ?_⟩
  · exact (θ_run defs _ _).mono (fun r h c => ⟨(h c).1.trans (result m c), (h c).2⟩) (run_blocks m ρ)
  · refine (θ_run Cert.InProjReferenceIdeal.defs _ _).mono (fun r h c => ⟨(h c).1.trans ?_, (h c).2⟩)
      (Cert.InProjReferenceIdeal.Value.run (F := Ideal) m' ρ')
    unfold Cert.InProjReferenceIdeal.Value.res_main_v15
    rw [(hargs c).1, (hargs c).2]
    funext y
    obtain ⟨r, l, rfl⟩ : ∃ (r : Fin 16896) (l : Fin 9728), y = ix2 r l := ⟨y 0, y 1, funext fun a => by fin_cases a <;> rfl⟩
    refine Eq.trans ?_ (packed_sum (fun k => (m ((c : Thread nD τ).loc main_arg0) : S16896x2048.Idx → EReal) (ix2 r k)) (fun k q => (m ((c : Thread nD τ).loc main_arg1) : S2048x9304.Idx → EReal) (ix2 k q)) l).symm
    generalize hD : (Host.dotGeneral (F := Ideal) _ _ _ _) = X
    have hX : ∀ q : Fin 9304, X (ix2 r q) = dot (m ((c : Thread nD τ).loc main_arg0)) (m ((c : Thread nD τ).loc main_arg1)) r q := by
      intro q
      rw [← hD]
      pointwise [dot]
    clear hD
    refine Eq.trans ?_ (congrArg (fun f => packed f l) (funext hX))
    by_cases hl : l.val < 9304
    · rw [pad_apply, dif_pos (fun a => by fin_cases a <;> simp <;> omega)]
      refine Eq.trans (congrArg (concatenate _ _ _ _) (?_ : _ = (ix2 r ⟨l.val, hl⟩ : Cert.InProjReferenceIdeal.S16896x9304.Idx))) ?_
      · funext a
        fin_cases a
        · exact Fin.ext (by show (r.val - 0) / (0 + 1) = r.val; omega)
        · exact Fin.ext (by show (l.val - 0) / (0 + 1) = l.val; omega)
      refine (concatenate_apply _ _ _ _ _).trans ?_
      show concatenateAt _ _ _ _ _ l.val _ = ladder _ pieces l.val
      unfold pieces
      refine (concatenateAt_cons _ _ _ _ _ _ _ _).trans ?_
      refine ladder_step _ 512 0 [(512, 512), (1024, 1024), (1024, 2064), (1024, 3088), (256, 4112), (256, 4368), (512, 4624), (2048, 5208), (2048, 7256), (64, 5136), (16, 2048), (8, 5200)] (l.val) Iff.rfl (fun h => ?_) (fun h0 => ?_)
      · replace h : l.val < 512 := h
        rw [row, dif_pos (show 0 + (l.val) < 9304 by omega)]
        refine congrArg X (funext fun a => ?_)
        fin_cases a
        · exact Fin.ext (Nat.zero_add r.val)
        · rfl
      replace h0 : ¬ l.val < 512 := h0
      refine (concatenateAt_cons _ _ _ _ _ _ _ _).trans ?_
      refine ladder_step _ 512 512 [(1024, 1024), (1024, 2064), (1024, 3088), (256, 4112), (256, 4368), (512, 4624), (2048, 5208), (2048, 7256), (64, 5136), (16, 2048), (8, 5200)] (l.val - 512) Iff.rfl (fun h => ?_) (fun h1 => ?_)
      · replace h : l.val - 512 < 512 := h
        rw [row, dif_pos (show 512 + (l.val - 512) < 9304 by omega)]
        refine congrArg X (funext fun a => ?_)
        fin_cases a
        · exact Fin.ext (Nat.zero_add r.val)
        · rfl
      replace h1 : ¬ l.val - 512 < 512 := h1
      refine (concatenateAt_cons _ _ _ _ _ _ _ _).trans ?_
      refine ladder_step _ 1024 1024 [(1024, 2064), (1024, 3088), (256, 4112), (256, 4368), (512, 4624), (2048, 5208), (2048, 7256), (64, 5136), (16, 2048), (8, 5200)] (l.val - 512 - 512) Iff.rfl (fun h => ?_) (fun h2 => ?_)
      · replace h : l.val - 512 - 512 < 1024 := h
        rw [row, dif_pos (show 1024 + (l.val - 512 - 512) < 9304 by omega)]
        refine congrArg X (funext fun a => ?_)
        fin_cases a
        · exact Fin.ext (Nat.zero_add r.val)
        · rfl
      replace h2 : ¬ l.val - 512 - 512 < 1024 := h2
      refine (concatenateAt_cons _ _ _ _ _ _ _ _).trans ?_
      refine ladder_step _ 1024 2064 [(1024, 3088), (256, 4112), (256, 4368), (512, 4624), (2048, 5208), (2048, 7256), (64, 5136), (16, 2048), (8, 5200)] (l.val - 512 - 512 - 1024) Iff.rfl (fun h => ?_) (fun h3 => ?_)
      · replace h : l.val - 512 - 512 - 1024 < 1024 := h
        rw [row, dif_pos (show 2064 + (l.val - 512 - 512 - 1024) < 9304 by omega)]
        refine congrArg X (funext fun a => ?_)
        fin_cases a
        · exact Fin.ext (Nat.zero_add r.val)
        · rfl
      replace h3 : ¬ l.val - 512 - 512 - 1024 < 1024 := h3
      refine (concatenateAt_cons _ _ _ _ _ _ _ _).trans ?_
      refine ladder_step _ 1024 3088 [(256, 4112), (256, 4368), (512, 4624), (2048, 5208), (2048, 7256), (64, 5136), (16, 2048), (8, 5200)] (l.val - 512 - 512 - 1024 - 1024) Iff.rfl (fun h => ?_) (fun h4 => ?_)
      · replace h : l.val - 512 - 512 - 1024 - 1024 < 1024 := h
        rw [row, dif_pos (show 3088 + (l.val - 512 - 512 - 1024 - 1024) < 9304 by omega)]
        refine congrArg X (funext fun a => ?_)
        fin_cases a
        · exact Fin.ext (Nat.zero_add r.val)
        · rfl
      replace h4 : ¬ l.val - 512 - 512 - 1024 - 1024 < 1024 := h4
      refine (concatenateAt_cons _ _ _ _ _ _ _ _).trans ?_
      refine ladder_step _ 256 4112 [(256, 4368), (512, 4624), (2048, 5208), (2048, 7256), (64, 5136), (16, 2048), (8, 5200)] (l.val - 512 - 512 - 1024 - 1024 - 1024) Iff.rfl (fun h => ?_) (fun h5 => ?_)
      · replace h : l.val - 512 - 512 - 1024 - 1024 - 1024 < 256 := h
        rw [row, dif_pos (show 4112 + (l.val - 512 - 512 - 1024 - 1024 - 1024) < 9304 by omega)]
        refine congrArg X (funext fun a => ?_)
        fin_cases a
        · exact Fin.ext (Nat.zero_add r.val)
        · rfl
      replace h5 : ¬ l.val - 512 - 512 - 1024 - 1024 - 1024 < 256 := h5
      refine (concatenateAt_cons _ _ _ _ _ _ _ _).trans ?_
      refine ladder_step _ 256 4368 [(512, 4624), (2048, 5208), (2048, 7256), (64, 5136), (16, 2048), (8, 5200)] (l.val - 512 - 512 - 1024 - 1024 - 1024 - 256) Iff.rfl (fun h => ?_) (fun h6 => ?_)
      · replace h : l.val - 512 - 512 - 1024 - 1024 - 1024 - 256 < 256 := h
        rw [row, dif_pos (show 4368 + (l.val - 512 - 512 - 1024 - 1024 - 1024 - 256) < 9304 by omega)]
        refine congrArg X (funext fun a => ?_)
        fin_cases a
        · exact Fin.ext (Nat.zero_add r.val)
        · rfl
      replace h6 : ¬ l.val - 512 - 512 - 1024 - 1024 - 1024 - 256 < 256 := h6
      refine (concatenateAt_cons _ _ _ _ _ _ _ _).trans ?_
      refine ladder_step _ 512 4624 [(2048, 5208), (2048, 7256), (64, 5136), (16, 2048), (8, 5200)] (l.val - 512 - 512 - 1024 - 1024 - 1024 - 256 - 256) Iff.rfl (fun h => ?_) (fun h7 => ?_)
      · replace h : l.val - 512 - 512 - 1024 - 1024 - 1024 - 256 - 256 < 512 := h
        rw [row, dif_pos (show 4624 + (l.val - 512 - 512 - 1024 - 1024 - 1024 - 256 - 256) < 9304 by omega)]
        refine congrArg X (funext fun a => ?_)
        fin_cases a
        · exact Fin.ext (Nat.zero_add r.val)
        · rfl
      replace h7 : ¬ l.val - 512 - 512 - 1024 - 1024 - 1024 - 256 - 256 < 512 := h7
      refine (concatenateAt_cons _ _ _ _ _ _ _ _).trans ?_
      refine ladder_step _ 2048 5208 [(2048, 7256), (64, 5136), (16, 2048), (8, 5200)] (l.val - 512 - 512 - 1024 - 1024 - 1024 - 256 - 256 - 512) Iff.rfl (fun h => ?_) (fun h8 => ?_)
      · replace h : l.val - 512 - 512 - 1024 - 1024 - 1024 - 256 - 256 - 512 < 2048 := h
        rw [row, dif_pos (show 5208 + (l.val - 512 - 512 - 1024 - 1024 - 1024 - 256 - 256 - 512) < 9304 by omega)]
        refine congrArg X (funext fun a => ?_)
        fin_cases a
        · exact Fin.ext (Nat.zero_add r.val)
        · rfl
      replace h8 : ¬ l.val - 512 - 512 - 1024 - 1024 - 1024 - 256 - 256 - 512 < 2048 := h8
      refine (concatenateAt_cons _ _ _ _ _ _ _ _).trans ?_
      refine ladder_step _ 2048 7256 [(64, 5136), (16, 2048), (8, 5200)] (l.val - 512 - 512 - 1024 - 1024 - 1024 - 256 - 256 - 512 - 2048) Iff.rfl (fun h => ?_) (fun h9 => ?_)
      · replace h : l.val - 512 - 512 - 1024 - 1024 - 1024 - 256 - 256 - 512 - 2048 < 2048 := h
        rw [row, dif_pos (show 7256 + (l.val - 512 - 512 - 1024 - 1024 - 1024 - 256 - 256 - 512 - 2048) < 9304 by omega)]
        refine congrArg X (funext fun a => ?_)
        fin_cases a
        · exact Fin.ext (Nat.zero_add r.val)
        · rfl
      replace h9 : ¬ l.val - 512 - 512 - 1024 - 1024 - 1024 - 256 - 256 - 512 - 2048 < 2048 := h9
      refine (concatenateAt_cons _ _ _ _ _ _ _ _).trans ?_
      refine ladder_step _ 64 5136 [(16, 2048), (8, 5200)] (l.val - 512 - 512 - 1024 - 1024 - 1024 - 256 - 256 - 512 - 2048 - 2048) Iff.rfl (fun h => ?_) (fun h10 => ?_)
      · replace h : l.val - 512 - 512 - 1024 - 1024 - 1024 - 256 - 256 - 512 - 2048 - 2048 < 64 := h
        rw [row, dif_pos (show 5136 + (l.val - 512 - 512 - 1024 - 1024 - 1024 - 256 - 256 - 512 - 2048 - 2048) < 9304 by omega)]
        refine congrArg X (funext fun a => ?_)
        fin_cases a
        · exact Fin.ext (Nat.zero_add r.val)
        · rfl
      replace h10 : ¬ l.val - 512 - 512 - 1024 - 1024 - 1024 - 256 - 256 - 512 - 2048 - 2048 < 64 := h10
      refine (concatenateAt_cons _ _ _ _ _ _ _ _).trans ?_
      refine ladder_step _ 16 2048 [(8, 5200)] (l.val - 512 - 512 - 1024 - 1024 - 1024 - 256 - 256 - 512 - 2048 - 2048 - 64) Iff.rfl (fun h => ?_) (fun h11 => ?_)
      · replace h : l.val - 512 - 512 - 1024 - 1024 - 1024 - 256 - 256 - 512 - 2048 - 2048 - 64 < 16 := h
        rw [row, dif_pos (show 2048 + (l.val - 512 - 512 - 1024 - 1024 - 1024 - 256 - 256 - 512 - 2048 - 2048 - 64) < 9304 by omega)]
        refine congrArg X (funext fun a => ?_)
        fin_cases a
        · exact Fin.ext (Nat.zero_add r.val)
        · rfl
      replace h11 : ¬ l.val - 512 - 512 - 1024 - 1024 - 1024 - 256 - 256 - 512 - 2048 - 2048 - 64 < 16 := h11
      refine (concatenateAt_singleton _ _ _ _ _ _).trans ?_
      refine Eq.trans ?_ (if_pos (show l.val - 512 - 512 - 1024 - 1024 - 1024 - 256 - 256 - 512 - 2048 - 2048 - 64 - 16 < 8 by omega)).symm
      rw [row, dif_pos (show 5200 + (l.val - 512 - 512 - 1024 - 1024 - 1024 - 256 - 256 - 512 - 2048 - 2048 - 64 - 16) < 9304 by omega)]
      refine congrArg X (funext fun a => ?_)
      fin_cases a
      · exact Fin.ext (Nat.zero_add r.val)
      · rfl
    · rw [pad_apply, dif_neg (fun h => by have := (h 1).2.2; simp at this; omega)]
      have z : packed (fun x => X (ix2 r x)) l = 0 := by
        unfold packed pieces
        simp only [ladder]
        repeat rw [if_neg (by omega)]
      refine Eq.trans ?_ z.symm
      show (((((0#32 : BitVec 32).toInt : ℤ) : ℝ)) : EReal) = 0
      simp

end InProj

end
-- ==== Proof.MergeValue.lean ====
/- The merge of the layer's two attention branches: each branch's output projected and gated, and the two added. -/
module

public import proofs.«01_k».proof.Defs
public import proofs.«01_k».proof.Proof.Gen.MergeIdeal.Value
public import proofs.«01_k».proof.Proof.Gen.MergeReferenceIdeal.Run
public import Idealize.ShloMosaic.Lib.Pointwise
public import Idealize.ShloMosaic.Lib.Pipeline.ValueKit
public import Idealize.ShloMosaic.Adequacy
public import Idealize.ShloMosaic.Init

@[expose] public section

noncomputable section

namespace Merge

open Idealize.ShloMosaic Idealize.ShloMosaic.TcCoe Idealize.SL.Sem Cert.MergeIdeal Cert.MergeIdeal.Gen Cert.MergeIdeal.Value

/-- A row of each branch times a column of its weights, gated by the logistic of its gate column, and the two added. -/
def value (a b : S16896x1024.Idx → EReal) (wa wb : S1024x2048.Idx → EReal) (p : S16896x9728.Idx → EReal) : S16896x2048.Idx → EReal :=
  fun y => Ideal.logistic (p (ix2 ⟨(y 0).val, (y 0).isLt⟩ ⟨5120 + (y 1).val, by have := (y 1).isLt; change (y 1).val < 2048 at this; omega⟩))
      * (∑ k : Fin 1024, a (ix2 ⟨(y 0).val, (y 0).isLt⟩ k) * wa (ix2 k ⟨(y 1).val, (y 1).isLt⟩))
    + Ideal.logistic (p (ix2 ⟨(y 0).val, (y 0).isLt⟩ ⟨7168 + (y 1).val, by have := (y 1).isLt; change (y 1).val < 2048 at this; omega⟩))
      * ∑ k : Fin 1024, b (ix2 ⟨(y 0).val, (y 0).isLt⟩ k) * wb (ix2 k ⟨(y 1).val, (y 1).isLt⟩)

variable (m : (ℓ : Loc nD τ sig) → Buf (Elt Ideal) ℓ)

/-- The block every window names at a point. -/
theorem idx : ∀ t : Fin cfg0.N, win0_0.index t = ![t.val / 4, 0] ∧ win0_1.index t = ![t.val / 4, 0] ∧ win0_2.index t = ![0, t.val % 4]
    ∧ win0_3.index t = ![0, t.val % 4] ∧ win0_4.index t = ![t.val / 4, 10 + t.val % 4] ∧ win0_5.index t = ![t.val / 4, 14 + t.val % 4]
    ∧ win0_6.index t = ![t.val / 4, t.val % 4] :=
  (by decide +kernel : ∀ t : Fin grid0.N, _)

theorem V_v0 (c : Dev nD) : V m c main_v0 = (m ((c : Thread nD τ).loc main_arg0) : S16896x1024.Idx → EReal) := by
  show StableHlo.after _ _ _ = _
  unfold hostOps0
  after_results
  rfl

theorem V_v1 (c : Dev nD) : V m c main_v1 = (m ((c : Thread nD τ).loc main_arg1) : S16896x1024.Idx → EReal) := by
  show StableHlo.after _ _ _ = _
  unfold hostOps0
  after_results
  rfl

theorem a_at (c : Dev nD) (t : Fin cfg0.N) (i : Fin 1536) (k : Fin 1024) (hr : 1536 * (t.val / 4) + i.val < 16896) :
    iblk m c 0 t (ix2 i k) = m ((c : Thread nD τ).loc main_arg0) (ix2 ⟨1536 * (t.val / 4) + i.val, hr⟩ k) := by
  have e : ((cfg0.win 0).blk t).view.emb (ix2 i k) = ix2 ⟨1536 * (t.val / 4) + i.val, hr⟩ k := by blk_ext [idx t]
  show V m c main_v0 (((cfg0.win 0).blk t).view.emb (ix2 i k)) = _
  rw [V_v0, e]

theorem b_at (c : Dev nD) (t : Fin cfg0.N) (i : Fin 1536) (k : Fin 1024) (hr : 1536 * (t.val / 4) + i.val < 16896) :
    iblk m c 1 t (ix2 i k) = m ((c : Thread nD τ).loc main_arg1) (ix2 ⟨1536 * (t.val / 4) + i.val, hr⟩ k) := by
  have e : ((cfg0.win 1).blk t).view.emb (ix2 i k) = ix2 ⟨1536 * (t.val / 4) + i.val, hr⟩ k := by blk_ext [idx t]
  show V m c main_v1 (((cfg0.win 1).blk t).view.emb (ix2 i k)) = _
  rw [V_v1, e]

theorem wa_at (c : Dev nD) (t : Fin cfg0.N) (k : Fin 1024) (j : Fin 512) :
    iblk m c 2 t (ix2 k j) = m ((c : Thread nD τ).loc main_arg2) (ix2 k ⟨512 * (t.val % 4) + j.val, by omega⟩) := by
  blk_ext [iblk, V, idx t]

theorem wb_at (c : Dev nD) (t : Fin cfg0.N) (k : Fin 1024) (j : Fin 512) :
    iblk m c 3 t (ix2 k j) = m ((c : Thread nD τ).loc main_arg3) (ix2 k ⟨512 * (t.val % 4) + j.val, by omega⟩) := by
  blk_ext [iblk, V, idx t]

theorem p_at (c : Dev nD) (t : Fin cfg0.N) (i : Fin 1536) (j : Fin 512) (hr : 1536 * (t.val / 4) + i.val < 16896) :
    iblk m c 4 t (ix2 i j) = m ((c : Thread nD τ).loc main_arg4) (ix2 ⟨1536 * (t.val / 4) + i.val, hr⟩ ⟨5120 + (512 * (t.val % 4) + j.val), by omega⟩) := by
  blk_ext [iblk, V, idx t]

theorem q_at (c : Dev nD) (t : Fin cfg0.N) (i : Fin 1536) (j : Fin 512) (hr : 1536 * (t.val / 4) + i.val < 16896) :
    iblk m c 5 t (ix2 i j) = m ((c : Thread nD τ).loc main_arg4) (ix2 ⟨1536 * (t.val / 4) + i.val, hr⟩ ⟨7168 + (512 * (t.val % 4) + j.val), by omega⟩) := by
  blk_ext [iblk, V, idx t]

/-- What a point computes, at an element of its block. -/
theorem pay_at (a b : FVec Ideal S1536x1024 .bf16) (wa wb : FVec Ideal S1024x512 .f32) (p q : FVec Ideal S1536x512 .f32) (i : Fin 1536) (j : Fin 512) :
    k0_pay1 (F := Ideal) a wa b wb p q (ix2 i j) = (Ideal.logistic (p (ix2 i j)) * (∑ k : Fin 1024, a (ix2 i k) * wa (ix2 k j))
      + Ideal.logistic (q (ix2 i j)) * ∑ k : Fin 1024, b (ix2 i k) * wb (ix2 k j) : EReal) := by
  pointwise [k0_pay1]

theorem out_at (a b : FVec Ideal S1536x1024 .bf16) (wa wb : FVec Ideal S1024x512 .f32) (p q : FVec Ideal S1536x512 .f32) (i : Fin 1536) (j : Fin 512) :
    out0_6 (F := Ideal) a b wa wb p q (ix2 i j) = (Ideal.logistic (p (ix2 i j)) * (∑ k : Fin 1024, a (ix2 i k) * wa (ix2 k j))
      + Ideal.logistic (q (ix2 i j)) * ∑ k : Fin 1024, b (ix2 i k) * wb (ix2 k j) : EReal) := by
  unfold out0_6
  rw [View.canon_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl), pay_at]

/-- The kernel's result array. -/
theorem result (c : Dev nD) : (dats m 0 c).arrAt 6 cfg0.N = value (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨r, l, rfl⟩ : ∃ (r : Fin 16896) (l : Fin 2048), y = ix2 r l := ⟨y 0, y 1, funext fun a => by fin_cases a <;> rfl⟩
  have hN : cfg0.N = 44 := N_0
  obtain ⟨t, ht⟩ : ∃ t : Fin cfg0.N, t.val = 4 * (r.val / 1536) + l.val / 512 := ⟨⟨4 * (r.val / 1536) + l.val / 512, by omega⟩, rfl⟩
  obtain ⟨i, hi⟩ : ∃ i : Fin 1536, i.val = r.val % 1536 := ⟨⟨r.val % 1536, by omega⟩, rfl⟩
  obtain ⟨j, hj⟩ : ∃ j : Fin 512, j.val = l.val % 512 := ⟨⟨l.val % 512, by omega⟩, rfl⟩
  have hr : 1536 * (t.val / 4) + i.val < 16896 := by omega
  have e1 : (⟨1536 * (t.val / 4) + i.val, hr⟩ : Fin 16896) = r := Fin.ext (by show 1536 * (t.val / 4) + i.val = r.val; omega)
  have e2 : (⟨512 * (t.val % 4) + j.val, by omega⟩ : Fin 2048) = l := Fin.ext (by show 512 * (t.val % 4) + j.val = l.val; omega)
  have e3 : (⟨5120 + (512 * (t.val % 4) + j.val), by omega⟩ : Fin 9728) = ⟨5120 + l.val, by omega⟩ := Fin.ext (by show 5120 + (512 * (t.val % 4) + j.val) = 5120 + l.val; omega)
  have e4 : (⟨7168 + (512 * (t.val % 4) + j.val), by omega⟩ : Fin 9728) = ⟨7168 + l.val, by omega⟩ := Fin.ext (by show 7168 + (512 * (t.val % 4) + j.val) = 7168 + l.val; omega)
  have key := congrFun (blocks6 m c t (flush0_6 t)) (ix2 i j)
  have e : ((cfg0.win 6).blk t).view.emb (ix2 i j) = ix2 r l := by
    rw [← e1, ← e2]
    blk_ext [idx t]
  have left : ((cfg0.win 6).blk t).view.read (Elt Ideal) ((dats m 0 c).arrAt 6 cfg0.N) (ix2 i j) = (dats m 0 c).arrAt 6 cfg0.N (ix2 r l) :=
    congrArg ((dats m 0 c).arrAt 6 cfg0.N) e
  rw [← left, key, flushed6]
  refine (out_at (iblk m c 0 t) (iblk m c 1 t) (iblk m c 2 t) (iblk m c 3 t) (iblk m c 4 t) (iblk m c 5 t) i j).trans ?_
  rw [p_at m c t i j hr, q_at m c t i j hr, e1, e3, e4]
  have ha : ∀ k, iblk m c 0 t (ix2 i k) = m ((c : Thread nD τ).loc main_arg0) (ix2 r k) := fun k => by rw [a_at m c t i k hr, e1]
  have hb : ∀ k, iblk m c 1 t (ix2 i k) = m ((c : Thread nD τ).loc main_arg1) (ix2 r k) := fun k => by rw [b_at m c t i k hr, e1]
  have hwa : ∀ k, iblk m c 2 t (ix2 k j) = m ((c : Thread nD τ).loc main_arg2) (ix2 k l) := fun k => by rw [wa_at, e2]
  have hwb : ∀ k, iblk m c 3 t (ix2 k j) = m ((c : Thread nD τ).loc main_arg3) (ix2 k l) := fun k => by rw [wb_at, e2]
  simp only [ha, hb, hwa, hwb]
  rfl

/-- The reference runs and leaves its arguments unchanged; it has no semaphore. -/
theorem reference_frame : Cert.quiescent_MergeReferenceIdeal := fun m ρ _ =>
  (θ_run Cert.MergeReferenceIdeal.defs _ _).mono
    (fun r h => ⟨fun c => (h c).2, Idealize.ShloMosaic.sem_eq_zero_of_no_sems (by decide) r.2⟩)
    (Cert.MergeReferenceIdeal.Value.run (F := Ideal) m ρ)

theorem claim : Cert.algebraic_MergeIdeal_MergeReferenceIdeal := by
  intro m ρ m' ρ' _ hargs
  refine ⟨fun c => value (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run defs _ _).mono (fun r h c => ⟨(h c).1.trans (result m c), (h c).2⟩) (run_blocks m ρ)
  · refine (θ_run Cert.MergeReferenceIdeal.defs _ _).mono (fun r h c => ⟨(h c).1.trans ?_, (h c).2⟩)
      (Cert.MergeReferenceIdeal.Value.run (F := Ideal) m' ρ')
    rw [(hargs c).1, (hargs c).2.1, (hargs c).2.2.1, (hargs c).2.2.2.1, (hargs c).2.2.2.2]
    funext y
    obtain ⟨r, l, rfl⟩ : ∃ (r : Fin 16896) (l : Fin 2048), y = ix2 r l := ⟨y 0, y 1, funext fun a => by fin_cases a <;> rfl⟩
    pointwise [value]
    rfl

end Merge

end
-- ==== Proof.OutProjValue.lean ====
/- The layer's output projection with its residual: the kernel's result is the reference's, over the extended reals. -/
module

public import proofs.«01_k».proof.Defs
public import proofs.«01_k».proof.Proof.Gen.OutProjIdeal.Value
public import proofs.«01_k».proof.Proof.Gen.OutProjReferenceIdeal.Run
public import Idealize.ShloMosaic.Lib.Pointwise
public import Idealize.ShloMosaic.Lib.Pipeline.ValueKit
public import Idealize.ShloMosaic.Adequacy
public import Idealize.ShloMosaic.Init

@[expose] public section

noncomputable section

namespace OutProj

open Idealize.ShloMosaic Idealize.ShloMosaic.TcCoe Idealize.SL.Sem Cert.OutProjIdeal Cert.OutProjIdeal.Gen Cert.OutProjIdeal.Value

/-- The residual plus a row of the activations times a column of the weights. -/
def value (x : S16896x2048.Idx → EReal) (w : S2048x2048.Idx → EReal) (h : S16896x2048.Idx → EReal) : S16896x2048.Idx → EReal :=
  fun y => h y + ∑ k : Fin 2048, x (ix2 ⟨(y 0).val, (y 0).isLt⟩ k) * w (ix2 k ⟨(y 1).val, (y 1).isLt⟩)

variable (m : (ℓ : Loc nD τ sig) → Buf (Elt Ideal) ℓ)

/-- The block every window names at a point. -/
theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

/-- The activations, as the host hands them over. -/
theorem V_v0 (c : Dev nD) : V m c main_v0 = (m ((c : Thread nD τ).loc main_arg0) : S16896x2048.Idx → EReal) := by
  show StableHlo.after _ _ _ = _
  unfold hostOps0
  after_results
  rfl

theorem x_at (c : Dev nD) (t : Fin cfg0.N) (i : Fin 1536) (k : Fin 2048) (hr : 1536 * (t.val / 4) + i.val < 16896) :
    iblk m c 0 t (ix2 i k) = m ((c : Thread nD τ).loc main_arg0) (ix2 ⟨1536 * (t.val / 4) + i.val, hr⟩ k) := by
  have e : ((cfg0.win 0).blk t).view.emb (ix2 i k) = ix2 ⟨1536 * (t.val / 4) + i.val, hr⟩ k := by blk_ext [idx t]
  show V m c main_v0 (((cfg0.win 0).blk t).view.emb (ix2 i k)) = _
  rw [V_v0, e]

theorem w_at (c : Dev nD) (t : Fin cfg0.N) (k : Fin 2048) (j : Fin 512) :
    iblk m c 1 t (ix2 k j) = m ((c : Thread nD τ).loc main_arg1) (ix2 k ⟨512 * (t.val % 4) + j.val, by omega⟩) := by
  blk_ext [iblk, V, idx t]

theorem h_at (c : Dev nD) (t : Fin cfg0.N) (i : Fin 1536) (j : Fin 512) (hr : 1536 * (t.val / 4) + i.val < 16896) :
    iblk m c 2 t (ix2 i j) = m ((c : Thread nD τ).loc main_arg2) (ix2 ⟨1536 * (t.val / 4) + i.val, hr⟩ ⟨512 * (t.val % 4) + j.val, by omega⟩) := by
  blk_ext [iblk, V, idx t]

/-- What a point computes, at an element of its block. -/
theorem pay_at (h : FVec Ideal S1536x512 .f32) (x : FVec Ideal S1536x2048 .bf16) (w : FVec Ideal S2048x512 .f32) (i : Fin 1536) (j : Fin 512) :
    k0_pay1 (F := Ideal) h x w (ix2 i j) = (h (ix2 i j) + ∑ k : Fin 2048, x (ix2 i k) * w (ix2 k j) : EReal) := by
  pointwise [k0_pay1]

theorem out_at (h : FVec Ideal S1536x512 .f32) (x : FVec Ideal S1536x2048 .bf16) (w : FVec Ideal S2048x512 .f32) (i : Fin 1536) (j : Fin 512) :
    out0_3 (F := Ideal) x w h (ix2 i j) = (h (ix2 i j) + ∑ k : Fin 2048, x (ix2 i k) * w (ix2 k j) : EReal) := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl), pay_at]

/-- The kernel's result array. -/
theorem result (c : Dev nD) : (dats m 0 c).arrAt 3 cfg0.N = value (m ((c : Thread nD τ).loc main_arg0))
    (m ((c : Thread nD τ).loc main_arg1)) (m ((c : Thread nD τ).loc main_arg2)) := by
  funext y
  obtain ⟨r, l, rfl⟩ : ∃ (r : Fin 16896) (l : Fin 2048), y = ix2 r l := ⟨y 0, y 1, funext fun a => by fin_cases a <;> rfl⟩
  have hN : cfg0.N = 44 := N_0
  obtain ⟨t, ht⟩ : ∃ t : Fin cfg0.N, t.val = 4 * (r.val / 1536) + l.val / 512 := ⟨⟨4 * (r.val / 1536) + l.val / 512, by omega⟩, rfl⟩
  obtain ⟨i, hi⟩ : ∃ i : Fin 1536, i.val = r.val % 1536 := ⟨⟨r.val % 1536, by omega⟩, rfl⟩
  obtain ⟨j, hj⟩ : ∃ j : Fin 512, j.val = l.val % 512 := ⟨⟨l.val % 512, by omega⟩, rfl⟩
  have hr : 1536 * (t.val / 4) + i.val < 16896 := by omega
  have e1 : (⟨1536 * (t.val / 4) + i.val, hr⟩ : Fin 16896) = r := Fin.ext (by show 1536 * (t.val / 4) + i.val = r.val; omega)
  have e2 : (⟨512 * (t.val % 4) + j.val, by omega⟩ : Fin 2048) = l := Fin.ext (by show 512 * (t.val % 4) + j.val = l.val; omega)
  have key := congrFun (blocks3 m c t (flush0_3 t)) (ix2 i j)
  have e : ((cfg0.win 3).blk t).view.emb (ix2 i j) = ix2 r l := by
    rw [← e1, ← e2]
    blk_ext [idx t]
  have left : ((cfg0.win 3).blk t).view.read (Elt Ideal) ((dats m 0 c).arrAt 3 cfg0.N) (ix2 i j) = (dats m 0 c).arrAt 3 cfg0.N (ix2 r l) :=
    congrArg ((dats m 0 c).arrAt 3 cfg0.N) e
  rw [← left, key, flushed3]
  refine (out_at (iblk m c 2 t) (iblk m c 0 t) (iblk m c 1 t) i j).trans ?_
  rw [h_at m c t i j hr, e1, e2]
  have hx : ∀ k, iblk m c 0 t (ix2 i k) = m ((c : Thread nD τ).loc main_arg0) (ix2 r k) := fun k => by rw [x_at m c t i k hr, e1]
  have hw : ∀ k, iblk m c 1 t (ix2 k j) = m ((c : Thread nD τ).loc main_arg1) (ix2 k l) := fun k => by rw [w_at, e2]
  simp only [hx, hw]
  rfl

/-- The reference runs and leaves its arguments unchanged; it has no semaphore. -/
theorem reference_frame : Cert.quiescent_OutProjReferenceIdeal := fun m ρ _ =>
  (θ_run Cert.OutProjReferenceIdeal.defs _ _).mono
    (fun r h => ⟨fun c => (h c).2, Idealize.ShloMosaic.sem_eq_zero_of_no_sems (by decide) r.2⟩)
    (Cert.OutProjReferenceIdeal.Value.run (F := Ideal) m ρ)

theorem claim : Cert.algebraic_OutProjIdeal_OutProjReferenceIdeal := by
  intro m ρ m' ρ' _ hargs
  refine ⟨fun c => value (m ((c : Thread nD τ).loc main_arg0)) (m ((c : Thread nD τ).loc main_arg1)) (m ((c : Thread nD τ).loc main_arg2)), ?_, ?_⟩
  · exact (θ_run defs _ _).mono (fun r h c => ⟨(h c).1.trans (result m c), (h c).2⟩) (run_blocks m ρ)
  · refine (θ_run Cert.OutProjReferenceIdeal.defs _ _).mono (fun r h c => ⟨(h c).1.trans ?_, (h c).2⟩)
      (Cert.OutProjReferenceIdeal.Value.run (F := Ideal) m' ρ')
    rw [(hargs c).1, (hargs c).2.1, (hargs c).2.2]
    funext y
    obtain ⟨r, l, rfl⟩ : ∃ (r : Fin 16896) (l : Fin 2048), y = ix2 r l := ⟨y 0, y 1, funext fun a => by fin_cases a <;> rfl⟩
    pointwise [value]

end OutProj

end
-- ==== Proof.SwigluValue.lean ====
/- The dense feed-forward network's gated first products: the kernel's result is the reference's, over the extended reals. -/
module

public import proofs.«01_k».proof.Defs
public import proofs.«01_k».proof.Proof.Gen.SwigluIdeal.Value
public import proofs.«01_k».proof.Proof.Gen.SwigluReferenceIdeal.Run
public import Idealize.ShloMosaic.Lib.Pointwise
public import Idealize.ShloMosaic.Lib.Pipeline.ValueKit
public import Idealize.ShloMosaic.Adequacy
public import Idealize.ShloMosaic.Init

@[expose] public section

noncomputable section

namespace Swiglu

open Idealize.ShloMosaic Idealize.ShloMosaic.TcCoe Idealize.SL.Sem Cert.SwigluIdeal Cert.SwigluIdeal.Gen Cert.SwigluIdeal.Value

/-- A row of the activations times a column of each weight array, the first product through its logistic gate. -/
def value (x : S16896x2048.Idx → EReal) (wg wu : S2048x5632.Idx → EReal) : S16896x5632.Idx → EReal :=
  fun y => (∑ k : Fin 2048, x (ix2 ⟨(y 0).val, (y 0).isLt⟩ k) * wg (ix2 k ⟨(y 1).val, (y 1).isLt⟩))
    * Ideal.logistic (∑ k : Fin 2048, x (ix2 ⟨(y 0).val, (y 0).isLt⟩ k) * wg (ix2 k ⟨(y 1).val, (y 1).isLt⟩))
    * ∑ k : Fin 2048, x (ix2 ⟨(y 0).val, (y 0).isLt⟩ k) * wu (ix2 k ⟨(y 1).val, (y 1).isLt⟩)

variable (m : (ℓ : Loc nD τ sig) → Buf (Elt Ideal) ℓ)

/-- The block every window names at a point. -/
theorem idx : ∀ t : Fin cfg0.N, win0_0.index t = ![t.val / 22, 0] ∧ win0_1.index t = ![0, t.val % 22] ∧ win0_2.index t = ![0, t.val % 22]
    ∧ win0_3.index t = ![t.val / 22, t.val % 22] :=
  (by decide +kernel : ∀ t : Fin grid0.N, _)

/-- The activations, as the host hands them over. -/
theorem V_v0 (c : Dev nD) : V m c main_v0 = (m ((c : Thread nD τ).loc main_arg0) : S16896x2048.Idx → EReal) := by
  show StableHlo.after _ _ _ = _
  unfold hostOps0
  after_results
  rfl

theorem x_at (c : Dev nD) (t : Fin cfg0.N) (i : Fin 1536) (k : Fin 2048) (hr : 1536 * (t.val / 22) + i.val < 16896) :
    iblk m c 0 t (ix2 i k) = m ((c : Thread nD τ).loc main_arg0) (ix2 ⟨1536 * (t.val / 22) + i.val, hr⟩ k) := by
  have e : ((cfg0.win 0).blk t).view.emb (ix2 i k) = ix2 ⟨1536 * (t.val / 22) + i.val, hr⟩ k := by blk_ext [idx t]
  show V m c main_v0 (((cfg0.win 0).blk t).view.emb (ix2 i k)) = _
  rw [V_v0, e]

theorem g_at (c : Dev nD) (t : Fin cfg0.N) (k : Fin 2048) (j : Fin 256) :
    iblk m c 1 t (ix2 k j) = m ((c : Thread nD τ).loc main_arg1) (ix2 k ⟨256 * (t.val % 22) + j.val, by omega⟩) := by
  blk_ext [iblk, V, idx t]

theorem u_at (c : Dev nD) (t : Fin cfg0.N) (k : Fin 2048) (j : Fin 256) :
    iblk m c 2 t (ix2 k j) = m ((c : Thread nD τ).loc main_arg2) (ix2 k ⟨256 * (t.val % 22) + j.val, by omega⟩) := by
  blk_ext [iblk, V, idx t]

/-- What a point computes, at an element of its block. -/
theorem pay_at (x : FVec Ideal S1536x2048 .bf16) (g u : FVec Ideal S2048x256 .f32) (i : Fin 1536) (j : Fin 256) :
    k0_pay1 (F := Ideal) x g u (ix2 i j) = ((∑ k : Fin 2048, x (ix2 i k) * g (ix2 k j)) * Ideal.logistic (∑ k : Fin 2048, x (ix2 i k) * g (ix2 k j))
      * ∑ k : Fin 2048, x (ix2 i k) * u (ix2 k j) : EReal) := by
  pointwise [k0_pay1]

theorem out_at (x : FVec Ideal S1536x2048 .bf16) (g u : FVec Ideal S2048x256 .f32) (i : Fin 1536) (j : Fin 256) :
    out0_3 (F := Ideal) x g u (ix2 i j) = ((∑ k : Fin 2048, x (ix2 i k) * g (ix2 k j)) * Ideal.logistic (∑ k : Fin 2048, x (ix2 i k) * g (ix2 k j))
      * ∑ k : Fin 2048, x (ix2 i k) * u (ix2 k j) : EReal) := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl), pay_at]

/-- Two points write two blocks, so a block of the final array is what its point wrote. -/
theorem blocks3 (c : Dev nD) (t : Fin cfg0.N) (hf : (cfg0.win 3).flush t = true) :
    ((cfg0.win 3).blk t).view.read (Elt Ideal) ((dats m 0 c).arrAt 3 cfg0.N) = (dats m 0 c).flushed 3 t :=
  (dats m 0 c).read_blk_arrAt_eq_flushed 3 (fun t t' _ _ hne => (cfg0.win 3).disjoint_blk fun h => hne (by
    have h1 : win0_3.index t = win0_3.index t' := h
    rw [(idx t).2.2.2, (idx t').2.2.2] at h1
    have a : t.val / 22 = t'.val / 22 := congrFun h1 0
    have b : t.val % 22 = t'.val % 22 := congrFun h1 1
    exact Fin.ext (by omega))) cfg0.N t t.isLt hf

/-- The kernel's result array. -/
theorem result (c : Dev nD) : (dats m 0 c).arrAt 3 cfg0.N = value (m ((c : Thread nD τ).loc main_arg0))
    (m ((c : Thread nD τ).loc main_arg1)) (m ((c : Thread nD τ).loc main_arg2)) := by
  funext y
  obtain ⟨r, l, rfl⟩ : ∃ (r : Fin 16896) (l : Fin 5632), y = ix2 r l := ⟨y 0, y 1, funext fun a => by fin_cases a <;> rfl⟩
  have hN : cfg0.N = 242 := N_0
  obtain ⟨t, ht⟩ : ∃ t : Fin cfg0.N, t.val = 22 * (r.val / 1536) + l.val / 256 := ⟨⟨22 * (r.val / 1536) + l.val / 256, by omega⟩, rfl⟩
  obtain ⟨i, hi⟩ : ∃ i : Fin 1536, i.val = r.val % 1536 := ⟨⟨r.val % 1536, by omega⟩, rfl⟩
  obtain ⟨j, hj⟩ : ∃ j : Fin 256, j.val = l.val % 256 := ⟨⟨l.val % 256, by omega⟩, rfl⟩
  have hr : 1536 * (t.val / 22) + i.val < 16896 := by omega
  have e1 : (⟨1536 * (t.val / 22) + i.val, hr⟩ : Fin 16896) = r := Fin.ext (by show 1536 * (t.val / 22) + i.val = r.val; omega)
  have e2 : (⟨256 * (t.val % 22) + j.val, by omega⟩ : Fin 5632) = l := Fin.ext (by show 256 * (t.val % 22) + j.val = l.val; omega)
  have key := congrFun (blocks3 m c t (flush0_3 t)) (ix2 i j)
  have e : ((cfg0.win 3).blk t).view.emb (ix2 i j) = ix2 r l := by
    rw [← e1, ← e2]
    blk_ext [idx t]
  have left : ((cfg0.win 3).blk t).view.read (Elt Ideal) ((dats m 0 c).arrAt 3 cfg0.N) (ix2 i j) = (dats m 0 c).arrAt 3 cfg0.N (ix2 r l) :=
    congrArg ((dats m 0 c).arrAt 3 cfg0.N) e
  rw [← left, key, flushed3]
  refine (out_at (iblk m c 0 t) (iblk m c 1 t) (iblk m c 2 t) i j).trans ?_
  have hx : ∀ k, iblk m c 0 t (ix2 i k) = m ((c : Thread nD τ).loc main_arg0) (ix2 r k) := fun k => by rw [x_at m c t i k hr, e1]
  have hg : ∀ k, iblk m c 1 t (ix2 k j) = m ((c : Thread nD τ).loc main_arg1) (ix2 k l) := fun k => by rw [g_at, e2]
  have hu : ∀ k, iblk m c 2 t (ix2 k j) = m ((c : Thread nD τ).loc main_arg2) (ix2 k l) := fun k => by rw [u_at, e2]
  simp only [hx, hg, hu]
  rfl

/-- The reference runs and leaves its arguments unchanged; it has no semaphore. -/
theorem reference_frame : Cert.quiescent_SwigluReferenceIdeal := fun m ρ _ =>
  (θ_run Cert.SwigluReferenceIdeal.defs _ _).mono
    (fun r h => ⟨fun c => (h c).2, Idealize.ShloMosaic.sem_eq_zero_of_no_sems (by decide) r.2⟩)
    (Cert.SwigluReferenceIdeal.Value.run (F := Ideal) m ρ)

theorem claim : Cert.algebraic_SwigluIdeal_SwigluReferenceIdeal := by
  intro m ρ m' ρ' _ hargs
  refine ⟨fun c => value (m ((c : Thread nD τ).loc main_arg0)) (m ((c : Thread nD τ).loc main_arg1)) (m ((c : Thread nD τ).loc main_arg2)), ?_, ?_⟩
  · exact (θ_run defs _ _).mono (fun r h c => ⟨(h c).1.trans (result m c), (h c).2⟩) (run_blocks m ρ)
  · refine (θ_run Cert.SwigluReferenceIdeal.defs _ _).mono (fun r h c => ⟨(h c).1.trans ?_, (h c).2⟩)
      (Cert.SwigluReferenceIdeal.Value.run (F := Ideal) m' ρ')
    rw [(hargs c).1, (hargs c).2.1, (hargs c).2.2]
    funext y
    obtain ⟨r, l, rfl⟩ : ∃ (r : Fin 16896) (l : Fin 5632), y = ix2 r l := ⟨y 0, y 1, funext fun a => by fin_cases a <;> rfl⟩
    pointwise [value]
    rfl

end Swiglu

end
-- ==== Proof.FfnDownValue.lean ====
/- The dense feed-forward network's second product with its residual: the kernel's result is the reference's, over the extended reals. -/
module

public import proofs.«01_k».proof.Defs
public import proofs.«01_k».proof.Proof.Gen.FfnDownIdeal.Value
public import proofs.«01_k».proof.Proof.Gen.FfnDownReferenceIdeal.Run
public import Idealize.ShloMosaic.Lib.Pointwise
public import Idealize.ShloMosaic.Lib.Pipeline.ValueKit
public import Idealize.ShloMosaic.Adequacy
public import Idealize.ShloMosaic.Init

@[expose] public section

noncomputable section

namespace FfnDown

open Idealize.ShloMosaic Idealize.ShloMosaic.TcCoe Idealize.SL.Sem Cert.FfnDownIdeal Cert.FfnDownIdeal.Gen Cert.FfnDownIdeal.Value

/-- The residual plus a row of the activations times a column of the weights. -/
def value (x : S16896x5632.Idx → EReal) (w : S5632x2048.Idx → EReal) (h : S16896x2048.Idx → EReal) : S16896x2048.Idx → EReal :=
  fun y => h y + ∑ k : Fin 5632, x (ix2 ⟨(y 0).val, (y 0).isLt⟩ k) * w (ix2 k ⟨(y 1).val, (y 1).isLt⟩)

variable (m : (ℓ : Loc nD τ sig) → Buf (Elt Ideal) ℓ)

/-- The block every window names at a point. -/
theorem idx : ∀ t : Fin cfg0.N, win0_0.index t = ![t.val % 22, 0] ∧ win0_1.index t = ![0, t.val / 22] ∧ win0_2.index t = ![t.val % 22, t.val / 22]
    ∧ win0_3.index t = ![t.val % 22, t.val / 22] :=
  (by decide +kernel : ∀ t : Fin grid0.N, _)

/-- The activations, as the host hands them over. -/
theorem V_v0 (c : Dev nD) : V m c main_v0 = (m ((c : Thread nD τ).loc main_arg0) : S16896x5632.Idx → EReal) := by
  show StableHlo.after _ _ _ = _
  unfold hostOps0
  after_results
  rfl

theorem x_at (c : Dev nD) (t : Fin cfg0.N) (i : Fin 768) (k : Fin 5632) (hr : 768 * (t.val % 22) + i.val < 16896) :
    iblk m c 0 t (ix2 i k) = m ((c : Thread nD τ).loc main_arg0) (ix2 ⟨768 * (t.val % 22) + i.val, hr⟩ k) := by
  have e : ((cfg0.win 0).blk t).view.emb (ix2 i k) = ix2 ⟨768 * (t.val % 22) + i.val, hr⟩ k := by blk_ext [idx t]
  show V m c main_v0 (((cfg0.win 0).blk t).view.emb (ix2 i k)) = _
  rw [V_v0, e]

theorem w_at (c : Dev nD) (t : Fin cfg0.N) (k : Fin 5632) (j : Fin 512) :
    iblk m c 1 t (ix2 k j) = m ((c : Thread nD τ).loc main_arg1) (ix2 k ⟨512 * (t.val / 22) + j.val, by have : t.val < 88 := lt_of_lt_of_eq t.isLt N_0; omega⟩) := by
  blk_ext [iblk, V, idx t]

theorem h_at (c : Dev nD) (t : Fin cfg0.N) (i : Fin 768) (j : Fin 512) (hr : 768 * (t.val % 22) + i.val < 16896) :
    iblk m c 2 t (ix2 i j) = m ((c : Thread nD τ).loc main_arg2) (ix2 ⟨768 * (t.val % 22) + i.val, hr⟩ ⟨512 * (t.val / 22) + j.val, by have : t.val < 88 := lt_of_lt_of_eq t.isLt N_0; omega⟩) := by
  blk_ext [iblk, V, idx t]

/-- What a point computes, at an element of its block. -/
theorem pay_at (h : FVec Ideal S768x512 .f32) (x : FVec Ideal S768x5632 .bf16) (w : FVec Ideal S5632x512 .f32) (i : Fin 768) (j : Fin 512) :
    k0_pay1 (F := Ideal) h x w (ix2 i j) = (h (ix2 i j) + ∑ k : Fin 5632, x (ix2 i k) * w (ix2 k j) : EReal) := by
  pointwise [k0_pay1]

theorem out_at (h : FVec Ideal S768x512 .f32) (x : FVec Ideal S768x5632 .bf16) (w : FVec Ideal S5632x512 .f32) (i : Fin 768) (j : Fin 512) :
    out0_3 (F := Ideal) x w h (ix2 i j) = (h (ix2 i j) + ∑ k : Fin 5632, x (ix2 i k) * w (ix2 k j) : EReal) := by
  unfold out0_3
  rw [View.canon_unit_zero (by funext a; fin_cases a <;> rfl), View.ld_unit_zero (by funext a; fin_cases a <;> rfl),
    View.ld_unit_zero (by funext a; fin_cases a <;> rfl), View.ld_unit_zero (by funext a; fin_cases a <;> rfl), pay_at]

/-- The kernel's result array. -/
theorem result (c : Dev nD) : (dats m 0 c).arrAt 3 cfg0.N = value (m ((c : Thread nD τ).loc main_arg0))
    (m ((c : Thread nD τ).loc main_arg1)) (m ((c : Thread nD τ).loc main_arg2)) := by
  funext y
  obtain ⟨r, l, rfl⟩ : ∃ (r : Fin 16896) (l : Fin 2048), y = ix2 r l := ⟨y 0, y 1, funext fun a => by fin_cases a <;> rfl⟩
  have hN : cfg0.N = 88 := N_0
  obtain ⟨t, ht⟩ : ∃ t : Fin cfg0.N, t.val = 22 * (l.val / 512) + r.val / 768 := ⟨⟨22 * (l.val / 512) + r.val / 768, by omega⟩, rfl⟩
  obtain ⟨i, hi⟩ : ∃ i : Fin 768, i.val = r.val % 768 := ⟨⟨r.val % 768, by omega⟩, rfl⟩
  obtain ⟨j, hj⟩ : ∃ j : Fin 512, j.val = l.val % 512 := ⟨⟨l.val % 512, by omega⟩, rfl⟩
  have hr : 768 * (t.val % 22) + i.val < 16896 := by omega
  have e1 : (⟨768 * (t.val % 22) + i.val, hr⟩ : Fin 16896) = r := Fin.ext (by show 768 * (t.val % 22) + i.val = r.val; omega)
  have e2 : (⟨512 * (t.val / 22) + j.val, by have : t.val < 88 := lt_of_lt_of_eq t.isLt N_0; omega⟩ : Fin 2048) = l := Fin.ext (by show 512 * (t.val / 22) + j.val = l.val; omega)
  have key := congrFun (blocks3 m c t (flush0_3 t)) (ix2 i j)
  have e : ((cfg0.win 3).blk t).view.emb (ix2 i j) = ix2 r l := by
    rw [← e1, ← e2]
    blk_ext [idx t]
  have left : ((cfg0.win 3).blk t).view.read (Elt Ideal) ((dats m 0 c).arrAt 3 cfg0.N) (ix2 i j) = (dats m 0 c).arrAt 3 cfg0.N (ix2 r l) :=
    congrArg ((dats m 0 c).arrAt 3 cfg0.N) e
  rw [← left, key, flushed3]
  refine (out_at (iblk m c 2 t) (iblk m c 0 t) (iblk m c 1 t) i j).trans ?_
  rw [h_at m c t i j hr, e1, e2]
  have hx : ∀ k, iblk m c 0 t (ix2 i k) = m ((c : Thread nD τ).loc main_arg0) (ix2 r k) := fun k => by rw [x_at m c t i k hr, e1]
  have hw : ∀ k, iblk m c 1 t (ix2 k j) = m ((c : Thread nD τ).loc main_arg1) (ix2 k l) := fun k => by rw [w_at, e2]
  simp only [hx, hw]
  rfl

/-- The reference runs and leaves its arguments unchanged; it has no semaphore. -/
theorem reference_frame : Cert.quiescent_FfnDownReferenceIdeal := fun m ρ _ =>
  (θ_run Cert.FfnDownReferenceIdeal.defs _ _).mono
    (fun r h => ⟨fun c => (h c).2, Idealize.ShloMosaic.sem_eq_zero_of_no_sems (by decide) r.2⟩)
    (Cert.FfnDownReferenceIdeal.Value.run (F := Ideal) m ρ)

theorem claim : Cert.algebraic_FfnDownIdeal_FfnDownReferenceIdeal := by
  intro m ρ m' ρ' _ hargs
  refine ⟨fun c => value (m ((c : Thread nD τ).loc main_arg0)) (m ((c : Thread nD τ).loc main_arg1)) (m ((c : Thread nD τ).loc main_arg2)), ?_, ?_⟩
  · exact (θ_run defs _ _).mono (fun r h c => ⟨(h c).1.trans (result m c), (h c).2⟩) (run_blocks m ρ)
  · refine (θ_run Cert.FfnDownReferenceIdeal.defs _ _).mono (fun r h c => ⟨(h c).1.trans ?_, (h c).2⟩)
      (Cert.FfnDownReferenceIdeal.Value.run (F := Ideal) m' ρ')
    rw [(hargs c).1, (hargs c).2.1, (hargs c).2.2]
    funext y
    obtain ⟨r, l, rfl⟩ : ∃ (r : Fin 16896) (l : Fin 2048), y = ix2 r l := ⟨y 0, y 1, funext fun a => by fin_cases a <;> rfl⟩
    pointwise [value]

end FfnDown

end
-- ==== Proof.PrepPieces.lean ====
/- What a grid point of the preparation of the sparse attention's inputs stores, piece by piece, over the blocks it reads: the query, key and
   index heads, each a tile of 128 columns. -/
module

public import proofs.«01_k».proof.Proof.Gen.PrepIdeal.Value
public import Idealize.ShloMosaic.Lib.Pipeline.ValueKit

@[expose] public section

set_option maxRecDepth 16384

noncomputable section

namespace Prep

open Idealize.ShloMosaic Idealize.ShloMosaic.TcCoe Idealize.ShloMosaic.Tactic Cert.PrepIdeal Cert.PrepIdeal.Gen

variable {F : FTy → Type} [FloatOps F]

/-- What a rectangle of a block holds. -/
def load {s : Shape} (x : FVec F s .f32) (r : Rect s) : FVec F r.shape .f32 := View.ld (Val := Elt F) (e' := .f32) x r

/-- The blocks a point reads. -/
structure Blocks (F : FTy → Type) [FloatOps F] where
  q : FVec F S512x1024 .f32
  k : FVec F S512x256 .f32
  v : FVec F S512x256 .f32
  qi : FVec F S512x512 .f32
  sm : FVec F S512x128 .f32
  c128 : FVec F S512x128 .f32
  s128 : FVec F S512x128 .f32
  c64 : FVec F S512x128 .f32
  s64 : FVec F S512x128 .f32
  gq : FVec F S1x128 .f32
  gk : FVec F S1x128 .f32
  gki : FVec F S1x128 .f32

/-- The blocks, read off the memrefs they are staged in. -/
def readBlocks (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) : Blocks F where
  q := arg1.view.read (Elt F) (harg1.unread x0)
  k := arg2.view.read (Elt F) (harg2.unread x1)
  v := arg3.view.read (Elt F) (harg3.unread x2)
  qi := arg4.view.read (Elt F) (harg4.unread x3)
  sm := arg5.view.read (Elt F) (harg5.unread x4)
  c128 := arg6.view.read (Elt F) (harg6.unread x5)
  s128 := arg7.view.read (Elt F) (harg7.unread x6)
  c64 := arg8.view.read (Elt F) (harg8.unread x7)
  s64 := arg9.view.read (Elt F) (harg9.unread x8)
  gq := arg10.view.read (Elt F) (harg10.unread x9)
  gk := arg11.view.read (Elt F) (harg11.unread x10)
  gki := arg12.view.read (Elt F) (harg12.unread x11)

/-- The angles' cosines and signed sines, the gains, and the small columns, as the point loads them. -/
def Blocks.l_sm (B : Blocks F) : FVec F S512x128 .f32 := load B.sm (Rect.unit (s := S512x128) ![0, 0] S512x128.size inb_S512x128_S512x128_0_0)
def Blocks.l_c128 (B : Blocks F) : FVec F S512x128 .f32 := load B.c128 (Rect.unit (s := S512x128) ![0, 0] S512x128.size inb_S512x128_S512x128_0_0)
def Blocks.l_s128 (B : Blocks F) : FVec F S512x128 .f32 := load B.s128 (Rect.unit (s := S512x128) ![0, 0] S512x128.size inb_S512x128_S512x128_0_0)
def Blocks.l_c64 (B : Blocks F) : FVec F S512x128 .f32 := load B.c64 (Rect.unit (s := S512x128) ![0, 0] S512x128.size inb_S512x128_S512x128_0_0)
def Blocks.l_s64 (B : Blocks F) : FVec F S512x128 .f32 := load B.s64 (Rect.unit (s := S512x128) ![0, 0] S512x128.size inb_S512x128_S512x128_0_0)
def Blocks.l_gq (B : Blocks F) : FVec F S1x128 .f32 := load B.gq (Rect.unit (s := S1x128) ![0, 0] S1x128.size inb_S1x128_S1x128_0_0)
def Blocks.l_gk (B : Blocks F) : FVec F S1x128 .f32 := load B.gk (Rect.unit (s := S1x128) ![0, 0] S1x128.size inb_S1x128_S1x128_0_0)
def Blocks.l_gki (B : Blocks F) : FVec F S1x128 .f32 := load B.gki (Rect.unit (s := S1x128) ![0, 0] S1x128.size inb_S1x128_S1x128_0_0)

/-- Two tiles' worth of columns turned: each column times its cosine, plus its partner half a head away times the signed sine. -/
def turn (c s x : FVec F S512x128 .f32) : FVec F S512x128 .f32 :=
  addf (mulf x c) (mulf (dynamicRotate 1 64#32 none x rotates_S512x128_d1) s)

/-- A head over the root of its mean square and a small constant, times the gains. -/
def normed (g : FVec F S1x128 .f32) (x : FVec F S512x128 .f32) : FVec F S512x128 .f32 :=
  mulf (mulf x (broadcastTo S512x128 (rsqrt (addf (divf (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 g broadcasts_S1x128_S512x128)

/-- A key head, turned. -/
def keyHead (c s : FVec F S512x128 .f32) (g : FVec F S1x128 .f32) (x : FVec F S512x128 .f32) : FVec F S512x128 .f32 :=
  turn (k0_pay5 c) (k0_pay6 s) (normed (k0_pay10 g) x)

/-- A query head, turned and scaled. -/
def queryHead (c s : FVec F S512x128 .f32) (g : FVec F S1x128 .f32) (x : FVec F S512x128 .f32) : FVec F S512x128 .bf16 :=
  truncf .bf16 (mulf (keyHead c s g x) (broadcast S512x128 (Scalar.ofBits .f32 0x3E0293EE#32))) bitsLt_bf16_f32

/-- Two index heads side by side, each turned within its 64 columns. -/
def indexHeads (c s x : FVec F S512x128 .f32) : FVec F S512x128 .f32 :=
  addf (mulf x (k0_pay7 c)) (mulf (select k0_pay9 (dynamicRotate 1 96#32 none x rotates_S512x128_d1) (dynamicRotate 1 32#32 none x rotates_S512x128_d1)) (k0_pay8 s))

/-- The index key, in the first 64 columns of the small block. -/
def indexKey (c s : FVec F S512x128 .f32) (g : FVec F S1x128 .f32) (x : FVec F S512x128 .f32) : FVec F S512x128 .f32 :=
  indexHeads c s (k0_pay41 (iota .tc S512x128 32 [1] iota_S512x128_d1_w32) x g)

/-! The pieces each result's block is stored in, last first. -/

def pieces12 (B : Blocks F) : List (View.Piece (Elt F) S512x1024 .bf16) :=
  [⟨Rect.unit (s := S512x1024) ![0, 896] S512x128.size inb_S512x1024_S512x128_0_896, queryHead B.l_c128 B.l_s128 B.l_gq (load B.q (Rect.unit (s := S512x1024) ![0, 896] S512x128.size inb_S512x1024_S512x128_0_896))⟩,
   ⟨Rect.unit (s := S512x1024) ![0, 768] S512x128.size inb_S512x1024_S512x128_0_768, queryHead B.l_c128 B.l_s128 B.l_gq (load B.q (Rect.unit (s := S512x1024) ![0, 768] S512x128.size inb_S512x1024_S512x128_0_768))⟩,
   ⟨Rect.unit (s := S512x1024) ![0, 640] S512x128.size inb_S512x1024_S512x128_0_640, queryHead B.l_c128 B.l_s128 B.l_gq (load B.q (Rect.unit (s := S512x1024) ![0, 640] S512x128.size inb_S512x1024_S512x128_0_640))⟩,
   ⟨Rect.unit (s := S512x1024) ![0, 512] S512x128.size inb_S512x1024_S512x128_0_512, queryHead B.l_c128 B.l_s128 B.l_gq (load B.q (Rect.unit (s := S512x1024) ![0, 512] S512x128.size inb_S512x1024_S512x128_0_512))⟩,
   ⟨Rect.unit (s := S512x1024) ![0, 384] S512x128.size inb_S512x1024_S512x128_0_384, queryHead B.l_c128 B.l_s128 B.l_gq (load B.q (Rect.unit (s := S512x1024) ![0, 384] S512x128.size inb_S512x1024_S512x128_0_384))⟩,
   ⟨Rect.unit (s := S512x1024) ![0, 256] S512x128.size inb_S512x1024_S512x128_0_256, queryHead B.l_c128 B.l_s128 B.l_gq (load B.q (Rect.unit (s := S512x1024) ![0, 256] S512x128.size inb_S512x1024_S512x128_0_256))⟩,
   ⟨Rect.unit (s := S512x1024) ![0, 128] S512x128.size inb_S512x1024_S512x128_0_128, queryHead B.l_c128 B.l_s128 B.l_gq (load B.q (Rect.unit (s := S512x1024) ![0, 128] S512x128.size inb_S512x1024_S512x128_0_128))⟩,
   ⟨Rect.unit (s := S512x1024) ![0, 0] S512x128.size inb_S512x1024_S512x128_0_0, queryHead B.l_c128 B.l_s128 B.l_gq (load B.q (Rect.unit (s := S512x1024) ![0, 0] S512x128.size inb_S512x1024_S512x128_0_0))⟩]

def pieces13 (B : Blocks F) : List (View.Piece (Elt F) S512x256 .f32) :=
  [⟨Rect.unit (s := S512x256) ![0, 128] S512x128.size inb_S512x256_S512x128_0_128, keyHead B.l_c128 B.l_s128 B.l_gk (load B.k (Rect.unit (s := S512x256) ![0, 128] S512x128.size inb_S512x256_S512x128_0_128))⟩,
   ⟨Rect.unit (s := S512x256) ![0, 0] S512x128.size inb_S512x256_S512x128_0_0, keyHead B.l_c128 B.l_s128 B.l_gk (load B.k (Rect.unit (s := S512x256) ![0, 0] S512x128.size inb_S512x256_S512x128_0_0))⟩]

def pieces14 (B : Blocks F) : List (View.Piece (Elt F) S512x256 .bf16) :=
  [⟨Rect.unit (s := S512x256) ![0, 128] S512x128.size inb_S512x256_S512x128_0_128, truncf .bf16 (keyHead B.l_c128 B.l_s128 B.l_gk (load B.k (Rect.unit (s := S512x256) ![0, 128] S512x128.size inb_S512x256_S512x128_0_128))) bitsLt_bf16_f32⟩,
   ⟨Rect.unit (s := S512x256) ![0, 0] S512x128.size inb_S512x256_S512x128_0_0, truncf .bf16 (keyHead B.l_c128 B.l_s128 B.l_gk (load B.k (Rect.unit (s := S512x256) ![0, 0] S512x128.size inb_S512x256_S512x128_0_0))) bitsLt_bf16_f32⟩]

def pieces15 (B : Blocks F) : List (View.Piece (Elt F) S512x512 .bf16) :=
  [⟨Rect.unit (s := S512x512) ![0, 384] S512x128.size inb_S512x512_S512x128_0_384, k0_pay33⟩,
   ⟨Rect.unit (s := S512x512) ![0, 256] S512x128.size inb_S512x512_S512x128_0_256, truncf .bf16 (load B.v (Rect.unit (s := S512x256) ![0, 128] S512x128.size inb_S512x256_S512x128_0_128)) bitsLt_bf16_f32⟩,
   ⟨Rect.unit (s := S512x512) ![0, 128] S512x128.size inb_S512x512_S512x128_0_128, k0_pay33⟩,
   ⟨Rect.unit (s := S512x512) ![0, 0] S512x128.size inb_S512x512_S512x128_0_0, truncf .bf16 (load B.v (Rect.unit (s := S512x256) ![0, 0] S512x128.size inb_S512x256_S512x128_0_0)) bitsLt_bf16_f32⟩]

def pieces16 (B : Blocks F) : List (View.Piece (Elt F) S512x512 .bf16) :=
  [⟨Rect.unit (s := S512x512) ![0, 384] S512x128.size inb_S512x512_S512x128_0_384, truncf .bf16 (indexHeads B.l_c64 B.l_s64 (load B.qi (Rect.unit (s := S512x512) ![0, 384] S512x128.size inb_S512x512_S512x128_0_384))) bitsLt_bf16_f32⟩,
   ⟨Rect.unit (s := S512x512) ![0, 256] S512x128.size inb_S512x512_S512x128_0_256, truncf .bf16 (indexHeads B.l_c64 B.l_s64 (load B.qi (Rect.unit (s := S512x512) ![0, 256] S512x128.size inb_S512x512_S512x128_0_256))) bitsLt_bf16_f32⟩,
   ⟨Rect.unit (s := S512x512) ![0, 128] S512x128.size inb_S512x512_S512x128_0_128, truncf .bf16 (indexHeads B.l_c64 B.l_s64 (load B.qi (Rect.unit (s := S512x512) ![0, 128] S512x128.size inb_S512x512_S512x128_0_128))) bitsLt_bf16_f32⟩,
   ⟨Rect.unit (s := S512x512) ![0, 0] S512x128.size inb_S512x512_S512x128_0_0, truncf .bf16 (indexHeads B.l_c64 B.l_s64 (load B.qi (Rect.unit (s := S512x512) ![0, 0] S512x128.size inb_S512x512_S512x128_0_0))) bitsLt_bf16_f32⟩]

def pieces17 (B : Blocks F) : List (View.Piece (Elt F) S512x64 .f32) :=
  [⟨Rect.unit (s := S512x64) ![0, 0] S512x64.size inb_S512x64_S512x64_0_0, extractStridedSlice S512x64 ![0, 0] (indexKey B.l_c64 B.l_s64 B.l_gki B.l_sm) slices_S512x128_o0_0_S512x64⟩]

def pieces18 (B : Blocks F) : List (View.Piece (Elt F) S512x64 .bf16) :=
  [⟨Rect.unit (s := S512x64) ![0, 0] S512x64.size inb_S512x64_S512x64_0_0, truncf .bf16 (extractStridedSlice S512x64 ![0, 0] (indexKey B.l_c64 B.l_s64 B.l_gki B.l_sm) slices_S512x128_o0_0_S512x64) bitsLt_bf16_f32⟩]

def pieces19 (B : Blocks F) : List (View.Piece (Elt F) S256x512 .bf16) :=
  [⟨Rect.unit (s := S256x512) ![128, 0] S128x512.size inb_S256x512_S128x512_128_0, truncf .bf16 (transpose S128x512 [1, 0] (keyHead B.l_c128 B.l_s128 B.l_gk (load B.k (Rect.unit (s := S512x256) ![0, 128] S512x128.size inb_S512x256_S512x128_0_128))) transposes_S512x128_p1_0_S128x512) bitsLt_bf16_f32⟩,
   ⟨Rect.unit (s := S256x512) ![0, 0] S128x512.size inb_S256x512_S128x512_0_0, truncf .bf16 (transpose S128x512 [1, 0] (keyHead B.l_c128 B.l_s128 B.l_gk (load B.k (Rect.unit (s := S512x256) ![0, 0] S512x128.size inb_S512x256_S512x128_0_0))) transposes_S512x128_p1_0_S128x512) bitsLt_bf16_f32⟩]

def pieces20 (B : Blocks F) : List (View.Piece (Elt F) S64x512 .bf16) :=
  [⟨Rect.unit (s := S64x512) ![0, 0] S64x512.size inb_S64x512_S64x512_0_0, k0_pay4 (k0_pay8 B.l_s64) (k0_pay42 (iota .tc S512x128 32 [1] iota_S512x128_d1_w32) k0_pay9 B.l_sm B.l_gki) (k0_pay43 (k0_pay7 B.l_c64) (iota .tc S512x128 32 [1] iota_S512x128_d1_w32) B.l_sm B.l_gki)⟩]

theorem run12 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).1 = pieces12 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

theorem run13 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.1 = pieces13 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

theorem run14 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.1 = pieces14 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

theorem run15 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.1 = pieces15 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

theorem run16 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.1 = pieces16 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

theorem run17 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.1 = pieces17 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

theorem run18 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.1 = pieces18 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

theorem run19 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.1 = pieces19 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

theorem run20 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S1x128 .f32) (x10 : Vec F S1x128 .f32) (x11 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11).2.2.2.2.2.2.2.2.1 = pieces20 (readBlocks arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := by
  sl_kernel_rfl

end Prep

end
-- ==== Proof.PrepHeads.lean ====
/- The preparation's heads over the extended reals, element by element. -/
module

public import proofs.«01_k».proof.Proof.PrepPieces
public import Idealize.ShloMosaic.Lib.Pointwise

@[expose] public section

set_option maxRecDepth 16384

noncomputable section

namespace Prep

open Idealize.ShloMosaic Idealize.ShloMosaic.TcCoe Cert.PrepIdeal Cert.PrepIdeal.Gen

/-- The factor that brings a head's mean square to one. -/
def scaleOf (n : ℕ) (d : EReal) (x : Fin n → EReal) : EReal := Ideal.rsqrt (Ideal.div (∑ k : Fin n, x k * x k) d + Ideal.ofBits .f32 0x358637BD#32)

theorem normed_at (g : FVec Ideal S1x128 .f32) (x : FVec Ideal S512x128 .f32) (i : Fin 512) (l : Fin 128) :
    normed g x (ix2 i l) = (x (ix2 i l) * scaleOf 128 (Ideal.ofBits .f32 0x43000000#32) (fun k => x (ix2 i k)) * g (ix2 0 l) : EReal) := by
  pointwise [normed, scaleOf]

theorem turn_at (c s x : FVec Ideal S512x128 .f32) (i : Fin 512) (l : Fin 128) :
    turn c s x (ix2 i l) = (x (ix2 i l) * c (ix2 i l) + x (ix2 i ⟨(l.val + 128 - 64) % 128, Nat.mod_lt _ (by omega)⟩) * s (ix2 i l) : EReal) := by
  pointwise [turn]

/-- The lanes of the first half of each 64. -/
theorem lane_lt32 (a b : EReal) (l : Fin 128) :
    Scalar.select (IntOp.cmpi CmpIPredicate.slt (IntOp.andi (BitVec.ofNat 32 l.val) 63#32) 32#32) a b = if l.val % 64 < 32 then a else b := by
  have h : ∀ l : Fin 128, IntOp.cmpi CmpIPredicate.slt (IntOp.andi (BitVec.ofNat 32 l.val) 63#32) 32#32 = if l.val % 64 < 32 then 1#1 else 0#1 := by decide +kernel
  rw [h l]
  split <;> rfl

/-- The first 64 lanes. -/
theorem lane_lt64 (a b : EReal) (l : Fin 128) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 = if l.val < 64 then 1#1 else 0#1 := by decide +kernel
  rw [h l]
  split <;> rfl

theorem indexHeads_at (c s x : FVec Ideal S512x128 .f32) (i : Fin 512) (l : Fin 128) :
    indexHeads c s x (ix2 i l) = (x (ix2 i l) * c (ix2 i l)
      + (if l.val % 64 < 32 then x (ix2 i ⟨(l.val + 128 - 96) % 128, Nat.mod_lt _ (by omega)⟩) else x (ix2 i ⟨(l.val + 128 - 32) % 128, Nat.mod_lt _ (by omega)⟩)) * s (ix2 i l) : EReal) := by
  rw [← lane_lt32]
  pointwise [indexHeads, k0_pay7, k0_pay8, k0_pay9]

/-- A sum over 128 lanes that keeps the first 64. -/
theorem sum_lt64 (f : Fin 128 → EReal) : (∑ k : Fin 128, Scalar.select (IntOp.cmpi CmpIPredicate.slt (BitVec.ofNat 32 k.val) 64#32) (f k) 0) = ∑ k : Fin 64, f ⟨k.val, by omega⟩ := by
  simp only [lane_lt64]
  rw [show (∑ k : Fin 128, if k.val < 64 then f k else 0) = ∑ k : Fin (64 + 64), if k.val < 64 then f k else 0 from rfl, Fin.sum_univ_add]
  have h2 : (∑ k : Fin 64, if (Fin.natAdd 64 k).val < 64 then f (Fin.natAdd 64 k) else 0) = 0 :=
    Finset.sum_eq_zero fun k _ => if_neg (by simp)
  rw [h2, add_zero]
  exact Finset.sum_congr rfl fun k _ => if_pos k.isLt

/-- A division by 64 is a product with its inverse. -/
theorem div64 (a : EReal) : a * Ideal.ofBits .f32 0x3C800000#32 = Ideal.div a (Ideal.ofBits .f32 0x42800000#32) := by
  have h64 : Ideal.ofBits .f32 0x42800000#32 = ((64 : ℝ) : EReal) := by
    simp [Ideal.ofBits, Ideal.ieee]
    rw [← EReal.coe_mul]
    norm_num
  have hinv : Ideal.ofBits .f32 0x3C800000#32 = ((1 / 64 : ℝ) : EReal) := by
    simp [Ideal.ofBits, Ideal.ieee]
    rw [← EReal.coe_mul]
    norm_num
  rw [h64, hinv, Ideal.div_coe (by norm_num)]

theorem small_at (x : FVec Ideal S512x128 .f32) (g : FVec Ideal S1x128 .f32) (i : Fin 512) (l : Fin 128) :
    k0_pay41 (iota .tc S512x128 32 [1] iota_S512x128_d1_w32) x g (ix2 i l)
      = (x (ix2 i l) * scaleOf 64 (Ideal.ofBits .f32 0x42800000#32) (fun k => x (ix2 i ⟨k.val, by omega⟩)) * g (ix2 0 l) : EReal) := by
  unfold scaleOf
  rw [← div64, ← sum_lt64 fun k => x (ix2 i k) * x (ix2 i k)]
  pointwise [k0_pay41]

end Prep

end
-- ==== Proof.PrepWhat.lean ====
/- What the preparation of the sparse attention's inputs computes: its nine arrays as functions of the packed projection and the gains. -/
module

public import proofs.«01_k».proof.Proof.PrepHeads

@[expose] public section

set_option maxRecDepth 16384

noncomputable section

namespace Prep

open Idealize.ShloMosaic Idealize.ShloMosaic.TcCoe Cert.PrepIdeal Cert.PrepIdeal.Gen

/-- A finite row, zero past its end. -/
def ext0 {n : ℕ} (f : Fin n → EReal) (l : ℕ) : EReal := if h : l < n then f ⟨l, h⟩ else 0

theorem ext0_of {n : ℕ} (f : Fin n → EReal) (l : ℕ) (h : l < n) : ext0 f l = f ⟨l, h⟩ := dif_pos h

theorem ext0_fin {n : ℕ} (f : Fin n → EReal) (l : Fin n) : f l = ext0 f l.val := (ext0_of f l.val l.isLt).symm

/-- The rows' positions: every prompt counts from zero, every sampled token from its prompt's end. -/
def positions : IVec S16896 32 :=
  concatenate S16896 0 [⟨S16384, (shapeCast _ (broadcastInDim S2x8192 ![0, 1] bcast_S1x8192_S2x8192_0_1 (shapeCast _ (iotaInDim S8192 32 0) shapeCasts_S8192_S1x8192)) shapeCasts_S2x8192_S16384)⟩, ⟨S512, (shapeCast _ (broadcastInDim S32x16 ![0, 1] bcast_S1x16_S32x16_0_1 (shapeCast _ (addi (broadcastInDim S16 ![] bcast_S_S16 (constantI S_ 32 2048#32)) (iotaInDim S16 32 0)) shapeCasts_S16_S1x16)) shapeCasts_S32x16_S512)⟩] concatenates_S16384_S512_S16896_d0

/-- The angles a head of 128 is turned by: a row's position times the frequencies. -/
def angles64 : FVec Ideal S16896x64 .f32 :=
  mulf (broadcastInDim S16896x64 ![0, 1] bcast_S16896x1_S16896x64_0_1 (broadcastInDim S16896x1 ![0] bcast_S16896_S16896x1_0 (sitofp .f32 positions))) (broadcastInDim S16896x64 ![0, 1] bcast_S1x64_S16896x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The angles a head of 64 is turned by. -/
def angles32 : FVec Ideal S16896x32 .f32 :=
  mulf (broadcastInDim S16896x32 ![0, 1] bcast_S16896x1_S16896x32_0_1 (broadcastInDim S16896x1 ![0] bcast_S16896_S16896x1_0 (sitofp .f32 positions))) (broadcastInDim S16896x32 ![0, 1] bcast_S1x32_S16896x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

def cosT64 : FVec Ideal S16896x64 .f32 := Host.cos angles64
def sinT64 : FVec Ideal S16896x64 .f32 := Host.sin angles64
def cosT32 : FVec Ideal S16896x32 .f32 := Host.cos angles32
def sinT32 : FVec Ideal S16896x32 .f32 := Host.sin angles32

def cos64 (r : Fin 16896) : ℕ → EReal := ext0 fun k : Fin 64 => cosT64 (ix2 r k)
def sin64 (r : Fin 16896) : ℕ → EReal := ext0 fun k : Fin 64 => sinT64 (ix2 r k)
def cos32 (r : Fin 16896) : ℕ → EReal := ext0 fun k : Fin 32 => cosT32 (ix2 r k)
def sin32 (r : Fin 16896) : ℕ → EReal := ext0 fun k : Fin 32 => sinT32 (ix2 r k)

/-- A row of the packed projection. -/
def col (P : S16896x9728.Idx → EReal) (r : Fin 16896) : ℕ → EReal := ext0 fun k : Fin 9728 => P (ix2 r k)

/-- A head of `n` columns from column `b` on, over the root of its mean square, times the gains. -/
def normedHead (n : ℕ) (d : EReal) (P : S16896x9728.Idx → EReal) (g : Fin n → EReal) (r : Fin 16896) (b l : ℕ) : EReal :=
  col P r (b + l) * scaleOf n d (fun k => col P r (b + k.val)) * ext0 g l

/-- A head of `2 n` columns turned: its two halves are the coordinates of `n` points, each turned by its own angle. -/
def turned (n : ℕ) (x c s : ℕ → EReal) (l : ℕ) : EReal :=
  if l < n then x l * c l - x (l + n) * s l else x l * c (l - n) + x (l - n) * s (l - n)

def valueK' (P : S16896x9728.Idx → EReal) (g : S128.Idx → EReal) (b : ℕ) (r : Fin 16896) (j : ℕ) : EReal :=
  turned 64 (normedHead 128 (Ideal.ofBits .f32 0x43000000#32) P (fun k => g (ix1 k)) r (b + j / 128 * 128)) (cos64 r) (sin64 r) (j % 128)

/-- The queries. -/
def valueQ (P : S16896x9728.Idx → EReal) (g : S128.Idx → EReal) : S16896x1024.Idx → EReal :=
  fun y => valueK' P g 3072 ⟨(y 0).val, (y 0).isLt⟩ (y 1).val * Ideal.ofBits .f32 0x3E0293EE#32

/-- The keys. -/
def valueK (P : S16896x9728.Idx → EReal) (g : S128.Idx → EReal) : S16896x256.Idx → EReal :=
  fun y => valueK' P g 4096 ⟨(y 0).val, (y 0).isLt⟩ (y 1).val

/-- The values, each head followed by as many ones. -/
def valueV (P : S16896x9728.Idx → EReal) : S16896x512.Idx → EReal :=
  fun y => if (y 1).val % 256 < 128 then col P ⟨(y 0).val, (y 0).isLt⟩ (4352 + ((y 1).val / 256 * 128 + (y 1).val % 256)) else 1

/-- The index queries. -/
def valueQi (P : S16896x9728.Idx → EReal) : S16896x512.Idx → EReal :=
  fun y => turned 32 (fun l => col P ⟨(y 0).val, (y 0).isLt⟩ (4608 + ((y 1).val / 64 * 64 + l))) (cos32 ⟨(y 0).val, (y 0).isLt⟩) (sin32 ⟨(y 0).val, (y 0).isLt⟩) ((y 1).val % 64)

def valueKi' (P : S16896x9728.Idx → EReal) (g : S64.Idx → EReal) (r : Fin 16896) (j : ℕ) : EReal :=
  turned 32 (normedHead 64 (Ideal.ofBits .f32 0x42800000#32) P (fun k => g (ix1 k)) r 9216) (cos32 r) (sin32 r) j

/-- The index keys. -/
def valueKi (P : S16896x9728.Idx → EReal) (g : S64.Idx → EReal) : S16896x64.Idx → EReal :=
  fun y => valueKi' P g ⟨(y 0).val, (y 0).isLt⟩ (y 1).val

/-- The keys, transposed. -/
def valueKT (P : S16896x9728.Idx → EReal) (g : S128.Idx → EReal) : S256x16896.Idx → EReal :=
  fun y => valueK' P g 4096 ⟨(y 1).val, (y 1).isLt⟩ (y 0).val

/-- The index keys, transposed. -/
def valueKiT (P : S16896x9728.Idx → EReal) (g : S64.Idx → EReal) : S64x16896.Idx → EReal :=
  fun y => valueKi' P g ⟨(y 1).val, (y 1).isLt⟩ (y 0).val

/-- A turn written with the signed sine, over 128 lanes. -/
theorem turn128 (x c s : ℕ → EReal) (l : ℕ) (hl : l < 128) :
    x l * c (l % 64) + x ((l + 128 - 64) % 128) * (if l < 64 then -(s l) else s (l - 64)) = turned 64 x c s l := by
  unfold turned
  split
  · rename_i h
    rw [show l % 64 = l by omega, show (l + 128 - 64) % 128 = l + 64 by omega, mul_neg, ← sub_eq_add_neg]
  · rename_i h
    rw [show l % 64 = l - 64 by omega, show (l + 128 - 64) % 128 = l - 64 by omega]

/-- A turn of two halves, each written from its own first column. -/
theorem turned_of (n : ℕ) (x c s : ℕ → EReal) (l : ℕ) :
    (if _ : l < n then x l * c l - x (n + l) * s l else x (n + (l - n)) * c (l - n) + x (l - n) * s (l - n)) = turned n x c s l := by
  unfold turned
  by_cases h : l < n
  · rw [dif_pos h, if_pos h, Nat.add_comm]
  · rw [dif_neg h, if_neg h, Nat.add_sub_cancel' (Nat.le_of_not_lt h)]

/-- … and over one half of 64 lanes. -/
theorem turn64 (x c s : ℕ → EReal) (l : ℕ) (hl : l < 64) :
    x l * c (l % 32) + (if l < 32 then x (l + 32) else x (l - 32)) * (if l < 32 then -(s (l % 32)) else s (l % 32)) = turned 32 x c s l := by
  unfold turned
  by_cases h : l < 32
  · rw [if_pos h, if_pos h, if_pos h, show l % 32 = l by omega, mul_neg, ← sub_eq_add_neg]
  · rw [if_neg h, if_neg h, if_neg h, show l % 32 = l - 32 by omega]

end Prep

end
-- ==== Proof.PrepTables.lean ====
/- What the host hands the preparation: the tables of cosines and signed sines, and the gains, one row each. -/
module

public import proofs.«01_k».proof.Proof.PrepWhat
public import proofs.«01_k».proof.Proof.Gen.PrepIdeal.Value

@[expose] public section

set_option maxRecDepth 16384

noncomputable section

namespace Prep

open Idealize.ShloMosaic Idealize.ShloMosaic.TcCoe Cert.PrepIdeal Cert.PrepIdeal.Gen Cert.PrepIdeal.Value

variable (m : (ℓ : Loc nD τ sig) → Buf (Elt Ideal) ℓ)

theorem V_c128 (c : Dev nD) : (V m c main_v28 : S16896x128.Idx → EReal) =
    shapeCast S16896x128 (broadcastInDim S1x16896x1x128 ![0, 1, 2, 3] bcast_S1x16896x1x128_S1x16896x1x128_0_1_2_3 (shapeCast S1x16896x1x128 (concatenate S16896x128 1 [⟨S16896x64, cosT64⟩, ⟨S16896x64, cosT64⟩] concatenates_S16896x64_S16896x64_S16896x128_d1) shapeCasts_S16896x128_S1x16896x1x128)) shapeCasts_S1x16896x1x128_S16896x128 := by
  show StableHlo.after _ _ _ = _
  unfold hostOps0 hostOps0_1 hostOps0_2
  after_results
  rfl

theorem V_s128 (c : Dev nD) : (V m c main_v33 : S16896x128.Idx → EReal) =
    shapeCast S16896x128 (broadcastInDim S1x16896x1x128 ![0, 1, 2, 3] bcast_S1x16896x1x128_S1x16896x1x128_0_1_2_3 (shapeCast S1x16896x1x128 (concatenate S16896x128 1 [⟨S16896x64, Host.negf sinT64⟩, ⟨S16896x64, sinT64⟩] concatenates_S16896x64_S16896x64_S16896x128_d1) shapeCasts_S16896x128_S1x16896x1x128)) shapeCasts_S1x16896x1x128_S16896x128 := by
  show StableHlo.after _ _ _ = _
  unfold hostOps0 hostOps0_1 hostOps0_2
  after_results
  rfl

theorem V_c64 (c : Dev nD) : (V m c main_v51 : S16896x128.Idx → EReal) =
    shapeCast S16896x128 (broadcastInDim S1x16896x2x64 ![0, 1, 2, 3] bcast_S1x16896x1x64_S1x16896x2x64_0_1_2_3 (shapeCast S1x16896x1x64 (concatenate S16896x64 1 [⟨S16896x32, cosT32⟩, ⟨S16896x32, cosT32⟩] concatenates_S16896x32_S16896x32_S16896x64_d1) shapeCasts_S16896x64_S1x16896x1x64)) shapeCasts_S1x16896x2x64_S16896x128 := by
  show StableHlo.after _ _ _ = _
  unfold hostOps0 hostOps0_1 hostOps0_2
  after_results
  rfl

theorem V_s64 (c : Dev nD) : (V m c main_v56 : S16896x128.Idx → EReal) =
    shapeCast S16896x128 (broadcastInDim S1x16896x2x64 ![0, 1, 2, 3] bcast_S1x16896x1x64_S1x16896x2x64_0_1_2_3 (shapeCast S1x16896x1x64 (concatenate S16896x64 1 [⟨S16896x32, Host.negf sinT32⟩, ⟨S16896x32, sinT32⟩] concatenates_S16896x32_S16896x32_S16896x64_d1) shapeCasts_S16896x64_S1x16896x1x64)) shapeCasts_S1x16896x2x64_S16896x128 := by
  show StableHlo.after _ _ _ = _
  unfold hostOps0 hostOps0_1 hostOps0_2
  after_results
  rfl

theorem V_gq (c : Dev nD) : (V m c main_v59 : S1x128.Idx → EReal) = shapeCast S1x128 (m ((c : Thread nD τ).loc main_arg1) : S128.Idx → EReal) shapeCasts_S128_S1x128 := by
  show StableHlo.after _ _ _ = _
  unfold hostOps0 hostOps0_1 hostOps0_2
  after_results
  rfl

theorem V_gk (c : Dev nD) : (V m c main_v60 : S1x128.Idx → EReal) = shapeCast S1x128 (m ((c : Thread nD τ).loc main_arg2) : S128.Idx → EReal) shapeCasts_S128_S1x128 := by
  show StableHlo.after _ _ _ = _
  unfold hostOps0 hostOps0_1 hostOps0_2
  after_results
  rfl

/-- The index key's gains, zeros after them. -/
def padded (g : FVec Ideal S64 .f32) : FVec Ideal S128 .f32 := pad S128 ![0] ![64] ![0] g (sitofp .f32 (constantI S_ 32 0#32)) pads_S64_S128_0640 h_S_

theorem V_gki (c : Dev nD) : (V m c main_v58 : S1x128.Idx → EReal) = shapeCast S1x128 (padded (m ((c : Thread nD τ).loc main_arg3))) shapeCasts_S128_S1x128 := by
  show StableHlo.after _ _ _ = _
  unfold hostOps0 hostOps0_1 hostOps0_2
  after_results
  rfl

/-! The tables, element by element. -/

theorem c128_at (c : Dev nD) (r : Fin 16896) (l : Fin 128) : V m c main_v28 (ix2 r l) = cos64 r (l.val % 64) := by
  rw [V_c128]
  pointwise
  by_cases h : l.val < 64
  · rw [dif_pos h, cos64, ext0_of _ _ (by omega)]
    exact congrArg (fun k => cosT64 (ix2 r k)) (Fin.ext (by show l.val = l.val % 64; omega))
  · rw [dif_neg h, cos64, ext0_of _ _ (by omega)]
    exact congrArg (fun k => cosT64 (ix2 r k)) (Fin.ext (by show l.val - 64 = l.val % 64; omega))

theorem s128_at (c : Dev nD) (r : Fin 16896) (l : Fin 128) : V m c main_v33 (ix2 r l) = (if l.val < 64 then -(sin64 r l.val) else sin64 r (l.val - 64) : EReal) := by
  rw [V_s128]
  pointwise
  by_cases h : l.val < 64
  · rw [dif_pos h, if_pos h, sin64, ext0_of _ _ (by omega)]
  · rw [dif_neg h, if_neg h, sin64, ext0_of _ _ (by omega)]

theorem c64_at (c : Dev nD) (r : Fin 16896) (l : Fin 128) : V m c main_v51 (ix2 r l) = cos32 r (l.val % 32) := by
  rw [V_c64]
  pointwise
  by_cases h : l.val % 64 < 32
  · rw [dif_pos h, cos32, ext0_of _ _ (by omega)]
    exact congrArg (fun k => cosT32 (ix2 r k)) (Fin.ext (by show l.val % 64 = l.val % 32; omega))
  · rw [dif_neg h, cos32, ext0_of _ _ (by omega)]
    exact congrArg (fun k => cosT32 (ix2 r k)) (Fin.ext (by show l.val % 64 - 32 = l.val % 32; omega))

theorem s64_at (c : Dev nD) (r : Fin 16896) (l : Fin 128) :
    V m c main_v56 (ix2 r l) = (if l.val % 64 < 32 then -(sin32 r (l.val % 32)) else sin32 r (l.val % 32) : EReal) := by
  rw [V_s64]
  pointwise
  by_cases h : l.val % 64 < 32
  · rw [dif_pos h, if_pos h, sin32, ext0_of _ _ (by omega)]
    exact congrArg (fun k => -(sinT32 (ix2 r k))) (Fin.ext (by show l.val % 64 = l.val % 32; omega))
  · rw [dif_neg h, if_neg h, sin32, ext0_of _ _ (by omega)]
    exact congrArg (fun k => sinT32 (ix2 r k)) (Fin.ext (by show l.val % 64 - 32 = l.val % 32; omega))

theorem gq_at (c : Dev nD) (l : Fin 128) : V m c main_v59 (ix2 0 l) = m ((c : Thread nD τ).loc main_arg1) (ix1 l) := by
  rw [V_gq]
  pointwise

theorem gk_at (c : Dev nD) (l : Fin 128) : V m c main_v60 (ix2 0 l) = m ((c : Thread nD τ).loc main_arg2) (ix1 l) := by
  rw [V_gk]
  pointwise

theorem padded_at (g : FVec Ideal S64 .f32) (l : Fin 128) (h : l.val < 64) : padded g (ix1 l) = g (ix1 ⟨l.val, h⟩) := by
  pointwise [padded]
  rw [dif_pos h]

theorem gki_at (c : Dev nD) (l : Fin 128) (h : l.val < 64) : V m c main_v58 (ix2 0 l) = m ((c : Thread nD τ).loc main_arg3) (ix1 ⟨l.val, h⟩) := by
  rw [V_gki]
  refine Eq.trans ?_ (padded_at (m ((c : Thread nD τ).loc main_arg3)) l h)
  pointwise

end Prep

end
-- ==== Proof.PrepBlocks.lean ====
/- What a grid point of the preparation leaves in each result's block, element by element: the tiles its pieces put side by side. -/
module

public import proofs.«01_k».proof.Proof.PrepHeads

@[expose] public section

set_option maxRecDepth 16384

noncomputable section

namespace Prep

open Idealize.ShloMosaic Idealize.ShloMosaic.TcCoe Idealize.ShloMosaic.Tactic Cert.PrepIdeal Cert.PrepIdeal.Gen

/-- Tiles of 128 columns side by side. -/
def tile1024 {α : Type} (H : ℕ → S512x128.Idx → α) : S512x1024.Idx → α := fun y => H ((y 1).val / 128) (ix2 ⟨(y 0).val, (y 0).isLt⟩ ⟨(y 1).val % 128, Nat.mod_lt _ (by omega)⟩)

theorem tile1024_emb {α : Type} (H : ℕ → S512x128.Idx → α) (h : ℕ) (inb) (x : S512x128.Idx) :
    H h x = tile1024 H ((Rect.unit (s := S512x1024) ![0, 128 * h] S512x128.size inb).emb x) := by
  have hx : (x 1).val < 128 := (x 1).isLt
  have e1 : (((Rect.unit (s := S512x1024) ![0, 128 * h] S512x128.size inb).emb x) 1).val = 128 * h + 1 * (x 1).val := rfl
  unfold tile1024
  have hh : (((Rect.unit (s := S512x1024) ![0, 128 * h] S512x128.size inb).emb x) 1).val / 128 = h := by rw [e1]; omega
  rw [hh]
  refine congrArg (H h) (funext fun a => ?_)
  fin_cases a
  · exact Fin.ext (by show (x 0).val = 0 + 1 * (x 0).val; omega)
  · exact Fin.ext (by show (x 1).val = (128 * h + 1 * (x 1).val) % 128; omega)

/-- Tile `h` of a block. -/
def head1024 (x : FVec Ideal S512x1024 .f32) (h : ℕ) : FVec Ideal S512x128 .f32 := fun z => x (ix2 ⟨(z 0).val, (z 0).isLt⟩ ⟨(128 * h + (z 1).val) % 1024, Nat.mod_lt _ (by omega)⟩)

theorem load1024 (x : FVec Ideal S512x1024 .f32) (h : ℕ) (hh : 128 * h + 128 ≤ 1024) (inb) :
    load x (Rect.unit (s := S512x1024) ![0, 128 * h] S512x128.size inb) = head1024 x h := by
  funext z
  have hz : (z 1).val < 128 := (z 1).isLt
  refine congrArg x (funext fun a => ?_)
  fin_cases a
  · exact Fin.ext (by show 0 + 1 * (z 0).val = (z 0).val; omega)
  · exact Fin.ext (by show 128 * h + 1 * (z 1).val = (128 * h + (z 1).val) % 1024; omega)

/-- Tiles of 128 columns side by side. -/
def tile256 {α : Type} (H : ℕ → S512x128.Idx → α) : S512x256.Idx → α := fun y => H ((y 1).val / 128) (ix2 ⟨(y 0).val, (y 0).isLt⟩ ⟨(y 1).val % 128, Nat.mod_lt _ (by omega)⟩)

theorem tile256_emb {α : Type} (H : ℕ → S512x128.Idx → α) (h : ℕ) (inb) (x : S512x128.Idx) :
    H h x = tile256 H ((Rect.unit (s := S512x256) ![0, 128 * h] S512x128.size inb).emb x) := by
  have hx : (x 1).val < 128 := (x 1).isLt
  have e1 : (((Rect.unit (s := S512x256) ![0, 128 * h] S512x128.size inb).emb x) 1).val = 128 * h + 1 * (x 1).val := rfl
  unfold tile256
  have hh : (((Rect.unit (s := S512x256) ![0, 128 * h] S512x128.size inb).emb x) 1).val / 128 = h := by rw [e1]; omega
  rw [hh]
  refine congrArg (H h) (funext fun a => ?_)
  fin_cases a
  · exact Fin.ext (by show (x 0).val = 0 + 1 * (x 0).val; omega)
  · exact Fin.ext (by show (x 1).val = (128 * h + 1 * (x 1).val) % 128; omega)

/-- Tile `h` of a block. -/
def head256 (x : FVec Ideal S512x256 .f32) (h : ℕ) : FVec Ideal S512x128 .f32 := fun z => x (ix2 ⟨(z 0).val, (z 0).isLt⟩ ⟨(128 * h + (z 1).val) % 256, Nat.mod_lt _ (by omega)⟩)

theorem load256 (x : FVec Ideal S512x256 .f32) (h : ℕ) (hh : 128 * h + 128 ≤ 256) (inb) :
    load x (Rect.unit (s := S512x256) ![0, 128 * h] S512x128.size inb) = head256 x h := by
  funext z
  have hz : (z 1).val < 128 := (z 1).isLt
  refine congrArg x (funext fun a => ?_)
  fin_cases a
  · exact Fin.ext (by show 0 + 1 * (z 0).val = (z 0).val; omega)
  · exact Fin.ext (by show 128 * h + 1 * (z 1).val = (128 * h + (z 1).val) % 256; omega)

/-- Tiles of 128 columns side by side. -/
def tile512 {α : Type} (H : ℕ → S512x128.Idx → α) : S512x512.Idx → α := fun y => H ((y 1).val / 128) (ix2 ⟨(y 0).val, (y 0).isLt⟩ ⟨(y 1).val % 128, Nat.mod_lt _ (by omega)⟩)

theorem tile512_emb {α : Type} (H : ℕ → S512x128.Idx → α) (h : ℕ) (inb) (x : S512x128.Idx) :
    H h x = tile512 H ((Rect.unit (s := S512x512) ![0, 128 * h] S512x128.size inb).emb x) := by
  have hx : (x 1).val < 128 := (x 1).isLt
  have e1 : (((Rect.unit (s := S512x512) ![0, 128 * h] S512x128.size inb).emb x) 1).val = 128 * h + 1 * (x 1).val := rfl
  unfold tile512
  have hh : (((Rect.unit (s := S512x512) ![0, 128 * h] S512x128.size inb).emb x) 1).val / 128 = h := by rw [e1]; omega
  rw [hh]
  refine congrArg (H h) (funext fun a => ?_)
  fin_cases a
  · exact Fin.ext (by show (x 0).val = 0 + 1 * (x 0).val; omega)
  · exact Fin.ext (by show (x 1).val = (128 * h + 1 * (x 1).val) % 128; omega)

/-- Tile `h` of a block. -/
def head512 (x : FVec Ideal S512x512 .f32) (h : ℕ) : FVec Ideal S512x128 .f32 := fun z => x (ix2 ⟨(z 0).val, (z 0).isLt⟩ ⟨(128 * h + (z 1).val) % 512, Nat.mod_lt _ (by omega)⟩)

theorem load512 (x : FVec Ideal S512x512 .f32) (h : ℕ) (hh : 128 * h + 128 ≤ 512) (inb) :
    load x (Rect.unit (s := S512x512) ![0, 128 * h] S512x128.size inb) = head512 x h := by
  funext z
  have hz : (z 1).val < 128 := (z 1).isLt
  refine congrArg x (funext fun a => ?_)
  fin_cases a
  · exact Fin.ext (by show 0 + 1 * (z 0).val = (z 0).val; omega)
  · exact Fin.ext (by show 128 * h + 1 * (z 1).val = (128 * h + (z 1).val) % 512; omega)

/-- Tiles of 128 rows, one above the other, of the transposed. -/
def tileT {α : Type} (H : ℕ → S512x128.Idx → α) : S256x512.Idx → α := fun y => H ((y 0).val / 128) (ix2 ⟨(y 1).val, (y 1).isLt⟩ ⟨(y 0).val % 128, Nat.mod_lt _ (by omega)⟩)

theorem tileT_emb {α : Type} (H : ℕ → S512x128.Idx → α) (h : ℕ) (inb) (x : S128x512.Idx) :
    H h (ix2 ⟨(x 1).val, (x 1).isLt⟩ ⟨(x 0).val, (x 0).isLt⟩) = tileT H ((Rect.unit (s := S256x512) ![128 * h, 0] S128x512.size inb).emb x) := by
  have hx : (x 0).val < 128 := (x 0).isLt
  have e0 : (((Rect.unit (s := S256x512) ![128 * h, 0] S128x512.size inb).emb x) 0).val = 128 * h + 1 * (x 0).val := rfl
  unfold tileT
  have hh : (((Rect.unit (s := S256x512) ![128 * h, 0] S128x512.size inb).emb x) 0).val / 128 = h := by rw [e0]; omega
  rw [hh]
  refine congrArg (H h) (funext fun a => ?_)
  fin_cases a
  · exact Fin.ext (by show (x 1).val = 0 + 1 * (x 1).val; omega)
  · exact Fin.ext (by show (x 0).val = (128 * h + 1 * (x 0).val) % 128; omega)

theorem zero2 : (![0, 0] : Fin 2 → ℕ) = fun _ => 0 := by
  funext a
  fin_cases a <;> rfl

/-- A loaded whole block is the block. -/
theorem whole (x : FVec Ideal S512x128 .f32) (inb) : load x (Rect.unit (s := S512x128) ![0, 0] S512x128.size inb) = x :=
  View.ld_unit_zero (Val := Elt Ideal) (e := .f32) (S := S512x128) (off := ![0, 0]) zero2 _ x

theorem wholeG (x : FVec Ideal S1x128 .f32) (inb) : load x (Rect.unit (s := S1x128) ![0, 0] S1x128.size inb) = x :=
  View.ld_unit_zero (Val := Elt Ideal) (e := .f32) (S := S1x128) (off := ![0, 0]) zero2 _ x

/-! The results' blocks. -/

def tiles12 (B : Blocks Ideal) : S512x1024.Idx → Elt Ideal .bf16 := tile1024 fun h => queryHead B.l_c128 B.l_s128 B.l_gq (head1024 B.q h)

def tiles13 (B : Blocks Ideal) : S512x256.Idx → Elt Ideal .f32 := tile256 fun h => keyHead B.l_c128 B.l_s128 B.l_gk (head256 B.k h)

def tiles14 (B : Blocks Ideal) : S512x256.Idx → Elt Ideal .bf16 := tile256 fun h => truncf .bf16 (keyHead B.l_c128 B.l_s128 B.l_gk (head256 B.k h)) bitsLt_bf16_f32

/-- The values' tiles and tiles of ones, in turn. -/
def valueTile (B : Blocks Ideal) : ℕ → FVec Ideal S512x128 .bf16
  | 0 => truncf .bf16 (head256 B.v 0) bitsLt_bf16_f32
  | 1 => k0_pay33
  | 2 => truncf .bf16 (head256 B.v 1) bitsLt_bf16_f32
  | _ => k0_pay33

def tiles15 (B : Blocks Ideal) : S512x512.Idx → Elt Ideal .bf16 := tile512 (valueTile B)

def tiles16 (B : Blocks Ideal) : S512x512.Idx → Elt Ideal .bf16 := tile512 fun h => truncf .bf16 (indexHeads B.l_c64 B.l_s64 (head512 B.qi h)) bitsLt_bf16_f32

def tiles17 (B : Blocks Ideal) : S512x64.Idx → Elt Ideal .f32 := extractStridedSlice S512x64 ![0, 0] (indexKey B.l_c64 B.l_s64 B.l_gki B.l_sm) slices_S512x128_o0_0_S512x64

def tiles18 (B : Blocks Ideal) : S512x64.Idx → Elt Ideal .bf16 := truncf .bf16 (extractStridedSlice S512x64 ![0, 0] (indexKey B.l_c64 B.l_s64 B.l_gki B.l_sm) slices_S512x128_o0_0_S512x64) bitsLt_bf16_f32

def tiles19 (B : Blocks Ideal) : S256x512.Idx → Elt Ideal .bf16 := tileT fun h => truncf .bf16 (keyHead B.l_c128 B.l_s128 B.l_gk (head256 B.k h)) bitsLt_bf16_f32

def tiles20 (B : Blocks Ideal) : S64x512.Idx → Elt Ideal .bf16 := k0_pay4 (F := Ideal) (k0_pay8 B.l_s64) (k0_pay42 (iota .tc S512x128 32 [1] iota_S512x128_d1_w32) k0_pay9 B.l_sm B.l_gki) (k0_pay43 (k0_pay7 B.l_c64) (iota .tc S512x128 32 [1] iota_S512x128_d1_w32) B.l_sm B.l_gki)

/-! Each piece holds its tile. -/

theorem pieces12_tiles (B : Blocks Ideal) : ∀ p ∈ pieces12 B, ∀ x : p.1.shape.Idx, p.2 x = tiles12 B (p.1.emb x) := by
  intro p hp
  unfold pieces12 at hp
  simp only [List.mem_cons, List.not_mem_nil, or_false] at hp
  rcases hp with rfl | rfl | rfl | rfl | rfl | rfl | rfl | rfl
  · exact fun x => (congrFun (congrArg (queryHead B.l_c128 B.l_s128 B.l_gq) (load1024 B.q 7 (by omega) _)) x).trans (tile1024_emb (fun h => queryHead B.l_c128 B.l_s128 B.l_gq (head1024 B.q h)) 7 inb_S512x1024_S512x128_0_896 x)
  · exact fun x => (congrFun (congrArg (queryHead B.l_c128 B.l_s128 B.l_gq) (load1024 B.q 6 (by omega) _)) x).trans (tile1024_emb (fun h => queryHead B.l_c128 B.l_s128 B.l_gq (head1024 B.q h)) 6 inb_S512x1024_S512x128_0_768 x)
  · exact fun x => (congrFun (congrArg (queryHead B.l_c128 B.l_s128 B.l_gq) (load1024 B.q 5 (by omega) _)) x).trans (tile1024_emb (fun h => queryHead B.l_c128 B.l_s128 B.l_gq (head1024 B.q h)) 5 inb_S512x1024_S512x128_0_640 x)
  · exact fun x => (congrFun (congrArg (queryHead B.l_c128 B.l_s128 B.l_gq) (load1024 B.q 4 (by omega) _)) x).trans (tile1024_emb (fun h => queryHead B.l_c128 B.l_s128 B.l_gq (head1024 B.q h)) 4 inb_S512x1024_S512x128_0_512 x)
  · exact fun x => (congrFun (congrArg (queryHead B.l_c128 B.l_s128 B.l_gq) (load1024 B.q 3 (by omega) _)) x).trans (tile1024_emb (fun h => queryHead B.l_c128 B.l_s128 B.l_gq (head1024 B.q h)) 3 inb_S512x1024_S512x128_0_384 x)
  · exact fun x => (congrFun (congrArg (queryHead B.l_c128 B.l_s128 B.l_gq) (load1024 B.q 2 (by omega) _)) x).trans (tile1024_emb (fun h => queryHead B.l_c128 B.l_s128 B.l_gq (head1024 B.q h)) 2 inb_S512x1024_S512x128_0_256 x)
  · exact fun x => (congrFun (congrArg (queryHead B.l_c128 B.l_s128 B.l_gq) (load1024 B.q 1 (by omega) _)) x).trans (tile1024_emb (fun h => queryHead B.l_c128 B.l_s128 B.l_gq (head1024 B.q h)) 1 inb_S512x1024_S512x128_0_128 x)
  · exact fun x => (congrFun (congrArg (queryHead B.l_c128 B.l_s128 B.l_gq) (load1024 B.q 0 (by omega) _)) x).trans (tile1024_emb (fun h => queryHead B.l_c128 B.l_s128 B.l_gq (head1024 B.q h)) 0 inb_S512x1024_S512x128_0_0 x)

theorem pieces13_tiles (B : Blocks Ideal) : ∀ p ∈ pieces13 B, ∀ x : p.1.shape.Idx, p.2 x = tiles13 B (p.1.emb x) := by
  intro p hp
  unfold pieces13 at hp
  simp only [List.mem_cons, List.not_mem_nil, or_false] at hp
  rcases hp with rfl | rfl
  · exact fun x => (congrFun (congrArg (keyHead B.l_c128 B.l_s128 B.l_gk) (load256 B.k 1 (by omega) _)) x).trans (tile256_emb (fun h => keyHead B.l_c128 B.l_s128 B.l_gk (head256 B.k h)) 1 inb_S512x256_S512x128_0_128 x)
  · exact fun x => (congrFun (congrArg (keyHead B.l_c128 B.l_s128 B.l_gk) (load256 B.k 0 (by omega) _)) x).trans (tile256_emb (fun h => keyHead B.l_c128 B.l_s128 B.l_gk (head256 B.k h)) 0 inb_S512x256_S512x128_0_0 x)

theorem pieces14_tiles (B : Blocks Ideal) : ∀ p ∈ pieces14 B, ∀ x : p.1.shape.Idx, p.2 x = tiles14 B (p.1.emb x) := by
  intro p hp
  unfold pieces14 at hp
  simp only [List.mem_cons, List.not_mem_nil, or_false] at hp
  rcases hp with rfl | rfl
  · exact fun x => (congrFun (congrArg ((fun z => truncf (F := Ideal) .bf16 (keyHead B.l_c128 B.l_s128 B.l_gk z) bitsLt_bf16_f32)) (load256 B.k 1 (by omega) _)) x).trans (tile256_emb (fun h => truncf (F := Ideal) .bf16 (keyHead B.l_c128 B.l_s128 B.l_gk (head256 B.k h)) bitsLt_bf16_f32) 1 inb_S512x256_S512x128_0_128 x)
  · exact fun x => (congrFun (congrArg ((fun z => truncf (F := Ideal) .bf16 (keyHead B.l_c128 B.l_s128 B.l_gk z) bitsLt_bf16_f32)) (load256 B.k 0 (by omega) _)) x).trans (tile256_emb (fun h => truncf (F := Ideal) .bf16 (keyHead B.l_c128 B.l_s128 B.l_gk (head256 B.k h)) bitsLt_bf16_f32) 0 inb_S512x256_S512x128_0_0 x)

theorem pieces15_tiles (B : Blocks Ideal) : ∀ p ∈ pieces15 B, ∀ x : p.1.shape.Idx, p.2 x = tiles15 B (p.1.emb x) := by
  intro p hp
  unfold pieces15 at hp
  simp only [List.mem_cons, List.not_mem_nil, or_false] at hp
  rcases hp with rfl | rfl | rfl | rfl
  · exact fun x => tile512_emb (valueTile B) 3 inb_S512x512_S512x128_0_384 x
  · exact fun x => (congrFun (congrArg ((fun z => truncf (F := Ideal) .bf16 z bitsLt_bf16_f32)) (load256 B.v 1 (by omega) _)) x).trans (tile512_emb (valueTile B) 2 inb_S512x512_S512x128_0_256 x)
  · exact fun x => tile512_emb (valueTile B) 1 inb_S512x512_S512x128_0_128 x
  · exact fun x => (congrFun (congrArg ((fun z => truncf (F := Ideal) .bf16 z bitsLt_bf16_f32)) (load256 B.v 0 (by omega) _)) x).trans (tile512_emb (valueTile B) 0 inb_S512x512_S512x128_0_0 x)

theorem pieces16_tiles (B : Blocks Ideal) : ∀ p ∈ pieces16 B, ∀ x : p.1.shape.Idx, p.2 x = tiles16 B (p.1.emb x) := by
  intro p hp
  unfold pieces16 at hp
  simp only [List.mem_cons, List.not_mem_nil, or_false] at hp
  rcases hp with rfl | rfl | rfl | rfl
  · exact fun x => (congrFun (congrArg ((fun z => truncf (F := Ideal) .bf16 (indexHeads B.l_c64 B.l_s64 z) bitsLt_bf16_f32)) (load512 B.qi 3 (by omega) _)) x).trans (tile512_emb (fun h => truncf (F := Ideal) .bf16 (indexHeads B.l_c64 B.l_s64 (head512 B.qi h)) bitsLt_bf16_f32) 3 inb_S512x512_S512x128_0_384 x)
  · exact fun x => (congrFun (congrArg ((fun z => truncf (F := Ideal) .bf16 (indexHeads B.l_c64 B.l_s64 z) bitsLt_bf16_f32)) (load512 B.qi 2 (by omega) _)) x).trans (tile512_emb (fun h => truncf (F := Ideal) .bf16 (indexHeads B.l_c64 B.l_s64 (head512 B.qi h)) bitsLt_bf16_f32) 2 inb_S512x512_S512x128_0_256 x)
  · exact fun x => (congrFun (congrArg ((fun z => truncf (F := Ideal) .bf16 (indexHeads B.l_c64 B.l_s64 z) bitsLt_bf16_f32)) (load512 B.qi 1 (by omega) _)) x).trans (tile512_emb (fun h => truncf (F := Ideal) .bf16 (indexHeads B.l_c64 B.l_s64 (head512 B.qi h)) bitsLt_bf16_f32) 1 inb_S512x512_S512x128_0_128 x)
  · exact fun x => (congrFun (congrArg ((fun z => truncf (F := Ideal) .bf16 (indexHeads B.l_c64 B.l_s64 z) bitsLt_bf16_f32)) (load512 B.qi 0 (by omega) _)) x).trans (tile512_emb (fun h => truncf (F := Ideal) .bf16 (indexHeads B.l_c64 B.l_s64 (head512 B.qi h)) bitsLt_bf16_f32) 0 inb_S512x512_S512x128_0_0 x)

theorem pieces19_tiles (B : Blocks Ideal) : ∀ p ∈ pieces19 B, ∀ x : p.1.shape.Idx, p.2 x = tiles19 B (p.1.emb x) := by
  intro p hp
  unfold pieces19 at hp
  simp only [List.mem_cons, List.not_mem_nil, or_false] at hp
  rcases hp with rfl | rfl
  · intro x
    refine Eq.trans ?_ (tileT_emb (fun h => truncf (F := Ideal) .bf16 (keyHead B.l_c128 B.l_s128 B.l_gk (head256 B.k h)) bitsLt_bf16_f32) 1 inb_S256x512_S128x512_128_0 x)
    refine (congrFun (congrArg (fun z => truncf (F := Ideal) .bf16 (transpose S128x512 [1, 0] (keyHead B.l_c128 B.l_s128 B.l_gk z) transposes_S512x128_p1_0_S128x512) bitsLt_bf16_f32) (load256 B.k 1 (by omega) _)) x).trans ?_
    obtain ⟨a, b, rfl⟩ : ∃ (a : Fin 128) (b : Fin 512), x = ix2 a b := ⟨x 0, x 1, funext fun a => by fin_cases a <;> rfl⟩
    pointwise
  · intro x
    refine Eq.trans ?_ (tileT_emb (fun h => truncf (F := Ideal) .bf16 (keyHead B.l_c128 B.l_s128 B.l_gk (head256 B.k h)) bitsLt_bf16_f32) 0 inb_S256x512_S128x512_0_0 x)
    refine (congrFun (congrArg (fun z => truncf (F := Ideal) .bf16 (transpose S128x512 [1, 0] (keyHead B.l_c128 B.l_s128 B.l_gk z) transposes_S512x128_p1_0_S128x512) bitsLt_bf16_f32) (load256 B.k 0 (by omega) _)) x).trans ?_
    obtain ⟨a, b, rfl⟩ : ∃ (a : Fin 128) (b : Fin 512), x = ix2 a b := ⟨x 0, x 1, funext fun a => by fin_cases a <;> rfl⟩
    pointwise

/-! What a point leaves in each result's block. -/

theorem left12 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles12 ⟨x0, x1, x2, x3, x4, x5, x6, x7, x8, x9, x10, x11⟩ := by
  have cov := cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_12
  rw [View.read_writes_junk_eq_canon]
  rw [run] at cov ⊢
  simp only [readBlocks, Memref.IsWhole.read_unread] at cov ⊢
  exact funext fun y => View.canon_apply_of_pieces _ _ (pieces12_tiles _) y (cov y)

theorem left13 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles13 ⟨x0, x1, x2, x3, x4, x5, x6, x7, x8, x9, x10, x11⟩ := by
  have cov := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_13
  rw [View.read_writes_junk_eq_canon]
  rw [run] at cov ⊢
  simp only [readBlocks, Memref.IsWhole.read_unread] at cov ⊢
  exact funext fun y => View.canon_apply_of_pieces _ _ (pieces13_tiles _) y (cov y)

theorem left14 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles14 ⟨x0, x1, x2, x3, x4, x5, x6, x7, x8, x9, x10, x11⟩ := by
  have cov := cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_14
  rw [View.read_writes_junk_eq_canon]
  rw [run] at cov ⊢
  simp only [readBlocks, Memref.IsWhole.read_unread] at cov ⊢
  exact funext fun y => View.canon_apply_of_pieces _ _ (pieces14_tiles _) y (cov y)

theorem left15 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles15 ⟨x0, x1, x2, x3, x4, x5, x6, x7, x8, x9, x10, x11⟩ := by
  have cov := cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_15
  rw [View.read_writes_junk_eq_canon]
  rw [run] at cov ⊢
  simp only [readBlocks, Memref.IsWhole.read_unread] at cov ⊢
  exact funext fun y => View.canon_apply_of_pieces _ _ (pieces15_tiles _) y (cov y)

theorem left16 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles16 ⟨x0, x1, x2, x3, x4, x5, x6, x7, x8, x9, x10, x11⟩ := by
  have cov := cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_16
  rw [View.read_writes_junk_eq_canon]
  rw [run] at cov ⊢
  simp only [readBlocks, Memref.IsWhole.read_unread] at cov ⊢
  exact funext fun y => View.canon_apply_of_pieces _ _ (pieces16_tiles _) y (cov y)

theorem left17 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles17 ⟨x0, x1, x2, x3, x4, x5, x6, x7, x8, x9, x10, x11⟩ := by
  have cov := cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_17
  rw [View.read_writes_junk_eq_canon]
  rw [run] at cov ⊢
  simp only [readBlocks, Memref.IsWhole.read_unread] at cov ⊢
  exact View.canon_unit_zero (Val := Elt Ideal) (e := .f32) (S := S512x64) (off := ![0, 0]) zero2 _ _

theorem left18 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles18 ⟨x0, x1, x2, x3, x4, x5, x6, x7, x8, x9, x10, x11⟩ := by
  have cov := cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_18
  rw [View.read_writes_junk_eq_canon]
  rw [run] at cov ⊢
  simp only [readBlocks, Memref.IsWhole.read_unread] at cov ⊢
  exact View.canon_unit_zero (Val := Elt Ideal) (e := .bf16) (S := S512x64) (off := ![0, 0]) zero2 _ _

theorem left19 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles19 ⟨x0, x1, x2, x3, x4, x5, x6, x7, x8, x9, x10, x11⟩ := by
  have cov := cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_19
  rw [View.read_writes_junk_eq_canon]
  rw [run] at cov ⊢
  simp only [readBlocks, Memref.IsWhole.read_unread] at cov ⊢
  exact funext fun y => View.canon_apply_of_pieces _ _ (pieces19_tiles _) y (cov y)

theorem left20 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x64 .f32) (harg18 : arg18.IsWhole) (arg19 : Memref sig .tc .vmem S512x64 .bf16) (harg19 : arg19.IsWhole) (arg20 : Memref sig .tc .vmem S256x512 .bf16) (harg20 : arg20.IsWhole) (arg21 : Memref sig .tc .vmem S64x512 .bf16) (harg21 : arg21.IsWhole)
    (x0 : Vec Ideal S512x1024 .f32) (x1 : Vec Ideal S512x256 .f32) (x2 : Vec Ideal S512x256 .f32) (x3 : Vec Ideal S512x512 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x128 .f32) (x10 : Vec Ideal S1x128 .f32) (x11 : Vec Ideal S1x128 .f32) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 = tiles20 ⟨x0, x1, x2, x3, x4, x5, x6, x7, x8, x9, x10, x11⟩ := by
  have cov := cover0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  have run := run20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11
  unfold out0_A_20
  rw [View.read_writes_junk_eq_canon]
  rw [run] at cov ⊢
  simp only [readBlocks, Memref.IsWhole.read_unread] at cov ⊢
  exact View.canon_unit_zero (Val := Elt Ideal) (e := .bf16) (S := S64x512) (off := ![0, 0]) zero2 _ _

end Prep

end
-- ==== Proof.PrepKernel.lean ====
/- What a point of the preparation computes, element by element, from what its blocks hold. -/
module

public import proofs.«01_k».proof.Proof.PrepBlocks
public import proofs.«01_k».proof.Proof.PrepWhat

@[expose] public section

set_option maxRecDepth 16384

noncomputable section

namespace Prep

open Idealize.ShloMosaic Idealize.ShloMosaic.TcCoe Cert.PrepIdeal Cert.PrepIdeal.Gen

/-- A key head at a row: the projection's head normed and turned by the row's angles. -/
theorem keyHead_at (P : S16896x9728.Idx → EReal) (gg : S128.Idx → EReal) (r : Fin 16896) (b : ℕ) (c s : FVec Ideal S512x128 .f32) (g : FVec Ideal S1x128 .f32) (x : FVec Ideal S512x128 .f32)
    (i : Fin 512) (hc : ∀ l : Fin 128, c (ix2 i l) = cos64 r (l.val % 64)) (hs : ∀ l : Fin 128, s (ix2 i l) = (if l.val < 64 then -(sin64 r l.val) else sin64 r (l.val - 64) : EReal))
    (hg : ∀ l : Fin 128, g (ix2 0 l) = gg (ix1 l)) (hx : ∀ l : Fin 128, x (ix2 i l) = col P r (b + l.val)) (l : Fin 128) :
    keyHead c s g x (ix2 i l) = turned 64 (normedHead 128 (Ideal.ofBits .f32 0x43000000#32) P (fun k => gg (ix1 k)) r b) (cos64 r) (sin64 r) l.val := by
  have hc' : k0_pay5 (F := Ideal) c (ix2 i l) = cos64 r (l.val % 64) := by
    rw [← hc l]
    pointwise [k0_pay5]
  have hs' : k0_pay6 (F := Ideal) s (ix2 i l) = (if l.val < 64 then -(sin64 r l.val) else sin64 r (l.val - 64) : EReal) := by
    rw [← hs l]
    pointwise [k0_pay6]
  have hn : ∀ k : Fin 128, normed (k0_pay10 g) x (ix2 i k) = normedHead 128 (Ideal.ofBits .f32 0x43000000#32) P (fun k => gg (ix1 k)) r b k.val := fun k => by
    have hg' : k0_pay10 (F := Ideal) g (ix2 0 k) = gg (ix1 k) := by
      rw [← hg k]
      pointwise [k0_pay10]
    rw [normed_at, hg', ext0_fin (fun k => gg (ix1 k)) k]
    simp only [hx]
    rfl
  unfold keyHead
  rw [turn_at, hc', hs', hn, hn]
  exact turn128 _ _ _ l.val l.isLt

/-- Two index heads side by side, at a lane: its own head turned. -/
theorem indexHead_at (r : Fin 16896) (f : ℕ → EReal) (c s x : FVec Ideal S512x128 .f32) (i : Fin 512) (l : Fin 128)
    (hc : ∀ l : Fin 128, c (ix2 i l) = cos32 r (l.val % 32)) (hs : ∀ l : Fin 128, s (ix2 i l) = (if l.val % 64 < 32 then -(sin32 r (l.val % 32)) else sin32 r (l.val % 32) : EReal))
    (hx : ∀ k : Fin 128, k.val / 64 = l.val / 64 → x (ix2 i k) = f (k.val % 64)) :
    indexHeads c s x (ix2 i l) = turned 32 f (cos32 r) (sin32 r) (l.val % 64) := by
  rw [indexHeads_at, hc, hs, hx l rfl, ← turn64 f (cos32 r) (sin32 r) (l.val % 64) (Nat.mod_lt _ (by omega)), show l.val % 64 % 32 = l.val % 32 by omega]
  have hl : l.val < 128 := l.isLt
  by_cases h : l.val % 64 < 32
  · rw [if_pos h, if_pos h, if_pos h, hx _ (by show (l.val + 128 - 96) % 128 / 64 = _; omega)]
    rw [show (l.val + 128 - 96) % 128 % 64 = l.val % 64 + 32 by omega]
  · rw [if_neg h, if_neg h, if_neg h, hx _ (by show (l.val + 128 - 32) % 128 / 64 = _; omega)]
    rw [show (l.val + 128 - 32) % 128 % 64 = l.val % 64 - 32 by omega]

/-- What the blocks of a point hold: the projection's columns, the tables and the gains, at the rows `R`. -/
structure Holds (B : Blocks Ideal) (P : S16896x9728.Idx → EReal) (gq gk : S128.Idx → EReal) (gki : S64.Idx → EReal) (R : Fin 512 → Fin 16896) : Prop where
  q : ∀ i k, B.q (ix2 i k) = col P (R i) (3072 + k.val)
  k : ∀ i k, B.k (ix2 i k) = col P (R i) (4096 + k.val)
  v : ∀ i k, B.v (ix2 i k) = col P (R i) (4352 + k.val)
  qi : ∀ i k, B.qi (ix2 i k) = col P (R i) (4608 + k.val)
  sm : ∀ i k, B.sm (ix2 i k) = col P (R i) (9216 + k.val)
  c128 : ∀ i (l : Fin 128), B.c128 (ix2 i l) = cos64 (R i) (l.val % 64)
  s128 : ∀ i (l : Fin 128), B.s128 (ix2 i l) = (if l.val < 64 then -(sin64 (R i) l.val) else sin64 (R i) (l.val - 64) : EReal)
  c64 : ∀ i (l : Fin 128), B.c64 (ix2 i l) = cos32 (R i) (l.val % 32)
  s64 : ∀ i (l : Fin 128), B.s64 (ix2 i l) = (if l.val % 64 < 32 then -(sin32 (R i) (l.val % 32)) else sin32 (R i) (l.val % 32) : EReal)
  gq : ∀ l : Fin 128, B.gq (ix2 0 l) = gq (ix1 l)
  gk : ∀ l : Fin 128, B.gk (ix2 0 l) = gk (ix1 l)
  gki : ∀ (l : Fin 128) (h : l.val < 64), B.gki (ix2 0 l) = gki (ix1 ⟨l.val, h⟩)

variable {B : Blocks Ideal} {P : S16896x9728.Idx → EReal} {gq gk : S128.Idx → EReal} {gki : S64.Idx → EReal} {R : Fin 512 → Fin 16896}

theorem tiles12_at (H : Holds B P gq gk gki R) (i : Fin 512) (j : Fin 1024) :
    tiles12 B (ix2 i j) = (valueK' P gq 3072 (R i) j.val * Ideal.ofBits .f32 0x3E0293EE#32 : EReal) := by
  have hj : j.val < 1024 := j.isLt
  refine congrArg (· * Ideal.ofBits .f32 0x3E0293EE#32) (keyHead_at P gq (R i) (3072 + j.val / 128 * 128) B.l_c128 B.l_s128 B.l_gq (head1024 B.q (j.val / 128)) i ?_ ?_ ?_ ?_ ⟨j.val % 128, Nat.mod_lt _ (by omega)⟩)
  · exact fun l => (congrFun (whole _ _) _).trans (H.c128 i l)
  · exact fun l => (congrFun (whole _ _) _).trans (H.s128 i l)
  · exact fun l => (congrFun (wholeG _ _) _).trans (H.gq l)
  · refine fun l => (H.q i ⟨(128 * (j.val / 128) + l.val) % 1024, Nat.mod_lt _ (by omega)⟩).trans (congrArg (col P (R i)) ?_)
    show 3072 + (128 * (j.val / 128) + l.val) % 1024 = _
    omega

theorem tiles13_at (H : Holds B P gq gk gki R) (i : Fin 512) (j : Fin 256) : tiles13 B (ix2 i j) = valueK' P gk 4096 (R i) j.val := by
  have hj : j.val < 256 := j.isLt
  refine keyHead_at P gk (R i) (4096 + j.val / 128 * 128) B.l_c128 B.l_s128 B.l_gk (head256 B.k (j.val / 128)) i ?_ ?_ ?_ ?_ ⟨j.val % 128, Nat.mod_lt _ (by omega)⟩
  · exact fun l => (congrFun (whole _ _) _).trans (H.c128 i l)
  · exact fun l => (congrFun (whole _ _) _).trans (H.s128 i l)
  · exact fun l => (congrFun (wholeG _ _) _).trans (H.gk l)
  · refine fun l => (H.k i ⟨(128 * (j.val / 128) + l.val) % 256, Nat.mod_lt _ (by omega)⟩).trans (congrArg (col P (R i)) ?_)
    show 4096 + (128 * (j.val / 128) + l.val) % 256 = _
    omega

theorem tiles14_at (H : Holds B P gq gk gki R) (i : Fin 512) (j : Fin 256) : tiles14 B (ix2 i j) = valueK' P gk 4096 (R i) j.val := tiles13_at H i j

theorem tiles19_at (H : Holds B P gq gk gki R) (i : Fin 512) (j : Fin 256) : tiles19 B (ix2 j i) = valueK' P gk 4096 (R i) j.val := tiles13_at H i j

/-- One, in the narrow format. -/
theorem one16 : Ideal.ofBits .bf16 0x3F80#16 = 1 := by
  simp [Ideal.ofBits, Ideal.ieee]
  rw [← EReal.coe_mul]
  norm_num

theorem tiles15_at (H : Holds B P gq gk gki R) (i : Fin 512) (j : Fin 512) :
    tiles15 B (ix2 i j) = (if j.val % 256 < 128 then col P (R i) (4352 + (j.val / 256 * 128 + j.val % 256)) else 1 : EReal) := by
  have hj : j.val < 512 := j.isLt
  show valueTile B (j.val / 128) (ix2 i ⟨j.val % 128, Nat.mod_lt _ (by omega)⟩) = _
  rcases (by omega : j.val / 128 = 0 ∨ j.val / 128 = 1 ∨ j.val / 128 = 2 ∨ j.val / 128 = 3) with h | h | h | h
  · rw [h, if_pos (by omega)]
    refine (H.v i ⟨(128 * 0 + j.val % 128) % 256, Nat.mod_lt _ (by omega)⟩).trans (congrArg (col P (R i)) ?_)
    show 4352 + (128 * 0 + j.val % 128) % 256 = _
    omega
  · rw [h, if_neg (by omega)]
    exact one16
  · rw [h, if_pos (by omega)]
    refine (H.v i ⟨(128 * 1 + j.val % 128) % 256, Nat.mod_lt _ (by omega)⟩).trans (congrArg (col P (R i)) ?_)
    show 4352 + (128 * 1 + j.val % 128) % 256 = _
    omega
  · rw [h, if_neg (by omega)]
    exact one16

theorem tiles16_at (H : Holds B P gq gk gki R) (i : Fin 512) (j : Fin 512) :
    tiles16 B (ix2 i j) = turned 32 (fun l => col P (R i) (4608 + (j.val / 64 * 64 + l))) (cos32 (R i)) (sin32 (R i)) (j.val % 64) := by
  have hj : j.val < 512 := j.isLt
  have key := indexHead_at (R i) (fun l => col P (R i) (4608 + (j.val / 64 * 64 + l))) B.l_c64 B.l_s64 (head512 B.qi (j.val / 128)) i ⟨j.val % 128, Nat.mod_lt _ (by omega)⟩
    (fun l => (congrFun (whole _ _) _).trans (H.c64 i l)) (fun l => (congrFun (whole _ _) _).trans (H.s64 i l)) (fun k hk => by
      have hk' : k.val / 64 = j.val % 128 / 64 := hk
      have hk2 : k.val < 128 := k.isLt
      refine (H.qi i ⟨(128 * (j.val / 128) + k.val) % 512, Nat.mod_lt _ (by omega)⟩).trans (congrArg (col P (R i)) ?_)
      show 4608 + (128 * (j.val / 128) + k.val) % 512 = 4608 + (j.val / 64 * 64 + k.val % 64)
      omega)
  refine key.trans ?_
  show turned 32 _ _ _ (j.val % 128 % 64) = _
  rw [show j.val % 128 % 64 = j.val % 64 by omega]

theorem indexKey_at (H : Holds B P gq gk gki R) (i : Fin 512) (j : Fin 128) (hj : j.val < 64) :
    indexKey B.l_c64 B.l_s64 B.l_gki B.l_sm (ix2 i j) = valueKi' P gki (R i) j.val := by
  have hsm : ∀ l : Fin 128, B.l_sm (ix2 i l) = col P (R i) (9216 + l.val) := fun l => (congrFun (whole _ _) _).trans (H.sm i l)
  refine (indexHead_at (R i) (normedHead 64 (Ideal.ofBits .f32 0x42800000#32) P (fun k => gki (ix1 k)) (R i) 9216) B.l_c64 B.l_s64 _ i j
    (fun l => (congrFun (whole _ _) _).trans (H.c64 i l)) (fun l => (congrFun (whole _ _) _).trans (H.s64 i l)) (fun k hk => ?_)).trans ?_
  · have hk' : k.val < 64 := by omega
    have hg : B.l_gki (ix2 0 k) = gki (ix1 ⟨k.val, hk'⟩) := (congrFun (wholeG _ _) _).trans (H.gki k hk')
    rw [small_at, hg, Nat.mod_eq_of_lt hk']
    simp only [hsm]
    unfold normedHead
    rw [ext0_of _ _ hk']
  · rw [Nat.mod_eq_of_lt hj]
    rfl

theorem tiles17_at (H : Holds B P gq gk gki R) (i : Fin 512) (j : Fin 64) : tiles17 B (ix2 i j) = valueKi' P gki (R i) j.val := by
  refine Eq.trans ?_ (indexKey_at H i ⟨j.val, by omega⟩ j.isLt)
  pointwise [tiles17]

theorem tiles18_at (H : Holds B P gq gk gki R) (i : Fin 512) (j : Fin 64) : tiles18 B (ix2 i j) = valueKi' P gki (R i) j.val := tiles17_at H i j

theorem tiles20_at (H : Holds B P gq gk gki R) (i : Fin 512) (j : Fin 64) : tiles20 B (ix2 j i) = valueKi' P gki (R i) j.val := by
  refine Eq.trans ?_ (indexKey_at H i ⟨j.val, by omega⟩ j.isLt)
  have e : tiles20 B = truncf .bf16 (extractStridedSlice S64x512 ![0, 0] (transpose S128x512 [1, 0] (indexKey B.l_c64 B.l_s64 B.l_gki B.l_sm) transposes_S512x128_p1_0_S128x512) slices_S128x512_o0_0_S64x512) bitsLt_bf16_f32 := rfl
  rw [e]
  pointwise

end Prep

end
-- ==== Proof.PrepStaged.lean ====
/- What the preparation's blocks hold at a point of the grid. -/
module

public import proofs.«01_k».proof.Proof.PrepTables
public import proofs.«01_k».proof.Proof.PrepKernel
public import Idealize.ShloMosaic.Lib.Pipeline.ValueKit

@[expose] public section

set_option maxRecDepth 16384

noncomputable section

namespace Prep

open Idealize.ShloMosaic Idealize.ShloMosaic.TcCoe Cert.PrepIdeal Cert.PrepIdeal.Gen Cert.PrepIdeal.Value

variable (m : (ℓ : Loc nD τ sig) → Buf (Elt Ideal) ℓ)

/-- The block every window names at a point. -/
theorem idx : ∀ t : Fin cfg0.N, win0_0.index t = ![t.val, 3] ∧ win0_1.index t = ![t.val, 16] ∧ win0_2.index t = ![t.val, 17] ∧ win0_3.index t = ![t.val, 9] ∧ win0_4.index t = ![t.val, 72]
    ∧ win0_5.index t = ![t.val, 0] ∧ win0_6.index t = ![t.val, 0] ∧ win0_7.index t = ![t.val, 0] ∧ win0_8.index t = ![t.val, 0]
    ∧ win0_9.index t = ![0, 0] ∧ win0_10.index t = ![0, 0] ∧ win0_11.index t = ![0, 0] :=
  (by decide +kernel : ∀ t : Fin grid0.N, _)

theorem idxOut : ∀ t : Fin cfg0.N, win0_12.index t = ![t.val, 0] ∧ win0_13.index t = ![t.val, 0] ∧ win0_14.index t = ![t.val, 0] ∧ win0_15.index t = ![t.val, 0] ∧ win0_16.index t = ![t.val, 0]
    ∧ win0_17.index t = ![t.val, 0] ∧ win0_18.index t = ![t.val, 0] ∧ win0_19.index t = ![0, t.val] ∧ win0_20.index t = ![0, t.val] :=
  (by decide +kernel : ∀ t : Fin grid0.N, _)

/-- The row of the arrays a row of a point's block is. -/
def rowOf (t : Fin cfg0.N) (i : Fin 512) : Fin 16896 := ⟨512 * t.val + i.val, by have h : cfg0.N = 33 := N_0; omega⟩

theorem col_eq (P : S16896x9728.Idx → EReal) (r : Fin 16896) (k : ℕ) (h : k < 9728) : col P r k = P (ix2 r ⟨k, h⟩) := ext0_of _ _ h

theorem q_at (c : Dev nD) (t : Fin cfg0.N) (i : Fin 512) (k : Fin 1024) : X0_0 m c t (ix2 i k) = col (m ((c : Thread nD τ).loc main_arg0)) (rowOf t i) (3072 + k.val) := by
  rw [col_eq _ _ _ (by omega)]
  unfold rowOf
  unfold X0_0 Pipeline.Window.fill
  rw [dif_pos (moved0_0 t (ix2 i k))]
  blk_ext [iblk, V, idx t]

theorem k_at (c : Dev nD) (t : Fin cfg0.N) (i : Fin 512) (k : Fin 256) : iblk m c 1 t (ix2 i k) = col (m ((c : Thread nD τ).loc main_arg0)) (rowOf t i) (4096 + k.val) := by
  rw [col_eq _ _ _ (by omega)]
  unfold rowOf
  blk_ext [iblk, V, idx t]

theorem v_at (c : Dev nD) (t : Fin cfg0.N) (i : Fin 512) (k : Fin 256) : iblk m c 2 t (ix2 i k) = col (m ((c : Thread nD τ).loc main_arg0)) (rowOf t i) (4352 + k.val) := by
  rw [col_eq _ _ _ (by omega)]
  unfold rowOf
  blk_ext [iblk, V, idx t]

theorem qi_at (c : Dev nD) (t : Fin cfg0.N) (i : Fin 512) (k : Fin 512) : iblk m c 3 t (ix2 i k) = col (m ((c : Thread nD τ).loc main_arg0)) (rowOf t i) (4608 + k.val) := by
  rw [col_eq _ _ _ (by omega)]
  unfold rowOf
  blk_ext [iblk, V, idx t]

theorem sm_at (c : Dev nD) (t : Fin cfg0.N) (i : Fin 512) (k : Fin 128) : iblk m c 4 t (ix2 i k) = col (m ((c : Thread nD τ).loc main_arg0)) (rowOf t i) (9216 + k.val) := by
  rw [col_eq _ _ _ (by omega)]
  unfold rowOf
  blk_ext [iblk, V, idx t]

theorem c128_block (c : Dev nD) (t : Fin cfg0.N) (i : Fin 512) (l : Fin 128) : iblk m c 5 t (ix2 i l) = cos64 (rowOf t i) (l.val % 64) := by
  have e : ((cfg0.win 5).blk t).view.emb (ix2 i l) = ix2 (rowOf t i) l := by
    unfold rowOf
    blk_ext [idx t]
  show V m c main_v28 (((cfg0.win 5).blk t).view.emb (ix2 i l)) = _
  rw [e, c128_at]

theorem s128_block (c : Dev nD) (t : Fin cfg0.N) (i : Fin 512) (l : Fin 128) : iblk m c 6 t (ix2 i l) = (if l.val < 64 then -(sin64 (rowOf t i) l.val) else sin64 (rowOf t i) (l.val - 64) : EReal) := by
  have e : ((cfg0.win 6).blk t).view.emb (ix2 i l) = ix2 (rowOf t i) l := by
    unfold rowOf
    blk_ext [idx t]
  show V m c main_v33 (((cfg0.win 6).blk t).view.emb (ix2 i l)) = _
  rw [e, s128_at]

theorem c64_block (c : Dev nD) (t : Fin cfg0.N) (i : Fin 512) (l : Fin 128) : iblk m c 7 t (ix2 i l) = cos32 (rowOf t i) (l.val % 32) := by
  have e : ((cfg0.win 7).blk t).view.emb (ix2 i l) = ix2 (rowOf t i) l := by
    unfold rowOf
    blk_ext [idx t]
  show V m c main_v51 (((cfg0.win 7).blk t).view.emb (ix2 i l)) = _
  rw [e, c64_at]

theorem s64_block (c : Dev nD) (t : Fin cfg0.N) (i : Fin 512) (l : Fin 128) : iblk m c 8 t (ix2 i l) = (if l.val % 64 < 32 then -(sin32 (rowOf t i) (l.val % 32)) else sin32 (rowOf t i) (l.val % 32) : EReal) := by
  have e : ((cfg0.win 8).blk t).view.emb (ix2 i l) = ix2 (rowOf t i) l := by
    unfold rowOf
    blk_ext [idx t]
  show V m c main_v56 (((cfg0.win 8).blk t).view.emb (ix2 i l)) = _
  rw [e, s64_at]

theorem gq_block (c : Dev nD) (t : Fin cfg0.N) (l : Fin 128) : iblk m c 9 t (ix2 0 l) = m ((c : Thread nD τ).loc main_arg1) (ix1 l) := by
  have e : ((cfg0.win 9).blk t).view.emb (ix2 0 l) = ix2 0 l := by blk_ext [idx t]
  show V m c main_v59 (((cfg0.win 9).blk t).view.emb (ix2 0 l)) = _
  rw [e, gq_at]

theorem gk_block (c : Dev nD) (t : Fin cfg0.N) (l : Fin 128) : iblk m c 10 t (ix2 0 l) = m ((c : Thread nD τ).loc main_arg2) (ix1 l) := by
  have e : ((cfg0.win 10).blk t).view.emb (ix2 0 l) = ix2 0 l := by blk_ext [idx t]
  show V m c main_v60 (((cfg0.win 10).blk t).view.emb (ix2 0 l)) = _
  rw [e, gk_at]

theorem gki_block (c : Dev nD) (t : Fin cfg0.N) (l : Fin 128) (h : l.val < 64) : iblk m c 11 t (ix2 0 l) = m ((c : Thread nD τ).loc main_arg3) (ix1 ⟨l.val, h⟩) := by
  have e : ((cfg0.win 11).blk t).view.emb (ix2 0 l) = ix2 0 l := by blk_ext [idx t]
  show V m c main_v58 (((cfg0.win 11).blk t).view.emb (ix2 0 l)) = _
  rw [e, gki_at m c l h]

end Prep

end
-- ==== Proof.PrepResults.lean ====
/- The nine result arrays of the preparation. -/
module

public import proofs.«01_k».proof.Proof.PrepStaged

@[expose] public section

set_option maxRecDepth 16384

noncomputable section

namespace Prep

open Idealize.ShloMosaic Idealize.ShloMosaic.TcCoe Cert.PrepIdeal Cert.PrepIdeal.Gen Cert.PrepIdeal.Value

variable (m : (ℓ : Loc nD τ sig) → Buf (Elt Ideal) ℓ)

/-- The blocks a point reads. -/
def blocksAt (c : Dev nD) (t : Fin cfg0.N) : Blocks Ideal :=
  ⟨X0_0 m c t, iblk m c 1 t, iblk m c 2 t, iblk m c 3 t, iblk m c 4 t, iblk m c 5 t, iblk m c 6 t, iblk m c 7 t, iblk m c 8 t, iblk m c 9 t, iblk m c 10 t, iblk m c 11 t⟩

theorem holds_of (B : Blocks Ideal) (c : Dev nD) (t : Fin cfg0.N) (x0 : B.q = X0_0 m c t) (x1 : B.k = iblk m c 1 t) (x2 : B.v = iblk m c 2 t) (x3 : B.qi = iblk m c 3 t) (x4 : B.sm = iblk m c 4 t)
    (x5 : B.c128 = iblk m c 5 t) (x6 : B.s128 = iblk m c 6 t) (x7 : B.c64 = iblk m c 7 t) (x8 : B.s64 = iblk m c 8 t) (x9 : B.gq = iblk m c 9 t) (x10 : B.gk = iblk m c 10 t) (x11 : B.gki = iblk m c 11 t) :
    Holds B (m ((c : Thread nD τ).loc main_arg0)) (m ((c : Thread nD τ).loc main_arg1)) (m ((c : Thread nD τ).loc main_arg2)) (m ((c : Thread nD τ).loc main_arg3)) (rowOf t) := by
  refine ⟨?_, ?_, ?_, ?_, ?_, ?_, ?_, ?_, ?_, ?_, ?_, ?_⟩
  · exact fun i k => (congrFun x0 (ix2 i k)).trans (q_at m c t i k)
  · exact fun i k => (congrFun x1 (ix2 i k)).trans (k_at m c t i k)
  · exact fun i k => (congrFun x2 (ix2 i k)).trans (v_at m c t i k)
  · exact fun i k => (congrFun x3 (ix2 i k)).trans (qi_at m c t i k)
  · exact fun i k => (congrFun x4 (ix2 i k)).trans (sm_at m c t i k)
  · exact fun i k => (congrFun x5 (ix2 i k)).trans (c128_block m c t i k)
  · exact fun i k => (congrFun x6 (ix2 i k)).trans (s128_block m c t i k)
  · exact fun i k => (congrFun x7 (ix2 i k)).trans (c64_block m c t i k)
  · exact fun i k => (congrFun x8 (ix2 i k)).trans (s64_block m c t i k)
  · exact fun l => (congrFun x9 (ix2 0 l)).trans (gq_block m c t l)
  · exact fun l => (congrFun x10 (ix2 0 l)).trans (gk_block m c t l)
  · exact fun l h => (congrFun x11 (ix2 0 l)).trans (gki_block m c t l h)

theorem holds (c : Dev nD) (t : Fin cfg0.N) :
    Holds (blocksAt m c t) (m ((c : Thread nD τ).loc main_arg0)) (m ((c : Thread nD τ).loc main_arg1)) (m ((c : Thread nD τ).loc main_arg2)) (m ((c : Thread nD τ).loc main_arg3)) (rowOf t) := by
  refine holds_of m _ c t ?_ ?_ ?_ ?_ ?_ ?_ ?_ ?_ ?_ ?_ ?_ ?_ <;>
    (unfold blocksAt; with_reducible rfl)

/-- Every row is a row of some point's block. -/
theorem row_split (r : Fin 16896) : ∃ (t : Fin cfg0.N) (i : Fin 512), rowOf t i = r := by
  have hN : cfg0.N = 33 := N_0
  exact ⟨⟨r.val / 512, by omega⟩, ⟨r.val % 512, by omega⟩, Fin.ext (by show 512 * (r.val / 512) + r.val % 512 = r.val; omega)⟩

/-! The result arrays. -/

theorem result12 (c : Dev nD) : (dats m 0 c).arrAt 12 cfg0.N = valueQ (m ((c : Thread nD τ).loc main_arg0)) (m ((c : Thread nD τ).loc main_arg1)) := by
  funext y
  obtain ⟨r, l, rfl⟩ : ∃ (r : Fin 16896) (l : Fin 1024), y = ix2 r l := ⟨y 0, y 1, funext fun a => by fin_cases a <;> rfl⟩
  obtain ⟨t, i, rfl⟩ := row_split r
  have key := congrFun (blocks12 m c t (flush0_12 t)) (ix2 i l)
  have e : ((cfg0.win 12).blk t).view.emb (ix2 i l) = ix2 (rowOf t i) l := by
    unfold rowOf
    blk_ext [idxOut t]
  have left : ((cfg0.win 12).blk t).view.read (Elt Ideal) ((dats m 0 c).arrAt 12 cfg0.N) (ix2 i l) = (dats m 0 c).arrAt 12 cfg0.N (ix2 (rowOf t i) l) :=
    congrArg ((dats m 0 c).arrAt 12 cfg0.N) e
  rw [← left, key, flushed12_A, left12]
  exact tiles12_at (holds m c t) i l

theorem result13 (c : Dev nD) : (dats m 0 c).arrAt 13 cfg0.N = valueK (m ((c : Thread nD τ).loc main_arg0)) (m ((c : Thread nD τ).loc main_arg2)) := by
  funext y
  obtain ⟨r, l, rfl⟩ : ∃ (r : Fin 16896) (l : Fin 256), y = ix2 r l := ⟨y 0, y 1, funext fun a => by fin_cases a <;> rfl⟩
  obtain ⟨t, i, rfl⟩ := row_split r
  have key := congrFun (blocks13 m c t (flush0_13 t)) (ix2 i l)
  have e : ((cfg0.win 13).blk t).view.emb (ix2 i l) = ix2 (rowOf t i) l := by
    unfold rowOf
    blk_ext [idxOut t]
  have left : ((cfg0.win 13).blk t).view.read (Elt Ideal) ((dats m 0 c).arrAt 13 cfg0.N) (ix2 i l) = (dats m 0 c).arrAt 13 cfg0.N (ix2 (rowOf t i) l) :=
    congrArg ((dats m 0 c).arrAt 13 cfg0.N) e
  rw [← left, key, flushed13_A, left13]
  exact tiles13_at (holds m c t) i l

theorem result14 (c : Dev nD) : (dats m 0 c).arrAt 14 cfg0.N = valueK (m ((c : Thread nD τ).loc main_arg0)) (m ((c : Thread nD τ).loc main_arg2)) := by
  funext y
  obtain ⟨r, l, rfl⟩ : ∃ (r : Fin 16896) (l : Fin 256), y = ix2 r l := ⟨y 0, y 1, funext fun a => by fin_cases a <;> rfl⟩
  obtain ⟨t, i, rfl⟩ := row_split r
  have key := congrFun (blocks14 m c t (flush0_14 t)) (ix2 i l)
  have e : ((cfg0.win 14).blk t).view.emb (ix2 i l) = ix2 (rowOf t i) l := by
    unfold rowOf
    blk_ext [idxOut t]
  have left : ((cfg0.win 14).blk t).view.read (Elt Ideal) ((dats m 0 c).arrAt 14 cfg0.N) (ix2 i l) = (dats m 0 c).arrAt 14 cfg0.N (ix2 (rowOf t i) l) :=
    congrArg ((dats m 0 c).arrAt 14 cfg0.N) e
  rw [← left, key, flushed14_A, left14]
  exact tiles14_at (holds m c t) i l

theorem result15 (c : Dev nD) : (dats m 0 c).arrAt 15 cfg0.N = valueV (m ((c : Thread nD τ).loc main_arg0)) := by
  funext y
  obtain ⟨r, l, rfl⟩ : ∃ (r : Fin 16896) (l : Fin 512), y = ix2 r l := ⟨y 0, y 1, funext fun a => by fin_cases a <;> rfl⟩
  obtain ⟨t, i, rfl⟩ := row_split r
  have key := congrFun (blocks15 m c t (flush0_15 t)) (ix2 i l)
  have e : ((cfg0.win 15).blk t).view.emb (ix2 i l) = ix2 (rowOf t i) l := by
    unfold rowOf
    blk_ext [idxOut t]
  have left : ((cfg0.win 15).blk t).view.read (Elt Ideal) ((dats m 0 c).arrAt 15 cfg0.N) (ix2 i l) = (dats m 0 c).arrAt 15 cfg0.N (ix2 (rowOf t i) l) :=
    congrArg ((dats m 0 c).arrAt 15 cfg0.N) e
  rw [← left, key, flushed15_A, left15]
  exact tiles15_at (holds m c t) i l

theorem result16 (c : Dev nD) : (dats m 0 c).arrAt 16 cfg0.N = valueQi (m ((c : Thread nD τ).loc main_arg0)) := by
  funext y
  obtain ⟨r, l, rfl⟩ : ∃ (r : Fin 16896) (l : Fin 512), y = ix2 r l := ⟨y 0, y 1, funext fun a => by fin_cases a <;> rfl⟩
  obtain ⟨t, i, rfl⟩ := row_split r
  have key := congrFun (blocks16 m c t (flush0_16 t)) (ix2 i l)
  have e : ((cfg0.win 16).blk t).view.emb (ix2 i l) = ix2 (rowOf t i) l := by
    unfold rowOf
    blk_ext [idxOut t]
  have left : ((cfg0.win 16).blk t).view.read (Elt Ideal) ((dats m 0 c).arrAt 16 cfg0.N) (ix2 i l) = (dats m 0 c).arrAt 16 cfg0.N (ix2 (rowOf t i) l) :=
    congrArg ((dats m 0 c).arrAt 16 cfg0.N) e
  rw [← left, key, flushed16_A, left16]
  exact tiles16_at (holds m c t) i l

theorem result17 (c : Dev nD) : (dats m 0 c).arrAt 17 cfg0.N = valueKi (m ((c : Thread nD τ).loc main_arg0)) (m ((c : Thread nD τ).loc main_arg3)) := by
  funext y
  obtain ⟨r, l, rfl⟩ : ∃ (r : Fin 16896) (l : Fin 64), y = ix2 r l := ⟨y 0, y 1, funext fun a => by fin_cases a <;> rfl⟩
  obtain ⟨t, i, rfl⟩ := row_split r
  have key := congrFun (blocks17 m c t (flush0_17 t)) (ix2 i l)
  have e : ((cfg0.win 17).blk t).view.emb (ix2 i l) = ix2 (rowOf t i) l := by
    unfold rowOf
    blk_ext [idxOut t]
  have left : ((cfg0.win 17).blk t).view.read (Elt Ideal) ((dats m 0 c).arrAt 17 cfg0.N) (ix2 i l) = (dats m 0 c).arrAt 17 cfg0.N (ix2 (rowOf t i) l) :=
    congrArg ((dats m 0 c).arrAt 17 cfg0.N) e
  rw [← left, key, flushed17_A, left17]
  exact tiles17_at (holds m c t) i l

theorem result18 (c : Dev nD) : (dats m 0 c).arrAt 18 cfg0.N = valueKi (m ((c : Thread nD τ).loc main_arg0)) (m ((c : Thread nD τ).loc main_arg3)) := by
  funext y
  obtain ⟨r, l, rfl⟩ : ∃ (r : Fin 16896) (l : Fin 64), y = ix2 r l := ⟨y 0, y 1, funext fun a => by fin_cases a <;> rfl⟩
  obtain ⟨t, i, rfl⟩ := row_split r
  have key := congrFun (blocks18 m c t (flush0_18 t)) (ix2 i l)
  have e : ((cfg0.win 18).blk t).view.emb (ix2 i l) = ix2 (rowOf t i) l := by
    unfold rowOf
    blk_ext [idxOut t]
  have left : ((cfg0.win 18).blk t).view.read (Elt Ideal) ((dats m 0 c).arrAt 18 cfg0.N) (ix2 i l) = (dats m 0 c).arrAt 18 cfg0.N (ix2 (rowOf t i) l) :=
    congrArg ((dats m 0 c).arrAt 18 cfg0.N) e
  rw [← left, key, flushed18_A, left18]
  exact tiles18_at (holds m c t) i l

theorem result19 (c : Dev nD) : (dats m 0 c).arrAt 19 cfg0.N = valueKT (m ((c : Thread nD τ).loc main_arg0)) (m ((c : Thread nD τ).loc main_arg2)) := by
  funext y
  obtain ⟨r, l, rfl⟩ : ∃ (r : Fin 16896) (l : Fin 256), y = ix2 l r := ⟨y 1, y 0, funext fun a => by fin_cases a <;> rfl⟩
  obtain ⟨t, i, rfl⟩ := row_split r
  have key := congrFun (blocks19 m c t (flush0_19 t)) (ix2 l i)
  have e : ((cfg0.win 19).blk t).view.emb (ix2 l i) = ix2 l (rowOf t i) := by
    unfold rowOf
    blk_ext [idxOut t]
  have left : ((cfg0.win 19).blk t).view.read (Elt Ideal) ((dats m 0 c).arrAt 19 cfg0.N) (ix2 l i) = (dats m 0 c).arrAt 19 cfg0.N (ix2 l (rowOf t i)) :=
    congrArg ((dats m 0 c).arrAt 19 cfg0.N) e
  rw [← left, key, flushed19_A, left19]
  exact tiles19_at (holds m c t) i l

theorem result20 (c : Dev nD) : (dats m 0 c).arrAt 20 cfg0.N = valueKiT (m ((c : Thread nD τ).loc main_arg0)) (m ((c : Thread nD τ).loc main_arg3)) := by
  funext y
  obtain ⟨r, l, rfl⟩ : ∃ (r : Fin 16896) (l : Fin 64), y = ix2 l r := ⟨y 1, y 0, funext fun a => by fin_cases a <;> rfl⟩
  obtain ⟨t, i, rfl⟩ := row_split r
  have key := congrFun (blocks20 m c t (flush0_20 t)) (ix2 l i)
  have e : ((cfg0.win 20).blk t).view.emb (ix2 l i) = ix2 l (rowOf t i) := by
    unfold rowOf
    blk_ext [idxOut t]
  have left : ((cfg0.win 20).blk t).view.read (Elt Ideal) ((dats m 0 c).arrAt 20 cfg0.N) (ix2 l i) = (dats m 0 c).arrAt 20 cfg0.N (ix2 l (rowOf t i)) :=
    congrArg ((dats m 0 c).arrAt 20 cfg0.N) e
  rw [← left, key, flushed20_A, left20]
  exact tiles20_at (holds m c t) i l

end Prep

end
-- ==== Proof.PrepReference.lean ====
/- The reference's nine arrays of the preparation are the values stated for them. -/
module

public import proofs.«01_k».proof.Proof.PrepWhat
public import proofs.«01_k».proof.Proof.Gen.PrepReferenceIdeal.Run

@[expose] public section

set_option maxRecDepth 16384

noncomputable section

namespace Prep.Reference

open Idealize.ShloMosaic Idealize.ShloMosaic.TcCoe Idealize.ShloMosaic.StableHlo Cert.PrepReferenceIdeal Cert.PrepReferenceIdeal.Gen Cert.PrepReferenceIdeal.Value

variable (V0 : Valuation τ sig (Elt Ideal))

/-- The packed projection and the gains. -/
def proj : S16896x9728.Idx → EReal := V0 (Proc.devRef .tc main_arg0)
def gq : S128.Idx → EReal := V0 (Proc.devRef .tc main_arg1)
def gk : S128.Idx → EReal := V0 (Proc.devRef .tc main_arg2)
def gki : S64.Idx → EReal := V0 (Proc.devRef .tc main_arg3)

theorem cos64_q (r : Fin 16896) (l : Fin 64) : res_main_v39 (F := Ideal) V0 (ix3 r 0 l) = cos64 r l.val := by
  refine Eq.trans ?_ (ext0_fin (fun k : Fin 64 => cosT64 (ix2 r k)) l)
  show broadcastInDim S16896x1x64 ![0, 2] bcast_S16896x64_S16896x1x64_0_2 cosT64 (ix3 r 0 l) = cosT64 (ix2 r l)
  pointwise

theorem sin64_q (r : Fin 16896) (l : Fin 64) : res_main_v41 (F := Ideal) V0 (ix3 r 0 l) = sin64 r l.val := by
  refine Eq.trans ?_ (ext0_fin (fun k : Fin 64 => sinT64 (ix2 r k)) l)
  show broadcastInDim S16896x1x64 ![0, 2] bcast_S16896x64_S16896x1x64_0_2 sinT64 (ix3 r 0 l) = sinT64 (ix2 r l)
  pointwise

theorem cos64_k (r : Fin 16896) (l : Fin 64) : res_main_v83 (F := Ideal) V0 (ix3 r 0 l) = cos64 r l.val := by
  refine Eq.trans ?_ (ext0_fin (fun k : Fin 64 => cosT64 (ix2 r k)) l)
  show broadcastInDim S16896x1x64 ![0, 2] bcast_S16896x64_S16896x1x64_0_2 cosT64 (ix3 r 0 l) = cosT64 (ix2 r l)
  pointwise

theorem sin64_k (r : Fin 16896) (l : Fin 64) : res_main_v85 (F := Ideal) V0 (ix3 r 0 l) = sin64 r l.val := by
  refine Eq.trans ?_ (ext0_fin (fun k : Fin 64 => sinT64 (ix2 r k)) l)
  show broadcastInDim S16896x1x64 ![0, 2] bcast_S16896x64_S16896x1x64_0_2 sinT64 (ix3 r 0 l) = sinT64 (ix2 r l)
  pointwise

theorem cos32_q (r : Fin 16896) (l : Fin 32) : res_main_v116 (F := Ideal) V0 (ix3 r 0 l) = cos32 r l.val := by
  refine Eq.trans ?_ (ext0_fin (fun k : Fin 32 => cosT32 (ix2 r k)) l)
  show broadcastInDim S16896x1x32 ![0, 2] bcast_S16896x32_S16896x1x32_0_2 cosT32 (ix3 r 0 l) = cosT32 (ix2 r l)
  pointwise

theorem sin32_q (r : Fin 16896) (l : Fin 32) : res_main_v118 (F := Ideal) V0 (ix3 r 0 l) = sin32 r l.val := by
  refine Eq.trans ?_ (ext0_fin (fun k : Fin 32 => sinT32 (ix2 r k)) l)
  show broadcastInDim S16896x1x32 ![0, 2] bcast_S16896x32_S16896x1x32_0_2 sinT32 (ix3 r 0 l) = sinT32 (ix2 r l)
  pointwise

theorem cos32_k (r : Fin 16896) (l : Fin 32) : res_main_v160 (F := Ideal) V0 (ix3 r 0 l) = cos32 r l.val := by
  refine Eq.trans ?_ (ext0_fin (fun k : Fin 32 => cosT32 (ix2 r k)) l)
  show broadcastInDim S16896x1x32 ![0, 2] bcast_S16896x32_S16896x1x32_0_2 cosT32 (ix3 r 0 l) = cosT32 (ix2 r l)
  pointwise

theorem sin32_k (r : Fin 16896) (l : Fin 32) : res_main_v162 (F := Ideal) V0 (ix3 r 0 l) = sin32 r l.val := by
  refine Eq.trans ?_ (ext0_fin (fun k : Fin 32 => sinT32 (ix2 r k)) l)
  show broadcastInDim S16896x1x32 ![0, 2] bcast_S16896x32_S16896x1x32_0_2 sinT32 (ix3 r 0 l) = sinT32 (ix2 r l)
  pointwise

theorem col_at (r : Fin 16896) (j : ℕ) (h : j < 9728) : V0 (Proc.devRef .tc main_arg0) (ix2 r ⟨j, h⟩) = col (proj V0) r j :=
  (ext0_of (fun k : Fin 9728 => proj V0 (ix2 r k)) j h).symm

theorem q_raw (r : Fin 16896) (h : Fin 8) (l : Fin 128) : res_main_v12 (F := Ideal) V0 (ix3 r h l) = col (proj V0) r (3072 + h.val * 128 + l.val) := by
  rw [← col_at V0 r _ (by omega)]
  pointwise [res_main_v12]
  simp only [Nat.add_assoc]

theorem k_raw (r : Fin 16896) (h : Fin 2) (l : Fin 128) : res_main_v56 (F := Ideal) V0 (ix3 r h l) = col (proj V0) r (4096 + h.val * 128 + l.val) := by
  rw [← col_at V0 r _ (by omega)]
  pointwise [res_main_v56]
  simp only [Nat.add_assoc]

theorem qi_raw (r : Fin 16896) (h : Fin 8) (l : Fin 64) : res_main_v102 (F := Ideal) V0 (ix3 r h l) = col (proj V0) r (4608 + (h.val * 64 + l.val)) := by
  rw [← col_at V0 r _ (by omega)]
  pointwise [res_main_v102]

theorem ki_raw (r : Fin 16896) (l : Fin 64) : res_main_v132 (F := Ideal) V0 (ix2 r l) = col (proj V0) r (9216 + l.val) := by
  rw [← col_at V0 r _ (by omega)]
  pointwise [res_main_v132]

theorem q_normed (r : Fin 16896) (h : Fin 8) (l : Fin 128) :
    res_main_v25 (F := Ideal) V0 (ix3 r h l) = normedHead 128 (Ideal.ofBits .f32 0x43000000#32) (proj V0) (fun k => gq V0 (ix1 k)) r (3072 + h.val * 128) l.val := by
  unfold normedHead scaleOf
  rw [← ext0_fin (fun k => gq V0 (ix1 k)) l]
  simp only [← q_raw V0]
  pointwise [res_main_v25]
  rfl

theorem k_normed (r : Fin 16896) (h : Fin 2) (l : Fin 128) :
    res_main_v69 (F := Ideal) V0 (ix3 r h l) = normedHead 128 (Ideal.ofBits .f32 0x43000000#32) (proj V0) (fun k => gk V0 (ix1 k)) r (4096 + h.val * 128) l.val := by
  unfold normedHead scaleOf
  rw [← ext0_fin (fun k => gk V0 (ix1 k)) l]
  simp only [← k_raw V0]
  pointwise [res_main_v69]
  rfl

theorem ki_normed (r : Fin 16896) (l : Fin 64) :
    res_main_v146 (F := Ideal) V0 (ix3 r 0 l) = normedHead 64 (Ideal.ofBits .f32 0x42800000#32) (proj V0) (fun k => gki V0 (ix1 k)) r 9216 l.val := by
  unfold normedHead scaleOf
  rw [← ext0_fin (fun k => gki V0 (ix1 k)) l]
  simp only [← ki_raw V0]
  pointwise [res_main_v146]
  rfl

theorem k_at (r : Fin 16896) (j : Fin 256) : res_main_v173 (F := Ideal) V0 (ix2 r j) = valueK (proj V0) (gk V0) (ix2 r j) := by
  pointwise [res_main_v173, res_main_v86, res_main_v87, valueK, valueK']
  simp only [k_normed, cos64_k, sin64_k]
  exact turned_of 64 (normedHead 128 _ _ _ r (4096 + j.val / 128 * 128)) _ _ _

theorem ki_at (r : Fin 16896) (j : Fin 64) : res_main_v172 (F := Ideal) V0 (ix2 r j) = valueKi (proj V0) (gki V0) (ix2 r j) := by
  pointwise [res_main_v172, res_main_v163, res_main_v164, valueKi, valueKi']
  simp only [ki_normed, cos32_k, sin32_k]
  exact turned_of 32 (normedHead 64 _ _ _ r 9216) _ _ _

/-- The reference's queries. -/
def resQ : FVec Ideal S16896x1024 .bf16 :=
  truncf .bf16 (shapeCast _ (mulf (concatenate S16896x8x128 2 [⟨S16896x8x64, (subf (mulf (res_main_v42 V0) (broadcastInDim S16896x8x64 ![0, 1, 2] bcast_S16896x1x64_S16896x8x64_0_1_2 (res_main_v39 V0))) (mulf (res_main_v43 V0) (broadcastInDim S16896x8x64 ![0, 1, 2] bcast_S16896x1x64_S16896x8x64_0_1_2 (res_main_v41 V0))))⟩, ⟨S16896x8x64, (addf (mulf (res_main_v43 V0) (broadcastInDim S16896x8x64 ![0, 1, 2] bcast_S16896x1x64_S16896x8x64_0_1_2 (res_main_v39 V0))) (mulf (res_main_v42 V0) (broadcastInDim S16896x8x64 ![0, 1, 2] bcast_S16896x1x64_S16896x8x64_0_1_2 (res_main_v41 V0))))⟩] concatenates_S16896x8x64_S16896x8x64_S16896x8x128_d2) (broadcastInDim S16896x8x128 ![] bcast_S_S16896x8x128 (constant S_ .f32 0x3E0293EE#32))) shapeCasts_S16896x8x128_S16896x1024) bitsLt_bf16_f32

theorem q_at (r : Fin 16896) (j : Fin 1024) : resQ V0 (ix2 r j) = valueQ (proj V0) (gq V0) (ix2 r j) := by
  pointwise [resQ, res_main_v42, res_main_v43, valueQ, valueK']
  simp only [q_normed, cos64_q, sin64_q]
  exact congrArg (· * Ideal.ofBits .f32 0x3E0293EE#32) (turned_of 64 (normedHead 128 _ _ _ r (3072 + j.val / 128 * 128)) _ _ _)

/-- The reference's values and ones. -/
def resV : FVec Ideal S16896x512 .bf16 :=
  truncf .bf16 (shapeCast _ (concatenate S16896x2x256 2 [⟨S16896x2x128, (shapeCast _ (extractStridedSlice S16896x256 ![0, 4352] (V0 (Proc.devRef .tc main_arg0)) slices_S16896x9728_S16896x256_0_4352) shapeCasts_S16896x256_S16896x2x128)⟩, ⟨S16896x2x128, (broadcastInDim S16896x2x128 ![] bcast_S_S16896x2x128 (constant S_ .f32 0x3F800000#32))⟩] concatenates_S16896x2x128_S16896x2x128_S16896x2x256_d2) shapeCasts_S16896x2x256_S16896x512) bitsLt_bf16_f32

theorem one : Ideal.ofBits .f32 0x3F800000#32 = 1 := by
  simp [Ideal.ofBits, Ideal.ieee]
  rw [← EReal.coe_mul]
  norm_num

theorem v_at (r : Fin 16896) (j : Fin 512) : resV V0 (ix2 r j) = valueV (proj V0) (ix2 r j) := by
  pointwise [resV, valueV]
  simp only [col_at]
  by_cases h : j.val % 256 < 128
  · rw [dif_pos h, if_pos h]
  · rw [dif_neg h, if_neg h]

/-- The reference's index queries. -/
def resQi : FVec Ideal S16896x512 .bf16 :=
  truncf .bf16 (shapeCast _ (concatenate S16896x8x64 2 [⟨S16896x8x32, (subf (mulf (res_main_v119 V0) (broadcastInDim S16896x8x32 ![0, 1, 2] bcast_S16896x1x32_S16896x8x32_0_1_2 (res_main_v116 V0))) (mulf (res_main_v120 V0) (broadcastInDim S16896x8x32 ![0, 1, 2] bcast_S16896x1x32_S16896x8x32_0_1_2 (res_main_v118 V0))))⟩, ⟨S16896x8x32, (addf (mulf (res_main_v120 V0) (broadcastInDim S16896x8x32 ![0, 1, 2] bcast_S16896x1x32_S16896x8x32_0_1_2 (res_main_v116 V0))) (mulf (res_main_v119 V0) (broadcastInDim S16896x8x32 ![0, 1, 2] bcast_S16896x1x32_S16896x8x32_0_1_2 (res_main_v118 V0))))⟩] concatenates_S16896x8x32_S16896x8x32_S16896x8x64_d2) shapeCasts_S16896x8x64_S16896x512) bitsLt_bf16_f32

theorem qi_at (r : Fin 16896) (j : Fin 512) : resQi V0 (ix2 r j) = valueQi (proj V0) (ix2 r j) := by
  pointwise [resQi, res_main_v119, res_main_v120, valueQi]
  simp only [qi_raw, cos32_q, sin32_q]
  exact turned_of 32 (fun l => col (proj V0) r (4608 + (j.val / 64 * 64 + l))) _ _ _

theorem resQ_eq : resQ V0 = valueQ (proj V0) (gq V0) := by
  funext y
  obtain ⟨r, j, rfl⟩ : ∃ (r : Fin 16896) (j : Fin 1024), y = ix2 r j := ⟨y 0, y 1, funext fun a => by fin_cases a <;> rfl⟩
  exact q_at V0 r j

theorem resK_eq : (res_main_v173 (F := Ideal) V0 : S16896x256.Idx → EReal) = valueK (proj V0) (gk V0) := by
  funext y
  obtain ⟨r, j, rfl⟩ : ∃ (r : Fin 16896) (j : Fin 256), y = ix2 r j := ⟨y 0, y 1, funext fun a => by fin_cases a <;> rfl⟩
  exact k_at V0 r j

theorem resV_eq : resV V0 = valueV (proj V0) := by
  funext y
  obtain ⟨r, j, rfl⟩ : ∃ (r : Fin 16896) (j : Fin 512), y = ix2 r j := ⟨y 0, y 1, funext fun a => by fin_cases a <;> rfl⟩
  exact v_at V0 r j

theorem resQi_eq : resQi V0 = valueQi (proj V0) := by
  funext y
  obtain ⟨r, j, rfl⟩ : ∃ (r : Fin 16896) (j : Fin 512), y = ix2 r j := ⟨y 0, y 1, funext fun a => by fin_cases a <;> rfl⟩
  exact qi_at V0 r j

theorem resKi_eq : (res_main_v172 (F := Ideal) V0 : S16896x64.Idx → EReal) = valueKi (proj V0) (gki V0) := by
  funext y
  obtain ⟨r, j, rfl⟩ : ∃ (r : Fin 16896) (j : Fin 64), y = ix2 r j := ⟨y 0, y 1, funext fun a => by fin_cases a <;> rfl⟩
  exact ki_at V0 r j

theorem resKT_eq : (truncf .bf16 (transpose S256x16896 [1, 0] (res_main_v173 (F := Ideal) V0) transposes_S16896x256_S256x16896_1_0) bitsLt_bf16_f32 : FVec Ideal S256x16896 .bf16)
    = valueKT (proj V0) (gk V0) := by
  rw [show (res_main_v173 (F := Ideal) V0) = valueK (proj V0) (gk V0) from resK_eq V0]
  funext y
  obtain ⟨r, j, rfl⟩ : ∃ (r : Fin 256) (j : Fin 16896), y = ix2 r j := ⟨y 0, y 1, funext fun a => by fin_cases a <;> rfl⟩
  pointwise [valueKT, valueK]

theorem resKiT_eq : (truncf .bf16 (transpose S64x16896 [1, 0] (res_main_v172 (F := Ideal) V0) transposes_S16896x64_S64x16896_1_0) bitsLt_bf16_f32 : FVec Ideal S64x16896 .bf16)
    = valueKiT (proj V0) (gki V0) := by
  rw [show (res_main_v172 (F := Ideal) V0) = valueKi (proj V0) (gki V0) from resKi_eq V0]
  funext y
  obtain ⟨r, j, rfl⟩ : ∃ (r : Fin 64) (j : Fin 16896), y = ix2 r j := ⟨y 0, y 1, funext fun a => by fin_cases a <;> rfl⟩
  pointwise [valueKiT, valueKi]

end Prep.Reference

end
-- ==== Proof.PrepValue.lean ====
/- The preparation of the sparse attention's inputs: the kernel's nine arrays are the reference's, over the extended reals. -/
module

public import proofs.«01_k».proof.Defs
public import proofs.«01_k».proof.Proof.PrepResults
public import proofs.«01_k».proof.Proof.PrepReference
public import Idealize.ShloMosaic.Adequacy
public import Idealize.ShloMosaic.Init

@[expose] public section

set_option maxRecDepth 16384

noncomputable section

namespace Prep

open Idealize.ShloMosaic Idealize.ShloMosaic.TcCoe Idealize.SL.Sem Cert.PrepIdeal Cert.PrepIdeal.Gen Cert.PrepIdeal.Value

/-- The reference runs and leaves its arguments unchanged; it has no semaphore. -/
theorem reference_frame : Cert.quiescent_PrepReferenceIdeal := fun m ρ _ =>
  (θ_run Cert.PrepReferenceIdeal.defs _ _).mono
    (fun r h => ⟨fun c => (h c).2.2.2.2.2.2.2.2.2, Idealize.ShloMosaic.sem_eq_zero_of_no_sems (by decide) r.2⟩)
    (Cert.PrepReferenceIdeal.Value.run (F := Ideal) m ρ)

theorem claim : Cert.algebraic_PrepIdeal_PrepReferenceIdeal := by
  intro m ρ m' ρ' _ hargs
  refine ⟨fun c => valueQ (m ((c : Thread nD τ).loc main_arg0)) (m ((c : Thread nD τ).loc main_arg1)),
    fun c => valueK (m ((c : Thread nD τ).loc main_arg0)) (m ((c : Thread nD τ).loc main_arg2)),
    fun c => valueK (m ((c : Thread nD τ).loc main_arg0)) (m ((c : Thread nD τ).loc main_arg2)),
    fun c => valueV (m ((c : Thread nD τ).loc main_arg0)),
    fun c => valueQi (m ((c : Thread nD τ).loc main_arg0)),
    fun c => valueKi (m ((c : Thread nD τ).loc main_arg0)) (m ((c : Thread nD τ).loc main_arg3)),
    fun c => valueKi (m ((c : Thread nD τ).loc main_arg0)) (m ((c : Thread nD τ).loc main_arg3)),
    fun c => valueKT (m ((c : Thread nD τ).loc main_arg0)) (m ((c : Thread nD τ).loc main_arg2)),
    fun c => valueKiT (m ((c : Thread nD τ).loc main_arg0)) (m ((c : Thread nD τ).loc main_arg3)), ?_, ?_⟩
  · refine (θ_run defs _ _).mono (fun r h c => ?_) (run_blocks m ρ)
    obtain ⟨a0, a1, a2, a3, a4, a5, a6, a7, a8, rest⟩ := h c
    exact ⟨a0.trans (result12 m c), a1.trans (result13 m c), a2.trans (result14 m c), a3.trans (result15 m c), a4.trans (result16 m c), a5.trans (result17 m c), a6.trans (result18 m c), a7.trans (result19 m c), a8.trans (result20 m c), rest⟩
  · refine (θ_run Cert.PrepReferenceIdeal.defs _ _).mono (fun r h c => ?_) (Cert.PrepReferenceIdeal.Value.run (F := Ideal) m' ρ')
    obtain ⟨a0, a1, a2, a3, a4, a5, a6, a7, a8, rest⟩ := h c
    obtain ⟨e0, e1, e2, e3⟩ := hargs c
    exact ⟨a0.trans ((Reference.resQ_eq _).trans (congrArg₂ valueQ e0 e1)),
      a1.trans ((Reference.resK_eq _).trans (congrArg₂ valueK e0 e2)),
      a2.trans ((Reference.resK_eq _).trans (congrArg₂ valueK e0 e2)),
      a3.trans ((Reference.resV_eq _).trans (congrArg valueV e0)),
      a4.trans ((Reference.resQi_eq _).trans (congrArg valueQi e0)),
      a5.trans ((Reference.resKi_eq _).trans (congrArg₂ valueKi e0 e3)),
      a6.trans ((Reference.resKi_eq _).trans (congrArg₂ valueKi e0 e3)),
      a7.trans ((Reference.resKT_eq _).trans (congrArg₂ valueKT e0 e2)),
      a8.trans ((Reference.resKiT_eq _).trans (congrArg₂ valueKiT e0 e3)), rest⟩

end Prep

end
-- ==== Proof.MoeUpKernel.lean ====
/- The experts' first products over row tiles: tile `i` of 512 rows takes the gate and up weights of the expert that a table names for
   it, and the tiles past the used ones are zero. The kernel's result as a function of its arguments, over the extended reals. -/
module

public import proofs.«01_k».proof.Defs
public import proofs.«01_k».proof.Proof.Gen.MoeUp.Frame
public import proofs.«01_k».proof.Proof.Gen.MoeUpIdeal.Frame
public import proofs.«01_k».proof.Proof.Gen.Pre_up_experts
public import Idealize.ShloMosaic.Lib.Pointwise
public import Idealize.ShloMosaic.Lib.Pipeline.ValueKit
public import Idealize.ShloMosaic.Adequacy
public import Idealize.ShloMosaic.Init

@[expose] public section

noncomputable section

namespace MoeUp

open Idealize.ShloMosaic Idealize.ShloMosaic.TcCoe Idealize.ShloMosaic.Tactic Idealize.SL.Sem

/-! ## The table names experts 0 to 7 -/

theorem word_lt {F : FTy → Type} [FloatOps F] (te : IVec Cert.Pre_up_experts.S74 32) (nv : IVec Cert.Pre_up_experts.S1 32)
    (x : IVec Cert.Pre_up_experts.S37888x1024 32) (wg wu : FVec F Cert.Pre_up_experts.S8x2048x5632 .f32)
    (h : Cert.Pre_up_experts.fn (F := F) te nv x wg wu = fun _ => 1#1) (i : Cert.Pre_up_experts.S74.Idx) : (te i).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h i
  simp only [Cert.Pre_up_experts.fn, constantI, broadcastInDim, cmpi, andi, andi_one, ofBool_eq_one, IntOp.cmpi, BitVec.sle,
    BitVec.slt, decide_eq_true_eq, BitVec.toInt, BitVec.toNat_ofNat] at pre
  have hlt := (te i).isLt
  generalize (te i).toNat = n at pre hlt ⊢
  obtain ⟨p, q⟩ := pre
  split at p <;> split at q <;> omega

theorem ok_bits (m : (ℓ : Loc Cert.MoeUp.nD Cert.MoeUp.τ Cert.MoeUp.sig) → Buf (Elt Bits) ℓ) (h : Cert.Pre_MoeUp m) :
    Cert.MoeUp.Gen.Ok m := by
  have hw := word_lt _ _ _ _ _ (h 0)
  have e : Cert.MoeUp.Gen.tbl m 0 = m (((0 : Dev Cert.MoeUp.nD) : Thread Cert.MoeUp.nD Cert.MoeUp.τ).loc Cert.MoeUp.main_arg0) :=
    Cert.MoeUp.Gen.V_main_arg0 m 0
  refine ⟨fun i => ⟨fun a => ?_, Or.inl rfl⟩, fun i => ⟨fun a => ?_, Or.inl rfl⟩⟩
  · fin_cases a
    · show ((Cert.MoeUp.Gen.tbl m 0 _).toNat + 1) * 1 ≤ 8
      rw [e]
      exact (Nat.mul_one _).trans_le (hw _)
    · show (0 + 1) * 2048 ≤ 2048
      omega
    · show ((BitVec.ofNat 32 (i 0).val).toNat + 1) * 512 ≤ 5632
      have : (i 0).val < 11 := (i 0).isLt
      rw [BitVec.toNat_ofNat]
      omega
  · fin_cases a
    · show ((Cert.MoeUp.Gen.tbl m 0 _).toNat + 1) * 1 ≤ 8
      rw [e]
      exact (Nat.mul_one _).trans_le (hw _)
    · show (0 + 1) * 2048 ≤ 2048
      omega
    · show ((BitVec.ofNat 32 (i 0).val).toNat + 1) * 512 ≤ 5632
      have : (i 0).val < 11 := (i 0).isLt
      rw [BitVec.toNat_ofNat]
      omega

theorem ok_ideal (m : (ℓ : Loc Cert.MoeUpIdeal.nD Cert.MoeUpIdeal.τ Cert.MoeUpIdeal.sig) → Buf (Elt Ideal) ℓ) (h : Cert.Pre_MoeUpIdeal m) :
    Cert.MoeUpIdeal.Gen.Ok m := by
  have hw := word_lt _ _ _ _ _ (h 0)
  have e : Cert.MoeUpIdeal.Gen.tbl m 0 = m (((0 : Dev Cert.MoeUpIdeal.nD) : Thread Cert.MoeUpIdeal.nD Cert.MoeUpIdeal.τ).loc Cert.MoeUpIdeal.main_arg0) :=
    Cert.MoeUpIdeal.Gen.V_main_arg0 m 0
  refine ⟨fun i => ⟨fun a => ?_, Or.inl rfl⟩, fun i => ⟨fun a => ?_, Or.inl rfl⟩⟩
  · fin_cases a
    · show ((Cert.MoeUpIdeal.Gen.tbl m 0 _).toNat + 1) * 1 ≤ 8
      rw [e]
      exact (Nat.mul_one _).trans_le (hw _)
    · show (0 + 1) * 2048 ≤ 2048
      omega
    · show ((BitVec.ofNat 32 (i 0).val).toNat + 1) * 512 ≤ 5632
      have : (i 0).val < 11 := (i 0).isLt
      rw [BitVec.toNat_ofNat]
      omega
  · fin_cases a
    · show ((Cert.MoeUpIdeal.Gen.tbl m 0 _).toNat + 1) * 1 ≤ 8
      rw [e]
      exact (Nat.mul_one _).trans_le (hw _)
    · show (0 + 1) * 2048 ≤ 2048
      omega
    · show ((BitVec.ofNat 32 (i 0).val).toNat + 1) * 512 ≤ 5632
      have : (i 0).val < 11 := (i 0).isLt
      rw [BitVec.toNat_ofNat]
      omega

theorem frame_bits : Cert.quiescent_MoeUp := fun m ρ h => Cert.MoeUp.Gen.frame m ρ (ok_bits m h)

theorem frame_ideal : Cert.quiescent_MoeUpIdeal := fun m ρ h => Cert.MoeUpIdeal.Gen.frame m ρ (ok_ideal m h)

/-! ## The kernel's result -/

open Cert.MoeUpIdeal Cert.MoeUpIdeal.Gen

/-- The two numbers that a word packs: its low half and its high half, each the top sixteen bits of a float. -/
def lo (p : BitVec 32) : EReal := Ideal.ofBits .f32 (p <<< 16#32)
def hi (p : BitVec 32) : EReal := Ideal.ofBits .f32 (p &&& 4294901760#32)

/-- Entry `k` of a packed row: columns 0 to 1023 are the low halves, columns 1024 to 2047 the high halves. -/
def entry (x : Fin 1024 → BitVec 32) (k : Fin 2048) : EReal :=
  if h : k.val < 1024 then lo (x ⟨k.val, h⟩) else hi (x ⟨k.val - 1024, by omega⟩)

/-- A row times a column of one expert's weights. -/
def prod (x : S37888x1024.Idx → BitVec 32) (w : S8x2048x5632.Idx → EReal) (r : Fin 37888) (e : Fin 8) (l : Fin 5632) : EReal :=
  ∑ k : Fin 2048, entry (fun k => x (ix2 r k)) k * w (ix3 e k l)

/-- One expert's gated product. -/
def gated (x : S37888x1024.Idx → BitVec 32) (wg wu : S8x2048x5632.Idx → EReal) (r : Fin 37888) (e : Fin 8) (l : Fin 5632) : EReal :=
  (prod x wg r e l * Ideal.logistic (prod x wg r e l)) * prod x wu r e l

/-- Row `r` is in tile `r / 512`: in a used tile its gated product with the weights of the tile's expert, else zero. -/
def value (te : S74.Idx → BitVec 32) (nv : S1.Idx → BitVec 32) (x : S37888x1024.Idx → BitVec 32) (wg wu : S8x2048x5632.Idx → EReal)
    (h : ∀ i, (te i).toNat < 8) : S37888x5632.Idx → EReal :=
  fun y =>
    if (BitVec.ofNat 32 ((y 0).val / 512)).slt (nv (ix1 0)) = true then
      gated x wg wu ⟨(y 0).val, (y 0).isLt⟩
        ⟨(te (ix1 ⟨(y 0).val / 512, by have : (y 0).val < 37888 := (y 0).isLt; omega⟩)).toNat, h _⟩ ⟨(y 1).val, (y 1).isLt⟩
    else 0

/-- The grid: point `t` is column block `t / 74` of tile `t % 74`. -/
theorem coords : ∀ t : Fin grid0.N, (grid0.coords t 0).val = t.val / 74 ∧ (grid0.coords t 1).val = t.val % 74
    ∧ cc0_transform_0 (grid0.coords t) = ![t.val % 74, 0] ∧ cc0_transform_3 (grid0.coords t) = ![t.val % 74, t.val / 74] := by
  decide +kernel

variable (m : (ℓ : Loc nD τ sig) → Buf (Elt Ideal) ℓ)

/-- The arguments. -/
abbrev A0 : S74.Idx → BitVec 32 := m (((0 : Dev nD) : Thread nD τ).loc main_arg0)
abbrev A1 : S1.Idx → BitVec 32 := m (((0 : Dev nD) : Thread nD τ).loc main_arg1)
abbrev A2 : S37888x1024.Idx → BitVec 32 := m (((0 : Dev nD) : Thread nD τ).loc main_arg2)
abbrev A3 : S8x2048x5632.Idx → EReal := m (((0 : Dev nD) : Thread nD τ).loc main_arg3)
abbrev A4 : S8x2048x5632.Idx → EReal := m (((0 : Dev nD) : Thread nD τ).loc main_arg4)

theorem tbl0 : tbl m 0 = A0 m := V_main_arg0 m 0
theorem tbl1 : tbl m 1 = A1 m := V_main_arg1 m 0

/-- The expert the table names for a tile. -/
theorem word_at (t : Fin grid0.N) (hb) :
    (tbl m).at 0 (Rect.unit (s := S74) ![(Scalar.indexCast (BitVec.ofNat 32 (grid0.coords t 1).val) : Index).toNat] S1.size hb) numel1_S1
      = A0 m (ix1 ⟨t.val % 74, by omega⟩) := by
  show tbl m 0 _ = _
  rw [tbl0]
  refine congrArg (A0 m) (funext fun a => ?_)
  fin_cases a
  refine Fin.ext ?_
  show (BitVec.ofNat 32 (grid0.coords t 1).val).toNat + 1 * 0 = t.val % 74
  rw [(coords t).2.1, BitVec.toNat_ofNat]
  omega

/-- The block every window names at a point. -/
theorem idx (hO : Ok m) (t : Fin (cfgM m hO).N) : ((cfgM m hO).win 0).index t = ![t.val % 74, 0]
    ∧ ((cfgM m hO).win 1).index t = ![(A0 m (ix1 ⟨t.val % 74, by omega⟩)).toNat, 0, t.val / 74]
    ∧ ((cfgM m hO).win 2).index t = ![(A0 m (ix1 ⟨t.val % 74, by omega⟩)).toNat, 0, t.val / 74]
    ∧ ((cfgM m hO).win 3).index t = ![t.val % 74, t.val / 74] := by
  have hN : t.val < 814 := N_0 ▸ t.isLt
  have hc : (BitVec.ofNat 32 (grid0.coords t 0).val).toNat = t.val / 74 := by
    rw [(coords t).1, BitVec.toNat_ofNat]
    omega
  have hw := word_at m t (k0_off1_inb (grid0.coords t))
  refine ⟨(coords t).2.2.1, ?_, ?_, (coords t).2.2.2⟩
  · funext a
    fin_cases a
    · exact congrArg BitVec.toNat hw
    · rfl
    · exact hc
  · funext a
    fin_cases a
    · exact congrArg BitVec.toNat hw
    · rfl
    · exact hc

/-- The number of used tiles, as a point reads it. -/
theorem used_word : tbM0_1.view.readAt (Elt Ideal) (Rect.unit (s := S1) ![0] S1.size inb_S1_S1_0).toLoadRect (tbl m 1)
    (Shape.Idx.first (numel1_S1.symm ▸ Nat.one_pos)) = A1 m (ix1 0) := by
  rw [tbl1]
  refine congrArg (A1 m) (funext fun a => ?_)
  fin_cases a
  exact Subsingleton.elim (α := Fin 1) _ _

theorem cond_iff (i : grid0.Coords) (v : BitVec 32) : cond0_0 i v ↔ (BitVec.ofNat 32 (i 1).val).slt v = true := by
  show (IntOp.cmpi .ne ((BitVec.ofBool ((BitVec.ofNat 32 (i 1).val).slt v)).setWidth 32) 0#32) = 1#1 ↔ _
  cases (BitVec.ofNat 32 (i 1).val).slt v <;> decide

theorem x_at (hO : Ok m) (t : Fin (cfgM m hO).N) (i : Fin 512) (k : Fin 1024) :
    iblk m hO 0 0 t (ix2 i k) = A2 m (ix2 ⟨512 * (t.val % 74) + i.val, by omega⟩ k) := by
  have e : (((cfgM m hO).win 0).blk t).view.emb (ix2 i k) = ix2 ⟨512 * (t.val % 74) + i.val, by omega⟩ k := by
    blk_ext [(idx m hO t).1]
  show V m 0 main_arg2 ((((cfgM m hO).win 0).blk t).view.emb (ix2 i k)) = _
  rw [V_main_arg2, e]

theorem wg_at (hO : Ok m) (h : ∀ i, (A0 m i).toNat < 8) (t : Fin (cfgM m hO).N) (k : Fin 2048) (j : Fin 512)
    (hj : 512 * (t.val / 74) + j.val < 5632) :
    iblk m hO 0 1 t (ix3 0 k j) = A3 m (ix3 ⟨(A0 m (ix1 ⟨t.val % 74, by omega⟩)).toNat, h _⟩ k ⟨512 * (t.val / 74) + j.val, hj⟩) := by
  have e : (((cfgM m hO).win 1).blk t).view.emb (ix3 0 k j)
      = ix3 ⟨(A0 m (ix1 ⟨t.val % 74, by omega⟩)).toNat, h _⟩ k ⟨512 * (t.val / 74) + j.val, hj⟩ := by
    blk_ext [(idx m hO t).2.1]
  show V m 0 main_arg3 ((((cfgM m hO).win 1).blk t).view.emb (ix3 0 k j)) = _
  rw [V_main_arg3, e]

theorem wu_at (hO : Ok m) (h : ∀ i, (A0 m i).toNat < 8) (t : Fin (cfgM m hO).N) (k : Fin 2048) (j : Fin 512)
    (hj : 512 * (t.val / 74) + j.val < 5632) :
    iblk m hO 0 2 t (ix3 0 k j) = A4 m (ix3 ⟨(A0 m (ix1 ⟨t.val % 74, by omega⟩)).toNat, h _⟩ k ⟨512 * (t.val / 74) + j.val, hj⟩) := by
  have e : (((cfgM m hO).win 2).blk t).view.emb (ix3 0 k j)
      = ix3 ⟨(A0 m (ix1 ⟨t.val % 74, by omega⟩)).toNat, h _⟩ k ⟨512 * (t.val / 74) + j.val, hj⟩ := by
    blk_ext [(idx m hO t).2.2.1]
  show V m 0 main_arg4 ((((cfgM m hO).win 2).blk t).view.emb (ix3 0 k j)) = _
  rw [V_main_arg4, e]

/-! ### What a point stores in its block: of a used tile the gated product, of another zeros -/

theorem pay1_at (i j : Fin 512) : k0_pay1 (F := Ideal) (ix2 i j) = (0 : EReal) := by
  pointwise [k0_pay1]

theorem pay2_at (x : IVec S512x1024 32) (gl gh ul uh : FVec Ideal S1x1024x512 .f32) (i j : Fin 512) :
    k0_pay2 (F := Ideal) x gl gh ul uh (ix2 i j)
      = (((∑ k : Fin 1024, lo (x (ix2 i k)) * gl (ix3 0 k j)) + ∑ k : Fin 1024, hi (x (ix2 i k)) * gh (ix3 0 k j))
          * Ideal.logistic ((∑ k : Fin 1024, lo (x (ix2 i k)) * gl (ix3 0 k j)) + ∑ k : Fin 1024, hi (x (ix2 i k)) * gh (ix3 0 k j))
          * ((∑ k : Fin 1024, lo (x (ix2 i k)) * ul (ix3 0 k j)) + ∑ k : Fin 1024, hi (x (ix2 i k)) * uh (ix3 0 k j)) : EReal) := by
  pointwise [k0_pay2]
  rfl

/-- A sum over the whole row is the sum over its two halves. -/
theorem halves (f : Fin 2048 → EReal) : (∑ k : Fin 1024, f ⟨k.val, by omega⟩) + ∑ k : Fin 1024, f ⟨1024 + k.val, by omega⟩ = ∑ k : Fin 2048, f k :=
  (Fin.sum_univ_add (a := 1024) (b := 1024) f).symm

abbrev rWl : Rect S1x2048x512 := Rect.unit (s := S1x2048x512) ![0, 0, 0] S1x1024x512.size inb_S1x2048x512_S1x1024x512_0_0_0
abbrev rWh : Rect S1x2048x512 := Rect.unit (s := S1x2048x512) ![0, 1024, 0] S1x1024x512.size inb_S1x2048x512_S1x1024x512_0_1024_0

section run

variable {F : FTy → Type} [FloatOps F]

/-- What a point of a used tile stores, from its blocks. -/
def pay (x : Vec F S512x1024 .i32) (g u : Vec F S1x2048x512 .f32) : FVec F S512x512 .bf16 :=
  k0_pay2 x (View.ld g rWl) (View.ld g rWh) (View.ld u rWl) (View.ld u rWh)

theorem outA (c : Dev nD) (i : grid0.Coords) (arg4 : Memref sig .tc .vmem S512x1024 .i32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole)
    (x0 : Vec F S512x1024 .i32) (x1 : Vec F S1x2048x512 .f32) (x2 : Vec F S1x2048x512 .f32) (xt0 : TbBuf0 (F := F) c tbM0_0) (xt1 : TbBuf0 (F := F) c tbM0_1) (hc0) :
    out0_A_3 c i arg4 harg4 arg5 harg5 arg6 harg6 arg7 harg7 x0 x1 x2 xt0 xt1 hc0 = pay x0 x1 x2 := by
  have e : (kernelRun0_A c i arg4 harg4 arg5 harg5 arg6 harg6 arg7 harg7 x0 x1 x2 xt0 xt1 hc0).1
      = [⟨Rect.unit (s := S512x512) ![0, 0] S512x512.size inb_S512x512_S512x512_0_0,
          pay (View.ld (arg4.view.read (Elt F) (harg4.unread x0)) (Rect.unit (s := S512x1024) ![0, 0] S512x1024.size inb_S512x1024_S512x1024_0_0)) (arg5.view.read (Elt F) (harg5.unread x1)) (arg6.view.read (Elt F) (harg6.unread x2))⟩,
        ⟨Rect.unit (s := S512x512) ![0, 0] S512x512.size inb_S512x512_S512x512_0_0, k0_pay1 (F := F)⟩] := by
    sl_kernel_rfl
  unfold out0_A_3
  rw [View.read_writes_junk_eq_canon, e, View.canon_cons_unit_zero (by funext a; fin_cases a <;> rfl), Memref.IsWhole.read_unread,
    Memref.IsWhole.read_unread, Memref.IsWhole.read_unread, View.ld_unit_zero (by funext a; fin_cases a <;> rfl)]

theorem outB (c : Dev nD) (i : grid0.Coords) (arg4 : Memref sig .tc .vmem S512x1024 .i32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole)
    (x0 : Vec F S512x1024 .i32) (x1 : Vec F S1x2048x512 .f32) (x2 : Vec F S1x2048x512 .f32) (xt0 : TbBuf0 (F := F) c tbM0_0) (xt1 : TbBuf0 (F := F) c tbM0_1) (hc0) :
    out0_B_3 c i arg4 harg4 arg5 harg5 arg6 harg6 arg7 harg7 x0 x1 x2 xt0 xt1 hc0 = k0_pay1 (F := F) := by
  have e : (kernelRun0_B c i arg4 harg4 arg5 harg5 arg6 harg6 arg7 harg7 x0 x1 x2 xt0 xt1 hc0).1
      = [⟨Rect.unit (s := S512x512) ![0, 0] S512x512.size inb_S512x512_S512x512_0_0, k0_pay1 (F := F)⟩] := by
    sl_kernel_rfl
  unfold out0_B_3
  rw [View.read_writes_junk_eq_canon, e, View.canon_unit_zero (by funext a; fin_cases a <;> rfl)]

end run

theorem wl_at (w : FVec Ideal S1x2048x512 .f32) (k : Fin 1024) (j : Fin 512) :
    View.ld (Val := Elt Ideal) (e' := .f32) w rWl (ix3 0 k j) = w (ix3 0 ⟨k.val, by omega⟩ j) :=
  congrArg w (funext fun a => by
    fin_cases a
    · rfl
    · exact Fin.ext (show 0 + 1 * k.val = k.val by omega)
    · exact Fin.ext (show 0 + 1 * j.val = j.val by omega))

theorem wh_at (w : FVec Ideal S1x2048x512 .f32) (k : Fin 1024) (j : Fin 512) :
    View.ld (Val := Elt Ideal) (e' := .f32) w rWh (ix3 0 k j) = w (ix3 0 ⟨1024 + k.val, by omega⟩ j) :=
  congrArg w (funext fun a => by
    fin_cases a
    · rfl
    · exact Fin.ext (show 1024 + 1 * k.val = 1024 + k.val by omega)
    · exact Fin.ext (show 0 + 1 * j.val = j.val by omega))

/-- A block's product, as the kernel adds it from two halves. -/
theorem dot_at (x : IVec S512x1024 32) (w : FVec Ideal S1x2048x512 .f32) (i j : Fin 512) :
    ((∑ k : Fin 1024, lo (x (ix2 i k)) * View.ld (Val := Elt Ideal) (e' := .f32) w rWl (ix3 0 k j))
      + ∑ k : Fin 1024, hi (x (ix2 i k)) * View.ld (Val := Elt Ideal) (e' := .f32) w rWh (ix3 0 k j) : EReal)
      = ∑ k : Fin 2048, entry (fun k => x (ix2 i k)) k * w (ix3 0 k j) := by
  have hl (k : Fin 1024) : lo (x (ix2 i k)) = entry (fun k => x (ix2 i k)) ⟨k.val, by omega⟩ := by
    unfold entry
    rw [dif_pos k.isLt]
  have hh (k : Fin 1024) : hi (x (ix2 i k)) = entry (fun k => x (ix2 i k)) ⟨1024 + k.val, by omega⟩ := by
    unfold entry
    rw [dif_neg (show ¬ 1024 + k.val < 1024 by omega)]
    exact congrArg (fun a => hi (x (ix2 i a))) (Fin.ext (by show k.val = 1024 + k.val - 1024; omega))
  exact (congrArg₂ (fun a b : EReal => a + b)
    (Finset.sum_congr rfl fun k _ => congrArg₂ (fun a b : EReal => a * b) (hl k) (wl_at w k j))
    (Finset.sum_congr rfl fun k _ => congrArg₂ (fun a b : EReal => a * b) (hh k) (wh_at w k j))).trans
    (halves fun k => entry (fun k => x (ix2 i k)) k * w (ix3 0 k j))

theorem pay_at (x : IVec S512x1024 32) (g u : FVec Ideal S1x2048x512 .f32) (i j : Fin 512) :
    pay (F := Ideal) x g u (ix2 i j)
      = ((∑ k : Fin 2048, entry (fun k => x (ix2 i k)) k * g (ix3 0 k j))
          * Ideal.logistic (∑ k : Fin 2048, entry (fun k => x (ix2 i k)) k * g (ix3 0 k j))
          * (∑ k : Fin 2048, entry (fun k => x (ix2 i k)) k * u (ix3 0 k j)) : EReal) :=
  (pay2_at _ _ _ _ _ i j).trans (congrArg₂ (fun a b : EReal => a * Ideal.logistic a * b) (dot_at x g i j) (dot_at x u i j))

/-- Two points write two blocks, so a block of the final array is what its point wrote. -/
theorem blocks (hO : Ok m) (t : Fin (cfgM m hO).N) :
    (((cfgM m hO).win 3).blk t).view.read (Elt Ideal) ((dats m hO 0 0).arrAt 3 (cfgM m hO).N) = (dats m hO 0 0).flushed 3 t :=
  (dats m hO 0 0).read_blk_arrAt_eq_flushed 3 (fun t t' _ _ hne => ((cfgM m hO).win 3).disjoint_blk fun h => hne (by
    have h1 : ((cfgM m hO).win 3).index t = ((cfgM m hO).win 3).index t' := h
    rw [(idx m hO t).2.2.2, (idx m hO t').2.2.2] at h1
    have a : t.val % 74 = t'.val % 74 := congrFun h1 0
    have b : t.val / 74 = t'.val / 74 := congrFun h1 1
    exact Fin.ext (by omega))) (cfgM m hO).N t t.isLt (flush0_3 (adm m hO) t)

theorem flushed (hO : Ok m) (t : Fin (cfgM m hO).N) : (dats m hO 0 0).flushed 3 t = outsAt0 m hO 0 t :=
  after0_3 m hO 0 t

/-- What a point leaves in its block. -/
theorem outs_at (hO : Ok m) (h : ∀ i, (A0 m i).toNat < 8) (t : Fin (cfgM m hO).N) (r : Fin 37888) (l : Fin 5632) (i j : Fin 512)
    (h3 : t.val % 74 = r.val / 512) (hi : 512 * (t.val % 74) + i.val = r.val) (hj : 512 * (t.val / 74) + j.val = l.val) :
    outsAt0 m hO 0 t (ix2 i j) = value (A0 m) (A1 m) (A2 m) (A3 m) (A4 m) h (ix2 r l) := by
  show _ = if (BitVec.ofNat 32 (r.val / 512)).slt (A1 m (ix1 0)) = true then
      gated (A2 m) (A3 m) (A4 m) r ⟨(A0 m (ix1 ⟨r.val / 512, by omega⟩)).toNat, h _⟩ l else (0 : EReal)
  have hc := cond_iff (grid0.coords t) (A1 m (ix1 0))
  rw [(coords t).2.1, h3] at hc
  by_cases h0 : (BitVec.ofNat 32 (r.val / 512)).slt (A1 m (ix1 0)) = true
  · have hA : outsAt0 m hO 0 t = pay (F := Ideal) (iblk m hO 0 0 t) (iblk m hO 0 1 t) (iblk m hO 0 2 t) :=
      (outsAt0_A m hO 0 t (by rw [used_word]; exact hc.mpr h0)).trans (outA _ _ _ _ _ _ _ _ _ _ _ _ _ _ _ _)
    rw [if_pos h0, hA]
    refine (pay_at _ _ _ i j).trans ?_
    have he : (⟨(A0 m (ix1 ⟨t.val % 74, by omega⟩)).toNat, h _⟩ : Fin 8) = ⟨(A0 m (ix1 ⟨r.val / 512, by omega⟩)).toNat, h _⟩ :=
      Fin.ext (congrArg (fun x => (A0 m (ix1 x)).toNat) (Fin.ext h3))
    have hl : (⟨512 * (t.val / 74) + j.val, by omega⟩ : Fin 5632) = l := Fin.ext hj
    have hx : ∀ k, entry (fun k => iblk m hO 0 0 t (ix2 i k)) k = entry (fun k => A2 m (ix2 r k)) k := fun k =>
      congrArg (fun x => entry x k) (funext fun k => (x_at m hO t i k).trans (congrArg (fun x => A2 m (ix2 x k)) (Fin.ext hi)))
    have hg : ∀ k, iblk m hO 0 1 t (ix3 0 k j) = A3 m (ix3 ⟨(A0 m (ix1 ⟨r.val / 512, by omega⟩)).toNat, h _⟩ k l) := fun k =>
      (wg_at m hO h t k j (by omega)).trans (congrArg₂ (fun a b => A3 m (ix3 a k b)) he hl)
    have hu : ∀ k, iblk m hO 0 2 t (ix3 0 k j) = A4 m (ix3 ⟨(A0 m (ix1 ⟨r.val / 512, by omega⟩)).toNat, h _⟩ k l) := fun k =>
      (wu_at m hO h t k j (by omega)).trans (congrArg₂ (fun a b => A4 m (ix3 a k b)) he hl)
    exact congrArg₂ (fun a b : EReal => a * Ideal.logistic a * b)
      (Finset.sum_congr rfl fun k _ => congrArg₂ (fun a b : EReal => a * b) (hx k) (hg k))
      (Finset.sum_congr rfl fun k _ => congrArg₂ (fun a b : EReal => a * b) (hx k) (hu k))
  · have hB : outsAt0 m hO 0 t = k0_pay1 (F := Ideal) :=
      (outsAt0_B m hO 0 t (by rw [used_word]; exact fun q => h0 (hc.mp q))).trans (outB _ _ _ _ _ _ _ _ _ _ _ _ _ _ _ _)
    rw [if_neg h0, hB, pay1_at]

theorem emb_at (hO : Ok m) (t : Fin (cfgM m hO).N) (i j : Fin 512) (hl : 512 * (t.val / 74) + j.val < 5632) :
    ((((cfgM m hO).win 3).blk t).view.emb (ix2 i j) : S37888x5632.Idx)
      = ix2 ⟨512 * (t.val % 74) + i.val, by omega⟩ ⟨512 * (t.val / 74) + j.val, hl⟩ := by
  blk_ext [(idx m hO t).2.2.2]

/-- The kernel's result array. -/
theorem result (hO : Ok m) (h : ∀ i, (A0 m i).toNat < 8) :
    (dats m hO 0 0).arrAt 3 (cfgM m hO).N = value (A0 m) (A1 m) (A2 m) (A3 m) (A4 m) h := by
  refine funext fun (y : S37888x5632.Idx) => ?_
  obtain ⟨r, l, rfl⟩ : ∃ (r : Fin 37888) (l : Fin 5632), y = ix2 r l := ⟨y 0, y 1, funext fun a => by fin_cases a <;> rfl⟩
  have hN : (cfgM m hO).N = 814 := N_0
  obtain ⟨t, ht⟩ : ∃ t : Fin (cfgM m hO).N, t.val = 74 * (l.val / 512) + r.val / 512 := ⟨⟨74 * (l.val / 512) + r.val / 512, by omega⟩, rfl⟩
  obtain ⟨i, hi⟩ : ∃ i : Fin 512, i.val = r.val % 512 := ⟨⟨r.val % 512, by omega⟩, rfl⟩
  obtain ⟨j, hj⟩ : ∃ j : Fin 512, j.val = l.val % 512 := ⟨⟨l.val % 512, by omega⟩, rfl⟩
  have hl : 512 * (t.val / 74) + j.val < 5632 := by omega
  have e : (((cfgM m hO).win 3).blk t).view.emb (ix2 i j) = ix2 r l :=
    (emb_at m hO t i j hl).trans (congrArg₂ (fun a b => (ix2 a b : S37888x5632.Idx))
      (Fin.ext (by show 512 * (t.val % 74) + i.val = r.val; omega)) (Fin.ext (by show 512 * (t.val / 74) + j.val = l.val; omega)))
  refine Eq.trans ?_ (outs_at m hO h t r l i j (by omega) (by omega) (by omega))
  refine Eq.trans ?_ (congrFun (flushed m hO t) (ix2 i j))
  refine Eq.trans ?_ (congrFun (blocks m hO t) (ix2 i j))
  generalize (dats m hO 0 0).arrAt 3 (cfgM m hO).N = X
  exact (congrArg X e).symm

/-- The kernel's run: its result array is `value`'s, its arguments are unchanged. -/
theorem run (ρ : Dev nD → PrngReg) (hO : Ok m) (h : ∀ i, (A0 m i).toNat < 8) :
    θ_run defs (onTc (τ := τ) (main (F := Ideal))) ⟨m, fun _ => 0, ρ⟩ (fun r => ∀ c : Dev nD,
      r.2.mem ((c : Thread nD τ).loc main_v0) = value (A0 m) (A1 m) (A2 m) (A3 m) (A4 m) h
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  refine (θ_run defs _ _).mono (fun r q c => ?_) (run_main m ρ hO)
  obtain rfl : c = 0 := Subsingleton.elim _ _
  exact ⟨((q 0).1 3).trans (result m hO h),
    ((q 0).2 main_arg0 (by decide : main_arg0 ∈ Pipeline.restRefs sig spec0)).trans (V_main_arg0 m 0),
    ((q 0).2 main_arg1 (by decide : main_arg1 ∈ Pipeline.restRefs sig spec0)).trans (V_main_arg1 m 0),
    ((q 0).1 0).trans (((dats m hO 0 0).arrAt_in 0 rfl _).trans ((A_eq m hO 0 0).trans (V_main_arg2 m 0))),
    ((q 0).1 1).trans (((dats m hO 0 0).arrAt_in 1 rfl _).trans ((A_eq m hO 0 1).trans (V_main_arg3 m 0))),
    ((q 0).1 2).trans (((dats m hO 0 0).arrAt_in 2 rfl _).trans ((A_eq m hO 0 2).trans (V_main_arg4 m 0)))⟩

end MoeUp

end
-- ==== Proof.MoeUpValue.lean ====
/- The experts' first products: the reference adds eight gated products, each masked to the rows of one expert's tiles; one of them is
   left in a used tile, none in another. The kernel's result is the reference's, over the extended reals. -/
module

public import proofs.«01_k».proof.Proof.MoeUpKernel
public import proofs.«01_k».proof.Proof.Gen.MoeUpReferenceIdeal.Run

@[expose] public section

noncomputable section

namespace MoeUp

open Idealize.ShloMosaic Idealize.ShloMosaic.TcCoe Idealize.ShloMosaic.StableHlo Idealize.SL.Sem

/-- The reference runs and leaves its arguments unchanged; it has no semaphore. -/
theorem reference_frame : Cert.quiescent_MoeUpReferenceIdeal := fun m ρ _ =>
  (θ_run Cert.MoeUpReferenceIdeal.defs _ _).mono
    (fun r h => ⟨fun c => (h c).2, Idealize.ShloMosaic.sem_eq_zero_of_no_sems (by decide) r.2⟩)
    (Cert.MoeUpReferenceIdeal.Value.run (F := Ideal) m ρ)

section reference

open Cert.MoeUpReferenceIdeal Cert.MoeUpReferenceIdeal.Gen

/-- Whether a row is in a used tile of expert `e`. -/
def mask (te : IVec S74 32) (nv : IVec S1 32) (e : BitVec 32) : S37888x5632.Idx → BitVec 1 :=
  broadcastInDim S37888x5632 ![0, 1] bcast_S37888x1_S37888x5632_0_1 (broadcastInDim S37888x1 ![0] bcast_S37888_S37888x1_0
    (shapeCast _ (broadcastInDim S74x512 ![0, 1] bcast_S74x1_S74x512_0_1 (broadcastInDim S74x1 ![0] bcast_S74_S74x1_0
      (andi (cmpi .slt (iotaInDim S74 32 0) (broadcastInDim S74 ![] bcast_S_S74 (shapeCast S_ nv shapeCasts_S1_S_)))
        (cmpi .eq te (broadcastInDim S74 ![] bcast_S_S74 (constantI S_ 32 e)))))) shapeCasts_S74x512_S37888))

/-- A product with one expert's weights. -/
def dot (x : FVec Ideal S37888x2048 .f32) (w : FVec Ideal S2048x5632 .f32) : FVec Ideal S37888x5632 .f32 :=
  Host.dotGeneral dot_S37888x2048_S2048x5632_S37888x5632_1_0_0_1_n_n none x w

/-- One expert's gated product. -/
def act (a b : FVec Ideal S37888x5632 .f32) : FVec Ideal S37888x5632 .f32 :=
  mulf (mulf a (Host.divf (broadcastInDim S37888x5632 ![] bcast_S_S37888x5632 (constant S_ .f32 0x3F800000#32))
    (addf (broadcastInDim S37888x5632 ![] bcast_S_S37888x5632 (constant S_ .f32 0x3F800000#32)) (Host.exp (Host.negf a))))) b

/-- One expert's masked product. -/
def term (te : IVec S74 32) (nv : IVec S1 32) (x : FVec Ideal S37888x2048 .f32) (wg wu : FVec Ideal S2048x5632 .f32) (e : BitVec 32) :
    FVec Ideal S37888x5632 .f32 :=
  select (mask te nv e) (act (dot x wg) (dot x wu))
    (broadcastInDim S37888x5632 ![] bcast_S_S37888x5632 (id (constant (F := Ideal) S_ .f32 0x00000000#32)))

/-- One expert's weights. -/
def slab (w : FVec Ideal S8x2048x5632 .f32) (e : ℕ) (h : S8x2048x5632.Slices ![e, 0, 0] S1x2048x5632) : FVec Ideal S2048x5632 .f32 :=
  shapeCast _ (extractStridedSlice S1x2048x5632 ![e, 0, 0] w h) shapeCasts_S1x2048x5632_S2048x5632

set_option maxRecDepth 16384 in
theorem mask_at (te : IVec S74 32) (nv : IVec S1 32) (e : BitVec 32) (r : Fin 37888) (l : Fin 5632) :
    mask te nv e (ix2 r l) = IntOp.andi (IntOp.cmpi .slt (BitVec.ofNat 32 (r.val / 512)) (nv (ix1 0)))
      (IntOp.cmpi .eq (te (ix1 ⟨r.val / 512, by omega⟩)) e) := by
  pointwise [mask]

set_option maxRecDepth 16384 in
theorem slab_at (w : FVec Ideal S8x2048x5632 .f32) (e : ℕ) (he : e < 8) (h : S8x2048x5632.Slices ![e, 0, 0] S1x2048x5632)
    (k : Fin 2048) (l : Fin 5632) : slab w e h (ix2 k l) = w (ix3 ⟨e, he⟩ k l) := by
  pointwise [slab]

theorem dot_at' (x : FVec Ideal S37888x2048 .f32) (w : FVec Ideal S2048x5632 .f32) (r : Fin 37888) (l : Fin 5632) :
    dot x w (ix2 r l) = (∑ k : Fin 2048, x (ix2 r k) * w (ix2 k l) : EReal) := by
  pointwise [dot]

theorem act_at (a b : FVec Ideal S37888x5632 .f32) (r : Fin 37888) (l : Fin 5632) :
    act a b (ix2 r l) = (a (ix2 r l) * Ideal.logistic (a (ix2 r l)) * b (ix2 r l) : EReal) := by
  have h1 : Ideal.ofBits .f32 0x3F800000#32 = 1 := by
    simp [Ideal.ofBits, Ideal.ieee]
    rw [← EReal.coe_mul]
    norm_num
  have e : act a b (ix2 r l) = (a (ix2 r l) * Ideal.div (Ideal.ofBits .f32 0x3F800000#32)
      (Ideal.ofBits .f32 0x3F800000#32 + Ideal.exp (-(a (ix2 r l)))) * b (ix2 r l) : EReal) := rfl
  rw [e, h1]
  rfl

theorem term_at (te : IVec S74 32) (nv : IVec S1 32) (x : FVec Ideal S37888x2048 .f32) (wg wu : FVec Ideal S2048x5632 .f32) (e : BitVec 32)
    (r : Fin 37888) (l : Fin 5632) :
    term te nv x wg wu e (ix2 r l) = if (BitVec.ofNat 32 (r.val / 512)).slt (nv (ix1 0)) = true ∧ te (ix1 ⟨r.val / 512, by omega⟩) = e then
      ((∑ k : Fin 2048, x (ix2 r k) * wg (ix2 k l)) * Ideal.logistic (∑ k : Fin 2048, x (ix2 r k) * wg (ix2 k l))
        * (∑ k : Fin 2048, x (ix2 r k) * wu (ix2 k l)) : EReal) else 0 := by
  have hm := mask_at te nv e r l
  have hb : mask te nv e (ix2 r l) = 1#1 ↔ (BitVec.ofNat 32 (r.val / 512)).slt (nv (ix1 0)) = true ∧ te (ix1 ⟨r.val / 512, by omega⟩) = e := by
    rw [hm]
    show IntOp.andi (BitVec.ofBool ((BitVec.ofNat 32 (r.val / 512)).slt (nv (ix1 0)))) (BitVec.ofBool (te (ix1 ⟨r.val / 512, by omega⟩) == e)) = 1#1 ↔ _
    rw [← beq_iff_eq (a := te _)]
    cases (BitVec.ofNat 32 (r.val / 512)).slt (nv (ix1 0)) <;> cases (te (ix1 ⟨r.val / 512, by omega⟩) == e) <;> decide
  have hz : broadcastInDim S37888x5632 ![] bcast_S_S37888x5632 (id (constant (F := Ideal) S_ .f32 0x00000000#32)) (ix2 r l) = (0 : EReal) := by
    show Ideal.ofBits .f32 0x00000000#32 = 0
    simp [Ideal.ofBits, Ideal.ieee]
  by_cases h : mask te nv e (ix2 r l) = 1#1
  · rw [if_pos (hb.mp h), ← dot_at' x wg r l, ← dot_at' x wu r l, ← act_at]
    exact if_pos h
  · rw [if_neg (fun q => h (hb.mpr q)), ← hz]
    exact if_neg h

/-- The rows, unpacked: the low halves beside the high halves. -/
def unpacked (x : IVec S37888x1024 32) : FVec Ideal S37888x2048 .f32 :=
  concatenate S37888x2048 1 [⟨S37888x1024, (bitcastToFloat (F := Ideal) .f32 (Host.shli x (broadcastInDim S37888x1024 ![] bcast_S_S37888x1024 (constantI S_ 32 16#32))))⟩,
    ⟨S37888x1024, (bitcastToFloat (F := Ideal) .f32 (andi x (broadcastInDim S37888x1024 ![] bcast_S_S37888x1024 (constantI S_ 32 4294901760#32))))⟩]
    concatenates_S37888x1024_S37888x1024_S37888x2048_d1

theorem unpacked_at (x : IVec S37888x1024 32) (r : Fin 37888) (k : Fin 2048) : unpacked x (ix2 r k) = entry (fun k => x (ix2 r k)) k := by
  unfold entry
  by_cases hk : k.val < 1024
  · rw [dif_pos hk]
    refine (concatenate_pair_apply_left (t := S37888x2048) (s₁ := S37888x1024) (s₂ := S37888x1024) 1 _ _ _ (ix2 r k) rfl (ix2 r ⟨k.val, hk⟩)
      fun b => ?_).trans ?_
    · fin_cases b <;> rfl
    · rfl
  · rw [dif_neg hk]
    refine (concatenate_pair_apply_right (t := S37888x2048) (s₁ := S37888x1024) (s₂ := S37888x1024) 1 _ _ _ (ix2 r k) rfl rfl
      (ix2 r ⟨k.val - 1024, by omega⟩) (fun b hb => ?_) ?_).trans ?_
    · fin_cases b
      · rfl
      · exact absurd rfl hb
    · show k.val - 1024 + 1024 = k.val
      omega
    · rfl

theorem masked_at (te : IVec S74 32) (nv : IVec S1 32) (x : IVec S37888x1024 32) (wg wu : FVec Ideal S8x2048x5632 .f32)
    (hte : ∀ i, (te i).toNat < 8) (n : ℕ) (hn : n < 8) (h : S8x2048x5632.Slices ![n, 0, 0] S1x2048x5632) (r : Fin 37888) (l : Fin 5632) :
    term te nv (unpacked x) (slab wg n h) (slab wu n h) (BitVec.ofNat 32 n) (ix2 r l)
      = if (BitVec.ofNat 32 (r.val / 512)).slt (nv (ix1 0)) = true ∧ (te (ix1 ⟨r.val / 512, by omega⟩)).toNat = n then gated x wg wu r ⟨(te (ix1 ⟨r.val / 512, by omega⟩)).toNat, hte _⟩ l else (0 : EReal) := by
  have hb : te (ix1 ⟨r.val / 512, by omega⟩) = BitVec.ofNat 32 n ↔ (te (ix1 ⟨r.val / 512, by omega⟩)).toNat = n := by
    rw [← BitVec.toNat_inj, BitVec.toNat_ofNat, Nat.mod_eq_of_lt (by omega)]
  rw [term_at]
  by_cases q : (BitVec.ofNat 32 (r.val / 512)).slt (nv (ix1 0)) = true ∧ (te (ix1 ⟨r.val / 512, by omega⟩)).toNat = n
  · rw [if_pos q, if_pos ⟨q.1, hb.mpr q.2⟩]
    have hs (w : FVec Ideal S8x2048x5632 .f32) : (∑ k : Fin 2048, unpacked x (ix2 r k) * slab w n h (ix2 k l) : EReal)
        = prod x w r ⟨(te (ix1 ⟨r.val / 512, by omega⟩)).toNat, hte _⟩ l := by
      refine Finset.sum_congr rfl fun k _ => congrArg₂ (fun a b : EReal => a * b) (unpacked_at x r k) ?_
      rw [slab_at w n hn]
      exact congrArg (fun z => w (ix3 z k l)) (Fin.ext q.2.symm)
    rw [hs wg, hs wu]
    rfl
  · rw [if_neg q, if_neg fun p => q ⟨p.1, hb.mp p.2⟩]

/-- The sum of the eight masked products, at an entry. -/
theorem total (te : IVec S74 32) (nv : IVec S1 32) (x : IVec S37888x1024 32) (wg wu : FVec Ideal S8x2048x5632 .f32)
    (h : ∀ i, (te i).toNat < 8) (r : Fin 37888) (l : Fin 5632) :
    (broadcastInDim S37888x5632 ![] bcast_S_S37888x5632 (constant (F := Ideal) S_ .f32 0x00000000#32) (ix2 r l)
        + term te nv (unpacked x) (slab wg 0 slices_S8x2048x5632_S1x2048x5632_0_0_0) (slab wu 0 slices_S8x2048x5632_S1x2048x5632_0_0_0) (BitVec.ofNat 32 0) (ix2 r l)
        + term te nv (unpacked x) (slab wg 1 slices_S8x2048x5632_S1x2048x5632_1_0_0) (slab wu 1 slices_S8x2048x5632_S1x2048x5632_1_0_0) (BitVec.ofNat 32 1) (ix2 r l)
        + term te nv (unpacked x) (slab wg 2 slices_S8x2048x5632_S1x2048x5632_2_0_0) (slab wu 2 slices_S8x2048x5632_S1x2048x5632_2_0_0) (BitVec.ofNat 32 2) (ix2 r l)
        + term te nv (unpacked x) (slab wg 3 slices_S8x2048x5632_S1x2048x5632_3_0_0) (slab wu 3 slices_S8x2048x5632_S1x2048x5632_3_0_0) (BitVec.ofNat 32 3) (ix2 r l)
        + term te nv (unpacked x) (slab wg 4 slices_S8x2048x5632_S1x2048x5632_4_0_0) (slab wu 4 slices_S8x2048x5632_S1x2048x5632_4_0_0) (BitVec.ofNat 32 4) (ix2 r l)
        + term te nv (unpacked x) (slab wg 5 slices_S8x2048x5632_S1x2048x5632_5_0_0) (slab wu 5 slices_S8x2048x5632_S1x2048x5632_5_0_0) (BitVec.ofNat 32 5) (ix2 r l)
        + term te nv (unpacked x) (slab wg 6 slices_S8x2048x5632_S1x2048x5632_6_0_0) (slab wu 6 slices_S8x2048x5632_S1x2048x5632_6_0_0) (BitVec.ofNat 32 6) (ix2 r l)
        + term te nv (unpacked x) (slab wg 7 slices_S8x2048x5632_S1x2048x5632_7_0_0) (slab wu 7 slices_S8x2048x5632_S1x2048x5632_7_0_0) (BitVec.ofNat 32 7) (ix2 r l) : EReal)
      = value te nv x wg wu h (ix2 r l) := by
  have hz : broadcastInDim S37888x5632 ![] bcast_S_S37888x5632 (constant (F := Ideal) S_ .f32 0x00000000#32) (ix2 r l) = (0 : EReal) := by
    show Ideal.ofBits .f32 0x00000000#32 = 0
    simp [Ideal.ofBits, Ideal.ieee]
  rw [hz, masked_at te nv x wg wu h 0 (by omega), masked_at te nv x wg wu h 1 (by omega), masked_at te nv x wg wu h 2 (by omega),
    masked_at te nv x wg wu h 3 (by omega), masked_at te nv x wg wu h 4 (by omega), masked_at te nv x wg wu h 5 (by omega),
    masked_at te nv x wg wu h 6 (by omega), masked_at te nv x wg wu h 7 (by omega)]
  show _ = if (BitVec.ofNat 32 (r.val / 512)).slt (nv (ix1 0)) = true then gated x wg wu r ⟨(te (ix1 ⟨r.val / 512, by omega⟩)).toNat, h _⟩ l else (0 : EReal)
  generalize gated x wg wu r ⟨(te (ix1 ⟨r.val / 512, by omega⟩)).toNat, h _⟩ l = S
  have hE := h (ix1 ⟨r.val / 512, by omega⟩)
  generalize (te (ix1 ⟨r.val / 512, by omega⟩)).toNat = n at hE ⊢
  by_cases u : (BitVec.ofNat 32 (r.val / 512)).slt (nv (ix1 0)) = true
  · interval_cases n <;> simp [u]
  · simp [u]

/-- The reference's result. -/
theorem reference_value (m : (ℓ : Loc nD τ sig) → Buf (Elt Ideal) ℓ) (c : Dev nD)
    (h : ∀ i, (m ((c : Thread nD τ).loc main_arg0) i).toNat < 8) :
    truncf .bf16 (Cert.MoeUpReferenceIdeal.Value.res_main_v147 (launchContents m c)) bitsLt_bf16_f32
      = value (m ((c : Thread nD τ).loc main_arg0)) (m ((c : Thread nD τ).loc main_arg1))
        (m ((c : Thread nD τ).loc main_arg2)) (m ((c : Thread nD τ).loc main_arg3)) (m ((c : Thread nD τ).loc main_arg4)) h := by
  refine funext fun (y : S37888x5632.Idx) => ?_
  obtain ⟨r, l, rfl⟩ : ∃ (r : Fin 37888) (l : Fin 5632), y = ix2 r l := ⟨y 0, y 1, funext fun a => by fin_cases a <;> rfl⟩
  exact total (m ((c : Thread nD τ).loc main_arg0)) (m ((c : Thread nD τ).loc main_arg1))
    (m ((c : Thread nD τ).loc main_arg2)) (m ((c : Thread nD τ).loc main_arg3)) (m ((c : Thread nD τ).loc main_arg4)) h r l

end reference

open Cert.MoeUpIdeal in
theorem claim : Cert.algebraic_MoeUpIdeal_MoeUpReferenceIdeal := by
  intro m ρ m' ρ' pre hargs
  have h : ∀ i, (A0 m i).toNat < 8 := word_lt _ _ _ _ _ (pre 0)
  refine ⟨fun _ => value (A0 m) (A1 m) (A2 m) (A3 m) (A4 m) h, run m ρ (ok_ideal m pre) h, ?_⟩
  refine (θ_run Cert.MoeUpReferenceIdeal.defs _ _).mono (fun r q c => ⟨(q c).1.trans ?_, (q c).2⟩)
    (Cert.MoeUpReferenceIdeal.Value.run (F := Ideal) m' ρ')
  obtain rfl : c = 0 := Subsingleton.elim _ _
  have hr : ∀ i, (m' (((0 : Dev Cert.MoeUpReferenceIdeal.nD) : Thread Cert.MoeUpReferenceIdeal.nD Cert.MoeUpReferenceIdeal.τ).loc
      Cert.MoeUpReferenceIdeal.main_arg0) i).toNat < 8 := by
    rw [(hargs 0).1]
    exact h
  refine (reference_value m' 0 hr).trans ?_
  revert hr
  rw [(hargs 0).1, (hargs 0).2.1, (hargs 0).2.2.1, (hargs 0).2.2.2.1, (hargs 0).2.2.2.2]
  exact fun _ => rfl

end MoeUp

end
-- ==== Proof.MoeDownKernel.lean ====
/- The experts' last product over row tiles: tile `i` of 512 rows takes the weights of the expert that a table names for it, and the
   tiles past the used ones are zero. The kernel's result is the reference's, over the extended reals. -/
module

public import proofs.«01_k».proof.Defs
public import proofs.«01_k».proof.Proof.Gen.MoeDown.Frame
public import proofs.«01_k».proof.Proof.Gen.MoeDownIdeal.Frame
public import proofs.«01_k».proof.Proof.Gen.Pre_down_experts
public import Idealize.ShloMosaic.Lib.Pointwise
public import Idealize.ShloMosaic.Lib.Pipeline.ValueKit
public import Idealize.ShloMosaic.Adequacy
public import Idealize.ShloMosaic.Init

@[expose] public section

noncomputable section

namespace MoeDown

open Idealize.ShloMosaic Idealize.ShloMosaic.TcCoe Idealize.ShloMosaic.Tactic Idealize.SL.Sem

/-! ## The table names experts 0 to 7 -/

theorem word_lt {F : FTy → Type} [FloatOps F] (te : IVec Cert.Pre_down_experts.S74 32) (nv : IVec Cert.Pre_down_experts.S1 32)
    (a : FVec F Cert.Pre_down_experts.S37888x5632 .f32) (w : FVec F Cert.Pre_down_experts.S8x5632x2048 .f32)
    (h : Cert.Pre_down_experts.fn (F := F) te nv a w = fun _ => 1#1) (i : Cert.Pre_down_experts.S74.Idx) : (te i).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h i
  simp only [Cert.Pre_down_experts.fn, constantI, broadcastInDim, cmpi, andi, andi_one, ofBool_eq_one, IntOp.cmpi, BitVec.sle,
    BitVec.slt, decide_eq_true_eq, BitVec.toInt, BitVec.toNat_ofNat] at pre
  have hlt := (te i).isLt
  generalize (te i).toNat = n at pre hlt ⊢
  obtain ⟨p, q⟩ := pre
  split at p <;> split at q <;> omega

theorem ok_bits (m : (ℓ : Loc Cert.MoeDown.nD Cert.MoeDown.τ Cert.MoeDown.sig) → Buf (Elt Bits) ℓ) (h : Cert.Pre_MoeDown m) :
    Cert.MoeDown.Gen.Ok m := by
  intro i
  have hw := word_lt _ _ _ _ (h 0)
  have e : Cert.MoeDown.Gen.tbl m 0 = m (((0 : Dev Cert.MoeDown.nD) : Thread Cert.MoeDown.nD Cert.MoeDown.τ).loc Cert.MoeDown.main_arg0) :=
    Cert.MoeDown.Gen.V_main_arg0 m 0
  refine ⟨fun a => ?_, Or.inl rfl⟩
  fin_cases a
  · show ((Cert.MoeDown.Gen.tbl m 0 _).toNat + 1) * 1 ≤ 8
    rw [e]
    exact (Nat.mul_one _).trans_le (hw _)
  · show (0 + 1) * 5632 ≤ 5632
    omega
  · show ((BitVec.ofNat 32 (i 0).val).toNat + 1) * 512 ≤ 2048
    have : (i 0).val < 4 := (i 0).isLt
    rw [BitVec.toNat_ofNat]
    omega

theorem ok_ideal (m : (ℓ : Loc Cert.MoeDownIdeal.nD Cert.MoeDownIdeal.τ Cert.MoeDownIdeal.sig) → Buf (Elt Ideal) ℓ)
    (h : Cert.Pre_MoeDownIdeal m) : Cert.MoeDownIdeal.Gen.Ok m := by
  intro i
  have hw := word_lt _ _ _ _ (h 0)
  have e : Cert.MoeDownIdeal.Gen.tbl m 0
      = m (((0 : Dev Cert.MoeDownIdeal.nD) : Thread Cert.MoeDownIdeal.nD Cert.MoeDownIdeal.τ).loc Cert.MoeDownIdeal.main_arg0) :=
    Cert.MoeDownIdeal.Gen.V_main_arg0 m 0
  refine ⟨fun a => ?_, Or.inl rfl⟩
  fin_cases a
  · show ((Cert.MoeDownIdeal.Gen.tbl m 0 _).toNat + 1) * 1 ≤ 8
    rw [e]
    exact (Nat.mul_one _).trans_le (hw _)
  · show (0 + 1) * 5632 ≤ 5632
    omega
  · show ((BitVec.ofNat 32 (i 0).val).toNat + 1) * 512 ≤ 2048
    have : (i 0).val < 4 := (i 0).isLt
    rw [BitVec.toNat_ofNat]
    omega

theorem frame_bits : Cert.quiescent_MoeDown := fun m ρ h => Cert.MoeDown.Gen.frame m ρ (ok_bits m h)

theorem frame_ideal : Cert.quiescent_MoeDownIdeal := fun m ρ h => Cert.MoeDownIdeal.Gen.frame m ρ (ok_ideal m h)

/-! ## The kernel's result -/

open Cert.MoeDownIdeal Cert.MoeDownIdeal.Gen

/-- Row `r` is in tile `r / 512`: in a used tile its product with the weights of the tile's expert, else zero. -/
def value (te : S74.Idx → BitVec 32) (nv : S1.Idx → BitVec 32) (a : S37888x5632.Idx → EReal) (w : S8x5632x2048.Idx → EReal)
    (h : ∀ i, (te i).toNat < 8) : S37888x2048.Idx → EReal :=
  fun y =>
    if (BitVec.ofNat 32 ((y 0).val / 512)).slt (nv (ix1 0)) = true then
      ∑ k : Fin 5632, a (ix2 ⟨(y 0).val, (y 0).isLt⟩ k)
        * w (ix3 ⟨(te (ix1 ⟨(y 0).val / 512, by have : (y 0).val < 37888 := (y 0).isLt; omega⟩)).toNat, h _⟩ k ⟨(y 1).val, (y 1).isLt⟩)
    else 0

/-- The grid: point `t` is column block `t / 74` of tile `t % 74`. -/
theorem coords : ∀ t : Fin grid0.N, (grid0.coords t 0).val = t.val / 74 ∧ (grid0.coords t 1).val = t.val % 74
    ∧ cc0_transform_0 (grid0.coords t) = ![t.val % 74, 0] ∧ cc0_transform_2 (grid0.coords t) = ![t.val % 74, t.val / 74] := by
  decide +kernel

variable (m : (ℓ : Loc nD τ sig) → Buf (Elt Ideal) ℓ)

/-- The arguments. -/
abbrev A0 : S74.Idx → BitVec 32 := m (((0 : Dev nD) : Thread nD τ).loc main_arg0)
abbrev A1 : S1.Idx → BitVec 32 := m (((0 : Dev nD) : Thread nD τ).loc main_arg1)
abbrev A2 : S37888x5632.Idx → EReal := m (((0 : Dev nD) : Thread nD τ).loc main_arg2)
abbrev A3 : S8x5632x2048.Idx → EReal := m (((0 : Dev nD) : Thread nD τ).loc main_arg3)

theorem tbl0 : tbl m 0 = A0 m := V_main_arg0 m 0
theorem tbl1 : tbl m 1 = A1 m := V_main_arg1 m 0

/-- The expert the table names for a tile. -/
theorem word_at (t : Fin grid0.N) (hb) :
    (tbl m).at 0 (Rect.unit (s := S74) ![(Scalar.indexCast (BitVec.ofNat 32 (grid0.coords t 1).val) : Index).toNat] S1.size hb) numel1_S1
      = A0 m (ix1 ⟨t.val % 74, by omega⟩) := by
  show tbl m 0 _ = _
  rw [tbl0]
  refine congrArg (A0 m) (funext fun a => ?_)
  fin_cases a
  refine Fin.ext ?_
  show (BitVec.ofNat 32 (grid0.coords t 1).val).toNat + 1 * 0 = t.val % 74
  rw [(coords t).2.1, BitVec.toNat_ofNat]
  omega

/-- The block every window names at a point. -/
theorem idx (hO : Ok m) (t : Fin (cfgM m hO).N) : ((cfgM m hO).win 0).index t = ![t.val % 74, 0]
    ∧ ((cfgM m hO).win 1).index t = ![(A0 m (ix1 ⟨t.val % 74, by omega⟩)).toNat, 0, t.val / 74]
    ∧ ((cfgM m hO).win 2).index t = ![t.val % 74, t.val / 74] := by
  refine ⟨(coords t).2.2.1, ?_, (coords t).2.2.2⟩
  have h := word_at m t
  funext a
  fin_cases a
  · exact congrArg BitVec.toNat (h (k0_off1_inb (grid0.coords t)))
  · rfl
  · show (BitVec.ofNat 32 (grid0.coords t 0).val).toNat = t.val / 74
    have hN : t.val < 296 := N_0 ▸ t.isLt
    rw [(coords t).1, BitVec.toNat_ofNat]
    omega

/-- The number of used tiles, as a point reads it. -/
theorem used_word : tbM0_1.view.readAt (Elt Ideal) (Rect.unit (s := S1) ![0] S1.size inb_S1_S1_0).toLoadRect (tbl m 1)
    (Shape.Idx.first (numel1_S1.symm ▸ Nat.one_pos)) = A1 m (ix1 0) := by
  rw [tbl1]
  refine congrArg (A1 m) (funext fun a => ?_)
  fin_cases a
  exact Subsingleton.elim (α := Fin 1) _ _

theorem cond_iff (i : grid0.Coords) (v : BitVec 32) : cond0_0 i v ↔ (BitVec.ofNat 32 (i 1).val).slt v = true := by
  show (IntOp.cmpi .ne ((BitVec.ofBool ((BitVec.ofNat 32 (i 1).val).slt v)).setWidth 32) 0#32) = 1#1 ↔ _
  cases (BitVec.ofNat 32 (i 1).val).slt v <;> decide

theorem V_v0 (c : Dev nD) : V m c main_v0 = (m ((c : Thread nD τ).loc main_arg2) : S37888x5632.Idx → EReal) := by
  show StableHlo.after _ _ _ = _
  unfold hostOps0
  after_results
  rfl

theorem a_at (hO : Ok m) (t : Fin (cfgM m hO).N) (i : Fin 512) (k : Fin 5632) :
    iblk m hO 0 0 t (ix2 i k) = A2 m (ix2 ⟨512 * (t.val % 74) + i.val, by omega⟩ k) := by
  have e : (((cfgM m hO).win 0).blk t).view.emb (ix2 i k) = ix2 ⟨512 * (t.val % 74) + i.val, by omega⟩ k := by
    blk_ext [(idx m hO t).1]
  show V m 0 main_v0 ((((cfgM m hO).win 0).blk t).view.emb (ix2 i k)) = _
  rw [V_v0, e]

theorem w_at (hO : Ok m) (h : ∀ i, (A0 m i).toNat < 8) (t : Fin (cfgM m hO).N) (k : Fin 5632) (j : Fin 512)
    (hj : 512 * (t.val / 74) + j.val < 2048) :
    iblk m hO 0 1 t (ix3 0 k j) = A3 m (ix3 ⟨(A0 m (ix1 ⟨t.val % 74, by omega⟩)).toNat, h _⟩ k ⟨512 * (t.val / 74) + j.val, hj⟩) := by
  have e : (((cfgM m hO).win 1).blk t).view.emb (ix3 0 k j)
      = ix3 ⟨(A0 m (ix1 ⟨t.val % 74, by omega⟩)).toNat, h _⟩ k ⟨512 * (t.val / 74) + j.val, hj⟩ := by
    blk_ext [(idx m hO t).2.1]
  show V m 0 main_arg3 ((((cfgM m hO).win 1).blk t).view.emb (ix3 0 k j)) = _
  rw [V_main_arg3, e]

/-- What a point stores in its block: of a used tile the product, of another zeros. -/
theorem pay1_at (i j : Fin 512) : k0_pay1 (F := Ideal) (ix2 i j) = (0 : EReal) := by
  pointwise [k0_pay1]

theorem pay2_at (x : FVec Ideal S512x5632 .bf16) (w : FVec Ideal S1x5632x512 .f32) (i j : Fin 512) :
    k0_pay2 (F := Ideal) x w (ix2 i j) = (∑ k : Fin 5632, x (ix2 i k) * w (ix3 0 k j) : EReal) := by
  pointwise [k0_pay2]

section run

variable {F : FTy → Type} [FloatOps F]

theorem outA (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .f32) (harg6 : arg6.IsWhole)
    (x0 : Vec F S512x5632 .bf16) (x1 : Vec F S1x5632x512 .f32) (xt0 : TbBuf0 (F := F) c tbM0_0) (xt1 : TbBuf0 (F := F) c tbM0_1) (hc0) :
    out0_A_2 c i arg4 harg4 arg5 harg5 arg6 harg6 x0 x1 xt0 xt1 hc0 = k0_pay2 x0 x1 := by
  have e : (kernelRun0_A c i arg4 harg4 arg5 harg5 arg6 harg6 x0 x1 xt0 xt1 hc0).1
      = [⟨Rect.unit (s := S512x512) ![0, 0] S512x512.size inb_S512x512_S512x512_0_0,
          k0_pay2 (View.ld (arg4.view.read (Elt F) (harg4.unread x0)) (Rect.unit (s := S512x5632) ![0, 0] S512x5632.size inb_S512x5632_S512x5632_0_0))
            (View.ld (arg5.view.read (Elt F) (harg5.unread x1)) (Rect.unit (s := S1x5632x512) ![0, 0, 0] S1x5632x512.size inb_S1x5632x512_S1x5632x512_0_0_0))⟩,
        ⟨Rect.unit (s := S512x512) ![0, 0] S512x512.size inb_S512x512_S512x512_0_0, k0_pay1 (F := F)⟩] := by
    sl_kernel_rfl
  unfold out0_A_2
  rw [View.read_writes_junk_eq_canon, e, View.canon_cons_unit_zero (by funext a; fin_cases a <;> rfl), Memref.IsWhole.read_unread,
    Memref.IsWhole.read_unread, View.ld_unit_zero (by funext a; fin_cases a <;> rfl), View.ld_unit_zero (by funext a; fin_cases a <;> rfl)]

theorem outB (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .f32) (harg6 : arg6.IsWhole)
    (x0 : Vec F S512x5632 .bf16) (x1 : Vec F S1x5632x512 .f32) (xt0 : TbBuf0 (F := F) c tbM0_0) (xt1 : TbBuf0 (F := F) c tbM0_1) (hc0) :
    out0_B_2 c i arg4 harg4 arg5 harg5 arg6 harg6 x0 x1 xt0 xt1 hc0 = k0_pay1 (F := F) := by
  have e : (kernelRun0_B c i arg4 harg4 arg5 harg5 arg6 harg6 x0 x1 xt0 xt1 hc0).1
      = [⟨Rect.unit (s := S512x512) ![0, 0] S512x512.size inb_S512x512_S512x512_0_0, k0_pay1 (F := F)⟩] := by
    sl_kernel_rfl
  unfold out0_B_2
  rw [View.read_writes_junk_eq_canon, e, View.canon_unit_zero (by funext a; fin_cases a <;> rfl)]

end run

/-- Two points write two blocks, so a block of the final array is what its point wrote. -/
theorem blocks (hO : Ok m) (t : Fin (cfgM m hO).N) :
    (((cfgM m hO).win 2).blk t).view.read (Elt Ideal) ((dats m hO 0 0).arrAt 2 (cfgM m hO).N) = (dats m hO 0 0).flushed 2 t :=
  (dats m hO 0 0).read_blk_arrAt_eq_flushed 2 (fun t t' _ _ hne => ((cfgM m hO).win 2).disjoint_blk fun h => hne (by
    have h1 : ((cfgM m hO).win 2).index t = ((cfgM m hO).win 2).index t' := h
    rw [(idx m hO t).2.2, (idx m hO t').2.2] at h1
    have a : t.val % 74 = t'.val % 74 := congrFun h1 0
    have b : t.val / 74 = t'.val / 74 := congrFun h1 1
    exact Fin.ext (by omega))) (cfgM m hO).N t t.isLt (flush0_2 (adm m hO) t)

theorem flushed (hO : Ok m) (t : Fin (cfgM m hO).N) : (dats m hO 0 0).flushed 2 t = outsAt0 m hO 0 t :=
  after0_2 m hO 0 t

/-- What a point leaves in its block. -/
theorem outs_at (hO : Ok m) (h : ∀ i, (A0 m i).toNat < 8) (t : Fin (cfgM m hO).N) (r : Fin 37888) (l : Fin 2048) (i j : Fin 512)
    (h3 : t.val % 74 = r.val / 512) (hi : 512 * (t.val % 74) + i.val = r.val) (hj : 512 * (t.val / 74) + j.val = l.val) :
    outsAt0 m hO 0 t (ix2 i j) = value (A0 m) (A1 m) (A2 m) (A3 m) h (ix2 r l) := by
  show _ = if (BitVec.ofNat 32 (r.val / 512)).slt (A1 m (ix1 0)) = true then
      ∑ k : Fin 5632, A2 m (ix2 r k) * A3 m (ix3 ⟨(A0 m (ix1 ⟨r.val / 512, by omega⟩)).toNat, h _⟩ k l) else (0 : EReal)
  have hc := cond_iff (grid0.coords t) (A1 m (ix1 0))
  rw [(coords t).2.1, h3] at hc
  by_cases h0 : (BitVec.ofNat 32 (r.val / 512)).slt (A1 m (ix1 0)) = true
  · have hA : outsAt0 m hO 0 t = k0_pay2 (F := Ideal) (iblk m hO 0 0 t) (iblk m hO 0 1 t) :=
      (outsAt0_A m hO 0 t (by rw [used_word]; exact hc.mpr h0)).trans (outA _ _ _ _ _ _ _ _ _ _ _ _ _)
    rw [if_pos h0, hA]
    refine (pay2_at _ _ i j).trans ?_
    have hx : ∀ k, iblk m hO 0 0 t (ix2 i k) = A2 m (ix2 r k) := fun k =>
      (a_at m hO t i k).trans (congrArg (fun x => A2 m (ix2 x k)) (Fin.ext hi))
    have hg : ∀ k, iblk m hO 0 1 t (ix3 0 k j) = A3 m (ix3 ⟨(A0 m (ix1 ⟨r.val / 512, by omega⟩)).toNat, h _⟩ k l) := fun k => by
      refine (w_at m hO h t k j (by omega)).trans (congrArg (A3 m) (funext fun a => ?_))
      fin_cases a
      · exact Fin.ext (congrArg (fun x => (A0 m (ix1 x)).toNat) (Fin.ext h3))
      · rfl
      · exact Fin.ext hj
    exact Finset.sum_congr rfl fun k _ => congrArg₂ (fun a b : EReal => a * b) (hx k) (hg k)
  · have hB : outsAt0 m hO 0 t = k0_pay1 (F := Ideal) :=
      (outsAt0_B m hO 0 t (by rw [used_word]; exact fun q => h0 (hc.mp q))).trans (outB _ _ _ _ _ _ _ _ _ _ _ _ _)
    rw [if_neg h0, hB, pay1_at]

theorem emb_at (hO : Ok m) (t : Fin (cfgM m hO).N) (i j : Fin 512) (hl : 512 * (t.val / 74) + j.val < 2048) :
    ((((cfgM m hO).win 2).blk t).view.emb (ix2 i j) : S37888x2048.Idx)
      = ix2 ⟨512 * (t.val % 74) + i.val, by omega⟩ ⟨512 * (t.val / 74) + j.val, hl⟩ := by
  blk_ext [(idx m hO t).2.2]

/-- The kernel's result array. -/
theorem result (hO : Ok m) (h : ∀ i, (A0 m i).toNat < 8) :
    (dats m hO 0 0).arrAt 2 (cfgM m hO).N = value (A0 m) (A1 m) (A2 m) (A3 m) h := by
  refine funext fun (y : S37888x2048.Idx) => ?_
  obtain ⟨r, l, rfl⟩ : ∃ (r : Fin 37888) (l : Fin 2048), y = ix2 r l := ⟨y 0, y 1, funext fun a => by fin_cases a <;> rfl⟩
  have hN : (cfgM m hO).N = 296 := N_0
  obtain ⟨t, ht⟩ : ∃ t : Fin (cfgM m hO).N, t.val = 74 * (l.val / 512) + r.val / 512 := ⟨⟨74 * (l.val / 512) + r.val / 512, by omega⟩, rfl⟩
  obtain ⟨i, hi⟩ : ∃ i : Fin 512, i.val = r.val % 512 := ⟨⟨r.val % 512, by omega⟩, rfl⟩
  obtain ⟨j, hj⟩ : ∃ j : Fin 512, j.val = l.val % 512 := ⟨⟨l.val % 512, by omega⟩, rfl⟩
  have hl : 512 * (t.val / 74) + j.val < 2048 := by omega
  have e : (((cfgM m hO).win 2).blk t).view.emb (ix2 i j) = ix2 r l :=
    (emb_at m hO t i j hl).trans (congrArg₂ (fun a b => (ix2 a b : S37888x2048.Idx))
      (Fin.ext (by show 512 * (t.val % 74) + i.val = r.val; omega)) (Fin.ext (by show 512 * (t.val / 74) + j.val = l.val; omega)))
  refine Eq.trans ?_ (outs_at m hO h t r l i j (by omega) (by omega) (by omega))
  refine Eq.trans ?_ (congrFun (flushed m hO t) (ix2 i j))
  refine Eq.trans ?_ (congrFun (blocks m hO t) (ix2 i j))
  generalize (dats m hO 0 0).arrAt 2 (cfgM m hO).N = X
  exact (congrArg X e).symm

/-- The kernel's run: its result array is `value`'s, its arguments are unchanged. -/
theorem run (ρ : Dev nD → PrngReg) (hO : Ok m) (h : ∀ i, (A0 m i).toNat < 8) :
    θ_run defs (onTc (τ := τ) (main (F := Ideal))) ⟨m, fun _ => 0, ρ⟩ (fun r => ∀ c : Dev nD,
      r.2.mem ((c : Thread nD τ).loc main_v1) = value (A0 m) (A1 m) (A2 m) (A3 m) h
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun r q c => ?_) (run_main m ρ hO)
  obtain rfl : c = 0 := Subsingleton.elim _ _
  exact ⟨((q 0).1 2).trans (result m hO h),
    ((q 0).2 main_arg0 (by decide : main_arg0 ∈ Pipeline.restRefs sig spec0)).trans (V_main_arg0 m 0),
    ((q 0).2 main_arg1 (by decide : main_arg1 ∈ Pipeline.restRefs sig spec0)).trans (V_main_arg1 m 0),
    ((q 0).2 main_arg2 (by decide : main_arg2 ∈ Pipeline.restRefs sig spec0)).trans (V_main_arg2 m 0),
    ((q 0).1 1).trans (((dats m hO 0 0).arrAt_in 1 rfl _).trans ((A_eq m hO 0 1).trans (V_main_arg3 m 0)))⟩

end MoeDown

end
-- ==== Proof.MoeDownValue.lean ====
/- The experts' last product: the reference adds eight products, each masked to the rows of one expert's tiles; one of them is left in a
   used tile, none in another. The kernel's result is the reference's, over the extended reals. -/
module

public import proofs.«01_k».proof.Proof.MoeDownKernel
public import proofs.«01_k».proof.Proof.Gen.MoeDownReferenceIdeal.Run

@[expose] public section

noncomputable section

namespace MoeDown

open Idealize.ShloMosaic Idealize.ShloMosaic.TcCoe Idealize.SL.Sem

/-- The reference runs and leaves its arguments unchanged; it has no semaphore. -/
theorem reference_frame : Cert.quiescent_MoeDownReferenceIdeal := fun m ρ _ =>
  (θ_run Cert.MoeDownReferenceIdeal.defs _ _).mono
    (fun r h => ⟨fun c => (h c).2, Idealize.ShloMosaic.sem_eq_zero_of_no_sems (by decide) r.2⟩)
    (Cert.MoeDownReferenceIdeal.Value.run (F := Ideal) m ρ)

section reference

open Cert.MoeDownReferenceIdeal Cert.MoeDownReferenceIdeal.Gen

/-- Whether a row is in a used tile of expert `e`. -/
def mask (te : IVec S74 32) (nv : IVec S1 32) (e : BitVec 32) : S37888x2048.Idx → BitVec 1 :=
  broadcastInDim S37888x2048 ![0, 1] bcast_S37888x1_S37888x2048_0_1 (broadcastInDim S37888x1 ![0] bcast_S37888_S37888x1_0
    (shapeCast _ (broadcastInDim S74x512 ![0, 1] bcast_S74x1_S74x512_0_1 (broadcastInDim S74x1 ![0] bcast_S74_S74x1_0
      (andi (cmpi .slt (iotaInDim S74 32 0) (broadcastInDim S74 ![] bcast_S_S74 (shapeCast S_ nv shapeCasts_S1_S_)))
        (cmpi .eq te (broadcastInDim S74 ![] bcast_S_S74 (constantI S_ 32 e)))))) shapeCasts_S74x512_S37888))

/-- One expert's masked product. -/
def term (te : IVec S74 32) (nv : IVec S1 32) (a : FVec Ideal S37888x5632 .f32) (we : FVec Ideal S5632x2048 .f32) (e : BitVec 32) :
    FVec Ideal S37888x2048 .f32 :=
  select (mask te nv e) (Host.dotGeneral dot_S37888x5632_S5632x2048_S37888x2048_1_0_0_1_n_n none a we)
    (broadcastInDim S37888x2048 ![] bcast_S_S37888x2048 (id (constant (F := Ideal) S_ .f32 0x00000000#32)))

/-- One expert's weights. -/
def slab (w : FVec Ideal S8x5632x2048 .f32) (e : ℕ) (h : S8x5632x2048.Slices ![e, 0, 0] S1x5632x2048) : FVec Ideal S5632x2048 .f32 :=
  shapeCast _ (extractStridedSlice S1x5632x2048 ![e, 0, 0] w h) shapeCasts_S1x5632x2048_S5632x2048

set_option maxRecDepth 16384 in
theorem mask_at (te : IVec S74 32) (nv : IVec S1 32) (e : BitVec 32) (r : Fin 37888) (l : Fin 2048) :
    mask te nv e (ix2 r l) = IntOp.andi (IntOp.cmpi .slt (BitVec.ofNat 32 (r.val / 512)) (nv (ix1 0)))
      (IntOp.cmpi .eq (te (ix1 ⟨r.val / 512, by omega⟩)) e) := by
  pointwise [mask]

set_option maxRecDepth 16384 in
theorem slab_at (w : FVec Ideal S8x5632x2048 .f32) (e : ℕ) (he : e < 8) (h : S8x5632x2048.Slices ![e, 0, 0] S1x5632x2048)
    (k : Fin 5632) (l : Fin 2048) : slab w e h (ix2 k l) = w (ix3 ⟨e, he⟩ k l) := by
  pointwise [slab]

theorem term_at (te : IVec S74 32) (nv : IVec S1 32) (a : FVec Ideal S37888x5632 .f32) (we : FVec Ideal S5632x2048 .f32) (e : BitVec 32)
    (r : Fin 37888) (l : Fin 2048) :
    term te nv a we e (ix2 r l) = if (BitVec.ofNat 32 (r.val / 512)).slt (nv (ix1 0)) = true ∧ te (ix1 ⟨r.val / 512, by omega⟩) = e then
      (∑ k : Fin 5632, a (ix2 r k) * we (ix2 k l) : EReal) else 0 := by
  have hm := mask_at te nv e r l
  have hb : mask te nv e (ix2 r l) = 1#1 ↔ (BitVec.ofNat 32 (r.val / 512)).slt (nv (ix1 0)) = true ∧ te (ix1 ⟨r.val / 512, by omega⟩) = e := by
    rw [hm]
    show IntOp.andi (BitVec.ofBool ((BitVec.ofNat 32 (r.val / 512)).slt (nv (ix1 0)))) (BitVec.ofBool (te (ix1 ⟨r.val / 512, by omega⟩) == e)) = 1#1 ↔ _
    rw [← beq_iff_eq (a := te _)]
    cases (BitVec.ofNat 32 (r.val / 512)).slt (nv (ix1 0)) <;> cases (te (ix1 ⟨r.val / 512, by omega⟩) == e) <;> decide
  have hd : Host.dotGeneral dot_S37888x5632_S5632x2048_S37888x2048_1_0_0_1_n_n none a we (ix2 r l)
      = (∑ k : Fin 5632, a (ix2 r k) * we (ix2 k l) : EReal) := by
    pointwise []
  have hz : broadcastInDim S37888x2048 ![] bcast_S_S37888x2048 (id (constant (F := Ideal) S_ .f32 0x00000000#32)) (ix2 r l) = (0 : EReal) := by
    show Ideal.ofBits .f32 0x00000000#32 = 0
    simp [Ideal.ofBits, Ideal.ieee]
  by_cases h : mask te nv e (ix2 r l) = 1#1
  · rw [if_pos (hb.mp h), ← hd]
    exact if_pos h
  · rw [if_neg (fun q => h (hb.mpr q)), ← hz]
    exact if_neg h

theorem masked_at (te : IVec S74 32) (nv : IVec S1 32) (a : FVec Ideal S37888x5632 .f32) (w : FVec Ideal S8x5632x2048 .f32)
    (hte : ∀ i, (te i).toNat < 8) (n : ℕ) (hn : n < 8) (h : S8x5632x2048.Slices ![n, 0, 0] S1x5632x2048) (r : Fin 37888) (l : Fin 2048) :
    term te nv a (slab w n h) (BitVec.ofNat 32 n) (ix2 r l)
      = if (BitVec.ofNat 32 (r.val / 512)).slt (nv (ix1 0)) = true ∧ (te (ix1 ⟨r.val / 512, by omega⟩)).toNat = n then
        (∑ k : Fin 5632, a (ix2 r k) * w (ix3 ⟨(te (ix1 ⟨r.val / 512, by omega⟩)).toNat, hte _⟩ k l) : EReal) else 0 := by
  have hb : te (ix1 ⟨r.val / 512, by omega⟩) = BitVec.ofNat 32 n ↔ (te (ix1 ⟨r.val / 512, by omega⟩)).toNat = n := by
    rw [← BitVec.toNat_inj, BitVec.toNat_ofNat, Nat.mod_eq_of_lt (by omega)]
  rw [term_at]
  by_cases q : (BitVec.ofNat 32 (r.val / 512)).slt (nv (ix1 0)) = true ∧ (te (ix1 ⟨r.val / 512, by omega⟩)).toNat = n
  · rw [if_pos q, if_pos ⟨q.1, hb.mpr q.2⟩]
    refine Finset.sum_congr rfl fun k _ => congrArg (fun x : EReal => a (ix2 r k) * x) ?_
    rw [slab_at w n hn]
    exact congrArg (fun x => w (ix3 x k l)) (Fin.ext q.2.symm)
  · rw [if_neg q, if_neg fun p => q ⟨p.1, hb.mp p.2⟩]

/-- The sum of the eight masked products, at an entry. -/
theorem total (te : IVec S74 32) (nv : IVec S1 32) (a : FVec Ideal S37888x5632 .f32) (w : FVec Ideal S8x5632x2048 .f32)
    (h : ∀ i, (te i).toNat < 8) (r : Fin 37888) (l : Fin 2048) :
    (broadcastInDim S37888x2048 ![] bcast_S_S37888x2048 (constant (F := Ideal) S_ .f32 0x00000000#32) (ix2 r l)
        + term te nv a (slab w 0 slices_S8x5632x2048_S1x5632x2048_0_0_0) (BitVec.ofNat 32 0) (ix2 r l)
        + term te nv a (slab w 1 slices_S8x5632x2048_S1x5632x2048_1_0_0) (BitVec.ofNat 32 1) (ix2 r l)
        + term te nv a (slab w 2 slices_S8x5632x2048_S1x5632x2048_2_0_0) (BitVec.ofNat 32 2) (ix2 r l)
        + term te nv a (slab w 3 slices_S8x5632x2048_S1x5632x2048_3_0_0) (BitVec.ofNat 32 3) (ix2 r l)
        + term te nv a (slab w 4 slices_S8x5632x2048_S1x5632x2048_4_0_0) (BitVec.ofNat 32 4) (ix2 r l)
        + term te nv a (slab w 5 slices_S8x5632x2048_S1x5632x2048_5_0_0) (BitVec.ofNat 32 5) (ix2 r l)
        + term te nv a (slab w 6 slices_S8x5632x2048_S1x5632x2048_6_0_0) (BitVec.ofNat 32 6) (ix2 r l)
        + term te nv a (slab w 7 slices_S8x5632x2048_S1x5632x2048_7_0_0) (BitVec.ofNat 32 7) (ix2 r l) : EReal)
      = value te nv a w h (ix2 r l) := by
  have hz : broadcastInDim S37888x2048 ![] bcast_S_S37888x2048 (constant (F := Ideal) S_ .f32 0x00000000#32) (ix2 r l) = (0 : EReal) := by
    show Ideal.ofBits .f32 0x00000000#32 = 0
    simp [Ideal.ofBits, Ideal.ieee]
  rw [hz, masked_at te nv a w h 0 (by omega), masked_at te nv a w h 1 (by omega), masked_at te nv a w h 2 (by omega),
    masked_at te nv a w h 3 (by omega), masked_at te nv a w h 4 (by omega), masked_at te nv a w h 5 (by omega),
    masked_at te nv a w h 6 (by omega), masked_at te nv a w h 7 (by omega)]
  show _ = if (BitVec.ofNat 32 (r.val / 512)).slt (nv (ix1 0)) = true then
    (∑ k : Fin 5632, a (ix2 r k) * w (ix3 ⟨(te (ix1 ⟨r.val / 512, by omega⟩)).toNat, h _⟩ k l) : EReal) else 0
  generalize (∑ k : Fin 5632, a (ix2 r k) * w (ix3 ⟨(te (ix1 ⟨r.val / 512, by omega⟩)).toNat, h _⟩ k l) : EReal) = S
  have hE := h (ix1 ⟨r.val / 512, by omega⟩)
  generalize (te (ix1 ⟨r.val / 512, by omega⟩)).toNat = n at hE ⊢
  by_cases u : (BitVec.ofNat 32 (r.val / 512)).slt (nv (ix1 0)) = true
  · interval_cases n <;> simp [u]
  · simp [u]

/-- The reference's result. -/
theorem reference_value (m : (ℓ : Loc nD τ sig) → Buf (Elt Ideal) ℓ) (c : Dev nD)
    (h : ∀ i, (m ((c : Thread nD τ).loc main_arg0) i).toNat < 8) :
    Cert.MoeDownReferenceIdeal.Value.res_main_v100 m c = value (m ((c : Thread nD τ).loc main_arg0)) (m ((c : Thread nD τ).loc main_arg1))
      (m ((c : Thread nD τ).loc main_arg2)) (m ((c : Thread nD τ).loc main_arg3)) h := by
  refine funext fun (y : S37888x2048.Idx) => ?_
  obtain ⟨r, l, rfl⟩ : ∃ (r : Fin 37888) (l : Fin 2048), y = ix2 r l := ⟨y 0, y 1, funext fun a => by fin_cases a <;> rfl⟩
  exact total (m ((c : Thread nD τ).loc main_arg0)) (m ((c : Thread nD τ).loc main_arg1))
    (m ((c : Thread nD τ).loc main_arg2)) (m ((c : Thread nD τ).loc main_arg3)) h r l

end reference

open Cert.MoeDownIdeal in
theorem claim : Cert.algebraic_MoeDownIdeal_MoeDownReferenceIdeal := by
  intro m ρ m' ρ' pre hargs
  have h : ∀ i, (A0 m i).toNat < 8 := word_lt _ _ _ _ (pre 0)
  refine ⟨fun _ => value (A0 m) (A1 m) (A2 m) (A3 m) h, run m ρ (ok_ideal m pre) h, ?_⟩
  refine (θ_run Cert.MoeDownReferenceIdeal.defs _ _).mono (fun r q c => ⟨(q c).1.trans ?_, (q c).2⟩)
    (Cert.MoeDownReferenceIdeal.Value.run (F := Ideal) m' ρ')
  obtain rfl : c = 0 := Subsingleton.elim _ _
  have hr : ∀ i, (m' (((0 : Dev Cert.MoeDownReferenceIdeal.nD) : Thread Cert.MoeDownReferenceIdeal.nD Cert.MoeDownReferenceIdeal.τ).loc
      Cert.MoeDownReferenceIdeal.main_arg0) i).toNat < 8 := by
    rw [(hargs 0).1]
    exact h
  refine (reference_value m' 0 hr).trans ?_
  revert hr
  rw [(hargs 0).1, (hargs 0).2.1, (hargs 0).2.2.1, (hargs 0).2.2.2]
  exact fun _ => rfl

end MoeDown

end
-- ==== Proof.SampleSpec.lean ====
/- Gated linear attention over the samples' tokens, over the extended reals: one chunk of sixteen tokens a sample, from the
   state the sample carries. -/
module

public import proofs.«01_k».proof.Proof.Spec

@[expose] public section

noncomputable section

namespace Sample

open Idealize.ShloMosaic
open Finset

/-- The running sum over a chunk's tokens. -/
def cumS (g : Fin 16 → Fin 128 → EReal) (i : Fin 16) (d : Fin 128) : EReal := ∑ j : Fin 16, if j ≤ i then g j d else 0

/-- A chunk's output before normalisation: attention over the chunk's own tokens and over the state. -/
def outS (q k b : Fin 16 → Fin 128 → EReal) (v : Fin 16 → Fin 256 → EReal) (S : Fin 128 → Fin 256 → EReal)
    (i : Fin 16) (e : Fin 256) : EReal :=
  (∑ x : Fin 16, if x ≤ i then (∑ y : Fin 128, q i y * Ideal.exp (b i y) * (k x y * Ideal.exp (-b x y))) * v x e else 0)
    + ∑ y : Fin 128, q i y * Ideal.exp (b i y) * S y e

/-- The state after a chunk. -/
def nextS (k b : Fin 16 → Fin 128 → EReal) (v : Fin 16 → Fin 256 → EReal) (S : Fin 128 → Fin 256 → EReal)
    (d : Fin 128) (e : Fin 256) : EReal :=
  Ideal.exp (b 15 d) * S d e + ∑ x : Fin 16, k x d * Ideal.exp (b 15 d - b x d) * v x e

/-! ## Laws -/

/-- The running sum of values below `+∞`, summed in three parts as the kernel splits them, is the running sum. -/
theorem cum_eq (g : Fin 16 → EReal) (hg : ∀ j, g j ≠ ⊤) (i : Fin 16) :
    (∑ x : Fin 16, if x ≤ i then g x else 0) + (∑ x : Fin 16, if x ≤ i then g x - g x else 0)
        + (∑ x : Fin 16, if x ≤ i then g x - g x - (g x - g x) else 0)
      = ∑ x : Fin 16, if x ≤ i then g x else 0 := by
  by_cases h : ∃ x, x ≤ i ∧ g x = ⊥
  · obtain ⟨x, hx, hb⟩ := h
    rw [Gla.sum_bot univ (fun x => if x ≤ i then g x else 0) x (mem_univ x) (by simp [hx, hb]), EReal.bot_add, EReal.bot_add]
  · have h' : ∀ x, x ≤ i → g x - g x = 0 := fun x hx => EReal.sub_self (hg x) (fun hb => h ⟨x, hx, hb⟩)
    have e1 : (∑ x : Fin 16, if x ≤ i then g x - g x else 0) = 0 :=
      Finset.sum_eq_zero fun x _ => by split_ifs with hx <;> simp [h' x, *]
    have e2 : (∑ x : Fin 16, if x ≤ i then g x - g x - (g x - g x) else 0) = 0 :=
      Finset.sum_eq_zero fun x _ => by split_ifs with hx <;> simp [h' x, *]
    rw [e1, e2, add_zero, add_zero]

/-- Comparing token numbers as 32-bit words compares them. -/
theorem select_le {α : Type} (i x : Fin 16) (a b : α) :
    Scalar.select (IntOp.cmpi CmpIPredicate.sge (BitVec.ofNat 32 i.val) (BitVec.ofNat 32 x.val)) a b = if x ≤ i then a else b := by
  have hi := i.isLt; have hx := x.isLt
  have h : IntOp.cmpi CmpIPredicate.sge (BitVec.ofNat 32 i.val) (BitVec.ofNat 32 x.val) = BitVec.ofBool (decide (x ≤ i)) := by
    revert i x; decide
  rw [h]
  by_cases hc : x ≤ i <;> simp [hc, Scalar.select]

/-! ## The layer's arrays

`A0` is the packed projection: a row per token, the samples' tokens from row 16384 on, sixteen rows a sample; queries, keys,
values and the output gate in columns 0, 512, 1024 and 2048 on, the low-rank gate activations in columns 9280 on. `A1`,
`A2` are the gate's second weights and bias, `A3` the output norm's weights, `A4` the samples' states. -/

section Arrays

variable (A0 : (⟨2, ![16896, 9728]⟩ : Shape).Idx → EReal) (A1 : (⟨2, ![16, 512]⟩ : Shape).Idx → EReal)
  (A2 : (⟨1, ![512]⟩ : Shape).Idx → EReal) (A3 : (⟨1, ![256]⟩ : Shape).Idx → EReal)
  (A4 : (⟨4, ![32, 4, 128, 256]⟩ : Shape).Idx → EReal)

/-- The row of token `i` of sample `b`. -/
def row (b : Fin 32) (i : Fin 16) : Fin 16896 := ⟨16384 + (b.val * 16 + i.val), by omega⟩

def qS (b : Fin 32) (h : Fin 4) (i : Fin 16) (d : Fin 128) : EReal :=
  A0 (ix2 (row b i) ⟨h.val * 128 + d.val, by omega⟩) * Gla.scaleQ
def kS (b : Fin 32) (h : Fin 4) (i : Fin 16) (d : Fin 128) : EReal :=
  A0 (ix2 (row b i) ⟨512 + (h.val * 128 + d.val), by omega⟩)
def vS (b : Fin 32) (h : Fin 4) (i : Fin 16) (e : Fin 256) : EReal :=
  A0 (ix2 (row b i) ⟨1024 + (h.val * 256 + e.val), by omega⟩)
def rS (b : Fin 32) (h : Fin 4) (i : Fin 16) (e : Fin 256) : EReal :=
  A0 (ix2 (row b i) ⟨2048 + (h.val * 256 + e.val), by omega⟩)
/-- The gate's logits. -/
def zS (b : Fin 32) (h : Fin 4) (i : Fin 16) (d : Fin 128) : EReal :=
  (∑ x : Fin 16, A0 (ix2 (row b i) ⟨9280 + x.val, by omega⟩) * A1 (ix2 x ⟨h.val * 128 + d.val, by omega⟩))
    + A2 (ix1 ⟨h.val * 128 + d.val, by omega⟩)
def gS (b : Fin 32) (h : Fin 4) (i : Fin 16) (d : Fin 128) : EReal := Gla.gateS (zS A0 A1 A2 b h i d)

/-- The state of head `h` a sample starts from. -/
def SS (b : Fin 32) (h : Fin 4) (d : Fin 128) (e : Fin 256) : EReal := A4 (ix4 b h d e)

/-- The state of head `h` after a sample's tokens. -/
def newS (b : Fin 32) (h : Fin 4) (d : Fin 128) (e : Fin 256) : EReal :=
  nextS (kS A0 b h) (cumS (gS A0 A1 A2 b h)) (vS A0 b h) (SS A4 b h) d e

/-- The attention before normalisation. -/
def oS (b : Fin 32) (h : Fin 4) (i : Fin 16) (e : Fin 256) : EReal :=
  outS (qS A0 b h) (kS A0 b h) (cumS (gS A0 A1 A2 b h)) (vS A0 b h) (SS A4 b h) i e

/-- The branch's output. -/
def yS (b : Fin 32) (h : Fin 4) (i : Fin 16) (e : Fin 256) : EReal :=
  Gla.normS (rS A0 b h i e) (oS A0 A1 A2 A4 b h i) (A3 (ix1 e)) e

/-- The low-rank activations of the samples' tokens and the gate's weights are finite. -/
def FiniteGate : Prop :=
  (∀ (b : Fin 32) (i : Fin 16) (x : Fin 16),
      A0 (ix2 (row b i) ⟨9280 + x.val, by omega⟩) - A0 (ix2 (row b i) ⟨9280 + x.val, by omega⟩) = 0)
    ∧ ∀ (x : Fin 16) (d : Fin 512), A1 (ix2 x d) - A1 (ix2 x d) = 0

/-- The two results as arrays: the branch's output, a row per token and the heads side by side, … -/
def valueO : (⟨2, ![512, 1024]⟩ : Shape).Idx → EReal := fun y =>
  yS A0 A1 A2 A3 A4 ⟨(y 0).val / 16, by have h : (y 0).val < 512 := (y 0).isLt; omega⟩ ⟨(y 1).val / 256, by have h : (y 1).val < 1024 := (y 1).isLt; omega⟩
    ⟨(y 0).val % 16, by omega⟩ ⟨(y 1).val % 256, by omega⟩
/-- … and the states. -/
def valueS : (⟨4, ![32, 4, 128, 256]⟩ : Shape).Idx → EReal := fun y => newS A0 A1 A2 A4 (y 0) (y 1) (y 2) (y 3)

end Arrays

end Sample

end
-- ==== Proof.SampleFinite.lean ====
/- The precondition of the samples' call, read back: the gate's inputs are finite. -/
module

public import proofs.«01_k».proof.Defs
public import proofs.«01_k».proof.Proof.Gen.Pre_finite_gate_sample
public import proofs.«01_k».proof.Proof.Finite
public import proofs.«01_k».proof.Proof.SampleSpec
public import Idealize.ShloMosaic.Lib.ReduceAll
public import Idealize.ShloMosaic.Lib.Pointwise

@[expose] public section

noncomputable section

namespace Sample

open Idealize.ShloMosaic Cert.Pre_finite_gate_sample

instance : Subsingleton S_.Idx := ⟨fun a b => funext fun i => i.elim0⟩

theorem finite_of_pre (A0 : S16896x9728.Idx → EReal) (A1 : S16x512.Idx → EReal) (A2 : S512.Idx → EReal) (A3 : S256.Idx → EReal)
    (A4 : S32x4x128x256.Idx → EReal) (p : S_.Idx) (h : fn (F := Ideal) A0 A1 A2 A3 A4 p = 1#1) : FiniteGate A0 A1 := by
  obtain rfl : p = Shape.Idx.first (by decide) := Subsingleton.elim _ _
  unfold fn at h
  dsimp only at h
  obtain ⟨h0, h1⟩ := Gla.and_one _ _ h
  constructor
  · intro b i x
    have hb := b.isLt
    have q := Host.reduce_andi_all _ _ _ _ _ h0 (ix2 ⟨b.val * 16 + i.val, by omega⟩ x)
    refine Gla.finite_of_olt _ ?_
    rw [← q]
    pointwise
    rfl
  · intro x d
    have q := Host.reduce_andi_all _ _ _ _ _ h1 (ix2 x d)
    refine Gla.finite_of_olt _ ?_
    rw [← q]
    pointwise
    rfl

end Sample

end
-- ==== Proof.SampleChunk.lean ====
/- What the gated linear attention kernel computes for a sample's sixteen tokens and one head, as functions of the values
   it loads, and for one grid point of four heads, as functions of the point's blocks. The functions are stated over any
   float operations, with the kernel's own operations in the kernel's own order. -/
module

public import proofs.«01_k».proof.Proof.Gen.GlaSampleIdeal
public import Idealize.ShloMosaic.Lib.Pipeline.FrameBody

@[expose] public section

noncomputable section

namespace Sample

open Idealize.ShloMosaic Cert.GlaSampleIdeal Cert.GlaSampleIdeal.Gen

variable {F : FTy → Type} [FloatOps F]

/-- Row `i` may read column `j` when `j ≤ i`. -/
def causal : IVec S16x16 1 := cmpi .sge (iota .tc S16x16 32 [0] iota_S16x16_d0_w32) (iota .tc S16x16 32 [1] iota_S16x16_d1_w32)

/-- The lower triangle of ones. -/
def tril : FVec F S16x16 .bf16 :=
  truncf .bf16 (select causal (broadcast S16x16 (Scalar.ofBits .f32 0x3F800000#32 : F .f32))
    (broadcast S16x16 (Scalar.ofBits .f32 0x00000000#32 : F .f32))) bitsLt_bf16_f32

/-- The three parts an f32 value is split into: its bf16 part, … -/
def hi {s : Shape} (x : FVec F s .f32) : FVec F s .bf16 := truncf .bf16 x bitsLt_bf16_f32
/-- … what that leaves, … -/
def rem {s : Shape} (x : FVec F s .f32) : FVec F s .f32 := subf x (extf .f32 (hi x) bitsLt_bf16_f32)
/-- … the bf16 part of the remainder, … -/
def mid {s : Shape} (x : FVec F s .f32) : FVec F s .bf16 := hi (rem x)
/-- … and the bf16 part of what that leaves. -/
def lo {s : Shape} (x : FVec F s .f32) : FVec F s .bf16 := hi (subf (rem x) (extf .f32 (mid x) bitsLt_bf16_f32))

/-- One of the six products of the gate. -/
def gmm (a : FVec F S16x128 .bf16) (b : FVec F S128x128 .bf16) : FVec F S16x128 .f32 :=
  matmul dot_S16x128_S128x128_S16x128_1_0_0_1_n_n none a b (constant S16x128 .f32 0x00000000#32)

/-- The gate's logits: the product of the low-rank activations with the gate's weights, both split in three, plus the bias. -/
def gateZ (sm : FVec F S16x128 .f32) (w : FVec F S1x128x128 .f32) (bg : FVec F S1x128 .f32) : FVec F S16x128 .f32 :=
  have w' : FVec F S128x128 .f32 := shapeCast S128x128 w shapeCasts_S1x128x128_S128x128
  addf (addf (addf (gmm (hi sm) (hi w')) (addf (gmm (hi sm) (mid w')) (gmm (mid sm) (hi w'))))
      (addf (addf (gmm (hi sm) (lo w')) (gmm (mid sm) (mid w'))) (gmm (lo sm) (hi w'))))
    (broadcastTo S16x128 (shapeCast S1x128 bg shapeCasts_S1x128_S1x128) broadcasts_S1x128_S16x128)

/-- The log gate: the logarithm of the logits' sigmoid over sixteen. -/
def logGate (z : FVec F S16x128 .f32) : FVec F S16x128 .f32 :=
  mulf (subf (minimumf z (broadcast S16x128 (Scalar.ofBits .f32 0x00000000#32 : F .f32)))
      (log1p (exp (subf (broadcast S16x128 (Scalar.ofBits .f32 0x00000000#32 : F .f32)) (absf z)))))
    (broadcast S16x128 (Scalar.ofBits .f32 0x3D800000#32 : F .f32))

/-- A product with the triangle of ones. -/
def tmm (g : FVec F S16x128 .bf16) : FVec F S16x128 .f32 :=
  matmul dot_S16x16_S16x128_S16x128_1_0_0_1_n_n none tril g (constant S16x128 .f32 0x00000000#32)

/-- The running sum of the log gates over the chunk's tokens. -/
def cumGate (g : FVec F S16x128 .f32) : FVec F S16x128 .f32 := addf (addf (tmm (hi g)) (tmm (mid g))) (tmm (lo g))

/-- The running sum at the chunk's last token. -/
def lastGate (b : FVec F S16x128 .f32) : FVec F S1x128 .f32 := extractStridedSlice S1x128 ![15, 0] b slices_S16x128_o15_0_S1x128

/-- The queries, scaled and decayed. -/
def qe (q b : FVec F S16x128 .f32) : FVec F S16x128 .bf16 :=
  hi (mulf (mulf q (broadcast S16x128 (Scalar.ofBits .f32 0x3DB504F3#32 : F .f32))) (exp b))

/-- The keys over the decay up to their token. -/
def ke (k b : FVec F S16x128 .f32) : FVec F S16x128 .bf16 :=
  hi (mulf k (exp (subf (broadcast S16x128 (Scalar.ofBits .f32 0x00000000#32 : F .f32)) b)))

/-- The keys decayed to the chunk's end. -/
def kd (k b : FVec F S16x128 .f32) : FVec F S16x128 .bf16 :=
  hi (mulf k (exp (subf (broadcastTo S16x128 (lastGate b) broadcasts_S1x128_S16x128) b)))

/-- The chunk's attention over itself and over the state. -/
def outc (q k b : FVec F S16x128 .f32) (v : FVec F S16x256 .f32) (st : FVec F S256x128 .f32) : FVec F S16x256 .f32 :=
  addf
    (matmul dot_S16x16_S16x256_S16x256_1_0_0_1_n_n none
      (hi (select causal (matmul dot_S16x128_S16x128_S16x16_1_1_0_0_n_n none (qe q b) (ke k b) (constant S16x16 .f32 0x00000000#32))
        (broadcast S16x16 (Scalar.ofBits .f32 0x00000000#32 : F .f32))))
      (hi v) (constant S16x256 .f32 0x00000000#32))
    (matmul dot_S16x128_S256x128_S16x256_1_1_0_0_n_n none (qe q b) (hi st) (constant S16x256 .f32 0x00000000#32))

/-- The state after the chunk, values along the rows and keys along the columns. -/
def stNext (k b : FVec F S16x128 .f32) (v : FVec F S16x256 .f32) (st : FVec F S256x128 .f32) : FVec F S256x128 .f32 :=
  addf (mulf (broadcastTo S256x128 (exp (lastGate b)) broadcasts_S1x128_S256x128) st)
    (matmul dot_S16x256_S16x128_S256x128_0_0_1_1_n_n none (hi v) (kd k b) (constant S256x128 .f32 0x00000000#32))

/-- The attention normalised, scaled and gated. -/
def normOut (r o : FVec F S16x256 .f32) (gout : FVec F S1x256 .f32) : FVec F S16x256 .bf16 :=
  hi (mulf (mulf r (logistic r))
    (mulf (mulf o (broadcastTo S16x256 (rsqrt (addf (divf (shapeCast S16x1
          (multiReduction .add [1] S16 (mulf o o) 0x00000000#32 reduces_S16x256_S16 (.inl rfl) rfl) shapeCasts_S16_S16x1)
        (broadcast S16x1 (Scalar.ofBits .f32 0x43800000#32 : F .f32)))
        (broadcast S16x1 (Scalar.ofBits .f32 0x358637BD#32 : F .f32)))) broadcasts_S16x1_S16x256))
      (broadcastTo S16x256 (shapeCast S1x256 gout shapeCasts_S1x256_S1x256) broadcasts_S1x256_S16x256)))

/-! ## A grid point -/

/-- The blocks a grid point reads: queries, keys, values, the output gate, the low-rank activations, the gate's weights
    and bias, and the output norm's weights. -/
structure Blocks (F : FTy → Type) [FloatOps F] where
  q : FVec F S16x512 .f32
  k : FVec F S16x512 .f32
  v : FVec F S16x1024 .f32
  r : FVec F S16x1024 .f32
  sm : FVec F S16x128 .f32
  w : FVec F S4x128x128 .f32
  bg : FVec F S1x512 .f32
  gout : FVec F S1x256 .f32

theorem inb2 {C W : Nat} (h : Fin 4) (hC : C = W * 4) :
    ∀ a, (![0, W * h.val] : Fin 2 → Nat) a + (![16, W] : Fin 2 → Nat) a ≤ (![16, C] : Fin 2 → Nat) a := by
  subst hC
  have hm : W * h.val + W ≤ W * 4 := (Nat.mul_succ W h.val).symm ▸ Nat.mul_le_mul_left W h.isLt
  intro a
  fin_cases a
  · show 0 + 16 ≤ 16; omega
  · exact hm

/-- Head `h` of a block of queries or keys. -/
abbrev rectK (h : Fin 4) : Rect S16x512 := Rect.unit ![0, 128 * h.val] S16x128.size (inb2 h rfl)
/-- Head `h` of a block of values, of the output gate or of the output. -/
abbrev rectV (h : Fin 4) : Rect S16x1024 := Rect.unit ![0, 256 * h.val] S16x256.size (inb2 h rfl)
/-- The low-rank activations. -/
abbrev rectSm : Rect S16x128 := Rect.unit ![0, 0] S16x128.size (by intro a; fin_cases a <;> simp)
/-- Head `h` of the gate's weights. -/
abbrev rectW (h : Fin 4) : Rect S4x128x128 := Rect.unit ![h.val, 0, 0] S1x128x128.size (by intro a; fin_cases a <;> simp <;> omega)
/-- Head `h` of the gate's bias. -/
abbrev rectBg (h : Fin 4) : Rect S1x512 := Rect.unit ![0, 128 * h.val] S1x128.size (by intro a; fin_cases a <;> simp <;> omega)
/-- Head `h` of the carried state. -/
abbrev rectSt (h : Fin 4) : Rect S4x256x128 := Rect.unit ![h.val, 0, 0] S1x256x128.size (by intro a; fin_cases a <;> simp <;> omega)
/-- Head `h` of a state array. -/
abbrev rectS (h : Fin 4) : Rect S1x4x128x256 := Rect.unit ![0, h.val, 0, 0] S1x1x128x256.size (by intro a; fin_cases a <;> simp <;> omega)

/-! The loads of a head. -/

def ldK (x : FVec F S16x512 .f32) (h : Fin 4) : FVec F S16x128 .f32 := View.ld (Val := Elt F) (e' := .f32) x (rectK h)
def ldV (x : FVec F S16x1024 .f32) (h : Fin 4) : FVec F S16x256 .f32 := View.ld (Val := Elt F) (e' := .f32) x (rectV h)
def ldSm (x : FVec F S16x128 .f32) : FVec F S16x128 .f32 := View.ld (Val := Elt F) (e' := .f32) x rectSm
def ldW (x : FVec F S4x128x128 .f32) (h : Fin 4) : FVec F S1x128x128 .f32 := View.ld (Val := Elt F) (e' := .f32) x (rectW h)
def ldBg (x : FVec F S1x512 .f32) (h : Fin 4) : FVec F S1x128 .f32 := View.ld (Val := Elt F) (e' := .f32) x (rectBg h)
def ldSt (x : FVec F S4x256x128 .f32) (h : Fin 4) : FVec F S1x256x128 .f32 := View.ld (Val := Elt F) (e' := .f32) x (rectSt h)
def ldS (x : FVec F S1x4x128x256 .f32) (h : Fin 4) : FVec F S1x1x128x256 .f32 := View.ld (Val := Elt F) (e' := .f32) x (rectS h)
def ldGout (x : FVec F S1x256 .f32) : FVec F S1x256 .f32 :=
  View.ld (Val := Elt F) (e' := .f32) x (Rect.unit ![0, 0] S1x256.size (by intro a; fin_cases a <;> simp))

/-- The running sum of the log gates of head `h`. -/
def bAt (B : Blocks F) (h : Fin 4) : FVec F S16x128 .f32 :=
  cumGate (logGate (gateZ (ldSm B.sm) (ldW B.w h) (ldBg B.bg h)))

/-- The state of head `h` the point starts from. -/
def stStart (xs : FVec F S4x256x128 .f32) (h : Fin 4) : FVec F S256x128 .f32 :=
  shapeCast S256x128 (ldSt xs h) shapeCasts_S1x256x128_S256x128

/-- The state of head `h` after the point's tokens. -/
def stEnd (B : Blocks F) (xs : FVec F S4x256x128 .f32) (h : Fin 4) : FVec F S256x128 .f32 :=
  stNext (ldK B.k h) (bAt B h) (ldV B.v h) (stStart xs h)

/-- The output of head `h`. -/
def outAt (B : Blocks F) (xs : FVec F S4x256x128 .f32) (h : Fin 4) : FVec F S16x256 .bf16 :=
  normOut (ldV B.r h) (outc (ldK B.q h) (ldK B.k h) (bAt B h) (ldV B.v h) (stStart xs h)) (ldGout B.gout)

/-- The output block a grid point stores, head by head, last first. -/
def outPieces (B : Blocks F) (xs : FVec F S4x256x128 .f32) : List (View.Piece (Elt F) S16x1024 .bf16) :=
  [⟨rectV 3, outAt B xs 3⟩, ⟨rectV 2, outAt B xs 2⟩, ⟨rectV 1, outAt B xs 1⟩, ⟨rectV 0, outAt B xs 0⟩]

/-- The state of head `h` a grid point stores. -/
def stOut (B : Blocks F) (xs : FVec F S4x256x128 .f32) (h : Fin 4) : FVec F S1x256x128 .f32 :=
  shapeCast S1x256x128 (stEnd B xs h) shapeCasts_S256x128_S1x256x128

/-- The states a grid point stores, last first. -/
def stPieces (B : Blocks F) (xs : FVec F S4x256x128 .f32) : List (View.Piece (Elt F) S4x256x128 .f32) :=
  [⟨rectSt 3, stOut B xs 3⟩, ⟨rectSt 2, stOut B xs 2⟩, ⟨rectSt 1, stOut B xs 1⟩, ⟨rectSt 0, stOut B xs 0⟩]

/-- Head `h` of a start state, transposed. -/
def resetAt (x8 : FVec F S1x4x128x256 .f32) (h : Fin 4) : FVec F S1x256x128 .f32 :=
  shapeCast S1x256x128 (transpose S256x128 [1, 0] (shapeCast S128x256 (ldS x8 h) shapeCasts_S1x1x128x256_S128x256)
    transposes_S128x256_p1_0_S256x128) shapeCasts_S256x128_S1x256x128

/-- The start states a point stores, last first. -/
def resetPieces (x8 : FVec F S1x4x128x256 .f32) : List (View.Piece (Elt F) S4x256x128 .f32) :=
  [⟨rectSt 3, resetAt x8 3⟩, ⟨rectSt 2, resetAt x8 2⟩, ⟨rectSt 1, resetAt x8 1⟩, ⟨rectSt 0, resetAt x8 0⟩]

/-- Head `h` of a carried state, transposed back. -/
def finalAt (xs : FVec F S4x256x128 .f32) (h : Fin 4) : FVec F S1x1x128x256 .f32 :=
  shapeCast S1x1x128x256 (transpose S128x256 [1, 0] (shapeCast S256x128 (ldSt xs h) shapeCasts_S1x256x128_S256x128)
    transposes_S256x128_p1_0_S128x256) shapeCasts_S128x256_S1x1x128x256

/-- The states a point hands out, last first. -/
def finalPieces (xs : FVec F S4x256x128 .f32) : List (View.Piece (Elt F) S1x4x128x256 .f32) :=
  [⟨rectS 3, finalAt xs 3⟩, ⟨rectS 2, finalAt xs 2⟩, ⟨rectS 1, finalAt xs 1⟩, ⟨rectS 0, finalAt xs 0⟩]

end Sample

end
-- ==== Proof.SampleBody.lean ====
/- What a grid point leaves in the output block and in the state handed out, over the blocks the point reads. -/
module

public import proofs.«01_k».proof.Proof.Gen.GlaSampleIdeal.Value
public import proofs.«01_k».proof.Proof.SampleChunk
public import Idealize.ShloMosaic.Lib.Pipeline.ValueKit
public import Idealize.ShloMosaic.Lib.Pipeline.ReadBack

@[expose] public section

set_option maxRecDepth 16384

noncomputable section

namespace Sample

open Idealize.ShloMosaic Idealize.ShloMosaic.TcCoe Idealize.ShloMosaic.Tactic Cert.GlaSampleIdeal Cert.GlaSampleIdeal.Gen

variable {F : FTy → Type} [FloatOps F]

/-- The blocks as read off the memrefs the point's windows are staged in. -/
def readBlocks (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole)
    (x0 : Vec F S16x512 .f32) (x1 : Vec F S16x512 .f32) (x2 : Vec F S16x1024 .f32) (x3 : Vec F S16x1024 .f32) (x4 : Vec F S16x128 .f32) (x5 : Vec F S4x128x128 .f32) (x6 : Vec F S1x512 .f32) (x7 : Vec F S1x256 .f32) : Blocks F where
  q := arg2.view.read (Elt F) (harg2.unread x0)
  k := arg3.view.read (Elt F) (harg3.unread x1)
  v := arg4.view.read (Elt F) (harg4.unread x2)
  r := arg5.view.read (Elt F) (harg5.unread x3)
  sm := arg6.view.read (Elt F) (harg6.unread x4)
  w := arg7.view.read (Elt F) (harg7.unread x5)
  bg := arg8.view.read (Elt F) (harg8.unread x6)
  gout := arg9.view.read (Elt F) (harg9.unread x7)

theorem run_out (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S16x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond0_0 i) (hc1 : cond0_1 i)
    (x0 : Vec F S16x512 .f32) (x1 : Vec F S16x512 .f32) (x2 : Vec F S16x1024 .f32) (x3 : Vec F S16x1024 .f32) (x4 : Vec F S16x128 .f32) (x5 : Vec F S4x128x128 .f32) (x6 : Vec F S1x512 .f32) (x7 : Vec F S1x256 .f32) (x8 : Vec F S1x4x128x256 .f32) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 = outPieces (readBlocks arg2 harg2 arg3 harg3 arg4 harg4 arg5 harg5 arg6 harg6 arg7 harg7 arg8 harg8 arg9 harg9 x0 x1 x2 x3 x4 x5 x6 x7) (arg13.view.read (Elt F) (arg13.view.writes (Elt F) arg13.view.junk (resetPieces (arg10.view.read (Elt F) (harg10.unread x8))))) := by
  sl_kernel_rfl

theorem run_fin (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S16x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond0_0 i) (hc1 : cond0_1 i)
    (x0 : Vec F S16x512 .f32) (x1 : Vec F S16x512 .f32) (x2 : Vec F S16x1024 .f32) (x3 : Vec F S16x1024 .f32) (x4 : Vec F S16x128 .f32) (x5 : Vec F S4x128x128 .f32) (x6 : Vec F S1x512 .f32) (x7 : Vec F S1x256 .f32) (x8 : Vec F S1x4x128x256 .f32) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 = finalPieces (arg13.view.read (Elt F) (arg13.view.writes (Elt F) arg13.view.junk (stPieces (readBlocks arg2 harg2 arg3 harg3 arg4 harg4 arg5 harg5 arg6 harg6 arg7 harg7 arg8 harg8 arg9 harg9 x0 x1 x2 x3 x4 x5 x6 x7) (arg13.view.read (Elt F) (arg13.view.writes (Elt F) arg13.view.junk (resetPieces (arg10.view.read (Elt F) (harg10.unread x8))))) ++ resetPieces (arg10.view.read (Elt F) (harg10.unread x8))))) := by
  sl_kernel_rfl

/-- The output block of a point. -/
theorem out_eq (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S16x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond0_0 i) (hc1 : cond0_1 i)
    (x0 : Vec F S16x512 .f32) (x1 : Vec F S16x512 .f32) (x2 : Vec F S16x1024 .f32) (x3 : Vec F S16x1024 .f32) (x4 : Vec F S16x128 .f32) (x5 : Vec F S4x128x128 .f32) (x6 : Vec F S1x512 .f32) (x7 : Vec F S1x256 .f32) (x8 : Vec F S1x4x128x256 .f32) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = View.canon (Val := Elt F) (outPieces (⟨x0, x1, x2, x3, x4, x5, x6, x7⟩ : Blocks F) (View.canon (Val := Elt F) (resetPieces x8))) := by
  unfold out0_A_9
  rw [View.read_writes_junk_eq_canon, run_out]
  simp only [readBlocks, Memref.IsWhole.read_unread, View.read_writes_junk_eq_canon]

/-- The state a point hands out. -/
theorem fin_eq (c : Dev nD) (i : grid0.Coords) (arg2 : Memref sig .tc .vmem S16x512 .f32) (harg2 : arg2.IsWhole) (arg3 : Memref sig .tc .vmem S16x512 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x128 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S16x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond0_0 i) (hc1 : cond0_1 i)
    (x0 : Vec F S16x512 .f32) (x1 : Vec F S16x512 .f32) (x2 : Vec F S16x1024 .f32) (x3 : Vec F S16x1024 .f32) (x4 : Vec F S16x128 .f32) (x5 : Vec F S4x128x128 .f32) (x6 : Vec F S1x512 .f32) (x7 : Vec F S1x256 .f32) (x8 : Vec F S1x4x128x256 .f32) :
    out0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = View.canon (Val := Elt F) (finalPieces (View.canon (Val := Elt F) (stPieces (⟨x0, x1, x2, x3, x4, x5, x6, x7⟩ : Blocks F) (View.canon (Val := Elt F) (resetPieces x8)) ++ resetPieces x8))) := by
  unfold out0_A_10
  rw [View.read_writes_junk_eq_canon, run_fin]
  simp only [readBlocks, Memref.IsWhole.read_unread, View.read_writes_junk_eq_canon]

variable (m : (ℓ : Loc nD τ sig) → Buf (Elt F) ℓ)

/-- The blocks point `t` reads. -/
def blocks (c : Dev nD) (t : Fin cfg0.N) : Blocks F where
  q := iblk m c 0 t
  k := iblk m c 1 t
  v := X0_2 m c t
  r := X0_3 m c t
  sm := iblk m c 4 t
  w := iblk m c 5 t
  bg := iblk m c 6 t
  gout := iblk m c 7 t

/-- The state a point starts from: the start state, transposed. -/
def fresh (c : Dev nD) (t : Fin cfg0.N) : FVec F S4x256x128 .f32 := View.canon (Val := Elt F) (resetPieces (iblk m c 8 t))

/-- A point: the output block … -/
theorem point_out (c : Dev nD) (t : Fin cfg0.N) :
    (outsAt0 m c t).1 = View.canon (Val := Elt F) (outPieces (blocks m c t) (fresh m c t)) := by
  unfold outsAt0
  dsimp only
  rw [out_eq]
  rfl

/-- … and the state handed out. -/
theorem point_fin (c : Dev nD) (t : Fin cfg0.N) :
    (outsAt0 m c t).2 = View.canon (Val := Elt F) (finalPieces (View.canon (Val := Elt F)
      (stPieces (blocks m c t) (fresh m c t) ++ resetPieces (iblk m c 8 t)))) := by
  unfold outsAt0
  dsimp only
  rw [fin_eq]
  rfl

end Sample

end
-- ==== Proof.SampleInputs.lean ====
/- The blocks a grid point reads, in terms of the kernel's arguments: the rows of its tokens, the columns of each part of
   the projection, the sample's state, and the gate's weights padded to the low-rank activations' lanes. -/
module

public import proofs.«01_k».proof.Proof.SampleBody
public import Idealize.ShloMosaic.Lib.Pointwise

@[expose] public section

noncomputable section

namespace Sample

open Idealize.ShloMosaic Idealize.ShloMosaic.TcCoe Cert.GlaSampleIdeal Cert.GlaSampleIdeal.Gen

variable {F : FTy → Type} [FloatOps F]
variable (m : (ℓ : Loc nD τ sig) → Buf (Elt F) ℓ)

/-- The block every window names at a point. -/
theorem idx : ∀ t : Fin cfg0.N, win0_0.index t = ![1024 + t.val, 0] ∧ win0_1.index t = ![1024 + t.val, 1] ∧ win0_2.index t = ![1024 + t.val, 1]
    ∧ win0_3.index t = ![1024 + t.val, 2] ∧ win0_4.index t = ![1024 + t.val, 72] ∧ win0_5.index t = ![0, 0, 0] ∧ win0_6.index t = ![0, 0]
    ∧ win0_7.index t = ![0, 0] ∧ win0_8.index t = ![t.val, 0, 0, 0] :=
  (by decide +kernel : ∀ t : Fin grid0.N, _)

theorem q_at (c : Dev nD) (t : Fin cfg0.N) (i : Fin 16) (l : Fin 512) (hr : 16384 + (16 * t.val + i.val) < 16896) :
    (blocks m c t).q (ix2 i l) = m ((c : Thread nD τ).loc main_arg0) (ix2 ⟨16384 + (16 * t.val + i.val), hr⟩ ⟨l.val, by omega⟩) := by
  show iblk m c 0 t _ = _
  blk_ext [iblk, V, idx t]

theorem k_at (c : Dev nD) (t : Fin cfg0.N) (i : Fin 16) (l : Fin 512) (hr : 16384 + (16 * t.val + i.val) < 16896) :
    (blocks m c t).k (ix2 i l) = m ((c : Thread nD τ).loc main_arg0) (ix2 ⟨16384 + (16 * t.val + i.val), hr⟩ ⟨512 + l.val, by omega⟩) := by
  show iblk m c 1 t _ = _
  blk_ext [iblk, V, idx t]

theorem sm_at (c : Dev nD) (t : Fin cfg0.N) (i : Fin 16) (l : Fin 128) (hr : 16384 + (16 * t.val + i.val) < 16896) :
    (blocks m c t).sm (ix2 i l) = m ((c : Thread nD τ).loc main_arg0) (ix2 ⟨16384 + (16 * t.val + i.val), hr⟩ ⟨9216 + l.val, by omega⟩) := by
  show iblk m c 4 t _ = _
  blk_ext [iblk, V, idx t]

theorem v_at (c : Dev nD) (t : Fin cfg0.N) (i : Fin 16) (l : Fin 1024) (hr : 16384 + (16 * t.val + i.val) < 16896) :
    (blocks m c t).v (ix2 i l) = m ((c : Thread nD τ).loc main_arg0) (ix2 ⟨16384 + (16 * t.val + i.val), hr⟩ ⟨1024 + l.val, by omega⟩) := by
  show X0_2 m c t _ = _
  unfold X0_2 Pipeline.Window.fill
  rw [dif_pos (moved0_2 t _)]
  blk_ext [iblk, V, idx t]

theorem r_at (c : Dev nD) (t : Fin cfg0.N) (i : Fin 16) (l : Fin 1024) (hr : 16384 + (16 * t.val + i.val) < 16896) :
    (blocks m c t).r (ix2 i l) = m ((c : Thread nD τ).loc main_arg0) (ix2 ⟨16384 + (16 * t.val + i.val), hr⟩ ⟨2048 + l.val, by omega⟩) := by
  show X0_3 m c t _ = _
  unfold X0_3 Pipeline.Window.fill
  rw [dif_pos (moved0_3 t _)]
  blk_ext [iblk, V, idx t]

/-! ## The arrays the host prepares -/

/-- The output norm's weights as a row. -/
theorem V_n (c : Dev nD) : V m c main_v4 = (shapeCast S1x256 (m ((c : Thread nD τ).loc main_arg3)) shapeCasts_S256_S1x256 : FVec F S1x256 .f32) := by
  show StableHlo.after _ _ _ = _
  unfold hostOps0 hostOps0_1 hostOps0_2
  simp only [List.flatten_cons, List.flatten_nil, List.append_nil, List.cons_append, List.nil_append]
  after_results
  rfl

/-- The gate's bias as a row. -/
theorem V_b (c : Dev nD) : V m c main_v3 = (shapeCast S1x512 (m ((c : Thread nD τ).loc main_arg2)) shapeCasts_S512_S1x512 : FVec F S1x512 .f32) := by
  show StableHlo.after _ _ _ = _
  unfold hostOps0 hostOps0_1 hostOps0_2
  simp only [List.flatten_cons, List.flatten_nil, List.append_nil, List.cons_append, List.nil_append]
  after_results
  rfl

/-- The gate's weights, a head at a time, padded with zero rows before and after. -/
theorem V_w (c : Dev nD) : V m c main_v2 = (pad S4x128x128 ![0, 64, 0] ![0, 48, 0] ![0, 0, 0]
      (transpose S4x16x128 [1, 0, 2] (shapeCast S16x4x128 (m ((c : Thread nD τ).loc main_arg1)) shapeCasts_S16x512_S16x4x128
        : FVec F S16x4x128 .f32) transposes_S16x4x128_S4x16x128_1_0_2)
      (sitofp .f32 (constantI S_ 32 0#32) : FVec F S_ .f32) pads_S4x16x128_S4x128x128_000_64480_000 h_S_ : FVec F S4x128x128 .f32) := by
  show StableHlo.after _ _ _ = _
  unfold hostOps0 hostOps0_1 hostOps0_2
  simp only [List.flatten_cons, List.flatten_nil, List.append_nil, List.cons_append, List.nil_append]
  after_results
  rfl

theorem gout_at (c : Dev nD) (t : Fin cfg0.N) (l : Fin 256) :
    (blocks m c t).gout (ix2 0 l) = m ((c : Thread nD τ).loc main_arg3) (ix1 l) := by
  have e : ((cfg0.win 7).blk t).view.emb (ix2 0 l) = ix2 0 l := by blk_ext [idx t]
  show V m c main_v4 (((cfg0.win 7).blk t).view.emb (ix2 0 l)) = _
  rw [V_n, e]
  pointwise

theorem bg_at (c : Dev nD) (t : Fin cfg0.N) (l : Fin 512) :
    (blocks m c t).bg (ix2 0 l) = m ((c : Thread nD τ).loc main_arg2) (ix1 l) := by
  have e : ((cfg0.win 6).blk t).view.emb (ix2 0 l) = ix2 0 l := by blk_ext [idx t]
  show V m c main_v3 (((cfg0.win 6).blk t).view.emb (ix2 0 l)) = _
  rw [V_b, e]
  pointwise

theorem s0_at (c : Dev nD) (t : Fin cfg0.N) (h : Fin 4) (d : Fin 128) (e : Fin 256) (ht : t.val < 32) :
    iblk m c 8 t (ix4 0 h d e) = m ((c : Thread nD τ).loc main_arg4) (ix4 ⟨t.val, ht⟩ h d e) := by
  blk_ext [iblk, V, idx t]

/-- The gate's weights: zero but in the sixteen lanes the low-rank activations fill. -/
theorem w_at (m : (ℓ : Loc nD τ sig) → Buf (Elt Ideal) ℓ) (c : Dev nD) (t : Fin cfg0.N) (h : Fin 4) (l d : Fin 128) :
    (blocks m c t).w (ix3 h l d) = if hl : 64 ≤ l.val ∧ l.val < 80 then
      m ((c : Thread nD τ).loc main_arg1) (ix2 ⟨l.val - 64, by omega⟩ ⟨128 * h.val + d.val, by omega⟩) else (0 : EReal) := by
  have e : ((cfg0.win 5).blk t).view.emb (ix3 h l d) = ix3 h l d := by blk_ext [idx t]
  show V m c main_v2 (((cfg0.win 5).blk t).view.emb (ix3 h l d)) = _
  rw [V_w, e]
  pointwise
  by_cases hl : 64 ≤ l.val ∧ l.val < 80
  · rw [dif_pos ⟨hl.1, by omega⟩, dif_pos hl]
    exact congrArg (fun q => m ((c : Thread nD τ).loc main_arg1) (ix2 _ q)) (Fin.ext (by show h.val * 128 + d.val = 128 * h.val + d.val; omega))
  · rw [dif_neg (by omega), dif_neg hl]
    show (((0#32 : BitVec 32).toInt : ℝ) : EReal) = 0
    simp

end Sample

end
-- ==== Proof.SampleTiles.lean ====
/- The blocks and states a grid point's stores leave, at an index. -/
module

public import proofs.«01_k».proof.Proof.SampleChunk
public import proofs.«01_k».proof.Proof.Tiles

@[expose] public section

noncomputable section

namespace Sample

open Idealize.ShloMosaic Cert.GlaSampleIdeal Cert.GlaSampleIdeal.Gen

variable {F : FTy → Type} [FloatOps F]

theorem outAt_congr (B : Blocks F) (xs : FVec F S4x256x128 .f32) {h h' : Fin 4} {x : S16x256.Idx} {i : Fin 16} {e : Fin 256}
    (hh : h.val = h'.val) (h0 : (x 0).val = i.val) (h1 : (x 1).val = e.val) : outAt B xs h x = outAt B xs h' (ix2 i e) := by
  obtain rfl := Fin.ext hh
  congr 1
  funext a
  fin_cases a
  · exact Fin.ext h0
  · exact Fin.ext h1

/-- The output block at token `i` and column `256 h + e`. -/
theorem outPieces_at (B : Blocks F) (xs : FVec F S4x256x128 .f32) (h : Fin 4) (i : Fin 16) (e : Fin 256) (y : S16x1024.Idx)
    (y0 : (y 0).val = i.val) (y1 : (y 1).val = 256 * h.val + e.val) :
    View.canon (Val := Elt F) (outPieces B xs) y = outAt B xs h (ix2 i e) := by
  have hh := h.isLt; have hi := i.isLt; have he := e.isLt
  unfold outPieces
  canon_tiles x hx
  all_goals
    refine outAt_congr B xs ?_ ?_ ?_ <;> simp only [Fin.isValue, Fin.val_zero, Fin.val_one, Fin.val_two, show ((3 : Fin 4).val) = 3 from rfl] <;> omega

theorem rectSt_emb (h : Fin 4) (a : Fin 1) (e : Fin 256) (d : Fin 128) : (rectSt h).emb (ix3 a e d) = ix3 h e d := by
  obtain rfl : a = 0 := Subsingleton.elim _ _
  funext t
  refine Fin.ext ?_
  rw [Rect.emb_apply]
  fin_cases t
  · show h.val + 1 * 0 = h.val; omega
  · show 0 + 1 * e.val = e.val; omega
  · show 0 + 1 * d.val = d.val; omega

theorem rectS_emb (h : Fin 4) (a a' : Fin 1) (d : Fin 128) (e : Fin 256) : (rectS h).emb (ix4 a a' d e) = ix4 0 h d e := by
  obtain rfl : a = 0 := Subsingleton.elim _ _
  obtain rfl : a' = 0 := Subsingleton.elim _ _
  funext t
  refine Fin.ext ?_
  rw [Rect.emb_apply]
  fin_cases t
  · rfl
  · show h.val + 1 * 0 = h.val; omega
  · show 0 + 1 * d.val = d.val; omega
  · show 0 + 1 * e.val = e.val; omega

/-- The states a point leaves, as one array. -/
def states (B : Blocks F) (xs : FVec F S4x256x128 .f32) : FVec F S4x256x128 .f32 := fun y => stEnd B xs (y 0) (ix2 (y 1) (y 2))

theorem stOut_emb (B : Blocks F) (xs : FVec F S4x256x128 .f32) (h : Fin 4) (x : S1x256x128.Idx) :
    stOut B xs h x = states B xs ((rectSt h).emb x) := by
  obtain ⟨a, e, d, rfl⟩ := Gla.exists_ix3 x
  rw [rectSt_emb]
  pointwise [stOut]
  rfl

/-- The state at head `h`, whatever was stored before. -/
theorem stPieces_at (B : Blocks F) (xs : FVec F S4x256x128 .f32) (L : List (View.Piece (Elt F) S4x256x128 .f32)) (h : Fin 4)
    (e : Fin 256) (d : Fin 128) :
    View.canon (Val := Elt F) (stPieces B xs ++ L) (ix3 h e d) = stEnd B xs h (ix2 e d) :=
  View.canon_append_of_piecesOf (Val := Elt F) (e := .f32) (states B xs) L (stPieces B xs)
    ⟨stOut_emb B xs 3, stOut_emb B xs 2, stOut_emb B xs 1, stOut_emb B xs 0, trivial⟩ (ix3 h e d)
    (View.cover_of_tiled_head _ _ _ (by rfl) _)

/-- The start state, transposed. -/
theorem resetPieces_at (x8 : FVec F S1x4x128x256 .f32) (h : Fin 4) (e : Fin 256) (d : Fin 128) :
    View.canon (Val := Elt F) (resetPieces x8) (ix3 h e d) = x8 (ix4 0 h d e) := by
  have key : ∀ (h : Fin 4) (x : S1x256x128.Idx),
      resetAt x8 h x = (fun y : S4x256x128.Idx => x8 (ix4 0 (y 0) (y 2) (y 1))) ((rectSt h).emb x) := fun h x => by
    obtain ⟨a, e, d, rfl⟩ := Gla.exists_ix3 x
    rw [rectSt_emb]
    pointwise [resetAt]
    show x8 ((rectS h).emb (ix4 0 0 d e)) = _
    rw [rectS_emb]
  exact (congrArg (fun L => View.canon (Val := Elt F) L (ix3 h e d)) (List.append_nil _).symm).trans
    (View.canon_append_of_piecesOf (Val := Elt F) (e := .f32) (fun y : S4x256x128.Idx => x8 (ix4 0 (y 0) (y 2) (y 1))) [] (resetPieces x8)
      ⟨key 3, key 2, key 1, key 0, trivial⟩ (ix3 h e d) (View.cover_of_tiled_head _ _ _ (by rfl) _))

/-- The state handed out, transposed back. -/
theorem finalPieces_at (xs : FVec F S4x256x128 .f32) (h : Fin 4) (d : Fin 128) (e : Fin 256) :
    View.canon (Val := Elt F) (finalPieces xs) (ix4 0 h d e) = xs (ix3 h e d) := by
  have key : ∀ (h : Fin 4) (x : S1x1x128x256.Idx),
      finalAt xs h x = (fun y : S1x4x128x256.Idx => xs (ix3 (y 1) (y 3) (y 2))) ((rectS h).emb x) := fun h x => by
    obtain ⟨a, a', d, e, rfl⟩ := Gla.exists_ix4 x
    rw [rectS_emb]
    pointwise [finalAt]
    show xs ((rectSt h).emb (ix3 0 e d)) = _
    rw [rectSt_emb]
  exact (congrArg (fun L => View.canon (Val := Elt F) L (ix4 0 h d e)) (List.append_nil _).symm).trans
    (View.canon_append_of_piecesOf (Val := Elt F) (e := .f32) (fun y : S1x4x128x256.Idx => xs (ix3 (y 1) (y 3) (y 2))) [] (finalPieces xs)
      ⟨key 3, key 2, key 1, key 0, trivial⟩ (ix4 0 h d e) (View.cover_of_tiled_head _ _ _ (by rfl) _))

/-! ## The loads of a head, at an index -/

theorem ldK_at (x : FVec F S16x512 .f32) (h : Fin 4) (i : Fin 16) (d : Fin 128) :
    ldK x h (ix2 i d) = x (ix2 i ⟨128 * h.val + d.val, by omega⟩) :=
  congrArg x ((Gla.emb2 _ _ i d (by show 0 + i.val < 16; omega) (by show 128 * h.val + d.val < 512; omega)).trans
    (congrArg (ix2 · _) (Fin.ext (Nat.zero_add _))))

theorem ldV_at (x : FVec F S16x1024 .f32) (h : Fin 4) (i : Fin 16) (e : Fin 256) :
    ldV x h (ix2 i e) = x (ix2 i ⟨256 * h.val + e.val, by omega⟩) :=
  congrArg x ((Gla.emb2 _ _ i e (by show 0 + i.val < 16; omega) (by show 256 * h.val + e.val < 1024; omega)).trans
    (congrArg (ix2 · _) (Fin.ext (Nat.zero_add _))))

theorem ldSm_at (x : FVec F S16x128 .f32) (i : Fin 16) (l : Fin 128) : ldSm x (ix2 i l) = x (ix2 i l) :=
  congrArg x ((Gla.emb2 _ _ i l (by show 0 + i.val < 16; omega) (by show 0 + l.val < 128; omega)).trans
    (congrArg₂ ix2 (Fin.ext (Nat.zero_add _)) (Fin.ext (Nat.zero_add _))))

theorem ldW_at (x : FVec F S4x128x128 .f32) (h : Fin 4) (l d : Fin 128) : ldW x h (ix3 0 l d) = x (ix3 h l d) := by
  refine congrArg x (show (rectW h).emb (ix3 0 l d) = ix3 h l d from ?_)
  funext t
  refine Fin.ext ?_
  rw [Rect.emb_apply]
  fin_cases t
  · show h.val + 1 * 0 = h.val; omega
  · show 0 + 1 * l.val = l.val; omega
  · show 0 + 1 * d.val = d.val; omega

theorem ldBg_at (x : FVec F S1x512 .f32) (h : Fin 4) (d : Fin 128) :
    ldBg x h (ix2 0 d) = x (ix2 0 ⟨128 * h.val + d.val, by omega⟩) :=
  congrArg x (Gla.emb2 _ _ 0 d (by show 0 + 0 < 1; omega) (by show 128 * h.val + d.val < 512; omega))

theorem ldGout_at (x : FVec F S1x256 .f32) (e : Fin 256) : ldGout x (ix2 0 e) = x (ix2 0 e) :=
  congrArg x ((Gla.emb2 _ _ 0 e (by show 0 + 0 < 1; omega) (by show 0 + e.val < 256; omega)).trans
    (congrArg (ix2 _) (Fin.ext (Nat.zero_add _))))

/-- The state a point starts from. -/
theorem stStart_at (xs : FVec F S4x256x128 .f32) (h : Fin 4) (e : Fin 256) (d : Fin 128) :
    stStart xs h (ix2 e d) = xs (ix3 h e d) := by
  show (shapeCast S256x128 (ldSt xs h) shapeCasts_S1x256x128_S256x128 : FVec F S256x128 .f32) (ix2 e d) = _
  pointwise
  show xs ((rectSt h).emb (ix3 0 e d)) = _
  rw [rectSt_emb]

end Sample

end
-- ==== Proof.SampleChunkValue.lean ====
/- The chunk functions of the kernel, over the extended reals and at an index, are the functions of SampleSpec.lean. -/
module

public import proofs.«01_k».proof.Proof.SampleChunk
public import proofs.«01_k».proof.Proof.SampleSpec

@[expose] public section

noncomputable section

namespace Sample

open Idealize.ShloMosaic Cert.GlaSampleIdeal Cert.GlaSampleIdeal.Gen

theorem outc_value (q k b : FVec Ideal S16x128 .f32) (v : FVec Ideal S16x256 .f32) (st : FVec Ideal S256x128 .f32)
    (i : Fin 16) (e : Fin 256) :
    outc q k b v st (ix2 i e)
      = outS (fun i d => q (ix2 i d) * Gla.scaleQ) (fun i d => k (ix2 i d)) (fun i d => b (ix2 i d)) (fun i e => v (ix2 i e))
          (fun d e => st (ix2 e d)) i e := by
  pointwise [outc, qe, ke, hi, causal]
  simp only [select_le, outS, zero_sub, Gla.scaleQ]

theorem stNext_value (k b : FVec Ideal S16x128 .f32) (v : FVec Ideal S16x256 .f32) (st : FVec Ideal S256x128 .f32)
    (d : Fin 128) (e : Fin 256) :
    stNext k b v st (ix2 e d)
      = nextS (fun i d => k (ix2 i d)) (fun i d => b (ix2 i d)) (fun i e => v (ix2 i e)) (fun d e => st (ix2 e d)) d e := by
  pointwise [stNext, kd, hi, lastGate]
  simp only [nextS]
  congr 1
  exact Finset.sum_congr rfl fun x _ => mul_comm _ _

theorem cumGate_value (g : FVec Ideal S16x128 .f32) (hg : ∀ j d, g (ix2 j d) ≠ ⊤) (i : Fin 16) (d : Fin 128) :
    cumGate g (ix2 i d) = cumS (fun i d => g (ix2 i d)) i d := by
  pointwise [cumGate, tmm, mid, lo, rem, hi, tril, causal]
  simp only [select_le]
  exact cum_eq (fun j => g (ix2 j d)) (fun j => hg j d) i

theorem logGate_value (z : FVec Ideal S16x128 .f32) (i : Fin 16) (d : Fin 128) :
    logGate z (ix2 i d) = Gla.gateS (z (ix2 i d)) := by
  rw [← Gla.gate_eq]
  pointwise [logGate]
  rfl

theorem normOut_value (r o : FVec Ideal S16x256 .f32) (gout : FVec Ideal S1x256 .f32) (i : Fin 16) (e : Fin 256) :
    normOut r o gout (ix2 i e) = Gla.normS (r (ix2 i e)) (fun e => o (ix2 i e)) (gout (ix2 0 e)) e := by
  pointwise [normOut, hi]
  rfl

theorem gateZ_value (sm : FVec Ideal S16x128 .f32) (w : FVec Ideal S1x128x128 .f32) (bg : FVec Ideal S1x128 .f32)
    (i : Fin 16) (d : Fin 128) (hw : ∀ x : Fin 128, w (ix3 0 x d) - w (ix3 0 x d) = 0)
    (hs : ∀ x : Fin 128, w (ix3 0 x d) = 0 ∨ sm (ix2 i x) - sm (ix2 i x) = 0) :
    gateZ sm w bg (ix2 i d) = ∑ x : Fin 128, sm (ix2 i x) * w (ix3 0 x d) + bg (ix2 0 d) := by
  pointwise [gateZ, gmm, hi, mid, lo, rem]
  exact Gla.split_dot (fun x => sm (ix2 i x)) (fun x => w (ix3 0 x d)) hw hs _

end Sample

end
-- ==== Proof.SamplePointValue.lean ====
/- What the kernel's grid points compute, over the extended reals: point `b` takes sample `b`'s sixteen tokens from the state
   the sample carries. -/
module

public import proofs.«01_k».proof.Proof.SampleInputs
public import proofs.«01_k».proof.Proof.SampleTiles
public import proofs.«01_k».proof.Proof.SampleChunkValue

@[expose] public section

noncomputable section

namespace Sample

open Idealize.ShloMosaic Idealize.ShloMosaic.TcCoe Cert.GlaSampleIdeal Cert.GlaSampleIdeal.Gen

variable (m : (ℓ : Loc nD τ sig) → Buf (Elt Ideal) ℓ)

/-- The kernel's arguments. -/
abbrev K0 (c : Dev nD) : S16896x9728.Idx → EReal := m ((c : Thread nD τ).loc main_arg0)
abbrev K1 (c : Dev nD) : S16x512.Idx → EReal := m ((c : Thread nD τ).loc main_arg1)
abbrev K2 (c : Dev nD) : S512.Idx → EReal := m ((c : Thread nD τ).loc main_arg2)
abbrev K3 (c : Dev nD) : S256.Idx → EReal := m ((c : Thread nD τ).loc main_arg3)
abbrev K4 (c : Dev nD) : S32x4x128x256.Idx → EReal := m ((c : Thread nD τ).loc main_arg4)

theorem at_ix2 {R C : ℕ} (A : (⟨2, ![R, C]⟩ : Shape).Idx → EReal) {r r' : Fin R} {l l' : Fin C} (hr : r.val = r'.val)
    (hl : l.val = l'.val) : A (ix2 r l) = A (ix2 r' l') := by
  obtain rfl := Fin.ext hr
  obtain rfl := Fin.ext hl
  rfl

section Point

variable (c : Dev nD) (t : Fin cfg0.N) (b : Fin 32) (ht : t.val = b.val)
include ht

theorem ldq_value (h : Fin 4) (i : Fin 16) (d : Fin 128) :
    ldK (blocks m c t).q h (ix2 i d) * Gla.scaleQ = qS (K0 m c) b h i d := by
  rw [ldK_at, q_at m c t _ _ (by omega), qS]
  congr 1
  exact at_ix2 _ (by show 16384 + (16 * t.val + i.val) = 16384 + (b.val * 16 + i.val); omega)
    (by show 128 * h.val + d.val = h.val * 128 + d.val; omega)

theorem ldk_value (h : Fin 4) (i : Fin 16) (d : Fin 128) :
    ldK (blocks m c t).k h (ix2 i d) = kS (K0 m c) b h i d := by
  rw [ldK_at, k_at m c t _ _ (by omega), kS]
  exact at_ix2 _ (by show 16384 + (16 * t.val + i.val) = 16384 + (b.val * 16 + i.val); omega)
    (by show 512 + (128 * h.val + d.val) = 512 + (h.val * 128 + d.val); omega)

theorem ldv_value (h : Fin 4) (i : Fin 16) (e : Fin 256) :
    ldV (blocks m c t).v h (ix2 i e) = vS (K0 m c) b h i e := by
  rw [ldV_at, v_at m c t _ _ (by omega), vS]
  exact at_ix2 _ (by show 16384 + (16 * t.val + i.val) = 16384 + (b.val * 16 + i.val); omega)
    (by show 1024 + (256 * h.val + e.val) = 1024 + (h.val * 256 + e.val); omega)

theorem ldr_value (h : Fin 4) (i : Fin 16) (e : Fin 256) :
    ldV (blocks m c t).r h (ix2 i e) = rS (K0 m c) b h i e := by
  rw [ldV_at, r_at m c t _ _ (by omega), rS]
  exact at_ix2 _ (by show 16384 + (16 * t.val + i.val) = 16384 + (b.val * 16 + i.val); omega)
    (by show 2048 + (256 * h.val + e.val) = 2048 + (h.val * 256 + e.val); omega)

theorem ldsm_value (i : Fin 16) (x : Fin 16) :
    ldSm (blocks m c t).sm (ix2 i ⟨64 + x.val, by omega⟩) = K0 m c (ix2 (row b i) ⟨9280 + x.val, by omega⟩) := by
  rw [ldSm_at, sm_at m c t _ _ (by omega)]
  exact at_ix2 _ (by show 16384 + (16 * t.val + i.val) = 16384 + (b.val * 16 + i.val); omega)
    (by show 9216 + (64 + x.val) = 9280 + x.val; omega)

/-- The gate's logits. -/
theorem gate_value (hfin : FiniteGate (K0 m c) (K1 m c)) (h : Fin 4) (i : Fin 16) (d : Fin 128) :
    gateZ (ldSm (blocks m c t).sm) (ldW (blocks m c t).w h) (ldBg (blocks m c t).bg h) (ix2 i d)
      = zS (K0 m c) (K1 m c) (K2 m c) b h i d := by
  have hz : ∀ l : Fin 128, ¬ (64 ≤ l.val ∧ l.val < 80) → ldW (blocks m c t).w h (ix3 0 l d) = (0 : EReal) := fun l hl => by
    rw [ldW_at, w_at, dif_neg hl]
  have hn : ∀ x : Fin 16, ldW (blocks m c t).w h (ix3 0 ⟨64 + x.val, by omega⟩ d)
      = K1 m c (ix2 x ⟨h.val * 128 + d.val, by omega⟩) := fun x => by
    rw [ldW_at, w_at, dif_pos ⟨by show 64 ≤ 64 + x.val; omega, by show 64 + x.val < 80; omega⟩]
    exact at_ix2 _ (by show 64 + x.val - 64 = x.val; omega) (by show 128 * h.val + d.val = h.val * 128 + d.val; omega)
  have hlane : ∀ l : Fin 128, 64 ≤ l.val ∧ l.val < 80 → ∃ x : Fin 16, l = ⟨64 + x.val, by omega⟩ := fun l hl =>
    ⟨⟨l.val - 64, by omega⟩, Fin.ext (by show l.val = 64 + (l.val - 64); omega)⟩
  rw [gateZ_value]
  · rw [Gla.sum_lanes _ fun l hl => by rw [hz l hl, mul_zero], zS, ldBg_at, bg_at]
    congr 1
    · exact Finset.sum_congr rfl fun x _ => by rw [hn, ldsm_value m c t b ht]
    · exact congrArg (fun q => K2 m c (ix1 q)) (Fin.ext (by show 128 * h.val + d.val = h.val * 128 + d.val; omega))
  · intro l
    by_cases hl : 64 ≤ l.val ∧ l.val < 80
    · obtain ⟨x, rfl⟩ := hlane l hl
      rw [hn]
      exact hfin.2 _ _
    · rw [hz l hl]; simp
  · intro l
    by_cases hl : 64 ≤ l.val ∧ l.val < 80
    · obtain ⟨x, rfl⟩ := hlane l hl
      rw [ldsm_value m c t b ht]
      exact .inr (hfin.1 _ _ _)
    · exact .inl (hz l hl)

/-- The running sum of the log gates. -/
theorem bAt_value (hfin : FiniteGate (K0 m c) (K1 m c)) (h : Fin 4) (i : Fin 16) (d : Fin 128) :
    bAt (blocks m c t) h (ix2 i d) = cumS (gS (K0 m c) (K1 m c) (K2 m c) b h) i d := by
  have e : ∀ i d, logGate (gateZ (ldSm (blocks m c t).sm) (ldW (blocks m c t).w h) (ldBg (blocks m c t).bg h)) (ix2 i d)
      = gS (K0 m c) (K1 m c) (K2 m c) b h i d := fun i d => by
    rw [logGate_value, gate_value m c t b ht hfin, gS]
  rw [bAt, cumGate_value _ (fun i d => by rw [e]; exact Gla.gateS_ne_top _)]
  simp only [e]

/-- The state a point starts from is its sample's. -/
theorem start_value (h : Fin 4) (d : Fin 128) (e : Fin 256) :
    stStart (fresh m c t) h (ix2 e d) = SS (K4 m c) b h d e := by
  rw [stStart_at, fresh, resetPieces_at, s0_at m c t h d e (by omega)]
  exact congrArg (fun p => K4 m c (ix4 p h d e)) (Fin.ext ht)

/-- The state a point hands out. -/
theorem fin_value (hfin : FiniteGate (K0 m c) (K1 m c)) (h : Fin 4) (d : Fin 128) (e : Fin 256) :
    (outsAt0 m c t).2 (ix4 0 h d e) = newS (K0 m c) (K1 m c) (K2 m c) (K4 m c) b h d e := by
  rw [point_fin, finalPieces_at, stPieces_at, stEnd, stNext_value, newS]
  simp only [ldk_value m c t b ht, ldv_value m c t b ht, bAt_value m c t b ht hfin, start_value m c t b ht]

/-- The output block of a point. -/
theorem out_value (hfin : FiniteGate (K0 m c) (K1 m c)) (h : Fin 4) (i : Fin 16) (e : Fin 256) (y : S16x1024.Idx)
    (y0 : (y 0).val = i.val) (y1 : (y 1).val = 256 * h.val + e.val) :
    (outsAt0 m c t).1 y = yS (K0 m c) (K1 m c) (K2 m c) (K3 m c) (K4 m c) b h i e := by
  rw [point_out, outPieces_at _ _ h i e y y0 y1, outAt, normOut_value, yS, ldr_value m c t b ht, ldGout_at, gout_at]
  congr 1
  funext e
  rw [outc_value, oS]
  simp only [ldq_value m c t b ht, ldk_value m c t b ht, ldv_value m c t b ht, bAt_value m c t b ht hfin,
    start_value m c t b ht]

end Point

end Sample

end
-- ==== Proof.SampleKernel.lean ====
/- The kernel's two result arrays for the samples are the values stated for them. -/
module

public import proofs.«01_k».proof.Proof.SamplePointValue

@[expose] public section

noncomputable section

namespace Sample

open Idealize.ShloMosaic Idealize.ShloMosaic.TcCoe Cert.GlaSampleIdeal Cert.GlaSampleIdeal.Gen Cert.GlaSampleIdeal.Value

variable (m : (ℓ : Loc nD τ sig) → Buf (Elt Ideal) ℓ)

/-- The block each output window names at a point. -/
theorem out_idx : ∀ t : Fin cfg0.N, win0_9.index t = ![t.val, 0] ∧ win0_10.index t = ![t.val, 0, 0, 0] :=
  (by decide +kernel : ∀ t : Fin grid0.N, _)

/-- The first result: the branch's output. -/
theorem result_out (c : Dev nD) (hfin : FiniteGate (K0 m c) (K1 m c)) :
    (dats m 0 c).arrAt 9 cfg0.N = valueO (K0 m c) (K1 m c) (K2 m c) (K3 m c) (K4 m c) := by
  funext y
  obtain ⟨r, l, rfl⟩ : ∃ (r : Fin 512) (l : Fin 1024), y = ix2 r l := ⟨y 0, y 1, funext fun a => by fin_cases a <;> rfl⟩
  have hN : cfg0.N = 32 := N_0
  obtain ⟨t, ht⟩ : ∃ t : Fin cfg0.N, t.val = r.val / 16 := ⟨⟨r.val / 16, by omega⟩, rfl⟩
  obtain ⟨i, hi⟩ : ∃ i : Fin 16, i.val = r.val % 16 := ⟨⟨r.val % 16, by omega⟩, rfl⟩
  have hr : 16 * t.val + i.val < 512 := by omega
  have e1 : (⟨16 * t.val + i.val, hr⟩ : Fin 512) = r := Fin.ext (by show 16 * t.val + i.val = r.val; omega)
  have key := congrFun (blocks9 m c t (flush0_9 t)) (ix2 i l)
  have e : ((cfg0.win 9).blk t).view.emb (ix2 i l) = ix2 r l := by
    rw [← e1]
    blk_ext [out_idx t]
  have left : ((cfg0.win 9).blk t).view.read (Elt Ideal) ((dats m 0 c).arrAt 9 cfg0.N) (ix2 i l) = (dats m 0 c).arrAt 9 cfg0.N (ix2 r l) :=
    congrArg ((dats m 0 c).arrAt 9 cfg0.N) e
  rw [← left, key, flushed9]
  refine (out_value m c t ⟨r.val / 16, by omega⟩ ht hfin ⟨l.val / 256, by omega⟩ i ⟨l.val % 256, by omega⟩ (ix2 i l) rfl
    (by show l.val = 256 * (l.val / 256) + l.val % 256; omega)).trans ?_
  exact congrArg (fun q => yS (K0 m c) (K1 m c) (K2 m c) (K3 m c) (K4 m c) ⟨r.val / 16, by omega⟩ ⟨l.val / 256, by omega⟩ q ⟨l.val % 256, by omega⟩)
    (Fin.ext hi : i = ⟨r.val % 16, by omega⟩)

/-- The second result: the states. -/
theorem result_state (c : Dev nD) (hfin : FiniteGate (K0 m c) (K1 m c)) :
    (dats m 0 c).arrAt 10 cfg0.N = valueS (K0 m c) (K1 m c) (K2 m c) (K4 m c) := by
  funext y
  obtain ⟨b, h, d, e, rfl⟩ := Gla.exists_ix4 y
  have hN : cfg0.N = 32 := N_0
  obtain ⟨t, ht⟩ : ∃ t : Fin cfg0.N, t.val = b.val := ⟨⟨b.val, by omega⟩, rfl⟩
  have hb : t.val < 32 := by omega
  have e1 : (⟨t.val, hb⟩ : Fin 32) = b := Fin.ext ht
  have key := congrFun (blocks10 m c t (flush0_10 t)) (ix4 0 h d e)
  have e2 : ((cfg0.win 10).blk t).view.emb (ix4 0 h d e) = ix4 b h d e := by
    rw [← e1]
    blk_ext [out_idx t]
  have left : ((cfg0.win 10).blk t).view.read (Elt Ideal) ((dats m 0 c).arrAt 10 cfg0.N) (ix4 0 h d e) = (dats m 0 c).arrAt 10 cfg0.N (ix4 b h d e) :=
    congrArg ((dats m 0 c).arrAt 10 cfg0.N) e2
  rw [← left, key, flushed10]
  exact fin_value m c t b ht hfin h d e

end Sample

end
-- ==== Proof.SampleReference.lean ====
/- The reference's results for the samples, over the extended reals and at an index. -/
module

public import proofs.«01_k».proof.Proof.Gen.GlaSampleReferenceIdeal.Run
public import proofs.«01_k».proof.Proof.SampleSpec
public import proofs.«01_k».proof.Proof.RefStep

@[expose] public section

set_option maxRecDepth 16384

noncomputable section

namespace Sample.Reference

open Idealize.ShloMosaic Idealize.ShloMosaic.TcCoe Idealize.ShloMosaic.StableHlo Cert.GlaSampleReferenceIdeal Cert.GlaSampleReferenceIdeal.Gen Cert.GlaSampleReferenceIdeal.Value

variable (A0 : FVec Ideal S16896x9728 .f32) (A1 : FVec Ideal S16x512 .f32) (A2 : FVec Ideal S512 .f32) (A3 : FVec Ideal S256 .f32) (A4 : FVec Ideal S32x4x128x256 .f32)

/-! ## The reference's arrays -/

/-- The gate's logits. -/
def logits : FVec Ideal S32x16x512 .f32 :=
  addf (Host.dotGeneral dot_S32x16x16_S16x512_S32x16x512_2_0_01_1_n_n none (shapeCast _ (extractStridedSlice S512x16 ![16384, 9280] A0 slices_S16896x9728_S512x16_16384_9280) shapeCasts_S512x16_S32x16x16) A1) (broadcastInDim S32x16x512 ![0, 1, 2] bcast_S1x1x512_S32x16x512_0_1_2 (broadcastInDim S1x1x512 ![2] bcast_S512_S1x1x512_2 A2))

/-- The log gates. -/
def gatesR : FVec Ideal S32x4x16x128 .f32 :=
  transpose S32x4x16x128 [0, 2, 1, 3] (shapeCast _ (Host.divf (Host.negf (addf (maximumf (Host.negf (logits A0 A1 A2)) (broadcastInDim S32x16x512 ![] bcast_S_S32x16x512 (constant S_ .f32 0x00000000#32))) (Host.log1p (Host.exp (Host.negf (Host.absf (logits A0 A1 A2))))))) (broadcastInDim S32x16x512 ![] bcast_S_S32x16x512 (constant S_ .f32 0x41800000#32))) shapeCasts_S32x16x512_S32x16x4x128) transposes_S32x16x4x128_S32x4x16x128_0_2_1_3

/-- Their running sum. -/
def cumR : FVec Ideal S32x4x16x128 .f32 :=
  Host.reduceWindowAdd ![1, 1, 16, 1] ![1, 1, 1, 1] ![0, 0, 15, 0] ![0, 0, 0, 0] (gatesR A0 A1 A2) (broadcastInDim S_ ![] bcast_S_S_ (constant S_ .f32 0x00000000#32)) reduceWindows_S32x4x16x128_S32x4x16x128_w1s1p0_0_w1s1p0_0_w16s1p15_0_w1s1p0_0 h_S_

/-- The keys. -/
def keysR : FVec Ideal S32x4x16x128 .f32 :=
  transpose S32x4x16x128 [0, 2, 1, 3] (shapeCast _ (shapeCast _ (extractStridedSlice S512x512 ![16384, 512] A0 slices_S16896x9728_S512x512_16384_512) shapeCasts_S512x512_S32x16x512) shapeCasts_S32x16x512_S32x16x4x128) transposes_S32x16x4x128_S32x4x16x128_0_2_1_3

/-- The queries, scaled. -/
def queriesR : FVec Ideal S32x4x16x128 .f32 :=
  mulf (transpose S32x4x16x128 [0, 2, 1, 3] (shapeCast _ (shapeCast _ (extractStridedSlice S512x512 ![16384, 0] A0 slices_S16896x9728_S512x512_16384_0) shapeCasts_S512x512_S32x16x512) shapeCasts_S32x16x512_S32x16x4x128) transposes_S32x16x4x128_S32x4x16x128_0_2_1_3) (broadcastInDim S32x4x16x128 ![] bcast_S_S32x4x16x128 (constant S_ .f32 0x3DB504F3#32))

/-- The values. -/
def valuesR : FVec Ideal S32x4x16x256 .f32 :=
  transpose S32x4x16x256 [0, 2, 1, 3] (shapeCast _ (shapeCast _ (extractStridedSlice S512x1024 ![16384, 1024] A0 slices_S16896x9728_S512x1024_16384_1024) shapeCasts_S512x1024_S32x16x1024) shapeCasts_S32x16x1024_S32x16x4x256) transposes_S32x16x4x256_S32x4x16x256_0_2_1_3

/-- The attention. -/
def attnR : FVec Ideal S32x4x16x256 .f32 :=
  addf (Host.dotGeneral dot_S32x4x16x16_S32x4x16x256_S32x4x16x256_3_2_2_3_01_01 none (select (broadcastInDim S32x4x16x16 ![2, 3] bcast_S16x16_S32x4x16x16_2_3 (select (cmpi .sge (addi (iotaInDim S16x16 32 0) (broadcastInDim S16x16 ![] bcast_S_S16x16 (constantI S_ 32 0#32))) (iotaInDim S16x16 32 1)) (broadcastInDim S16x16 ![] bcast_S_S16x16 (constantI S_ 1 1#1)) (broadcastInDim S16x16 ![] bcast_S_S16x16 (constantI S_ 1 0#1)))) (Host.dotGeneral dot_S32x4x16x128_S32x4x16x128_S32x4x16x16_3_3_2_2_01_01 none (mulf (queriesR A0) (Host.exp (cumR A0 A1 A2))) (mulf (keysR A0) (Host.exp (Host.negf (cumR A0 A1 A2))))) (broadcastInDim S32x4x16x16 ![] bcast_S_S32x4x16x16 (id (constant S_ .f32 0x00000000#32)))) (valuesR A0)) (Host.dotGeneral dot_S32x4x16x128_S32x4x128x256_S32x4x16x256_3_2_2_3_01_01 none (mulf (queriesR A0) (Host.exp (cumR A0 A1 A2))) A4)

/-- The attention, a token at a time. -/
def turnedR : FVec Ideal S32x16x4x256 .f32 :=
  transpose S32x16x4x256 [0, 2, 1, 3] (attnR A0 A1 A2 A4) transposes_S32x4x16x256_S32x16x4x256_0_2_1_3

/-- The states. -/
def stateR : FVec Ideal S32x4x128x256 .f32 :=
  addf (mulf (broadcastInDim S32x4x128x256 ![0, 1, 2, 3] bcast_S32x4x128x1_S32x4x128x256_0_1_2_3 (broadcastInDim S32x4x128x1 ![0, 1, 2] bcast_S32x4x128_S32x4x128x1_0_1_2 (Host.exp (shapeCast _ (extractStridedSlice S32x4x1x128 ![0, 0, 15, 0] (cumR A0 A1 A2) slices_S32x4x16x128_S32x4x1x128_0_0_15_0) shapeCasts_S32x4x1x128_S32x4x128)))) A4) (Host.dotGeneral dot_S32x4x16x128_S32x4x16x256_S32x4x128x256_2_2_3_3_01_01 none (mulf (keysR A0) (Host.exp (subf (broadcastInDim S32x4x16x128 ![0, 1, 2, 3] bcast_S32x4x1x128_S32x4x16x128_0_1_2_3 (extractStridedSlice S32x4x1x128 ![0, 0, 15, 0] (cumR A0 A1 A2) slices_S32x4x16x128_S32x4x1x128_0_0_15_0)) (cumR A0 A1 A2)))) (valuesR A0))

/-- The branch's output. -/
def outR : FVec Ideal S512x1024 .bf16 :=
  truncf .bf16 (shapeCast _ (shapeCast _ (mulf (mulf (shapeCast _ (shapeCast _ (extractStridedSlice S512x1024 ![16384, 2048] A0 slices_S16896x9728_S512x1024_16384_2048) shapeCasts_S512x1024_S32x16x1024) shapeCasts_S32x16x1024_S32x16x4x256) (Host.divf (broadcastInDim S32x16x4x256 ![] bcast_S_S32x16x4x256 (constant S_ .f32 0x3F800000#32)) (addf (broadcastInDim S32x16x4x256 ![] bcast_S_S32x16x4x256 (constant S_ .f32 0x3F800000#32)) (Host.exp (Host.negf (shapeCast _ (shapeCast _ (extractStridedSlice S512x1024 ![16384, 2048] A0 slices_S16896x9728_S512x1024_16384_2048) shapeCasts_S512x1024_S32x16x1024) shapeCasts_S32x16x1024_S32x16x4x256)))))) (mulf (mulf (turnedR A0 A1 A2 A4) (broadcastInDim S32x16x4x256 ![0, 1, 2, 3] bcast_S32x16x4x1_S32x16x4x256_0_1_2_3 (Host.rsqrt (addf (Host.divf (broadcastInDim S32x16x4x1 ![0, 1, 2] bcast_S32x16x4_S32x16x4x1_0_1_2 (Host.reduceAdd (mulf (turnedR A0 A1 A2 A4) (turnedR A0 A1 A2 A4)) (constant S_ .f32 0x00000000#32) reducesTo_S32x16x4x256_S32x16x4_d3 h_S_)) (broadcastInDim S32x16x4x1 ![] bcast_S_S32x16x4x1 (constant S_ .f32 0x43800000#32))) (broadcastInDim S32x16x4x1 ![] bcast_S_S32x16x4x1 (constant S_ .f32 0x358637BD#32)))))) (broadcastInDim S32x16x4x256 ![0, 1, 2, 3] bcast_S1x1x1x256_S32x16x4x256_0_1_2_3 (broadcastInDim S1x1x1x256 ![3] bcast_S256_S1x1x1x256_3 A3)))) shapeCasts_S32x16x4x256_S32x16x1024) shapeCasts_S32x16x1024_S512x1024) bitsLt_bf16_f32

theorem state_eq (m : (ℓ : Loc nD τ sig) → Buf (Elt Ideal) ℓ) (c : Dev nD) :
    res_main_v57 m c = stateR (m ((c.tc : Thread nD τ).loc main_arg0)) (m ((c.tc : Thread nD τ).loc main_arg1))
      (m ((c.tc : Thread nD τ).loc main_arg2)) (m ((c.tc : Thread nD τ).loc main_arg4)) := rfl

theorem out_eq (m : (ℓ : Loc nD τ sig) → Buf (Elt Ideal) ℓ) (c : Dev nD) :
    res_main_v79 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Sample.Reference

end
-- ==== Proof.SampleWindow.lean ====
/- The window sum and the causal mask of the reference, over the extended reals. -/
module

public import proofs.«01_k».proof.Proof.Gen.GlaSampleReferenceIdeal.Run
public import proofs.«01_k».proof.Proof.SampleSpec
public import Idealize.ShloMosaic.Lib.Pointwise

@[expose] public section

noncomputable section

namespace Sample

open Idealize.ShloMosaic Cert.GlaSampleReferenceIdeal Cert.GlaSampleReferenceIdeal.Gen

/-- The number a window reads at place `w`: the array's own, or zero in the padding in front. -/
def padded (x : S32x4x16x128.Idx → EReal) (j : S32x4x16x128.Idx) (w : (⟨4, ![1, 1, 16, 1]⟩ : Shape).Idx) : EReal :=
  let p : Fin 4 → ℕ := fun a => (j a).val * (![1, 1, 1, 1] : Fin 4 → ℕ) a + (w a).val
  if hin : ∀ a : Fin 4, (![0, 0, 15, 0] : Fin 4 → ℕ) a ≤ p a ∧ p a - (![0, 0, 15, 0] : Fin 4 → ℕ) a < S32x4x16x128.size a
    then x (fun a => ⟨p a - (![0, 0, 15, 0] : Fin 4 → ℕ) a, (hin a).2⟩) else 0

theorem padded_inside (x : S32x4x16x128.Idx → EReal) (b : Fin 32) (h : Fin 4) (i : Fin 16) (d : Fin 128) (c : Fin 16)
    (y : Fin 16) (hy : y.val + 15 = i.val + c.val) :
    padded x (ix4 b h i d) (ix4 0 0 c 0) = x (ix4 b h y d) := by
  unfold padded
  refine (dif_pos fun a => ?_).trans (congrArg x ?_)
  · fin_cases a
    · show 0 ≤ b.val * 1 + 0 ∧ b.val * 1 + 0 - 0 < 32; omega
    · show 0 ≤ h.val * 1 + 0 ∧ h.val * 1 + 0 - 0 < 4; omega
    · show 15 ≤ i.val * 1 + c.val ∧ i.val * 1 + c.val - 15 < 16; omega
    · show 0 ≤ d.val * 1 + 0 ∧ d.val * 1 + 0 - 0 < 128; omega
  · funext a
    refine Fin.ext ?_
    fin_cases a
    · show b.val * 1 + 0 - 0 = b.val; omega
    · show h.val * 1 + 0 - 0 = h.val; omega
    · show i.val * 1 + c.val - 15 = y.val; omega
    · show d.val * 1 + 0 - 0 = d.val; omega

theorem padded_outside (x : S32x4x16x128.Idx → EReal) (b : Fin 32) (h : Fin 4) (i : Fin 16) (d : Fin 128) (c : Fin 16)
    (hc : i.val + c.val < 15) : padded x (ix4 b h i d) (ix4 0 0 c 0) = 0 := by
  unfold padded
  refine dif_neg fun hin => ?_
  have h2 : 15 ≤ i.val * 1 + c.val := (hin 2).1
  omega

theorem window_eq (x : S32x4x16x128.Idx → EReal) (j : S32x4x16x128.Idx)
    (hw : S32x4x16x128.ReduceWindows ![1, 1, 16, 1] ![1, 1, 1, 1] ![0, 0, 15, 0] ![0, 0, 0, 0] S32x4x16x128) :
    Ideal.hostReduceWindowAdd ![1, 1, 16, 1] ![1, 1, 1, 1] ![0, 0, 15, 0] ![0, 0, 0, 0] hw x 0 j
      = (List.finRange (⟨4, ![1, 1, 16, 1]⟩ : Shape).numel).foldl
          (fun r n => r + padded x j ((⟨4, ![1, 1, 16, 1]⟩ : Shape).rowMajor.symm n)) 0 := by
  unfold Ideal.hostReduceWindowAdd Host.reduceWindow
  dsimp only
  refine congrArg (fun F => List.foldl F (0 : EReal) (List.finRange (⟨4, ![1, 1, 16, 1]⟩ : Shape).numel)) ?_
  funext r n
  unfold padded
  dsimp only
  exact congrArg (r + ·) (dite_congr rfl (fun _ => rfl) fun _ => rfl)

/-- The window sum over the tokens, padded with 15 zeros in front, is the running sum. -/
theorem window_sum (x : S32x4x16x128.Idx → EReal) (b : Fin 32) (h : Fin 4) (i : Fin 16) (d : Fin 128)
    (hw : S32x4x16x128.ReduceWindows ![1, 1, 16, 1] ![1, 1, 1, 1] ![0, 0, 15, 0] ![0, 0, 0, 0] S32x4x16x128) :
    Ideal.hostReduceWindowAdd ![1, 1, 16, 1] ![1, 1, 1, 1] ![0, 0, 15, 0] ![0, 0, 0, 0] hw x 0 (ix4 b h i d)
      = cumS (fun i d => x (ix4 b h i d)) i d := by
  rw [window_eq, ← sum_idx_eq_foldl, sum_idx4]
  simp only [Fin.sum_univ_one]
  unfold cumS
  refine Fintype.sum_equiv (Equiv.addRight (i + 1)) _ _ fun c => ?_
  have hv : ((Equiv.addRight (i + 1)) c).val = (c.val + (i.val + 1)) % 16 := by
    show (c + (i + 1)).val = _
    rw [Fin.val_add, Fin.val_add]
    show (c.val + (i.val + 1) % 16) % 16 = _
    omega
  generalize (Equiv.addRight (i + 1)) c = y at hv
  by_cases hc : 15 ≤ i.val + c.val
  · rw [if_pos (by rw [Fin.le_def, hv]; omega)]
    exact padded_inside x b h i d c y (by omega)
  · rw [if_neg (by rw [Fin.le_def, hv]; omega)]
    exact padded_outside x b h i d c (by omega)

theorem causal_select (i x : Fin 16) (a b : EReal) :
    Scalar.select (Scalar.select (IntOp.cmpi CmpIPredicate.sge (IntOp.addi (BitVec.ofNat 32 i.val) 0#32) (BitVec.ofNat 32 x.val)) 1#1 0#1) a b
      = if x ≤ i then a else b := by
  have e : Scalar.select (IntOp.cmpi CmpIPredicate.sge (IntOp.addi (BitVec.ofNat 32 i.val) 0#32) (BitVec.ofNat 32 x.val)) (1#1) (0#1)
      = IntOp.cmpi CmpIPredicate.sge (BitVec.ofNat 32 i.val) (BitVec.ofNat 32 x.val) := by
    revert i x; decide
  rw [e, select_le]

end Sample

end
-- ==== Proof.SampleReferenceValue.lean ====
/- The reference's results for the samples are the values stated for them. -/
module

public import proofs.«01_k».proof.Proof.SampleReference
public import proofs.«01_k».proof.Proof.SampleWindow

@[expose] public section

set_option maxRecDepth 16384

noncomputable section

namespace Sample.Reference

open Idealize.ShloMosaic Cert.GlaSampleReferenceIdeal Cert.GlaSampleReferenceIdeal.Gen

variable (A0 : FVec Ideal S16896x9728 .f32) (A1 : FVec Ideal S16x512 .f32) (A2 : FVec Ideal S512 .f32) (A3 : FVec Ideal S256 .f32) (A4 : FVec Ideal S32x4x128x256 .f32)

theorem queries_at (b : Fin 32) (h : Fin 4) (i : Fin 16) (d : Fin 128) : queriesR A0 (ix4 b h i d) = qS A0 b h i d := by
  pointwise [queriesR]
  rfl

theorem keys_at (b : Fin 32) (h : Fin 4) (i : Fin 16) (d : Fin 128) : keysR A0 (ix4 b h i d) = kS A0 b h i d := by
  pointwise [keysR]
  rfl

theorem values_at (b : Fin 32) (h : Fin 4) (i : Fin 16) (e : Fin 256) : valuesR A0 (ix4 b h i e) = vS A0 b h i e := by
  pointwise [valuesR]
  rfl

theorem gates_at (b : Fin 32) (h : Fin 4) (i : Fin 16) (d : Fin 128) :
    gatesR A0 A1 A2 (ix4 b h i d) = gS A0 A1 A2 b h i d := by
  pointwise [gatesR, logits]
  rfl

theorem cum_at (b : Fin 32) (h : Fin 4) (i : Fin 16) (d : Fin 128) :
    cumR A0 A1 A2 (ix4 b h i d) = cumS (gS A0 A1 A2 b h) i d := by
  have e : (broadcastInDim S_ ![] bcast_S_S_ (constant S_ .f32 0x00000000#32) : FVec Ideal S_ .f32) (Shape.Idx.first h_S_) = (0 : EReal) := by
    pointwise
  show Ideal.hostReduceWindowAdd ![1, 1, 16, 1] ![1, 1, 1, 1] ![0, 0, 15, 0] ![0, 0, 0, 0]
    reduceWindows_S32x4x16x128_S32x4x16x128_w1s1p0_0_w1s1p0_0_w16s1p15_0_w1s1p0_0 (gatesR A0 A1 A2)
      ((broadcastInDim S_ ![] bcast_S_S_ (constant S_ .f32 0x00000000#32) : FVec Ideal S_ .f32) (Shape.Idx.first h_S_)) _ = _
  rw [e]
  refine (window_sum _ b h i d _).trans ?_
  simp only [gates_at]

theorem attn_at (b : Fin 32) (h : Fin 4) (i : Fin 16) (e : Fin 256) :
    attnR A0 A1 A2 A4 (ix4 b h i e) = oS A0 A1 A2 A4 b h i e := by
  have z : (id (constant S_ .f32 0x00000000#32) : FVec Ideal S_ .f32) ix0 = (0 : EReal) := by
    show Ideal.ofBits .f32 0x00000000#32 = 0
    simp
  pointwise [attnR]
  simp only [causal_select, queries_at, keys_at, values_at, cum_at, z, ite_mul, zero_mul]
  rfl

theorem state_at (b : Fin 32) (h : Fin 4) (d : Fin 128) (e : Fin 256) :
    stateR A0 A1 A2 A4 (ix4 b h d e) = newS A0 A1 A2 A4 b h d e := by
  pointwise [stateR]
  simp only [keys_at, values_at, cum_at]
  rfl

theorem turned_at (b : Fin 32) (i : Fin 16) (h : Fin 4) (e : Fin 256) :
    turnedR A0 A1 A2 A4 (ix4 b i h e) = oS A0 A1 A2 A4 b h i e := by
  rw [← attn_at]
  pointwise [turnedR]

theorem out_at (r : Fin 512) (l : Fin 1024) : outR A0 A1 A2 A3 A4 (ix2 r l) = valueO A0 A1 A2 A3 A4 (ix2 r l) := by
  have e1 : (⟨16384 + r.val, by omega⟩ : Fin 16896) = row ⟨r.val / 16, by omega⟩ ⟨r.val % 16, by omega⟩ :=
    Fin.ext (by show 16384 + r.val = 16384 + (r.val / 16 * 16 + r.val % 16); omega)
  have e2 : (⟨2048 + l.val, by omega⟩ : Fin 9728) = ⟨2048 + (l.val / 256 * 256 + l.val % 256), by omega⟩ :=
    Fin.ext (by show 2048 + l.val = 2048 + (l.val / 256 * 256 + l.val % 256); omega)
  pointwise [outR]
  simp only [turned_at, e1, e2]
  rfl

theorem stateR_eq : stateR A0 A1 A2 A4 = valueS A0 A1 A2 A4 := by
  funext y
  obtain ⟨b, h, d, e, rfl⟩ : ∃ (b : Fin 32) (h : Fin 4) (d : Fin 128) (e : Fin 256), y = ix4 b h d e :=
    ⟨y 0, y 1, y 2, y 3, funext fun a => by fin_cases a <;> rfl⟩
  exact state_at A0 A1 A2 A4 b h d e

theorem outR_eq : outR A0 A1 A2 A3 A4 = valueO A0 A1 A2 A3 A4 := by
  funext y
  obtain ⟨r, l, rfl⟩ : ∃ (r : Fin 512) (l : Fin 1024), y = ix2 r l := ⟨y 0, y 1, funext fun a => by fin_cases a <;> rfl⟩
  exact out_at A0 A1 A2 A3 A4 r l

end Sample.Reference

end
-- ==== Proof.GlaSampleValue.lean ====
/- The gated linear attention over the samples' tokens: the kernel's results are the reference's, over the extended reals. -/
module

public import proofs.«01_k».proof.Proof.SampleFinite
public import proofs.«01_k».proof.Proof.SampleKernel
public import proofs.«01_k».proof.Proof.SampleReferenceValue
public import Idealize.ShloMosaic.Adequacy
public import Idealize.ShloMosaic.Init

@[expose] public section

noncomputable section

namespace GlaSample

open Idealize.ShloMosaic Idealize.ShloMosaic.TcCoe Idealize.SL.Sem Cert.GlaSampleIdeal Cert.GlaSampleIdeal.Gen Cert.GlaSampleIdeal.Value Sample

/-- The reference runs and leaves its arguments unchanged; it has no semaphore. -/
theorem reference_frame : Cert.quiescent_GlaSampleReferenceIdeal := fun m ρ _ =>
  (θ_run Cert.GlaSampleReferenceIdeal.defs _ _).mono
    (fun r h => ⟨fun c => (h c).2.2, Idealize.ShloMosaic.sem_eq_zero_of_no_sems (by decide) r.2⟩)
    (Cert.GlaSampleReferenceIdeal.Value.run (F := Ideal) m ρ)

theorem claim : Cert.algebraic_GlaSampleIdeal_GlaSampleReferenceIdeal_pre_finite_gate_sample := by
  intro m ρ m' ρ' hpre hargs
  refine ⟨fun c => valueO (K0 m c) (K1 m c) (K2 m c) (K3 m c) (K4 m c), fun c => valueS (K0 m c) (K1 m c) (K2 m c) (K4 m c), ?_, ?_⟩
  · refine (θ_run defs _ _).mono (fun r h c => ?_) (run_blocks m ρ)
    have hfin : FiniteGate (K0 m c) (K1 m c) := finite_of_pre _ _ _ _ _ _ (congrFun (hpre c) (Shape.Idx.first (by decide)))
    exact ⟨(h c).1.trans (result_out m c hfin), (h c).2.1.trans (result_state m c hfin), (h c).2.2⟩
  · refine (θ_run Cert.GlaSampleReferenceIdeal.defs _ _).mono (fun r h c => ⟨(h c).1.trans ?_, (h c).2.1.trans ?_, (h c).2.2⟩)
      (Cert.GlaSampleReferenceIdeal.Value.run (F := Ideal) m' ρ')
    · rw [Reference.out_eq, (hargs c).1, (hargs c).2.1, (hargs c).2.2.1, (hargs c).2.2.2.1, (hargs c).2.2.2.2]
      exact Reference.outR_eq _ _ _ _ _
    · rw [Reference.state_eq, (hargs c).1, (hargs c).2.1, (hargs c).2.2.1, (hargs c).2.2.2.2]
      exact Reference.stateR_eq _ _ _ _

end GlaSample

end
-- ==== Proof.CombineLoop.lean ====
/- The row copies of one block: two loops of `moe_combine`'s body, the first starting two copies per row, the second
   waiting for them. -/
module

public import proofs.«01_k».proof.Proof.Gen.CombineIdeal.Frame
public import Idealize.ShloMosaic.Lib.Batch
public import Idealize.ShloMosaic.Lib.DeliveryRep
public import Idealize.ShloMosaic.Lib.Pipeline.Frame
public import Idealize.ShloMosaic.Lib.Tactic
public import Idealize.ShloMosaic.Lib.Transfers

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

/-- The row buffer and the array the rows are copied from. -/
abbrev scM : Memref sig .tc .vmem S2x256x2048 .f32 := Memref.whole cc0_scratch0
abbrev yM : Memref sig .tc .hbm S37888x2048 .f32 := Memref.whole main_arg0

/-- Row `k` of the first and of the second half of the row buffer. -/
def dst0 (k : Fin k0_t1_loop.trips) : Memref sig .tc .vmem S1x2048 .f32 :=
  (scM.slice (Rect.unit (s := S2x256x2048) (k0_off2 k) S1x1x2048.size (k0_off2_inb k)) (fun _ => rfl)).squeeze S1x2048 squeezes_S1x1x2048_S1x2048
def dst1 (k : Fin k0_t1_loop.trips) : Memref sig .tc .vmem S1x2048 .f32 :=
  (scM.slice (Rect.unit (s := S2x256x2048) (k0_off5 k) S1x1x2048.size (k0_off5_inb k)) (fun _ => rfl)).squeeze S1x2048 squeezes_S1x1x2048_S1x2048

/-- The row of the array a word names. -/
def src0 (w : BitVec 32) (h : k0_chk1 w) : Memref sig .tc .hbm S1x2048 .f32 :=
  yM.slice (Rect.unit (s := S37888x2048) (k0_off3 w) S1x2048.size (k0_off3_inb w h)) (fun _ => rfl)
def src1 (w : BitVec 32) (h : k0_chk2 w) : Memref sig .tc .hbm S1x2048 .f32 :=
  yM.slice (Rect.unit (s := S37888x2048) (k0_off6 w) S1x2048.size (k0_off6_inb w h)) (fun _ => rfl)

/-- The two words trip `k` reads. -/
abbrev word0 (arg1 : Memref sig .tc .smem S1x1x512 .i32) (f1 : arg1.view.ref.ty.Contents (Elt F)) (k : Fin k0_t1_loop.trips) : BitVec 32 :=
  View.readAt (Elt F) arg1.view (Rect.unit (s := S1x1x512) (k0_off1 k) S1x1x1.size (k0_off1_inb k)).toLoadRect f1 (Shape.Idx.first (numel1_S1x1x1.symm ▸ Nat.one_pos))
abbrev word1 (arg1 : Memref sig .tc .smem S1x1x512 .i32) (f1 : arg1.view.ref.ty.Contents (Elt F)) (k : Fin k0_t1_loop.trips) : BitVec 32 :=
  View.readAt (Elt F) arg1.view (Rect.unit (s := S1x1x512) (k0_off4 k) S1x1x1.size (k0_off4_inb k)).toLoadRect f1 (Shape.Idx.first (numel1_S1x1x1.symm ▸ Nat.one_pos))

/-- One row's credit on its cell. -/
abbrev NN : ℕ := 256

section
variable (c : Dev nD) (arg1 : Memref sig .tc .smem S1x1x512 .i32) (f1 : arg1.view.ref.ty.Contents (Elt F))
variable (fy : yM.view.ref.ty.Contents (Elt F))
variable (h0 : ∀ k, k0_chk1 (word0 arg1 f1 k)) (h1 : ∀ k, k0_chk2 (word1 arg1 f1 k))

/-- Row `k` of a half, at some contents. -/
abbrev blk0 (k : Fin k0_t1_loop.trips) : sProp (MT nD τ sig Unit (Elt F) ℕ (Pipeline.UD sig nD τ) ℕ) := iprop(∃ g, (dst0 k).view.loc (c : Thread nD τ) ↦[(dst0 k).view.set]{fullShare} g)
abbrev blk1 (k : Fin k0_t1_loop.trips) : sProp (MT nD τ sig Unit (Elt F) ℕ (Pipeline.UD sig nD τ) ℕ) := iprop(∃ g, (dst1 k).view.loc (c : Thread nD τ) ↦[(dst1 k).view.set]{fullShare} g)

/-- The shares the source rows are read under. -/
abbrev tokA (i : ℕ) : PosShare TreeShare := Transfers.shareTokN fullShare i
abbrev tokB (i : ℕ) : PosShare TreeShare := Transfers.shareTokN (Transfers.shareDrop fullShare k0_t1_loop.trips) i

/-- The row trip `k` copies, held under its share. -/
abbrev row0 (k : Fin k0_t1_loop.trips) : sProp (MT nD τ sig Unit (Elt F) ℕ (Pipeline.UD sig nD τ) ℕ) :=
  iprop((src0 (word0 arg1 f1 k) (h0 k)).view.loc (c : Thread nD τ) ↦[(src0 (word0 arg1 f1 k) (h0 k)).view.set]{tokA k.val} fy)
abbrev row1 (k : Fin k0_t1_loop.trips) : sProp (MT nD τ sig Unit (Elt F) ℕ (Pipeline.UD sig nD τ) ℕ) :=
  iprop((src1 (word1 arg1 f1 k) (h1 k)).view.loc (c : Thread nD τ) ↦[(src1 (word1 arg1 f1 k) (h1 k)).view.set]{tokB k.val} fy)

/-- What copy `k` delivers: the buffer's row holding the copied row, and the copied row back. -/
abbrev D0 (k : Fin k0_t1_loop.trips) : sProp (MT nD τ sig Unit (Elt F) ℕ (Pipeline.UD sig nD τ) ℕ) :=
  iprop(((dst0 k).view.loc (c : Thread nD τ) ↦[(dst0 k).view.set]{fullShare} (dst0 k).view.rep ((src0 (word0 arg1 f1 k) (h0 k)).view.read (Elt F) fy))
    ∗ ((src0 (word0 arg1 f1 k) (h0 k)).view.loc (c : Thread nD τ) ↦[(src0 (word0 arg1 f1 k) (h0 k)).view.set]{tokA k.val} (src0 (word0 arg1 f1 k) (h0 k)).view.rep ((src0 (word0 arg1 f1 k) (h0 k)).view.read (Elt F) fy)))
abbrev D1 (k : Fin k0_t1_loop.trips) : sProp (MT nD τ sig Unit (Elt F) ℕ (Pipeline.UD sig nD τ) ℕ) :=
  iprop(((dst1 k).view.loc (c : Thread nD τ) ↦[(dst1 k).view.set]{fullShare} (dst1 k).view.rep ((src1 (word1 arg1 f1 k) (h1 k)).view.read (Elt F) fy))
    ∗ ((src1 (word1 arg1 f1 k) (h1 k)).view.loc (c : Thread nD τ) ↦[(src1 (word1 arg1 f1 k) (h1 k)).view.set]{tokB k.val} (src1 (word1 arg1 f1 k) (h1 k)).view.rep ((src1 (word1 arg1 f1 k) (h1 k)).view.read (Elt F) fy)))

/-- The two cells' batches: `j` copies started, `u` units consumed. -/
abbrev batch0 (j u : ℕ) : sProp (MT nD τ sig Unit (Elt F) ℕ (Pipeline.UD sig nD τ) ℕ) :=
  Transfers.Batch (countersEmb (U := Pipeline.UD sig nD τ)) (c : Thread nD τ) (.dma 8) () NN (D0 c arg1 f1 fy h0) j u
abbrev batch1 (j u : ℕ) : sProp (MT nD τ sig Unit (Elt F) ℕ (Pipeline.UD sig nD τ) ℕ) :=
  Transfers.Batch (countersEmb (U := Pipeline.UD sig nD τ)) (c : Thread nD τ) (.dma 9) () NN (D1 c arg1 f1 fy h1) j u

/-- Before trip `k` of the first loop: `k` copies started on each cell, the rows from `k` on still in hand. -/
def issueAt (k : ℕ) (_ : PUnit.{1}) : sProp (MT nD τ sig Unit (Elt F) ℕ (Pipeline.UD sig nD τ) ℕ) :=
  iprop(batch0 c arg1 f1 fy h0 k 0 ∗ batch1 c arg1 f1 fy h1 k 0 ∗ bigSep (Ring.rangeSet k0_t1_loop.trips k k0_t1_loop.trips) (blk0 c)
    ∗ bigSep (Ring.rangeSet k0_t1_loop.trips k k0_t1_loop.trips) (blk1 c)
    ∗ bigSep (Ring.rangeSet k0_t1_loop.trips k k0_t1_loop.trips) (row0 c arg1 f1 fy h0)
    ∗ bigSep (Ring.rangeSet k0_t1_loop.trips k k0_t1_loop.trips) (row1 c arg1 f1 fy h1)
    ∗ (arg1.view.loc (c : Thread nD τ) ↦[arg1.view.set]{fullShare} f1))

/-- The first loop's region at trip `k0_t1`. -/
abbrev issueBody (k0_t1 : Fin k0_t1_loop.trips) (_ : PUnit.{1}) : Prog (TpuEff nD τ sig (Elt F) Λ₀ .tc) PUnit.{1} := do
  let arg8 : BitVec 32 := Scf.iv 0#32 1#32 k0_t1
  let c2_i32 : BitVec 32 := 2#32
  let v17 : BitVec 32 := Scalar.muli c2_i32 arg8
  let c0_i32_15 : BitVec 32 := 0#32
  let v18 : BitVec 32 := Scalar.addi v17 c0_i32_15
  let c0_16 : Index := 0#32
  let c0_17 : Index := 0#32
  let v19 : Index := Scalar.indexCast v18
  let v20 : Elt F .i32 ← smemLoad arg1 (Rect.unit (s := S1x1x512) (k0_off1 k0_t1) S1x1x1.size (k0_off1_inb k0_t1)) numel1_S1x1x1 rfl
  have k0_hw1 : k0_chk1 v20 := (← Prog.lift (TpuEff.assume (k0_chk1 v20) (k0_chk1.dec v20))).down
  let c0_i32_18 : BitVec 32 := 0#32
  let c0_i32_19 : BitVec 32 := 0#32
  let v21 : DmaSems sig S1 := cc0_scratch1.slice (Rect.unit (s := S2) ![0] S1.size inb_S2_S1_0)
  let v22 : DmaSems sig S_ := v21.squeeze S_ squeezes_S1_S_
  let c0_i32_20 : BitVec 32 := 0#32
  let v23 : Memref sig .tc .vmem S1x1x2048 .f32 := scM.slice (Rect.unit (s := S2x256x2048) (k0_off2 k0_t1) S1x1x2048.size (k0_off2_inb k0_t1)) (fun _ => rfl)
  let v24 : Memref sig .tc .vmem S1x2048 .f32 := v23.squeeze S1x2048 squeezes_S1x1x2048_S1x2048
  let c0_i32_21 : BitVec 32 := 0#32
  let v25 : Memref sig .tc .hbm S1x2048 .f32 := yM.slice (Rect.unit (s := S37888x2048) (k0_off3 v20) S1x2048.size (k0_off3_inb v20 k0_hw1)) (fun _ => rfl)
  Prog.lift (.enqueueDma v25 (.here v24) (.dma v22.sem) (View.wordExact_bits rfl) ((View.wordExact_bits rfl).reshape _ _) ⟨Or.inl rfl, trivial⟩)
  let c2_i32_22 : BitVec 32 := 2#32
  let v26 : BitVec 32 := Scalar.muli c2_i32_22 arg8
  let c1_i32_23 : BitVec 32 := 1#32
  let v27 : BitVec 32 := Scalar.addi v26 c1_i32_23
  let c0_24 : Index := 0#32
  let c0_25 : Index := 0#32
  let v28 : Index := Scalar.indexCast v27
  let v29 : Elt F .i32 ← smemLoad arg1 (Rect.unit (s := S1x1x512) (k0_off4 k0_t1) S1x1x1.size (k0_off4_inb k0_t1)) numel1_S1x1x1 rfl
  have k0_hw2 : k0_chk2 v29 := (← Prog.lift (TpuEff.assume (k0_chk2 v29) (k0_chk2.dec v29))).down
  let c1_i32_26 : BitVec 32 := 1#32
  let c1_i32_27 : BitVec 32 := 1#32
  let v30 : DmaSems sig S1 := cc0_scratch1.slice (Rect.unit (s := S2) ![1] S1.size inb_S2_S1_1)
  let v31 : DmaSems sig S_ := v30.squeeze S_ squeezes_S1_S_
  let c0_i32_28 : BitVec 32 := 0#32
  let v32 : Memref sig .tc .vmem S1x1x2048 .f32 := scM.slice (Rect.unit (s := S2x256x2048) (k0_off5 k0_t1) S1x1x2048.size (k0_off5_inb k0_t1)) (fun _ => rfl)
  let v33 : Memref sig .tc .vmem S1x2048 .f32 := v32.squeeze S1x2048 squeezes_S1x1x2048_S1x2048
  let c0_i32_29 : BitVec 32 := 0#32
  let v34 : Memref sig .tc .hbm S1x2048 .f32 := yM.slice (Rect.unit (s := S37888x2048) (k0_off6 v29) S1x2048.size (k0_off6_inb v29 k0_hw2)) (fun _ => rfl)
  Prog.lift (.enqueueDma v34 (.here v33) (.dma v31.sem) (View.wordExact_bits rfl) ((View.wordExact_bits rfl).reshape _ _) ⟨Or.inl rfl, trivial⟩)
  pure ⟨⟩

theorem deliver0 (k : Fin k0_t1_loop.trips) (g : Buf (Elt F) ((dst0 k).view.loc (c : Thread nD τ))) (p : S1x2048.Idx → Elt F .f32)
    (hp : p = (src0 (word0 arg1 f1 k) (h0 k)).view.read (Elt F) fy) :
    iprop(((dst0 k).view.loc (c : Thread nD τ) ↦[(dst0 k).view.set]{fullShare} (dst0 k).view.writes (Elt F) g [⟨Rect.whole S1x2048, p⟩]) ∗ row0 c arg1 f1 fy h0 k)
      ⊢ D0 c arg1 f1 fy h0 k :=
  delivery_rep (c : Thread nD τ) (src0 (word0 arg1 f1 k) (h0 k)) (dst0 k) _ _ fy g p _ hp rfl
theorem deliver1 (k : Fin k0_t1_loop.trips) (g : Buf (Elt F) ((dst1 k).view.loc (c : Thread nD τ))) (p : S1x2048.Idx → Elt F .f32)
    (hp : p = (src1 (word1 arg1 f1 k) (h1 k)).view.read (Elt F) fy) :
    iprop(((dst1 k).view.loc (c : Thread nD τ) ↦[(dst1 k).view.set]{fullShare} (dst1 k).view.writes (Elt F) g [⟨Rect.whole S1x2048, p⟩]) ∗ row1 c arg1 f1 fy h1 k)
      ⊢ D1 c arg1 f1 fy h1 k :=
  delivery_rep (c : Thread nD τ) (src1 (word1 arg1 f1 k) (h1 k)) (dst1 k) _ _ fy g p _ hp rfl

set_option maxHeartbeats 4000000 in
set_option sl_exec.dischHeartbeats 20000 in
/-- One trip: the head of each range taken, the two copies started. -/
theorem issue_step (k : Fin k0_t1_loop.trips) (acc : PUnit.{1}) :
    issueAt c arg1 f1 fy h0 h1 k acc ⊢ wp frame (wpE (defs₀ (F := F)) Variants.none (c : Thread nD τ) none) Set.univ (issueBody arg1 k acc)
      (issueAt c arg1 f1 fy h0 h1 (k.val + 1)) := by
  have hk := k.isLt
  have hw0 := h0 k
  have hw1 := h1 k
  unfold issueAt
  rw [Ring.bigSep_rangeSet_head (Φ := blk0 c) (by omega) (by omega), Ring.bigSep_rangeSet_head (Φ := blk1 c) (by omega) (by omega),
    Ring.bigSep_rangeSet_head (Φ := row0 c arg1 f1 fy h0) (by omega) (by omega), Ring.bigSep_rangeSet_head (Φ := row1 c arg1 f1 fy h1) (by omega) (by omega)]
  unfold blk0 blk1 row0 row1
  iintro ⟨HB0, HB1, ⟨⟨%g0, Hd0⟩, Hd0s⟩, ⟨⟨%g1, Hd1⟩, Hd1s⟩, ⟨Hr0, Hr0s⟩, ⟨Hr1, Hr1s⟩, H1⟩
  dsimp only [issueBody]
  sl_exec (disch := first | (unfold tokA; exact deliver0 c arg1 f1 fy h0 k g0 _ rfl) | (unfold tokB; exact deliver1 c arg1 f1 fy h1 k g1 _ rfl))
  sl_step
  isplitl [HB0]; · iexact HB0
  isplitl [HB1]; · iexact HB1
  isplitl [Hd0s]; · iexact Hd0s
  isplitl [Hd1s]; · iexact Hd1s
  isplitl [Hr0s]; · iexact Hr0s
  isplitl [Hr1s]; · iexact Hr1s
  iexact H1
set_option warn.classDefReducibility false in
/-- The first loop's invariant. -/
@[sl_loop] def issueInv : LoopInv (M := (MT nD τ sig Unit (Elt F) ℕ (Pipeline.UD sig nD τ) ℕ)) frame (wpE (defs₀ (F := F)) Variants.none (c : Thread nD τ) none) Set.univ
    k0_t1_loop.lb k0_t1_loop.ub k0_t1_loop.st k0_t1_ok ⟨⟩ (issueBody (F := F) arg1) where
  inv := issueAt c arg1 f1 fy h0 h1
  step := issue_step c arg1 f1 fy h0 h1

/-- The two words trip `k` of the second loop reads. -/
abbrev word2 (arg1 : Memref sig .tc .smem S1x1x512 .i32) (f1 : arg1.view.ref.ty.Contents (Elt F)) (k : Fin k0_t2_loop.trips) : BitVec 32 :=
  View.readAt (Elt F) arg1.view (Rect.unit (s := S1x1x512) (k0_off7 k) S1x1x1.size (k0_off7_inb k)).toLoadRect f1 (Shape.Idx.first (numel1_S1x1x1.symm ▸ Nat.one_pos))
abbrev word3 (arg1 : Memref sig .tc .smem S1x1x512 .i32) (f1 : arg1.view.ref.ty.Contents (Elt F)) (k : Fin k0_t2_loop.trips) : BitVec 32 :=
  View.readAt (Elt F) arg1.view (Rect.unit (s := S1x1x512) (k0_off10 k) S1x1x1.size (k0_off10_inb k)).toLoadRect f1 (Shape.Idx.first (numel1_S1x1x1.symm ▸ Nat.one_pos))
variable (h2 : ∀ k, k0_chk3 (word2 arg1 f1 k)) (h3 : ∀ k, k0_chk4 (word3 arg1 f1 k))

/-- Before trip `k` of the second loop: before the last trip has run, each batch with `k` rows' units consumed; after it,
    the cells at zero and every delivery. -/
def drainInv (k : ℕ) (_ : PUnit.{1}) : sProp (MT nD τ sig Unit (Elt F) ℕ (Pipeline.UD sig nD τ) ℕ) :=
  iprop(⌜k ≤ 256⌝ ∗ (∃ W, owes (c : Thread nD τ) 0 W) ∗ (arg1.view.loc (c : Thread nD τ) ↦[arg1.view.set]{fullShare} f1)
    ∗ (if k < 256 then iprop(batch0 c arg1 f1 fy h0 k0_t1_loop.trips (k * NN) ∗ batch1 c arg1 f1 fy h1 k0_t1_loop.trips (k * NN))
       else iprop((semVal ((c : Thread nD τ), SemLoc.dma 8) 0 ∗ bigSep Finset.univ (D0 c arg1 f1 fy h0))
        ∗ (semVal ((c : Thread nD τ), SemLoc.dma 9) 0 ∗ bigSep Finset.univ (D1 c arg1 f1 fy h1)))))

/-- The second loop's region at trip `k0_t2`. -/
abbrev drainBody (k0_t2 : Fin k0_t2_loop.trips) (_ : PUnit.{1}) : Prog (TpuEff nD τ sig (Elt F) Λ₀ .tc) PUnit.{1} := do
  let arg8 : BitVec 32 := Scf.iv 0#32 1#32 k0_t2
  let c2_i32 : BitVec 32 := 2#32
  let v17 : BitVec 32 := Scalar.muli c2_i32 arg8
  let c0_i32_15 : BitVec 32 := 0#32
  let v18 : BitVec 32 := Scalar.addi v17 c0_i32_15
  let c0_16 : Index := 0#32
  let c0_17 : Index := 0#32
  let v19 : Index := Scalar.indexCast v18
  let v20 : Elt F .i32 ← smemLoad arg1 (Rect.unit (s := S1x1x512) (k0_off7 k0_t2) S1x1x1.size (k0_off7_inb k0_t2)) numel1_S1x1x1 rfl
  have k0_hw3 : k0_chk3 v20 := (← Prog.lift (TpuEff.assume (k0_chk3 v20) (k0_chk3.dec v20))).down
  let c0_i32_18 : BitVec 32 := 0#32
  let c0_i32_19 : BitVec 32 := 0#32
  let v21 : DmaSems sig S1 := cc0_scratch1.slice (Rect.unit (s := S2) ![0] S1.size inb_S2_S1_0)
  let v22 : DmaSems sig S_ := v21.squeeze S_ squeezes_S1_S_
  let c0_i32_20 : BitVec 32 := 0#32
  let v23 : Memref sig .tc .vmem S1x1x2048 .f32 := scM.slice (Rect.unit (s := S2x256x2048) (k0_off8 k0_t2) S1x1x2048.size (k0_off8_inb k0_t2)) (fun _ => rfl)
  let v24 : Memref sig .tc .vmem S1x2048 .f32 := v23.squeeze S1x2048 squeezes_S1x1x2048_S1x2048
  let c0_i32_21 : BitVec 32 := 0#32
  let v25 : Memref sig .tc .hbm S1x2048 .f32 := yM.slice (Rect.unit (s := S37888x2048) (k0_off9 v20) S1x2048.size (k0_off9_inb v20 k0_hw3)) (fun _ => rfl)
  Prog.lift (.waitDma2 v22.sem v25 v24 (View.wordExact_bits rfl) ((View.wordExact_bits rfl).reshape _ _))
  let c2_i32_22 : BitVec 32 := 2#32
  let v26 : BitVec 32 := Scalar.muli c2_i32_22 arg8
  let c1_i32_23 : BitVec 32 := 1#32
  let v27 : BitVec 32 := Scalar.addi v26 c1_i32_23
  let c0_24 : Index := 0#32
  let c0_25 : Index := 0#32
  let v28 : Index := Scalar.indexCast v27
  let v29 : Elt F .i32 ← smemLoad arg1 (Rect.unit (s := S1x1x512) (k0_off10 k0_t2) S1x1x1.size (k0_off10_inb k0_t2)) numel1_S1x1x1 rfl
  have k0_hw4 : k0_chk4 v29 := (← Prog.lift (TpuEff.assume (k0_chk4 v29) (k0_chk4.dec v29))).down
  let c1_i32_26 : BitVec 32 := 1#32
  let c1_i32_27 : BitVec 32 := 1#32
  let v30 : DmaSems sig S1 := cc0_scratch1.slice (Rect.unit (s := S2) ![1] S1.size inb_S2_S1_1)
  let v31 : DmaSems sig S_ := v30.squeeze S_ squeezes_S1_S_
  let c0_i32_28 : BitVec 32 := 0#32
  let v32 : Memref sig .tc .vmem S1x1x2048 .f32 := scM.slice (Rect.unit (s := S2x256x2048) (k0_off11 k0_t2) S1x1x2048.size (k0_off11_inb k0_t2)) (fun _ => rfl)
  let v33 : Memref sig .tc .vmem S1x2048 .f32 := v32.squeeze S1x2048 squeezes_S1x1x2048_S1x2048
  let c0_i32_29 : BitVec 32 := 0#32
  let v34 : Memref sig .tc .hbm S1x2048 .f32 := yM.slice (Rect.unit (s := S37888x2048) (k0_off12 v29) S1x2048.size (k0_off12_inb v29 k0_hw4)) (fun _ => rfl)
  Prog.lift (.waitDma2 v31.sem v34 v33 (View.wordExact_bits rfl) ((View.wordExact_bits rfl).reshape _ _))
  pure ⟨⟩

theorem trips1 : k0_t1_loop.trips = 256 := by decide
theorem trips2 : k0_t2_loop.trips = 256 := by decide

include h2 h3 in
set_option maxHeartbeats 4000000 in
/-- One trip: two waits, the last trip's the batches' last. -/
theorem drain_step (k : Fin k0_t2_loop.trips) (acc : PUnit.{1}) :
    drainInv c arg1 f1 fy h0 h1 k acc ⊢ wp frame (wpE (defs₀ (F := F)) Variants.none (c : Thread nD τ) none) Set.univ (drainBody arg1 k acc)
      (drainInv c arg1 f1 fy h0 h1 (k.val + 1)) := by
  have hk : k.val < 256 := trips2 ▸ k.isLt
  have ht := trips1
  have hw2 := h2 k
  have hw3 := h3 k
  unfold drainInv
  simp only [if_pos hk]
  rcases Nat.lt_or_ge (k.val + 1) 256 with hl | hl
  · simp only [if_pos hl]
    iintro ⟨-, ⟨%W, HO⟩, H1, HB0, HB1⟩
    dsimp only [drainBody]
    sl_exec
    sl_step
    isplitr; · ipureintro; omega
    isplitl [HO]; · iexists _; iexact HO
    isplitl [H1]; · iexact H1
    rw [show (k.val + 1) * NN = k.val * NN + NN by simp only [NN]; omega]
    isplitl [HB0]; · iexact HB0
    iexact HB1
  · simp only [if_neg (Nat.not_lt.mpr hl)]
    iintro ⟨-, ⟨%W, HO⟩, H1, HB0, HB1⟩
    dsimp only [drainBody]
    sl_exec
    sl_step
    isplitr; · ipureintro; omega
    isplitl [HO]; · iexists _; iexact HO
    isplitl [H1]; · iexact H1
    isplitl [HB0 HB0_all]
    · isplitl [HB0]; · iexact HB0
      iexact HB0_all
    isplitl [HB1]; · iexact HB1
    iexact HB1_all
end
end Cert.CombineIdeal.Hand

end
-- ==== Proof.CombineSplit.lean ====
/- The row buffer and the array of rows, cut into the rows that the copies of one block move, and put together again. -/
module

public import proofs.«01_k».proof.Proof.CombineLoop
public import Idealize.ShloMosaic.Lib.VecWindow
public import Idealize.ShloMosaic.Lib.Pointwise
public import Idealize.ShloMosaic.Lib.ValueLayout

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-! ## The offsets -/

theorem off1_eq : ∀ k : Fin k0_t1_loop.trips, k0_off1 k = ![0, 0, 2 * k.val] := by decide +kernel
theorem off2_eq : ∀ k : Fin k0_t1_loop.trips, k0_off2 k = ![0, k.val, 0] := by decide +kernel
theorem off4_eq : ∀ k : Fin k0_t1_loop.trips, k0_off4 k = ![0, 0, 2 * k.val + 1] := by decide +kernel
theorem off5_eq : ∀ k : Fin k0_t1_loop.trips, k0_off5 k = ![1, k.val, 0] := by decide +kernel
theorem off7_eq : ∀ k : Fin k0_t2_loop.trips, k0_off7 k = ![0, 0, 2 * k.val] := by decide +kernel
theorem off10_eq : ∀ k : Fin k0_t2_loop.trips, k0_off10 k = ![0, 0, 2 * k.val + 1] := by decide +kernel

theorem lt256 (k : Fin k0_t1_loop.trips) : k.val < 256 := trips1 ▸ k.isLt
theorem lt256' (k : Fin k0_t2_loop.trips) : k.val < 256 := trips2 ▸ k.isLt

section
variable (c : Dev nD) (arg1 : Memref sig .tc .smem S1x1x512 .i32) (f1 : arg1.view.ref.ty.Contents (Elt F))
variable (fy : yM.view.ref.ty.Contents (Elt F))

/-! ## The words -/

theorem word0_eq (k : Fin k0_t1_loop.trips) :
    word0 arg1 f1 k = arg1.view.read (Elt F) f1 (ix3 0 0 ⟨2 * k.val, by have := lt256 k; omega⟩) := by
  refine congrArg (arg1.view.read (Elt F) f1) (funext fun a => ?_)
  have h := off1_eq k
  fin_cases a
  · exact Subsingleton.elim (α := Fin 1) _ _
  · exact Subsingleton.elim (α := Fin 1) _ _
  · refine Fin.ext ?_
    show k0_off1 k 2 + 1 * 0 = 2 * k.val
    rw [h]; rfl
theorem word1_eq (k : Fin k0_t1_loop.trips) :
    word1 arg1 f1 k = arg1.view.read (Elt F) f1 (ix3 0 0 ⟨2 * k.val + 1, by have := lt256 k; omega⟩) := by
  refine congrArg (arg1.view.read (Elt F) f1) (funext fun a => ?_)
  have h := off4_eq k
  fin_cases a
  · exact Subsingleton.elim (α := Fin 1) _ _
  · exact Subsingleton.elim (α := Fin 1) _ _
  · refine Fin.ext ?_
    show k0_off4 k 2 + 1 * 0 = 2 * k.val + 1
    rw [h]; rfl
theorem word2_eq (k : Fin k0_t2_loop.trips) :
    word2 arg1 f1 k = arg1.view.read (Elt F) f1 (ix3 0 0 ⟨2 * k.val, by have := lt256' k; omega⟩) := by
  refine congrArg (arg1.view.read (Elt F) f1) (funext fun a => ?_)
  have h := off7_eq k
  fin_cases a
  · exact Subsingleton.elim (α := Fin 1) _ _
  · exact Subsingleton.elim (α := Fin 1) _ _
  · refine Fin.ext ?_
    show k0_off7 k 2 + 1 * 0 = 2 * k.val
    rw [h]; rfl
theorem word3_eq (k : Fin k0_t2_loop.trips) :
    word3 arg1 f1 k = arg1.view.read (Elt F) f1 (ix3 0 0 ⟨2 * k.val + 1, by have := lt256' k; omega⟩) := by
  refine congrArg (arg1.view.read (Elt F) f1) (funext fun a => ?_)
  have h := off10_eq k
  fin_cases a
  · exact Subsingleton.elim (α := Fin 1) _ _
  · exact Subsingleton.elim (α := Fin 1) _ _
  · refine Fin.ext ?_
    show k0_off10 k 2 + 1 * 0 = 2 * k.val + 1
    rw [h]; rfl

/-- A word below the number of rows names a row. -/
theorem row_inb (w : BitVec 32) (h : w.toNat < 37888) : ∀ a, (![w.toNat, 0] : Fin 2 → Nat) a + S1x2048.size a ≤ S37888x2048.size a := by
  intro a; fin_cases a
  · show w.toNat + 1 ≤ 37888; omega
  · show 0 + 2048 ≤ 2048; omega

/-- The rows a block's words name, row `i 1` of half `i 0` of the row buffer from word `2 * i 1 + i 0`. -/
def gath (x : S1x1x512.Idx → BitVec 32) (fy : S37888x2048.Idx → Elt F .f32) : S2x256x2048.Idx → Elt F .f32 :=
  fun i => fy (ix2 ⟨(x (ix3 0 0 ⟨(2 * (i 1).val + (i 0).val) % 512, Nat.mod_lt _ (by decide)⟩)).toNat % 37888, Nat.mod_lt _ (by decide)⟩ ⟨(i 2).val, (i 2).isLt⟩)

theorem gath_dst0 (h0 : ∀ k, k0_chk1 (word0 arg1 f1 k)) (hx : ∀ j : Fin 512, (arg1.view.read (Elt F) f1 (ix3 0 0 j)).toNat < 37888) (k : Fin k0_t1_loop.trips) :
    (dst0 k).view.read (Elt F) (gath (arg1.view.read (Elt F) f1) fy) = (src0 (word0 arg1 f1 k) (h0 k)).view.read (Elt F) fy := by
  funext (j : S1x2048.Idx)
  obtain ⟨z, l, rfl⟩ : ∃ (z : Fin 1) (l : Fin 2048), j = ix2 z l := ⟨j 0, j 1, funext fun a => by fin_cases a <;> rfl⟩
  obtain rfl : z = 0 := Subsingleton.elim _ _
  have hw := word0_eq arg1 f1 k
  have hk := lt256 k
  have eL : ((dst0 k).view.emb (ix2 0 l) : S2x256x2048.Idx) = ix3 0 ⟨k.val, hk⟩ l := by
    show (Rect.unit (s := S2x256x2048) (k0_off2 k) S1x1x2048.size (k0_off2_inb k)).emb (Shape.reshapeEquiv _ (ix2 0 l)) = _
    refine (congrArg (Rect.unit (s := S2x256x2048) (k0_off2 k) S1x1x2048.size (k0_off2_inb k)).emb (ValueIdx.reshapeEquiv_ix2_1ab _ 0 l)).trans ?_
    have h := off2_eq k
    funext a
    fin_cases a
    · refine Fin.ext ?_
      show k0_off2 k 0 + 1 * 0 = 0
      rw [h]; rfl
    · refine Fin.ext ?_
      show k0_off2 k 1 + 1 * 0 = k.val
      rw [h]; rfl
    · refine Fin.ext ?_
      show k0_off2 k 2 + 1 * l.val = l.val
      rw [h]; show 0 + 1 * l.val = _; omega
  have eR : ((src0 (word0 arg1 f1 k) (h0 k)).view.emb (ix2 0 l) : S37888x2048.Idx)
      = ix2 ⟨(word0 arg1 f1 k).toNat % 37888, Nat.mod_lt _ (by decide)⟩ l := by
    funext a
    fin_cases a
    · refine Fin.ext ?_
      show (word0 arg1 f1 k).toNat + 1 * 0 = (word0 arg1 f1 k).toNat % 37888
      have := hx ⟨2 * k.val, by omega⟩
      rw [hw, Nat.mod_eq_of_lt this]
      omega
    · refine Fin.ext ?_
      show 0 + 1 * l.val = l.val
      omega
  show gath (arg1.view.read (Elt F) f1) fy ((dst0 k).view.emb (ix2 0 l)) = fy ((src0 (word0 arg1 f1 k) (h0 k)).view.emb (ix2 0 l))
  rw [eL, eR, hw]
  refine congrArg fy (congrArg₂ (fun a b => (ix2 a b : S37888x2048.Idx)) (Fin.ext ?_) rfl)
  refine congrArg (fun q => (arg1.view.read (Elt F) f1 (ix3 0 0 q)).toNat % 37888) (Fin.ext ?_)
  show (2 * k.val + 0) % 512 = 2 * k.val
  omega

theorem gath_dst1 (h1 : ∀ k, k0_chk2 (word1 arg1 f1 k)) (hx : ∀ j : Fin 512, (arg1.view.read (Elt F) f1 (ix3 0 0 j)).toNat < 37888) (k : Fin k0_t1_loop.trips) :
    (dst1 k).view.read (Elt F) (gath (arg1.view.read (Elt F) f1) fy) = (src1 (word1 arg1 f1 k) (h1 k)).view.read (Elt F) fy := by
  funext (j : S1x2048.Idx)
  obtain ⟨z, l, rfl⟩ : ∃ (z : Fin 1) (l : Fin 2048), j = ix2 z l := ⟨j 0, j 1, funext fun a => by fin_cases a <;> rfl⟩
  obtain rfl : z = 0 := Subsingleton.elim _ _
  have hw := word1_eq arg1 f1 k
  have hk := lt256 k
  have eL : ((dst1 k).view.emb (ix2 0 l) : S2x256x2048.Idx) = ix3 1 ⟨k.val, hk⟩ l := by
    show (Rect.unit (s := S2x256x2048) (k0_off5 k) S1x1x2048.size (k0_off5_inb k)).emb (Shape.reshapeEquiv _ (ix2 0 l)) = _
    refine (congrArg (Rect.unit (s := S2x256x2048) (k0_off5 k) S1x1x2048.size (k0_off5_inb k)).emb (ValueIdx.reshapeEquiv_ix2_1ab _ 0 l)).trans ?_
    have h := off5_eq k
    funext a
    fin_cases a
    · refine Fin.ext ?_
      show k0_off5 k 0 + 1 * 0 = 1
      rw [h]; rfl
    · refine Fin.ext ?_
      show k0_off5 k 1 + 1 * 0 = k.val
      rw [h]; rfl
    · refine Fin.ext ?_
      show k0_off5 k 2 + 1 * l.val = l.val
      rw [h]; show 0 + 1 * l.val = _; omega
  have eR : ((src1 (word1 arg1 f1 k) (h1 k)).view.emb (ix2 0 l) : S37888x2048.Idx)
      = ix2 ⟨(word1 arg1 f1 k).toNat % 37888, Nat.mod_lt _ (by decide)⟩ l := by
    funext a
    fin_cases a
    · refine Fin.ext ?_
      show (word1 arg1 f1 k).toNat + 1 * 0 = (word1 arg1 f1 k).toNat % 37888
      have := hx ⟨2 * k.val + 1, by omega⟩
      rw [hw, Nat.mod_eq_of_lt this]
      omega
    · refine Fin.ext ?_
      show 0 + 1 * l.val = l.val
      omega
  show gath (arg1.view.read (Elt F) f1) fy ((dst1 k).view.emb (ix2 0 l)) = fy ((src1 (word1 arg1 f1 k) (h1 k)).view.emb (ix2 0 l))
  rw [eL, eR, hw]
  refine congrArg fy (congrArg₂ (fun a b => (ix2 a b : S37888x2048.Idx)) (Fin.ext ?_) rfl)
  refine congrArg (fun q => (arg1.view.read (Elt F) f1 (ix3 0 0 q)).toNat % 37888) (Fin.ext ?_)
  show (2 * k.val + 1) % 512 = 2 * k.val + 1
  omega

/-! ## The row buffer by rows -/

/-- The elements of row `k` of half 0 of the row buffer. -/
def set0 (k : Fin k0_t1_loop.trips) : Finset S2x256x2048.Idx := (Rect.unit (s := S2x256x2048) (k0_off2 k) S1x1x2048.size (k0_off2_inb k)).set
theorem set0_eq (k : Fin k0_t1_loop.trips) : (dst0 k).view.set = set0 k := by
  unfold dst0; exact (View.set_reshape _ _).trans (View.set_slice_whole _ _)
theorem mem_dst0 (k : Fin k0_t1_loop.trips) (y : S2x256x2048.Idx) : y ∈ set0 k ↔ (y 0).val = 0 ∧ (y 1).val = k.val := by
  unfold set0
  rw [Rect.mem_set_unit, off2_eq k]
  have h2 : (y 2).val < 2048 := (y 2).isLt
  constructor
  · intro H
    have a0 : 0 ≤ (y 0).val ∧ (y 0).val < 0 + 1 := H 0
    have a1 : k.val ≤ (y 1).val ∧ (y 1).val < k.val + 1 := H 1
    omega
  · intro H a; fin_cases a
    · show 0 ≤ (y 0).val ∧ (y 0).val < 0 + 1; omega
    · show k.val ≤ (y 1).val ∧ (y 1).val < k.val + 1; omega
    · show 0 ≤ (y 2).val ∧ (y 2).val < 0 + 2048; omega
/-- The elements of row `k` of half 1 of the row buffer. -/
def set1 (k : Fin k0_t1_loop.trips) : Finset S2x256x2048.Idx := (Rect.unit (s := S2x256x2048) (k0_off5 k) S1x1x2048.size (k0_off5_inb k)).set
theorem set1_eq (k : Fin k0_t1_loop.trips) : (dst1 k).view.set = set1 k := by
  unfold dst1; exact (View.set_reshape _ _).trans (View.set_slice_whole _ _)
theorem mem_dst1 (k : Fin k0_t1_loop.trips) (y : S2x256x2048.Idx) : y ∈ set1 k ↔ (y 0).val = 1 ∧ (y 1).val = k.val := by
  unfold set1
  rw [Rect.mem_set_unit, off5_eq k]
  have h2 : (y 2).val < 2048 := (y 2).isLt
  constructor
  · intro H
    have a0 : 1 ≤ (y 0).val ∧ (y 0).val < 1 + 1 := H 0
    have a1 : k.val ≤ (y 1).val ∧ (y 1).val < k.val + 1 := H 1
    omega
  · intro H a; fin_cases a
    · show 1 ≤ (y 0).val ∧ (y 0).val < 1 + 1; omega
    · show k.val ≤ (y 1).val ∧ (y 1).val < k.val + 1; omega
    · show 0 ≤ (y 2).val ∧ (y 2).val < 0 + 2048; omega
theorem disj0 : ∀ b b', b ≠ b' → Disjoint (set0 b) (set0 b') := fun b b' hne => by
  rw [Finset.disjoint_left]; intro y hy hy'; rw [mem_dst0] at hy hy'; exact hne (Fin.ext (by omega))
theorem disj1 : ∀ b b', b ≠ b' → Disjoint (set1 b) (set1 b') := fun b b' hne => by
  rw [Finset.disjoint_left]; intro y hy hy'; rw [mem_dst1] at hy hy'; exact hne (Fin.ext (by omega))
theorem compl0 : Finset.univ.biUnion set1 = (Finset.univ : Finset S2x256x2048.Idx) \ Finset.univ.biUnion set0 := by
  ext y
  simp only [Finset.mem_biUnion, Finset.mem_univ, true_and, Finset.mem_sdiff, mem_dst0, mem_dst1]
  have b0 : (y 0).val < 2 := (y 0).isLt
  have b1 : (y 1).val < 256 := (y 1).isLt
  constructor
  · rintro ⟨k, h, _⟩ ⟨k', h', _⟩; rw [h] at h'; exact absurd h' (by decide)
  · intro h
    have b1' : (y 1).val < k0_t1_loop.trips := trips1.symm ▸ b1
    refine ⟨⟨(y 1).val, b1'⟩, ?_, rfl⟩
    have h0 : (y 0).val ≠ 0 := fun h0 => h ⟨⟨(y 1).val, b1'⟩, h0, rfl⟩
    omega

/-- The row buffer held whole is its rows held. -/
theorem sc_eq (f : S2x256x2048.Idx → Elt F .f32) :
    (scM.view.loc (c : Thread nD τ) ↦{fullShare} f : sProp (MT nD τ sig Unit (Elt F) ℕ (Pipeline.UD sig nD τ) ℕ))
      = iprop(bigSep Finset.univ (fun k => (dst0 k).view.loc (c : Thread nD τ) ↦[(dst0 k).view.set]{fullShare} f)
        ∗ bigSep Finset.univ (fun k => (dst1 k).view.loc (c : Thread nD τ) ↦[(dst1 k).view.set]{fullShare} f)) := by
  have e := pointsTo_split_subset (Ix := Unit) (Name := ℕ) (U := Pipeline.UD sig nD τ) (Lvl := ℕ) (ℓ := scM.view.loc (c : Thread nD τ)) (q := fullShare) (f := f)
    (Finset.subset_univ (Finset.univ.biUnion set0))
  refine (Entails.antisymm e.1 e.2).trans ?_
  rw [Ring.pointsTo_sub_blocks (ℓ := scM.view.loc (c : Thread nD τ)) set0 disj0 (Finset.univ.biUnion set0) rfl,
    Ring.pointsTo_sub_blocks (ℓ := scM.view.loc (c : Thread nD τ)) set1 disj1 (Finset.univ \ Finset.univ.biUnion set0) compl0]
  refine congrArg₂ (fun X Y : sProp (MT nD τ sig Unit (Elt F) ℕ (Pipeline.UD sig nD τ) ℕ) => iprop(X ∗ Y)) (congrArg (bigSep Finset.univ) (funext fun k => ?_)) (congrArg (bigSep Finset.univ) (funext fun k => ?_))
  · exact congrArg (fun S : Finset S2x256x2048.Idx => (scM.view.loc (c : Thread nD τ) ↦[S]{fullShare} f : sProp (MT nD τ sig Unit (Elt F) ℕ (Pipeline.UD sig nD τ) ℕ))) (set0_eq k).symm
  · exact congrArg (fun S : Finset S2x256x2048.Idx => (scM.view.loc (c : Thread nD τ) ↦[S]{fullShare} f : sProp (MT nD τ sig Unit (Elt F) ℕ (Pipeline.UD sig nD τ) ℕ))) (set1_eq k).symm

/-! ## The array of rows by shares -/

theorem bigSep_fin (Ψ : ℕ → sProp (MT nD τ sig Unit (Elt F) ℕ (Pipeline.UD sig nD τ) ℕ)) :
    bigSep (Finset.range k0_t1_loop.trips) Ψ = bigSep (Finset.univ : Finset (Fin k0_t1_loop.trips)) fun k => Ψ k.val := by
  rw [← Ring.rangeSet_univ, Ring.bigSep_rangeSet_eq_range le_rfl Ψ (fun k h => by show Ψ k = Ψ (0 + k); rw [Nat.zero_add])]
  rfl

/-- An array held at a share is, share by share, a part of it and the rest, and what is left of the share. -/
theorem toks_eq (q : PosShare TreeShare) (R : Fin k0_t1_loop.trips → Finset S37888x2048.Idx) :
    (yM.view.loc (c : Thread nD τ) ↦{q} fy : sProp (MT nD τ sig Unit (Elt F) ℕ (Pipeline.UD sig nD τ) ℕ))
      = iprop((yM.view.loc (c : Thread nD τ) ↦{Transfers.shareDrop q k0_t1_loop.trips} fy)
        ∗ (bigSep Finset.univ (fun k => yM.view.loc (c : Thread nD τ) ↦[R k]{Transfers.shareTokN q k.val} fy)
          ∗ bigSep Finset.univ (fun k => yM.view.loc (c : Thread nD τ) ↦[Finset.univ \ R k]{Transfers.shareTokN q k.val} fy))) := by
  have e := Transfers.pointsTo_toks_range (Ix := Unit) (Name := ℕ) (U := Pipeline.UD sig nD τ) (Lvl := ℕ) (ℓ := yM.view.loc (c : Thread nD τ)) (S := Finset.univ) (f := fy) q k0_t1_loop.trips
  refine (Entails.antisymm e.1 e.2).trans ?_
  rw [bigSep_fin]
  refine congrArg (fun X : sProp (MT nD τ sig Unit (Elt F) ℕ (Pipeline.UD sig nD τ) ℕ) => iprop((yM.view.loc (c : Thread nD τ) ↦{Transfers.shareDrop q k0_t1_loop.trips} fy) ∗ X)) ?_
  refine Eq.trans ?_ (BI.bigSep_sep _ _ _)
  refine congrArg (bigSep Finset.univ) (funext fun k => ?_)
  have e := pointsTo_split_subset (Ix := Unit) (Name := ℕ) (U := Pipeline.UD sig nD τ) (Lvl := ℕ) (ℓ := yM.view.loc (c : Thread nD τ)) (q := Transfers.shareTokN q k.val) (f := fy)
    (Finset.subset_univ (R k))
  exact Entails.antisymm e.1 e.2

end
end Cert.CombineIdeal.Hand

end
-- ==== Proof.CombineBody.lean ====
/- The kernel of `CombineIdeal` run once: the copies of a block's rows started and awaited, the two rows of each token
   weighted by the routing block's third and fourth columns and added to the block of `h`. -/
module

public import proofs.«01_k».proof.Proof.CombineSplit
public import proofs.«01_k».proof.Proof.Gen.CombineIdeal.Frame

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [∀ e, Nonempty (Elt F e)]

/-! ## What a point computes -/

/-- The two halves of the row buffer as loaded. -/
abbrev half0 (g : S2x256x2048.Idx → Elt F .f32) : Vec F S1x256x2048 .f32 :=
  View.readAt (Elt F) scM.view (Rect.unit (s := S2x256x2048) ![0, 0, 0] S1x256x2048.size inb_S2x256x2048_S1x256x2048_0_0_0).toLoadRect g
abbrev half1 (g : S2x256x2048.Idx → Elt F .f32) : Vec F S1x256x2048 .f32 :=
  View.readAt (Elt F) scM.view (Rect.unit (s := S2x256x2048) ![1, 0, 0] S1x256x2048.size inb_S2x256x2048_S1x256x2048_1_0_0).toLoadRect g

/-- The block stored, from the words, the block of `h`, the routing block and the array of rows. -/
def outV (x1 : S1x1x512.Idx → BitVec 32) (x3 : Vec F S256x2048 .f32) (x4 : Vec F S256x128 .f32) (fy : S37888x2048.Idx → Elt F .f32) : Vec F S256x2048 .f32 :=
  addf x3 (addf
    (mulf (broadcastTo S256x2048 (extractStridedSlice S256x1 ![0, 2] x4 slices_S256x128_o0_2_S256x1) broadcasts_S256x1_S256x2048)
      (shapeCast S256x2048 (half0 (gath x1 fy)) shapeCasts_S1x256x2048_S256x2048))
    (mulf (broadcastTo S256x2048 (extractStridedSlice S256x1 ![0, 3] x4 slices_S256x128_o0_3_S256x1) broadcasts_S256x1_S256x2048)
      (shapeCast S256x2048 (half1 (gath x1 fy)) shapeCasts_S1x256x2048_S256x2048)))

/-! ## The deliveries put together -/

section
variable (c : Dev nD) (arg1 : Memref sig .tc .smem S1x1x512 .i32) (f1 : arg1.view.ref.ty.Contents (Elt F))
variable (fy : yM.view.ref.ty.Contents (Elt F))
variable (h0 : ∀ k, k0_chk1 (word0 arg1 f1 k)) (h1 : ∀ k, k0_chk2 (word1 arg1 f1 k))

/-- The delivered rows of a half are the half at the gathered rows, and the copied rows back. -/
theorem deliveries0 (hx : ∀ j : Fin 512, (arg1.view.read (Elt F) f1 (ix3 0 0 j)).toNat < 37888) :
    bigSep Finset.univ (D0 c arg1 f1 fy h0)
      = (iprop(bigSep Finset.univ (fun k => (dst0 k).view.loc (c : Thread nD τ) ↦[(dst0 k).view.set]{fullShare} gath (arg1.view.read (Elt F) f1) fy)
        ∗ bigSep Finset.univ (row0 c arg1 f1 fy h0)) : sProp (MT nD τ sig Unit (Elt F) ℕ (Pipeline.UD sig nD τ) ℕ)) := by
  refine Eq.trans ?_ (BI.bigSep_sep _ _ _)
  refine congrArg (bigSep Finset.univ) (funext fun k => ?_)
  refine congrArg₂ (fun X Y : sProp (MT nD τ sig Unit (Elt F) ℕ (Pipeline.UD sig nD τ) ℕ) => iprop(X ∗ Y)) ?_ (pointsTo_rep (c : Thread nD τ) _ _ _).symm
  rw [← gath_dst0 arg1 f1 fy h0 hx k]
  exact (pointsTo_rep (c : Thread nD τ) (dst0 k) (gath (arg1.view.read (Elt F) f1) fy) fullShare).symm
theorem deliveries1 (hx : ∀ j : Fin 512, (arg1.view.read (Elt F) f1 (ix3 0 0 j)).toNat < 37888) :
    bigSep Finset.univ (D1 c arg1 f1 fy h1)
      = (iprop(bigSep Finset.univ (fun k => (dst1 k).view.loc (c : Thread nD τ) ↦[(dst1 k).view.set]{fullShare} gath (arg1.view.read (Elt F) f1) fy)
        ∗ bigSep Finset.univ (row1 c arg1 f1 fy h1)) : sProp (MT nD τ sig Unit (Elt F) ℕ (Pipeline.UD sig nD τ) ℕ)) := by
  refine Eq.trans ?_ (BI.bigSep_sep _ _ _)
  refine congrArg (bigSep Finset.univ) (funext fun k => ?_)
  refine congrArg₂ (fun X Y : sProp (MT nD τ sig Unit (Elt F) ℕ (Pipeline.UD sig nD τ) ℕ) => iprop(X ∗ Y)) ?_ (pointsTo_rep (c : Thread nD τ) _ _ _).symm
  rw [← gath_dst1 arg1 f1 fy h1 hx k]
  exact (pointsTo_rep (c : Thread nD τ) (dst1 k) (gath (arg1.view.read (Elt F) f1) fy) fullShare).symm

/-- The rows of the buffer at known contents are the rows at some contents. -/
theorem sc_some (f : S2x256x2048.Idx → Elt F .f32) :
    (iprop(bigSep Finset.univ (fun k => (dst0 k).view.loc (c : Thread nD τ) ↦[(dst0 k).view.set]{fullShare} f)
        ∗ bigSep Finset.univ (fun k => (dst1 k).view.loc (c : Thread nD τ) ↦[(dst1 k).view.set]{fullShare} f)) : sProp (MT nD τ sig Unit (Elt F) ℕ (Pipeline.UD sig nD τ) ℕ))
      ⊢ iprop(bigSep Finset.univ (blk0 (F := F) c) ∗ bigSep Finset.univ (blk1 (F := F) c)) :=
  BI.Laws.sep_mono
    (BI.bigSep_mono fun k _ => (show (iprop((dst0 k).view.loc (c : Thread nD τ) ↦[(dst0 k).view.set]{fullShare} f) : sProp (MT nD τ sig Unit (Elt F) ℕ (Pipeline.UD sig nD τ) ℕ)) ⊢ blk0 c k from by
      iintro H; iexists f; iexact H))
    (BI.bigSep_mono fun k _ => (show (iprop((dst1 k).view.loc (c : Thread nD τ) ↦[(dst1 k).view.set]{fullShare} f) : sProp (MT nD τ sig Unit (Elt F) ℕ (Pipeline.UD sig nD τ) ℕ)) ⊢ blk1 c k from by
      iintro H; iexists f; iexact H))

/-- What is held of the array of rows beside the rows in flight. -/
def restY : sProp (MT nD τ sig Unit (Elt F) ℕ (Pipeline.UD sig nD τ) ℕ) :=
  iprop((yM.view.loc (c : Thread nD τ) ↦{Transfers.shareDrop (Transfers.shareDrop fullShare k0_t1_loop.trips) k0_t1_loop.trips} fy)
    ∗ bigSep Finset.univ (fun k => yM.view.loc (c : Thread nD τ) ↦[Finset.univ \ (src0 (word0 arg1 f1 k) (h0 k)).view.set]{Transfers.shareTokN fullShare k.val} fy)
    ∗ bigSep Finset.univ (fun k => yM.view.loc (c : Thread nD τ) ↦[Finset.univ \ (src1 (word1 arg1 f1 k) (h1 k)).view.set]{Transfers.shareTokN (Transfers.shareDrop fullShare k0_t1_loop.trips) k.val} fy))

/-- The array of rows whole is the rows to copy, twice, and the rest. -/
theorem y_eq : (yM.view.loc (c : Thread nD τ) ↦{fullShare} fy : sProp (MT nD τ sig Unit (Elt F) ℕ (Pipeline.UD sig nD τ) ℕ))
    = iprop(bigSep Finset.univ (row0 c arg1 f1 fy h0) ∗ bigSep Finset.univ (row1 c arg1 f1 fy h1) ∗ restY c arg1 f1 fy h0 h1) := by
  rw [toks_eq c fy fullShare (fun k => (src0 (word0 arg1 f1 k) (h0 k)).view.set),
    toks_eq c fy (Transfers.shareDrop fullShare k0_t1_loop.trips) (fun k => (src1 (word1 arg1 f1 k) (h1 k)).view.set)]
  unfold restY
  refine Entails.antisymm (show (_ : sProp (MT nD τ sig Unit (Elt F) ℕ (Pipeline.UD sig nD τ) ℕ)) ⊢ _ from ?_) (show (_ : sProp (MT nD τ sig Unit (Elt F) ℕ (Pipeline.UD sig nD τ) ℕ)) ⊢ _ from ?_)
  · iintro ⟨⟨Hd, ⟨Hb, Hbr⟩⟩, ⟨Ha, Har⟩⟩
    isplitl [Ha]; · iexact Ha
    isplitl [Hb]; · iexact Hb
    isplitl [Hd]; · iexact Hd
    isplitl [Har] <;> iassumption
  · iintro ⟨Ha, Hb, Hd, Har, Hbr⟩
    isplitl [Hd Hb Hbr]
    · isplitl [Hd]; · iexact Hd
      isplitl [Hb]; · iexact Hb
      iexact Hbr
    · isplitl [Ha]; · iexact Ha
      iexact Har

/-- After the second loop: the cells at zero, the row buffer at the gathered rows, the copied rows back. -/
theorem drain_end (hx : ∀ j : Fin 512, (arg1.view.read (Elt F) f1 (ix3 0 0 j)).toNat < 37888) (acc : PUnit.{1}) :
    drainInv c arg1 f1 fy h0 h1 k0_t2_loop.trips acc
      ⊢ iprop((∃ W, owes (c : Thread nD τ) 0 W) ∗ (arg1.view.loc (c : Thread nD τ) ↦[arg1.view.set]{fullShare} f1)
        ∗ semVal ((c : Thread nD τ), SemLoc.dma 8) 0 ∗ semVal ((c : Thread nD τ), SemLoc.dma 9) 0
        ∗ (scM.view.loc (c : Thread nD τ) ↦[scM.view.set]{fullShare} gath (arg1.view.read (Elt F) f1) fy)
        ∗ bigSep Finset.univ (row0 c arg1 f1 fy h0) ∗ bigSep Finset.univ (row1 c arg1 f1 fy h1)) := by
  unfold drainInv
  rw [if_neg (by rw [trips2]; omega), deliveries0 c arg1 f1 fy h0 hx, deliveries1 c arg1 f1 fy h1 hx,
    show (scM.view.set : Finset _) = Finset.univ from View.set_whole _, sc_eq c (gath (arg1.view.read (Elt F) f1) fy)]
  iintro ⟨-, HO, H1, ⟨⟨Hq0, ⟨Ha, Hr0⟩⟩, ⟨Hq1, ⟨Hb, Hr1⟩⟩⟩⟩
  isplitl [HO]; · iexact HO
  isplitl [H1]; · iexact H1
  isplitl [Hq0]; · iexact Hq0
  isplitl [Hq1]; · iexact Hq1
  isplitl [Ha Hb]
  · isplitl [Ha]; · iexact Ha
    iexact Hb
  isplitl [Hr0]; · iexact Hr0
  iexact Hr1

end

/-! ## The body, run once -/

abbrev hbPt (c : Dev nD) (f : yM.view.ref.ty.Contents (Elt F)) : sProp (MT nD τ sig Unit (Elt F) ℕ (Pipeline.UD sig nD τ) ℕ) := yM.view.loc (c : Thread nD τ) ↦{fullShare} f

set_option maxHeartbeats 4000000 in
/-- The body's triple, for any continuation. -/
theorem kernelRun (c : Dev nD) (i : grid0.Coords) (arg1 : Memref sig .tc .smem S1x1x512 .i32) (harg1 : arg1.IsWhole)
    (arg3 : Memref sig .tc .vmem S256x2048 .f32) (harg3 : arg3.IsWhole) (arg4 : Memref sig .tc .vmem S256x128 .f32) (harg4 : arg4.IsWhole)
    (arg5 : Memref sig .tc .vmem S256x2048 .f32) (harg5 : arg5.IsWhole)
    (x1 : S1x1x512.Idx → BitVec 32) (x3 : Vec F S256x2048 .f32) (x4 : Vec F S256x128 .f32) (fy : yM.view.ref.ty.Contents (Elt F))
    (hx : ∀ j : Fin 512, (x1 (ix3 0 0 j)).toNat < 37888) (W : Waits sig Unit) (K : PUnit → sProp (MT nD τ sig Unit (Elt F) ℕ (Pipeline.UD sig nD τ) ℕ)) :
    iprop(owns (c : Thread nD τ) arg1 fullShare x1 ∗ owns (c : Thread nD τ) arg3 fullShare x3 ∗ owns (c : Thread nD τ) arg4 fullShare x4
        ∗ (∃ d, owns (c : Thread nD τ) arg5 fullShare d) ∗ (∃ d, owns (c : Thread nD τ) scM fullShare d)
        ∗ semVal ((c : Thread nD τ), SemLoc.dma 8) 0 ∗ semVal ((c : Thread nD τ), SemLoc.dma 9) 0 ∗ hbPt c fy
        ∗ owes (c : Thread nD τ) 0 W
        ∗ (iprop(owns (c : Thread nD τ) arg1 fullShare x1 ∗ owns (c : Thread nD τ) arg3 fullShare x3 ∗ owns (c : Thread nD τ) arg4 fullShare x4
              ∗ owns (c : Thread nD τ) arg5 fullShare (outV x1 x3 x4 fy) ∗ (∃ d, owns (c : Thread nD τ) scM fullShare d)
              ∗ semVal ((c : Thread nD τ), SemLoc.dma 8) 0 ∗ semVal ((c : Thread nD τ), SemLoc.dma 9) 0 ∗ hbPt c fy
              ∗ ∃ W', owes (c : Thread nD τ) 0 W') -∗ K ⟨⟩))
      ⊢ wp frame (wpE (defs₀ (F := F)) Variants.none c none) Set.univ
          (cc0_moe_combine i arg1 harg1 yM (Memref.isWhole_whole _) arg3 harg3 arg4 harg4 arg5 harg5 scM (Memref.isWhole_whole _) cc0_scratch1) K := by
  unfold owns
  iintro ⟨⟨%f1, %e1, H1⟩, ⟨%f3, %e3, H3⟩, ⟨%f4, %e4, H4⟩, ⟨%d5, %f5, -, H5⟩, ⟨%ds, %fs, -, HS⟩, Hq0, Hq1, Hy, HO, Hk⟩
  subst e1 e3 e4
  have h0 : ∀ k, k0_chk1 (word0 arg1 f1 k) := fun k => row_inb _ (by rw [word0_eq]; exact hx _)
  have h1 : ∀ k, k0_chk2 (word1 arg1 f1 k) := fun k => row_inb _ (by rw [word1_eq]; exact hx _)
  have h2 : ∀ k, k0_chk3 (word2 arg1 f1 k) := fun k => row_inb _ (by rw [word2_eq]; exact hx _)
  have h3 : ∀ k, k0_chk4 (word3 arg1 f1 k) := fun k => row_inb _ (by rw [word3_eq]; exact hx _)
  -- the array of rows and the row buffer by rows
  ihave Hy' := (Entails.of_eq (y_eq c arg1 f1 fy h0 h1)) $$ Hy
  icases Hy' with ⟨Hr0, Hr1, Hrest⟩
  ihave HS1 := (show (scM.view.loc (c : Thread nD τ) ↦[scM.view.set]{fullShare} fs : sProp (MT nD τ sig Unit (Elt F) ℕ (Pipeline.UD sig nD τ) ℕ)) ⊢ iprop(bigSep Finset.univ (blk0 c) ∗ bigSep Finset.univ (blk1 c)) from by
    rw [show (scM.view.set : Finset _) = Finset.univ from View.set_whole _]
    refine (Entails.of_eq (sc_eq c fs)).trans ?_
    exact sc_some c fs) $$ HS
  icases HS1 with ⟨Hd0, Hd1⟩
  rw [← Ring.rangeSet_univ]
  imod (Transfers.batch_alloc' (Lvl := ℕ) (countersEmb (U := Pipeline.UD sig nD τ)) (c : Thread nD τ) () NN (D0 c arg1 f1 fy h0) (sm := .dma 8) (E := Set.univ)) $$ Hq0 with HB0
  imod (Transfers.batch_alloc' (Lvl := ℕ) (countersEmb (U := Pipeline.UD sig nD τ)) (c : Thread nD τ) () NN (D1 c arg1 f1 fy h1) (sm := .dma 9) (E := Set.univ)) $$ Hq1 with HB1
  sl_unfold [cc0_moe_combine]
  sl_exec
  have ht : Scf.trips k0_t1_loop.lb k0_t1_loop.ub k0_t1_loop.st = k0_t1_loop.trips := rfl
  sl_for (drainInv c arg1 f1 fy h0 h1) $$ [HB0 HB1 HO H1]
  · intro k acc; exact drain_step c arg1 f1 fy h0 h1 h2 h3 k acc
  · unfold drainInv
    rw [if_pos (by decide)]
    isplitr; · ipureintro; omega
    isplitl [HO]; · iexists _; iexact HO
    isplitl [H1]; · iexact H1
    rw [show 0 * NN = 0 from rfl]
    isplitl [HB0]; · iexact HB0
    iexact HB1
  iintro %acc HL
  ihave HL' := (drain_end c arg1 f1 fy h0 h1 hx acc) $$ HL
  icases HL' with ⟨⟨%W', HO⟩, H1, Hq0, Hq1, HS, Hr0, Hr1⟩
  ihave Hy := (Entails.of_eq (y_eq c arg1 f1 fy h0 h1).symm) $$ [Hr0 Hr1 Hrest]
  · isplitl [Hr0]; · iexact Hr0
    isplitl [Hr1]; · iexact Hr1
    iexact Hrest
  sl_exec
  sl_step
  iapply Hk
  isplitl [H1]
  · iexists _; isplitr; swap; · iexact H1
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro
    refine (View.read_writes_full (Val := Elt F) _ _ _ _ _).trans ?_
    show addf (View.readAt (Elt F) arg3.view _ f3) _ = _
    unfold outV
    rw [← View.readAt_full arg3.view f3 inb_S256x2048_S256x2048_0_0, ← View.readAt_full arg4.view f4 inb_S256x128_S256x128_0_0]
    rfl
  isplitl [HS]
  · iexists _, _; isplitr; swap; · iexact HS
    ipureintro; rfl
  isplitl [Hq0]; · iexact Hq0
  isplitl [Hq1]; · iexact Hq1
  isplitl [Hy]; · iexact Hy
  iexists _; iexact HO

end Cert.CombineIdeal.Hand

end
-- ==== Proof.CombineLaunch.lean ====
/- The call of `CombineIdeal`: at every point the kernel runs, and the arguments end unchanged, when every word names a row. -/
module

public import proofs.«01_k».proof.Proof.CombineBody

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [∀ e, Nonempty (Elt F e)]

variable (m : (ℓ : Loc nD τ sig) → Buf (Elt F) ℓ) (ρ : Dev nD → PrngReg)

/-- Every word names a row. -/
abbrev Named : Prop := ∀ (c : Dev nD) (j : S33792.Idx), (m ((c : Thread nD τ).loc main_arg1) j : BitVec 32).toNat < 37888

/-- The words as the host hands them over. -/
theorem V_v0 (c : Dev nD) : V m c main_v0
    = (shapeCast S66x1x512 (m ((c : Thread nD τ).loc main_arg1) : S33792.Idx → BitVec 32) shapeCasts_S33792_S66x1x512 : S66x1x512.Idx → BitVec 32) := by
  show StableHlo.after _ _ _ = _
  unfold hostOps0
  after_results
  rfl

theorem named_block (hd : Named m) (c : Dev nD) (t : Fin cfg0.N) (j : Fin 512) :
    ((iblk m c 0 t : S1x1x512.Idx → BitVec 32) (ix3 0 0 j)).toNat < 37888 := by
  show ((V m c main_v0 : S66x1x512.Idx → BitVec 32) (((cfg0.win 0).blk t).view.emb (ix3 0 0 j))).toNat < 37888
  rw [V_v0]
  exact hd c _

/-! ## The invariant -/

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The array of rows, read by the copies and by no window. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt c (V m c main_arg0)) := by
  rw [BI.bigSep_eq_bigSepL_of_eq [main_arg0] (by decide) (by decide)]; rfl

/-- What holds between points: the row buffer at some contents, the generator register at some state, both cells at zero, the
    array of rows as launched. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM fullShare d)) ∗ (∃ r, prngReg c r)
          ∗ iprop(semVal ((c : Thread nD τ), SemLoc.dma 8) 0 ∗ semVal ((c : Thread nD τ), SemLoc.dma 9) 0)
          ∗ iprop(hbPt c (V m c main_arg0))) := by
  rw [Pipeline.ΦD_eq, scopedRest0_eq, ownSems00_eq, hbmPts0_eq]; simp only [scM, owns_whole]; try rfl

/-! ## The body at a point -/

/-- The block point `t` leaves. -/
def outAt (c : Dev nD) (t : Fin cfg0.N) : Vec F S256x2048 .f32 :=
  outV (iblk m c 0 t : S1x1x512.Idx → BitVec 32) (iblk m c 1 t : Vec F S256x2048 .f32) (iblk m c 2 t : Vec F S256x128 .f32) (V m c main_arg0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (hd : Named m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq, after0_0, after0_1, after0_2, after0_3]
  unfold Dat.owesAt Pipeline.owesWithin
  rw [show (dats m 0 c).owed t.castSucc = 0 from rfl]
  iintro ⟨⟨HS, Hg, ⟨Hq0, Hq1⟩, Hh⟩, ⟨%W, %hW, HO⟩, ⟨%d0, H0⟩, ⟨%d1, H1⟩, ⟨%d2, H2⟩, ⟨%d3, H3⟩⟩
  iapply (kernelRun c (grid0.coords t) _ _ _ _ _ _ _ _ (iblk m c 0 t) (iblk m c 1 t) (iblk m c 2 t) (V m c main_arg0) (named_block m hd c t) W _)
  isplitl [H0]; · iexact H0
  isplitl [H1]; · iexact H1
  isplitl [H2]; · iexact H2
  isplitl [H3]; · iexists _; iexact H3
  isplitl [HS]; · iexact HS
  isplitl [Hq0]; · iexact Hq0
  isplitl [Hq1]; · iexact Hq1
  isplitl [Hh]; · iexact Hh
  isplitl [HO]; · iexact HO
  iintro ⟨H0, H1, H2, H3, HS, Hq0, Hq1, Hh, ⟨%W', HO⟩⟩
  isplitl [HS Hg Hq0 Hq1 Hh]
  · isplitl [HS]; · iexact HS
    isplitl [Hg]; · iexact Hg
    isplitl [Hq0 Hq1]
    · isplitl [Hq0]; · iexact Hq0
      iexact Hq1
    iexact Hh
  isplitl [HO]
  · iexists W'; isplitr; · ipureintro; exact fun _ _ => Or.inl trivial
    iexact HO
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (hd : Named m) (c : Dev nD) :
    BodyObligation (dats (F := F) m 0 c) (defs₀ (F := F)) Variants.none () Set.univ := fun t => by
  rw [bigSep_W0, bigSep_W0, defs₀_row]
  exact triple_restated (sound_body m hd c t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
set_option maxHeartbeats 800000 in
/-- Every fair execution ends, with the result array as the points leave it and every counter at zero. -/
theorem run_main (hd : Named m) :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hd c).loose) (hshare := fun c => (dats m 0 c).share_full fun _ => rfl)
    (howed := fun _ _ => rfl) (V := V m) (hmain := hmainD m Variants.none) (hA := A_eq m)
    (hin := fun _ => .rfl) (hout := fun _ => .rfl)

/-- The result and the arguments after the run. -/
theorem run (hd : Named m) :
    θ_run defs (onTc (τ := τ) (main (F := F))) ⟨m, fun _ => 0, ρ⟩ (fun r => (∀ c : Dev nD,
      r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).1 1).trans (((dats m 0 c).arrAt_in 1 rfl _).trans ((A_eq m c 1).trans (V_main_arg3 m c)))⟩, h.2⟩) (run_main m ρ hd)

end Cert.CombineIdeal.Hand

end
-- ==== Proof.CombineKernel.lean ====
/- A token's two rows of the experts' output, named by the table `dest` and weighted by the routing's third and fourth columns, added to
   the token's row of `h`: the kernel's result array. -/
module

public import proofs.«01_k».proof.Defs
public import proofs.«01_k».proof.Proof.CombineLaunch
public import proofs.«01_k».proof.Proof.Gen.Pre_combine_rows
public import Idealize.ShloMosaic.Lib.Pointwise
public import Idealize.ShloMosaic.Lib.Pipeline.ValueKit
public import Idealize.ShloMosaic.Adequacy
public import Idealize.ShloMosaic.Init

@[expose] public section

noncomputable section

namespace Combine

open Idealize.ShloMosaic Idealize.ShloMosaic.TcCoe Idealize.ShloMosaic.Tactic Idealize.SL.Sem

/-! ## The table names rows 0 to 37887 -/

theorem word_lt {F : FTy → Type} [FloatOps F] (y : FVec F Cert.Pre_combine_rows.S37888x2048 .f32) (dest : IVec Cert.Pre_combine_rows.S33792 32)
    (route : FVec F Cert.Pre_combine_rows.S16896x128 .f32) (h : FVec F Cert.Pre_combine_rows.S16896x2048 .f32)
    (hp : Cert.Pre_combine_rows.fn (F := F) y dest route h = fun _ => 1#1) (i : Cert.Pre_combine_rows.S33792.Idx) : (dest i).toNat < 37888 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun hp i
  simp only [Cert.Pre_combine_rows.fn, constantI, broadcastInDim, cmpi, andi, andi_one, ofBool_eq_one, IntOp.cmpi, BitVec.sle,
    BitVec.slt, decide_eq_true_eq, BitVec.toInt, BitVec.toNat_ofNat] at pre
  have hlt := (dest i).isLt
  generalize (dest i).toNat = n at pre hlt ⊢
  obtain ⟨p, q⟩ := pre
  split at p <;> split at q <;> omega

theorem named_ideal (m : (ℓ : Loc Cert.CombineIdeal.nD Cert.CombineIdeal.τ Cert.CombineIdeal.sig) → Buf (Elt Ideal) ℓ)
    (h : Cert.Pre_CombineIdeal m) : Cert.CombineIdeal.Hand.Named m :=
  fun c j => word_lt _ _ _ _ (h c) j

theorem frame_ideal : Cert.quiescent_CombineIdeal := fun m ρ h =>
  (θ_run Cert.CombineIdeal.defs _ _).mono (fun _ q => ⟨fun c => (q.1 c).2, q.2⟩) (Cert.CombineIdeal.Hand.run m ρ (named_ideal m h))

/-! ## The kernel's result -/

open Cert.CombineIdeal Cert.CombineIdeal.Gen Cert.CombineIdeal.Hand

/-- Row `r`: the row of `h`, and the rows that words `2r` and `2r + 1` name, weighted by columns 2 and 3 of the routing. -/
def value (y : S37888x2048.Idx → EReal) (dest : S33792.Idx → BitVec 32) (route : S16896x128.Idx → EReal) (h : S16896x2048.Idx → EReal)
    (hd : ∀ i, (dest i).toNat < 37888) : S16896x2048.Idx → EReal :=
  fun i =>
    h (ix2 ⟨(i 0).val, (i 0).isLt⟩ ⟨(i 1).val, (i 1).isLt⟩)
      + (route (ix2 ⟨(i 0).val, (i 0).isLt⟩ 2)
          * y (ix2 ⟨(dest (ix1 ⟨2 * (i 0).val, by have : (i 0).val < 16896 := (i 0).isLt; omega⟩)).toNat, hd _⟩ ⟨(i 1).val, (i 1).isLt⟩)
        + route (ix2 ⟨(i 0).val, (i 0).isLt⟩ 3)
          * y (ix2 ⟨(dest (ix1 ⟨2 * (i 0).val + 1, by have : (i 0).val < 16896 := (i 0).isLt; omega⟩)).toNat, hd _⟩ ⟨(i 1).val, (i 1).isLt⟩))

theorem half0_at (g : S2x256x2048.Idx → EReal) (i : Fin 256) (j : Fin 2048) :
    shapeCast S256x2048 (half0 (F := Ideal) g) shapeCasts_S1x256x2048_S256x2048 (ix2 i j) = g (ix3 0 i j) := by
  refine (ValueIdx.shapeCast_1ab_ab_apply _ _ _ _).trans (congrArg g (funext fun a => ?_))
  fin_cases a
  · rfl
  · exact Fin.ext (show 0 + 1 * i.val = i.val by omega)
  · exact Fin.ext (show 0 + 1 * j.val = j.val by omega)

theorem half1_at (g : S2x256x2048.Idx → EReal) (i : Fin 256) (j : Fin 2048) :
    shapeCast S256x2048 (half1 (F := Ideal) g) shapeCasts_S1x256x2048_S256x2048 (ix2 i j) = g (ix3 1 i j) := by
  refine (ValueIdx.shapeCast_1ab_ab_apply _ _ _ _).trans (congrArg g (funext fun a => ?_))
  fin_cases a
  · rfl
  · exact Fin.ext (show 0 + 1 * i.val = i.val by omega)
  · exact Fin.ext (show 0 + 1 * j.val = j.val by omega)

theorem route2_at (x : FVec Ideal S256x128 .f32) (i : Fin 256) (j : Fin 2048) :
    broadcastTo S256x2048 (extractStridedSlice S256x1 ![0, 2] x slices_S256x128_o0_2_S256x1) broadcasts_S256x1_S256x2048 (ix2 i j) = x (ix2 i 2) := by
  pointwise []
theorem route3_at (x : FVec Ideal S256x128 .f32) (i : Fin 256) (j : Fin 2048) :
    broadcastTo S256x2048 (extractStridedSlice S256x1 ![0, 3] x slices_S256x128_o0_3_S256x1) broadcasts_S256x1_S256x2048 (ix2 i j) = x (ix2 i 3) := by
  pointwise []

/-- The gathered row: half `k` of row `i` is the row that word `2i + k` names. -/
theorem gath_at (x : S1x1x512.Idx → BitVec 32) (fy : S37888x2048.Idx → EReal) (k : Fin 2) (i : Fin 256) (j : Fin 2048)
    (hx : (x (ix3 0 0 ⟨2 * i.val + k.val, by omega⟩)).toNat < 37888) :
    gath (F := Ideal) x fy (ix3 k i j) = fy (ix2 ⟨(x (ix3 0 0 ⟨2 * i.val + k.val, by omega⟩)).toNat, hx⟩ j) := by
  refine congrArg fy (congrArg₂ (fun a b => (ix2 a b : S37888x2048.Idx)) (Fin.ext ?_) rfl)
  show (x (ix3 0 0 ⟨(2 * i.val + k.val) % 512, _⟩)).toNat % 37888 = _
  have e : (⟨(2 * i.val + k.val) % 512, by omega⟩ : Fin 512) = ⟨2 * i.val + k.val, by omega⟩ := Fin.ext (Nat.mod_eq_of_lt (by omega))
  rw [e]
  exact Nat.mod_eq_of_lt hx

theorem outV_at (x1 : S1x1x512.Idx → BitVec 32) (x3 : FVec Ideal S256x2048 .f32) (x4 : FVec Ideal S256x128 .f32) (fy : S37888x2048.Idx → EReal)
    (hx : ∀ j : Fin 512, (x1 (ix3 0 0 j)).toNat < 37888) (i : Fin 256) (j : Fin 2048) :
    outV (F := Ideal) x1 x3 x4 fy (ix2 i j)
      = (x3 (ix2 i j) + (x4 (ix2 i 2) * fy (ix2 ⟨(x1 (ix3 0 0 ⟨2 * i.val, by omega⟩)).toNat, hx _⟩ j)
          + x4 (ix2 i 3) * fy (ix2 ⟨(x1 (ix3 0 0 ⟨2 * i.val + 1, by omega⟩)).toNat, hx _⟩ j)) : EReal) := by
  refine congrArg₂ (fun a b : EReal => a + b) rfl (congrArg₂ (fun a b : EReal => a + b)
    (congrArg₂ (fun a b : EReal => a * b) (route2_at x4 i j) ((half0_at _ i j).trans (gath_at x1 fy 0 i j (hx _))))
    (congrArg₂ (fun a b : EReal => a * b) (route3_at x4 i j) ((half1_at _ i j).trans (gath_at x1 fy 1 i j (hx _)))))

variable (m : (ℓ : Loc nD τ sig) → Buf (Elt Ideal) ℓ)

/-- Every window's block at point `t` is the block numbered `t`. -/
theorem idx : ∀ t : Fin cfg0.N, win0_0.index t = ![t.val, 0, 0] ∧ win0_1.index t = ![t.val, 0] ∧ win0_2.index t = ![t.val, 0]
    ∧ win0_3.index t = ![t.val, 0] := (by decide +kernel : ∀ t : Fin grid0.N, _)

theorem dest_at (c : Dev nD) (t : Fin cfg0.N) (j : Fin 512) (hj : 512 * t.val + j.val < 33792) :
    (iblk m c 0 t : S1x1x512.Idx → BitVec 32) (ix3 0 0 j) = (m ((c : Thread nD τ).loc main_arg1) : S33792.Idx → BitVec 32) (ix1 ⟨512 * t.val + j.val, hj⟩) := by
  have ht : t.val < 66 := N_0 ▸ t.isLt
  have e : (((cfg0.win 0).blk t).view.emb (ix3 0 0 j) : S66x1x512.Idx) = ix3 ⟨t.val, ht⟩ 0 j := by
    blk_ext [(idx t).1]
  show (V m c main_v0 : S66x1x512.Idx → BitVec 32) (((cfg0.win 0).blk t).view.emb (ix3 0 0 j)) = _
  rw [V_v0, e]
  pointwise []
  exact congrArg (fun x => (m ((c : Thread nD τ).loc main_arg1) : S33792.Idx → BitVec 32) (ix1 x))
    (Fin.ext (by show t.val * 512 + j.val = 512 * t.val + j.val; omega))

theorem h_at (c : Dev nD) (t : Fin cfg0.N) (i : Fin 256) (j : Fin 2048) (hi : 256 * t.val + i.val < 16896) :
    iblk m c 1 t (ix2 i j) = m ((c : Thread nD τ).loc main_arg3) (ix2 ⟨256 * t.val + i.val, hi⟩ j) := by
  blk_ext [iblk, V, (idx t).2.1]

theorem route_at (c : Dev nD) (t : Fin cfg0.N) (i : Fin 256) (j : Fin 128) (hi : 256 * t.val + i.val < 16896) :
    iblk m c 2 t (ix2 i j) = m ((c : Thread nD τ).loc main_arg2) (ix2 ⟨256 * t.val + i.val, hi⟩ j) := by
  blk_ext [iblk, V, (idx t).2.2.1]

/-- Two points write two blocks, so a block of the final array is what its point wrote. -/
theorem blocks (c : Dev nD) (t : Fin cfg0.N) :
    ((cfg0.win 3).blk t).view.read (Elt Ideal) ((dats m 0 c).arrAt 3 cfg0.N) = (dats m 0 c).flushed 3 t :=
  (dats m 0 c).read_blk_arrAt_eq_flushed 3 (fun t t' _ _ hne => (cfg0.win 3).disjoint_blk fun h => hne (by
    have h1 : win0_3.index t = win0_3.index t' := h
    rw [(idx t).2.2.2, (idx t').2.2.2] at h1
    exact Fin.ext (congrFun h1 0))) cfg0.N t t.isLt (flush0_3 t)

theorem emb_at (t : Fin cfg0.N) (i : Fin 256) (j : Fin 2048) (hi : 256 * t.val + i.val < 16896) :
    (((cfg0.win 3).blk t).view.emb (ix2 i j) : S16896x2048.Idx) = ix2 ⟨256 * t.val + i.val, hi⟩ j := by
  blk_ext [(idx t).2.2.2]

/-- The kernel's result array. -/
theorem result (hd : Named m) (c : Dev nD) : (dats m 0 c).arrAt 3 cfg0.N
    = value (m ((c : Thread nD τ).loc main_arg0)) (m ((c : Thread nD τ).loc main_arg1)) (m ((c : Thread nD τ).loc main_arg2))
      (m ((c : Thread nD τ).loc main_arg3)) (hd c) := by
  refine funext fun (y : S16896x2048.Idx) => ?_
  obtain ⟨r, l, rfl⟩ : ∃ (r : Fin 16896) (l : Fin 2048), y = ix2 r l := ⟨y 0, y 1, funext fun a => by fin_cases a <;> rfl⟩
  have hN : cfg0.N = 66 := N_0
  obtain ⟨t, ht⟩ : ∃ t : Fin cfg0.N, t.val = r.val / 256 := ⟨⟨r.val / 256, by omega⟩, rfl⟩
  obtain ⟨i, hi⟩ : ∃ i : Fin 256, i.val = r.val % 256 := ⟨⟨r.val % 256, by omega⟩, rfl⟩
  have hr : 256 * t.val + i.val < 16896 := by omega
  have er : (⟨256 * t.val + i.val, hr⟩ : Fin 16896) = r := Fin.ext (by show 256 * t.val + i.val = r.val; omega)
  have e : (((cfg0.win 3).blk t).view.emb (ix2 i l) : S16896x2048.Idx) = ix2 r l :=
    (emb_at t i l hr).trans (congrArg (fun a => (ix2 a l : S16896x2048.Idx)) er)
  have hout : outAt m c t (ix2 i l) = value (m ((c : Thread nD τ).loc main_arg0)) (m ((c : Thread nD τ).loc main_arg1))
      (m ((c : Thread nD τ).loc main_arg2)) (m ((c : Thread nD τ).loc main_arg3)) (hd c) (ix2 r l) := by
    refine (outV_at (iblk m c 0 t) (iblk m c 1 t) (iblk m c 2 t) (V m c main_arg0) (named_block m hd c t) i l).trans ?_
    have hw : ∀ (k : Fin 512) (q : Fin 33792), 512 * t.val + k.val = q.val → ((iblk m c 0 t : S1x1x512.Idx → BitVec 32) (ix3 0 0 k))
        = (m ((c : Thread nD τ).loc main_arg1) : S33792.Idx → BitVec 32) (ix1 q) := fun k q hq => by
      rw [dest_at m c t k (by omega)]
      exact congrArg (fun x => (m ((c : Thread nD τ).loc main_arg1) : S33792.Idx → BitVec 32) (ix1 x)) (Fin.ext hq)
    have hy : ∀ (k : Fin 512) (q : Fin 33792), 512 * t.val + k.val = q.val →
        (V m c main_arg0 : S37888x2048.Idx → EReal) (ix2 ⟨((iblk m c 0 t : S1x1x512.Idx → BitVec 32) (ix3 0 0 k)).toNat, named_block m hd c t k⟩ l)
          = (m ((c : Thread nD τ).loc main_arg0) : S37888x2048.Idx → EReal)
            (ix2 ⟨((m ((c : Thread nD τ).loc main_arg1) : S33792.Idx → BitVec 32) (ix1 q)).toNat, hd c _⟩ l) := fun k q hq => by
      rw [V_main_arg0]
      exact congrArg (fun x => (m ((c : Thread nD τ).loc main_arg0) : S37888x2048.Idx → EReal) (ix2 x l)) (Fin.ext (congrArg BitVec.toNat (hw k q hq)))
    refine congrArg₂ (fun a b : EReal => a + b) ((h_at m c t i l hr).trans ?_) (congrArg₂ (fun a b : EReal => a + b)
      (congrArg₂ (fun a b : EReal => a * b) ((route_at m c t i 2 hr).trans ?_) (hy _ _ ?_))
      (congrArg₂ (fun a b : EReal => a * b) ((route_at m c t i 3 hr).trans ?_) (hy _ _ ?_)))
    · rw [er]; rfl
    · rw [er]; rfl
    · show 512 * t.val + 2 * i.val = 2 * r.val; omega
    · rw [er]; rfl
    · show 512 * t.val + (2 * i.val + 1) = 2 * r.val + 1; omega
  refine Eq.trans ?_ hout
  refine Eq.trans ?_ (congrFun (after0_3 m c t : (dats m 0 c).flushed 3 t = outAt m c t) (ix2 i l))
  refine Eq.trans ?_ (congrFun (blocks m c t) (ix2 i l))
  generalize (dats m 0 c).arrAt 3 cfg0.N = X
  exact (congrArg X e).symm

end Combine

end
-- ==== Proof.CombineBits.lean ====
/- The two programs of the call are one text, so what is proved of the one for any floats holds of the other at machine floats. -/
module

public import proofs.«01_k».proof.Proof.CombineKernel
public import proofs.«01_k».proof.Proof.Gen.Combine.Frame

@[expose] public section

noncomputable section

namespace Combine

open Idealize.ShloMosaic Idealize.ShloMosaic.TcCoe Idealize.SL.Sem

set_option maxHeartbeats 2000000 in
theorem kernel_eq : @Cert.Combine.cc0_moe_combine Bits _ Cert.Combine.Gen.facts
    = @Cert.CombineIdeal.cc0_moe_combine Bits _ Cert.CombineIdeal.Gen.facts := by
  unfold Cert.Combine.cc0_moe_combine Cert.CombineIdeal.cc0_moe_combine
  rfl

set_option maxHeartbeats 2000000 in
theorem bodies_eq : Cert.Combine.defs₀ (F := Bits) = Cert.CombineIdeal.defs₀ (F := Bits) := by
  unfold Cert.Combine.defs₀ Cert.CombineIdeal.defs₀
  refine congrArg (Defs.onTc (sig := Cert.CombineIdeal.sig)) (funext fun l => funext fun a => ?_)
  rw [kernel_eq]
  match l, a with
  | ⟨0, _⟩, (t, s) => rfl

set_option maxHeartbeats 2000000 in
theorem defs_eq : Cert.Combine.defs (F := Bits) = Cert.CombineIdeal.defs (F := Bits) := by
  unfold Cert.Combine.defs Cert.CombineIdeal.defs
  rw [bodies_eq]
  rfl

set_option maxHeartbeats 2000000 in
theorem main_eq : Cert.Combine.main (F := Bits) = Cert.CombineIdeal.main (F := Bits) := by
  rfl

theorem frame_bits : Cert.quiescent_Combine := fun m ρ h => by
  rw [defs_eq, main_eq]
  exact (θ_run Cert.CombineIdeal.defs _ _).mono (fun _ q => ⟨fun c => (q.1 c).2, q.2⟩)
    (Cert.CombineIdeal.Hand.run (F := Bits) m ρ fun c j => word_lt _ _ _ _ (h c) j)

end Combine

end
-- ==== Proof.CombineValue.lean ====
/- The reference gathers the named rows by their numbers and adds the same weighted rows: the kernel's result is the reference's, over the
   extended reals. -/
module

public import proofs.«01_k».proof.Proof.CombineKernel
public import proofs.«01_k».proof.Proof.CombineBits
public import proofs.«01_k».proof.Proof.Gen.CombineReferenceIdeal.Run

@[expose] public section

noncomputable section

namespace Combine

open Idealize.ShloMosaic Idealize.ShloMosaic.TcCoe Idealize.SL.Sem

/-- The reference runs and leaves its arguments unchanged; it has no semaphore. -/
theorem reference_frame : Cert.quiescent_CombineReferenceIdeal := fun m ρ _ =>
  (θ_run Cert.CombineReferenceIdeal.defs _ _).mono
    (fun r h => ⟨fun c => (h c).2, Idealize.ShloMosaic.sem_eq_zero_of_no_sems (by decide) r.2⟩)
    (Cert.CombineReferenceIdeal.Value.run (F := Ideal) m ρ)

section reference

open Cert.CombineReferenceIdeal Cert.CombineReferenceIdeal.Gen

/-- The gather at an entry: the row that the entry's word names, read signed and kept within the array. -/
theorem gather_at (x : S37888x2048.Idx → EReal) (w : IVec S33792x1 32) (q : Fin 33792) (l : Fin 2048) :
    Host.gather gather_S37888x2048_S33792x1_S33792x2048_1_0_n_n_0_1_12048 x w (ix2 q l)
      = x (ix2 ⟨min (w (ix2 q 0)).toInt.toNat 37887, by omega⟩ l) := by
  unfold Host.gather
  refine congrArg x (funext fun a => Fin.ext ?_)
  show gather_S37888x2048_S33792x1_S33792x2048_1_0_n_n_0_1_12048.start (ix2 q l) w a
    + gather_S37888x2048_S33792x1_S33792x2048_1_0_n_n_0_1_12048.batchCoord (ix2 q l) a
    + gather_S37888x2048_S33792x1_S33792x2048_1_0_n_n_0_1_12048.offCoord (ix2 q l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S37888x2048_S33792x1_S33792x2048_1_0_n_n_0_1_12048.startIndexMap from List.mem_singleton.mpr rfl)]
    have hs : gather_S37888x2048_S33792x1_S33792x2048_1_0_n_n_0_1_12048.siIdx (ix2 q l)
        ⟨List.idxOf (0 : Fin 2) gather_S37888x2048_S33792x1_S33792x2048_1_0_n_n_0_1_12048.startIndexMap,
          List.idxOf_lt_length_iff.2 (List.mem_singleton.mpr rfl)⟩ = ix2 q 0 := by
      funext b
      refine Fin.ext ?_
      match b with
      | ⟨0, _⟩ => rfl
      | ⟨1, _⟩ => rfl
    exact congrArg (fun z => min (w z).toInt.toNat 37887) hs
  · unfold GatherDims.start
    rw [dif_neg (show (1 : Fin 2) ∉ gather_S37888x2048_S33792x1_S33792x2048_1_0_n_n_0_1_12048.startIndexMap from by decide)]
    simp only [Nat.zero_add]
    rfl

/-- The words after the wrap of negative ones, at an entry: a word that names a row is unchanged. -/
def wrapped (dest : IVec S33792 32) : IVec S33792x1 32 :=
  broadcastInDim S33792x1 ![0] bcast_S33792_S33792x1_0
    (select (cmpi .slt dest (broadcastInDim S33792 ![] bcast_S_S33792 (constantI S_ 32 0#32)))
      (addi dest (broadcastInDim S33792 ![] bcast_S_S33792 (constantI S_ 32 37888#32))) dest)

theorem wrapped_at (dest : IVec S33792 32) (hd : ∀ i, (dest i).toNat < 37888) (q : Fin 33792) : wrapped dest (ix2 q 0) = dest (ix1 q) := by
  have e : wrapped dest (ix2 q 0) = if IntOp.cmpi .slt (dest (ix1 q)) 0#32 = 1#1 then IntOp.addi (dest (ix1 q)) 37888#32 else dest (ix1 q) := by
    pointwise [wrapped]
    rfl
  rw [e, if_neg]
  have h := hd (ix1 q)
  generalize dest (ix1 q) = v at h ⊢
  have : v.slt 0#32 = false := by
    simp only [BitVec.slt, BitVec.toInt, BitVec.toNat_ofNat, decide_eq_false_iff_not]
    split <;> omega
  show ¬ BitVec.ofBool (v.slt 0#32) = 1#1
  rw [this]
  decide

/-- The gathered rows. -/
def rows (y : S37888x2048.Idx → EReal) (dest : IVec S33792 32) : S33792x2048.Idx → EReal :=
  Host.gather gather_S37888x2048_S33792x1_S33792x2048_1_0_n_n_0_1_12048 y (wrapped dest)

theorem rows_at (y : S37888x2048.Idx → EReal) (dest : IVec S33792 32) (hd : ∀ i, (dest i).toNat < 37888) (q : Fin 33792) (l : Fin 2048) :
    rows y dest (ix2 q l) = y (ix2 ⟨(dest (ix1 q)).toNat, hd _⟩ l) := by
  refine (gather_at y (wrapped dest) q l).trans (congrArg (fun a => y (ix2 a l)) (Fin.ext ?_))
  show min (wrapped dest (ix2 q 0)).toInt.toNat 37887 = (dest (ix1 q)).toNat
  rw [wrapped_at dest hd]
  have h := hd (ix1 q)
  rw [show (dest (ix1 q)).toInt = ((dest (ix1 q)).toNat : ℤ) from BitVec.toInt_eq_toNat_of_lt (by omega), Int.toNat_natCast]
  omega

/-- The reference's result, as its operations compute it. -/
def combined (y : FVec Ideal S37888x2048 .f32) (dest : IVec S33792 32) (route : FVec Ideal S16896x128 .f32) (h : FVec Ideal S16896x2048 .f32) :
    FVec Ideal S16896x2048 .f32 :=
  addf h (addf
    (mulf (broadcastInDim S16896x2048 ![0, 1] bcast_S16896x1_S16896x2048_0_1 (extractStridedSlice S16896x1 ![0, 2] route slices_S16896x128_S16896x1_0_2))
      (shapeCast S16896x2048 (extractStridedSlice S16896x1x2048 ![0, 0, 0] (shapeCast S16896x2x2048 (rows y dest) shapeCasts_S33792x2048_S16896x2x2048)
        slices_S16896x2x2048_S16896x1x2048_0_0_0) shapeCasts_S16896x1x2048_S16896x2048))
    (mulf (broadcastInDim S16896x2048 ![0, 1] bcast_S16896x1_S16896x2048_0_1 (extractStridedSlice S16896x1 ![0, 3] route slices_S16896x128_S16896x1_0_3))
      (shapeCast S16896x2048 (extractStridedSlice S16896x1x2048 ![0, 1, 0] (shapeCast S16896x2x2048 (rows y dest) shapeCasts_S33792x2048_S16896x2x2048)
        slices_S16896x2x2048_S16896x1x2048_0_1_0) shapeCasts_S16896x1x2048_S16896x2048)))

theorem even_at (R : FVec Ideal S33792x2048 .f32) (r : Fin 16896) (l : Fin 2048) :
    shapeCast S16896x2048 (extractStridedSlice S16896x1x2048 ![0, 0, 0] (shapeCast S16896x2x2048 R shapeCasts_S33792x2048_S16896x2x2048)
      slices_S16896x2x2048_S16896x1x2048_0_0_0) shapeCasts_S16896x1x2048_S16896x2048 (ix2 r l) = R (ix2 ⟨2 * r.val, by omega⟩ l) := by
  pointwise []
  exact congrArg (fun a => R (ix2 a l)) (Fin.ext (by show r.val * 2 = 2 * r.val; omega))
theorem odd_at (R : FVec Ideal S33792x2048 .f32) (r : Fin 16896) (l : Fin 2048) :
    shapeCast S16896x2048 (extractStridedSlice S16896x1x2048 ![0, 1, 0] (shapeCast S16896x2x2048 R shapeCasts_S33792x2048_S16896x2x2048)
      slices_S16896x2x2048_S16896x1x2048_0_1_0) shapeCasts_S16896x1x2048_S16896x2048 (ix2 r l) = R (ix2 ⟨2 * r.val + 1, by omega⟩ l) := by
  pointwise []
  exact congrArg (fun a => R (ix2 a l)) (Fin.ext (by show r.val * 2 + 1 = 2 * r.val + 1; omega))
theorem weight2_at (x : FVec Ideal S16896x128 .f32) (r : Fin 16896) (l : Fin 2048) :
    broadcastInDim S16896x2048 ![0, 1] bcast_S16896x1_S16896x2048_0_1 (extractStridedSlice S16896x1 ![0, 2] x slices_S16896x128_S16896x1_0_2) (ix2 r l)
      = x (ix2 r 2) := by
  pointwise []
theorem weight3_at (x : FVec Ideal S16896x128 .f32) (r : Fin 16896) (l : Fin 2048) :
    broadcastInDim S16896x2048 ![0, 1] bcast_S16896x1_S16896x2048_0_1 (extractStridedSlice S16896x1 ![0, 3] x slices_S16896x128_S16896x1_0_3) (ix2 r l)
      = x (ix2 r 3) := by
  pointwise []

/-- The reference's result is the kernel's. -/
theorem combined_eq (y : FVec Ideal S37888x2048 .f32) (dest : IVec S33792 32) (route : FVec Ideal S16896x128 .f32) (h : FVec Ideal S16896x2048 .f32)
    (hd : ∀ i, (dest i).toNat < 37888) : combined y dest route h = value y dest route h hd := by
  refine funext fun (i : S16896x2048.Idx) => ?_
  obtain ⟨r, l, rfl⟩ : ∃ (r : Fin 16896) (l : Fin 2048), i = ix2 r l := ⟨i 0, i 1, funext fun a => by fin_cases a <;> rfl⟩
  exact congrArg₂ (fun a b : EReal => a + b) rfl (congrArg₂ (fun a b : EReal => a + b)
    (congrArg₂ (fun a b : EReal => a * b) (weight2_at route r l) ((even_at (rows y dest) r l).trans (rows_at y dest hd _ l)))
    (congrArg₂ (fun a b : EReal => a * b) (weight3_at route r l) ((odd_at (rows y dest) r l).trans (rows_at y dest hd _ l))))

end reference

open Cert.CombineIdeal Cert.CombineIdeal.Hand in
theorem claim : Cert.algebraic_CombineIdeal_CombineReferenceIdeal := by
  intro m ρ m' ρ' pre hargs
  have hd : Named m := named_ideal m pre
  refine ⟨fun c => value (m ((c : Thread nD τ).loc main_arg0)) (m ((c : Thread nD τ).loc main_arg1)) (m ((c : Thread nD τ).loc main_arg2))
    (m ((c : Thread nD τ).loc main_arg3)) (hd c), ?_, ?_⟩
  · exact (θ_run defs _ _).mono (fun r q c => ⟨(q.1 c).1.trans (result m hd c), (q.1 c).2⟩) (Cert.CombineIdeal.Hand.run m ρ hd)
  refine (θ_run Cert.CombineReferenceIdeal.defs _ _).mono (fun r q c => ⟨(q c).1.trans ?_, (q c).2⟩)
    (Cert.CombineReferenceIdeal.Value.run (F := Ideal) m' ρ')
  have hr : ∀ i, (m' ((c : Thread Cert.CombineReferenceIdeal.nD Cert.CombineReferenceIdeal.τ).loc
      Cert.CombineReferenceIdeal.main_arg1) i).toNat < 37888 := by
    rw [(hargs c).2.1]
    exact hd c
  refine (combined_eq _ _ _ _ hr).trans ?_
  revert hr
  rw [(hargs c).1, (hargs c).2.1, (hargs c).2.2.1, (hargs c).2.2.2]
  exact fun _ => rfl

end Combine

end
-- ==== Proof.lean ====
/- The claims: every program runs without a fault and leaves its arguments unchanged, and over the extended reals the results of
   each kernel call are its reference's. -/
module

public import proofs.«01_k».proof.Defs
public import proofs.«01_k».proof.Proof.Gen.Kernel.Frame
public import proofs.«01_k».proof.Proof.Gen.KernelIdeal.Frame
public import proofs.«01_k».proof.Proof.Branch
public import proofs.«01_k».proof.Proof.Gen.Norm.Frame
public import proofs.«01_k».proof.Proof.Gen.NormIdeal.Frame
public import proofs.«01_k».proof.Proof.NormValue
public import proofs.«01_k».proof.Proof.Gen.InProj.Frame
public import proofs.«01_k».proof.Proof.Gen.InProjIdeal.Frame
public import proofs.«01_k».proof.Proof.InProjValue
public import proofs.«01_k».proof.Proof.Gen.Merge.Frame
public import proofs.«01_k».proof.Proof.Gen.MergeIdeal.Frame
public import proofs.«01_k».proof.Proof.MergeValue
public import proofs.«01_k».proof.Proof.Gen.OutProj.Frame
public import proofs.«01_k».proof.Proof.Gen.OutProjIdeal.Frame
public import proofs.«01_k».proof.Proof.OutProjValue
public import proofs.«01_k».proof.Proof.Gen.Swiglu.Frame
public import proofs.«01_k».proof.Proof.Gen.SwigluIdeal.Frame
public import proofs.«01_k».proof.Proof.SwigluValue
public import proofs.«01_k».proof.Proof.Gen.FfnDown.Frame
public import proofs.«01_k».proof.Proof.Gen.FfnDownIdeal.Frame
public import proofs.«01_k».proof.Proof.FfnDownValue
public import proofs.«01_k».proof.Proof.Gen.Prep.Frame
public import proofs.«01_k».proof.Proof.Gen.PrepIdeal.Frame
public import proofs.«01_k».proof.Proof.PrepValue
public import proofs.«01_k».proof.Proof.Gen.MoeUp.Frame
public import proofs.«01_k».proof.Proof.Gen.MoeUpIdeal.Frame
public import proofs.«01_k».proof.Proof.MoeUpValue
public import proofs.«01_k».proof.Proof.Gen.MoeDown.Frame
public import proofs.«01_k».proof.Proof.Gen.MoeDownIdeal.Frame
public import proofs.«01_k».proof.Proof.MoeDownValue
public import proofs.«01_k».proof.Proof.Gen.GlaSample.Frame
public import proofs.«01_k».proof.Proof.Gen.GlaSampleIdeal.Frame
public import proofs.«01_k».proof.Proof.GlaSampleValue
public import proofs.«01_k».proof.Proof.Gen.Combine.Frame
public import proofs.«01_k».proof.Proof.Gen.CombineIdeal.Frame
public import proofs.«01_k».proof.Proof.CombineValue

@[expose] public section

noncomputable section

namespace Cert.Proof

theorem claim : Cert.Claim :=
  ⟨Cert.Kernel.Gen.facts,
    Cert.KernelIdeal.Gen.facts,
    Cert.ReferenceIdeal.Gen.facts,
    Cert.Norm.Gen.facts,
    Cert.NormIdeal.Gen.facts,
    Cert.NormReferenceIdeal.Gen.facts,
    Cert.InProj.Gen.facts,
    Cert.InProjIdeal.Gen.facts,
    Cert.InProjReferenceIdeal.Gen.facts,
    Cert.Merge.Gen.facts,
    Cert.MergeIdeal.Gen.facts,
    Cert.MergeReferenceIdeal.Gen.facts,
    Cert.OutProj.Gen.facts,
    Cert.OutProjIdeal.Gen.facts,
    Cert.OutProjReferenceIdeal.Gen.facts,
    Cert.Swiglu.Gen.facts,
    Cert.SwigluIdeal.Gen.facts,
    Cert.SwigluReferenceIdeal.Gen.facts,
    Cert.FfnDown.Gen.facts,
    Cert.FfnDownIdeal.Gen.facts,
    Cert.FfnDownReferenceIdeal.Gen.facts,
    Cert.Prep.Gen.facts,
    Cert.PrepIdeal.Gen.facts,
    Cert.PrepReferenceIdeal.Gen.facts,
    Cert.MoeUp.Gen.facts,
    Cert.MoeUpIdeal.Gen.facts,
    Cert.MoeUpReferenceIdeal.Gen.facts,
    Cert.MoeDown.Gen.facts,
    Cert.MoeDownIdeal.Gen.facts,
    Cert.MoeDownReferenceIdeal.Gen.facts,
    Cert.GlaSample.Gen.facts,
    Cert.GlaSampleIdeal.Gen.facts,
    Cert.GlaSampleReferenceIdeal.Gen.facts,
    Cert.Combine.Gen.facts,
    Cert.CombineIdeal.Gen.facts,
    Cert.CombineReferenceIdeal.Gen.facts,
    Gla.preFacts,
    Cert.Pre_up_experts.Gen.facts,
    Cert.Pre_down_experts.Gen.facts,
    Cert.Pre_finite_gate_sample.Gen.facts,
    Cert.Pre_combine_rows.Gen.facts,
    fun m ρ _ => Cert.Kernel.Gen.frame m ρ,
    fun m ρ _ => Cert.KernelIdeal.Gen.frame m ρ,
    fun m ρ _ => Cert.KernelIdeal.Gen.frame m ρ,
    fun m ρ _ => Gla.reference_frame m ρ,
    fun m ρ _ => Gla.reference_frame m ρ,
    fun m ρ _ => Cert.Norm.Gen.frame m ρ,
    fun m ρ _ => Cert.NormIdeal.Gen.frame m ρ,
    Norm.reference_frame,
    fun m ρ _ => Cert.InProj.Gen.frame m ρ,
    fun m ρ _ => Cert.InProjIdeal.Gen.frame m ρ,
    InProj.reference_frame,
    fun m ρ _ => Cert.Merge.Gen.frame m ρ,
    fun m ρ _ => Cert.MergeIdeal.Gen.frame m ρ,
    Merge.reference_frame,
    fun m ρ _ => Cert.OutProj.Gen.frame m ρ,
    fun m ρ _ => Cert.OutProjIdeal.Gen.frame m ρ,
    OutProj.reference_frame,
    fun m ρ _ => Cert.Swiglu.Gen.frame m ρ,
    fun m ρ _ => Cert.SwigluIdeal.Gen.frame m ρ,
    Swiglu.reference_frame,
    fun m ρ _ => Cert.FfnDown.Gen.frame m ρ,
    fun m ρ _ => Cert.FfnDownIdeal.Gen.frame m ρ,
    FfnDown.reference_frame,
    fun m ρ _ => Cert.Prep.Gen.frame m ρ,
    fun m ρ _ => Cert.PrepIdeal.Gen.frame m ρ,
    Prep.reference_frame,
    MoeUp.frame_bits,
    MoeUp.frame_ideal,
    MoeUp.reference_frame,
    fun m ρ _ => MoeUp.reference_frame m ρ trivial,
    MoeDown.frame_bits,
    MoeDown.frame_ideal,
    MoeDown.reference_frame,
    fun m ρ _ => MoeDown.reference_frame m ρ trivial,
    fun m ρ _ => Cert.GlaSample.Gen.frame m ρ,
    fun m ρ _ => Cert.GlaSampleIdeal.Gen.frame m ρ,
    fun m ρ _ => Cert.GlaSampleIdeal.Gen.frame m ρ,
    GlaSample.reference_frame,
    fun m ρ _ => GlaSample.reference_frame m ρ trivial,
    Combine.frame_bits,
    Combine.frame_ideal,
    Combine.reference_frame,
    fun m ρ _ => Combine.reference_frame m ρ trivial,
    trivial,
    Gla.branch,
    trivial,
    Norm.claim,
    trivial,
    InProj.claim,
    trivial,
    Merge.claim,
    trivial,
    OutProj.claim,
    trivial,
    Swiglu.claim,
    trivial,
    FfnDown.claim,
    trivial,
    Prep.claim,
    trivial,
    MoeUp.claim,
    trivial,
    MoeDown.claim,
    trivial,
    GlaSample.claim,
    trivial,
    Combine.claim⟩

end Cert.Proof

end
